-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_AttnRef (m : (ℓ : Loc Cert.AttnRef.nD Cert.AttnRef.τ Cert.AttnRef.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjRef (m : (ℓ : Loc Cert.InProjRef.nD Cert.InProjRef.τ Cert.InProjRef.sig) → Buf (Elt Bits) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjRef (m : (ℓ : Loc Cert.OutProjRef.nD Cert.OutProjRef.τ Cert.OutProjRef.sig) → Buf (Elt Bits) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_ExpertsRef (m : (ℓ : Loc Cert.ExpertsRef.nD Cert.ExpertsRef.τ Cert.ExpertsRef.sig) → Buf (Elt Bits) ℓ) : Prop :=
  True

def Pre_Combine [hPre_combine_in_range : Cert.Pre_combine_in_range.Facts] (m : (ℓ : Loc Cert.Combine.nD Cert.Combine.τ Cert.Combine.sig) → Buf (Elt Bits) ℓ) : Prop :=
  ∀ c : Dev Cert.Combine.nD,
    (Cert.Pre_combine_in_range.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6)) (m ((c.tc : Thread Cert.Combine.nD Cert.Combine.τ).loc Cert.Combine.main_arg7)) (m ((c.tc : Thread Cert.Combine.nD Cert.Combine.τ).loc Cert.Combine.main_arg8))) = (fun _ => 1#1)

def Pre_CombineIdeal [hPre_combine_in_range : Cert.Pre_combine_in_range.Facts] (m : (ℓ : Loc Cert.CombineIdeal.nD Cert.CombineIdeal.τ Cert.CombineIdeal.sig) → Buf (Elt Ideal) ℓ) : Prop :=
  ∀ c : Dev Cert.CombineIdeal.nD,
    (Cert.Pre_combine_in_range.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6)) (m ((c.tc : Thread Cert.CombineIdeal.nD Cert.CombineIdeal.τ).loc Cert.CombineIdeal.main_arg7)) (m ((c.tc : Thread Cert.CombineIdeal.nD Cert.CombineIdeal.τ).loc Cert.CombineIdeal.main_arg8))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_combine_in_range [hPre_combine_in_range : Cert.Pre_combine_in_range.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_combine_in_range.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6)) (m ((c.tc : Thread Cert.CombineRefIdeal.nD Cert.CombineRefIdeal.τ).loc Cert.CombineRefIdeal.main_arg7)) (m ((c.tc : Thread Cert.CombineRefIdeal.nD Cert.CombineRefIdeal.τ).loc Cert.CombineRefIdeal.main_arg8))) = (fun _ => 1#1)

def Pre_CombineRef (m : (ℓ : Loc Cert.CombineRef.nD Cert.CombineRef.τ Cert.CombineRef.sig) → Buf (Elt Bits) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_finite [hPre_win_finite : Cert.Pre_win_finite.Facts] (m : (ℓ : Loc Cert.WinIdeal.nD Cert.WinIdeal.τ Cert.WinIdeal.sig) → Buf (Elt Ideal) ℓ) : Prop :=
  ∀ c : Dev Cert.WinIdeal.nD,
    (Cert.Pre_win_finite.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_finite [hPre_win_finite : Cert.Pre_win_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_finite.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1))) = (fun _ => 1#1)

def Pre_WinRef (m : (ℓ : Loc Cert.WinRef.nD Cert.WinRef.τ Cert.WinRef.sig) → Buf (Elt Bits) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvRef (m : (ℓ : Loc Cert.ConvRef.nD Cert.ConvRef.τ Cert.ConvRef.sig) → Buf (Elt Bits) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRef [hAttnRef : Cert.AttnRef.Facts] : Prop :=
  ∀ (m : (ℓ : Loc Cert.AttnRef.nD Cert.AttnRef.τ Cert.AttnRef.sig) → Buf (Elt Bits) ℓ) (g : Dev Cert.AttnRef.nD → PrngReg), Pre_AttnRef m →
    θ_run (Cert.AttnRef.defs (F := Bits)) (onTc (τ := Cert.AttnRef.τ) (Cert.AttnRef.main (F := Bits))) ⟨m, fun _ => 0, g⟩ (fun r => (∀ c : Dev Cert.AttnRef.nD,
      r.2.mem ((c.tc : Thread Cert.AttnRef.nD Cert.AttnRef.τ).loc Cert.AttnRef.main_arg0) = m ((c.tc : Thread Cert.AttnRef.nD Cert.AttnRef.τ).loc Cert.AttnRef.main_arg0)
      ∧ r.2.mem ((c.tc : Thread Cert.AttnRef.nD Cert.AttnRef.τ).loc Cert.AttnRef.main_arg1) = m ((c.tc : Thread Cert.AttnRef.nD Cert.AttnRef.τ).loc Cert.AttnRef.main_arg1)
      ∧ r.2.mem ((c.tc : Thread Cert.AttnRef.nD Cert.AttnRef.τ).loc Cert.AttnRef.main_arg2) = m ((c.tc : Thread Cert.AttnRef.nD Cert.AttnRef.τ).loc Cert.AttnRef.main_arg2)
      ∧ r.2.mem ((c.tc : Thread Cert.AttnRef.nD Cert.AttnRef.τ).loc Cert.AttnRef.main_arg3) = m ((c.tc : Thread Cert.AttnRef.nD Cert.AttnRef.τ).loc Cert.AttnRef.main_arg3)
      ∧ r.2.mem ((c.tc : Thread Cert.AttnRef.nD Cert.AttnRef.τ).loc Cert.AttnRef.main_arg4) = m ((c.tc : Thread Cert.AttnRef.nD Cert.AttnRef.τ).loc Cert.AttnRef.main_arg4)
      ∧ r.2.mem ((c.tc : Thread Cert.AttnRef.nD Cert.AttnRef.τ).loc Cert.AttnRef.main_arg5) = m ((c.tc : Thread Cert.AttnRef.nD Cert.AttnRef.τ).loc Cert.AttnRef.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjRef [hInProjRef : Cert.InProjRef.Facts] : Prop :=
  ∀ (m : (ℓ : Loc Cert.InProjRef.nD Cert.InProjRef.τ Cert.InProjRef.sig) → Buf (Elt Bits) ℓ) (g : Dev Cert.InProjRef.nD → PrngReg), Pre_InProjRef m →
    θ_run (Cert.InProjRef.defs (F := Bits)) (onTc (τ := Cert.InProjRef.τ) (Cert.InProjRef.main (F := Bits))) ⟨m, fun _ => 0, g⟩ (fun r => (∀ c : Dev Cert.InProjRef.nD,
      r.2.mem ((c.tc : Thread Cert.InProjRef.nD Cert.InProjRef.τ).loc Cert.InProjRef.main_arg0) = m ((c.tc : Thread Cert.InProjRef.nD Cert.InProjRef.τ).loc Cert.InProjRef.main_arg0)
      ∧ r.2.mem ((c.tc : Thread Cert.InProjRef.nD Cert.InProjRef.τ).loc Cert.InProjRef.main_arg1) = m ((c.tc : Thread Cert.InProjRef.nD Cert.InProjRef.τ).loc Cert.InProjRef.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_OutProjRef [hOutProjRef : Cert.OutProjRef.Facts] : Prop :=
  ∀ (m : (ℓ : Loc Cert.OutProjRef.nD Cert.OutProjRef.τ Cert.OutProjRef.sig) → Buf (Elt Bits) ℓ) (g : Dev Cert.OutProjRef.nD → PrngReg), Pre_OutProjRef m →
    θ_run (Cert.OutProjRef.defs (F := Bits)) (onTc (τ := Cert.OutProjRef.τ) (Cert.OutProjRef.main (F := Bits))) ⟨m, fun _ => 0, g⟩ (fun r => (∀ c : Dev Cert.OutProjRef.nD,
      r.2.mem ((c.tc : Thread Cert.OutProjRef.nD Cert.OutProjRef.τ).loc Cert.OutProjRef.main_arg0) = m ((c.tc : Thread Cert.OutProjRef.nD Cert.OutProjRef.τ).loc Cert.OutProjRef.main_arg0)
      ∧ r.2.mem ((c.tc : Thread Cert.OutProjRef.nD Cert.OutProjRef.τ).loc Cert.OutProjRef.main_arg1) = m ((c.tc : Thread Cert.OutProjRef.nD Cert.OutProjRef.τ).loc Cert.OutProjRef.main_arg1)
      ∧ r.2.mem ((c.tc : Thread Cert.OutProjRef.nD Cert.OutProjRef.τ).loc Cert.OutProjRef.main_arg2) = m ((c.tc : Thread Cert.OutProjRef.nD Cert.OutProjRef.τ).loc Cert.OutProjRef.main_arg2)
      ∧ r.2.mem ((c.tc : Thread Cert.OutProjRef.nD Cert.OutProjRef.τ).loc Cert.OutProjRef.main_arg3) = m ((c.tc : Thread Cert.OutProjRef.nD Cert.OutProjRef.τ).loc Cert.OutProjRef.main_arg3)
      ∧ r.2.mem ((c.tc : Thread Cert.OutProjRef.nD Cert.OutProjRef.τ).loc Cert.OutProjRef.main_arg4) = m ((c.tc : Thread Cert.OutProjRef.nD Cert.OutProjRef.τ).loc Cert.OutProjRef.main_arg4)
      ∧ r.2.mem ((c.tc : Thread Cert.OutProjRef.nD Cert.OutProjRef.τ).loc Cert.OutProjRef.main_arg5) = m ((c.tc : Thread Cert.OutProjRef.nD Cert.OutProjRef.τ).loc Cert.OutProjRef.main_arg5)
      ∧ r.2.mem ((c.tc : Thread Cert.OutProjRef.nD Cert.OutProjRef.τ).loc Cert.OutProjRef.main_arg6) = m ((c.tc : Thread Cert.OutProjRef.nD Cert.OutProjRef.τ).loc Cert.OutProjRef.main_arg6)
      ∧ r.2.mem ((c.tc : Thread Cert.OutProjRef.nD Cert.OutProjRef.τ).loc Cert.OutProjRef.main_arg7) = m ((c.tc : Thread Cert.OutProjRef.nD Cert.OutProjRef.τ).loc Cert.OutProjRef.main_arg7))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRef [hExpertsRef : Cert.ExpertsRef.Facts] : Prop :=
  ∀ (m : (ℓ : Loc Cert.ExpertsRef.nD Cert.ExpertsRef.τ Cert.ExpertsRef.sig) → Buf (Elt Bits) ℓ) (g : Dev Cert.ExpertsRef.nD → PrngReg), Pre_ExpertsRef m →
    θ_run (Cert.ExpertsRef.defs (F := Bits)) (onTc (τ := Cert.ExpertsRef.τ) (Cert.ExpertsRef.main (F := Bits))) ⟨m, fun _ => 0, g⟩ (fun r => (∀ c : Dev Cert.ExpertsRef.nD,
      r.2.mem ((c.tc : Thread Cert.ExpertsRef.nD Cert.ExpertsRef.τ).loc Cert.ExpertsRef.main_arg0) = m ((c.tc : Thread Cert.ExpertsRef.nD Cert.ExpertsRef.τ).loc Cert.ExpertsRef.main_arg0)
      ∧ r.2.mem ((c.tc : Thread Cert.ExpertsRef.nD Cert.ExpertsRef.τ).loc Cert.ExpertsRef.main_arg1) = m ((c.tc : Thread Cert.ExpertsRef.nD Cert.ExpertsRef.τ).loc Cert.ExpertsRef.main_arg1)
      ∧ r.2.mem ((c.tc : Thread Cert.ExpertsRef.nD Cert.ExpertsRef.τ).loc Cert.ExpertsRef.main_arg2) = m ((c.tc : Thread Cert.ExpertsRef.nD Cert.ExpertsRef.τ).loc Cert.ExpertsRef.main_arg2)
      ∧ r.2.mem ((c.tc : Thread Cert.ExpertsRef.nD Cert.ExpertsRef.τ).loc Cert.ExpertsRef.main_arg3) = m ((c.tc : Thread Cert.ExpertsRef.nD Cert.ExpertsRef.τ).loc Cert.ExpertsRef.main_arg3)
      ∧ r.2.mem ((c.tc : Thread Cert.ExpertsRef.nD Cert.ExpertsRef.τ).loc Cert.ExpertsRef.main_arg4) = m ((c.tc : Thread Cert.ExpertsRef.nD Cert.ExpertsRef.τ).loc Cert.ExpertsRef.main_arg4)
      ∧ r.2.mem ((c.tc : Thread Cert.ExpertsRef.nD Cert.ExpertsRef.τ).loc Cert.ExpertsRef.main_arg5) = m ((c.tc : Thread Cert.ExpertsRef.nD Cert.ExpertsRef.τ).loc Cert.ExpertsRef.main_arg5)
      ∧ r.2.mem ((c.tc : Thread Cert.ExpertsRef.nD Cert.ExpertsRef.τ).loc Cert.ExpertsRef.main_arg6) = m ((c.tc : Thread Cert.ExpertsRef.nD Cert.ExpertsRef.τ).loc Cert.ExpertsRef.main_arg6))
      ∧ r.2.sem = fun _ => 0)

def quiescent_Combine [hCombine : Cert.Combine.Facts] [hPre_combine_in_range : Cert.Pre_combine_in_range.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] [hPre_combine_in_range : Cert.Pre_combine_in_range.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_CombineRefIdeal_pre_combine_in_range [hCombineRefIdeal : Cert.CombineRefIdeal.Facts] [hPre_combine_in_range : Cert.Pre_combine_in_range.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_combine_in_range m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7)
      ∧ r.2.mem ((c.tc : Thread Cert.CombineRefIdeal.nD Cert.CombineRefIdeal.τ).loc Cert.CombineRefIdeal.main_arg8) = m ((c.tc : Thread Cert.CombineRefIdeal.nD Cert.CombineRefIdeal.τ).loc Cert.CombineRefIdeal.main_arg8))
      ∧ r.2.sem = fun _ => 0)

def quiescent_CombineRef [hCombineRef : Cert.CombineRef.Facts] : Prop :=
  ∀ (m : (ℓ : Loc Cert.CombineRef.nD Cert.CombineRef.τ Cert.CombineRef.sig) → Buf (Elt Bits) ℓ) (g : Dev Cert.CombineRef.nD → PrngReg), Pre_CombineRef m →
    θ_run (Cert.CombineRef.defs (F := Bits)) (onTc (τ := Cert.CombineRef.τ) (Cert.CombineRef.main (F := Bits))) ⟨m, fun _ => 0, g⟩ (fun r => (∀ c : Dev Cert.CombineRef.nD,
      r.2.mem ((c.tc : Thread Cert.CombineRef.nD Cert.CombineRef.τ).loc Cert.CombineRef.main_arg0) = m ((c.tc : Thread Cert.CombineRef.nD Cert.CombineRef.τ).loc Cert.CombineRef.main_arg0)
      ∧ r.2.mem ((c.tc : Thread Cert.CombineRef.nD Cert.CombineRef.τ).loc Cert.CombineRef.main_arg1) = m ((c.tc : Thread Cert.CombineRef.nD Cert.CombineRef.τ).loc Cert.CombineRef.main_arg1)
      ∧ r.2.mem ((c.tc : Thread Cert.CombineRef.nD Cert.CombineRef.τ).loc Cert.CombineRef.main_arg2) = m ((c.tc : Thread Cert.CombineRef.nD Cert.CombineRef.τ).loc Cert.CombineRef.main_arg2)
      ∧ r.2.mem ((c.tc : Thread Cert.CombineRef.nD Cert.CombineRef.τ).loc Cert.CombineRef.main_arg3) = m ((c.tc : Thread Cert.CombineRef.nD Cert.CombineRef.τ).loc Cert.CombineRef.main_arg3)
      ∧ r.2.mem ((c.tc : Thread Cert.CombineRef.nD Cert.CombineRef.τ).loc Cert.CombineRef.main_arg4) = m ((c.tc : Thread Cert.CombineRef.nD Cert.CombineRef.τ).loc Cert.CombineRef.main_arg4)
      ∧ r.2.mem ((c.tc : Thread Cert.CombineRef.nD Cert.CombineRef.τ).loc Cert.CombineRef.main_arg5) = m ((c.tc : Thread Cert.CombineRef.nD Cert.CombineRef.τ).loc Cert.CombineRef.main_arg5)
      ∧ r.2.mem ((c.tc : Thread Cert.CombineRef.nD Cert.CombineRef.τ).loc Cert.CombineRef.main_arg6) = m ((c.tc : Thread Cert.CombineRef.nD Cert.CombineRef.τ).loc Cert.CombineRef.main_arg6)
      ∧ r.2.mem ((c.tc : Thread Cert.CombineRef.nD Cert.CombineRef.τ).loc Cert.CombineRef.main_arg7) = m ((c.tc : Thread Cert.CombineRef.nD Cert.CombineRef.τ).loc Cert.CombineRef.main_arg7)
      ∧ r.2.mem ((c.tc : Thread Cert.CombineRef.nD Cert.CombineRef.τ).loc Cert.CombineRef.main_arg8) = m ((c.tc : Thread Cert.CombineRef.nD Cert.CombineRef.τ).loc Cert.CombineRef.main_arg8))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinIdeal_pre_win_finite [hWinIdeal : Cert.WinIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRefIdeal_pre_win_finite [hWinRefIdeal : Cert.WinRefIdeal.Facts] [hPre_win_finite : Cert.Pre_win_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_WinRef [hWinRef : Cert.WinRef.Facts] : Prop :=
  ∀ (m : (ℓ : Loc Cert.WinRef.nD Cert.WinRef.τ Cert.WinRef.sig) → Buf (Elt Bits) ℓ) (g : Dev Cert.WinRef.nD → PrngReg), Pre_WinRef m →
    θ_run (Cert.WinRef.defs (F := Bits)) (onTc (τ := Cert.WinRef.τ) (Cert.WinRef.main (F := Bits))) ⟨m, fun _ => 0, g⟩ (fun r => (∀ c : Dev Cert.WinRef.nD,
      r.2.mem ((c.tc : Thread Cert.WinRef.nD Cert.WinRef.τ).loc Cert.WinRef.main_arg0) = m ((c.tc : Thread Cert.WinRef.nD Cert.WinRef.τ).loc Cert.WinRef.main_arg0)
      ∧ r.2.mem ((c.tc : Thread Cert.WinRef.nD Cert.WinRef.τ).loc Cert.WinRef.main_arg1) = m ((c.tc : Thread Cert.WinRef.nD Cert.WinRef.τ).loc Cert.WinRef.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRef [hConvRef : Cert.ConvRef.Facts] : Prop :=
  ∀ (m : (ℓ : Loc Cert.ConvRef.nD Cert.ConvRef.τ Cert.ConvRef.sig) → Buf (Elt Bits) ℓ) (g : Dev Cert.ConvRef.nD → PrngReg), Pre_ConvRef m →
    θ_run (Cert.ConvRef.defs (F := Bits)) (onTc (τ := Cert.ConvRef.τ) (Cert.ConvRef.main (F := Bits))) ⟨m, fun _ => 0, g⟩ (fun r => (∀ c : Dev Cert.ConvRef.nD,
      r.2.mem ((c.tc : Thread Cert.ConvRef.nD Cert.ConvRef.τ).loc Cert.ConvRef.main_arg0) = m ((c.tc : Thread Cert.ConvRef.nD Cert.ConvRef.τ).loc Cert.ConvRef.main_arg0)
      ∧ r.2.mem ((c.tc : Thread Cert.ConvRef.nD Cert.ConvRef.τ).loc Cert.ConvRef.main_arg1) = m ((c.tc : Thread Cert.ConvRef.nD Cert.ConvRef.τ).loc Cert.ConvRef.main_arg1)
      ∧ r.2.mem ((c.tc : Thread Cert.ConvRef.nD Cert.ConvRef.τ).loc Cert.ConvRef.main_arg2) = m ((c.tc : Thread Cert.ConvRef.nD Cert.ConvRef.τ).loc Cert.ConvRef.main_arg2))
      ∧ r.2.sem = fun _ => 0)

def preserves_Attn_AttnIdeal : Prop :=
  True

def preserves_AttnRef_AttnRefIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v26)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v26) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v51) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_InProj_InProjIdeal : Prop :=
  True

def preserves_InProjRef_InProjRefIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v55)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v55) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v179) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def preserves_OutProjRef_OutProjRefIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v29) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Experts_ExpertsIdeal : Prop :=
  True

def preserves_ExpertsRef_ExpertsRefIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v44) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Combine_CombineIdeal : Prop :=
  True

def preserves_CombineRef_CombineRefIdeal : Prop :=
  True

def algebraic_CombineIdeal_CombineRefIdeal [hCombineIdeal : Cert.CombineIdeal.Facts] [hCombineRefIdeal : Cert.CombineRefIdeal.Facts] [hPre_combine_in_range : Cert.Pre_combine_in_range.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)
      ∧ m' ((c.tc : Thread Cert.CombineRefIdeal.nD Cert.CombineRefIdeal.τ).loc Cert.CombineRefIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v48) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7)
          ∧ r.2.mem ((c.tc : Thread Cert.CombineRefIdeal.nD Cert.CombineRefIdeal.τ).loc Cert.CombineRefIdeal.main_arg8) = m' ((c.tc : Thread Cert.CombineRefIdeal.nD Cert.CombineRefIdeal.τ).loc Cert.CombineRefIdeal.main_arg8))

def preserves_Win_WinIdeal : Prop :=
  True

def preserves_WinRef_WinRefIdeal : Prop :=
  True

def algebraic_WinIdeal_WinRefIdeal_pre_win_finite [hWinIdeal : Cert.WinIdeal.Facts] [hWinRefIdeal : Cert.WinRefIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v66) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Conv_ConvIdeal : Prop :=
  True

def preserves_ConvRef_ConvRefIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v33) = v0 c
          ∧ r.2.mem ((c.tc : Thread Cert.ConvRefIdeal.nD Cert.ConvRefIdeal.τ).loc Cert.ConvRefIdeal.main_v35) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def Claim : Prop :=
  ∃ (hAttn : Cert.Attn.Facts) (hAttnIdeal : Cert.AttnIdeal.Facts) (hAttnRefIdeal : Cert.AttnRefIdeal.Facts) (hAttnRef : Cert.AttnRef.Facts) (hInProj : Cert.InProj.Facts) (hInProjIdeal : Cert.InProjIdeal.Facts) (hInProjRefIdeal : Cert.InProjRefIdeal.Facts) (hInProjRef : Cert.InProjRef.Facts) (hOutProj : Cert.OutProj.Facts) (hOutProjIdeal : Cert.OutProjIdeal.Facts) (hOutProjRefIdeal : Cert.OutProjRefIdeal.Facts) (hOutProjRef : Cert.OutProjRef.Facts) (hExperts : Cert.Experts.Facts) (hExpertsIdeal : Cert.ExpertsIdeal.Facts) (hExpertsRefIdeal : Cert.ExpertsRefIdeal.Facts) (hExpertsRef : Cert.ExpertsRef.Facts) (hCombine : Cert.Combine.Facts) (hCombineIdeal : Cert.CombineIdeal.Facts) (hCombineRefIdeal : Cert.CombineRefIdeal.Facts) (hCombineRef : Cert.CombineRef.Facts) (hWin : Cert.Win.Facts) (hWinIdeal : Cert.WinIdeal.Facts) (hWinRefIdeal : Cert.WinRefIdeal.Facts) (hWinRef : Cert.WinRef.Facts) (hConv : Cert.Conv.Facts) (hConvIdeal : Cert.ConvIdeal.Facts) (hConvRefIdeal : Cert.ConvRefIdeal.Facts) (hConvRef : Cert.ConvRef.Facts) (hPre_attn_finite : Cert.Pre_attn_finite.Facts) (hPre_experts_in_range : Cert.Pre_experts_in_range.Facts) (hPre_combine_in_range : Cert.Pre_combine_in_range.Facts) (hPre_win_finite : Cert.Pre_win_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_AttnRef (hAttnRef := hAttnRef)
    ∧ quiescent_InProj (hInProj := hInProj)
    ∧ quiescent_InProjIdeal (hInProjIdeal := hInProjIdeal)
    ∧ quiescent_InProjRefIdeal (hInProjRefIdeal := hInProjRefIdeal)
    ∧ quiescent_InProjRef (hInProjRef := hInProjRef)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjRef (hOutProjRef := hOutProjRef)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_ExpertsRef (hExpertsRef := hExpertsRef)
    ∧ quiescent_Combine (hCombine := hCombine) (hPre_combine_in_range := hPre_combine_in_range)
    ∧ quiescent_CombineIdeal (hCombineIdeal := hCombineIdeal) (hPre_combine_in_range := hPre_combine_in_range)
    ∧ quiescent_CombineRefIdeal (hCombineRefIdeal := hCombineRefIdeal)
    ∧ quiescent_CombineRefIdeal_pre_combine_in_range (hCombineRefIdeal := hCombineRefIdeal) (hPre_combine_in_range := hPre_combine_in_range)
    ∧ quiescent_CombineRef (hCombineRef := hCombineRef)
    ∧ quiescent_Win (hWin := hWin)
    ∧ quiescent_WinIdeal (hWinIdeal := hWinIdeal)
    ∧ quiescent_WinIdeal_pre_win_finite (hWinIdeal := hWinIdeal) (hPre_win_finite := hPre_win_finite)
    ∧ quiescent_WinRefIdeal (hWinRefIdeal := hWinRefIdeal)
    ∧ quiescent_WinRefIdeal_pre_win_finite (hWinRefIdeal := hWinRefIdeal) (hPre_win_finite := hPre_win_finite)
    ∧ quiescent_WinRef (hWinRef := hWinRef)
    ∧ quiescent_Conv (hConv := hConv)
    ∧ quiescent_ConvIdeal (hConvIdeal := hConvIdeal)
    ∧ quiescent_ConvRefIdeal (hConvRefIdeal := hConvRefIdeal)
    ∧ quiescent_ConvRef (hConvRef := hConvRef)
    ∧ preserves_Attn_AttnIdeal
    ∧ preserves_AttnRef_AttnRefIdeal
    ∧ algebraic_AttnIdeal_AttnRefIdeal_pre_attn_finite (hAttnIdeal := hAttnIdeal) (hAttnRefIdeal := hAttnRefIdeal) (hPre_attn_finite := hPre_attn_finite)
    ∧ preserves_InProj_InProjIdeal
    ∧ preserves_InProjRef_InProjRefIdeal
    ∧ algebraic_InProjIdeal_InProjRefIdeal (hInProjIdeal := hInProjIdeal) (hInProjRefIdeal := hInProjRefIdeal)
    ∧ preserves_OutProj_OutProjIdeal
    ∧ preserves_OutProjRef_OutProjRefIdeal
    ∧ algebraic_OutProjIdeal_OutProjRefIdeal (hOutProjIdeal := hOutProjIdeal) (hOutProjRefIdeal := hOutProjRefIdeal)
    ∧ preserves_Experts_ExpertsIdeal
    ∧ preserves_ExpertsRef_ExpertsRefIdeal
    ∧ algebraic_ExpertsIdeal_ExpertsRefIdeal (hExpertsIdeal := hExpertsIdeal) (hExpertsRefIdeal := hExpertsRefIdeal) (hPre_experts_in_range := hPre_experts_in_range)
    ∧ preserves_Combine_CombineIdeal
    ∧ preserves_CombineRef_CombineRefIdeal
    ∧ algebraic_CombineIdeal_CombineRefIdeal (hCombineIdeal := hCombineIdeal) (hCombineRefIdeal := hCombineRefIdeal) (hPre_combine_in_range := hPre_combine_in_range)
    ∧ preserves_Win_WinIdeal
    ∧ preserves_WinRef_WinRefIdeal
    ∧ algebraic_WinIdeal_WinRefIdeal_pre_win_finite (hWinIdeal := hWinIdeal) (hWinRefIdeal := hWinRefIdeal) (hPre_win_finite := hPre_win_finite)
    ∧ preserves_Conv_ConvIdeal
    ∧ preserves_ConvRef_ConvRefIdeal
    ∧ algebraic_ConvIdeal_ConvRefIdeal (hConvIdeal := hConvIdeal) (hConvRefIdeal := hConvRefIdeal)
-- ==== Pre_attn_finite.lean ====
abbrev S16384x2816 : Shape := ⟨2, ![16384, 2816]⟩
abbrev S32 : Shape := ⟨1, ![32]⟩
abbrev S64 : Shape := ⟨1, ![64]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S32 .f32) (main_arg5 : FVec F S64 .f32) (main_v14 : IVec S_ 1) (main_v15 : FVec F S32 .f32) (main_v16 : FVec F S32 .f32) : IVec S_ 1 :=
  let main_v17 : IVec S32 1 := cmpf .olt main_v15 main_v16
  let main_c_5 : IVec S_ 1 := constantI S_ 1 1#1
  let main_v18 : IVec S_ 1 := (fun x v => Host.reduce IntOp.andi x v reducesTo_S32_S_d0 h_S_) main_v17 main_c_5
  let main_v19 : IVec S_ 1 := andi main_v14 main_v18
  let main_v20 : FVec F S32 .f32 := Host.absf main_arg4
  let main_cst_6 : FVec F S_ .f32 := constant S_ .f32 0x7F800000#32
  let main_v21 : FVec F S32 .f32 := broadcastInDim S32 ![] bcast_S_S32 main_cst_6
  let main_v22 : IVec S32 1 := cmpf .olt main_v20 main_v21
  let main_c_7 : IVec S_ 1 := constantI S_ 1 1#1
  let main_v23 : IVec S_ 1 := (fun x v => Host.reduce IntOp.andi x v reducesTo_S32_S_d0 h_S_) main_v22 main_c_7
  let main_v24 : IVec S_ 1 := andi main_v19 main_v23
  let main_v25 : FVec F S64 .f32 := Host.absf main_arg5
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  main_v29

def fn {F : FTy → Type} [FloatOps F] (main_arg0 : FVec F S16384x2816 .bf16) (main_arg1 : FVec F S32 .f32) (main_arg2 : FVec F S32 .f32) (main_arg3 : FVec F S32 .f32) (main_arg4 : FVec F S32 .f32) (main_arg5 : FVec F S64 .f32) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S32 .f32 := Host.absf main_arg1
  let main_cst_0 : FVec F S_ .f32 := constant S_ .f32 0x7F800000#32
  let main_v6 : FVec F S32 .f32 := broadcastInDim S32 ![] bcast_S_S32 main_cst_0
  let main_v7 : IVec S32 1 := cmpf .olt main_v5 main_v6
  let main_c_1 : IVec S_ 1 := constantI S_ 1 1#1
  let main_v8 : IVec S_ 1 := (fun x v => Host.reduce IntOp.andi x v reducesTo_S32_S_d0 h_S_) main_v7 main_c_1
  let main_v9 : IVec S_ 1 := andi main_v4 main_v8
  let main_v10 : FVec F S32 .f32 := Host.absf main_arg2
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  let main_v15 : FVec F S32 .f32 := Host.absf main_arg3
  let main_cst_4 : FVec F S_ .f32 := constant S_ .f32 0x7F800000#32
  let main_v16 : FVec F S32 .f32 := broadcastInDim S32 ![] bcast_S_S32 main_cst_4
  fn_part1 (F := F) main_arg4 main_arg5 main_v14 main_v15 main_v16
-- ==== Pre_combine_in_range.lean ====
abbrev S163712x1024 : Shape := ⟨2, ![163712, 1024]⟩
abbrev S256x512 : Shape := ⟨2, ![256, 512]⟩
abbrev S16384x1024 : Shape := ⟨2, ![16384, 1024]⟩
abbrev S16384x128 : Shape := ⟨2, ![16384, 128]⟩
abbrev S1024x256 : Shape := ⟨2, ![1024, 256]⟩
abbrev S256x1024 : Shape := ⟨2, ![256, 1024]⟩
abbrev S1x1024 : Shape := ⟨2, ![1, 1024]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S163712x1024 .f32) (main_arg1 : IVec S256x512 32) (main_arg2 : FVec F S16384x1024 .f32) (main_arg3 : FVec F S16384x128 .f32) (main_arg4 : FVec F S1024x256 .bf16) (main_arg5 : FVec F S1024x256 .bf16) (main_arg6 : FVec F S256x1024 .bf16) (main_arg7 : FVec F S1x1024 .f32) (main_arg8 : FVec F S1x1024 .f32) : IVec S_ 1 :=
  let main_c : IVec S_ 32 := constantI S_ 32 0#32
  let main_v0 : IVec S256x512 32 := broadcastInDim S256x512 ![] bcast_S_S256x512 main_c
  let main_v1 : IVec S256x512 1 := cmpi .sge main_arg1 main_v0
  let main_c_0 : IVec S_ 32 := constantI S_ 32 163712#32
  let main_v2 : IVec S256x512 32 := broadcastInDim S256x512 ![] bcast_S_S256x512 main_c_0
  let main_v3 : IVec S256x512 1 := cmpi .slt main_arg1 main_v2
  let main_v4 : IVec S256x512 1 := andi main_v1 main_v3
  let main_c_1 : IVec S_ 1 := constantI S_ 1 1#1
  let main_v5 : IVec S_ 1 := (fun x v => Host.reduce IntOp.andi x v reducesTo_S256x512_S_d0_1 h_S_) main_v4 main_c_1
  main_v5
-- ==== Pre_experts_in_range.lean ====
abbrev S16384x1024 : Shape := ⟨2, ![16384, 1024]⟩
abbrev S1279x128 : Shape := ⟨2, ![1279, 128]⟩
abbrev S1279 : Shape := ⟨1, ![1279]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩

class Facts : Prop where
  bcast_S_S1279x128 : S_.BroadcastsInDim S1279x128 (![] : Fin 0 → Fin S1279x128.rank)
  reducesTo_S1279x128_S_d0_1 : S1279x128.ReducesTo [0, 1] S_
  h_S_ : 0 < S_.numel
  bcast_S_S1279 : S_.BroadcastsInDim S1279 (![] : Fin 0 → Fin S1279.rank)
  reducesTo_S1279_S_d0 : S1279.ReducesTo [0] S_

variable [Facts]

def fn {F : FTy → Type} [FloatOps F] (main_arg0 : FVec F S16384x1024 .f32) (main_arg1 : IVec S1279x128 32) (main_arg2 : IVec S1279 32) (main_arg3 : IVec S1 32) (main_arg4 : FVec F S256x1024x256 .f32) (main_arg5 : FVec F S256x1024x256 .f32) (main_arg6 : FVec F S256x256x1024 .f32) : IVec S_ 1 :=
  let main_c : IVec S_ 32 := constantI S_ 32 0#32
  let main_v0 : IVec S1279x128 32 := broadcastInDim S1279x128 ![] bcast_S_S1279x128 main_c
  let main_v1 : IVec S1279x128 1 := cmpi .sge main_arg1 main_v0
  let main_c_0 : IVec S_ 32 := constantI S_ 32 16384#32
  let main_v2 : IVec S1279x128 32 := broadcastInDim S1279x128 ![] bcast_S_S1279x128 main_c_0
  let main_v3 : IVec S1279x128 1 := cmpi .slt main_arg1 main_v2
  let main_v4 : IVec S1279x128 1 := andi main_v1 main_v3
  let main_c_1 : IVec S_ 1 := constantI S_ 1 1#1
  let main_v5 : IVec S_ 1 := (fun x v => Host.reduce IntOp.andi x v reducesTo_S1279x128_S_d0_1 h_S_) main_v4 main_c_1
  let main_c_2 : IVec S_ 32 := constantI S_ 32 0#32
  let main_v6 : IVec S1279 32 := broadcastInDim S1279 ![] bcast_S_S1279 main_c_2
  let main_v7 : IVec S1279 1 := cmpi .sge main_arg2 main_v6
  let main_c_3 : IVec S_ 32 := constantI S_ 32 256#32
  let main_v8 : IVec S1279 32 := broadcastInDim S1279 ![] bcast_S_S1279 main_c_3
  let main_v9 : IVec S1279 1 := cmpi .slt main_arg2 main_v8
  let main_v10 : IVec S1279 1 := andi main_v7 main_v9
  let main_c_4 : IVec S_ 1 := constantI S_ 1 1#1
  let main_v11 : IVec S_ 1 := (fun x v => Host.reduce IntOp.andi x v reducesTo_S1279_S_d0 h_S_) main_v10 main_c_4
  let main_v12 : IVec S_ 1 := andi main_v5 main_v11
  main_v12
-- ==== Pre_win_finite.lean ====
abbrev S16384x2816 : Shape := ⟨2, ![16384, 2816]⟩
abbrev S4 : Shape := ⟨1, ![4]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S16384x2816 .bf16) (main_arg1 : FVec F S4 .f32) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S4 .f32 := Host.absf main_arg1
  let main_cst_0 : FVec F S_ .f32 := constant S_ .f32 0x7F800000#32
  let main_v6 : FVec F S4 .f32 := broadcastInDim S4 ![] bcast_S_S4 main_cst_0
  let main_v7 : IVec S4 1 := cmpf .olt main_v5 main_v6
  let main_c_1 : IVec S_ 1 := constantI S_ 1 1#1
  let main_v8 : IVec S_ 1 := (fun x v => Host.reduce IntOp.andi x v reducesTo_S4_S_d0 h_S_) main_v7 main_c_1
  let main_v9 : IVec S_ 1 := andi main_v4 main_v8
  main_v9
-- ==== Attn.lean ====
abbrev S16384x2816 : Shape := ⟨2, ![16384, 2816]⟩
abbrev S32 : Shape := ⟨1, ![32]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1 : Shape := ⟨1, ![1]⟩
abbrev S1x64 : Shape := ⟨2, ![1, 64]⟩
abbrev S4x64 : Shape := ⟨2, ![4, 64]⟩
abbrev S16384x256 : Shape := ⟨2, ![16384, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩

abbrev nBuf : Space → Nat
  | .hbm => 55
  | .vmem => 10
  | .smem => 1
  | _ => 0

abbrev bufTy : (tb : Table) → Fin (tcTables nBuf tb) → BufTy
  | .hbm, ⟨0, _⟩ => ⟨S16384x2816, .bf16⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S1x64, .f32⟩
  | .hbm, ⟨48, _⟩ => ⟨S4x64, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S1x256, .f32⟩
  | .hbm, ⟨54, _⟩ => ⟨S16384x256, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .smem, ⟨0, _⟩ => ⟨S1, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRef.lean ====
abbrev S16384x2816 : Shape := ⟨2, ![16384, 2816]⟩
abbrev S32 : Shape := ⟨1, ![32]⟩
abbrev S64 : Shape := ⟨1, ![64]⟩
abbrev S16384x256 : Shape := ⟨2, ![16384, 256]⟩
abbrev S8x2048x4x2x32 : Shape := ⟨5, ![8, 2048, 4, 2, 32]⟩
abbrev S8x2048x4x64 : Shape := ⟨4, ![8, 2048, 4, 64]⟩
abbrev S_ : Shape := ⟨0, ![]⟩
abbrev S8x4x2x2048x2048 : Shape := ⟨5, ![8, 4, 2, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x64x2048 : Shape := ⟨4, ![8, 4, 64, 2048]⟩
abbrev S8x2048x4 : Shape := ⟨3, ![8, 2048, 4]⟩
abbrev S8x2048x4x1 : Shape := ⟨4, ![8, 2048, 4, 1]⟩
abbrev S1x1x1x64 : Shape := ⟨4, ![1, 1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S64, .f32⟩
  | .hbm, ⟨6, _⟩ => ⟨S16384x2816, .f32⟩
  | .hbm, ⟨7, _⟩ => ⟨S16384x256, .f32⟩
  | .hbm, ⟨8, _⟩ => ⟨S8x2048x4x2x32, .f32⟩
  | .hbm, ⟨9, _⟩ => ⟨S16384x256, .f32⟩
  | .hbm, ⟨10, _⟩ => ⟨S8x2048x4x2x32, .f32⟩
  | .hbm, ⟨11, _⟩ => ⟨S16384x256, .f32⟩
  | .hbm, ⟨12, _⟩ => ⟨S8x2048x4x64, .f32⟩
  | .hbm, ⟨13, _⟩ => ⟨S32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4x2x2048x2048, .f32⟩
  | .hbm, ⟨25, _⟩ => ⟨S_, .f32⟩
  | .hbm, ⟨26, _⟩ => ⟨S8x4x2x2048, .f32⟩
  | .hbm, ⟨27, _⟩ => ⟨S8x4x2x2048x1, .f32⟩
  | .hbm, ⟨28, _⟩ => ⟨S8x4x2x2048x2048, .f32⟩
  | .hbm, ⟨29, _⟩ => ⟨S8x4x2x2048x2048, .f32⟩
  | .hbm, ⟨30, _⟩ => ⟨S_, .f32⟩
  | .hbm, ⟨31, _⟩ => ⟨S8x4x2x2048x2048, .f32⟩
  | .hbm, ⟨32, _⟩ => ⟨S8x4x2x2048x2048, .f32⟩
  | .hbm, ⟨33, _⟩ => ⟨S_, .f32⟩
  | .hbm, ⟨34, _⟩ => ⟨S8x4x2x2048, .f32⟩
  | .hbm, ⟨35, _⟩ => ⟨S8x4x2x2048x1, .f32⟩
  | .hbm, ⟨36, _⟩ => ⟨S8x4x2x2048x2048, .f32⟩
  | .hbm, ⟨37, _⟩ => ⟨S8x4x2x2048x2048, .f32⟩
  | .hbm, ⟨38, _⟩ => ⟨S8x4x1x2048x2048, .f32⟩
  | .hbm, ⟨39, _⟩ => ⟨S8x4x2048x2048, .f32⟩
  | .hbm, ⟨40, _⟩ => ⟨S8x4x1x2048x2048, .f32⟩
  | .hbm, ⟨41, _⟩ => ⟨S8x4x2048x2048, .f32⟩
  | .hbm, ⟨42, _⟩ => ⟨S8x4x2048x2048, .f32⟩
  | .hbm, ⟨43, _⟩ => ⟨S8x4x2048x2048, .f32⟩
  | .hbm, ⟨44, _⟩ => ⟨S8x4x2048x2048, .f32⟩
  | .hbm, ⟨45, _⟩ => ⟨S8x4x64x2048, .f32⟩
  | .hbm, ⟨46, _⟩ => ⟨S8x2048x4x64, .f32⟩
  | .hbm, ⟨47, _⟩ => ⟨S8x2048x4x64, .f32⟩
  | .hbm, ⟨48, _⟩ => ⟨S_, .f32⟩
  | .hbm, ⟨49, _⟩ => ⟨S8x2048x4, .f32⟩
  | .hbm, ⟨50, _⟩ => ⟨S8x2048x4x1, .f32⟩
  | .hbm, ⟨51, _⟩ => ⟨S_, .f32⟩
  | .hbm, ⟨52, _⟩ => ⟨S8x2048x4x1, .f32⟩
  | .hbm, ⟨53, _⟩ => ⟨S8x2048x4x1, .f32⟩
  | .hbm, ⟨54, _⟩ => ⟨S_, .f32⟩
  | .hbm, ⟨55, _⟩ => ⟨S8x2048x4x1, .f32⟩
  | .hbm, ⟨56, _⟩ => ⟨S8x2048x4x1, .f32⟩
  | .hbm, ⟨57, _⟩ => ⟨S8x2048x4x1, .f32⟩
  | .hbm, ⟨58, _⟩ => ⟨S8x2048x4x64, .f32⟩
  | .hbm, ⟨59, _⟩ => ⟨S8x2048x4x64, .f32⟩
  | .hbm, ⟨60, _⟩ => ⟨S1x1x1x64, .f32⟩
  | .hbm, ⟨61, _⟩ => ⟨S8x2048x4x64, .f32⟩
  | .hbm, ⟨62, _⟩ => ⟨S8x2048x4x64, .f32⟩
  | .hbm, ⟨63, _⟩ => ⟨S_, .f32⟩
  | .hbm, ⟨64, _⟩ => ⟨S8x2048x4x64, .f32⟩
  | .hbm, ⟨65, _⟩ => ⟨S8x2048x4x64, .f32⟩
  | .hbm, ⟨66, _⟩ => ⟨S16384x256, .f32⟩
  | .hbm, ⟨67, _⟩ => ⟨S16384x256, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== InProj.lean ====
abbrev S16384x1024 : Shape := ⟨2, ![16384, 1024]⟩
abbrev S1024x2816 : Shape := ⟨2, ![1024, 2816]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S16384x2816 : Shape := ⟨2, ![16384, 2816]⟩
abbrev S512x1024 : Shape := ⟨2, ![512, 1024]⟩
abbrev S512x128 : Shape := ⟨2, ![512, 128]⟩
abbrev S512x2816 : Shape := ⟨2, ![512, 2816]⟩
abbrev S1024x256 : Shape := ⟨2, ![1024, 256]⟩
abbrev S512x256 : Shape := ⟨2, ![512, 256]⟩

abbrev nBuf : Space → Nat
  | .hbm => 158
  | .vmem => 13
  | .smem => 0
  | _ => 0

abbrev hbmTy0_0 (i : Nat) : BufTy := match i % 128 with
  | 0 => ⟨S16384x1024, .f32⟩
  | 1 => ⟨S1024x2816, .f32⟩
  | 2 => ⟨S128, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S128, .i32⟩
  | 10 => ⟨S128, .i32⟩
  | 11 => ⟨S_, .i32⟩
  | 12 => ⟨S128, .i32⟩
  | 13 => ⟨S128, .i1⟩
  | 14 => ⟨S_, .i32⟩
  | 15 => ⟨S128, .i32⟩
  | 16 => ⟨S128, .i1⟩
  | 17 => ⟨S_, .i32⟩
  | 18 => ⟨S_, .i1⟩
  | 19 => ⟨S128, .i1⟩
  | 20 => ⟨S128, .i1⟩
  | 21 => ⟨S128, .i1⟩
  | 22 => ⟨S128, .i32⟩
  | 23 => ⟨S128, .i32⟩
  | 24 => ⟨S128, .i32⟩
  | 25 => ⟨S128, .f32⟩
  | 26 => ⟨S_, .f32⟩
  | 27 => ⟨S128, .f32⟩
  | 28 => ⟨S128, .f32⟩
  | 29 => ⟨S128, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S2048, .f32⟩
  | 38 => ⟨S2048x1, .f32⟩
  | 39 => ⟨S1x128, .f32⟩
  | 40 => ⟨S2048x128, .f32⟩
  | 41 => ⟨S2048x128, .f32⟩
  | 42 => ⟨S2048x128, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S128, .i32⟩
  | 50 => ⟨S128, .i32⟩
  | 51 => ⟨S_, .i32⟩
  | 52 => ⟨S128, .i32⟩
  | 53 => ⟨S128, .i1⟩
  | 54 => ⟨S_, .i32⟩
  | 55 => ⟨S128, .i32⟩
  | 56 => ⟨S128, .i1⟩
  | 57 => ⟨S_, .i32⟩
  | 58 => ⟨S_, .i1⟩
  | 59 => ⟨S128, .i1⟩
  | 60 => ⟨S128, .i1⟩
  | 61 => ⟨S128, .i1⟩
  | 62 => ⟨S128, .i32⟩
  | 63 => ⟨S128, .i32⟩
  | 64 => ⟨S128, .i32⟩
  | 65 => ⟨S_, .i32⟩
  | 66 => ⟨S128, .i32⟩
  | 67 => ⟨S128, .i1⟩
  | 68 => ⟨S_, .f32⟩
  | 69 => ⟨S_, .f32⟩
  | 70 => ⟨S128, .f32⟩
  | 71 => ⟨S128, .f32⟩
  | 72 => ⟨S128, .f32⟩
  | 73 => ⟨S128, .f32⟩
  | 74 => ⟨S2048x128, .f32⟩
  | 75 => ⟨S2048x128, .f32⟩
  | 76 => ⟨S1x128, .f32⟩
  | 77 => ⟨S2048x128, .f32⟩
  | 78 => ⟨S2048x128, .f32⟩
  | 79 => ⟨S128, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S128, .i32⟩
  | 87 => ⟨S128, .i32⟩
  | 88 => ⟨S_, .i32⟩
  | 89 => ⟨S128, .i32⟩
  | 90 => ⟨S128, .i1⟩
  | 91 => ⟨S_, .i32⟩
  | 92 => ⟨S128, .i32⟩
  | 93 => ⟨S128, .i1⟩
  | 94 => ⟨S_, .i32⟩
  | 95 => ⟨S_, .i1⟩
  | 96 => ⟨S128, .i1⟩
  | 97 => ⟨S128, .i1⟩
  | 98 => ⟨S128, .i1⟩
  | 99 => ⟨S128, .i32⟩
  | 100 => ⟨S128, .i32⟩
  | 101 => ⟨S128, .i32⟩
  | 102 => ⟨S128, .f32⟩
  | 103 => ⟨S_, .f32⟩
  | 104 => ⟨S128, .f32⟩
  | 105 => ⟨S128, .f32⟩
  | 106 => ⟨S128, .f32⟩
  | 107 => ⟨S128, .f32⟩
  | 108 => ⟨S_, .f32⟩
  | 109 => ⟨S128, .f32⟩
  | 110 => ⟨S128, .f32⟩
  | 111 => ⟨S_, .f32⟩
  | 112 => ⟨S128, .f32⟩
  | 113 => ⟨S128, .f32⟩
  | 114 => ⟨S2048, .f32⟩
  | 115 => ⟨S2048x1, .f32⟩
  | 116 => ⟨S1x128, .f32⟩
  | 117 => ⟨S2048x128, .f32⟩
  | 118 => ⟨S2048x128, .f32⟩
  | 119 => ⟨S2048x128, .f32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S128, .i32⟩
  | 127 => ⟨S128, .i32⟩
  | _ => ⟨S16384x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i1⟩
  | 6 => ⟨S_, .i32⟩
  | 7 => ⟨S_, .i1⟩
  | 8 => ⟨S128, .i1⟩
  | 9 => ⟨S128, .i1⟩
  | 10 => ⟨S128, .i1⟩
  | 11 => ⟨S128, .i32⟩
  | 12 => ⟨S128, .i32⟩
  | 13 => ⟨S128, .i32⟩
  | 14 => ⟨S_, .i32⟩
  | 15 => ⟨S128, .i32⟩
  | 16 => ⟨S128, .i1⟩
  | 17 => ⟨S_, .f32⟩
  | 18 => ⟨S_, .f32⟩
  | 19 => ⟨S128, .f32⟩
  | 20 => ⟨S128, .f32⟩
  | 21 => ⟨S128, .f32⟩
  | 22 => ⟨S128, .f32⟩
  | 23 => ⟨S2048x128, .f32⟩
  | 24 => ⟨S2048x128, .f32⟩
  | 25 => ⟨S1x128, .f32⟩
  | 26 => ⟨S2048x128, .f32⟩
  | 27 => ⟨S2048x128, .f32⟩
  | 28 => ⟨S1024x2816, .bf16⟩
  | 29 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x2816, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_c_3 : Ref sig .tc := ⟨.hbm, 65, rfl⟩
abbrev main_v18 : Ref sig .tc := ⟨.hbm, 66, rfl⟩
abbrev main_v19 : Ref sig .tc := ⟨.hbm, 67, rfl⟩
abbrev main_cst_4 : Ref sig .tc := ⟨.hbm, 68, rfl⟩
abbrev main_cst_5 : Ref sig .tc := ⟨.hbm, 69, rfl⟩
abbrev main_call2_v0 : Ref sig .tc := ⟨.hbm, 70, rfl⟩
abbrev main_call2_v1 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_6 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_v5 : Ref sig .tc := ⟨.hbm, 89, rfl⟩
abbrev main_call3_v6 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_c_3 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_v28 : Ref sig .tc := ⟨.hbm, 101, rfl⟩
abbrev main_v29 : Ref sig .tc := ⟨.hbm, 102, rfl⟩
abbrev main_cst_7 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_cst_8 : Ref sig .tc := ⟨.hbm, 108, rfl⟩
abbrev main_v34 : Ref sig .tc := ⟨.hbm, 109, rfl⟩
abbrev main_v35 : Ref sig .tc := ⟨.hbm, 110, rfl⟩
abbrev main_cst_9 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_c_10 : Ref sig .tc := ⟨.hbm, 120, rfl⟩
abbrev main_call4_v0 : Ref sig .tc := ⟨.hbm, 121, rfl⟩
abbrev main_call4_c : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_c_1 : Ref sig .tc := ⟨.hbm, 128, rfl⟩
abbrev main_call4_v5 : Ref sig .tc := ⟨.hbm, 129, rfl⟩
abbrev main_call4_v6 : Ref sig .tc := ⟨.hbm, 130, rfl⟩
abbrev main_call4_c_2 : Ref sig .tc := ⟨.hbm, 131, rfl⟩
abbrev main_call4_v7 : Ref sig .tc := ⟨.hbm, 132, rfl⟩
abbrev main_call4_v8 : Ref sig .tc := ⟨.hbm, 133, rfl⟩
abbrev main_call4_c_3 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_v44 : Ref sig .tc := ⟨.hbm, 141, rfl⟩
abbrev main_c_11 : Ref sig .tc := ⟨.hbm, 142, rfl⟩
abbrev main_v45 : Ref sig .tc := ⟨.hbm, 143, rfl⟩
abbrev main_v46 : Ref sig .tc := ⟨.hbm, 144, rfl⟩
abbrev main_cst_12 : Ref sig .tc := ⟨.hbm, 145, rfl⟩
abbrev main_cst_13 : Ref sig .tc := ⟨.hbm, 146, rfl⟩
abbrev main_call5_v0 : Ref sig .tc := ⟨.hbm, 147, rfl⟩
abbrev main_call5_v1 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRef.lean ====
abbrev S16384x1024 : Shape := ⟨2, ![16384, 1024]⟩
abbrev S1024x2816 : Shape := ⟨2, ![1024, 2816]⟩
abbrev S16384x2816 : Shape := ⟨2, ![16384, 2816]⟩
abbrev S16384x256 : Shape := ⟨2, ![16384, 256]⟩
abbrev S16384x768 : Shape := ⟨2, ![16384, 768]⟩
abbrev S16384x512 : Shape := ⟨2, ![16384, 512]⟩
abbrev S16384x128 : Shape := ⟨2, ![16384, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S8x2048x8x32 : Shape := ⟨4, ![8, 2048, 8, 32]⟩
abbrev S8x2048x8x16 : Shape := ⟨4, ![8, 2048, 8, 16]⟩
abbrev S1x2048x1x16 : Shape := ⟨4, ![1, 2048, 1, 16]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S8x2048x4x64 : Shape := ⟨4, ![8, 2048, 4, 64]⟩
abbrev S8x2048x4x32 : Shape := ⟨4, ![8, 2048, 4, 32]⟩
abbrev S1x2048x1x32 : Shape := ⟨4, ![1, 2048, 1, 32]⟩
abbrev S8x2048x2x64 : Shape := ⟨4, ![8, 2048, 2, 64]⟩
abbrev S8x2048x2x32 : Shape := ⟨4, ![8, 2048, 2, 32]⟩

abbrev nBuf : Space → Nat
  | .hbm => 201
  | .vmem => 0
  | .smem => 0
  | _ => 0

abbrev hbmTy0_0 (i : Nat) : BufTy := match i % 128 with
  | 0 => ⟨S16384x1024, .f32⟩
  | 1 => ⟨S1024x2816, .f32⟩
  | 2 => ⟨S16384x1024, .bf16⟩
  | 3 => ⟨S1024x2816, .bf16⟩
  | 4 => ⟨S16384x2816, .f32⟩
  | 5 => ⟨S16384x256, .f32⟩
  | 6 => ⟨S16384x256, .f32⟩
  | 7 => ⟨S16384x256, .f32⟩
  | 8 => ⟨S16384x768, .f32⟩
  | 9 => ⟨S16384x256, .f32⟩
  | 10 => ⟨S16384x512, .f32⟩
  | 11 => ⟨S16384x256, .f32⟩
  | 12 => ⟨S16384x128, .f32⟩
  | 13 => ⟨S16384x128, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S2048, .i32⟩
  | 29 => ⟨S2048, .f32⟩
  | 30 => ⟨S2048x1, .f32⟩
  | 31 => ⟨S1x16, .f32⟩
  | 32 => ⟨S2048x16, .f32⟩
  | 33 => ⟨S2048x16, .f32⟩
  | 34 => ⟨S2048x16, .f32⟩
  | 35 => ⟨S2048x16, .f32⟩
  | 36 => ⟨S2048x1x16, .f32⟩
  | 37 => ⟨S2048x16, .f32⟩
  | 38 => ⟨S2048x1x16, .f32⟩
  | 39 => ⟨S8x2048x8x32, .f32⟩
  | 40 => ⟨S8x2048x8x16, .f32⟩
  | 41 => ⟨S8x2048x8x16, .f32⟩
  | 42 => ⟨S1x2048x1x16, .f32⟩
  | 43 => ⟨S8x2048x8x16, .f32⟩
  | 44 => ⟨S8x2048x8x16, .f32⟩
  | 45 => ⟨S1x2048x1x16, .f32⟩
  | 46 => ⟨S8x2048x8x16, .f32⟩
  | 47 => ⟨S8x2048x8x16, .f32⟩
  | 48 => ⟨S8x2048x8x16, .f32⟩
  | 49 => ⟨S1x2048x1x16, .f32⟩
  | 50 => ⟨S8x2048x8x16, .f32⟩
  | 51 => ⟨S8x2048x8x16, .f32⟩
  | 52 => ⟨S1x2048x1x16, .f32⟩
  | 53 => ⟨S8x2048x8x16, .f32⟩
  | 54 => ⟨S8x2048x8x16, .f32⟩
  | 55 => ⟨S8x2048x8x16, .f32⟩
  | 56 => ⟨S8x2048x8x32, .f32⟩
  | 57 => ⟨S16384x256, .f32⟩
  | 58 => ⟨S_, .f32⟩
  | 59 => ⟨S16384x256, .f32⟩
  | 60 => ⟨S16384x256, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S2048, .i32⟩
  | 76 => ⟨S2048, .f32⟩
  | 77 => ⟨S2048x1, .f32⟩
  | 78 => ⟨S1x16, .f32⟩
  | 79 => ⟨S2048x16, .f32⟩
  | 80 => ⟨S2048x16, .f32⟩
  | 81 => ⟨S2048x16, .f32⟩
  | 82 => ⟨S2048x16, .f32⟩
  | 83 => ⟨S2048x1x16, .f32⟩
  | 84 => ⟨S2048x16, .f32⟩
  | 85 => ⟨S2048x1x16, .f32⟩
  | 86 => ⟨S8x2048x8x32, .f32⟩
  | 87 => ⟨S8x2048x8x16, .f32⟩
  | 88 => ⟨S8x2048x8x16, .f32⟩
  | 89 => ⟨S1x2048x1x16, .f32⟩
  | 90 => ⟨S8x2048x8x16, .f32⟩
  | 91 => ⟨S8x2048x8x16, .f32⟩
  | 92 => ⟨S1x2048x1x16, .f32⟩
  | 93 => ⟨S8x2048x8x16, .f32⟩
  | 94 => ⟨S8x2048x8x16, .f32⟩
  | 95 => ⟨S8x2048x8x16, .f32⟩
  | 96 => ⟨S1x2048x1x16, .f32⟩
  | 97 => ⟨S8x2048x8x16, .f32⟩
  | 98 => ⟨S8x2048x8x16, .f32⟩
  | 99 => ⟨S1x2048x1x16, .f32⟩
  | 100 => ⟨S8x2048x8x16, .f32⟩
  | 101 => ⟨S8x2048x8x16, .f32⟩
  | 102 => ⟨S8x2048x8x16, .f32⟩
  | 103 => ⟨S8x2048x8x32, .f32⟩
  | 104 => ⟨S16384x256, .f32⟩
  | 105 => ⟨S_, .f32⟩
  | 106 => ⟨S16384x256, .f32⟩
  | 107 => ⟨S16384x256, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S32, .f32⟩
  | 116 => ⟨S_, .f32⟩
  | 117 => ⟨S32, .f32⟩
  | 118 => ⟨S32, .f32⟩
  | 119 => ⟨S_, .f32⟩
  | 120 => ⟨S32, .f32⟩
  | 121 => ⟨S32, .f32⟩
  | 122 => ⟨S2048, .i32⟩
  | 123 => ⟨S2048, .f32⟩
  | 124 => ⟨S2048x1, .f32⟩
  | 125 => ⟨S1x32, .f32⟩
  | 126 => ⟨S2048x32, .f32⟩
  | 127 => ⟨S2048x32, .f32⟩
  | _ => ⟨S16384x1024, .f32⟩

abbrev hbmTy0_1 (i : Nat) : BufTy := match i % 128 with
  | 0 => ⟨S2048x32, .f32⟩
  | 1 => ⟨S2048x32, .f32⟩
  | 2 => ⟨S2048x1x32, .f32⟩
  | 3 => ⟨S2048x32, .f32⟩
  | 4 => ⟨S2048x1x32, .f32⟩
  | 5 => ⟨S8x2048x4x64, .f32⟩
  | 6 => ⟨S8x2048x4x32, .f32⟩
  | 7 => ⟨S8x2048x4x32, .f32⟩
  | 8 => ⟨S1x2048x1x32, .f32⟩
  | 9 => ⟨S8x2048x4x32, .f32⟩
  | 10 => ⟨S8x2048x4x32, .f32⟩
  | 11 => ⟨S1x2048x1x32, .f32⟩
  | 12 => ⟨S8x2048x4x32, .f32⟩
  | 13 => ⟨S8x2048x4x32, .f32⟩
  | 14 => ⟨S8x2048x4x32, .f32⟩
  | 15 => ⟨S1x2048x1x32, .f32⟩
  | 16 => ⟨S8x2048x4x32, .f32⟩
  | 17 => ⟨S8x2048x4x32, .f32⟩
  | 18 => ⟨S1x2048x1x32, .f32⟩
  | 19 => ⟨S8x2048x4x32, .f32⟩
  | 20 => ⟨S8x2048x4x32, .f32⟩
  | 21 => ⟨S8x2048x4x32, .f32⟩
  | 22 => ⟨S8x2048x4x64, .f32⟩
  | 23 => ⟨S16384x256, .f32⟩
  | 24 => ⟨S_, .f32⟩
  | 25 => ⟨S16384x256, .f32⟩
  | 26 => ⟨S16384x256, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S2048, .i32⟩
  | 42 => ⟨S2048, .f32⟩
  | 43 => ⟨S2048x1, .f32⟩
  | 44 => ⟨S1x32, .f32⟩
  | 45 => ⟨S2048x32, .f32⟩
  | 46 => ⟨S2048x32, .f32⟩
  | 47 => ⟨S2048x32, .f32⟩
  | 48 => ⟨S2048x32, .f32⟩
  | 49 => ⟨S2048x1x32, .f32⟩
  | 50 => ⟨S2048x32, .f32⟩
  | 51 => ⟨S2048x1x32, .f32⟩
  | 52 => ⟨S8x2048x2x64, .f32⟩
  | 53 => ⟨S8x2048x2x32, .f32⟩
  | 54 => ⟨S8x2048x2x32, .f32⟩
  | 55 => ⟨S1x2048x1x32, .f32⟩
  | 56 => ⟨S8x2048x2x32, .f32⟩
  | 57 => ⟨S8x2048x2x32, .f32⟩
  | 58 => ⟨S1x2048x1x32, .f32⟩
  | 59 => ⟨S8x2048x2x32, .f32⟩
  | 60 => ⟨S8x2048x2x32, .f32⟩
  | 61 => ⟨S8x2048x2x32, .f32⟩
  | 62 => ⟨S1x2048x1x32, .f32⟩
  | 63 => ⟨S8x2048x2x32, .f32⟩
  | 64 => ⟨S8x2048x2x32, .f32⟩
  | 65 => ⟨S1x2048x1x32, .f32⟩
  | 66 => ⟨S8x2048x2x32, .f32⟩
  | 67 => ⟨S8x2048x2x32, .f32⟩
  | 68 => ⟨S8x2048x2x32, .f32⟩
  | 69 => ⟨S8x2048x2x64, .f32⟩
  | 70 => ⟨S16384x128, .f32⟩
  | 71 => ⟨S16384x2816, .f32⟩
  | 72 => ⟨S16384x2816, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_4 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_6 : Ref sig .tc := ⟨.hbm, 69, rfl⟩
abbrev main_v60 : Ref sig .tc := ⟨.hbm, 70, rfl⟩
abbrev main_v61 : Ref sig .tc := ⟨.hbm, 71, rfl⟩
abbrev main_cst_7 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_8 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_9 : Ref sig .tc := ⟨.hbm, 109, rfl⟩
abbrev main_v97 : Ref sig .tc := ⟨.hbm, 110, rfl⟩
abbrev main_v98 : Ref sig .tc := ⟨.hbm, 111, rfl⟩
abbrev main_cst_10 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_cst_11 : Ref sig .tc := ⟨.hbm, 116, rfl⟩
abbrev main_v102 : Ref sig .tc := ⟨.hbm, 117, rfl⟩
abbrev main_v103 : Ref sig .tc := ⟨.hbm, 118, rfl⟩
abbrev main_cst_12 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_cst_13 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_cst_14 : Ref sig .tc := ⟨.hbm, 156, rfl⟩
abbrev main_v139 : Ref sig .tc := ⟨.hbm, 157, rfl⟩
abbrev main_v140 : Ref sig .tc := ⟨.hbm, 158, rfl⟩
abbrev main_cst_15 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_cst_16 : Ref sig .tc := ⟨.hbm, 163, rfl⟩
abbrev main_v144 : Ref sig .tc := ⟨.hbm, 164, rfl⟩
abbrev main_v145 : Ref sig .tc := ⟨.hbm, 165, rfl⟩
abbrev main_cst_17 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩

abbrev nD : Nat := 1
abbrev τ : Topo := Topo.v7x

variable {F : FTy → Type} [FloatOps F]
-- ==== OutProj.lean ====
abbrev S16384x256 : Shape := ⟨2, ![16384, 256]⟩
abbrev S1024x1024 : Shape := ⟨2, ![1024, 1024]⟩
abbrev S16384x1024 : Shape := ⟨2, ![16384, 1024]⟩
abbrev S1024 : Shape := ⟨1, ![1024]⟩
abbrev S1x1024 : Shape := ⟨2, ![1, 1024]⟩
abbrev S512x256 : Shape := ⟨2, ![512, 256]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRef.lean ====
abbrev S16384x256 : Shape := ⟨2, ![16384, 256]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S1024x1024, .f32⟩
  | .hbm, ⟨5, _⟩ => ⟨S16384x1024, .f32⟩
  | .hbm, ⟨6, _⟩ => ⟨S1024, .f32⟩
  | .hbm, ⟨7, _⟩ => ⟨S1024, .f32⟩
  | .hbm, ⟨8, _⟩ => ⟨S16384x1024, .bf16⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x1024, .bf16⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Experts.lean ====
abbrev S16384x1024 : Shape := ⟨2, ![16384, 1024]⟩
abbrev S1279x128 : Shape := ⟨2, ![1279, 128]⟩
abbrev S1279 : Shape := ⟨1, ![1279]⟩
abbrev S1 : Shape := ⟨1, ![1]⟩
abbrev S256x1024x256 : Shape := ⟨3, ![256, 1024, 256]⟩
abbrev S256x256x1024 : Shape := ⟨3, ![256, 256, 1024]⟩
abbrev S163712x1024 : Shape := ⟨2, ![163712, 1024]⟩
abbrev S1x1024x256 : Shape := ⟨3, ![1, 1024, 256]⟩
abbrev S1x256x1024 : Shape := ⟨3, ![1, 256, 1024]⟩
abbrev S128x1024 : Shape := ⟨2, ![128, 1024]⟩
abbrev S2x128 : Shape := ⟨2, ![2, 128]⟩
abbrev S2x128x1024 : Shape := ⟨3, ![2, 128, 1024]⟩
abbrev S2 : Shape := ⟨1, ![2]⟩
abbrev S_ : Shape := ⟨0, ![]⟩
abbrev S1x128 : Shape := ⟨2, ![1, 128]⟩
abbrev S128 : Shape := ⟨1, ![128]⟩
abbrev S1x1 : Shape := ⟨2, ![1, 1]⟩
abbrev S1x1x1024 : Shape := ⟨3, ![1, 1, 1024]⟩
abbrev S1x1024 : Shape := ⟨2, ![1, 1024]⟩
abbrev S1x128x1024 : Shape := ⟨3, ![1, 128, 1024]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 6
  | .vmem => 9
  | .smem => 3
  | _ => 0

abbrev bufTy : (tb : Table) → Fin (tcTables nBuf tb) → BufTy
  | .hbm, ⟨0, _⟩ => ⟨S16384x1024, .f32⟩
  | .hbm, ⟨1, _⟩ => ⟨S1279x128, .i32⟩
  | .hbm, ⟨2, _⟩ => ⟨S256x1024x256, .f32⟩
  | .hbm, ⟨3, _⟩ => ⟨S256x1024x256, .f32⟩
  | .hbm, ⟨4, _⟩ => ⟨S256x256x1024, .f32⟩
  | .hbm, ⟨5, _⟩ => ⟨S163712x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x256x1024, .f32⟩
  | .local _ .vmem, ⟨5, _⟩ => ⟨S1x256x1024, .f32⟩
  | .local _ .vmem, ⟨6, _⟩ => ⟨S128x1024, .f32⟩
  | .local _ .vmem, ⟨7, _⟩ => ⟨S128x1024, .f32⟩
  | .local _ .vmem, ⟨8, _⟩ => ⟨S2x128x1024, .f32⟩
  | .local _ .smem, ⟨0, _⟩ => ⟨S1279, .i32⟩
  | .local _ .smem, ⟨1, _⟩ => ⟨S1, .i32⟩
  | .local _ .smem, ⟨2, _⟩ => ⟨S2x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch1 : Ref sig .tc := ⟨.vmem, 8, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1279], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c128_i32_34 : BitVec 32 := 128#32
  let v53 : BitVec 32 := Scalar.addi c0_i32_33 c128_i32_34
  let c1_i32_35 : BitVec 32 := 1#32
  ⟨c0_i32_33, v53, c1_i32_35⟩
def k0_off2 (k0_t1 : Fin k0_t1_loop.trips) : Fin 2 → Nat :=
  let c0_42 : Index := 0#32
  let c0_i32_33 : BitVec 32 := 0#32
  let c1_i32_35 : BitVec 32 := 1#32
  let arg13 : BitVec 32 := Scf.iv c0_i32_33 c1_i32_35 k0_t1
  let v60 : Index := Scalar.indexCast arg13
  ![0, v60.toNat]
def k0_off3 (k0_t1 : Fin k0_t1_loop.trips) : Fin 3 → Nat :=
  let c0_i32_43 : BitVec 32 := 0#32
  let c0_i32_33 : BitVec 32 := 0#32
  let c1_i32_35 : BitVec 32 := 1#32
  let arg13 : BitVec 32 := Scf.iv c0_i32_33 c1_i32_35 k0_t1
  let c0_i32_45 : BitVec 32 := 0#32
  ![0, arg13.toNat, 0]
def k0_off4 (v61 : BitVec 32) : Fin 2 → Nat :=
  let c0_i32_46 : BitVec 32 := 0#32
  ![v61.toNat, 0]

def k0_chk1 (i : grid0.Coords) (v61 : BitVec 32) : Prop :=
  (∀ (k0_h1 : k0_cond1 i = 1#1), ∀ a, (k0_off4 v61) a + S1x1024.size a ≤ S16384x1024.size a)
theorem k0_off4_inb : ∀ (i : grid0.Coords) (v61 : BitVec 32) (k0_hw1 : k0_chk1 i v61), ∀ (k0_h1 : k0_cond1 i = 1#1), ∀ a, (k0_off4 v61) a + S1x1024.size a ≤ S16384x1024.size a := fun i v61 k0_hw1 k0_h1 => k0_hw1 k0_h1

def k0_cond2 (i : grid0.Coords) : BitVec 1 :=
  let arg0 : BitVec 32 := BitVec.ofNat 32 (i 0).val
  let c1_i32_12 : BitVec 32 := 1#32
  let v24 : BitVec 32 := Scalar.addi arg0 c1_i32_12
  let c1279_i32 : BitVec 32 := 1279#32
  let v25 : BitVec 1 := Scalar.cmpi .slt v24 c1279_i32
  let v26 : BitVec 32 := Scalar.extui v25
  let c0_i32_13 : BitVec 32 := 0#32
  let v27 : BitVec 1 := Scalar.cmpi .ne v26 c0_i32_13
  v27

def k0_off5 (i : grid0.Coords) : Fin 1 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off6 (i : grid0.Coords) : Fin 2 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_24 : BitVec 32 := 0#32
  ![v13.toNat, 0]
def k0_off7 (i : grid0.Coords) : Fin 2 → Nat :=
  let arg0 : BitVec 32 := BitVec.ofNat 32 (i 0).val
  let c1_i32_23 : BitVec 32 := 1#32
  let v41 : BitVec 32 := Scalar.addi arg0 c1_i32_23
  let c0_i32_25 : BitVec 32 := 0#32
  ![v41.toNat, 0]
@[reducible] def k0_t2_loop : Scf.Loop 32 :=
  let c0_i32_26 : BitVec 32 := 0#32
  let c128_i32_27 : BitVec 32 := 128#32
  let v48 : BitVec 32 := Scalar.addi c0_i32_26 c128_i32_27
  let c1_i32_28 : BitVec 32 := 1#32
  ⟨c0_i32_26, v48, c1_i32_28⟩
def k0_off8 (i : grid0.Coords) (k0_t2 : Fin k0_t2_loop.trips) : Fin 2 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v49 : Index := Scalar.indexCast v13
  let c0_i32_26 : BitVec 32 := 0#32
  let c1_i32_28 : BitVec 32 := 1#32
  let arg13 : BitVec 32 := Scf.iv c0_i32_26 c1_i32_28 k0_t2
  let v50 : Index := Scalar.indexCast arg13
  ![v49.toNat, v50.toNat]
def k0_off9 (i : grid0.Coords) : Fin 1 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off10 (i : grid0.Coords) (k0_t2 : Fin k0_t2_loop.trips) : Fin 3 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_26 : BitVec 32 := 0#32
  let c1_i32_28 : BitVec 32 := 1#32
  let arg13 : BitVec 32 := Scf.iv c0_i32_26 c1_i32_28 k0_t2
  let c0_i32_30 : BitVec 32 := 0#32
  ![v13.toNat, arg13.toNat, 0]
def k0_off11 (v51 : BitVec 32) : Fin 2 → Nat :=
  let c0_i32_31 : BitVec 32 := 0#32
  ![v51.toNat, 0]

def k0_chk2 (i : grid0.Coords) (v51 : BitVec 32) : Prop :=
  (∀ (k0_h2 : k0_cond2 i = 1#1), ∀ a, (k0_off11 v51) a + S1x1024.size a ≤ S16384x1024.size a)
theorem k0_off11_inb : ∀ (i : grid0.Coords) (v51 : BitVec 32) (k0_hw2 : k0_chk2 i v51), ∀ (k0_h2 : k0_cond2 i = 1#1), ∀ a, (k0_off11 v51) a + S1x1024.size a ≤ S16384x1024.size a := fun i v51 k0_hw2 k0_h2 => k0_hw2 k0_h2

@[reducible] def k0_t3_loop : Scf.Loop 32 :=
  let c0_i32_14 : BitVec 32 := 0#32
  let c128_i32 : BitVec 32 := 128#32
  let v28 : BitVec 32 := Scalar.addi c0_i32_14 c128_i32
  let c1_i32_15 : BitVec 32 := 1#32
  ⟨c0_i32_14, v28, c1_i32_15⟩
def k0_off12 (i : grid0.Coords) (k0_t3 : Fin k0_t3_loop.trips) : Fin 2 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v41 : Index := Scalar.indexCast v23
  let c0_i32_14 : BitVec 32 := 0#32
  let c1_i32_15 : BitVec 32 := 1#32
  let arg13 : BitVec 32 := Scf.iv c0_i32_14 c1_i32_15 k0_t3
  let v42 : Index := Scalar.indexCast arg13
  ![v41.toNat, v42.toNat]
def k0_off13 (i : grid0.Coords) : Fin 1 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  ![v23.toNat]
def k0_off14 (i : grid0.Coords) (k0_t3 : Fin k0_t3_loop.trips) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_14 : BitVec 32 := 0#32
  let c1_i32_15 : BitVec 32 := 1#32
  let arg13 : BitVec 32 := Scf.iv c0_i32_14 c1_i32_15 k0_t3
  let c0_i32_23 : BitVec 32 := 0#32
  ![v23.toNat, arg13.toNat, 0]
def k0_off15 (v43 : BitVec 32) : Fin 2 → Nat :=
  let c0_i32_24 : BitVec 32 := 0#32
  ![v43.toNat, 0]

def k0_chk3 (v43 : BitVec 32) : Prop :=
  (∀ a, (k0_off15 v43) a + S1x1024.size a ≤ S16384x1024.size a)
theorem k0_off15_inb : ∀ (v43 : BitVec 32) (k0_hw3 : k0_chk3 v43), ∀ a, (k0_off15 v43) a + S1x1024.size a ≤ S16384x1024.size a := fun v43 k0_hw3 => k0_hw3

def k0_cond3 (i : grid0.Coords) : BitVec 1 :=
  let arg0 : BitVec 32 := BitVec.ofNat 32 (i 0).val
  let c2_i32_17 : BitVec 32 := 2#32
  let v29 : BitVec 32 := Scalar.addi arg0 c2_i32_17
  let c1279_i32_18 : BitVec 32 := 1279#32
  let v30 : BitVec 1 := Scalar.cmpi .slt v29 c1279_i32_18
  let v31 : BitVec 32 := Scalar.extui v30
  let c0_i32_19 : BitVec 32 := 0#32
  let v32 : BitVec 1 := Scalar.cmpi .ne v31 c0_i32_19
  v32

def k0_off16 (i : grid0.Coords) : Fin 1 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  ![v23.toNat]
def k0_off17 (i : grid0.Coords) : Fin 2 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_24 : BitVec 32 := 0#32
  ![v23.toNat, 0]
def k0_off18 (i : grid0.Coords) : Fin 2 → Nat :=
  let arg0 : BitVec 32 := BitVec.ofNat 32 (i 0).val
  let c2_i32_23 : BitVec 32 := 2#32
  let v41 : BitVec 32 := Scalar.addi arg0 c2_i32_23
  let c0_i32_25 : BitVec 32 := 0#32
  ![v41.toNat, 0]
def k0_off19 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v41 : Index := Scalar.indexCast v23
  let c0_23 : Index := 0#32
  let c0_24 : Index := 0#32
  ![v41.toNat, 0, 0]
def k0_cond4 (i : grid0.Coords) (v33 : BitVec 32) : BitVec 1 :=
  let arg0 : BitVec 32 := BitVec.ofNat 32 (i 0).val
  let v34 : BitVec 1 := Scalar.cmpi .slt arg0 v33
  let v35 : BitVec 32 := Scalar.extui v34
  let c0_i32_20 : BitVec 32 := 0#32
  let v36 : BitVec 1 := Scalar.cmpi .ne v35 c0_i32_20
  v36

def k0_cond5 (i : grid0.Coords) (v37 : BitVec 32) : BitVec 1 :=
  let arg0 : BitVec 32 := BitVec.ofNat 32 (i 0).val
  let v38 : BitVec 1 := Scalar.cmpi .sge arg0 v37
  let v39 : BitVec 32 := Scalar.extui v38
  let c0_i32_22 : BitVec 32 := 0#32
  let v40 : BitVec 1 := Scalar.cmpi .ne v39 c0_i32_22
  v40

def cc0_transform_2 (k0_off1_inb : ∀ i : grid0.Coords, ∀ a, (k0_off1 i) a + S1.size a ≤ S1279.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1279) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1279.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1279) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1279.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1279) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRef.lean ====
abbrev S16384x1024 : Shape := ⟨2, ![16384, 1024]⟩
abbrev S1279x128 : Shape := ⟨2, ![1279, 128]⟩
abbrev S1279 : Shape := ⟨1, ![1279]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩
abbrev S1279x128x1 : Shape := ⟨3, ![1279, 128, 1]⟩
abbrev S1279x128x1024 : Shape := ⟨3, ![1279, 128, 1024]⟩
abbrev S1279x1 : Shape := ⟨2, ![1279, 1]⟩
abbrev S1279x1024x256 : Shape := ⟨3, ![1279, 1024, 256]⟩
abbrev S1279x128x256 : Shape := ⟨3, ![1279, 128, 256]⟩
abbrev S1279x256x1024 : Shape := ⟨3, ![1279, 256, 1024]⟩
abbrev S1279x1x1 : Shape := ⟨3, ![1279, 1, 1]⟩
abbrev S163712x1024 : Shape := ⟨2, ![163712, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1279x128, .i32⟩
  | .hbm, ⟨2, _⟩ => ⟨S1279, .i32⟩
  | .hbm, ⟨3, _⟩ => ⟨S1, .i32⟩
  | .hbm, ⟨4, _⟩ => ⟨S256x1024x256, .f32⟩
  | .hbm, ⟨5, _⟩ => ⟨S256x1024x256, .f32⟩
  | .hbm, ⟨6, _⟩ => ⟨S256x256x1024, .f32⟩
  | .hbm, ⟨7, _⟩ => ⟨S_, .i32⟩
  | .hbm, ⟨8, _⟩ => ⟨S1279x128, .i32⟩
  | .hbm, ⟨9, _⟩ => ⟨S1279x128, .i1⟩
  | .hbm, ⟨10, _⟩ => ⟨S_, .i32⟩
  | .hbm, ⟨11, _⟩ => ⟨S1279x128, .i32⟩
  | .hbm, ⟨12, _⟩ => ⟨S1279x128, .i32⟩
  | .hbm, ⟨13, _⟩ => ⟨S1279x128, .i32⟩
  | .hbm, ⟨14, _⟩ => ⟨S1279x128x1, .i32⟩
  | .hbm, ⟨15, _⟩ => ⟨S1279x128x1024, .f32⟩
  | .hbm, ⟨16, _⟩ => ⟨S1279x128x1024, .bf16⟩
  | .hbm, ⟨17, _⟩ => ⟨S_, .i32⟩
  | .hbm, ⟨18, _⟩ => ⟨S1279, .i32⟩
  | .hbm, ⟨19, _⟩ => ⟨S1279, .i1⟩
  | .hbm, ⟨20, _⟩ => ⟨S_, .i32⟩
  | .hbm, ⟨21, _⟩ => ⟨S1279, .i32⟩
  | .hbm, ⟨22, _⟩ => ⟨S1279, .i32⟩
  | .hbm, ⟨23, _⟩ => ⟨S1279, .i32⟩
  | .hbm, ⟨24, _⟩ => ⟨S1279x1, .i32⟩
  | .hbm, ⟨25, _⟩ => ⟨S1279x1024x256, .f32⟩
  | .hbm, ⟨26, _⟩ => ⟨S1279x1024x256, .bf16⟩
  | .hbm, ⟨27, _⟩ => ⟨S1279x128x256, .f32⟩
  | .hbm, ⟨28, _⟩ => ⟨S_, .i32⟩
  | .hbm, ⟨29, _⟩ => ⟨S1279, .i32⟩
  | .hbm, ⟨30, _⟩ => ⟨S1279, .i1⟩
  | .hbm, ⟨31, _⟩ => ⟨S_, .i32⟩
  | .hbm, ⟨32, _⟩ => ⟨S1279, .i32⟩
  | .hbm, ⟨33, _⟩ => ⟨S1279, .i32⟩
  | .hbm, ⟨34, _⟩ => ⟨S1279, .i32⟩
  | .hbm, ⟨35, _⟩ => ⟨S1279x1, .i32⟩
  | .hbm, ⟨36, _⟩ => ⟨S1279x1024x256, .f32⟩
  | .hbm, ⟨37, _⟩ => ⟨S1279x1024x256, .bf16⟩
  | .hbm, ⟨38, _⟩ => ⟨S1279x128x256, .f32⟩
  | .hbm, ⟨39, _⟩ => ⟨S1279x128x256, .f32⟩
  | .hbm, ⟨40, _⟩ => ⟨S1279x128x256, .f32⟩
  | .hbm, ⟨41, _⟩ => ⟨S_, .f32⟩
  | .hbm, ⟨42, _⟩ => ⟨S1279x128x256, .f32⟩
  | .hbm, ⟨43, _⟩ => ⟨S1279x128x256, .f32⟩
  | .hbm, ⟨44, _⟩ => ⟨S_, .f32⟩
  | .hbm, ⟨45, _⟩ => ⟨S1279x128x256, .f32⟩
  | .hbm, ⟨46, _⟩ => ⟨S1279x128x256, .f32⟩
  | .hbm, ⟨47, _⟩ => ⟨S1279x128x256, .f32⟩
  | .hbm, ⟨48, _⟩ => ⟨S1279x128x256, .f32⟩
  | .hbm, ⟨49, _⟩ => ⟨S1279x128x256, .bf16⟩
  | .hbm, ⟨50, _⟩ => ⟨S_, .i32⟩
  | .hbm, ⟨51, _⟩ => ⟨S1279, .i32⟩
  | .hbm, ⟨52, _⟩ => ⟨S1279, .i1⟩
  | .hbm, ⟨53, _⟩ => ⟨S_, .i32⟩
  | .hbm, ⟨54, _⟩ => ⟨S1279, .i32⟩
  | .hbm, ⟨55, _⟩ => ⟨S1279, .i32⟩
  | .hbm, ⟨56, _⟩ => ⟨S1279, .i32⟩
  | .hbm, ⟨57, _⟩ => ⟨S1279x1, .i32⟩
  | .hbm, ⟨58, _⟩ => ⟨S1279x256x1024, .f32⟩
  | .hbm, ⟨59, _⟩ => ⟨S1279x256x1024, .bf16⟩
  | .hbm, ⟨60, _⟩ => ⟨S1279x128x1024, .f32⟩
  | .hbm, ⟨61, _⟩ => ⟨S1279, .i32⟩
  | .hbm, ⟨62, _⟩ => ⟨S_, .i32⟩
  | .hbm, ⟨63, _⟩ => ⟨S1279, .i32⟩
  | .hbm, ⟨64, _⟩ => ⟨S1279, .i1⟩
  | .hbm, ⟨65, _⟩ => ⟨S1279x1x1, .i1⟩
  | .hbm, ⟨66, _⟩ => ⟨S_, .f32⟩
  | .hbm, ⟨67, _⟩ => ⟨S_, .f32⟩
  | .hbm, ⟨68, _⟩ => ⟨S1279x128x1024, .i1⟩
  | .hbm, ⟨69, _⟩ => ⟨S1279x128x1024, .f32⟩
  | .hbm, ⟨70, _⟩ => ⟨S1279x128x1024, .f32⟩
  | .hbm, ⟨71, _⟩ => ⟨S163712x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Combine.lean ====
abbrev S163712x1024 : Shape := ⟨2, ![163712, 1024]⟩
abbrev S256x512 : Shape := ⟨2, ![256, 512]⟩
abbrev S16384x1024 : Shape := ⟨2, ![16384, 1024]⟩
abbrev S16384x128 : Shape := ⟨2, ![16384, 128]⟩
abbrev S1024x256 : Shape := ⟨2, ![1024, 256]⟩
abbrev S256x1024 : Shape := ⟨2, ![256, 1024]⟩
abbrev S1x1024 : Shape := ⟨2, ![1, 1024]⟩
abbrev S64x1024 : Shape := ⟨2, ![64, 1024]⟩
abbrev S64x128 : Shape := ⟨2, ![64, 128]⟩
abbrev S2x512 : Shape := ⟨2, ![2, 512]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512 : Shape := ⟨2, ![1, 512]⟩
abbrev S512 : Shape := ⟨1, ![512]⟩
abbrev S1x1 : Shape := ⟨2, ![1, 1]⟩
abbrev S1x1x1024 : Shape := ⟨3, ![1, 1, 1024]⟩
abbrev S64x256 : Shape := ⟨2, ![64, 256]⟩
abbrev S1x64x1024 : Shape := ⟨3, ![1, 64, 1024]⟩
abbrev S64x1 : Shape := ⟨2, ![64, 1]⟩
abbrev S64 : Shape := ⟨1, ![64]⟩

abbrev nBuf : Space → Nat
  | .hbm => 10
  | .vmem => 12
  | .smem => 1
  | _ => 0

abbrev bufTy : (tb : Table) → Fin (tcTables nBuf tb) → BufTy
  | .hbm, ⟨0, _⟩ => ⟨S163712x1024, .f32⟩
  | .hbm, ⟨1, _⟩ => ⟨S256x512, .i32⟩
  | .hbm, ⟨2, _⟩ => ⟨S16384x1024, .f32⟩
  | .hbm, ⟨3, _⟩ => ⟨S16384x128, .f32⟩
  | .hbm, ⟨4, _⟩ => ⟨S1024x256, .bf16⟩
  | .hbm, ⟨5, _⟩ => ⟨S1024x256, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S64x1024, .f32⟩
  | .local _ .vmem, ⟨1, _⟩ => ⟨S64x1024, .f32⟩
  | .local _ .vmem, ⟨2, _⟩ => ⟨S64x128, .f32⟩
  | .local _ .vmem, ⟨3, _⟩ => ⟨S64x128, .f32⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S64x1024, .f32⟩
  | .local _ .vmem, ⟨10, _⟩ => ⟨S64x1024, .f32⟩
  | .local _ .vmem, ⟨11, _⟩ => ⟨S2x512x1024, .f32⟩
  | .local _ .smem, ⟨0, _⟩ => ⟨S2x512, .i32⟩
  | _, _ => ⟨S163712x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch1 : Ref sig .tc := ⟨.vmem, 11, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_65 : BitVec 32 := 0#32
  let c512_i32_66 : BitVec 32 := 512#32
  let v146 : BitVec 32 := Scalar.addi c0_i32_65 c512_i32_66
  let c1_i32_67 : BitVec 32 := 1#32
  ⟨c0_i32_65, v146, c1_i32_67⟩
def k0_off1 (k0_t1 : Fin k0_t1_loop.trips) : Fin 2 → Nat :=
  let c0_74 : Index := 0#32
  let c0_i32_65 : BitVec 32 := 0#32
  let c1_i32_67 : BitVec 32 := 1#32
  let arg15 : BitVec 32 := Scf.iv c0_i32_65 c1_i32_67 k0_t1
  let v153 : Index := Scalar.indexCast arg15
  ![0, v153.toNat]
def k0_off2 (k0_t1 : Fin k0_t1_loop.trips) : Fin 3 → Nat :=
  let c0_i32_75 : BitVec 32 := 0#32
  let c0_i32_65 : BitVec 32 := 0#32
  let c1_i32_67 : BitVec 32 := 1#32
  let arg15 : BitVec 32 := Scf.iv c0_i32_65 c1_i32_67 k0_t1
  let c0_i32_77 : BitVec 32 := 0#32
  ![0, arg15.toNat, 0]
def k0_off3 (v154 : BitVec 32) : Fin 2 → Nat :=
  let c0_i32_78 : BitVec 32 := 0#32
  ![v154.toNat, 0]

def k0_chk1 (i : grid0.Coords) (v154 : BitVec 32) : Prop :=
  (∀ (k0_h1 : k0_cond1 i = 1#1), ∀ a, (k0_off3 v154) a + S1x1024.size a ≤ S163712x1024.size a)
theorem k0_off3_inb : ∀ (i : grid0.Coords) (v154 : BitVec 32) (k0_hw1 : k0_chk1 i v154), ∀ (k0_h1 : k0_cond1 i = 1#1), ∀ a, (k0_off3 v154) a + S1x1024.size a ≤ S163712x1024.size a := fun i v154 k0_hw1 k0_h1 => k0_hw1 k0_h1

def k0_cond2 (i : grid0.Coords) : BitVec 1 :=
  let arg0 : BitVec 32 := BitVec.ofNat 32 (i 0).val
  let c1_i32_12 : BitVec 32 := 1#32
  let v24 : BitVec 32 := Scalar.addi arg0 c1_i32_12
  let c256_i32 : BitVec 32 := 256#32
  let v25 : BitVec 1 := Scalar.cmpi .slt v24 c256_i32
  let v26 : BitVec 32 := Scalar.extui v25
  let c0_i32_13 : BitVec 32 := 0#32
  let v27 : BitVec 1 := Scalar.cmpi .ne v26 c0_i32_13
  v27

def k0_off4 (i : grid0.Coords) : Fin 1 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off5 (i : grid0.Coords) : Fin 2 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_56 : BitVec 32 := 0#32
  ![v13.toNat, 0]
def k0_off6 (i : grid0.Coords) : Fin 2 → Nat :=
  let arg0 : BitVec 32 := BitVec.ofNat 32 (i 0).val
  let c1_i32_55 : BitVec 32 := 1#32
  let v134 : BitVec 32 := Scalar.addi arg0 c1_i32_55
  let c0_i32_57 : BitVec 32 := 0#32
  ![v134.toNat, 0]
@[reducible] def k0_t2_loop : Scf.Loop 32 :=
  let c0_i32_58 : BitVec 32 := 0#32
  let c512_i32_59 : BitVec 32 := 512#32
  let v141 : BitVec 32 := Scalar.addi c0_i32_58 c512_i32_59
  let c1_i32_60 : BitVec 32 := 1#32
  ⟨c0_i32_58, v141, c1_i32_60⟩
def k0_off7 (i : grid0.Coords) (k0_t2 : Fin k0_t2_loop.trips) : Fin 2 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v142 : Index := Scalar.indexCast v13
  let c0_i32_58 : BitVec 32 := 0#32
  let c1_i32_60 : BitVec 32 := 1#32
  let arg15 : BitVec 32 := Scf.iv c0_i32_58 c1_i32_60 k0_t2
  let v143 : Index := Scalar.indexCast arg15
  ![v142.toNat, v143.toNat]
def k0_off8 (i : grid0.Coords) : Fin 1 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off9 (i : grid0.Coords) (k0_t2 : Fin k0_t2_loop.trips) : Fin 3 → Nat :=
  let arg0 : BitVec 32 := BitVec.ofNat 32 (i 0).val
  let c1_i32 : BitVec 32 := 1#32
  let v3 : BitVec 32 := Scalar.addi arg0 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_58 : BitVec 32 := 0#32
  let c1_i32_60 : BitVec 32 := 1#32
  let arg15 : BitVec 32 := Scf.iv c0_i32_58 c1_i32_60 k0_t2
  let c0_i32_62 : BitVec 32 := 0#32
  ![v13.toNat, arg15.toNat, 0]
def k0_off10 (v144 : BitVec 32) : Fin 2 → Nat :=
  let c0_i32_63 : BitVec 32 := 0#32
  ![v144.toNat, 0]

def k0_chk2 (i : grid0.Coords) (v144 : BitVec 32) : Prop :=
  (∀ (k0_h2 : k0_cond2 i = 1#1), ∀ a, (k0_off10 v144) a + S1x1024.size a ≤ S163712x1024.size a)
theorem k0_off10_inb : ∀ (i : grid0.Coords) (v144 : BitVec 32) (k0_hw2 : k0_chk2 i v144), ∀ (k0_h2 : k0_cond2 i = 1#1), ∀ a, (k0_off10 v144) a + S1x1024.size a ≤ S163712x1024.size a := fun i v144 k0_hw2 k0_h2 => k0_hw2 k0_h2

@[reducible] def k0_t3_loop : Scf.Loop 32 :=
  let c0_i32_14 : BitVec 32 := 0#32
  let c512_i32 : BitVec 32 := 512#32
  let v28 : BitVec 32 := Scalar.addi c0_i32_14 c512_i32
  let c1_i32_15 : BitVec 32 := 1#32
  ⟨c0_i32_14, v28, c1_i32_15⟩
def k0_off11 (i : grid0.Coords) (k0_t3 : Fin k0_t3_loop.trips) : Fin 2 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v134 : Index := Scalar.indexCast v23
  let c0_i32_14 : BitVec 32 := 0#32
  let c1_i32_15 : BitVec 32 := 1#32
  let arg15 : BitVec 32 := Scf.iv c0_i32_14 c1_i32_15 k0_t3
  let v135 : Index := Scalar.indexCast arg15
  ![v134.toNat, v135.toNat]
def k0_off12 (i : grid0.Coords) : Fin 1 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  ![v23.toNat]
def k0_off13 (i : grid0.Coords) (k0_t3 : Fin k0_t3_loop.trips) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_14 : BitVec 32 := 0#32
  let c1_i32_15 : BitVec 32 := 1#32
  let arg15 : BitVec 32 := Scf.iv c0_i32_14 c1_i32_15 k0_t3
  let c0_i32_55 : BitVec 32 := 0#32
  ![v23.toNat, arg15.toNat, 0]
def k0_off14 (v136 : BitVec 32) : Fin 2 → Nat :=
  let c0_i32_56 : BitVec 32 := 0#32
  ![v136.toNat, 0]

def k0_chk3 (v136 : BitVec 32) : Prop :=
  (∀ a, (k0_off14 v136) a + S1x1024.size a ≤ S163712x1024.size a)
theorem k0_off14_inb : ∀ (v136 : BitVec 32) (k0_hw3 : k0_chk3 v136), ∀ a, (k0_off14 v136) a + S1x1024.size a ≤ S163712x1024.size a := fun v136 k0_hw3 => k0_hw3

def k0_cond3 (i : grid0.Coords) : BitVec 1 :=
  let arg0 : BitVec 32 := BitVec.ofNat 32 (i 0).val
  let c2_i32_17 : BitVec 32 := 2#32
  let v29 : BitVec 32 := Scalar.addi arg0 c2_i32_17
  let c256_i32_18 : BitVec 32 := 256#32
  let v30 : BitVec 1 := Scalar.cmpi .slt v29 c256_i32_18
  let v31 : BitVec 32 := Scalar.extui v30
  let c0_i32_19 : BitVec 32 := 0#32
  let v32 : BitVec 1 := Scalar.cmpi .ne v31 c0_i32_19
  v32

def k0_off15 (i : grid0.Coords) : Fin 1 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  ![v23.toNat]
def k0_off16 (i : grid0.Coords) : Fin 2 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_56 : BitVec 32 := 0#32
  ![v23.toNat, 0]
def k0_off17 (i : grid0.Coords) : Fin 2 → Nat :=
  let arg0 : BitVec 32 := BitVec.ofNat 32 (i 0).val
  let c2_i32_55 : BitVec 32 := 2#32
  let v134 : BitVec 32 := Scalar.addi arg0 c2_i32_55
  let c0_i32_57 : BitVec 32 := 0#32
  ![v134.toNat, 0]
def k0_off18 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v55 : Index := Scalar.indexCast v23
  let c0_35 : Index := 0#32
  let c0_36 : Index := 0#32
  ![v55.toNat, 0, 0]
def k0_off19 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v62 : Index := Scalar.indexCast v23
  let c64 : Index := 64#32
  let c0_37 : Index := 0#32
  ![v62.toNat, 64, 0]
def k0_off20 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v69 : Index := Scalar.indexCast v23
  let c128 : Index := 128#32
  let c0_38 : Index := 0#32
  ![v69.toNat, 128, 0]
def k0_off21 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v76 : Index := Scalar.indexCast v23
  let c192 : Index := 192#32
  let c0_39 : Index := 0#32
  ![v76.toNat, 192, 0]
def k0_off22 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v83 : Index := Scalar.indexCast v23
  let c256 : Index := 256#32
  let c0_40 : Index := 0#32
  ![v83.toNat, 256, 0]
def k0_off23 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v90 : Index := Scalar.indexCast v23
  let c320 : Index := 320#32
  let c0_41 : Index := 0#32
  ![v90.toNat, 320, 0]
def k0_off24 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v97 : Index := Scalar.indexCast v23
  let c384 : Index := 384#32
  let c0_42 : Index := 0#32
  ![v97.toNat, 384, 0]
def k0_off25 (i : grid0.Coords) : Fin 3 → Nat :=
  let arg0 : BitVec 32 := BitVec.ofNat 32 (i 0).val
  let c2_i32_6 : BitVec 32 := 2#32
  let c0_i32_7 : BitVec 32 := 0#32
  let v14 : BitVec 1 := Scalar.cmpi .eq c2_i32_6 c0_i32_7
  let c1_i32_8 : BitVec 32 := 1#32
  let v15 : BitVec 32 := Scalar.select v14 c1_i32_8 c2_i32_6
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v104 : Index := Scalar.indexCast v23
  let c448 : Index := 448#32
  let c0_43 : Index := 0#32
  ![v104.toNat, 448, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRef.lean ====
abbrev S163712x1024 : Shape := ⟨2, ![163712, 1024]⟩
abbrev S256x512 : Shape := ⟨2, ![256, 512]⟩
abbrev S16384x1024 : Shape := ⟨2, ![16384, 1024]⟩
abbrev S16384x128 : Shape := ⟨2, ![16384, 128]⟩
abbrev S1024x256 : Shape := ⟨2, ![1024, 256]⟩
abbrev S256x1024 : Shape := ⟨2, ![256, 1024]⟩
abbrev S1x1024 : Shape := ⟨2, ![1, 1024]⟩
abbrev S_ : Shape := ⟨0, ![]⟩
abbrev S256x512x1 : Shape := ⟨3, ![256, 512, 1]⟩
abbrev S256x512x1024 : Shape := ⟨3, ![256, 512, 1024]⟩
abbrev S256x8x64x1024 : Shape := ⟨4, ![256, 8, 64, 1024]⟩
abbrev S16384x8 : Shape := ⟨2, ![16384, 8]⟩
abbrev S256x64x8 : Shape := ⟨3, ![256, 64, 8]⟩
abbrev S256x8x64 : Shape := ⟨3, ![256, 8, 64]⟩
abbrev S256x8x64x1 : Shape := ⟨4, ![256, 8, 64, 1]⟩
abbrev S256x64x1024 : Shape := ⟨3, ![256, 64, 1024]⟩
abbrev S16384x256 : Shape := ⟨2, ![16384, 256]⟩
abbrev S16384 : Shape := ⟨1, ![16384]⟩
abbrev S16384x1 : Shape := ⟨2, ![16384, 1]⟩

abbrev nBuf : Space → Nat
  | .hbm => 75
  | .vmem => 0
  | .smem => 0
  | _ => 0

abbrev bufTy : (tb : Table) → Fin (tcTables nBuf tb) → BufTy
  | .hbm, ⟨0, _⟩ => ⟨S163712x1024, .f32⟩
  | .hbm, ⟨1, _⟩ => ⟨S256x512, .i32⟩
  | .hbm, ⟨2, _⟩ => ⟨S16384x1024, .f32⟩
  | .hbm, ⟨3, _⟩ => ⟨S16384x128, .f32⟩
  | .hbm, ⟨4, _⟩ => ⟨S1024x256, .bf16⟩
  | .hbm, ⟨5, _⟩ => ⟨S1024x256, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S_, .i32⟩
  | .hbm, ⟨10, _⟩ => ⟨S256x512, .i32⟩
  | .hbm, ⟨11, _⟩ => ⟨S256x512, .i1⟩
  | .hbm, ⟨12, _⟩ => ⟨S_, .i32⟩
  | .hbm, ⟨13, _⟩ => ⟨S256x512, .i32⟩
  | .hbm, ⟨14, _⟩ => ⟨S256x512, .i32⟩
  | .hbm, ⟨15, _⟩ => ⟨S256x512, .i32⟩
  | .hbm, ⟨16, _⟩ => ⟨S256x512x1, .i32⟩
  | .hbm, ⟨17, _⟩ => ⟨S256x512x1024, .f32⟩
  | .hbm, ⟨18, _⟩ => ⟨S256x8x64x1024, .f32⟩
  | .hbm, ⟨19, _⟩ => ⟨S16384x8, .f32⟩
  | .hbm, ⟨20, _⟩ => ⟨S256x64x8, .f32⟩
  | .hbm, ⟨21, _⟩ => ⟨S256x8x64, .f32⟩
  | .hbm, ⟨22, _⟩ => ⟨S256x8x64x1, .f32⟩
  | .hbm, ⟨23, _⟩ => ⟨S256x8x64x1024, .f32⟩
  | .hbm, ⟨24, _⟩ => ⟨S256x8x64x1024, .f32⟩
  | .hbm, ⟨25, _⟩ => ⟨S_, .f32⟩
  | .hbm, ⟨26, _⟩ => ⟨S256x64x1024, .f32⟩
  | .hbm, ⟨27, _⟩ => ⟨S16384x1024, .f32⟩
  | .hbm, ⟨28, _⟩ => ⟨S16384x1024, .bf16⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S_, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S16384x256, .f32⟩
  | .hbm, ⟨41, _⟩ => ⟨S16384x256, .bf16⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | _, _ => ⟨S163712x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Win.lean ====
abbrev S16384x2816 : Shape := ⟨2, ![16384, 2816]⟩
abbrev S4 : Shape := ⟨1, ![4]⟩
abbrev S16384x256 : Shape := ⟨2, ![16384, 256]⟩
abbrev S256x256 : Shape := ⟨2, ![256, 256]⟩
abbrev S2048x128 : Shape := ⟨2, ![2048, 128]⟩
abbrev S512x128 : Shape := ⟨2, ![512, 128]⟩
abbrev S256x512 : Shape := ⟨2, ![256, 512]⟩
abbrev S256x128 : Shape := ⟨2, ![256, 128]⟩
abbrev S1 : Shape := ⟨1, ![1]⟩
abbrev S256 : Shape := ⟨1, ![256]⟩
abbrev S256x1 : Shape := ⟨2, ![256, 1]⟩

abbrev nBuf : Space → Nat
  | .hbm => 3
  | .vmem => 8
  | .smem => 1
  | _ => 0

abbrev bufTy : (tb : Table) → Fin (tcTables nBuf tb) → BufTy
  | .hbm, ⟨0, _⟩ => ⟨S16384x2816, .bf16⟩
  | .hbm, ⟨1, _⟩ => ⟨S4, .f32⟩
  | .hbm, ⟨2, _⟩ => ⟨S16384x256, .bf16⟩
  | .local _ .vmem, ⟨0, _⟩ => ⟨S256x256, .bf16⟩
  | .local _ .vmem, ⟨1, _⟩ => ⟨S256x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x256, .bf16⟩
  | .local _ .vmem, ⟨7, _⟩ => ⟨S256x256, .bf16⟩
  | .local _ .smem, ⟨0, _⟩ => ⟨S4, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c1536_i32 : BitVec 32 := 1536#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c1536_i32 v2
  v3
def k0_off1 (i : grid0.Coords) : Fin 2 → Nat :=
  let c1536_i32 : BitVec 32 := 1536#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c1536_i32 v2
  let v4 : BitVec 32 := v3
  let v5 : Index := Scalar.indexCast v4
  let c0 : Index := 0#32
  ![v5.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, c21_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WinRef.lean ====
abbrev S16384x2816 : Shape := ⟨2, ![16384, 2816]⟩
abbrev S4 : Shape := ⟨1, ![4]⟩
abbrev S16384x256 : Shape := ⟨2, ![16384, 256]⟩
abbrev S8x2048x4x64 : Shape := ⟨4, ![8, 2048, 4, 64]⟩
abbrev S16384x128 : Shape := ⟨2, ![16384, 128]⟩
abbrev S8x2048x2x64 : Shape := ⟨4, ![8, 2048, 2, 64]⟩
abbrev S8x2048x2x2x64 : Shape := ⟨5, ![8, 2048, 2, 2, 64]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S8x4x2048x2048 : Shape := ⟨4, ![8, 4, 2048, 2048]⟩
abbrev S4x1 : Shape := ⟨2, ![4, 1]⟩
abbrev S8x4x2048 : Shape := ⟨3, ![8, 4, 2048]⟩
abbrev S1x4x1 : Shape := ⟨3, ![1, 4, 1]⟩
abbrev S8x4x2048x1 : Shape := ⟨4, ![8, 4, 2048, 1]⟩
abbrev S8x4x64x2048 : Shape := ⟨4, ![8, 4, 64, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S4, .f32⟩
  | .hbm, ⟨2, _⟩ => ⟨S16384x2816, .f32⟩
  | .hbm, ⟨3, _⟩ => ⟨S16384x256, .f32⟩
  | .hbm, ⟨4, _⟩ => ⟨S8x2048x4x64, .f32⟩
  | .hbm, ⟨5, _⟩ => ⟨S16384x128, .f32⟩
  | .hbm, ⟨6, _⟩ => ⟨S8x2048x2x64, .f32⟩
  | .hbm, ⟨7, _⟩ => ⟨S16384x128, .f32⟩
  | .hbm, ⟨8, _⟩ => ⟨S8x2048x2x64, .f32⟩
  | .hbm, ⟨9, _⟩ => ⟨S8x2048x2x2x64, .f32⟩
  | .hbm, ⟨10, _⟩ => ⟨S8x2048x4x64, .f32⟩
  | .hbm, ⟨11, _⟩ => ⟨S8x2048x2x2x64, .f32⟩
  | .hbm, ⟨12, _⟩ => ⟨S8x2048x4x64, .f32⟩
  | .hbm, ⟨13, _⟩ => ⟨S2048, .i32⟩
  | .hbm, ⟨14, _⟩ => ⟨S_, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i1⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S1x2048, .i32⟩
  | .hbm, ⟨52, _⟩ => ⟨S_, .i32⟩
  | .hbm, ⟨53, _⟩ => ⟨S2048x1, .i32⟩
  | .hbm, ⟨54, _⟩ => ⟨S2048x1, .i32⟩
  | .hbm, ⟨55, _⟩ => ⟨S2048x2048, .i32⟩
  | .hbm, ⟨56, _⟩ => ⟨S2048x2048, .i32⟩
  | .hbm, ⟨57, _⟩ => ⟨S2048x2048, .i1⟩
  | .hbm, ⟨58, _⟩ => ⟨S2048x2048, .i1⟩
  | .hbm, ⟨59, _⟩ => ⟨S2048x1, .i32⟩
  | .hbm, ⟨60, _⟩ => ⟨S1x2048, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S2048x2048, .i32⟩
  | .hbm, ⟨65, _⟩ => ⟨S_, .i32⟩
  | .hbm, ⟨66, _⟩ => ⟨S2048x2048, .i32⟩
  | .hbm, ⟨67, _⟩ => ⟨S2048x2048, .i1⟩
  | .hbm, ⟨68, _⟩ => ⟨S8x4x2048x2048, .f32⟩
  | .hbm, ⟨69, _⟩ => ⟨S_, .f32⟩
  | .hbm, ⟨70, _⟩ => ⟨S_, .f32⟩
  | .hbm, ⟨71, _⟩ => ⟨S8x4x2048x2048, .i1⟩
  | .hbm, ⟨72, _⟩ => ⟨S8x4x2048x2048, .f32⟩
  | .hbm, ⟨73, _⟩ => ⟨S8x4x2048x2048, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4x1, .f32⟩
  | .hbm, ⟨78, _⟩ => ⟨S_, .f32⟩
  | .hbm, ⟨79, _⟩ => ⟨S8x4x2048, .f32⟩
  | .hbm, ⟨80, _⟩ => ⟨S1x4x1, .f32⟩
  | .hbm, ⟨81, _⟩ => ⟨S8x4x2048, .f32⟩
  | .hbm, ⟨82, _⟩ => ⟨S8x4x2048, .f32⟩
  | .hbm, ⟨83, _⟩ => ⟨S8x4x2048x1, .f32⟩
  | .hbm, ⟨84, _⟩ => ⟨S8x4x2048x2048, .f32⟩
  | .hbm, ⟨85, _⟩ => ⟨S8x4x2048x2048, .f32⟩
  | .hbm, ⟨86, _⟩ => ⟨S_, .f32⟩
  | .hbm, ⟨87, _⟩ => ⟨S8x4x2048x2048, .f32⟩
  | .hbm, ⟨88, _⟩ => ⟨S8x4x2048x2048, .f32⟩
  | .hbm, ⟨89, _⟩ => ⟨S_, .f32⟩
  | .hbm, ⟨90, _⟩ => ⟨S_, .f32⟩
  | .hbm, ⟨91, _⟩ => ⟨S8x4x2048x2048, .i1⟩
  | .hbm, ⟨92, _⟩ => ⟨S8x4x2048x2048, .f32⟩
  | .hbm, ⟨93, _⟩ => ⟨S8x4x2048x2048, .f32⟩
  | .hbm, ⟨94, _⟩ => ⟨S_, .f32⟩
  | .hbm, ⟨95, _⟩ => ⟨S8x4x2048, .f32⟩
  | .hbm, ⟨96, _⟩ => ⟨S1x4x1, .f32⟩
  | .hbm, ⟨97, _⟩ => ⟨S8x4x2048, .f32⟩
  | .hbm, ⟨98, _⟩ => ⟨S8x4x2048, .f32⟩
  | .hbm, ⟨99, _⟩ => ⟨S_, .f32⟩
  | .hbm, ⟨100, _⟩ => ⟨S8x4x2048, .f32⟩
  | .hbm, ⟨101, _⟩ => ⟨S8x4x2048, .f32⟩
  | .hbm, ⟨102, _⟩ => ⟨S8x4x2048, .f32⟩
  | .hbm, ⟨103, _⟩ => ⟨S8x4x2048x1, .f32⟩
  | .hbm, ⟨104, _⟩ => ⟨S8x4x2048x2048, .f32⟩
  | .hbm, ⟨105, _⟩ => ⟨S8x4x2048x2048, .f32⟩
  | .hbm, ⟨106, _⟩ => ⟨S8x4x64x2048, .f32⟩
  | .hbm, ⟨107, _⟩ => ⟨S8x2048x4x64, .f32⟩
  | .hbm, ⟨108, _⟩ => ⟨S16384x256, .f32⟩
  | .hbm, ⟨109, _⟩ => ⟨S16384x256, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_c_3 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v39 : Ref sig .tc := ⟨.hbm, 73, rfl⟩
abbrev main_cst_6 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_7 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_8 : Ref sig .tc := ⟨.hbm, 86, rfl⟩
abbrev main_v50 : Ref sig .tc := ⟨.hbm, 87, rfl⟩
abbrev main_v51 : Ref sig .tc := ⟨.hbm, 88, rfl⟩
abbrev main_cst_9 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v52 : Ref sig .tc := ⟨.hbm, 93, rfl⟩
abbrev main_cst_10 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_11 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩

abbrev nD : Nat := 1
abbrev τ : Topo := Topo.v7x

variable {F : FTy → Type} [FloatOps F]
-- ==== Conv.lean ====
abbrev S16384x2816 : Shape := ⟨2, ![16384, 2816]⟩
abbrev S3x768 : Shape := ⟨2, ![3, 768]⟩
abbrev S1x768 : Shape := ⟨2, ![1, 768]⟩
abbrev S16384x256 : Shape := ⟨2, ![16384, 256]⟩
abbrev S2048x768 : Shape := ⟨2, ![2048, 768]⟩
abbrev S2048x256 : Shape := ⟨2, ![2048, 256]⟩
abbrev S512x768 : Shape := ⟨2, ![512, 768]⟩
abbrev S8x768 : Shape := ⟨2, ![8, 768]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S3x768, .f32⟩
  | .hbm, ⟨2, _⟩ => ⟨S1x768, .f32⟩
  | .hbm, ⟨3, _⟩ => ⟨S16384x256, .bf16⟩
  | .hbm, ⟨4, _⟩ => ⟨S16384x256, .bf16⟩
  | .local _ .vmem, ⟨0, _⟩ => ⟨S2048x768, .bf16⟩
  | .local _ .vmem, ⟨1, _⟩ => ⟨S2048x768, .bf16⟩
  | .local _ .vmem, ⟨2, _⟩ => ⟨S3x768, .f32⟩
  | .local _ .vmem, ⟨3, _⟩ => ⟨S1x768, .f32⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRef.lean ====
abbrev S16384x2816 : Shape := ⟨2, ![16384, 2816]⟩
abbrev S3x768 : Shape := ⟨2, ![3, 768]⟩
abbrev S1x768 : Shape := ⟨2, ![1, 768]⟩
abbrev S16384x768 : Shape := ⟨2, ![16384, 768]⟩
abbrev S8x2048x768 : Shape := ⟨3, ![8, 2048, 768]⟩
abbrev S_ : Shape := ⟨0, ![]⟩
abbrev S8x2050x768 : Shape := ⟨3, ![8, 2050, 768]⟩
abbrev S768 : Shape := ⟨1, ![768]⟩
abbrev S1x1x768 : Shape := ⟨3, ![1, 1, 768]⟩
abbrev S8x2048x256 : Shape := ⟨3, ![8, 2048, 256]⟩
abbrev S16384x256 : Shape := ⟨2, ![16384, 256]⟩

abbrev nBuf : Space → Nat
  | .hbm => 41
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S3x768, .f32⟩
  | .hbm, ⟨2, _⟩ => ⟨S1x768, .f32⟩
  | .hbm, ⟨3, _⟩ => ⟨S16384x2816, .f32⟩
  | .hbm, ⟨4, _⟩ => ⟨S16384x768, .f32⟩
  | .hbm, ⟨5, _⟩ => ⟨S8x2048x768, .f32⟩
  | .hbm, ⟨6, _⟩ => ⟨S_, .i32⟩
  | .hbm, ⟨7, _⟩ => ⟨S_, .f32⟩
  | .hbm, ⟨8, _⟩ => ⟨S8x2050x768, .f32⟩
  | .hbm, ⟨9, _⟩ => ⟨S768, .f32⟩
  | .hbm, ⟨10, _⟩ => ⟨S8x2048x768, .f32⟩
  | .hbm, ⟨11, _⟩ => ⟨S1x768, .f32⟩
  | .hbm, ⟨12, _⟩ => ⟨S768, .f32⟩
  | .hbm, ⟨13, _⟩ => ⟨S1x1x768, .f32⟩
  | .hbm, ⟨14, _⟩ => ⟨S8x2048x768, .f32⟩
  | .hbm, ⟨15, _⟩ => ⟨S8x2048x768, .f32⟩
  | .hbm, ⟨16, _⟩ => ⟨S1x1x768, .f32⟩
  | .hbm, ⟨17, _⟩ => ⟨S8x2048x768, .f32⟩
  | .hbm, ⟨18, _⟩ => ⟨S8x2048x768, .f32⟩
  | .hbm, ⟨19, _⟩ => ⟨S8x2048x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S8x2048x768, .f32⟩
  | .hbm, ⟨24, _⟩ => ⟨S8x2048x768, .f32⟩
  | .hbm, ⟨25, _⟩ => ⟨S8x2048x768, .f32⟩
  | .hbm, ⟨26, _⟩ => ⟨S8x2048x768, .f32⟩
  | .hbm, ⟨27, _⟩ => ⟨S1x768, .f32⟩
  | .hbm, ⟨28, _⟩ => ⟨S768, .f32⟩
  | .hbm, ⟨29, _⟩ => ⟨S1x1x768, .f32⟩
  | .hbm, ⟨30, _⟩ => ⟨S8x2048x768, .f32⟩
  | .hbm, ⟨31, _⟩ => ⟨S8x2048x768, .f32⟩
  | .hbm, ⟨32, _⟩ => ⟨S8x2048x768, .f32⟩
  | .hbm, ⟨33, _⟩ => ⟨S8x2048x256, .f32⟩
  | .hbm, ⟨34, _⟩ => ⟨S8x2048x256, .f32⟩
  | .hbm, ⟨35, _⟩ => ⟨S8x2048x256, .f32⟩
  | .hbm, ⟨36, _⟩ => ⟨S8x2048x256, .f32⟩
  | .hbm, ⟨37, _⟩ => ⟨S16384x256, .f32⟩
  | .hbm, ⟨38, _⟩ => ⟨S16384x256, .bf16⟩
  | .hbm, ⟨39, _⟩ => ⟨S16384x256, .f32⟩
  | .hbm, ⟨40, _⟩ => ⟨S16384x256, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.AttnReal.lean ====
/- The real numbers the attention comes to, and the passage from extended reals to them. -/
module

public import Idealize.ShloMosaic.PureOps.Ideal.Laws
public import Idealize.ShloMosaic.Lib.IdealHost

@[expose] public section

noncomputable section

namespace Cert.Proof.Attn

open Idealize.ShloMosaic

/-- A sum of reals is the same sum read in the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many reals is a real. -/
theorem fold_max_coe {n : ℕ} (f : Fin (n + 1) → ℝ) :
    ∃ M : ℝ, Finset.univ.fold max (⊥ : EReal) (fun j => ((f j : ℝ) : EReal)) = (M : EReal) := by
  have hb : Finset.univ.fold max (⊥ : EReal) (fun j => ((f j : ℝ) : EReal)) ≠ ⊥ := by
    intro h
    have h2 : ((f 0 : ℝ) : EReal) ≤ Finset.univ.fold max (⊥ : EReal) (fun j => ((f j : ℝ) : EReal)) :=
      (Finset.le_fold_max _).mpr (Or.inr ⟨0, Finset.mem_univ _, le_rfl⟩)
    rw [h] at h2
    exact absurd (le_bot_iff.mp h2) (EReal.coe_ne_bot _)
  have ht : Finset.univ.fold max (⊥ : EReal) (fun j => ((f j : ℝ) : EReal)) ≠ ⊤ := by
    apply ne_of_lt
    exact (Finset.fold_max_lt _).mpr ⟨bot_lt_top, fun x _ => EReal.coe_lt_top _⟩
  exact ⟨_, (EReal.coe_toReal ht hb).symm⟩

/-- One component's attention over the reals: the values weighted by the base-two softmax of the scores. -/
def att {n : ℕ} (s w : Fin n → ℝ) : ℝ := ∑ j, ((2 : ℝ) ^ s j / ∑ l, (2 : ℝ) ^ s l) * w j

/-- A sum of powers of two is positive. -/
theorem sum_pow_pos {n : ℕ} (s : Fin (n + 1) → ℝ) : 0 < ∑ l, (2 : ℝ) ^ s l :=
  Finset.sum_pos (fun _ _ => Real.rpow_pos_of_pos two_pos _) ⟨0, Finset.mem_univ _⟩

/-- The weights do not depend on the number subtracted from every score. -/
theorem shift_weight {n : ℕ} (s : Fin (n + 1) → ℝ) (M : ℝ) (j : Fin (n + 1)) :
    (2 : ℝ) ^ (s j - M) / (∑ l, (2 : ℝ) ^ (s l - M)) = (2 : ℝ) ^ s j / ∑ l, (2 : ℝ) ^ s l := by
  have h : ∀ l, (2 : ℝ) ^ (s l - M) = (2 : ℝ) ^ s l * ((2 : ℝ) ^ M)⁻¹ := fun l => by
    rw [Real.rpow_sub two_pos, div_eq_mul_inv]
  have hM : ((2 : ℝ) ^ M)⁻¹ ≠ 0 := (inv_pos.mpr (Real.rpow_pos_of_pos two_pos M)).ne'
  simp only [h]
  rw [← Finset.sum_mul, mul_div_mul_right _ _ hM]

/-- The sum weighted by the exponentials, times the reciprocal of their sum, is the attention. -/
theorem att_shift {n : ℕ} (s w : Fin (n + 1) → ℝ) (M : ℝ) :
    (∑ j, (2 : ℝ) ^ (s j - M) * w j) * (1 / ∑ l, (2 : ℝ) ^ (s l - M)) = att s w := by
  unfold att
  rw [Finset.sum_mul]
  refine Finset.sum_congr rfl fun j _ => ?_
  rw [← shift_weight s M j]; ring

/-- Division of reals, the divisor not zero, is the extended reals' division. -/
theorem div_real (x : ℝ) {y : ℝ} (h : y ≠ 0) : Ideal.div (x : EReal) (y : EReal) = ((x / y : ℝ) : EReal) := by
  rw [Ideal.div_coe h, ← EReal.coe_mul]; congr 1; ring

/-- The attention as the kernel computes it from real scores and values. -/
theorem kernel_att {n : ℕ} (s w : Fin (n + 1) → ℝ) :
    (∑ j, Ideal.exp2 (((s j : ℝ) : EReal) - Finset.univ.fold max (⊥ : EReal) (fun l => ((s l : ℝ) : EReal))) * ((w j : ℝ) : EReal))
      * Ideal.div 1 (∑ j, Ideal.exp2 (((s j : ℝ) : EReal) - Finset.univ.fold max (⊥ : EReal) (fun l => ((s l : ℝ) : EReal))))
      = ((att s w : ℝ) : EReal) := by
  obtain ⟨M, hM⟩ := fold_max_coe s
  rw [hM]
  have he : ∀ j, Ideal.exp2 (((s j : ℝ) : EReal) - (M : EReal)) = (((2 : ℝ) ^ (s j - M) : ℝ) : EReal) := fun j => by
    rw [← EReal.coe_sub, Ideal.exp2_coe]; rfl
  simp only [he, ← EReal.coe_mul]
  rw [coe_sum, coe_sum, show (1 : EReal) = ((1 : ℝ) : EReal) from rfl,
    div_real _ (sum_pow_pos fun l => s l - M).ne', ← EReal.coe_mul, att_shift]

/-- The word of minus infinity. -/
theorem ofBits_bot : Ideal.ofBits .f32 0xFF800000#32 = ⊥ := by simp [Ideal.ofBits, Ideal.ieee]
/-- The word of sixty-four. -/
theorem ofBits_64 : Ideal.ofBits .f32 0x42800000#32 = ((64 : ℝ) : EReal) := by
  simp [Ideal.ofBits, Ideal.ieee]; rw [← EReal.coe_mul]; norm_num
/-- The word of two. -/
theorem ofBits_2 : Ideal.ofBits .f32 0x40000000#32 = ((2 : ℝ) : EReal) := by
  simp [Ideal.ofBits, Ideal.ieee]; rw [← EReal.coe_mul]; norm_num
/-- The small number under the root is a positive real. -/
theorem ofBits_eps : ∃ e : ℝ, 0 < e ∧ Ideal.ofBits .f32 0x3727C5AC#32 = (e : EReal) := by
  refine ⟨_, ?_, by simp [Ideal.ofBits, Ideal.ieee]; rfl⟩
  positivity
/-- The constant 0.2 of the differential weight is a real. -/
theorem ofBits_fifth : ∃ e : ℝ, Ideal.ofBits .f32 0x3E4CCCCD#32 = (e : EReal) :=
  ⟨_, by simp [Ideal.ofBits, Ideal.ieee]; rfl⟩
/-- The constant 0.8 of the final scale is a real. -/
theorem ofBits_four_fifths : ∃ e : ℝ, Ideal.ofBits .f32 0x3F4CCCCD#32 = (e : EReal) :=
  ⟨_, by simp [Ideal.ofBits, Ideal.ieee]; rfl⟩

end Cert.Proof.Attn

end
-- ==== Proof.AttnComp.lean ====
/- One component of the differential attention as the kernel computes it, read at an index. -/
module

public import proofs.«01_k».proof.Proof.Gen.AttnIdeal.Skeleton
public import Idealize.ShloMosaic.Lib.Pointwise
public import Idealize.ShloMosaic.Lib.WordCmp
public import proofs.«01_k».proof.Proof.AttnReal

@[expose] public section

set_option maxRecDepth 16384

noncomputable section

namespace Cert.Proof.Attn

open Cert.AttnIdeal Cert.AttnIdeal.Gen Idealize.ShloMosaic Idealize.ShloMosaic.TcCoe

/-- The lanes `[lo, hi)` of the query's half kept, the others replaced by zero. -/
def maskq (lo hi : BitVec 32) (q : FVec Ideal S256x128 .bf16) : FVec Ideal S256x128 .bf16 :=
  select (andi (cmpi .sge (iota .tc S256x128 32 [1] iota_S256x128_d1_w32) (broadcast S256x128 lo))
      (cmpi .slt (iota .tc S256x128 32 [1] iota_S256x128_d1_w32) (broadcast S256x128 hi))) q
    (broadcast S256x128 (Scalar.ofBits (F := Ideal) .bf16 0x0000#16))

/-- The scores of masked queries against keys. -/
def scores (q : FVec Ideal S256x128 .bf16) (k : FVec Ideal S2048x128 .bf16) : FVec Ideal S256x2048 .f32 :=
  matmul dot_S256x128_S2048x128_S256x2048_1_1_0_0_n_n none q k (constant S256x2048 .f32 0x00000000#32)

/-- The exponentials of the scores less their row's greatest. -/
def expo (s : FVec Ideal S256x2048 .f32) : FVec Ideal S256x2048 .f32 :=
  exp2 (subf s (broadcastTo S256x2048 (shapeCast S256x1 (multiReduction .maximumf [1] S256 s 0xFF800000#32 reduces_S256x2048_S256 (.inl rfl) rfl) shapeCasts_S256_S256x1) broadcasts_S256x1_S256x2048))

/-- The weighted sum of the values, by exponentials and their sum's reciprocal. -/
def wsum (e : FVec Ideal S256x2048 .f32) (v : FVec Ideal S2048x256 .bf16) : FVec Ideal S256x256 .f32 :=
  mulf (matmul dot_S256x2048_S2048x256_S256x256_1_0_0_1_n_n none (truncf .bf16 e bitsLt_bf16_f32) v (constant S256x256 .f32 0x00000000#32))
    (broadcastTo S256x256 (divf (broadcast S256x1 (Scalar.ofBits (F := Ideal) .f32 0x3F800000#32))
      (shapeCast S256x1 (multiReduction .add [1] S256 e 0x00000000#32 reduces_S256x2048_S256 (.inl rfl) rfl) shapeCasts_S256_S256x1)) broadcasts_S256x1_S256x256)

/-- One component's attention. -/
def comp (lo hi : BitVec 32) (q : FVec Ideal S256x128 .bf16) (k : FVec Ideal S2048x128 .bf16) (v : FVec Ideal S2048x256 .bf16) : FVec Ideal S256x256 .f32 :=
  wsum (expo (scores (maskq lo hi q) k)) v

/-- The masked query at a lane. -/
theorem maskq_apply (lo hi : ℕ) (hlo : lo < 2 ^ 31) (hhi : hi < 2 ^ 31) (q : FVec Ideal S256x128 .bf16) (r : Fin 256) (x : Fin 128) :
    maskq (BitVec.ofNat 32 lo) (BitVec.ofNat 32 hi) q (ix2 r x) = if lo ≤ x.val ∧ x.val < hi then q (ix2 r x) else (0 : EReal) := by
  have hx : x.val < 2 ^ 31 := lt_trans x.isLt (by norm_num)
  pointwise [maskq]
  rw [WordCmp.cmpi_sge_ofNat hx hlo, WordCmp.cmpi_slt_ofNat hx hhi]
  simp only [hlo_ix]

/-- The scores at an index. -/
theorem scores_apply (q : FVec Ideal S256x128 .bf16) (k : FVec Ideal S2048x128 .bf16) (r : Fin 256) (j : Fin 2048) :
    scores q k (ix2 r j) = ∑ x : Fin 128, (q (ix2 r x) * k (ix2 j x) : EReal) := by
  pointwise [scores]

/-- The exponentials at an index. -/
theorem expo_apply (s : FVec Ideal S256x2048 .f32) (r : Fin 256) (j : Fin 2048) :
    expo s (ix2 r j) = Ideal.exp2 ((s (ix2 r j) : EReal) - Finset.univ.fold max (⊥ : EReal) (fun l : Fin 2048 => s (ix2 r l))) := by
  pointwise [expo]
  rw [ofBits_bot]; rfl

/-- The weighted sum at an index. -/
theorem wsum_apply (e : FVec Ideal S256x2048 .f32) (v : FVec Ideal S2048x256 .bf16) (r c : Fin 256) :
    wsum e v (ix2 r c) = (∑ j : Fin 2048, (e (ix2 r j) * v (ix2 j c) : EReal)) * Ideal.div 1 (∑ j : Fin 2048, (e (ix2 r j) : EReal)) := by
  pointwise [wsum]

/-- A sum over 128 lanes that keeps the 32 lanes from `lo` is the sum over those lanes. -/
theorem sum_lanes (lo : ℕ) (hlo : lo + 32 ≤ 128) (f : Fin 128 → ℝ) :
    (∑ x : Fin 128, if lo ≤ x.val ∧ x.val < lo + 32 then f x else 0) = ∑ y : Fin 32, f ⟨lo + y.val, by omega⟩ := by
  rw [← Finset.sum_filter]
  refine (Finset.sum_bij (fun (y : Fin 32) _ => (⟨lo + y.val, by omega⟩ : Fin 128)) ?_ ?_ ?_ ?_).symm
  · intro y _; simp
  · intro a _ b _ h; apply Fin.ext; have := congrArg Fin.val h; simp at this; omega
  · intro x hx
    simp only [Finset.mem_filter, Finset.mem_univ, true_and] at hx
    exact ⟨⟨x.val - lo, by omega⟩, Finset.mem_univ _, by apply Fin.ext; simp; omega⟩
  · intro y _; rfl

/-- One component at an index, over real queries, keys and values: the attention of the component's 32 lanes. -/
theorem comp_coe (lo : ℕ) (hlo : lo + 32 ≤ 128) (q : FVec Ideal S256x128 .bf16) (k : FVec Ideal S2048x128 .bf16) (v : FVec Ideal S2048x256 .bf16)
    (Q : Fin 256 → Fin 128 → ℝ) (K : Fin 2048 → Fin 128 → ℝ) (V : Fin 2048 → Fin 256 → ℝ)
    (hq : ∀ r x, q (ix2 r x) = ((Q r x : ℝ) : EReal)) (hk : ∀ j x, k (ix2 j x) = ((K j x : ℝ) : EReal)) (hv : ∀ j c, v (ix2 j c) = ((V j c : ℝ) : EReal))
    (r c : Fin 256) :
    comp (BitVec.ofNat 32 lo) (BitVec.ofNat 32 (lo + 32)) q k v (ix2 r c)
      = ((att (fun j => ∑ y : Fin 32, Q r ⟨lo + y.val, by omega⟩ * K j ⟨lo + y.val, by omega⟩) (fun j => V j c) : ℝ) : EReal) := by
  have hs : ∀ j : Fin 2048, scores (maskq (BitVec.ofNat 32 lo) (BitVec.ofNat 32 (lo + 32)) q) k (ix2 r j)
      = ((∑ y : Fin 32, Q r ⟨lo + y.val, by omega⟩ * K j ⟨lo + y.val, by omega⟩ : ℝ) : EReal) := by
    intro j
    rw [scores_apply, ← sum_lanes lo hlo (fun x => Q r x * K j x), ← coe_sum]
    refine Finset.sum_congr rfl fun x _ => ?_
    rw [maskq_apply lo (lo + 32) (by omega) (by omega), hq, hk]
    split
    · rw [EReal.coe_mul]
    · simp
  unfold comp
  rw [wsum_apply]
  simp only [expo_apply, hs, hv]
  exact kernel_att (n := 2047) _ _

end Cert.Proof.Attn

end
-- ==== Proof.AttnOut.lean ====
/- What the attention's body stores, as one term of its input blocks, and that term read at an index over real inputs. -/
module

public import proofs.«01_k».proof.Proof.Gen.AttnIdeal.Value
public import proofs.«01_k».proof.Proof.AttnComp
public import Idealize.ShloMosaic.Lib.VecWindow

@[expose] public section

set_option maxRecDepth 16384

noncomputable section

namespace Cert.Proof.Attn

open Cert.AttnIdeal Cert.AttnIdeal.Gen Idealize.ShloMosaic Idealize.ShloMosaic.TcCoe

/-- The 128 lanes of the keys from lane `o` on. -/
def khalf (o : ℕ) (ho : o + 128 ≤ 256) (k : FVec Ideal S2048x256 .bf16) : FVec Ideal S2048x128 .bf16 :=
  fun y => k (ix2 (show Fin 2048 from y 0) ⟨o + (y 1).val, by have : (y 1).val < 128 := (y 1).isLt; omega⟩)

/-- The lanes of one head take the difference of its two components, the others keep what they had. -/
def put (lo hi : BitVec 32) (lam : EReal) (p1 p2 old : FVec Ideal S256x256 .f32) : FVec Ideal S256x256 .f32 :=
  select (andi (cmpi .sge (iota .tc S256x256 32 [1] iota_S256x256_d1_w32) (broadcast S256x256 lo))
      (cmpi .slt (iota .tc S256x256 32 [1] iota_S256x256_d1_w32) (broadcast S256x256 hi)))
    (subf p1 (mulf (broadcast S256x256 (show Ideal .f32 from lam)) p2)) old

/-- The four heads' differential attention, before the norm. -/
def acc (lam : EReal) (q : FVec Ideal S256x256 .bf16) (k0 k1 : FVec Ideal S2048x128 .bf16) (v : FVec Ideal S2048x256 .bf16) : FVec Ideal S256x256 .f32 :=
  let q0 := extractStridedSlice S256x128 ![0, 0] q slices_S256x256_o0_0_S256x128
  let q1 := extractStridedSlice S256x128 ![0, 128] q slices_S256x256_o0_128_S256x128
  put 192#32 256#32 lam (comp 64#32 96#32 q1 k1 v) (comp 96#32 128#32 q1 k1 v)
    (put 128#32 192#32 lam (comp 0#32 32#32 q1 k1 v) (comp 32#32 64#32 q1 k1 v)
      (put 64#32 128#32 lam (comp 64#32 96#32 q0 k0 v) (comp 96#32 128#32 q0 k0 v)
        (put 0#32 64#32 lam (comp 0#32 32#32 q0 k0 v) (comp 32#32 64#32 q0 k0 v)
          (broadcast S256x256 (Scalar.ofBits (F := Ideal) .f32 0x00000000#32)))))

/-- The norm over each head's lanes and the scale. -/
def norm (a : FVec Ideal S256x256 .f32) (gn : FVec Ideal S1x256 .f32) (g : FVec Ideal S256x256 .bf16) : FVec Ideal S256x256 .bf16 :=
  let sq := mulf a a
  let hi := truncf .bf16 sq bitsLt_bf16_f32
  let lo := truncf .bf16 (subf sq (extf .f32 hi bitsLt_bf16_f32)) bitsLt_bf16_f32
  let ms := addf (matmul dot_S256x256_S256x256_S256x256_1_0_0_1_n_n none hi (shapeCast S256x256 g shapeCasts_S256x256_S256x256) (constant S256x256 .f32 0x00000000#32))
    (matmul dot_S256x256_S256x256_S256x256_1_0_0_1_n_n none lo (shapeCast S256x256 g shapeCasts_S256x256_S256x256) (constant S256x256 .f32 0x00000000#32))
  truncf .bf16 (mulf (mulf a (rsqrt (addf ms (broadcast S256x256 (Scalar.ofBits (F := Ideal) .f32 0x3727C5AC#32)))))
    (broadcastTo S256x256 (shapeCast S1x256 gn shapeCasts_S1x256_S1x256) broadcasts_S1x256_S256x256)) bitsLt_bf16_f32

/-- What the body stores is the norm of the four heads' attention of its blocks. -/
theorem out_eq (c : Dev nD) (i : grid0.Coords) (arg2 : Memref sig .tc .smem S1 .f32) (harg2 : arg2.IsWhole) (arg3 : Memref sig .tc .vmem S256x256 .bf16) (harg3 : arg3.IsWhole)
    (arg4 : Memref sig .tc .vmem S2048x256 .bf16) (harg4 : arg4.IsWhole) (arg5 : Memref sig .tc .vmem S2048x256 .bf16) (harg5 : arg5.IsWhole)
    (arg6 : Memref sig .tc .vmem S1x256 .f32) (harg6 : arg6.IsWhole) (arg7 : Memref sig .tc .vmem S256x256 .bf16) (harg7 : arg7.IsWhole) (arg8 : Memref sig .tc .vmem S256x256 .bf16) (harg8 : arg8.IsWhole)
    (x0 : Vec Ideal S1 .f32) (x1 : Vec Ideal S256x256 .bf16) (x2 : Vec Ideal S2048x256 .bf16) (x3 : Vec Ideal S2048x256 .bf16) (x4 : Vec Ideal S1x256 .f32) (x5 : Vec Ideal S256x256 .bf16) :
    out0_A_6 c i arg2 harg2 arg3 harg3 arg4 harg4 arg5 harg5 arg6 harg6 arg7 harg7 arg8 harg8 x0 x1 x2 x3 x4 x5
      = norm (acc (x0 (ix1 0)) x1 (khalf 0 (by omega) x2) (khalf 128 (by omega) x2) x3) x4 x5 := by
  have h0 : arg2.view.readAt (Elt Ideal) (Rect.unit (s := S1) ![0] S1.size inb_S1_S1_0).toLoadRect (harg2.unread x0)
      (Shape.Idx.first (numel1_S1.symm ▸ Nat.one_pos)) = x0 (ix1 0) := by
    rw [View.readAt_apply, harg2.read_unread]; congr 1; funext (a : Fin 1); obtain rfl : a = 0 := Subsingleton.elim _ _; exact Subsingleton.elim (α := Fin 1) _ _
  have h1 : arg3.view.readAt (Elt Ideal) (Rect.unit (s := S256x256) ![0, 0] S256x256.size inb_S256x256_S256x256_0_0).toLoadRect (harg3.unread x1) = x1 := by
    funext y; rw [View.readAt_apply, harg3.read_unread]; congr 1; funext a; apply Fin.ext
    match a with
    | ⟨0, _⟩ => show 0 + 1 * (y 0).val = (y 0).val; omega
    | ⟨1, _⟩ => show 0 + 1 * (y 1).val = (y 1).val; omega
  have h2a : arg4.view.readAt (Elt Ideal) (Rect.unit (s := S2048x256) ![0, 0] S2048x128.size inb_S2048x256_S2048x128_0_0).toLoadRect (harg4.unread x2) = khalf 0 (by omega) x2 := by
    funext y; rw [View.readAt_apply, harg4.read_unread]; unfold khalf; congr 1; funext a; apply Fin.ext
    match a with
    | ⟨0, _⟩ => show 0 + 1 * (y 0).val = (y 0).val; omega
    | ⟨1, _⟩ => show 0 + 1 * (y 1).val = 0 + (y 1).val; omega
  have h2b : arg4.view.readAt (Elt Ideal) (Rect.unit (s := S2048x256) ![0, 128] S2048x128.size inb_S2048x256_S2048x128_0_128).toLoadRect (harg4.unread x2) = khalf 128 (by omega) x2 := by
    funext y; rw [View.readAt_apply, harg4.read_unread]; unfold khalf; congr 1; funext a; apply Fin.ext
    match a with
    | ⟨0, _⟩ => show 0 + 1 * (y 0).val = (y 0).val; omega
    | ⟨1, _⟩ => show 128 + 1 * (y 1).val = 128 + (y 1).val; omega
  have h3 : arg5.view.readAt (Elt Ideal) (Rect.unit (s := S2048x256) ![0, 0] S2048x256.size inb_S2048x256_S2048x256_0_0).toLoadRect (harg5.unread x3) = x3 := by
    funext y; rw [View.readAt_apply, harg5.read_unread]; congr 1; funext a; apply Fin.ext
    match a with
    | ⟨0, _⟩ => show 0 + 1 * (y 0).val = (y 0).val; omega
    | ⟨1, _⟩ => show 0 + 1 * (y 1).val = (y 1).val; omega
  have h4 : arg6.view.readAt (Elt Ideal) (Rect.unit (s := S1x256) ![0, 0] S1x256.size inb_S1x256_S1x256_0_0).toLoadRect (harg6.unread x4) = x4 := by
    funext y; rw [View.readAt_apply, harg6.read_unread]; congr 1; funext a; apply Fin.ext
    match a with
    | ⟨0, _⟩ => show 0 + 1 * (y 0).val = (y 0).val; omega
    | ⟨1, _⟩ => show 0 + 1 * (y 1).val = (y 1).val; omega
  have h5 : arg7.view.readAt (Elt Ideal) (Rect.unit (s := S256x256) ![0, 0] S256x256.size inb_S256x256_S256x256_0_0).toLoadRect (harg7.unread x5) = x5 := by
    funext y; rw [View.readAt_apply, harg7.read_unread]; congr 1; funext a; apply Fin.ext
    match a with
    | ⟨0, _⟩ => show 0 + 1 * (y 0).val = (y 0).val; omega
    | ⟨1, _⟩ => show 0 + 1 * (y 1).val = (y 1).val; omega
  have key : ∀ p : Vec Ideal S256x256 .bf16, VO0_6.read (Elt Ideal) (VO0_6.writes (Elt Ideal) VO0_6.junk
      [⟨Rect.unit (s := S256x256) ![0, 0] S256x256.size inb_S256x256_S256x256_0_0, p⟩]) = p := by
    intro p; funext y
    have h := View.read_writes_cons_emb (v := VO0_6) (f := VO0_6.junk) (Val := Elt Ideal)
      (Rect.unit (s := S256x256) ![0, 0] S256x256.size inb_S256x256_S256x256_0_0) p [] y
    rw [Rect.emb_unit_full] at h
    exact h
  unfold out0_A_6 kernelRun0_A
  dsimp only
  rw [key]
  clear key
  simp only [kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  rw [h0, h1, h2a, h2b, h3, h4, h5]
  rfl

end Cert.Proof.Attn

end
-- ==== Proof.AttnBlock.lean ====
/- The block the attention's body stores, over real inputs: each head's differential attention, normed and scaled. -/
module

public import proofs.«01_k».proof.Proof.AttnOut

@[expose] public section

set_option maxRecDepth 16384

noncomputable section

namespace Cert.Proof.Attn

open Cert.AttnIdeal Cert.AttnIdeal.Gen Idealize.ShloMosaic Idealize.ShloMosaic.TcCoe

/-- The scores of one component, whose 32 lanes begin at `o`. -/
def scn (Q : ℕ → ℝ) (K : ℕ → ℕ → ℝ) (o : ℕ) : Fin 2048 → ℝ := fun j => ∑ y : Fin 32, Q (o + y.val) * K j.val (o + y.val)

/-- One head's differential attention at a lane of the values. -/
def headn (Q : ℕ → ℝ) (K V : ℕ → ℕ → ℝ) (lam : ℝ) (h c : ℕ) : ℝ :=
  att (scn Q K (64 * h)) (fun j => V j.val c) - lam * att (scn Q K (64 * h + 32)) (fun j => V j.val c)

/-- A head's values divided by the root of their mean square. -/
def nrm (e : ℝ) (A : Fin 64 → ℝ) (a : ℝ) : ℝ := a * (Real.sqrt ((∑ d, A d * A d) / 64 + e))⁻¹

/-- One component's attention, its lanes placed in the whole row. -/
theorem comp_scn (off lo : ℕ) (hlo : lo + 32 ≤ 128) (hoff : off + 128 ≤ 256) (q : FVec Ideal S256x256 .bf16) (q' : FVec Ideal S256x128 .bf16)
    (k : FVec Ideal S2048x256 .bf16) (v : FVec Ideal S2048x256 .bf16) (Q K V : ℕ → ℕ → ℝ)
    (hq' : ∀ (r : Fin 256) (x : Fin 128), q' (ix2 r x) = q (ix2 r ⟨off + x.val, by omega⟩))
    (hq : ∀ (r x : Fin 256), q (ix2 r x) = ((Q r.val x.val : ℝ) : EReal))
    (hk : ∀ (j : Fin 2048) (x : Fin 256), k (ix2 j x) = ((K j.val x.val : ℝ) : EReal))
    (hv : ∀ (j : Fin 2048) (x : Fin 256), v (ix2 j x) = ((V j.val x.val : ℝ) : EReal)) (r c : Fin 256) :
    comp (BitVec.ofNat 32 lo) (BitVec.ofNat 32 (lo + 32)) q' (khalf off hoff k) v (ix2 r c)
      = ((att (scn (Q r.val) K (off + lo)) (fun j => V j.val c.val) : ℝ) : EReal) := by
  rw [comp_coe lo hlo q' (khalf off hoff k) v (fun r x => Q r.val (off + x.val)) (fun j x => K j.val (off + x.val)) (fun j c => V j.val c.val)
    (fun r x => by rw [hq', hq]) (fun j x => hk j ⟨off + x.val, by omega⟩) (fun j c => hv j c)]
  unfold scn
  simp only [Nat.add_assoc]

/-- Setting a head's lanes, at an index. -/
theorem put_apply (lo hi : ℕ) (hlo : lo < 2 ^ 31) (hhi : hi < 2 ^ 31) (lam : EReal) (p1 p2 old : FVec Ideal S256x256 .f32) (r c : Fin 256) :
    put (BitVec.ofNat 32 lo) (BitVec.ofNat 32 hi) lam p1 p2 old (ix2 r c)
      = if lo ≤ c.val ∧ c.val < hi then (p1 (ix2 r c) : EReal) - lam * p2 (ix2 r c) else old (ix2 r c) := by
  have hx : c.val < 2 ^ 31 := lt_trans c.isLt (by norm_num)
  pointwise [put]
  rw [WordCmp.cmpi_sge_ofNat hx hlo, WordCmp.cmpi_slt_ofNat hx hhi]
  simp only [hlo_ix]

/-- The four heads' attention at an index. -/
theorem acc_coe (lam : ℝ) (q : FVec Ideal S256x256 .bf16) (k v : FVec Ideal S2048x256 .bf16) (Q K V : ℕ → ℕ → ℝ)
    (hq : ∀ (r x : Fin 256), q (ix2 r x) = ((Q r.val x.val : ℝ) : EReal))
    (hk : ∀ (j : Fin 2048) (x : Fin 256), k (ix2 j x) = ((K j.val x.val : ℝ) : EReal))
    (hv : ∀ (j : Fin 2048) (x : Fin 256), v (ix2 j x) = ((V j.val x.val : ℝ) : EReal)) (r c : Fin 256) :
    acc (lam : EReal) q (khalf 0 (by omega) k) (khalf 128 (by omega) k) v (ix2 r c)
      = ((headn (Q r.val) K V lam (c.val / 64) c.val : ℝ) : EReal) := by
  have e0 : ∀ (r : Fin 256) (x : Fin 128), extractStridedSlice S256x128 ![0, 0] q slices_S256x256_o0_0_S256x128 (ix2 r x) = q (ix2 r ⟨0 + x.val, by omega⟩) := by
    intro r x; pointwise
  have e1 : ∀ (r : Fin 256) (x : Fin 128), extractStridedSlice S256x128 ![0, 128] q slices_S256x256_o0_128_S256x128 (ix2 r x) = q (ix2 r ⟨128 + x.val, by omega⟩) := by
    intro r x; pointwise
  have a0 := fun lo hlo => comp_scn 0 lo hlo (by omega) q _ k v Q K V e0 hq hk hv r c
  have a1 := fun lo hlo => comp_scn 128 lo hlo (by omega) q _ k v Q K V e1 hq hk hv r c
  have hc := c.isLt
  unfold acc
  rw [put_apply 192 256 (by norm_num) (by norm_num), put_apply 128 192 (by norm_num) (by norm_num), put_apply 64 128 (by norm_num) (by norm_num), put_apply 0 64 (by norm_num) (by norm_num)]
  rw [a0 0 (by omega), a0 32 (by omega), a0 64 (by omega), a0 96 (by omega), a1 0 (by omega), a1 32 (by omega), a1 64 (by omega), a1 96 (by omega)]
  unfold headn
  simp only [← EReal.coe_mul, ← EReal.coe_sub]
  split
  · rw [show c.val / 64 = 3 by omega]
  split
  · rw [show c.val / 64 = 2 by omega]
  split
  · rw [show c.val / 64 = 1 by omega]
  · rw [if_pos (by omega), show c.val / 64 = 0 by omega]

/-- A sum over the 256 lanes that keeps those of `c`'s head is the sum over that head's 64 lanes. -/
theorem sum_head (c : Fin 256) (f : ℕ → ℝ) :
    (∑ x : Fin 256, if x.val / 64 = c.val / 64 then f x.val else 0) = ∑ d : Fin 64, f (64 * (c.val / 64) + d.val) := by
  rw [← Finset.sum_filter]
  refine (Finset.sum_bij (fun (d : Fin 64) _ => (⟨64 * (c.val / 64) + d.val, by omega⟩ : Fin 256)) ?_ ?_ ?_ ?_).symm
  · intro y _; simp; omega
  · intro a _ b _ h; apply Fin.ext; have := congrArg Fin.val h; simp at this; omega
  · intro x hx
    simp only [Finset.mem_filter, Finset.mem_univ, true_and] at hx
    exact ⟨⟨x.val % 64, by omega⟩, Finset.mem_univ _, by apply Fin.ext; simp; omega⟩
  · intro y _; rfl

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The norm at an index, over reals: the residue of the squares' rounding is zero, and the matrix of means sums a head's squares. -/
theorem norm_coe (e : ℝ) (he : 0 < e) (heps : Ideal.ofBits .f32 0x3727C5AC#32 = (e : EReal)) (a : FVec Ideal S256x256 .f32) (gn : FVec Ideal S1x256 .f32) (g : FVec Ideal S256x256 .bf16) (A : ℕ → ℕ → ℝ) (G : ℕ → ℝ)
    (ha : ∀ (r x : Fin 256), a (ix2 r x) = ((A r.val x.val : ℝ) : EReal))
    (hgn : ∀ x : Fin 256, gn (ix2 0 x) = ((G x.val : ℝ) : EReal))
    (hg : ∀ x c : Fin 256, g (ix2 x c) = (((if x.val / 64 = c.val / 64 then 1 / 64 else 0 : ℝ)) : EReal)) (r c : Fin 256) :
    norm a gn g (ix2 r c)
      = ((nrm e (fun d => A r.val (64 * (c.val / 64) + d.val)) (A r.val c.val) * G c.val : ℝ) : EReal) := by
  have hz : ∀ x : ℝ, ((x : EReal) - (x : EReal)) = ((0 : ℝ) : EReal) := fun x => by rw [← EReal.coe_sub, sub_self]
  have hs : (∑ x : Fin 256, A r.val x.val * A r.val x.val * (if x.val / 64 = c.val / 64 then 1 / 64 else 0 : ℝ)) = (∑ d : Fin 64, A r.val (64 * (c.val / 64) + d.val) * A r.val (64 * (c.val / 64) + d.val)) / 64 := by
    rw [← sum_head c (fun x => A r.val x * A r.val x), Finset.sum_div]
    refine Finset.sum_congr rfl fun x _ => ?_
    split <;> ring
  have hp : 0 < (∑ d : Fin 64, A r.val (64 * (c.val / 64) + d.val) * A r.val (64 * (c.val / 64) + d.val)) / 64 + e :=
    add_pos_of_nonneg_of_pos (div_nonneg (Finset.sum_nonneg fun d _ => mul_self_nonneg _) (by norm_num)) he
  pointwise [norm]
  simp only [ha, hgn, hg, heps, ← EReal.coe_mul, hz, coe_sum, ← EReal.coe_add, hs, zero_mul, Finset.sum_const_zero, add_zero]
  rw [rsqrt_pos hp]
  simp only [← EReal.coe_mul]
  rfl

end Cert.Proof.Attn

end
-- ==== Proof.AttnHost.lean ====
/- What the attention's launch finds in the buffers its host lines fill: the mixing weight, the gains, the matrix of means. -/
module

public import proofs.«01_k».proof.Proof.AttnBlock
public import proofs.«01_k».proof.Proof.Gen.AttnIdeal.Value

@[expose] public section

set_option maxRecDepth 16384

noncomputable section

namespace Cert.Proof.Attn

open Cert.AttnIdeal Cert.AttnIdeal.Gen Idealize.ShloMosaic Idealize.ShloMosaic.TcCoe

variable (m : (ℓ : Loc nD τ sig) → Buf (Elt Ideal) ℓ) (c : Dev nD)

/-- The head each lane belongs to: the lane's number divided by sixty-four, rounded down. -/
def heads : IVec S256 32 :=
  let q : IVec S256 32 := Host.divsi (iotaInDim S256 32 0) (broadcastInDim S256 ![] bcast_S_S256 (constantI S_ 32 64#32))
  select
    (andi
      (cmpi .ne (signi (iotaInDim S256 32 0 : IVec S256 32)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi q (broadcastInDim S256 ![] bcast_S_S256 (constantI S_ 32 1#32))) q

/-- The matrix of means, from the heads. -/
def means (h : IVec S256 32) : FVec Ideal S256x256 .bf16 :=
  truncf .bf16 (Host.divf (uitofp .f32 (cmpi .eq
    (broadcastInDim S256x256 ![0, 1] bcast_S256x1_S256x256_0_1 (broadcastInDim S256x1 ![0] bcast_S256_S256x1_0 h))
    (broadcastInDim S256x256 ![0, 1] bcast_S1x256_S256x256_0_1 (broadcastInDim S1x256 ![1] bcast_S256_S1x256_1 h))))
    (broadcastInDim S256x256 ![] bcast_S_S256x256 (constant S_ .f32 0x42800000#32))) bitsLt_bf16_f32

/-- The matrix of means as the host lines write it. -/
theorem V_means_eq : V m c main_v10 = means heads := by
  unfold V hostOps0 hostOps0_1 hostOps0_2
  simp only [List.flatten_cons, List.flatten_nil, List.append_nil, List.cons_append, List.nil_append]
  after_results
  rfl

/-- A lane's head. -/
theorem heads_apply (a : Fin 256) : heads (ix1 a) = BitVec.ofNat 32 (a.val / 64) := by
  pointwise [heads]
  revert a
  decide +kernel

/-- The bit saying whether two small numbers' words agree. -/
theorem bit_eq {a b : ℕ} (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    constructor
    · intro h; have := congrArg BitVec.toNat h; rwa [BitVec.toNat_ofNat, BitVec.toNat_ofNat, Nat.mod_eq_of_lt ha, Nat.mod_eq_of_lt hb] at this
    · rintro rfl; rfl
  by_cases h : a = b
  · subst h; simp [IntOp.cmpi]
  · rw [if_neg h]; simp only [IntOp.cmpi, beq_eq_false_iff_ne.mpr (mt this.mp h)]; rfl

/-- The matrix of means at an index. -/
theorem V_means (x y : Fin 256) : V m c main_v10 (ix2 x y) = (((if x.val / 64 = y.val / 64 then 1 / 64 else 0 : ℝ)) : EReal) := by
  rw [V_means_eq]
  pointwise [means]
  rw [heads_apply, heads_apply, ofBits_64, bit_eq (by omega) (by omega)]
  split
  · simp [FloatOps.uitofp, Ideal.div_coe]
  · simp [FloatOps.uitofp, Ideal.div_coe]

/-- The mixing weight the launch finds. -/
theorem V_lam (Q1 K1 Q2 K2 : ℕ → ℝ) (e : ℝ) (he : Ideal.ofBits .f32 0x3E4CCCCD#32 = (e : EReal))
    (h1 : ∀ i : Fin 32, (m (c, main_arg1) : FVec Ideal S32 .f32) (ix1 i) = ((Q1 i.val : ℝ) : EReal))
    (h2 : ∀ i : Fin 32, (m (c, main_arg2) : FVec Ideal S32 .f32) (ix1 i) = ((K1 i.val : ℝ) : EReal))
    (h3 : ∀ i : Fin 32, (m (c, main_arg3) : FVec Ideal S32 .f32) (ix1 i) = ((Q2 i.val : ℝ) : EReal))
    (h4 : ∀ i : Fin 32, (m (c, main_arg4) : FVec Ideal S32 .f32) (ix1 i) = ((K2 i.val : ℝ) : EReal)) :
    V m c main_v19 (ix1 0) = ((Real.exp (∑ i : Fin 32, Q1 i.val * K1 i.val) - Real.exp (∑ i : Fin 32, Q2 i.val * K2 i.val) + e : ℝ) : EReal) := by
  unfold V hostOps0 hostOps0_1 hostOps0_2
  simp only [List.flatten_cons, List.flatten_nil, List.append_nil, List.cons_append, List.nil_append]
  after_results
  pointwise
  simp only [h1, h2, h3, h4, he, ← EReal.coe_mul, coe_sum, Ideal.exp_coe, ← EReal.coe_sub, ← EReal.coe_add]

/-- The gains the launch finds, the last scale in them. -/
theorem V_gn (G : ℕ → ℝ) (e : ℝ) (he : Ideal.ofBits .f32 0x3F4CCCCD#32 = (e : EReal))
    (h5 : ∀ i : Fin 64, (m (c, main_arg5) : FVec Ideal S64 .f32) (ix1 i) = ((G i.val : ℝ) : EReal)) (x : Fin 256) :
    V m c main_v25 (ix2 0 x) = ((G (x.val % 64) * e : ℝ) : EReal) := by
  unfold V hostOps0 hostOps0_1 hostOps0_2
  simp only [List.flatten_cons, List.flatten_nil, List.append_nil, List.cons_append, List.nil_append]
  after_results
  pointwise
  rw [h5, he, ← EReal.coe_mul]

end Cert.Proof.Attn

end
-- ==== Proof.AttnArr.lean ====
/- The attention's result array, at an index, over real arguments. -/
module

public import proofs.«01_k».proof.Proof.AttnHost

@[expose] public section

set_option maxRecDepth 16384

noncomputable section

namespace Cert.Proof.Attn

/-- One head's attention at a lane of a row of the projected activations: the row's own sequence is attended, its keys
    256 lanes and its values 512 lanes to the right of the queries. -/
def rowHead (X : ℕ → ℕ → ℝ) (lam : ℝ) (i h c : ℕ) : ℝ :=
  headn (X i) (fun j x => X (2048 * (i / 2048) + j) (256 + x)) (fun j x => X (2048 * (i / 2048) + j) (512 + x)) lam h c

/-- The differential attention's result at a row and a lane. -/
def result (X : ℕ → ℕ → ℝ) (lam : ℝ) (G : ℕ → ℝ) (e f : ℝ) (i c : ℕ) : ℝ :=
  nrm e (fun d => rowHead X lam i (c / 64) (64 * (c / 64) + d.val)) (rowHead X lam i (c / 64) c) * (G (c % 64) * f)

/-- The mixing weight from the four vectors. -/
def mix (Q1 K1 Q2 K2 : ℕ → ℝ) (e : ℝ) : ℝ :=
  Real.exp (∑ i : Fin 32, Q1 i.val * K1 i.val) - Real.exp (∑ i : Fin 32, Q2 i.val * K2 i.val) + e

open Cert.AttnIdeal Cert.AttnIdeal.Gen Idealize.ShloMosaic Idealize.ShloMosaic.TcCoe

variable (m : (ℓ : Loc nD τ sig) → Buf (Elt Ideal) ℓ) (c : Dev nD)

/-- Where each window's block lies at a point. -/
theorem idx_facts : ∀ t : Fin cfg0.N, win0_1.index t (0 : Fin 2) = t.val ∧ win0_1.index t (1 : Fin 2) = 0
    ∧ win0_2.index t (0 : Fin 2) = t.val / 8 ∧ win0_2.index t (1 : Fin 2) = 1
    ∧ win0_3.index t (0 : Fin 2) = t.val / 8 ∧ win0_3.index t (1 : Fin 2) = 2
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The weight a point reads. -/
theorem iblk0_apply (t : Fin cfg0.N) : iblk m c 0 t (ix1 0) = V m c main_v19 (ix1 0) := by
  show V m c main_v19 (((cfg0.win 0).blk t).view.emb (ix1 0)) = _
  congr 1
  funext (a : Fin 1)
  obtain rfl : a = 0 := Subsingleton.elim _ _
  exact Subsingleton.elim (α := Fin 1) _ _

/-- The queries a point reads. -/
theorem iblk1_apply (t : Fin cfg0.N) (r x : Fin 256) (i : Fin 16384) (x' : Fin 2816) (hi : i.val = 256 * t.val + r.val) (hx : x'.val = x.val) :
    iblk m c 1 t (ix2 r x) = m ((c : Thread nD τ).loc main_arg0) (ix2 i x') := by
  show V m c main_arg0 (((cfg0.win 1).blk t).view.emb (ix2 r x)) = _
  rw [V_main_arg0]
  obtain ⟨e0, e1, _⟩ := idx_facts t
  congr 1
  funext a; apply Fin.ext
  match a with
  | ⟨0, _⟩ => show win0_1.index t (0 : Fin 2) * 256 + 1 * r.val = i.val; omega
  | ⟨1, _⟩ => show win0_1.index t (1 : Fin 2) * 256 + 1 * x.val = x'.val; omega

/-- The keys a point reads. -/
theorem iblk2_apply (t : Fin cfg0.N) (j : Fin 2048) (x : Fin 256) (i : Fin 16384) (x' : Fin 2816) (hi : i.val = 2048 * (t.val / 8) + j.val) (hx : x'.val = 256 + x.val) :
    iblk m c 2 t (ix2 j x) = m ((c : Thread nD τ).loc main_arg0) (ix2 i x') := by
  show V m c main_arg0 (((cfg0.win 2).blk t).view.emb (ix2 j x)) = _
  rw [V_main_arg0]
  obtain ⟨_, _, e0, e1, _⟩ := idx_facts t
  congr 1
  funext a; apply Fin.ext
  match a with
  | ⟨0, _⟩ => show win0_2.index t (0 : Fin 2) * 2048 + 1 * j.val = i.val; omega
  | ⟨1, _⟩ => show win0_2.index t (1 : Fin 2) * 256 + 1 * x.val = x'.val; omega

/-- The values a point reads. -/
theorem iblk3_apply (t : Fin cfg0.N) (j : Fin 2048) (x : Fin 256) (i : Fin 16384) (x' : Fin 2816) (hi : i.val = 2048 * (t.val / 8) + j.val) (hx : x'.val = 512 + x.val) :
    iblk m c 3 t (ix2 j x) = m ((c : Thread nD τ).loc main_arg0) (ix2 i x') := by
  show V m c main_arg0 (((cfg0.win 3).blk t).view.emb (ix2 j x)) = _
  rw [V_main_arg0]
  obtain ⟨_, _, _, _, e0, e1, _⟩ := idx_facts t
  congr 1
  funext a; apply Fin.ext
  match a with
  | ⟨0, _⟩ => show win0_3.index t (0 : Fin 2) * 2048 + 1 * j.val = i.val; omega
  | ⟨1, _⟩ => show win0_3.index t (1 : Fin 2) * 256 + 1 * x.val = x'.val; omega

/-- The gains a point reads. -/
theorem iblk4_apply (t : Fin cfg0.N) (x : Fin 256) : iblk m c 4 t (ix2 0 x) = V m c main_v25 (ix2 0 x) := by
  show V m c main_v25 (((cfg0.win 4).blk t).view.emb (ix2 0 x)) = _
  obtain ⟨_, _, _, _, _, _, e0, e1, _⟩ := idx_facts t
  congr 1
  funext a; apply Fin.ext
  match a with
  | ⟨0, _⟩ => show win0_4.index t (0 : Fin 2) * 1 + 1 * 0 = 0; omega
  | ⟨1, _⟩ => show win0_4.index t (1 : Fin 2) * 256 + 1 * x.val = x.val; omega

/-- The matrix of means a point reads. -/
theorem iblk5_apply (t : Fin cfg0.N) (y x : Fin 256) : iblk m c 5 t (ix2 y x) = V m c main_v10 (ix2 y x) := by
  show V m c main_v10 (((cfg0.win 5).blk t).view.emb (ix2 y x)) = _
  obtain ⟨_, _, _, _, _, _, _, _, e0, e1, _⟩ := idx_facts t
  congr 1
  funext a; apply Fin.ext
  match a with
  | ⟨0, _⟩ => show win0_5.index t (0 : Fin 2) * 256 + 1 * y.val = y.val; omega
  | ⟨1, _⟩ => show win0_5.index t (1 : Fin 2) * 256 + 1 * x.val = x.val; omega

/-- Where the result's block lies in the result. -/
theorem emb6 (t : Fin cfg0.N) (r x : Fin 256) (i : Fin 16384) (hi : i.val = 256 * t.val + r.val) :
    ((cfg0.win 6).blk t).view.emb (ix2 r x) = ix2 i x := by
  obtain ⟨_, _, _, _, _, _, _, _, _, _, e0, e1⟩ := idx_facts t
  funext a; apply Fin.ext
  match a with
  | ⟨0, _⟩ => show win0_6.index t (0 : Fin 2) * 256 + 1 * r.val = i.val; omega
  | ⟨1, _⟩ => show win0_6.index t (1 : Fin 2) * 256 + 1 * x.val = x.val; omega

/-- Every point writes its block back. -/
theorem flush6 : ∀ t : Fin cfg0.N, (cfg0.win 6).flush t = true :=
  (by decide +kernel : ∀ t : Fin grid0.N, win0_6.flush t = true)

/-- The result array at an index, over real arguments. -/
theorem arr_apply (X : ℕ → ℕ → ℝ) (Q1 K1 Q2 K2 G : ℕ → ℝ) (e e5 f : ℝ) (hpos : 0 < e)
    (he : Ideal.ofBits .f32 0x3727C5AC#32 = (e : EReal)) (he5 : Ideal.ofBits .f32 0x3E4CCCCD#32 = (e5 : EReal))
    (hf : Ideal.ofBits .f32 0x3F4CCCCD#32 = (f : EReal))
    (h0 : ∀ (i : Fin 16384) (x : Fin 2816), (m (c, main_arg0) : FVec Ideal S16384x2816 .bf16) (ix2 i x) = ((X i.val x.val : ℝ) : EReal))
    (h1 : ∀ i : Fin 32, (m (c, main_arg1) : FVec Ideal S32 .f32) (ix1 i) = ((Q1 i.val : ℝ) : EReal))
    (h2 : ∀ i : Fin 32, (m (c, main_arg2) : FVec Ideal S32 .f32) (ix1 i) = ((K1 i.val : ℝ) : EReal))
    (h3 : ∀ i : Fin 32, (m (c, main_arg3) : FVec Ideal S32 .f32) (ix1 i) = ((Q2 i.val : ℝ) : EReal))
    (h4 : ∀ i : Fin 32, (m (c, main_arg4) : FVec Ideal S32 .f32) (ix1 i) = ((K2 i.val : ℝ) : EReal))
    (h5 : ∀ i : Fin 64, (m (c, main_arg5) : FVec Ideal S64 .f32) (ix1 i) = ((G i.val : ℝ) : EReal)) (i : Fin 16384) (x : Fin 256) :
    (dats m 0 c).arrAt 6 cfg0.N (ix2 i x) = ((result X (mix Q1 K1 Q2 K2 e5) G e f i.val x.val : ℝ) : EReal) := by
  obtain ⟨t, ht⟩ : ∃ t : Fin cfg0.N, t.val = i.val / 256 := ⟨⟨i.val / 256, by show _ < 64; omega⟩, rfl⟩
  obtain ⟨r, hr⟩ : ∃ r : Fin 256, r.val = i.val % 256 := ⟨⟨i.val % 256, by omega⟩, rfl⟩
  have hN : t.val < 64 := t.isLt
  have hi : i.val = 256 * t.val + r.val := by omega
  have b := congrFun (Cert.AttnIdeal.Value.blocks6 m c t (flush6 t)) (ix2 r x)
  rw [Cert.AttnIdeal.Value.flushed6_A] at b
  have b' : (dats m 0 c).arrAt 6 cfg0.N (((cfg0.win 6).blk t).view.emb (ix2 r x)) = out0_A_6 c _ _ _ _ _ _ _ _ _ _ _ _ _ _ _ (iblk m c 0 t) (iblk m c 1 t) (iblk m c 2 t) (iblk m c 3 t) (iblk m c 4 t) (iblk m c 5 t) (ix2 r x) := b
  rw [emb6 t r x i hi, out_eq] at b'
  rw [b']
  have hq : ∀ (r' x' : Fin 256), iblk m c 1 t (ix2 r' x') = ((X (256 * t.val + r'.val) x'.val : ℝ) : EReal) := fun r' x' => by
    rw [iblk1_apply m c t r' x' ⟨256 * t.val + r'.val, by omega⟩ ⟨x'.val, by omega⟩ rfl rfl]; exact h0 _ _
  have hk : ∀ (j : Fin 2048) (x' : Fin 256), iblk m c 2 t (ix2 j x') = ((X (2048 * (t.val / 8) + j.val) (256 + x'.val) : ℝ) : EReal) := fun j x' => by
    rw [iblk2_apply m c t j x' ⟨2048 * (t.val / 8) + j.val, by omega⟩ ⟨256 + x'.val, by omega⟩ rfl rfl]; exact h0 _ _
  have hv : ∀ (j : Fin 2048) (x' : Fin 256), iblk m c 3 t (ix2 j x') = ((X (2048 * (t.val / 8) + j.val) (512 + x'.val) : ℝ) : EReal) := fun j x' => by
    rw [iblk3_apply m c t j x' ⟨2048 * (t.val / 8) + j.val, by omega⟩ ⟨512 + x'.val, by omega⟩ rfl rfl]; exact h0 _ _
  have hl : iblk m c 0 t (ix1 0) = ((mix Q1 K1 Q2 K2 e5 : ℝ) : EReal) := (iblk0_apply m c t).trans (V_lam m c Q1 K1 Q2 K2 e5 he5 h1 h2 h3 h4)
  have hg : ∀ x' : Fin 256, iblk m c 4 t (ix2 0 x') = ((G (x'.val % 64) * f : ℝ) : EReal) := fun x' => (iblk4_apply m c t x').trans (V_gn m c G f hf h5 x')
  have hm : ∀ y x' : Fin 256, iblk m c 5 t (ix2 y x') = _ := fun y x' => (iblk5_apply m c t y x').trans (V_means m c y x')
  have ha := acc_coe (mix Q1 K1 Q2 K2 e5) (iblk m c 1 t) (iblk m c 2 t) (iblk m c 3 t) (fun r' x' => X (256 * t.val + r') x')
    (fun j x' => X (2048 * (t.val / 8) + j) (256 + x')) (fun j x' => X (2048 * (t.val / 8) + j) (512 + x')) hq hk hv
  rw [hl]
  rw [norm_coe e hpos he _ (iblk m c 4 t) (iblk m c 5 t) (fun r' x' => headn (X (256 * t.val + r')) (fun j x' => X (2048 * (t.val / 8) + j) (256 + x')) (fun j x' => X (2048 * (t.val / 8) + j) (512 + x')) (mix Q1 K1 Q2 K2 e5) (x' / 64) x') (fun x' => G (x' % 64) * f) ha hg hm r x]
  unfold result rowHead
  rw [← hi, show t.val / 8 = i.val / 2048 by omega]
  have hd : ∀ d : Fin 64, (64 * (x.val / 64) + d.val) / 64 = x.val / 64 := fun d => by omega
  simp only [hd]

end Cert.Proof.Attn

end
-- ==== Proof.AttnRef.lean ====
/- The attention's reference at an index, over real arguments. -/
module

public import proofs.«01_k».proof.Proof.AttnArr
public import proofs.«01_k».proof.Proof.Gen.AttnRefIdeal.Run
public import proofs.«01_k».proof.Proof.Gen.AttnRefIdeal.Read

@[expose] public section

set_option maxRecDepth 16384

noncomputable section

namespace Cert.Proof.Attn

open Cert.AttnRefIdeal Idealize.ShloMosaic Idealize.ShloMosaic.TcCoe

variable (X : ℕ → ℕ → ℝ) (x0 : FVec Ideal S16384x2816 .bf16)

variable (h0 : ∀ (i : Fin 16384) (x : Fin 2816), x0 (ix2 i x) = ((X i.val x.val : ℝ) : EReal))
variable (x1 x2 x3 x4 : FVec Ideal S32 .f32) (lam : ℝ) (hl : Read.val_main_v14 (F := Ideal) x1 x2 x3 x4 ix0 = (lam : EReal))

/-- A component's scores along a row: its lanes begin at `64 h + 32 g`. -/
def sc (b h g q : ℕ) : Fin 2048 → ℝ := scn (X (2048 * b + q)) (fun j x => X (2048 * b + j) (256 + x)) (64 * h + 32 * g)

include h0 in
/-- The reference's queries. -/
theorem v2_apply (b : Fin 8) (q : Fin 2048) (h : Fin 4) (g : Fin 2) (y : Fin 32) :
    Read.val_main_v2 (F := Ideal) x0 (ix5 b q h g y) = ((X (2048 * b.val + q.val) (64 * h.val + 32 * g.val + y.val) : ℝ) : EReal) := by
  pointwise [Read.val_main_v2, Read.val_main_v1, Read.val_main_v0]
  rw [h0]
  simp only [Nat.mul_comm]

include h0 in
/-- The reference's keys. -/
theorem v4_apply (b : Fin 8) (q : Fin 2048) (h : Fin 4) (g : Fin 2) (y : Fin 32) :
    Read.val_main_v4 (F := Ideal) x0 (ix5 b q h g y) = ((X (2048 * b.val + q.val) (256 + (64 * h.val + 32 * g.val + y.val)) : ℝ) : EReal) := by
  pointwise [Read.val_main_v4, Read.val_main_v3, Read.val_main_v0]
  rw [h0]
  simp only [Nat.mul_comm]

include h0 in
/-- The reference's values. -/
theorem v6_apply (b : Fin 8) (q : Fin 2048) (h : Fin 4) (d : Fin 64) :
    Read.val_main_v6 (F := Ideal) x0 (ix4 b q h d) = ((X (2048 * b.val + q.val) (512 + (64 * h.val + d.val)) : ℝ) : EReal) := by
  pointwise [Read.val_main_v6, Read.val_main_v5, Read.val_main_v0]
  rw [h0]
  simp only [Nat.mul_comm]

include h0 in
/-- The reference's scores. -/
theorem v15_apply (b : Fin 8) (h : Fin 4) (g : Fin 2) (q k : Fin 2048) :
    Read.val_main_v15 (F := Ideal) x0 (ix5 b h g q k) = ((sc X b.val h.val g.val q.val k : ℝ) : EReal) := by
  pointwise [Read.val_main_v15]
  simp only [v2_apply X x0 h0, v4_apply X x0 h0, ← EReal.coe_mul, coe_sum]
  rfl

include h0 in
/-- The reference's powers: each score less the row's greatest. -/
theorem v21_apply (b : Fin 8) (h : Fin 4) (g : Fin 2) (q : Fin 2048) : ∃ M : ℝ, ∀ k : Fin 2048,
    Read.val_main_v21 (F := Ideal) x0 (ix5 b h g q k) = (((2 : ℝ) ^ (sc X b.val h.val g.val q.val k - M) : ℝ) : EReal) := by
  obtain ⟨M, hM⟩ := fold_max_coe (sc X b.val h.val g.val q.val)
  refine ⟨M, fun k => ?_⟩
  have h16 : Read.val_main_v16 (F := Ideal) x0 (ix4 b h g q) = (M : EReal) := by
    pointwise [Read.val_main_v16]
    simp only [v15_apply X x0 h0]
    pointwise [Read.val_main_cst_2]
    rw [ofBits_bot, hM]
  pointwise [Read.val_main_v21, Read.val_main_v20, Read.val_main_v19, Read.val_main_v18, Read.val_main_v17, Read.val_main_cst_3]
  rw [v15_apply X x0 h0, h16, ofBits_2, ← EReal.coe_sub]
  rfl

include h0 in
/-- The reference's softmax. -/
theorem v25_apply (b : Fin 8) (h : Fin 4) (g : Fin 2) (q k : Fin 2048) :
    Read.val_main_v25 (F := Ideal) x0 (ix5 b h g q k)
      = (((2 : ℝ) ^ sc X b.val h.val g.val q.val k / ∑ l, (2 : ℝ) ^ sc X b.val h.val g.val q.val l : ℝ) : EReal) := by
  obtain ⟨M, hM⟩ := v21_apply X x0 h0 b h g q
  pointwise [Read.val_main_v25, Read.val_main_v24, Read.val_main_v23, Read.val_main_v22, Read.val_main_cst_4]
  simp only [hM, coe_sum]
  rw [div_real _ (sum_pow_pos _).ne', shift_weight]

/-- The first component's weights. -/
theorem v27_apply (b : Fin 8) (h : Fin 4) (q k : Fin 2048) :
    Read.val_main_v27 (F := Ideal) x0 (ix4 b h q k) = Read.val_main_v25 (F := Ideal) x0 (ix5 b h 0 q k) := by
  pointwise [Read.val_main_v27, Read.val_main_v26]

/-- The second component's weights. -/
theorem v29_apply (b : Fin 8) (h : Fin 4) (q k : Fin 2048) :
    Read.val_main_v29 (F := Ideal) x0 (ix4 b h q k) = Read.val_main_v25 (F := Ideal) x0 (ix5 b h 1 q k) := by
  pointwise [Read.val_main_v29, Read.val_main_v28]

include h0 hl in
/-- The reference's weights: one component's softmax less the mixing weight times the other's. -/
theorem v32_apply (b : Fin 8) (h : Fin 4) (q k : Fin 2048) : Read.val_main_v32 (F := Ideal) x0 x1 x2 x3 x4 (ix4 b h q k)
      = (((2 : ℝ) ^ sc X b.val h.val 0 q.val k / ∑ l, (2 : ℝ) ^ sc X b.val h.val 0 q.val l - lam * ((2 : ℝ) ^ sc X b.val h.val 1 q.val k / ∑ l, (2 : ℝ) ^ sc X b.val h.val 1 q.val l) : ℝ) : EReal) := by
  have e0 := (v27_apply x0 b h q k).trans (v25_apply X x0 h0 b h 0 q k)
  have e1 := (v29_apply x0 b h q k).trans (v25_apply X x0 h0 b h 1 q k)
  have e2 : Read.val_main_v30 (F := Ideal) x1 x2 x3 x4 (ix4 b h q k) = (lam : EReal) := by
    pointwise [Read.val_main_v30]
    exact hl
  rw [Read.val_main_v32_apply, Read.val_main_v31_apply, e0, e1, e2, EReal.coe_sub, EReal.coe_mul]
  rfl

/-- The differences of the weights, summed against the values, are the difference of the attentions. -/
theorem sum_weights (lam : ℝ) (s t w : Fin 2048 → ℝ) :
    (∑ k, w k * ((2 : ℝ) ^ s k / ∑ l, (2 : ℝ) ^ s l - lam * ((2 : ℝ) ^ t k / ∑ l, (2 : ℝ) ^ t l))) = att s w - lam * att t w := by
  unfold att
  rw [Finset.mul_sum, ← Finset.sum_sub_distrib]
  refine Finset.sum_congr rfl fun k _ => ?_
  ring

include h0 hl in
/-- The reference's differential attention of one head. -/
theorem v34_apply (b : Fin 8) (q : Fin 2048) (h : Fin 4) (d : Fin 64) :
    Read.val_main_v34 (F := Ideal) x0 x1 x2 x3 x4 (ix4 b q h d)
      = ((rowHead X lam (2048 * b.val + q.val) h.val (64 * h.val + d.val) : ℝ) : EReal) := by
  pointwise [Read.val_main_v34, Read.val_main_v33]
  simp only [v6_apply X x0 h0, v32_apply X x0 h0 x1 x2 x3 x4 lam hl, ← EReal.coe_mul, coe_sum]
  rw [sum_weights]
  have hb : (2048 * b.val + q.val) / 2048 = b.val := by omega
  unfold rowHead headn sc
  rw [hb, Nat.mul_zero, Nat.add_zero, Nat.mul_one]

include h0 hl in
/-- The reference's result at an index. -/
theorem v51_apply (x5 : FVec Ideal S64 .f32) (G : ℕ → ℝ) (e f : ℝ) (hpos : 0 < e)
    (he : Ideal.ofBits .f32 0x3727C5AC#32 = (e : EReal)) (hf : Ideal.ofBits .f32 0x3F4CCCCD#32 = (f : EReal))
    (h5 : ∀ i : Fin 64, x5 (ix1 i) = ((G i.val : ℝ) : EReal)) (i : Fin 16384) (c : Fin 256) :
    Read.val_main_v51 (F := Ideal) x0 x1 x2 x3 x4 x5 (ix2 i c) = ((result X lam G e f i.val c.val : ℝ) : EReal) := by
  pointwise [Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_cst_5, Read.val_main_cst_6, Read.val_main_cst_7, Read.val_main_cst_8]
  simp only [v34_apply X x0 h0 x1 x2 x3 x4 lam hl, h5, ofBits_64, he, hf, ← EReal.coe_mul, coe_sum]
  have hp : 0 < (∑ d : Fin 64, rowHead X lam (2048 * (i.val / 2048) + i.val % 2048) (c.val / 64) (64 * (c.val / 64) + d.val) * rowHead X lam (2048 * (i.val / 2048) + i.val % 2048) (c.val / 64) (64 * (c.val / 64) + d.val)) / 64 + e :=
    add_pos_of_nonneg_of_pos (div_nonneg (Finset.sum_nonneg fun d _ => mul_self_nonneg _) (by norm_num)) hpos
  rw [div_real _ (by norm_num : (64 : ℝ) ≠ 0), ← EReal.coe_add, rsqrt_pos hp]
  simp only [← EReal.coe_mul, Nat.div_add_mod, mul_assoc]
  unfold result nrm
  rw [mul_assoc]

/-- The reference's mixing weight. -/
theorem v14_apply (Q1 K1 Q2 K2 : ℕ → ℝ) (e : ℝ) (he : Ideal.ofBits .f32 0x3E4CCCCD#32 = (e : EReal))
    (h1 : ∀ i : Fin 32, x1 (ix1 i) = ((Q1 i.val : ℝ) : EReal)) (h2 : ∀ i : Fin 32, x2 (ix1 i) = ((K1 i.val : ℝ) : EReal))
    (h3 : ∀ i : Fin 32, x3 (ix1 i) = ((Q2 i.val : ℝ) : EReal)) (h4 : ∀ i : Fin 32, x4 (ix1 i) = ((K2 i.val : ℝ) : EReal)) :
    Read.val_main_v14 (F := Ideal) x1 x2 x3 x4 ix0 = ((mix Q1 K1 Q2 K2 e : ℝ) : EReal) := by
  pointwise [Read.val_main_v14, Read.val_main_v13, Read.val_main_v12, Read.val_main_v11, Read.val_main_v10, Read.val_main_v9, Read.val_main_v8, Read.val_main_v7, Read.val_main_cst, Read.val_main_cst_0, Read.val_main_cst_1]
  simp only [h1, h2, h3, h4, he, ← EReal.coe_mul, coe_sum, Ideal.exp_coe, ← EReal.coe_sub, ← EReal.coe_add]
  rfl

end Cert.Proof.Attn

end
-- ==== Proof.AttnClaims.lean ====
/- The claims about the attention: its runs, and that it computes its reference over the reals. -/
module

public import proofs.«01_k».proof.Defs
public import proofs.«01_k».proof.Proof.AttnRef
public import proofs.«01_k».proof.Proof.Gen.Attn.Frame
public import proofs.«01_k».proof.Proof.Gen.AttnRef.Run
public import proofs.«01_k».proof.Proof.Gen.Pre_attn_finite
public import Idealize.ShloMosaic.Lib.ReduceAll
public import Idealize.ShloMosaic.Lib.Claim

@[expose] public section

set_option maxRecDepth 16384

noncomputable section

namespace Cert.Proof.Attn

open Idealize.ShloMosaic Idealize.SL.Sem Idealize.ShloMosaic.TcCoe

/-- The word of plus infinity. -/
theorem ofBits_top : Ideal.ofBits .f32 0x7F800000#32 = ⊤ := by simp [Ideal.ofBits, Ideal.ieee]

/-- An extended real whose absolute value compares below plus infinity is a real. -/
theorem real_of_abs_lt (x : EReal) (h : FloatOps.cmpf (F := Ideal) (φ := .f32) .olt (FloatOps.absf (F := Ideal) (φ := .f32) x) (Ideal.ofBits .f32 0x7F800000#32) = 1#1) : x = ((x.toReal : ℝ) : EReal) := by
  rw [ofBits_top] at h
  have hne : ∀ y : EReal, max y (-y) = ⊤ → x = y → False := by
    rintro y hy rfl
    revert h
    show ¬ Ideal.cmp .olt (max x (-x)) ⊤ = 1#1
    rw [hy]
    simp [Ideal.cmp]
  induction x using EReal.rec with
  | bot => exact (hne ⊥ (by simp) rfl).elim
  | top => exact (hne ⊤ (by simp) rfl).elim
  | coe x => rfl

/-- The precondition's content: every argument's elements are reals. -/
theorem finite_args (x0 : FVec Ideal Cert.Pre_attn_finite.S16384x2816 .bf16) (x1 x2 x3 x4 : FVec Ideal Cert.Pre_attn_finite.S32 .f32) (x5 : FVec Ideal Cert.Pre_attn_finite.S64 .f32)
    (h : Cert.Pre_attn_finite.fn (F := Ideal) x0 x1 x2 x3 x4 x5 = fun _ => 1#1) :
    (∀ i, x0 i = ((EReal.toReal (x0 i) : ℝ) : EReal)) ∧ (∀ i, x1 i = ((EReal.toReal (x1 i) : ℝ) : EReal)) ∧ (∀ i, x2 i = ((EReal.toReal (x2 i) : ℝ) : EReal))
      ∧ (∀ i, x3 i = ((EReal.toReal (x3 i) : ℝ) : EReal)) ∧ (∀ i, x4 i = ((EReal.toReal (x4 i) : ℝ) : EReal)) ∧ (∀ i, x5 i = ((EReal.toReal (x5 i) : ℝ) : EReal)) := by
  have e := congrFun h ix0
  have e' : IntOp.andi _ _ = 1#1 := e
  obtain ⟨e', e5⟩ := IntOp.andi_eq_one.1 e'
  have e' : IntOp.andi _ _ = 1#1 := e'
  obtain ⟨e', e4⟩ := IntOp.andi_eq_one.1 e'
  have e' : IntOp.andi _ _ = 1#1 := e'
  obtain ⟨e', e3⟩ := IntOp.andi_eq_one.1 e'
  have e' : IntOp.andi _ _ = 1#1 := e'
  obtain ⟨e', e2⟩ := IntOp.andi_eq_one.1 e'
  have e' : IntOp.andi _ _ = 1#1 := e'
  obtain ⟨e0, e1⟩ := IntOp.andi_eq_one.1 e'
  haveI : Subsingleton Cert.Pre_attn_finite.S_.Idx := ⟨fun a b => funext fun k => k.elim0⟩
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i), fun i => real_of_abs_lt _ (Host.reduce_andi_all _ _ _ _ _ e5 i)⟩

/-- A list's reals, zero past its end. -/
def reals {n : ℕ} (x : Fin n → EReal) (i : ℕ) : ℝ := if h : i < n then (x ⟨i, h⟩).toReal else 0

/-- The list's reals at a number in range. -/
theorem reals_val {n : ℕ} (x : Fin n → EReal) (i : Fin n) : reals x i.val = (x i).toReal := by
  unfold reals; rw [dif_pos i.isLt]

/-- A table's reals, zero outside it. -/
def table {a b : ℕ} (x : Fin a → Fin b → EReal) (i j : ℕ) : ℝ := if h : i < a ∧ j < b then (x ⟨i, h.1⟩ ⟨j, h.2⟩).toReal else 0

/-- The table's reals at numbers in range. -/
theorem table_val {a b : ℕ} (x : Fin a → Fin b → EReal) (i : Fin a) (j : Fin b) : table x i.val j.val = (x i j).toReal := by
  unfold table; rw [dif_pos ⟨i.isLt, j.isLt⟩]

/-- The reference's result is its last operation's value at the arguments. -/
theorem run_reference (m : (ℓ : Loc Cert.AttnRefIdeal.nD Cert.AttnRefIdeal.τ Cert.AttnRefIdeal.sig) → Buf (Elt Ideal) ℓ) (c : Dev Cert.AttnRefIdeal.nD) :
    Cert.AttnRefIdeal.Value.res_out0 m c = Cert.AttnRefIdeal.Read.val_main_v51 (F := Ideal) (m (c, Cert.AttnRefIdeal.main_arg0)) (m (c, Cert.AttnRefIdeal.main_arg1)) (m (c, Cert.AttnRefIdeal.main_arg2))
      (m (c, Cert.AttnRefIdeal.main_arg3)) (m (c, Cert.AttnRefIdeal.main_arg4)) (m (c, Cert.AttnRefIdeal.main_arg5)) := by
  unfold Cert.AttnRefIdeal.Value.res_out0
  rw [Cert.AttnRefIdeal.Read.val_main_v51_eq]

/-- The kernel runs and leaves its arguments as they were. -/
theorem frame_p : Cert.quiescent_Attn := fun m ρ _ => Cert.Attn.Gen.frame m ρ
/-- The idealized kernel runs and leaves its arguments as they were. -/
theorem frame_pi : Cert.quiescent_AttnIdeal := fun m ρ _ => Cert.AttnIdeal.Gen.frame m ρ
/-- The same under the precondition. -/
theorem frame_pi_pre : Cert.quiescent_AttnIdeal_pre_attn_finite := fun m ρ _ => Cert.AttnIdeal.Gen.frame m ρ
/-- The idealized reference runs and leaves its arguments as they were. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- The same under the precondition. -/
theorem frame_ri_pre : Cert.quiescent_AttnRefIdeal_pre_attn_finite := fun m ρ _ =>
  (θ_run Cert.AttnRefIdeal.defs _ _).mono (fun r h => ⟨fun c => (h c).2, sem_eq_zero_of_no_sems (by decide) r.2⟩)
    (Cert.AttnRefIdeal.Value.run (F := Ideal) m ρ)
/-- The reference runs and leaves its arguments as they were. -/
theorem frame_r : Cert.quiescent_AttnRef := fun m ρ _ =>
  (θ_run Cert.AttnRef.defs _ _).mono (fun r h => ⟨fun c => (h c).2, sem_eq_zero_of_no_sems (by decide) r.2⟩)
    (Cert.AttnRef.Value.run (F := Bits) m ρ)

/-- Over finite arguments the kernel and its reference leave the same array. -/
theorem algebraic : Cert.algebraic_AttnIdeal_AttnRefIdeal_pre_attn_finite := by
  intro m ρ m' ρ' hpre hagree
  refine ⟨_, Cert.AttnIdeal.Value.run_blocks (F := Ideal) m ρ, ?_⟩
  refine (θ_run Cert.AttnRefIdeal.defs _ _).mono (fun r h c => ⟨(h c).1.trans ?_, (h c).2⟩) (Cert.AttnRefIdeal.Value.run (F := Ideal) m' ρ')
  obtain ⟨f0, f1, f2, f3, f4, f5⟩ := finite_args _ _ _ _ _ _ (hpre c)
  obtain ⟨a0, a1, a2, a3, a4, a5⟩ := hagree c
  obtain ⟨e, hpos, he⟩ := ofBits_eps
  obtain ⟨e5, he5⟩ := ofBits_fifth
  obtain ⟨f, hf⟩ := ofBits_four_fifths
  refine (run_reference m' c).trans ?_
  have b0 : m' (c, Cert.AttnRefIdeal.main_arg0) = m (c, Cert.AttnIdeal.main_arg0) := a0
  have b1 : m' (c, Cert.AttnRefIdeal.main_arg1) = m (c, Cert.AttnIdeal.main_arg1) := a1
  have b2 : m' (c, Cert.AttnRefIdeal.main_arg2) = m (c, Cert.AttnIdeal.main_arg2) := a2
  have b3 : m' (c, Cert.AttnRefIdeal.main_arg3) = m (c, Cert.AttnIdeal.main_arg3) := a3
  have b4 : m' (c, Cert.AttnRefIdeal.main_arg4) = m (c, Cert.AttnIdeal.main_arg4) := a4
  have b5 : m' (c, Cert.AttnRefIdeal.main_arg5) = m (c, Cert.AttnIdeal.main_arg5) := a5
  rw [b0, b1, b2, b3, b4, b5]
  have h0 : ∀ (i : Fin 16384) (x : Fin 2816), (m (c, Cert.AttnIdeal.main_arg0) : FVec Ideal Cert.AttnIdeal.S16384x2816 .bf16) (ix2 i x)
      = ((table (fun i x => (m (c, Cert.AttnIdeal.main_arg0) : FVec Ideal Cert.AttnIdeal.S16384x2816 .bf16) (ix2 i x)) i.val x.val : ℝ) : EReal) :=
    fun i x => by rw [table_val]; exact f0 _
  have h1 : ∀ i : Fin 32, (m (c, Cert.AttnIdeal.main_arg1) : FVec Ideal Cert.AttnIdeal.S32 .f32) (ix1 i)
      = ((reals (fun i => (m (c, Cert.AttnIdeal.main_arg1) : FVec Ideal Cert.AttnIdeal.S32 .f32) (ix1 i)) i.val : ℝ) : EReal) := fun i => by rw [reals_val]; exact f1 _
  have h2 : ∀ i : Fin 32, (m (c, Cert.AttnIdeal.main_arg2) : FVec Ideal Cert.AttnIdeal.S32 .f32) (ix1 i)
      = ((reals (fun i => (m (c, Cert.AttnIdeal.main_arg2) : FVec Ideal Cert.AttnIdeal.S32 .f32) (ix1 i)) i.val : ℝ) : EReal) := fun i => by rw [reals_val]; exact f2 _
  have h3 : ∀ i : Fin 32, (m (c, Cert.AttnIdeal.main_arg3) : FVec Ideal Cert.AttnIdeal.S32 .f32) (ix1 i)
      = ((reals (fun i => (m (c, Cert.AttnIdeal.main_arg3) : FVec Ideal Cert.AttnIdeal.S32 .f32) (ix1 i)) i.val : ℝ) : EReal) := fun i => by rw [reals_val]; exact f3 _
  have h4 : ∀ i : Fin 32, (m (c, Cert.AttnIdeal.main_arg4) : FVec Ideal Cert.AttnIdeal.S32 .f32) (ix1 i)
      = ((reals (fun i => (m (c, Cert.AttnIdeal.main_arg4) : FVec Ideal Cert.AttnIdeal.S32 .f32) (ix1 i)) i.val : ℝ) : EReal) := fun i => by rw [reals_val]; exact f4 _
  have h5 : ∀ i : Fin 64, (m (c, Cert.AttnIdeal.main_arg5) : FVec Ideal Cert.AttnIdeal.S64 .f32) (ix1 i)
      = ((reals (fun i => (m (c, Cert.AttnIdeal.main_arg5) : FVec Ideal Cert.AttnIdeal.S64 .f32) (ix1 i)) i.val : ℝ) : EReal) := fun i => by rw [reals_val]; exact f5 _
  have key : ∀ (i : Fin 16384) (x : Fin 256), Cert.AttnRefIdeal.Read.val_main_v51 (F := Ideal) (m (c, Cert.AttnIdeal.main_arg0)) (m (c, Cert.AttnIdeal.main_arg1)) (m (c, Cert.AttnIdeal.main_arg2))
      (m (c, Cert.AttnIdeal.main_arg3)) (m (c, Cert.AttnIdeal.main_arg4)) (m (c, Cert.AttnIdeal.main_arg5)) (ix2 i x) = (Cert.AttnIdeal.Gen.dats m 0 c).arrAt 6 Cert.AttnIdeal.cfg0.N (ix2 i x) := fun i x =>
    (v51_apply _ _ h0 _ _ _ _ _ (v14_apply _ _ _ _ _ _ _ _ e5 he5 h1 h2 h3 h4) _ _ e f hpos he hf h5 i x).trans
      (arr_apply m c _ _ _ _ _ _ e e5 f hpos he he5 hf h0 h1 h2 h3 h4 h5 i x).symm
  funext y
  obtain ⟨i, x, rfl⟩ : ∃ (i : Fin 16384) (x : Fin 256), y = ix2 i x := ⟨y 0, y 1, by funext a; match a with | ⟨0, _⟩ => rfl | ⟨1, _⟩ => rfl⟩
  exact key i x

end Cert.Proof.Attn

end
-- ==== Proof.InBlock.lean ====
/- What one grid point of the input projection stores, entry by entry: a dot product, turned and scaled by its column. -/
module

public import proofs.«01_k».proof.Proof.Gen.InProjIdeal.Value
public import Idealize.ShloMosaic.Lib.Pointwise
public import Idealize.ShloMosaic.Lib.Pipeline.ValueKit

@[expose] public section

set_option maxRecDepth 16384

noncomputable section

namespace Cert.Proof.In

open Idealize.ShloMosaic Idealize.ShloMosaic.TcCoe

/-- An entry turned by its angle: itself by the cosine, the entry half a head away by the signed sine. -/
def rope (h : ℕ) (d c s : ℕ → EReal) (n : ℕ) : EReal := d n * c n + d (if n % (2 * h) < h then n + h else n - h) * s n

/-- A row of the projection at a column, from the row's dot products and its four tables. -/
def cell (d c1 s1 c2 s2 : ℕ → EReal) (n : ℕ) : EReal :=
  if n < 256 then rope 16 d c1 s1 n * Ideal.ofBits .f32 0x3E8293EE#32
  else if n < 512 then rope 16 d c1 s1 n
  else if n < 1536 then d n
  else if n < 1792 then d n * Ideal.ofBits .f32 0x3E38AA3B#32
  else if n < 2304 then d n
  else if n < 2560 then rope 32 d c2 s2 n * Ideal.ofBits .f32 0x3E38AA3B#32
  else if n < 2688 then rope 32 d c2 s2 n
  else d n

open Cert.InProjIdeal Cert.InProjIdeal.Gen

/-- The lanes in the first half of their head. -/
def mask (d h : BitVec 32) : IVec S512x128 1 :=
  let q : BitVec 32 := Scalar.select (Scalar.cmpi .eq d 0#32) 1#32 d
  let r : IVec S512x128 32 := remsi (iota .tc S512x128 32 [1] iota_S512x128_d1_w32) (broadcast S512x128 q)
  cmpi .slt (select (andi (xori (cmpi .slt r (broadcast S512x128 0#32)) (broadcastTo S512x128 (broadcast S512x128 (Scalar.cmpi .slt q 0#32)) broadcasts_S512x128_S512x128))
    (cmpi .ne r (broadcast S512x128 0#32))) (addi r (broadcast S512x128 q)) r) (broadcast S512x128 h)

/-- The lanes turned by the tables. -/
def turn (d h g : BitVec 32) (y c s : FVec Ideal S512x128 .f32) : FVec Ideal S512x128 .f32 :=
  addf (mulf y c) (mulf (select (mask d h) (dynamicRotate 1 g none y rotates_S512x128_d1) (dynamicRotate 1 h none y rotates_S512x128_d1)) s)

/-- The mask of heads of 32 lanes. -/
theorem mask32 (r : Fin 512) (l : Fin 128) : mask 32#32 16#32 (ix2 r l) = (if l.val % 32 < 16 then 1#1 else 0#1) := by
  unfold mask
  pointwise
  revert l; decide +kernel

/-- The mask of heads of 64 lanes. -/
theorem mask64 (r : Fin 512) (l : Fin 128) : mask 64#32 32#32 (ix2 r l) = (if l.val % 64 < 32 then 1#1 else 0#1) := by
  unfold mask
  pointwise
  revert l; decide +kernel

/-- A turned entry among heads of 32 lanes. -/
theorem turn32 (y c s : FVec Ideal S512x128 .f32) (r : Fin 512) (l : Fin 128) (d c' s' : ℕ → EReal) (o : ℕ) (ho : o % 128 = 0)
    (hd : ∀ l : Fin 128, y (ix2 r l) = d (o + l.val)) (hc : c (ix2 r l) = c' (o + l.val)) (hs : s (ix2 r l) = s' (o + l.val)) :
    turn 32#32 16#32 112#32 y c s (ix2 r l) = rope 16 d c' s' (o + l.val) := by
  unfold turn rope
  pointwise
  rw [mask32, hc, hs, hd l, hd, hd]
  by_cases q : l.val % 32 < 16
  · rw [if_pos q, if_pos (by omega), show o + (l.val + 128 - 112) % 128 = o + l.val + 16 by omega]; rfl
  · rw [if_neg q, if_neg (by omega), show o + (l.val + 128 - 16) % 128 = o + l.val - 16 by omega]; rfl

/-- A turned entry among heads of 64 lanes. -/
theorem turn64 (y c s : FVec Ideal S512x128 .f32) (r : Fin 512) (l : Fin 128) (d c' s' : ℕ → EReal) (o : ℕ) (ho : o % 128 = 0)
    (hd : ∀ l : Fin 128, y (ix2 r l) = d (o + l.val)) (hc : c (ix2 r l) = c' (o + l.val)) (hs : s (ix2 r l) = s' (o + l.val)) :
    turn 64#32 32#32 96#32 y c s (ix2 r l) = rope 32 d c' s' (o + l.val) := by
  unfold turn rope
  pointwise
  rw [mask64, hc, hs, hd l, hd, hd]
  by_cases q : l.val % 64 < 32
  · rw [if_pos q, if_pos (by omega), show o + (l.val + 128 - 96) % 128 = o + l.val + 32 by omega]; rfl
  · rw [if_neg q, if_neg (by omega), show o + (l.val + 128 - 32) % 128 = o + l.val - 32 by omega]; rfl

/-- The dot products of a block's rows with 256 columns of the weights. -/
def mm (x0 : FVec Ideal S512x1024 .f32) (w : FVec Ideal S1024x256 .bf16) : FVec Ideal S512x256 .f32 :=
  matmul dot_S512x1024_S1024x256_S512x256_1_0_0_1_n_n none (truncf .bf16 x0 bitsLt_bf16_f32) (shapeCast S1024x256 w shapeCasts_S1024x256_S1024x256) (constant S512x256 .f32 0x00000000#32)

/-- Those dot products at an index. -/
theorem mm_apply (x0 : FVec Ideal S512x1024 .f32) (w : FVec Ideal S1024x256 .bf16) (r : Fin 512) (j : Fin 256) :
    mm x0 w (ix2 r j) = ∑ k : Fin 1024, (x0 (ix2 r k) : EReal) * w (ix2 k j) := by
  unfold mm
  pointwise

/-- Their first 128 columns. -/
def lo (v : FVec Ideal S512x256 .f32) : FVec Ideal S512x128 .f32 := extractStridedSlice S512x128 ![0, 0] v slices_S512x256_o0_0_S512x128
/-- Their last 128 columns. -/
def hi (v : FVec Ideal S512x256 .f32) : FVec Ideal S512x128 .f32 := extractStridedSlice S512x128 ![0, 128] v slices_S512x256_o0_128_S512x128

/-- A row's dot product with a column of the weights. -/
def dots (x0 : FVec Ideal S512x1024 .f32) (x1 : FVec Ideal S1024x2816 .bf16) (r : Fin 512) (n : ℕ) : EReal :=
  ∑ k : Fin 1024, (x0 (ix2 r k) : EReal) * x1 (ix2 k ⟨n % 2816, Nat.mod_lt _ (by decide)⟩)

/-- A row of a table, repeated along the columns. -/
def row (t : FVec Ideal S512x128 .f32) (r : Fin 512) (n : ℕ) : EReal := t (ix2 r ⟨n % 128, Nat.mod_lt _ (by decide)⟩)

/-- The first 128 columns of a load of the weights. -/
theorem lo_dots (x0 : FVec Ideal S512x1024 .f32) (x1 : FVec Ideal S1024x2816 .bf16) (w : FVec Ideal S1024x256 .bf16) (o : ℕ) (ho : o + 256 ≤ 2816)
    (hw : ∀ (k : Fin 1024) (j : Fin 256), w (ix2 k j) = x1 (ix2 k ⟨o + j.val, by omega⟩)) (r : Fin 512) (l : Fin 128) :
    lo (mm x0 w) (ix2 r l) = dots x0 x1 r (o + l.val) := by
  unfold lo
  pointwise
  rw [mm_apply]
  unfold dots
  refine Finset.sum_congr rfl fun k _ => ?_
  rw [hw]
  congr 3; apply Fin.ext; show o + l.val = (o + l.val) % 2816; omega

/-- The last 128 columns of a load of the weights. -/
theorem hi_dots (x0 : FVec Ideal S512x1024 .f32) (x1 : FVec Ideal S1024x2816 .bf16) (w : FVec Ideal S1024x256 .bf16) (o : ℕ) (ho : o + 256 ≤ 2816)
    (hw : ∀ (k : Fin 1024) (j : Fin 256), w (ix2 k j) = x1 (ix2 k ⟨o + j.val, by omega⟩)) (r : Fin 512) (l : Fin 128) :
    hi (mm x0 w) (ix2 r l) = dots x0 x1 r (o + 128 + l.val) := by
  unfold hi
  pointwise
  rw [mm_apply]
  unfold dots
  refine Finset.sum_congr rfl fun k _ => ?_
  rw [hw]
  congr 3; apply Fin.ext; show o + (128 + l.val) = (o + 128 + l.val) % 2816; omega

section Cells
variable (d c1 s1 c2 s2 : ℕ → EReal) (n : ℕ)
/-- The first columns, turned and scaled. -/
theorem cell_qa (h : n < 256) : cell d c1 s1 c2 s2 n = rope 16 d c1 s1 n * Ideal.ofBits .f32 0x3E8293EE#32 := by unfold cell; rw [if_pos h]
/-- The second columns, turned. -/
theorem cell_ka (h : 256 ≤ n) (h' : n < 512) : cell d c1 s1 c2 s2 n = rope 16 d c1 s1 n := by unfold cell; rw [if_neg (by omega), if_pos h']
/-- The columns kept as they are, first. -/
theorem cell_va (h : 512 ≤ n) (h' : n < 1536) : cell d c1 s1 c2 s2 n = d n := by unfold cell; rw [if_neg (by omega), if_neg (by omega), if_pos h']
/-- The columns only scaled. -/
theorem cell_qc (h : 1536 ≤ n) (h' : n < 1792) : cell d c1 s1 c2 s2 n = d n * Ideal.ofBits .f32 0x3E38AA3B#32 := by
  unfold cell; rw [if_neg (by omega), if_neg (by omega), if_neg (by omega), if_pos h']
/-- The columns kept as they are, second. -/
theorem cell_kvc (h : 1792 ≤ n) (h' : n < 2304) : cell d c1 s1 c2 s2 n = d n := by
  unfold cell; rw [if_neg (by omega), if_neg (by omega), if_neg (by omega), if_neg (by omega), if_pos h']
/-- The columns turned by the wider heads and scaled. -/
theorem cell_qd (h : 2304 ≤ n) (h' : n < 2560) : cell d c1 s1 c2 s2 n = rope 32 d c2 s2 n * Ideal.ofBits .f32 0x3E38AA3B#32 := by
  unfold cell; rw [if_neg (by omega), if_neg (by omega), if_neg (by omega), if_neg (by omega), if_neg (by omega), if_pos h']
/-- The columns turned by the wider heads. -/
theorem cell_kd (h : 2560 ≤ n) (h' : n < 2688) : cell d c1 s1 c2 s2 n = rope 32 d c2 s2 n := by
  unfold cell; rw [if_neg (by omega), if_neg (by omega), if_neg (by omega), if_neg (by omega), if_neg (by omega), if_neg (by omega), if_pos h']
/-- The columns kept as they are, last. -/
theorem cell_vd (h : 2688 ≤ n) : cell d c1 s1 c2 s2 n = d n := by
  unfold cell; rw [if_neg (by omega), if_neg (by omega), if_neg (by omega), if_neg (by omega), if_neg (by omega), if_neg (by omega), if_neg (by omega)]
end Cells

/-- A whole block read is the block. -/
theorem ld_x (x : FVec Ideal S512x1024 .f32) : View.ld (Val := Elt Ideal) (e' := .f32) x r0_0 = x := by
  funext y; show x (r0_0.emb y) = x y; congr 1; funext a; apply Fin.ext
  match a with
  | ⟨0, _⟩ => show 0 + 1 * (y 0).val = (y 0).val; omega
  | ⟨1, _⟩ => show 0 + 1 * (y 1).val = (y 1).val; omega

/-- A whole table read is the table. -/
theorem ld_t (x : FVec Ideal S512x128 .f32) : shapeCast S512x128 (View.ld (Val := Elt Ideal) (e' := .f32) x r0_1) shapeCasts_S512x128_S512x128 = x := by
  funext y
  obtain ⟨i, x, rfl⟩ : ∃ (i : Fin 512) (x : Fin 128), y = ix2 i x := ⟨y 0, y 1, by funext a; match a with | ⟨0, _⟩ => rfl | ⟨1, _⟩ => rfl⟩
  pointwise

/-- Columns of the weights read. -/
theorem ld_w (x : FVec Ideal S1024x2816 .bf16) (o : ℕ) (ho : o + 256 ≤ 2816) (h) (k : Fin 1024) (j : Fin 256) :
    View.ld (Val := Elt Ideal) (e' := .bf16) x (Rect.unit (s := S1024x2816) ![0, o] S1024x256.size h) (ix2 k j) = x (ix2 k ⟨o + j.val, by omega⟩) := by
  show x ((Rect.unit (s := S1024x2816) ![0, o] S1024x256.size h).emb (ix2 k j)) = _
  congr 1; funext a; apply Fin.ext
  match a with
  | ⟨0, _⟩ => show 0 + 1 * k.val = k.val; omega
  | ⟨1, _⟩ => show o + 1 * j.val = o + j.val; omega

/-- Where a piece lies in the block. -/
theorem emb_col (o : ℕ) (ho : o + 128 ≤ 2816) (h) (r : Fin 512) (l : Fin 128) :
    (Rect.unit (s := S512x2816) ![0, o] S512x128.size h).emb (ix2 r l) = ix2 r ⟨o + l.val, by omega⟩ := by
  funext a; apply Fin.ext
  match a with
  | ⟨0, _⟩ => show 0 + 1 * r.val = r.val; omega
  | ⟨1, _⟩ => show o + 1 * l.val = o + l.val; omega

/-- The block's entries as one function of its inputs. -/
def G (x0 : FVec Ideal S512x1024 .f32) (x1 : FVec Ideal S1024x2816 .bf16) (x2 x3 x4 x5 : FVec Ideal S512x128 .f32) (y : S512x2816.Idx) : EReal :=
  cell (dots x0 x1 (show Fin 512 from y 0)) (row x2 (show Fin 512 from y 0)) (row x3 (show Fin 512 from y 0)) (row x4 (show Fin 512 from y 0)) (row x5 (show Fin 512 from y 0)) (show Fin 2816 from y 1).val

/-- A table's row at a column whose lane is the table's. -/
theorem row_lane (t : FVec Ideal S512x128 .f32) (r : Fin 512) (l : Fin 128) (o : ℕ) (ho : o % 128 = 0) : t (ix2 r l) = row t r (o + l.val) := by
  unfold row; congr 2; apply Fin.ext; show l.val = (o + l.val) % 128; omega

/-- What a point stores, at an index. -/
theorem out_apply (x0 : FVec Ideal S512x1024 .f32) (x1 : FVec Ideal S1024x2816 .bf16) (x2 x3 x4 x5 : FVec Ideal S512x128 .f32) (r : Fin 512) (n : Fin 2816) :
    out0_6 (F := Ideal) x0 x1 x2 x3 x4 x5 (ix2 r n) = cell (dots x0 x1 r) (row x2 r) (row x3 r) (row x4 r) (row x5 r) n.val := by
  unfold out0_6
  refine (View.canon_apply_of_pieces (Val := Elt Ideal) (e := .bf16) (G x0 x1 x2 x3 x4 x5) _ ?_ (ix2 r n) (cover0_6 _ _ _ _ _ _ _ _ _ _ _ _ _ _ _ _ _ _ _ _ _ _ _)).trans rfl
  clear r n
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
  all_goals
    obtain ⟨r, l, rfl⟩ : ∃ (r : Fin 512) (l : Fin 128), x = ix2 r l := ⟨x 0, x 1, by funext a; match a with | ⟨0, _⟩ => rfl | ⟨1, _⟩ => rfl⟩
    dsimp only
  · rw [emb_col 2688 (by omega) _ r l]
    show _ = cell (dots x0 x1 r) (row x2 r) (row x3 r) (row x4 r) (row x5 r) (2688 + l.val)
    rw [cell_vd _ _ _ _ _ _ (by omega)]
    have hy : ∀ l : Fin 128, (hi (mm (View.ld (Val := Elt Ideal) (e' := .f32) x0 r0_0) (View.ld (Val := Elt Ideal) (e' := .bf16) x1 r0_32))) (ix2 r l) = dots x0 x1 r (2688 + l.val) := fun l => by rw [ld_x]; exact hi_dots x0 x1 (View.ld (Val := Elt Ideal) (e' := .bf16) x1 r0_32) 2560 (by omega) (ld_w x1 2560 (by omega) _) r l
    rw [← hy]
    rfl
  · rw [emb_col 2560 (by omega) _ r l]
    show _ = cell (dots x0 x1 r) (row x2 r) (row x3 r) (row x4 r) (row x5 r) (2560 + l.val)
    rw [cell_kd _ _ _ _ _ _ (by omega) (by omega)]
    have hy : ∀ l : Fin 128, (lo (mm (View.ld (Val := Elt Ideal) (e' := .f32) x0 r0_0) (View.ld (Val := Elt Ideal) (e' := .bf16) x1 r0_32))) (ix2 r l) = dots x0 x1 r (2560 + l.val) := fun l => by rw [ld_x]; exact lo_dots x0 x1 (View.ld (Val := Elt Ideal) (e' := .bf16) x1 r0_32) 2560 (by omega) (ld_w x1 2560 (by omega) _) r l
    have ht := turn64 (lo (mm (View.ld (Val := Elt Ideal) (e' := .f32) x0 r0_0) (View.ld (Val := Elt Ideal) (e' := .bf16) x1 r0_32))) x4 x5 r l (dots x0 x1 r) (row x4 r) (row x5 r) 2560 (by norm_num) hy (row_lane x4 r l 2560 (by norm_num)) (row_lane x5 r l 2560 (by norm_num))
    rw [← ht]
    conv_rhs => rw [← ld_t x4, ← ld_t x5]
    rfl
  · rw [emb_col 2432 (by omega) _ r l]
    show _ = cell (dots x0 x1 r) (row x2 r) (row x3 r) (row x4 r) (row x5 r) (2432 + l.val)
    rw [cell_qd _ _ _ _ _ _ (by omega) (by omega)]
    have hy : ∀ l : Fin 128, (hi (mm (View.ld (Val := Elt Ideal) (e' := .f32) x0 r0_0) (View.ld (Val := Elt Ideal) (e' := .bf16) x1 r0_29))) (ix2 r l) = dots x0 x1 r (2432 + l.val) := fun l => by rw [ld_x]; exact hi_dots x0 x1 (View.ld (Val := Elt Ideal) (e' := .bf16) x1 r0_29) 2304 (by omega) (ld_w x1 2304 (by omega) _) r l
    have ht := turn64 (hi (mm (View.ld (Val := Elt Ideal) (e' := .f32) x0 r0_0) (View.ld (Val := Elt Ideal) (e' := .bf16) x1 r0_29))) x4 x5 r l (dots x0 x1 r) (row x4 r) (row x5 r) 2432 (by norm_num) hy (row_lane x4 r l 2432 (by norm_num)) (row_lane x5 r l 2432 (by norm_num))
    rw [← ht]
    conv_rhs => rw [← ld_t x4, ← ld_t x5]
    rfl
  · rw [emb_col 2304 (by omega) _ r l]
    show _ = cell (dots x0 x1 r) (row x2 r) (row x3 r) (row x4 r) (row x5 r) (2304 + l.val)
    rw [cell_qd _ _ _ _ _ _ (by omega) (by omega)]
    have hy : ∀ l : Fin 128, (lo (mm (View.ld (Val := Elt Ideal) (e' := .f32) x0 r0_0) (View.ld (Val := Elt Ideal) (e' := .bf16) x1 r0_29))) (ix2 r l) = dots x0 x1 r (2304 + l.val) := fun l => by rw [ld_x]; exact lo_dots x0 x1 (View.ld (Val := Elt Ideal) (e' := .bf16) x1 r0_29) 2304 (by omega) (ld_w x1 2304 (by omega) _) r l
    have ht := turn64 (lo (mm (View.ld (Val := Elt Ideal) (e' := .f32) x0 r0_0) (View.ld (Val := Elt Ideal) (e' := .bf16) x1 r0_29))) x4 x5 r l (dots x0 x1 r) (row x4 r) (row x5 r) 2304 (by norm_num) hy (row_lane x4 r l 2304 (by norm_num)) (row_lane x5 r l 2304 (by norm_num))
    rw [← ht]
    conv_rhs => rw [← ld_t x4, ← ld_t x5]
    rfl
  · rw [emb_col 2176 (by omega) _ r l]
    show _ = cell (dots x0 x1 r) (row x2 r) (row x3 r) (row x4 r) (row x5 r) (2176 + l.val)
    rw [cell_kvc _ _ _ _ _ _ (by omega) (by omega)]
    have hy : ∀ l : Fin 128, (hi (mm (View.ld (Val := Elt Ideal) (e' := .f32) x0 r0_0) (View.ld (Val := Elt Ideal) (e' := .bf16) x1 r0_26))) (ix2 r l) = dots x0 x1 r (2176 + l.val) := fun l => by rw [ld_x]; exact hi_dots x0 x1 (View.ld (Val := Elt Ideal) (e' := .bf16) x1 r0_26) 2048 (by omega) (ld_w x1 2048 (by omega) _) r l
    rw [← hy]
    rfl
  · rw [emb_col 2048 (by omega) _ r l]
    show _ = cell (dots x0 x1 r) (row x2 r) (row x3 r) (row x4 r) (row x5 r) (2048 + l.val)
    rw [cell_kvc _ _ _ _ _ _ (by omega) (by omega)]
    have hy : ∀ l : Fin 128, (lo (mm (View.ld (Val := Elt Ideal) (e' := .f32) x0 r0_0) (View.ld (Val := Elt Ideal) (e' := .bf16) x1 r0_26))) (ix2 r l) = dots x0 x1 r (2048 + l.val) := fun l => by rw [ld_x]; exact lo_dots x0 x1 (View.ld (Val := Elt Ideal) (e' := .bf16) x1 r0_26) 2048 (by omega) (ld_w x1 2048 (by omega) _) r l
    rw [← hy]
    rfl
  · rw [emb_col 1920 (by omega) _ r l]
    show _ = cell (dots x0 x1 r) (row x2 r) (row x3 r) (row x4 r) (row x5 r) (1920 + l.val)
    rw [cell_kvc _ _ _ _ _ _ (by omega) (by omega)]
    have hy : ∀ l : Fin 128, (hi (mm (View.ld (Val := Elt Ideal) (e' := .f32) x0 r0_0) (View.ld (Val := Elt Ideal) (e' := .bf16) x1 r0_23))) (ix2 r l) = dots x0 x1 r (1920 + l.val) := fun l => by rw [ld_x]; exact hi_dots x0 x1 (View.ld (Val := Elt Ideal) (e' := .bf16) x1 r0_23) 1792 (by omega) (ld_w x1 1792 (by omega) _) r l
    rw [← hy]
    rfl
  · rw [emb_col 1792 (by omega) _ r l]
    show _ = cell (dots x0 x1 r) (row x2 r) (row x3 r) (row x4 r) (row x5 r) (1792 + l.val)
    rw [cell_kvc _ _ _ _ _ _ (by omega) (by omega)]
    have hy : ∀ l : Fin 128, (lo (mm (View.ld (Val := Elt Ideal) (e' := .f32) x0 r0_0) (View.ld (Val := Elt Ideal) (e' := .bf16) x1 r0_23))) (ix2 r l) = dots x0 x1 r (1792 + l.val) := fun l => by rw [ld_x]; exact lo_dots x0 x1 (View.ld (Val := Elt Ideal) (e' := .bf16) x1 r0_23) 1792 (by omega) (ld_w x1 1792 (by omega) _) r l
    rw [← hy]
    rfl
  · rw [emb_col 1664 (by omega) _ r l]
    show _ = cell (dots x0 x1 r) (row x2 r) (row x3 r) (row x4 r) (row x5 r) (1664 + l.val)
    rw [cell_qc _ _ _ _ _ _ (by omega) (by omega)]
    have hy : ∀ l : Fin 128, (hi (mm (View.ld (Val := Elt Ideal) (e' := .f32) x0 r0_0) (View.ld (Val := Elt Ideal) (e' := .bf16) x1 r0_20))) (ix2 r l) = dots x0 x1 r (1664 + l.val) := fun l => by rw [ld_x]; exact hi_dots x0 x1 (View.ld (Val := Elt Ideal) (e' := .bf16) x1 r0_20) 1536 (by omega) (ld_w x1 1536 (by omega) _) r l
    rw [← hy]
    rfl
  · rw [emb_col 1536 (by omega) _ r l]
    show _ = cell (dots x0 x1 r) (row x2 r) (row x3 r) (row x4 r) (row x5 r) (1536 + l.val)
    rw [cell_qc _ _ _ _ _ _ (by omega) (by omega)]
    have hy : ∀ l : Fin 128, (lo (mm (View.ld (Val := Elt Ideal) (e' := .f32) x0 r0_0) (View.ld (Val := Elt Ideal) (e' := .bf16) x1 r0_20))) (ix2 r l) = dots x0 x1 r (1536 + l.val) := fun l => by rw [ld_x]; exact lo_dots x0 x1 (View.ld (Val := Elt Ideal) (e' := .bf16) x1 r0_20) 1536 (by omega) (ld_w x1 1536 (by omega) _) r l
    rw [← hy]
    rfl
  · rw [emb_col 1408 (by omega) _ r l]
    show _ = cell (dots x0 x1 r) (row x2 r) (row x3 r) (row x4 r) (row x5 r) (1408 + l.val)
    rw [cell_va _ _ _ _ _ _ (by omega) (by omega)]
    have hy : ∀ l : Fin 128, (hi (mm (View.ld (Val := Elt Ideal) (e' := .f32) x0 r0_0) (View.ld (Val := Elt Ideal) (e' := .bf16) x1 r0_17))) (ix2 r l) = dots x0 x1 r (1408 + l.val) := fun l => by rw [ld_x]; exact hi_dots x0 x1 (View.ld (Val := Elt Ideal) (e' := .bf16) x1 r0_17) 1280 (by omega) (ld_w x1 1280 (by omega) _) r l
    rw [← hy]
    rfl
  · rw [emb_col 1280 (by omega) _ r l]
    show _ = cell (dots x0 x1 r) (row x2 r) (row x3 r) (row x4 r) (row x5 r) (1280 + l.val)
    rw [cell_va _ _ _ _ _ _ (by omega) (by omega)]
    have hy : ∀ l : Fin 128, (lo (mm (View.ld (Val := Elt Ideal) (e' := .f32) x0 r0_0) (View.ld (Val := Elt Ideal) (e' := .bf16) x1 r0_17))) (ix2 r l) = dots x0 x1 r (1280 + l.val) := fun l => by rw [ld_x]; exact lo_dots x0 x1 (View.ld (Val := Elt Ideal) (e' := .bf16) x1 r0_17) 1280 (by omega) (ld_w x1 1280 (by omega) _) r l
    rw [← hy]
    rfl
  · rw [emb_col 1152 (by omega) _ r l]
    show _ = cell (dots x0 x1 r) (row x2 r) (row x3 r) (row x4 r) (row x5 r) (1152 + l.val)
    rw [cell_va _ _ _ _ _ _ (by omega) (by omega)]
    have hy : ∀ l : Fin 128, (hi (mm (View.ld (Val := Elt Ideal) (e' := .f32) x0 r0_0) (View.ld (Val := Elt Ideal) (e' := .bf16) x1 r0_14))) (ix2 r l) = dots x0 x1 r (1152 + l.val) := fun l => by rw [ld_x]; exact hi_dots x0 x1 (View.ld (Val := Elt Ideal) (e' := .bf16) x1 r0_14) 1024 (by omega) (ld_w x1 1024 (by omega) _) r l
    rw [← hy]
    rfl
  · rw [emb_col 1024 (by omega) _ r l]
    show _ = cell (dots x0 x1 r) (row x2 r) (row x3 r) (row x4 r) (row x5 r) (1024 + l.val)
    rw [cell_va _ _ _ _ _ _ (by omega) (by omega)]
    have hy : ∀ l : Fin 128, (lo (mm (View.ld (Val := Elt Ideal) (e' := .f32) x0 r0_0) (View.ld (Val := Elt Ideal) (e' := .bf16) x1 r0_14))) (ix2 r l) = dots x0 x1 r (1024 + l.val) := fun l => by rw [ld_x]; exact lo_dots x0 x1 (View.ld (Val := Elt Ideal) (e' := .bf16) x1 r0_14) 1024 (by omega) (ld_w x1 1024 (by omega) _) r l
    rw [← hy]
    rfl
  · rw [emb_col 896 (by omega) _ r l]
    show _ = cell (dots x0 x1 r) (row x2 r) (row x3 r) (row x4 r) (row x5 r) (896 + l.val)
    rw [cell_va _ _ _ _ _ _ (by omega) (by omega)]
    have hy : ∀ l : Fin 128, (hi (mm (View.ld (Val := Elt Ideal) (e' := .f32) x0 r0_0) (View.ld (Val := Elt Ideal) (e' := .bf16) x1 r0_11))) (ix2 r l) = dots x0 x1 r (896 + l.val) := fun l => by rw [ld_x]; exact hi_dots x0 x1 (View.ld (Val := Elt Ideal) (e' := .bf16) x1 r0_11) 768 (by omega) (ld_w x1 768 (by omega) _) r l
    rw [← hy]
    rfl
  · rw [emb_col 768 (by omega) _ r l]
    show _ = cell (dots x0 x1 r) (row x2 r) (row x3 r) (row x4 r) (row x5 r) (768 + l.val)
    rw [cell_va _ _ _ _ _ _ (by omega) (by omega)]
    have hy : ∀ l : Fin 128, (lo (mm (View.ld (Val := Elt Ideal) (e' := .f32) x0 r0_0) (View.ld (Val := Elt Ideal) (e' := .bf16) x1 r0_11))) (ix2 r l) = dots x0 x1 r (768 + l.val) := fun l => by rw [ld_x]; exact lo_dots x0 x1 (View.ld (Val := Elt Ideal) (e' := .bf16) x1 r0_11) 768 (by omega) (ld_w x1 768 (by omega) _) r l
    rw [← hy]
    rfl
  · rw [emb_col 640 (by omega) _ r l]
    show _ = cell (dots x0 x1 r) (row x2 r) (row x3 r) (row x4 r) (row x5 r) (640 + l.val)
    rw [cell_va _ _ _ _ _ _ (by omega) (by omega)]
    have hy : ∀ l : Fin 128, (hi (mm (View.ld (Val := Elt Ideal) (e' := .f32) x0 r0_0) (View.ld (Val := Elt Ideal) (e' := .bf16) x1 r0_8))) (ix2 r l) = dots x0 x1 r (640 + l.val) := fun l => by rw [ld_x]; exact hi_dots x0 x1 (View.ld (Val := Elt Ideal) (e' := .bf16) x1 r0_8) 512 (by omega) (ld_w x1 512 (by omega) _) r l
    rw [← hy]
    rfl
  · rw [emb_col 512 (by omega) _ r l]
    show _ = cell (dots x0 x1 r) (row x2 r) (row x3 r) (row x4 r) (row x5 r) (512 + l.val)
    rw [cell_va _ _ _ _ _ _ (by omega) (by omega)]
    have hy : ∀ l : Fin 128, (lo (mm (View.ld (Val := Elt Ideal) (e' := .f32) x0 r0_0) (View.ld (Val := Elt Ideal) (e' := .bf16) x1 r0_8))) (ix2 r l) = dots x0 x1 r (512 + l.val) := fun l => by rw [ld_x]; exact lo_dots x0 x1 (View.ld (Val := Elt Ideal) (e' := .bf16) x1 r0_8) 512 (by omega) (ld_w x1 512 (by omega) _) r l
    rw [← hy]
    rfl
  · rw [emb_col 384 (by omega) _ r l]
    show _ = cell (dots x0 x1 r) (row x2 r) (row x3 r) (row x4 r) (row x5 r) (384 + l.val)
    rw [cell_ka _ _ _ _ _ _ (by omega) (by omega)]
    have hy : ∀ l : Fin 128, (hi (mm (View.ld (Val := Elt Ideal) (e' := .f32) x0 r0_0) (View.ld (Val := Elt Ideal) (e' := .bf16) x1 r0_5))) (ix2 r l) = dots x0 x1 r (384 + l.val) := fun l => by rw [ld_x]; exact hi_dots x0 x1 (View.ld (Val := Elt Ideal) (e' := .bf16) x1 r0_5) 256 (by omega) (ld_w x1 256 (by omega) _) r l
    have ht := turn32 (hi (mm (View.ld (Val := Elt Ideal) (e' := .f32) x0 r0_0) (View.ld (Val := Elt Ideal) (e' := .bf16) x1 r0_5))) x2 x3 r l (dots x0 x1 r) (row x2 r) (row x3 r) 384 (by norm_num) hy (row_lane x2 r l 384 (by norm_num)) (row_lane x3 r l 384 (by norm_num))
    rw [← ht]
    conv_rhs => rw [← ld_t x2, ← ld_t x3]
    rfl
  · rw [emb_col 256 (by omega) _ r l]
    show _ = cell (dots x0 x1 r) (row x2 r) (row x3 r) (row x4 r) (row x5 r) (256 + l.val)
    rw [cell_ka _ _ _ _ _ _ (by omega) (by omega)]
    have hy : ∀ l : Fin 128, (lo (mm (View.ld (Val := Elt Ideal) (e' := .f32) x0 r0_0) (View.ld (Val := Elt Ideal) (e' := .bf16) x1 r0_5))) (ix2 r l) = dots x0 x1 r (256 + l.val) := fun l => by rw [ld_x]; exact lo_dots x0 x1 (View.ld (Val := Elt Ideal) (e' := .bf16) x1 r0_5) 256 (by omega) (ld_w x1 256 (by omega) _) r l
    have ht := turn32 (lo (mm (View.ld (Val := Elt Ideal) (e' := .f32) x0 r0_0) (View.ld (Val := Elt Ideal) (e' := .bf16) x1 r0_5))) x2 x3 r l (dots x0 x1 r) (row x2 r) (row x3 r) 256 (by norm_num) hy (row_lane x2 r l 256 (by norm_num)) (row_lane x3 r l 256 (by norm_num))
    rw [← ht]
    conv_rhs => rw [← ld_t x2, ← ld_t x3]
    rfl
  · rw [emb_col 128 (by omega) _ r l]
    show _ = cell (dots x0 x1 r) (row x2 r) (row x3 r) (row x4 r) (row x5 r) (128 + l.val)
    rw [cell_qa _ _ _ _ _ _ (by omega)]
    have hy : ∀ l : Fin 128, (hi (mm (View.ld (Val := Elt Ideal) (e' := .f32) x0 r0_0) (View.ld (Val := Elt Ideal) (e' := .bf16) x1 r0_2))) (ix2 r l) = dots x0 x1 r (128 + l.val) := fun l => by rw [ld_x]; exact hi_dots x0 x1 (View.ld (Val := Elt Ideal) (e' := .bf16) x1 r0_2) 0 (by omega) (ld_w x1 0 (by omega) _) r l
    have ht := turn32 (hi (mm (View.ld (Val := Elt Ideal) (e' := .f32) x0 r0_0) (View.ld (Val := Elt Ideal) (e' := .bf16) x1 r0_2))) x2 x3 r l (dots x0 x1 r) (row x2 r) (row x3 r) 128 (by norm_num) hy (row_lane x2 r l 128 (by norm_num)) (row_lane x3 r l 128 (by norm_num))
    rw [← ht]
    conv_rhs => rw [← ld_t x2, ← ld_t x3]
    rfl
  · rw [emb_col 0 (by omega) _ r l]
    show _ = cell (dots x0 x1 r) (row x2 r) (row x3 r) (row x4 r) (row x5 r) (0 + l.val)
    rw [cell_qa _ _ _ _ _ _ (by omega)]
    have hy : ∀ l : Fin 128, (lo (mm (View.ld (Val := Elt Ideal) (e' := .f32) x0 r0_0) (View.ld (Val := Elt Ideal) (e' := .bf16) x1 r0_2))) (ix2 r l) = dots x0 x1 r (0 + l.val) := fun l => by rw [ld_x]; exact lo_dots x0 x1 (View.ld (Val := Elt Ideal) (e' := .bf16) x1 r0_2) 0 (by omega) (ld_w x1 0 (by omega) _) r l
    have ht := turn32 (lo (mm (View.ld (Val := Elt Ideal) (e' := .f32) x0 r0_0) (View.ld (Val := Elt Ideal) (e' := .bf16) x1 r0_2))) x2 x3 r l (dots x0 x1 r) (row x2 r) (row x3 r) 0 (by norm_num) hy (row_lane x2 r l 0 (by norm_num)) (row_lane x3 r l 0 (by norm_num))
    rw [← ht]
    conv_rhs => rw [← ld_t x2, ← ld_t x3]
    rfl

end Cert.Proof.In

end
-- ==== Proof.InHost.lean ====
/- What the launch of the input projection finds in its windows: the weights, and the tables of the angles. -/
module

public import proofs.«01_k».proof.Proof.InBlock

@[expose] public section

set_option maxRecDepth 16384

noncomputable section

namespace Cert.Proof.In

open Idealize.ShloMosaic Idealize.ShloMosaic.TcCoe Idealize.SL.Sem
open Cert.InProjIdeal Cert.InProjIdeal.Gen

variable (m : (ℓ : Loc nD τ sig) → Buf (Elt Ideal) ℓ) (c : Dev nD)

/-- The weights the launch finds are the argument's, their rounding being none here. -/
theorem V_w (k : Fin 1024) (y : Fin 2816) : V m c main_v54 (ix2 k y) = (m (c, main_arg1) : FVec Ideal S1024x2816 .f32) (ix2 k y) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  pointwise

/-- One value over the lanes. -/
def lanes {w : ℕ} (b : BitVec w) : IVec S128 w := broadcastInDim S128 ![] bcast_S_S128 (constantI S_ w b)

/-- The lanes' remainders by `d`, as the host lines write them. -/
def rem (d : BitVec 32) : IVec S128 32 :=
  let q : IVec S_ 32 := select (cmpi .eq (constantI S_ 32 d) (constantI S_ 32 0#32)) (constantI S_ 32 1#32) (constantI S_ 32 d)
  let r : IVec S128 32 := Host.remsi (iotaInDim S128 32 0) (broadcastInDim S128 ![] bcast_S_S128 q)
  select (andi (cmpi .ne (cmpi .slt r (lanes 0#32)) (broadcastInDim S128 ![] bcast_S_S128 (cmpi .slt q (constantI S_ 32 0#32)))) (cmpi .ne r (lanes 0#32)))
    (addi r (broadcastInDim S128 ![] bcast_S_S128 q)) r

/-- The lanes' angles at every position, as the host lines write them. -/
def angles (h : BitVec 32) (b : BitVec 32) : FVec Ideal S2048x128 .f32 :=
  let bc (b : BitVec 32) : FVec Ideal S128 .f32 := broadcastInDim S128 ![] bcast_S_S128 (constant S_ .f32 b)
  let freq : FVec Ideal S128 .f32 := Host.powf (bc 0x461C4000#32) (Host.divf (Host.negf (mulf (bc 0x40000000#32) (sitofp .f32 (rem h)))) (bc b))
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1 freq))

/-- The lanes' signs at every position, as the host lines write them. -/
def signs (d h : BitVec 32) : FVec Ideal S2048x128 .f32 :=
  broadcastInDim S2048x128 ![0, 1] bcast_S1x128_S2048x128_0_1 (broadcastInDim S1x128 ![1] bcast_S128_S1x128_1
    (select (cmpi .slt (rem d) (lanes h)) (broadcastInDim S128 ![] bcast_S_S128 (constant S_ .f32 0xBF800000#32) : FVec Ideal S128 .f32)
      (broadcastInDim S128 ![] bcast_S_S128 (constant S_ .f32 0x3F800000#32))))

/-- The cosines of the narrower heads. -/
theorem V_c1 : V m c main_v22 = Host.cos (angles 16#32 0x42000000#32) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

/-- The signed sines of the narrower heads. -/
theorem V_s1 : V m c main_v26 = mulf (Host.sin (angles 16#32 0x42000000#32)) (signs 32#32 16#32) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

/-- The cosines of the wider heads. -/
theorem V_c2 : V m c main_v49 = Host.cos (angles 32#32 0x42800000#32) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

/-- The signed sines of the wider heads. -/
theorem V_s2 : V m c main_v53 = mulf (Host.sin (angles 32#32 0x42800000#32)) (signs 64#32 32#32) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.append_nil, List.cons_append, List.nil_append]
  after_results
  rfl

/-- The remainders by sixteen. -/
theorem rem16 (l : Fin 128) : rem 16#32 (ix1 l) = BitVec.ofNat 32 (l.val % 16) := by
  pointwise [rem, lanes]
  revert l; decide +kernel
/-- The remainders by thirty-two. -/
theorem rem32 (l : Fin 128) : rem 32#32 (ix1 l) = BitVec.ofNat 32 (l.val % 32) := by
  pointwise [rem, lanes]
  revert l; decide +kernel
/-- The remainders by sixty-four. -/
theorem rem64 (l : Fin 128) : rem 64#32 (ix1 l) = BitVec.ofNat 32 (l.val % 64) := by
  pointwise [rem, lanes]
  revert l; decide +kernel

/-- The angle of a pair of lanes at a position. -/
def angle (b : BitVec 32) (p j : ℕ) : EReal :=
  (FloatOps.sitofp (F := Ideal) .f32 (BitVec.ofNat 32 p) : EReal) * Ideal.pow (Ideal.ofBits .f32 0x461C4000#32)
    (Ideal.div (-(Ideal.ofBits .f32 0x40000000#32 * FloatOps.sitofp (F := Ideal) .f32 (BitVec.ofNat 32 j))) (Ideal.ofBits .f32 b))

/-- The host's angles at an index. -/
theorem angles_apply (h b : BitVec 32) (j : ℕ) (p : Fin 2048) (l : Fin 128) (hj : rem h (ix1 l) = BitVec.ofNat 32 j) : angles h b (ix2 p l) = angle b p.val j := by
  unfold angles
  pointwise
  rw [hj]
  rfl

/-- Minus one, as its bits. -/
theorem neg_one_bits : Ideal.ofBits .f32 0xBF800000#32 = (-1 : EReal) := by
  have h : Ideal.ofBits .f32 0xBF800000#32 = ((-1 : ℝ) : EReal) := by
    simp [Ideal.ofBits, Ideal.ieee]; rw [← EReal.coe_mul]; norm_num
  rw [h]; norm_num

/-- The host's signs of the narrower heads at an index. -/
theorem sign32 (p : Fin 2048) (l : Fin 128) : signs 32#32 16#32 (ix2 p l) = (if l.val % 32 < 16 then (-1 : EReal) else 1) := by
  unfold signs lanes
  pointwise
  rw [rem32, neg_one_bits]
  have e : IntOp.cmpi .slt (BitVec.ofNat 32 (l.val % 32)) 16#32 = (if l.val % 32 < 16 then 1#1 else 0#1) := by revert l; decide +kernel
  rw [e]
  split <;> rfl

/-- The host's signs of the wider heads at an index. -/
theorem sign64 (p : Fin 2048) (l : Fin 128) : signs 64#32 32#32 (ix2 p l) = (if l.val % 64 < 32 then (-1 : EReal) else 1) := by
  unfold signs lanes
  pointwise
  rw [rem64, neg_one_bits]
  have e : IntOp.cmpi .slt (BitVec.ofNat 32 (l.val % 64)) 32#32 = (if l.val % 64 < 32 then 1#1 else 0#1) := by revert l; decide +kernel
  rw [e]
  split <;> rfl

/-- A table of cosines by position and column. -/
def cosT (h : ℕ) (b : BitVec 32) (p n : ℕ) : EReal := Ideal.cos (angle b p (n % h))
/-- A table of signed sines by position and column. -/
def sinT (h : ℕ) (b : BitVec 32) (p n : ℕ) : EReal := Ideal.sin (angle b p (n % h)) * (if n % (2 * h) < h then (-1 : EReal) else 1)

/-- The first table the launch finds. -/
theorem c1_apply (p : Fin 2048) (l : Fin 128) : V m c main_v22 (ix2 p l) = cosT 16 0x42000000#32 p.val l.val := by
  rw [V_c1]
  pointwise
  rw [angles_apply _ _ _ p l (rem16 l)]; rfl
/-- The second table the launch finds. -/
theorem s1_apply (p : Fin 2048) (l : Fin 128) : V m c main_v26 (ix2 p l) = sinT 16 0x42000000#32 p.val l.val := by
  rw [V_s1]
  pointwise
  rw [angles_apply _ _ _ p l (rem16 l), sign32]; rfl
/-- The third table the launch finds. -/
theorem c2_apply (p : Fin 2048) (l : Fin 128) : V m c main_v49 (ix2 p l) = cosT 32 0x42800000#32 p.val l.val := by
  rw [V_c2]
  pointwise
  rw [angles_apply _ _ _ p l (rem32 l)]; rfl
/-- The fourth table the launch finds. -/
theorem s2_apply (p : Fin 2048) (l : Fin 128) : V m c main_v53 (ix2 p l) = sinT 32 0x42800000#32 p.val l.val := by
  rw [V_s2]
  pointwise
  rw [angles_apply _ _ _ p l (rem32 l), sign64]; rfl

end Cert.Proof.In

end
-- ==== Proof.InRef.lean ====
/- The input projection's reference at an index: the dot product of its row and column, turned and scaled by its column. -/
module

public import proofs.«01_k».proof.Proof.InHost
public import proofs.«01_k».proof.Proof.Gen.InProjRefIdeal.Read

@[expose] public section

set_option maxRecDepth 16384

noncomputable section

namespace Cert.Proof.In

open Idealize.ShloMosaic Idealize.ShloMosaic.TcCoe
open Cert.InProjRefIdeal Cert.InProjRefIdeal.Gen

/-- A row's dot product with a column, from the arguments. -/
def dotA (x0 : FVec Ideal S16384x1024 .f32) (x1 : FVec Ideal S1024x2816 .f32) (i : Fin 16384) (n : ℕ) : EReal :=
  ∑ k : Fin 1024, (x0 (ix2 i k) : EReal) * x1 (ix2 k ⟨n % 2816, Nat.mod_lt _ (by decide)⟩)

variable (x0 : FVec Ideal S16384x1024 .f32) (x1 : FVec Ideal S1024x2816 .f32)

/-- The product at an index. -/
theorem v2_apply (i : Fin 16384) (n : Fin 2816) : Read.val_main_v2 (F := Ideal) x0 x1 (ix2 i n) = dotA x0 x1 i n.val := by
  pointwise [Read.val_main_v2, Read.val_main_v1, Read.val_main_v0]
  unfold dotA
  refine Finset.sum_congr rfl fun k _ => ?_
  congr 2
  congr 1
  apply Fin.ext
  show n.val = n.val % 2816
  omega

/-- The product at an index, the row and column by their numbers. -/
theorem v2_at (i i' : Fin 16384) (n : Fin 2816) (N : ℕ) (hi : i' = i) (hN : n.val = N) : Read.val_main_v2 (F := Ideal) x0 x1 (ix2 i' n) = dotA x0 x1 i N := by
  subst hi hN; exact v2_apply x0 x1 i' n

/-- Turning a column of the first half of a narrower head. -/
theorem rope_lo16 (d : ℕ → EReal) (p N j : ℕ) (hj : N % 32 = j) (h : j < 16) :
    d N * Ideal.cos (angle 0x42000000#32 p j) - d (N + 16) * Ideal.sin (angle 0x42000000#32 p j) = rope 16 d (cosT 16 0x42000000#32 p) (sinT 16 0x42000000#32 p) N := by
  unfold rope cosT sinT
  rw [show N % 16 = j by omega, if_pos (show N % (2 * 16) < 16 by omega), if_pos (show N % (2 * 16) < 16 by omega), sub_eq_add_neg, mul_neg, mul_one, mul_neg]
/-- Turning a column of the second half of a narrower head. -/
theorem rope_hi16 (d : ℕ → EReal) (p N j : ℕ) (hj : N % 32 = 16 + j) (h : j < 16) :
    d N * Ideal.cos (angle 0x42000000#32 p j) + d (N - 16) * Ideal.sin (angle 0x42000000#32 p j) = rope 16 d (cosT 16 0x42000000#32 p) (sinT 16 0x42000000#32 p) N := by
  unfold rope cosT sinT
  rw [show N % 16 = j by omega, if_neg (show ¬ N % (2 * 16) < 16 by omega), if_neg (show ¬ N % (2 * 16) < 16 by omega), mul_one]

/-- Turning a column of the first half of a wider head. -/
theorem rope_lo32 (d : ℕ → EReal) (p N j : ℕ) (hj : N % 64 = j) (h : j < 32) :
    d N * Ideal.cos (angle 0x42800000#32 p j) - d (N + 32) * Ideal.sin (angle 0x42800000#32 p j) = rope 32 d (cosT 32 0x42800000#32 p) (sinT 32 0x42800000#32 p) N := by
  unfold rope cosT sinT
  rw [show N % 32 = j by omega, if_pos (show N % (2 * 32) < 32 by omega), if_pos (show N % (2 * 32) < 32 by omega), sub_eq_add_neg, mul_neg, mul_one, mul_neg]
/-- Turning a column of the second half of a wider head. -/
theorem rope_hi32 (d : ℕ → EReal) (p N j : ℕ) (hj : N % 64 = 32 + j) (h : j < 32) :
    d N * Ideal.cos (angle 0x42800000#32 p j) + d (N - 32) * Ideal.sin (angle 0x42800000#32 p j) = rope 32 d (cosT 32 0x42800000#32 p) (sinT 32 0x42800000#32 p) N := by
  unfold rope cosT sinT
  rw [show N % 32 = j by omega, if_neg (show ¬ N % (2 * 32) < 32 by omega), if_neg (show ¬ N % (2 * 32) < 32 by omega), mul_one]

/-- The first turned group's angles. -/
theorem v28_apply (p : Fin 2048) (j : Fin 16) : Read.val_main_v28 (F := Ideal) (ix2 p j) = angle 0x42000000#32 p.val j.val := by
  pointwise [Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_cst, Read.val_main_cst_0, Read.val_main_cst_1, Read.val_main_cst_2]
  rfl

/-- The first turned group's first halves. -/
theorem v42_apply (b : Fin 8) (p : Fin 2048) (h : Fin 8) (j : Fin 16) (i : Fin 16384) (hi : i.val = b.val * 2048 + p.val) :
    Read.val_main_v42 (F := Ideal) x0 x1 (ix4 b p h j) = dotA x0 x1 i (h.val * 32 + j.val) * Ideal.cos (angle 0x42000000#32 p.val j.val) - dotA x0 x1 i (h.val * 32 + j.val + 16) * Ideal.sin (angle 0x42000000#32 p.val j.val) := by
  pointwise [Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v3]
  rw [v2_at x0 x1 i _ _ (h.val * 32 + j.val) (Fin.ext hi.symm) (by first | rfl | (simp only []; omega) | omega), v2_at x0 x1 i _ _ (h.val * 32 + j.val + 16) (Fin.ext hi.symm) (by first | rfl | (simp only []; omega) | omega), v28_apply]

/-- The first turned group's second halves. -/
theorem v49_apply (b : Fin 8) (p : Fin 2048) (h : Fin 8) (j : Fin 16) (i : Fin 16384) (hi : i.val = b.val * 2048 + p.val) :
    Read.val_main_v49 (F := Ideal) x0 x1 (ix4 b p h j) = dotA x0 x1 i (h.val * 32 + (16 + j.val)) * Ideal.cos (angle 0x42000000#32 p.val j.val) + dotA x0 x1 i (h.val * 32 + (16 + j.val) - 16) * Ideal.sin (angle 0x42000000#32 p.val j.val) := by
  pointwise [Read.val_main_v49, Read.val_main_v48, Read.val_main_v47, Read.val_main_v46, Read.val_main_v45, Read.val_main_v44, Read.val_main_v43, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v3]
  rw [v2_at x0 x1 i _ _ (h.val * 32 + (16 + j.val)) (Fin.ext hi.symm) (by first | rfl | (simp only []; omega) | omega), v2_at x0 x1 i _ _ (h.val * 32 + (16 + j.val) - 16) (Fin.ext hi.symm) (by first | rfl | (simp only []; omega) | omega), v28_apply]

/-- The first turned group. -/
theorem v51_apply (i : Fin 16384) (n : Fin 256) : Read.val_main_v51 (F := Ideal) x0 x1 (ix2 i n)
    = rope 16 (dotA x0 x1 i) (cosT 16 0x42000000#32 (i.val % 2048)) (sinT 16 0x42000000#32 (i.val % 2048)) n.val := by
  pointwise [Read.val_main_v51, Read.val_main_v50]
  have hi : i.val = i.val / 2048 * 2048 + i.val % 2048 := by omega
  split
  · rename_i q
    rw [v42_apply x0 x1 ⟨i.val / 2048, by omega⟩ ⟨i.val % 2048, by omega⟩ ⟨n.val / 32, by omega⟩ ⟨n.val % 32, q⟩ i hi]
    rw [← rope_lo16 _ _ _ (n.val % 32) (by omega) q]
    rw [show n.val / 32 * 32 + n.val % 32 = n.val by omega]
  · rename_i q
    rw [v49_apply x0 x1 ⟨i.val / 2048, by omega⟩ ⟨i.val % 2048, by omega⟩ ⟨n.val / 32, by omega⟩ ⟨n.val % 32 - 16, by omega⟩ i hi]
    rw [← rope_hi16 _ _ _ (n.val % 32 - 16) (by omega) (by omega)]
    rw [show n.val / 32 * 32 + (16 + (n.val % 32 - 16)) = n.val by omega]

/-- The second turned group's angles. -/
theorem v70_apply (p : Fin 2048) (j : Fin 16) : Read.val_main_v70 (F := Ideal) (ix2 p j) = angle 0x42000000#32 p.val j.val := by
  pointwise [Read.val_main_v70, Read.val_main_v69, Read.val_main_v68, Read.val_main_v67, Read.val_main_v66, Read.val_main_v65, Read.val_main_v64, Read.val_main_v63, Read.val_main_v62, Read.val_main_v61, Read.val_main_v60, Read.val_main_v59, Read.val_main_v58, Read.val_main_v57, Read.val_main_v56, Read.val_main_v55, Read.val_main_v54, Read.val_main_cst_4, Read.val_main_cst_5, Read.val_main_cst_6, Read.val_main_cst_7]
  rfl

/-- The second turned group's first halves. -/
theorem v84_apply (b : Fin 8) (p : Fin 2048) (h : Fin 8) (j : Fin 16) (i : Fin 16384) (hi : i.val = b.val * 2048 + p.val) :
    Read.val_main_v84 (F := Ideal) x0 x1 (ix4 b p h j) = dotA x0 x1 i (256 + (h.val * 32 + j.val)) * Ideal.cos (angle 0x42000000#32 p.val j.val) - dotA x0 x1 i (256 + (h.val * 32 + j.val) + 16) * Ideal.sin (angle 0x42000000#32 p.val j.val) := by
  pointwise [Read.val_main_v84, Read.val_main_v83, Read.val_main_v82, Read.val_main_v81, Read.val_main_v80, Read.val_main_v79, Read.val_main_v78, Read.val_main_v77, Read.val_main_v76, Read.val_main_v75, Read.val_main_v74, Read.val_main_v73, Read.val_main_v72, Read.val_main_v71, Read.val_main_v4]
  rw [v2_at x0 x1 i _ _ (256 + (h.val * 32 + j.val)) (Fin.ext hi.symm) (by first | rfl | (simp only []; omega) | omega), v2_at x0 x1 i _ _ (256 + (h.val * 32 + j.val) + 16) (Fin.ext hi.symm) (by first | rfl | (simp only []; omega) | omega), v70_apply]

/-- The second turned group's second halves. -/
theorem v91_apply (b : Fin 8) (p : Fin 2048) (h : Fin 8) (j : Fin 16) (i : Fin 16384) (hi : i.val = b.val * 2048 + p.val) :
    Read.val_main_v91 (F := Ideal) x0 x1 (ix4 b p h j) = dotA x0 x1 i (256 + (h.val * 32 + (16 + j.val))) * Ideal.cos (angle 0x42000000#32 p.val j.val) + dotA x0 x1 i (256 + (h.val * 32 + (16 + j.val)) - 16) * Ideal.sin (angle 0x42000000#32 p.val j.val) := by
  pointwise [Read.val_main_v91, Read.val_main_v90, Read.val_main_v89, Read.val_main_v88, Read.val_main_v87, Read.val_main_v86, Read.val_main_v85, Read.val_main_v83, Read.val_main_v82, Read.val_main_v81, Read.val_main_v80, Read.val_main_v79, Read.val_main_v78, Read.val_main_v77, Read.val_main_v76, Read.val_main_v75, Read.val_main_v74, Read.val_main_v73, Read.val_main_v72, Read.val_main_v71, Read.val_main_v4]
  rw [v2_at x0 x1 i _ _ (256 + (h.val * 32 + (16 + j.val))) (Fin.ext hi.symm) (by first | rfl | (simp only []; omega) | omega), v2_at x0 x1 i _ _ (256 + (h.val * 32 + (16 + j.val)) - 16) (Fin.ext hi.symm) (by first | rfl | (simp only []; omega) | omega), v70_apply]

/-- The second turned group. -/
theorem v93_apply (i : Fin 16384) (n : Fin 256) : Read.val_main_v93 (F := Ideal) x0 x1 (ix2 i n)
    = rope 16 (dotA x0 x1 i) (cosT 16 0x42000000#32 (i.val % 2048)) (sinT 16 0x42000000#32 (i.val % 2048)) (256 + n.val) := by
  pointwise [Read.val_main_v93, Read.val_main_v92]
  have hi : i.val = i.val / 2048 * 2048 + i.val % 2048 := by omega
  split
  · rename_i q
    rw [v84_apply x0 x1 ⟨i.val / 2048, by omega⟩ ⟨i.val % 2048, by omega⟩ ⟨n.val / 32, by omega⟩ ⟨n.val % 32, q⟩ i hi]
    rw [← rope_lo16 _ _ _ (n.val % 32) (by omega) q]
    rw [show 256 + (n.val / 32 * 32 + n.val % 32) = 256 + n.val by omega]
  · rename_i q
    rw [v91_apply x0 x1 ⟨i.val / 2048, by omega⟩ ⟨i.val % 2048, by omega⟩ ⟨n.val / 32, by omega⟩ ⟨n.val % 32 - 16, by omega⟩ i hi]
    rw [← rope_hi16 _ _ _ (n.val % 32 - 16) (by omega) (by omega)]
    rw [show 256 + (n.val / 32 * 32 + (16 + (n.val % 32 - 16))) = 256 + n.val by omega]

/-- The third turned group's angles. -/
theorem v112_apply (p : Fin 2048) (j : Fin 32) : Read.val_main_v112 (F := Ideal) (ix2 p j) = angle 0x42800000#32 p.val j.val := by
  pointwise [Read.val_main_v112, Read.val_main_v111, Read.val_main_v110, Read.val_main_v109, Read.val_main_v108, Read.val_main_v107, Read.val_main_v106, Read.val_main_v105, Read.val_main_v104, Read.val_main_v103, Read.val_main_v102, Read.val_main_v101, Read.val_main_v100, Read.val_main_v99, Read.val_main_v98, Read.val_main_v97, Read.val_main_v96, Read.val_main_cst_9, Read.val_main_cst_10, Read.val_main_cst_11, Read.val_main_cst_12]
  rfl

/-- The third turned group's first halves. -/
theorem v126_apply (b : Fin 8) (p : Fin 2048) (h : Fin 4) (j : Fin 32) (i : Fin 16384) (hi : i.val = b.val * 2048 + p.val) :
    Read.val_main_v126 (F := Ideal) x0 x1 (ix4 b p h j) = dotA x0 x1 i (2304 + (h.val * 64 + j.val)) * Ideal.cos (angle 0x42800000#32 p.val j.val) - dotA x0 x1 i (2304 + (h.val * 64 + j.val) + 32) * Ideal.sin (angle 0x42800000#32 p.val j.val) := by
  pointwise [Read.val_main_v126, Read.val_main_v125, Read.val_main_v124, Read.val_main_v123, Read.val_main_v122, Read.val_main_v121, Read.val_main_v120, Read.val_main_v119, Read.val_main_v118, Read.val_main_v117, Read.val_main_v116, Read.val_main_v115, Read.val_main_v114, Read.val_main_v113, Read.val_main_v9]
  rw [v2_at x0 x1 i _ _ (2304 + (h.val * 64 + j.val)) (Fin.ext hi.symm) (by first | rfl | (simp only []; omega) | omega), v2_at x0 x1 i _ _ (2304 + (h.val * 64 + j.val) + 32) (Fin.ext hi.symm) (by first | rfl | (simp only []; omega) | omega), v112_apply]

/-- The third turned group's second halves. -/
theorem v133_apply (b : Fin 8) (p : Fin 2048) (h : Fin 4) (j : Fin 32) (i : Fin 16384) (hi : i.val = b.val * 2048 + p.val) :
    Read.val_main_v133 (F := Ideal) x0 x1 (ix4 b p h j) = dotA x0 x1 i (2304 + (h.val * 64 + (32 + j.val))) * Ideal.cos (angle 0x42800000#32 p.val j.val) + dotA x0 x1 i (2304 + (h.val * 64 + (32 + j.val)) - 32) * Ideal.sin (angle 0x42800000#32 p.val j.val) := by
  pointwise [Read.val_main_v133, Read.val_main_v132, Read.val_main_v131, Read.val_main_v130, Read.val_main_v129, Read.val_main_v128, Read.val_main_v127, Read.val_main_v125, Read.val_main_v124, Read.val_main_v123, Read.val_main_v122, Read.val_main_v121, Read.val_main_v120, Read.val_main_v119, Read.val_main_v118, Read.val_main_v117, Read.val_main_v116, Read.val_main_v115, Read.val_main_v114, Read.val_main_v113, Read.val_main_v9]
  rw [v2_at x0 x1 i _ _ (2304 + (h.val * 64 + (32 + j.val))) (Fin.ext hi.symm) (by first | rfl | (simp only []; omega) | omega), v2_at x0 x1 i _ _ (2304 + (h.val * 64 + (32 + j.val)) - 32) (Fin.ext hi.symm) (by first | rfl | (simp only []; omega) | omega), v112_apply]

/-- The third turned group. -/
theorem v135_apply (i : Fin 16384) (n : Fin 256) : Read.val_main_v135 (F := Ideal) x0 x1 (ix2 i n)
    = rope 32 (dotA x0 x1 i) (cosT 32 0x42800000#32 (i.val % 2048)) (sinT 32 0x42800000#32 (i.val % 2048)) (2304 + n.val) := by
  pointwise [Read.val_main_v135, Read.val_main_v134]
  have hi : i.val = i.val / 2048 * 2048 + i.val % 2048 := by omega
  split
  · rename_i q
    rw [v126_apply x0 x1 ⟨i.val / 2048, by omega⟩ ⟨i.val % 2048, by omega⟩ ⟨n.val / 64, by omega⟩ ⟨n.val % 64, q⟩ i hi]
    rw [← rope_lo32 _ _ _ (n.val % 64) (by omega) q]
    rw [show 2304 + (n.val / 64 * 64 + n.val % 64) = 2304 + n.val by omega]
  · rename_i q
    rw [v133_apply x0 x1 ⟨i.val / 2048, by omega⟩ ⟨i.val % 2048, by omega⟩ ⟨n.val / 64, by omega⟩ ⟨n.val % 64 - 32, by omega⟩ i hi]
    rw [← rope_hi32 _ _ _ (n.val % 64 - 32) (by omega) (by omega)]
    rw [show 2304 + (n.val / 64 * 64 + (32 + (n.val % 64 - 32))) = 2304 + n.val by omega]

/-- The fourth turned group's angles. -/
theorem v154_apply (p : Fin 2048) (j : Fin 32) : Read.val_main_v154 (F := Ideal) (ix2 p j) = angle 0x42800000#32 p.val j.val := by
  pointwise [Read.val_main_v154, Read.val_main_v153, Read.val_main_v152, Read.val_main_v151, Read.val_main_v150, Read.val_main_v149, Read.val_main_v148, Read.val_main_v147, Read.val_main_v146, Read.val_main_v145, Read.val_main_v144, Read.val_main_v143, Read.val_main_v142, Read.val_main_v141, Read.val_main_v140, Read.val_main_v139, Read.val_main_v138, Read.val_main_cst_14, Read.val_main_cst_15, Read.val_main_cst_16, Read.val_main_cst_17]
  rfl

/-- The fourth turned group's first halves. -/
theorem v168_apply (b : Fin 8) (p : Fin 2048) (h : Fin 2) (j : Fin 32) (i : Fin 16384) (hi : i.val = b.val * 2048 + p.val) :
    Read.val_main_v168 (F := Ideal) x0 x1 (ix4 b p h j) = dotA x0 x1 i (2560 + (h.val * 64 + j.val)) * Ideal.cos (angle 0x42800000#32 p.val j.val) - dotA x0 x1 i (2560 + (h.val * 64 + j.val) + 32) * Ideal.sin (angle 0x42800000#32 p.val j.val) := by
  pointwise [Read.val_main_v168, Read.val_main_v167, Read.val_main_v166, Read.val_main_v165, Read.val_main_v164, Read.val_main_v163, Read.val_main_v162, Read.val_main_v161, Read.val_main_v160, Read.val_main_v159, Read.val_main_v158, Read.val_main_v157, Read.val_main_v156, Read.val_main_v155, Read.val_main_v10]
  rw [v2_at x0 x1 i _ _ (2560 + (h.val * 64 + j.val)) (Fin.ext hi.symm) (by first | rfl | (simp only []; omega) | omega), v2_at x0 x1 i _ _ (2560 + (h.val * 64 + j.val) + 32) (Fin.ext hi.symm) (by first | rfl | (simp only []; omega) | omega), v154_apply]

/-- The fourth turned group's second halves. -/
theorem v175_apply (b : Fin 8) (p : Fin 2048) (h : Fin 2) (j : Fin 32) (i : Fin 16384) (hi : i.val = b.val * 2048 + p.val) :
    Read.val_main_v175 (F := Ideal) x0 x1 (ix4 b p h j) = dotA x0 x1 i (2560 + (h.val * 64 + (32 + j.val))) * Ideal.cos (angle 0x42800000#32 p.val j.val) + dotA x0 x1 i (2560 + (h.val * 64 + (32 + j.val)) - 32) * Ideal.sin (angle 0x42800000#32 p.val j.val) := by
  pointwise [Read.val_main_v175, Read.val_main_v174, Read.val_main_v173, Read.val_main_v172, Read.val_main_v171, Read.val_main_v170, Read.val_main_v169, Read.val_main_v167, Read.val_main_v166, Read.val_main_v165, Read.val_main_v164, Read.val_main_v163, Read.val_main_v162, Read.val_main_v161, Read.val_main_v160, Read.val_main_v159, Read.val_main_v158, Read.val_main_v157, Read.val_main_v156, Read.val_main_v155, Read.val_main_v10]
  rw [v2_at x0 x1 i _ _ (2560 + (h.val * 64 + (32 + j.val))) (Fin.ext hi.symm) (by first | rfl | (simp only []; omega) | omega), v2_at x0 x1 i _ _ (2560 + (h.val * 64 + (32 + j.val)) - 32) (Fin.ext hi.symm) (by first | rfl | (simp only []; omega) | omega), v154_apply]

/-- The fourth turned group. -/
theorem v177_apply (i : Fin 16384) (n : Fin 128) : Read.val_main_v177 (F := Ideal) x0 x1 (ix2 i n)
    = rope 32 (dotA x0 x1 i) (cosT 32 0x42800000#32 (i.val % 2048)) (sinT 32 0x42800000#32 (i.val % 2048)) (2560 + n.val) := by
  pointwise [Read.val_main_v177, Read.val_main_v176]
  have hi : i.val = i.val / 2048 * 2048 + i.val % 2048 := by omega
  split
  · rename_i q
    rw [v168_apply x0 x1 ⟨i.val / 2048, by omega⟩ ⟨i.val % 2048, by omega⟩ ⟨n.val / 64, by omega⟩ ⟨n.val % 64, q⟩ i hi]
    rw [← rope_lo32 _ _ _ (n.val % 64) (by omega) q]
    rw [show 2560 + (n.val / 64 * 64 + n.val % 64) = 2560 + n.val by omega]
  · rename_i q
    rw [v175_apply x0 x1 ⟨i.val / 2048, by omega⟩ ⟨i.val % 2048, by omega⟩ ⟨n.val / 64, by omega⟩ ⟨n.val % 64 - 32, by omega⟩ i hi]
    rw [← rope_hi32 _ _ _ (n.val % 64 - 32) (by omega) (by omega)]
    rw [show 2560 + (n.val / 64 * 64 + (32 + (n.val % 64 - 32))) = 2560 + n.val by omega]

/-- The reference's result at an index. -/
theorem v179_apply (i : Fin 16384) (n : Fin 2816) : Read.val_main_v179 (F := Ideal) x0 x1 (ix2 i n)
    = cell (dotA x0 x1 i) (cosT 16 0x42000000#32 (i.val % 2048)) (sinT 16 0x42000000#32 (i.val % 2048)) (cosT 32 0x42800000#32 (i.val % 2048)) (sinT 32 0x42800000#32 (i.val % 2048)) n.val := by
  pointwise [Read.val_main_v179, Read.val_main_v178]
  by_cases q0 : n.val < 256
  · refine (dif_pos q0).trans ?_
    rw [cell_qa _ _ _ _ _ _ (show n.val < 256 by omega)]
    pointwise [Read.val_main_v53, Read.val_main_v52, Read.val_main_cst_3]
    rw [v51_apply]
  refine (dif_neg q0).trans ?_
  by_cases q1 : n.val - 256 < 256
  · refine (dif_pos q1).trans ?_
    rw [cell_ka _ _ _ _ _ _ (show 256 ≤ n.val by omega) (show n.val < 512 by omega), v93_apply]
    congr 1; show 256 + (n.val - 256) = n.val; omega
  refine (dif_neg q1).trans ?_
  by_cases q2 : n.val - 256 - 256 < 256
  · refine (dif_pos q2).trans ?_
    rw [cell_va _ _ _ _ _ _ (show 512 ≤ n.val by omega) (show n.val < 1536 by omega)]
    pointwise [Read.val_main_v5]
    exact v2_at x0 x1 i _ _ _ rfl (by first | rfl | (simp only []; omega) | omega)
  refine (dif_neg q2).trans ?_
  by_cases q3 : n.val - 256 - 256 - 256 < 768
  · refine (dif_pos q3).trans ?_
    rw [cell_va _ _ _ _ _ _ (show 512 ≤ n.val by omega) (show n.val < 1536 by omega)]
    pointwise [Read.val_main_v6]
    exact v2_at x0 x1 i _ _ _ rfl (by first | rfl | (simp only []; omega) | omega)
  refine (dif_neg q3).trans ?_
  by_cases q4 : n.val - 256 - 256 - 256 - 768 < 256
  · refine (dif_pos q4).trans ?_
    rw [cell_qc _ _ _ _ _ _ (show 1536 ≤ n.val by omega) (show n.val < 1792 by omega)]
    pointwise [Read.val_main_v95, Read.val_main_v94, Read.val_main_v7, Read.val_main_cst_8]
    rw [v2_at x0 x1 i _ _ n.val rfl (by first | rfl | (simp only []; omega) | omega)]
  refine (dif_neg q4).trans ?_
  by_cases q5 : n.val - 256 - 256 - 256 - 768 - 256 < 512
  · refine (dif_pos q5).trans ?_
    rw [cell_kvc _ _ _ _ _ _ (show 1792 ≤ n.val by omega) (show n.val < 2304 by omega)]
    pointwise [Read.val_main_v8]
    exact v2_at x0 x1 i _ _ _ rfl (by first | rfl | (simp only []; omega) | omega)
  refine (dif_neg q5).trans ?_
  by_cases q6 : n.val - 256 - 256 - 256 - 768 - 256 - 512 < 256
  · refine (dif_pos q6).trans ?_
    rw [cell_qd _ _ _ _ _ _ (show 2304 ≤ n.val by omega) (show n.val < 2560 by omega)]
    pointwise [Read.val_main_v137, Read.val_main_v136, Read.val_main_cst_13]
    rw [v135_apply, show 2304 + (n.val - 256 - 256 - 256 - 768 - 256 - 512) = n.val by omega]
  refine (dif_neg q6).trans ?_
  by_cases q7 : n.val - 256 - 256 - 256 - 768 - 256 - 512 - 256 < 128
  · refine (dif_pos q7).trans ?_
    rw [cell_kd _ _ _ _ _ _ (show 2560 ≤ n.val by omega) (show n.val < 2688 by omega), v177_apply]
    congr 1; show 2560 + (n.val - 256 - 256 - 256 - 768 - 256 - 512 - 256) = n.val; omega
  refine (dif_neg q7).trans ?_
  rw [cell_vd _ _ _ _ _ _ (show 2688 ≤ n.val by omega)]
  pointwise [Read.val_main_v11]
  exact v2_at x0 x1 i _ _ _ rfl (by first | rfl | (simp only []; omega) | omega)

end Cert.Proof.In

end
-- ==== Proof.InClaims.lean ====
/- The claims about the input projection: its runs, and that it computes its reference over the extended reals. -/
module

public import proofs.«01_k».proof.Defs
public import proofs.«01_k».proof.Proof.InRef
public import proofs.«01_k».proof.Proof.Gen.InProj.Frame
public import proofs.«01_k».proof.Proof.Gen.InProjRef.Run
public import Idealize.ShloMosaic.Lib.Claim

@[expose] public section

set_option maxRecDepth 16384

noncomputable section

namespace Cert.Proof.In

open Idealize.ShloMosaic Idealize.SL.Sem Idealize.ShloMosaic.TcCoe

section Kernel
open Cert.InProjIdeal Cert.InProjIdeal.Gen

variable (m : (ℓ : Loc nD τ sig) → Buf (Elt Ideal) ℓ) (c : Dev nD)

/-- Where each window's block lies at a point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 2) = t.val % 4 ∧ win0_4.index t (1 : Fin 2) = 0
    ∧ win0_5.index t (0 : Fin 2) = t.val % 4 ∧ win0_5.index t (1 : Fin 2) = 0
    ∧ win0_6.index t (0 : Fin 2) = t.val ∧ win0_6.index t (1 : Fin 2) = 0 :=
  (by decide +kernel : ∀ t : Fin grid0.N, _)

/-- The rows a point reads. -/
theorem iblk0_apply (t : Fin cfg0.N) (r : Fin 512) (x : Fin 1024) (i : Fin 16384) (hi : i.val = 512 * t.val + r.val) :
    iblk m c 0 t (ix2 r x) = m ((c : Thread nD τ).loc main_arg0) (ix2 i x) := by
  show V m c main_arg0 (((cfg0.win 0).blk t).view.emb (ix2 r x)) = _
  rw [V_main_arg0]
  obtain ⟨e0, e1, _⟩ := idx_facts t
  congr 1
  funext a; apply Fin.ext
  match a with
  | ⟨0, _⟩ => show win0_0.index t (0 : Fin 2) * 512 + 1 * r.val = i.val; omega
  | ⟨1, _⟩ => show win0_0.index t (1 : Fin 2) * 1024 + 1 * x.val = x.val; omega

/-- The weights a point reads. -/
theorem iblk1_apply (t : Fin cfg0.N) (k : Fin 1024) (y : Fin 2816) : iblk m c 1 t (ix2 k y) = V m c main_v54 (ix2 k y) := by
  show V m c main_v54 (((cfg0.win 1).blk t).view.emb (ix2 k y)) = _
  obtain ⟨_, _, e0, e1, _⟩ := idx_facts t
  congr 1
  funext a; apply Fin.ext
  match a with
  | ⟨0, _⟩ => show win0_1.index t (0 : Fin 2) * 1024 + 1 * k.val = k.val; omega
  | ⟨1, _⟩ => show win0_1.index t (1 : Fin 2) * 2816 + 1 * y.val = y.val; omega

/-- The first table's rows a point reads. -/
theorem iblk2_apply (t : Fin cfg0.N) (r : Fin 512) (l : Fin 128) (p : Fin 2048) (hp : p.val = 512 * (t.val % 4) + r.val) :
    iblk m c 2 t (ix2 r l) = V m c main_v22 (ix2 p l) := by
  show V m c main_v22 (((cfg0.win 2).blk t).view.emb (ix2 r l)) = _
  obtain ⟨_, _, _, _, e0, e1, _⟩ := idx_facts t
  congr 1
  funext a; apply Fin.ext
  match a with
  | ⟨0, _⟩ => show win0_2.index t (0 : Fin 2) * 512 + 1 * r.val = p.val; omega
  | ⟨1, _⟩ => show win0_2.index t (1 : Fin 2) * 128 + 1 * l.val = l.val; omega

/-- The second table's rows a point reads. -/
theorem iblk3_apply (t : Fin cfg0.N) (r : Fin 512) (l : Fin 128) (p : Fin 2048) (hp : p.val = 512 * (t.val % 4) + r.val) :
    iblk m c 3 t (ix2 r l) = V m c main_v26 (ix2 p l) := by
  show V m c main_v26 (((cfg0.win 3).blk t).view.emb (ix2 r l)) = _
  obtain ⟨_, _, _, _, _, _, e0, e1, _⟩ := idx_facts t
  congr 1
  funext a; apply Fin.ext
  match a with
  | ⟨0, _⟩ => show win0_3.index t (0 : Fin 2) * 512 + 1 * r.val = p.val; omega
  | ⟨1, _⟩ => show win0_3.index t (1 : Fin 2) * 128 + 1 * l.val = l.val; omega

/-- The third table's rows a point reads. -/
theorem iblk4_apply (t : Fin cfg0.N) (r : Fin 512) (l : Fin 128) (p : Fin 2048) (hp : p.val = 512 * (t.val % 4) + r.val) :
    iblk m c 4 t (ix2 r l) = V m c main_v49 (ix2 p l) := by
  show V m c main_v49 (((cfg0.win 4).blk t).view.emb (ix2 r l)) = _
  obtain ⟨_, _, _, _, _, _, _, _, e0, e1, _⟩ := idx_facts t
  congr 1
  funext a; apply Fin.ext
  match a with
  | ⟨0, _⟩ => show win0_4.index t (0 : Fin 2) * 512 + 1 * r.val = p.val; omega
  | ⟨1, _⟩ => show win0_4.index t (1 : Fin 2) * 128 + 1 * l.val = l.val; omega

/-- The fourth table's rows a point reads. -/
theorem iblk5_apply (t : Fin cfg0.N) (r : Fin 512) (l : Fin 128) (p : Fin 2048) (hp : p.val = 512 * (t.val % 4) + r.val) :
    iblk m c 5 t (ix2 r l) = V m c main_v53 (ix2 p l) := by
  show V m c main_v53 (((cfg0.win 5).blk t).view.emb (ix2 r l)) = _
  obtain ⟨_, _, _, _, _, _, _, _, _, _, e0, e1, _⟩ := idx_facts t
  congr 1
  funext a; apply Fin.ext
  match a with
  | ⟨0, _⟩ => show win0_5.index t (0 : Fin 2) * 512 + 1 * r.val = p.val; omega
  | ⟨1, _⟩ => show win0_5.index t (1 : Fin 2) * 128 + 1 * l.val = l.val; omega

/-- Where the result's block lies in the result. -/
theorem emb6 (t : Fin cfg0.N) (r : Fin 512) (x : Fin 2816) (i : Fin 16384) (hi : i.val = 512 * t.val + r.val) :
    ((cfg0.win 6).blk t).view.emb (ix2 r x) = ix2 i x := by
  obtain ⟨_, _, _, _, _, _, _, _, _, _, _, _, e0, e1⟩ := idx_facts t
  funext a; apply Fin.ext
  match a with
  | ⟨0, _⟩ => show win0_6.index t (0 : Fin 2) * 512 + 1 * r.val = i.val; omega
  | ⟨1, _⟩ => show win0_6.index t (1 : Fin 2) * 2816 + 1 * x.val = x.val; omega

/-- Every point writes its block back. -/
theorem flush6 : ∀ t : Fin cfg0.N, (cfg0.win 6).flush t = true :=
  (by decide +kernel : ∀ t : Fin grid0.N, win0_6.flush t = true)

/-- The narrower cosines repeat along the lanes. -/
theorem cosT16_mod (b : BitVec 32) (p n : ℕ) : cosT 16 b p (n % 128) = cosT 16 b p n := by
  unfold cosT; rw [show n % 128 % 16 = n % 16 by omega]
/-- The wider cosines repeat along the lanes. -/
theorem cosT32_mod (b : BitVec 32) (p n : ℕ) : cosT 32 b p (n % 128) = cosT 32 b p n := by
  unfold cosT; rw [show n % 128 % 32 = n % 32 by omega]
/-- The narrower signed sines repeat along the lanes. -/
theorem sinT16_mod (b : BitVec 32) (p n : ℕ) : sinT 16 b p (n % 128) = sinT 16 b p n := by
  unfold sinT; rw [show n % 128 % 16 = n % 16 by omega, show n % 128 % (2 * 16) = n % (2 * 16) by omega]
/-- The wider signed sines repeat along the lanes. -/
theorem sinT32_mod (b : BitVec 32) (p n : ℕ) : sinT 32 b p (n % 128) = sinT 32 b p n := by
  unfold sinT; rw [show n % 128 % 32 = n % 32 by omega, show n % 128 % (2 * 32) = n % (2 * 32) by omega]

/-- The result array at an index. -/
theorem arr_apply (i : Fin 16384) (x : Fin 2816) :
    (dats m 0 c).arrAt 6 cfg0.N (ix2 i x)
      = cell (dotA (m (c, main_arg0)) (m (c, main_arg1)) i) (cosT 16 0x42000000#32 (i.val % 2048)) (sinT 16 0x42000000#32 (i.val % 2048))
          (cosT 32 0x42800000#32 (i.val % 2048)) (sinT 32 0x42800000#32 (i.val % 2048)) x.val := by
  obtain ⟨t, ht⟩ : ∃ t : Fin cfg0.N, t.val = i.val / 512 := ⟨⟨i.val / 512, by show _ < 32; omega⟩, rfl⟩
  obtain ⟨r, hr⟩ : ∃ r : Fin 512, r.val = i.val % 512 := ⟨⟨i.val % 512, by omega⟩, rfl⟩
  obtain ⟨p, hp⟩ : ∃ p : Fin 2048, p.val = i.val % 2048 := ⟨⟨i.val % 2048, by omega⟩, rfl⟩
  have hi : i.val = 512 * t.val + r.val := by omega
  have hp' : p.val = 512 * (t.val % 4) + r.val := by omega
  have b := congrFun (Cert.InProjIdeal.Value.blocks6 m c t (flush6 t)) (ix2 r x)
  rw [Cert.InProjIdeal.Value.flushed6] at b
  have b' : (dats m 0 c).arrAt 6 cfg0.N (((cfg0.win 6).blk t).view.emb (ix2 r x)) = out0_6 (F := Ideal) (iblk m c 0 t) (iblk m c 1 t) (iblk m c 2 t) (iblk m c 3 t) (iblk m c 4 t) (iblk m c 5 t) (ix2 r x) := b
  rw [emb6 t r x i hi, out_apply] at b'
  rw [b', ← hp]
  have h0 : dots (iblk m c 0 t) (iblk m c 1 t) r = dotA (m (c, main_arg0)) (m (c, main_arg1)) i := by
    funext n
    unfold dots dotA
    refine Finset.sum_congr rfl fun k _ => ?_
    rw [iblk0_apply m c t r k i hi, iblk1_apply m c t k, V_w m c k]
  have h2 : row (iblk m c 2 t) r = cosT 16 0x42000000#32 p.val := by
    funext n; unfold row; rw [iblk2_apply m c t r _ p hp', c1_apply, cosT16_mod]
  have h3 : row (iblk m c 3 t) r = sinT 16 0x42000000#32 p.val := by
    funext n; unfold row; rw [iblk3_apply m c t r _ p hp', s1_apply, sinT16_mod]
  have h4 : row (iblk m c 4 t) r = cosT 32 0x42800000#32 p.val := by
    funext n; unfold row; rw [iblk4_apply m c t r _ p hp', c2_apply, cosT32_mod]
  have h5 : row (iblk m c 5 t) r = sinT 32 0x42800000#32 p.val := by
    funext n; unfold row; rw [iblk5_apply m c t r _ p hp', s2_apply, sinT32_mod]
  rw [h0, h2, h3, h4, h5]

end Kernel

/-- The kernel runs and leaves its arguments as they were. -/
theorem frame_p : Cert.quiescent_InProj := fun m ρ _ => Cert.InProj.Gen.frame m ρ
/-- The idealized kernel runs and leaves its arguments as they were. -/
theorem frame_pi : Cert.quiescent_InProjIdeal := fun m ρ _ => Cert.InProjIdeal.Gen.frame m ρ
/-- The idealized reference runs and leaves its arguments as they were. -/
theorem frame_ri : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)
/-- The reference runs and leaves its arguments as they were. -/
theorem frame_r : Cert.quiescent_InProjRef := fun m ρ _ =>
  (θ_run Cert.InProjRef.defs _ _).mono (fun r h => ⟨fun c => (h c).2, sem_eq_zero_of_no_sems (by decide) r.2⟩)
    (Cert.InProjRef.Value.run (F := Bits) m ρ)

/-- The kernel and its reference leave the same array, whatever the arguments. -/
theorem algebraic : Cert.algebraic_InProjIdeal_InProjRefIdeal := by
  intro m ρ m' ρ' _ hagree
  refine ⟨_, Cert.InProjIdeal.Value.run_blocks (F := Ideal) m ρ, ?_⟩
  refine (θ_run Cert.InProjRefIdeal.defs _ _).mono (fun r h c => ⟨(h c).1.trans ?_, (h c).2⟩) (Cert.InProjRefIdeal.Value.run (F := Ideal) m' ρ')
  obtain ⟨a0, a1⟩ := hagree c
  refine (Cert.InProjRefIdeal.Read.val_main_v179_eq (F := Ideal) _).trans ?_
  show Cert.InProjRefIdeal.Read.val_main_v179 (F := Ideal) (m' (c, Cert.InProjRefIdeal.main_arg0)) (m' (c, Cert.InProjRefIdeal.main_arg1)) = _
  have b0 : m' (c, Cert.InProjRefIdeal.main_arg0) = m (c, Cert.InProjIdeal.main_arg0) := a0
  have b1 : m' (c, Cert.InProjRefIdeal.main_arg1) = m (c, Cert.InProjIdeal.main_arg1) := a1
  rw [b0, b1]
  have key : ∀ (i : Fin 16384) (x : Fin 2816), Cert.InProjRefIdeal.Read.val_main_v179 (F := Ideal) (m (c, Cert.InProjIdeal.main_arg0)) (m (c, Cert.InProjIdeal.main_arg1)) (ix2 i x)
        = (Cert.InProjIdeal.Gen.dats m 0 c).arrAt 6 Cert.InProjIdeal.cfg0.N (ix2 i x) := fun i x =>
    (v179_apply _ _ i x).trans (arr_apply m c i x).symm
  funext y
  obtain ⟨i, x, rfl⟩ : ∃ (i : Fin 16384) (x : Fin 2816), y = ix2 i x := ⟨y 0, y 1, by funext a; match a with | ⟨0, _⟩ => rfl | ⟨1, _⟩ => rfl⟩
  exact key i x

end Cert.Proof.In

end
-- ==== Proof.OutBlock.lean ====
/- The output projection's body and its reference, read at an index: the residual plus the product, normed over the row. -/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.Pipeline.ValueKit

@[expose] public section

set_option maxRecDepth 16384

noncomputable section

namespace Cert.Proof.Out

open Idealize.ShloMosaic Idealize.ShloMosaic.TcCoe

/-- A row's mean. -/
def mean (A : Fin 1024 → EReal) : EReal := Ideal.div (∑ k, A k) (Ideal.ofBits .f32 0x44800000#32)

/-- A row's layer norm at a lane, with the lane's gain and offset. -/
def layer (A : Fin 1024 → EReal) (g b : EReal) (x : Fin 1024) : EReal :=
  (A x - mean A) * Ideal.rsqrt (mean (fun k => (A k - mean A) * (A k - mean A)) + Ideal.ofBits .f32 0x3727C5AC#32) * g + b

/-- The scaled residual plus the four groups' products with their rows of the weights. -/
def total (h : EReal) (a b c d : Fin 256 → EReal) (w : Fin 1024 → EReal) : EReal :=
  Ideal.ofBits .f32 0x3FB504F3#32 * h + (∑ k : Fin 256, a k * w ⟨k.val, by omega⟩) + (∑ k : Fin 256, b k * w ⟨256 + k.val, by omega⟩)
    + (∑ k : Fin 256, c k * w ⟨512 + k.val, by omega⟩) + (∑ k : Fin 256, d k * w ⟨768 + k.val, by omega⟩)

/-- The sums joined before the residual is added, as the reference adds them. -/
theorem total_right (h : EReal) (a b c d : Fin 256 → EReal) (w : Fin 1024 → EReal) :
    total h a b c d w = Ideal.ofBits .f32 0x3FB504F3#32 * h + ((∑ k : Fin 256, a k * w ⟨k.val, by omega⟩) + ((∑ k : Fin 256, b k * w ⟨256 + k.val, by omega⟩)
      + ((∑ k : Fin 256, c k * w ⟨512 + k.val, by omega⟩) + (∑ k : Fin 256, d k * w ⟨768 + k.val, by omega⟩)))) := by
  unfold total; simp only [add_assoc]

/-- A sum over the four groups joined is the four groups' sums. -/
theorem sum_groups (a b c d : Fin 256 → EReal) (w : Fin 1024 → EReal) :
    (∑ x : Fin 1024, (if h : x.val < 256 then a ⟨x.val, h⟩ else if h : x.val - 256 < 256 then b ⟨x.val - 256, h⟩
        else if h : x.val - 256 - 256 < 256 then c ⟨x.val - 256 - 256, h⟩ else d ⟨x.val - 256 - 256 - 256, by omega⟩) * w x)
      = (∑ k : Fin 256, a k * w ⟨k.val, by omega⟩) + ((∑ k : Fin 256, b k * w ⟨256 + k.val, by omega⟩)
        + ((∑ k : Fin 256, c k * w ⟨512 + k.val, by omega⟩) + (∑ k : Fin 256, d k * w ⟨768 + k.val, by omega⟩))) := by
  rw [Fin.sum_univ_tiles 4 256 rfl, Fin.sum_univ_four, add_assoc, add_assoc]
  refine congrArg₂ (· + ·) (Finset.sum_congr rfl fun k _ => ?_) (congrArg₂ (· + ·) (Finset.sum_congr rfl fun k _ => ?_)
    (congrArg₂ (· + ·) (Finset.sum_congr rfl fun k _ => ?_) (Finset.sum_congr rfl fun k _ => ?_)))
  · have e : ∀ h, (⟨(0 : Fin 4).val * 256 + k.val, h⟩ : Fin 1024) = ⟨k.val, by omega⟩ := fun h => Fin.ext (by show 0 * 256 + k.val = k.val; omega)
    rw [e, dif_pos k.isLt]
  · have e : ∀ h, (⟨(1 : Fin 4).val * 256 + k.val, h⟩ : Fin 1024) = ⟨256 + k.val, by omega⟩ := fun h => Fin.ext (by show 1 * 256 + k.val = 256 + k.val; omega)
    rw [e, dif_neg (by show ¬(256 + k.val < 256); omega), dif_pos (by show 256 + k.val - 256 < 256; omega)]
    congr 2; apply Fin.ext; show 256 + k.val - 256 = k.val; omega
  · have e : ∀ h, (⟨(2 : Fin 4).val * 256 + k.val, h⟩ : Fin 1024) = ⟨512 + k.val, by omega⟩ := fun h => Fin.ext (by show 2 * 256 + k.val = 512 + k.val; omega)
    rw [e, dif_neg (by show ¬(512 + k.val < 256); omega), dif_neg (by show ¬(512 + k.val - 256 < 256); omega), dif_pos (by show 512 + k.val - 256 - 256 < 256; omega)]
    congr 2; apply Fin.ext; show 512 + k.val - 256 - 256 = k.val; omega
  · have e : ∀ h, (⟨(3 : Fin 4).val * 256 + k.val, h⟩ : Fin 1024) = ⟨768 + k.val, by omega⟩ := fun h => Fin.ext (by show 3 * 256 + k.val = 768 + k.val; omega)
    rw [e, dif_neg (by show ¬(768 + k.val < 256); omega), dif_neg (by show ¬(768 + k.val - 256 < 256); omega), dif_neg (by show ¬(768 + k.val - 256 - 256 < 256); omega)]
    congr 2; apply Fin.ext; show 768 + k.val - 256 - 256 - 256 = k.val; omega

section Kernel
open Cert.OutProjIdeal Cert.OutProjIdeal.Gen

/-- What the body stores, at an index of its block. -/
theorem out_apply (x0 x1 x2 x3 : FVec Ideal S512x256 .bf16) (x4 : FVec Ideal S1024x1024 .bf16) (x5 : FVec Ideal S512x1024 .f32) (x6 x7 : FVec Ideal S1x1024 .f32) (r : Fin 512) (x : Fin 1024) :
    out0_8 (F := Ideal) x0 x1 x2 x3 x4 x5 x6 x7 (ix2 r x)
      = layer (fun y => total (x5 (ix2 r y)) (fun k => x0 (ix2 r k)) (fun k => x1 (ix2 r k)) (fun k => x2 (ix2 r k)) (fun k => x3 (ix2 r k)) (fun k => x4 (ix2 k y))) (x6 (ix2 0 x)) (x7 (ix2 0 x)) x := by
  unfold out0_8
  rw [Cert.OutProjIdeal.Value.canon8_eq]
  pointwise [Cert.OutProjIdeal.Value.E8, k0_pay2, k0_pay6]
  rfl
end Kernel

section Reference
open Cert.OutProjRefIdeal
/-- The reference's residual plus product. -/
theorem v5_apply (x0 x1 x2 x3 : FVec Ideal S16384x256 .bf16) (x4 : FVec Ideal S1024x1024 .f32) (x5 : FVec Ideal S16384x1024 .f32) (i : Fin 16384) (y : Fin 1024) :
    Read.val_main_v5 (F := Ideal) x0 x1 x2 x3 x4 x5 (ix2 i y) = total (x5 (ix2 i y)) (fun k => x0 (ix2 i k)) (fun k => x1 (ix2 i k)) (fun k => x2 (ix2 i k)) (fun k => x3 (ix2 i k)) (fun k => x4 (ix2 k y)) := by
  pointwise [Read.val_main_v5, Read.val_main_v4, Read.val_main_v3, Read.val_main_v2, Read.val_main_v1, Read.val_main_v0, Read.val_main_cst]
  rw [total_right]
  exact congrArg (_ + ·) (sum_groups (fun k => x0 (ix2 i k)) (fun k => x1 (ix2 i k)) (fun k => x2 (ix2 i k)) (fun k => x3 (ix2 i k)) (fun k => x4 (ix2 k y)))

/-- The reference's mean. -/
theorem v9_apply (x0 x1 x2 x3 : FVec Ideal S16384x256 .bf16) (x4 : FVec Ideal S1024x1024 .f32) (x5 : FVec Ideal S16384x1024 .f32) (i : Fin 16384) :
    Read.val_main_v9 (F := Ideal) x0 x1 x2 x3 x4 x5 (ix2 i 0) = mean (fun y => Read.val_main_v5 (F := Ideal) x0 x1 x2 x3 x4 x5 (ix2 i y)) := by
  pointwise [Read.val_main_v9, Read.val_main_v8, Read.val_main_v7, Read.val_main_v6, Read.val_main_cst_0, Read.val_main_cst_1]
  rfl

/-- The reference's deviations. -/
theorem v11_apply (x0 x1 x2 x3 : FVec Ideal S16384x256 .bf16) (x4 : FVec Ideal S1024x1024 .f32) (x5 : FVec Ideal S16384x1024 .f32) (i : Fin 16384) (y : Fin 1024) :
    Read.val_main_v11 (F := Ideal) x0 x1 x2 x3 x4 x5 (ix2 i y) = (Read.val_main_v5 (F := Ideal) x0 x1 x2 x3 x4 x5 (ix2 i y) : EReal) - mean (fun y => Read.val_main_v5 (F := Ideal) x0 x1 x2 x3 x4 x5 (ix2 i y)) := by
  pointwise [Read.val_main_v11, Read.val_main_v10]
  rw [v9_apply]

/-- The reference's variance. -/
theorem v16_apply (x0 x1 x2 x3 : FVec Ideal S16384x256 .bf16) (x4 : FVec Ideal S1024x1024 .f32) (x5 : FVec Ideal S16384x1024 .f32) (i : Fin 16384) :
    Read.val_main_v16 (F := Ideal) x0 x1 x2 x3 x4 x5 (ix2 i 0)
      = mean (fun y => (Read.val_main_v11 (F := Ideal) x0 x1 x2 x3 x4 x5 (ix2 i y) : EReal) * Read.val_main_v11 (F := Ideal) x0 x1 x2 x3 x4 x5 (ix2 i y)) := by
  pointwise [Read.val_main_v16, Read.val_main_v15, Read.val_main_v14, Read.val_main_v13, Read.val_main_v12, Read.val_main_cst_2, Read.val_main_cst_3]
  rfl

/-- The reference's result at an index. -/
theorem v29_apply (x0 x1 x2 x3 : FVec Ideal S16384x256 .bf16) (x4 : FVec Ideal S1024x1024 .f32) (x5 : FVec Ideal S16384x1024 .f32) (x6 x7 : FVec Ideal S1024 .f32) (i : Fin 16384) (x : Fin 1024) :
    Read.val_main_v29 (F := Ideal) x0 x1 x2 x3 x4 x5 x6 x7 (ix2 i x)
      = layer (fun y => total (x5 (ix2 i y)) (fun k => x0 (ix2 i k)) (fun k => x1 (ix2 i k)) (fun k => x2 (ix2 i k)) (fun k => x3 (ix2 i k)) (fun k => x4 (ix2 k y))) (x6 (ix1 x)) (x7 (ix1 x)) x := by
  pointwise [Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_cst_4]
  rw [v16_apply, v9_apply]
  simp only [v11_apply, v5_apply]
  rfl
end Reference

end Cert.Proof.Out

end
-- ==== Proof.OutClaims.lean ====
/- The claims about the output projection: its runs, and that it computes its reference over the extended reals. -/
module

public import proofs.«01_k».proof.Defs
public import proofs.«01_k».proof.Proof.OutBlock
public import proofs.«01_k».proof.Proof.Gen.OutProj.Frame
public import proofs.«01_k».proof.Proof.Gen.OutProjRef.Run
public import Idealize.ShloMosaic.Lib.Claim

@[expose] public section

set_option maxRecDepth 16384

noncomputable section

namespace Cert.Proof.Out

open Idealize.ShloMosaic Idealize.SL.Sem Idealize.ShloMosaic.TcCoe

section Kernel
open Cert.OutProjIdeal Cert.OutProjIdeal.Gen

variable (m : (ℓ : Loc nD τ sig) → Buf (Elt Ideal) ℓ) (c : Dev nD)

/-- The weights the launch finds are the argument's, their rounding being none here. -/
theorem V_w (k y : Fin 1024) : V m c main_v0 (ix2 k y) = (m (c, main_arg4) : FVec Ideal S1024x1024 .f32) (ix2 k y) := by
  unfold V hostOps0
  simp only [List.flatten_cons, List.flatten_nil, List.append_nil, List.cons_append, List.nil_append]
  after_results
  pointwise

/-- The gains the launch finds. -/
theorem V_g (y : Fin 1024) : V m c main_v1 (ix2 0 y) = (m (c, main_arg6) : FVec Ideal S1024 .f32) (ix1 y) := by
  unfold V hostOps0
  simp only [List.flatten_cons, List.flatten_nil, List.append_nil, List.cons_append, List.nil_append]
  after_results
  pointwise

/-- The offsets the launch finds. -/
theorem V_b (y : Fin 1024) : V m c main_v2 (ix2 0 y) = (m (c, main_arg7) : FVec Ideal S1024 .f32) (ix1 y) := by
  unfold V hostOps0
  simp only [List.flatten_cons, List.flatten_nil, List.append_nil, List.cons_append, List.nil_append]
  after_results
  pointwise

/-- Where each window's block lies at a point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The first group's rows a point reads. -/
theorem iblk0_apply (t : Fin cfg0.N) (r : Fin 512) (x : Fin 256) (i : Fin 16384) (hi : i.val = 512 * t.val + r.val) :
    iblk m c 0 t (ix2 r x) = m ((c : Thread nD τ).loc main_arg0) (ix2 i x) := by
  show V m c main_arg0 (((cfg0.win 0).blk t).view.emb (ix2 r x)) = _
  rw [V_main_arg0]
  obtain ⟨e0, e1, _⟩ := idx_facts t
  congr 1
  funext a; apply Fin.ext
  match a with
  | ⟨0, _⟩ => show win0_0.index t (0 : Fin 2) * 512 + 1 * r.val = i.val; omega
  | ⟨1, _⟩ => show win0_0.index t (1 : Fin 2) * 256 + 1 * x.val = x.val; omega

/-- The second group's rows a point reads. -/
theorem iblk1_apply (t : Fin cfg0.N) (r : Fin 512) (x : Fin 256) (i : Fin 16384) (hi : i.val = 512 * t.val + r.val) :
    iblk m c 1 t (ix2 r x) = m ((c : Thread nD τ).loc main_arg1) (ix2 i x) := by
  show V m c main_arg1 (((cfg0.win 1).blk t).view.emb (ix2 r x)) = _
  rw [V_main_arg1]
  obtain ⟨_, _, e0, e1, _⟩ := idx_facts t
  congr 1
  funext a; apply Fin.ext
  match a with
  | ⟨0, _⟩ => show win0_1.index t (0 : Fin 2) * 512 + 1 * r.val = i.val; omega
  | ⟨1, _⟩ => show win0_1.index t (1 : Fin 2) * 256 + 1 * x.val = x.val; omega

/-- The third group's rows a point reads. -/
theorem iblk2_apply (t : Fin cfg0.N) (r : Fin 512) (x : Fin 256) (i : Fin 16384) (hi : i.val = 512 * t.val + r.val) :
    iblk m c 2 t (ix2 r x) = m ((c : Thread nD τ).loc main_arg2) (ix2 i x) := by
  show V m c main_arg2 (((cfg0.win 2).blk t).view.emb (ix2 r x)) = _
  rw [V_main_arg2]
  obtain ⟨_, _, _, _, e0, e1, _⟩ := idx_facts t
  congr 1
  funext a; apply Fin.ext
  match a with
  | ⟨0, _⟩ => show win0_2.index t (0 : Fin 2) * 512 + 1 * r.val = i.val; omega
  | ⟨1, _⟩ => show win0_2.index t (1 : Fin 2) * 256 + 1 * x.val = x.val; omega

/-- The fourth group's rows a point reads. -/
theorem iblk3_apply (t : Fin cfg0.N) (r : Fin 512) (x : Fin 256) (i : Fin 16384) (hi : i.val = 512 * t.val + r.val) :
    iblk m c 3 t (ix2 r x) = m ((c : Thread nD τ).loc main_arg3) (ix2 i x) := by
  show V m c main_arg3 (((cfg0.win 3).blk t).view.emb (ix2 r x)) = _
  rw [V_main_arg3]
  obtain ⟨_, _, _, _, _, _, e0, e1, _⟩ := idx_facts t
  congr 1
  funext a; apply Fin.ext
  match a with
  | ⟨0, _⟩ => show win0_3.index t (0 : Fin 2) * 512 + 1 * r.val = i.val; omega
  | ⟨1, _⟩ => show win0_3.index t (1 : Fin 2) * 256 + 1 * x.val = x.val; omega

/-- The weights a point reads. -/
theorem iblk4_apply (t : Fin cfg0.N) (k y : Fin 1024) : iblk m c 4 t (ix2 k y) = V m c main_v0 (ix2 k y) := by
  show V m c main_v0 (((cfg0.win 4).blk t).view.emb (ix2 k y)) = _
  obtain ⟨_, _, _, _, _, _, _, _, e0, e1, _⟩ := idx_facts t
  congr 1
  funext a; apply Fin.ext
  match a with
  | ⟨0, _⟩ => show win0_4.index t (0 : Fin 2) * 1024 + 1 * k.val = k.val; omega
  | ⟨1, _⟩ => show win0_4.index t (1 : Fin 2) * 1024 + 1 * y.val = y.val; omega

/-- The residual's rows a point reads. -/
theorem iblk5_apply (t : Fin cfg0.N) (r : Fin 512) (x : Fin 1024) (i : Fin 16384) (hi : i.val = 512 * t.val + r.val) :
    iblk m c 5 t (ix2 r x) = m ((c : Thread nD τ).loc main_arg5) (ix2 i x) := by
  show V m c main_arg5 (((cfg0.win 5).blk t).view.emb (ix2 r x)) = _
  rw [V_main_arg5]
  obtain ⟨_, _, _, _, _, _, _, _, _, _, e0, e1, _⟩ := idx_facts t
  congr 1
  funext a; apply Fin.ext
  match a with
  | ⟨0, _⟩ => show win0_5.index t (0 : Fin 2) * 512 + 1 * r.val = i.val; omega
  | ⟨1, _⟩ => show win0_5.index t (1 : Fin 2) * 1024 + 1 * x.val = x.val; omega

/-- The gains a point reads. -/
theorem iblk6_apply (t : Fin cfg0.N) (y : Fin 1024) : iblk m c 6 t (ix2 0 y) = V m c main_v1 (ix2 0 y) := by
  show V m c main_v1 (((cfg0.win 6).blk t).view.emb (ix2 0 y)) = _
  obtain ⟨_, _, _, _, _, _, _, _, _, _, _, _, e0, e1, _⟩ := idx_facts t
  congr 1
  funext a; apply Fin.ext
  match a with
  | ⟨0, _⟩ => show win0_6.index t (0 : Fin 2) * 1 + 1 * 0 = 0; omega
  | ⟨1, _⟩ => show win0_6.index t (1 : Fin 2) * 1024 + 1 * y.val = y.val; omega

/-- The offsets a point reads. -/
theorem iblk7_apply (t : Fin cfg0.N) (y : Fin 1024) : iblk m c 7 t (ix2 0 y) = V m c main_v2 (ix2 0 y) := by
  show V m c main_v2 (((cfg0.win 7).blk t).view.emb (ix2 0 y)) = _
  obtain ⟨_, _, _, _, _, _, _, _, _, _, _, _, _, _, e0, e1, _⟩ := idx_facts t
  congr 1
  funext a; apply Fin.ext
  match a with
  | ⟨0, _⟩ => show win0_7.index t (0 : Fin 2) * 1 + 1 * 0 = 0; omega
  | ⟨1, _⟩ => show win0_7.index t (1 : Fin 2) * 1024 + 1 * y.val = y.val; omega

/-- Where the result's block lies in the result. -/
theorem emb8 (t : Fin cfg0.N) (r : Fin 512) (x : Fin 1024) (i : Fin 16384) (hi : i.val = 512 * t.val + r.val) :
    ((cfg0.win 8).blk t).view.emb (ix2 r x) = ix2 i x := by
  obtain ⟨_, _, _, _, _, _, _, _, _, _, _, _, _, _, _, _, e0, e1⟩ := idx_facts t
  funext a; apply Fin.ext
  match a with
  | ⟨0, _⟩ => show win0_8.index t (0 : Fin 2) * 512 + 1 * r.val = i.val; omega
  | ⟨1, _⟩ => show win0_8.index t (1 : Fin 2) * 1024 + 1 * x.val = x.val; omega

/-- Every point writes its block back. -/
theorem flush8 : ∀ t : Fin cfg0.N, (cfg0.win 8).flush t = true :=
  (by decide +kernel : ∀ t : Fin grid0.N, win0_8.flush t = true)

/-- The result array at an index. -/
theorem arr_apply (i : Fin 16384) (x : Fin 1024) :
    (dats m 0 c).arrAt 8 cfg0.N (ix2 i x)
      = layer (fun y => total ((m (c, main_arg5) : FVec Ideal S16384x1024 .f32) (ix2 i y)) (fun k => (m (c, main_arg0) : FVec Ideal S16384x256 .bf16) (ix2 i k))
          (fun k => (m (c, main_arg1) : FVec Ideal S16384x256 .bf16) (ix2 i k)) (fun k => (m (c, main_arg2) : FVec Ideal S16384x256 .bf16) (ix2 i k))
          (fun k => (m (c, main_arg3) : FVec Ideal S16384x256 .bf16) (ix2 i k)) (fun k => (m (c, main_arg4) : FVec Ideal S1024x1024 .f32) (ix2 k y)))
        ((m (c, main_arg6) : FVec Ideal S1024 .f32) (ix1 x)) ((m (c, main_arg7) : FVec Ideal S1024 .f32) (ix1 x)) x := by
  obtain ⟨t, ht⟩ : ∃ t : Fin cfg0.N, t.val = i.val / 512 := ⟨⟨i.val / 512, by show _ < 32; omega⟩, rfl⟩
  obtain ⟨r, hr⟩ : ∃ r : Fin 512, r.val = i.val % 512 := ⟨⟨i.val % 512, by omega⟩, rfl⟩
  have hi : i.val = 512 * t.val + r.val := by omega
  have b := congrFun (Cert.OutProjIdeal.Value.blocks8 m c t (flush8 t)) (ix2 r x)
  rw [Cert.OutProjIdeal.Value.flushed8] at b
  have b' : (dats m 0 c).arrAt 8 cfg0.N (((cfg0.win 8).blk t).view.emb (ix2 r x)) = out0_8 (F := Ideal) (iblk m c 0 t) (iblk m c 1 t) (iblk m c 2 t) (iblk m c 3 t) (iblk m c 4 t) (iblk m c 5 t) (iblk m c 6 t) (iblk m c 7 t) (ix2 r x) := b
  rw [emb8 t r x i hi, out_apply] at b'
  rw [b']
  have h0 := fun k => iblk0_apply m c t r k i hi
  have h1 := fun k => iblk1_apply m c t r k i hi
  have h2 := fun k => iblk2_apply m c t r k i hi
  have h3 := fun k => iblk3_apply m c t r k i hi
  have h4 := fun k y => (iblk4_apply m c t k y).trans (V_w m c k y)
  have h5 := fun k => iblk5_apply m c t r k i hi
  have h6 := fun y => (iblk6_apply m c t y).trans (V_g m c y)
  have h7 := fun y => (iblk7_apply m c t y).trans (V_b m c y)
  simp only [h0, h1, h2, h3, h4, h5, h6, h7]

end Kernel

/-- The kernel runs and leaves its arguments as they were. -/
theorem frame_p : Cert.quiescent_OutProj := fun m ρ _ => Cert.OutProj.Gen.frame m ρ
/-- The idealized kernel runs and leaves its arguments as they were. -/
theorem frame_pi : Cert.quiescent_OutProjIdeal := fun m ρ _ => Cert.OutProjIdeal.Gen.frame m ρ
/-- The idealized reference runs and leaves its arguments as they were. -/
theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)
/-- The reference runs and leaves its arguments as they were. -/
theorem frame_r : Cert.quiescent_OutProjRef := fun m ρ _ =>
  (θ_run Cert.OutProjRef.defs _ _).mono (fun r h => ⟨fun c => (h c).2, sem_eq_zero_of_no_sems (by decide) r.2⟩)
    (Cert.OutProjRef.Value.run (F := Bits) m ρ)

/-- The reference's result is its last operation's value at the arguments. -/
theorem run_reference (m : (ℓ : Loc Cert.OutProjRefIdeal.nD Cert.OutProjRefIdeal.τ Cert.OutProjRefIdeal.sig) → Buf (Elt Ideal) ℓ) (c : Dev Cert.OutProjRefIdeal.nD) :
    Cert.OutProjRefIdeal.Value.res_out0 m c = Cert.OutProjRefIdeal.Read.val_main_v29 (F := Ideal) (m (c, Cert.OutProjRefIdeal.main_arg0)) (m (c, Cert.OutProjRefIdeal.main_arg1)) (m (c, Cert.OutProjRefIdeal.main_arg2))
      (m (c, Cert.OutProjRefIdeal.main_arg3)) (m (c, Cert.OutProjRefIdeal.main_arg4)) (m (c, Cert.OutProjRefIdeal.main_arg5)) (m (c, Cert.OutProjRefIdeal.main_arg6)) (m (c, Cert.OutProjRefIdeal.main_arg7)) := by
  unfold Cert.OutProjRefIdeal.Value.res_out0
  rw [Cert.OutProjRefIdeal.Read.val_main_v29_eq]

/-- The kernel and its reference leave the same array, whatever the arguments. -/
theorem algebraic : Cert.algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun r h c => ⟨(h c).1.trans ?_, (h c).2⟩) (Cert.OutProjRefIdeal.Value.run (F := Ideal) m' ρ')
  obtain ⟨a0, a1, a2, a3, a4, a5, a6, a7⟩ := hagree c
  refine (run_reference m' c).trans ?_
  have b0 : m' (c, Cert.OutProjRefIdeal.main_arg0) = m (c, Cert.OutProjIdeal.main_arg0) := a0
  have b1 : m' (c, Cert.OutProjRefIdeal.main_arg1) = m (c, Cert.OutProjIdeal.main_arg1) := a1
  have b2 : m' (c, Cert.OutProjRefIdeal.main_arg2) = m (c, Cert.OutProjIdeal.main_arg2) := a2
  have b3 : m' (c, Cert.OutProjRefIdeal.main_arg3) = m (c, Cert.OutProjIdeal.main_arg3) := a3
  have b4 : m' (c, Cert.OutProjRefIdeal.main_arg4) = m (c, Cert.OutProjIdeal.main_arg4) := a4
  have b5 : m' (c, Cert.OutProjRefIdeal.main_arg5) = m (c, Cert.OutProjIdeal.main_arg5) := a5
  have b6 : m' (c, Cert.OutProjRefIdeal.main_arg6) = m (c, Cert.OutProjIdeal.main_arg6) := a6
  have b7 : m' (c, Cert.OutProjRefIdeal.main_arg7) = m (c, Cert.OutProjIdeal.main_arg7) := a7
  rw [b0, b1, b2, b3, b4, b5, b6, b7]
  have key : ∀ (i : Fin 16384) (x : Fin 1024), Cert.OutProjRefIdeal.Read.val_main_v29 (F := Ideal) (m (c, Cert.OutProjIdeal.main_arg0)) (m (c, Cert.OutProjIdeal.main_arg1)) (m (c, Cert.OutProjIdeal.main_arg2))
      (m (c, Cert.OutProjIdeal.main_arg3)) (m (c, Cert.OutProjIdeal.main_arg4)) (m (c, Cert.OutProjIdeal.main_arg5)) (m (c, Cert.OutProjIdeal.main_arg6)) (m (c, Cert.OutProjIdeal.main_arg7)) (ix2 i x)
        = (Cert.OutProjIdeal.Gen.dats m 0 c).arrAt 8 Cert.OutProjIdeal.cfg0.N (ix2 i x) := fun i x =>
    (v29_apply _ _ _ _ _ _ _ _ i x).trans (arr_apply m c i x).symm
  funext y
  obtain ⟨i, x, rfl⟩ : ∃ (i : Fin 16384) (x : Fin 1024), y = ix2 i x := ⟨y 0, y 1, by funext a; match a with | ⟨0, _⟩ => rfl | ⟨1, _⟩ => rfl⟩
  exact key i x

end Cert.Proof.Out

end
-- ==== Proof.ExpDefs.lean ====
module

public import proofs.«01_k».proof.Proof.Gen.Experts.Skeleton
public import proofs.«01_k».proof.Proof.Gen.Experts.Launch
public import Idealize.ShloMosaic.Lib.Batch
public import Idealize.ShloMosaic.Lib.Ring
public import Idealize.ShloMosaic.Lib.Pipeline.Frame
public import Idealize.ShloMosaic.Lib.Exec
public import Idealize.ShloMosaic.Lib.Tactic
public import Idealize.ShloMosaic.Lib.ValueIdxCore
public import Idealize.ShloMosaic.Lib.ValueLayout

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The counters of the transfers in flight, inside the proof's resource algebra. -/
abbrev EC : UEmb Counters (MT nD τ sig Unit (Elt F) ℕ (Pipeline.UD sig nD τ) ℕ) := countersEmb (U := Pipeline.UD sig nD τ)

/-! ## The places the kernel's transfers read and write -/

/-- A row of the token buffer lies in the buffer. -/
theorem inbB (p : Fin 2) (t : Fin 128) : ∀ a, (![p.val, t.val, 0] : Fin 3 → Nat) a + S1x1x1024.size a ≤ S2x128x1024.size a := by
  have := p.isLt; have := t.isLt
  intro a; fin_cases a
  · show p.val + 1 ≤ 2; omega
  · show t.val + 1 ≤ 128; omega
  · show 0 + 1024 ≤ 1024; omega
/-- A row of the index buffer lies in the buffer. -/
theorem inbI (p : Fin 2) : ∀ a, (![p.val, 0] : Fin 2 → Nat) a + S1x128.size a ≤ S2x128.size a := by
  have := p.isLt
  intro a; fin_cases a
  · show p.val + 1 ≤ 2; omega
  · show 0 + 128 ≤ 128; omega
/-- A block's row of tokens lies in the array. -/
theorem inbT (b : Fin 1279) : ∀ a, (![b.val, 0] : Fin 2 → Nat) a + S1x128.size a ≤ S1279x128.size a := by
  have := b.isLt
  intro a; fin_cases a
  · show b.val + 1 ≤ 1279; omega
  · show 0 + 128 ≤ 128; omega
/-- A token's row lies in the array. -/
theorem inbX (v : Fin 16384) : ∀ a, (![v.val, 0] : Fin 2 → Nat) a + S1x1024.size a ≤ S16384x1024.size a := by
  have := v.isLt
  intro a; fin_cases a
  · show v.val + 1 ≤ 16384; omega
  · show 0 + 1024 ≤ 1024; omega
/-- A slot's semaphore lies in its array. -/
theorem inbS (p : Fin 2) : ∀ a, (![p.val] : Fin 1 → Nat) a + S1.size a ≤ S2.size a := by
  have := p.isLt
  intro a; fin_cases a
  show p.val + 1 ≤ 2; omega
/-- A word of the index buffer lies in the buffer. -/
theorem inbW (p : Fin 2) (t : Fin 128) : ∀ a, (![p.val, t.val] : Fin 2 → Nat) a + S1x1.size a ≤ S2x128.size a := by
  have := p.isLt; have := t.isLt
  intro a; fin_cases a
  · show p.val + 1 ≤ 2; omega
  · show t.val + 1 ≤ 128; omega
/-- A slot of the token buffer lies in the buffer. -/
theorem inbL (p : Fin 2) : ∀ a, (![p.val, 0, 0] : Fin 3 → Nat) a + S1x128x1024.size a ≤ S2x128x1024.size a := by
  have := p.isLt
  intro a; fin_cases a
  · show p.val + 1 ≤ 2; omega
  · show 0 + 128 ≤ 128; omega
  · show 0 + 1024 ≤ 1024; omega

/-- Row `t` of slot `p` of the token buffer. -/
def bufRow (p : Fin 2) (t : Fin 128) : Memref sig .tc .vmem S1x1024 .f32 :=
  ((Memref.whole cc0_scratch1).slice (Rect.unit (s := S2x128x1024) ![p.val, t.val, 0] S1x1x1024.size (inbB p t)) (fun _ => rfl)).squeeze S1x1024 squeezes_S1x1x1024_S1x1024
/-- Slot `p` of the index buffer. -/
def idxRow (p : Fin 2) : Memref sig .tc .smem S128 .i32 :=
  ((Memref.whole cc0_scratch0).slice (Rect.unit (s := S2x128) ![p.val, 0] S1x128.size (inbI p)) (fun _ => rfl)).squeeze S128 squeezes_S1x128_S128
/-- Row `b` of the token indices. -/
def tokRow (b : Fin 1279) : Memref sig .tc .hbm S128 .i32 :=
  ((Memref.whole main_arg1).slice (Rect.unit (s := S1279x128) ![b.val, 0] S1x128.size (inbT b)) (fun _ => rfl)).squeeze S128 squeezes_S1x128_S128
/-- Row `v` of the tokens. -/
def xRow (v : Fin 16384) : Memref sig .tc .hbm S1x1024 .f32 :=
  (Memref.whole main_arg0).slice (Rect.unit (s := S16384x1024) ![v.val, 0] S1x1024.size (inbX v)) (fun _ => rfl)
/-- The semaphore of the index transfers into slot `p`. -/
def semI (p : Fin 2) : DmaSem sig := ((cc0_scratch2.slice (Rect.unit (s := S2) ![p.val] S1.size (inbS p))).squeeze S_ squeezes_S1_S_).sem
/-- The semaphore of the row transfers into slot `p`. -/
def semB (p : Fin 2) : DmaSem sig := ((cc0_scratch3.slice (Rect.unit (s := S2) ![p.val] S1.size (inbS p))).squeeze S_ squeezes_S1_S_).sem

/-- The first slot's semaphore for the indices. -/
theorem semI_0 : semI 0 = 8 := by decide
/-- The second slot's semaphore for the indices. -/
theorem semI_1 : semI 1 = 9 := by decide
/-- The first slot's semaphore for the rows. -/
theorem semB_0 : semB 0 = 10 := by decide
/-- The second slot's semaphore for the rows. -/
theorem semB_1 : semB 1 = 11 := by decide

/-- The elements of slot `p` of the token buffer. -/
abbrev slotSet (p : Fin 2) : Finset S2x128x1024.Idx := (Rect.unit (s := S2x128x1024) ![p.val, 0, 0] S1x128x1024.size (inbL p)).set
/-- The elements of slot `p` of the index buffer. -/
abbrev idxSet (p : Fin 2) : Finset S2x128.Idx := (Rect.unit (s := S2x128) ![p.val, 0] S1x128.size (inbI p)).set
/-- The elements of row `t` of slot `p`. -/
abbrev rowSet (p : Fin 2) (t : Fin 128) : Finset S2x128x1024.Idx := (Rect.unit (s := S2x128x1024) ![p.val, t.val, 0] S1x1x1024.size (inbB p t)).set
/-- The elements of row `b` of the indices. -/
abbrev tokSet (b : Fin 1279) : Finset S1279x128.Idx := (Rect.unit (s := S1279x128) ![b.val, 0] S1x128.size (inbT b)).set
/-- The elements of row `v` of the tokens. -/
abbrev xSet (v : Fin 16384) : Finset S16384x1024.Idx := (Rect.unit (s := S16384x1024) ![v.val, 0] S1x1024.size (inbX v)).set

/-- The indices a row of the token buffer covers. -/
theorem bufRow_set (p : Fin 2) (t : Fin 128) : (bufRow p t).view.set = rowSet p t := by
  unfold bufRow; exact (View.set_reshape _ _).trans (View.set_slice_whole _ _)
/-- The indices a row of the index buffer covers. -/
theorem idxRow_set (p : Fin 2) : (idxRow p).view.set = idxSet p := by
  unfold idxRow; exact (View.set_reshape _ _).trans (View.set_slice_whole _ _)
/-- The indices a block's row of tokens covers. -/
theorem tokRow_set (b : Fin 1279) : (tokRow b).view.set = tokSet b := by
  unfold tokRow; exact (View.set_reshape _ _).trans (View.set_slice_whole _ _)
/-- The indices a token's row covers. -/
theorem xRow_set (v : Fin 16384) : (xRow v).view.set = xSet v := by
  unfold xRow; exact View.set_slice_whole _ _

/-- An index is in a slot when its first coordinate is the slot. -/
theorem mem_slotSet (p : Fin 2) (y : S2x128x1024.Idx) : y ∈ slotSet p ↔ (y 0).val = p.val := by
  rw [Rect.mem_set_unit]
  have h1 : (y 1).val < 128 := (y 1).isLt
  have h2 : (y 2).val < 1024 := (y 2).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 128; omega
    · show 0 ≤ (y 2).val ∧ (y 2).val < 0 + 1024; omega
/-- An index is in a row when its first two coordinates are the slot and the row. -/
theorem mem_rowSet (p : Fin 2) (t : Fin 128) (y : S2x128x1024.Idx) : y ∈ rowSet p t ↔ (y 0).val = p.val ∧ (y 1).val = t.val := by
  rw [Rect.mem_set_unit]
  have h2 : (y 2).val < 1024 := (y 2).isLt
  constructor
  · intro H
    have a0 : p.val ≤ (y 0).val ∧ (y 0).val < p.val + 1 := H 0
    have a1 : t.val ≤ (y 1).val ∧ (y 1).val < t.val + 1 := H 1
    omega
  · intro H a; fin_cases a
    · show p.val ≤ (y 0).val ∧ (y 0).val < p.val + 1; omega
    · show t.val ≤ (y 1).val ∧ (y 1).val < t.val + 1; omega
    · show 0 ≤ (y 2).val ∧ (y 2).val < 0 + 1024; omega
/-- An index is in a slot's words when its first coordinate is the slot. -/
theorem mem_idxSet (p : Fin 2) (y : S2x128.Idx) : y ∈ idxSet p ↔ (y 0).val = p.val := by
  rw [Rect.mem_set_unit]
  have h1 : (y 1).val < 128 := (y 1).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 128; omega

/-- Two rows of a slot share no index. -/
theorem rowSet_disjoint (p : Fin 2) : ∀ t t' : Fin 128, t ≠ t' → Disjoint (rowSet p t) (rowSet p t') := fun t t' hne => by
  rw [Finset.disjoint_left]; intro y hy hy'; rw [mem_rowSet] at hy hy'; exact hne (Fin.ext (by omega))
/-- The rows of a slot make up the slot. -/
theorem rowSet_cover (p : Fin 2) : Finset.univ.biUnion (rowSet p) = slotSet p := by
  ext y; simp only [Finset.mem_biUnion, Finset.mem_univ, true_and]; rw [mem_slotSet]
  constructor
  · rintro ⟨t, ht⟩; rw [mem_rowSet] at ht; exact ht.1
  · intro h; exact ⟨⟨(y 1).val, (y 1).isLt⟩, (mem_rowSet _ _ _).mpr ⟨h, rfl⟩⟩
/-- The two slots share no index. -/
theorem slotSet_disjoint : ∀ p p' : Fin 2, p ≠ p' → Disjoint (slotSet p) (slotSet p') := fun p p' hne => by
  rw [Finset.disjoint_left]; intro y hy hy'; rw [mem_slotSet] at hy hy'; exact hne (Fin.ext (by omega))
/-- The two slots make up the token buffer. -/
theorem slotSet_cover : Finset.univ.biUnion slotSet = Finset.univ := by
  ext y; simp only [Finset.mem_biUnion, Finset.mem_univ, true_and, iff_true]; exact ⟨⟨(y 0).val, (y 0).isLt⟩, (mem_slotSet _ _).mpr rfl⟩
/-- The two slots' words share no index. -/
theorem idxSet_disjoint : ∀ p p' : Fin 2, p ≠ p' → Disjoint (idxSet p) (idxSet p') := fun p p' hne => by
  rw [Finset.disjoint_left]; intro y hy hy'; rw [mem_idxSet] at hy hy'; exact hne (Fin.ext (by omega))
/-- The two slots' words make up the index buffer. -/
theorem idxSet_cover : Finset.univ.biUnion idxSet = Finset.univ := by
  ext y; simp only [Finset.mem_biUnion, Finset.mem_univ, true_and, iff_true]; exact ⟨⟨(y 0).val, (y 0).isLt⟩, (mem_idxSet _ _).mpr rfl⟩

/-! ## What the buffers hold -/

section Contents

variable (T : S1279x128.Idx → Elt F .i32) (X : S16384x1024.Idx → Elt F .f32)

/-- The token word of row `r` of block `b`. -/
def tok (b : Fin 1279) (r : Fin 128) : BitVec 32 := T (ix2 b r)
/-- The token's number (token 0 where the word names none). -/
def tokN (b : Fin 1279) (r : Fin 128) : Fin 16384 :=
  if h : (tok T b r).toNat < 16384 then ⟨(tok T b r).toNat, h⟩ else 0
/-- The index buffer holding block `b`'s words. -/
def J (b : Fin 1279) : S2x128.Idx → Elt F .i32 := fun y => T (ix2 b (y 1))
/-- The token buffer holding block `b`'s rows. -/
def G (b : Fin 1279) : S2x128x1024.Idx → Elt F .f32 := fun y => X (ix2 (tokN T b (y 1)) (y 2))

end Contents

/-! ## Where the views place their elements -/

/-- Where a row of the token buffer puts its elements. -/
theorem bufRow_emb (p : Fin 2) (t : Fin 128) (j : S1x1024.Idx) : (bufRow p t).view.emb j = ix3 p t (j 1) := by
  obtain ⟨a, d, rfl⟩ : ∃ a d, j = ix2 a d := ⟨j 0, j 1, eq_ix2 j⟩
  show (Rect.unit (s := S2x128x1024) ![p.val, t.val, 0] S1x1x1024.size (inbB p t)).emb (Shape.reshapeEquiv _ (ix2 a d)) = _
  rw [show (Shape.reshapeEquiv (s := S1x1x1024) (s' := S1x1024) squeezes_S1x1x1024_S1x1024.numel_eq (ix2 a d)) = ix3 (⟨0, Nat.one_pos⟩ : Fin 1) a d from reshapeEquiv_ix2_1ab _ _ _]
  funext x; apply Fin.ext
  have ha : a.val = 0 := by have := a.isLt; omega
  fin_cases x
  · show p.val + 1 * 0 = p.val; omega
  · show t.val + 1 * a.val = t.val; omega
  · show 0 + 1 * d.val = d.val; omega

/-- Dropping the leading axis of length one keeps the position. -/
theorem reshape_128 (h) (j : S128.Idx) : Shape.reshapeEquiv (s := S1x128) (s' := S128) h j = ix2 (⟨0, Nat.one_pos⟩ : Fin 1) (j 0) := by
  apply S1x128.rowMajor.injective; apply Fin.ext
  refine (Shape.rowMajor_reshapeEquiv _ _).trans ((Shape.rowMajor_val_one _).trans (Eq.symm ?_))
  refine (Shape.rowMajor_val_two (d := ![1, 128]) (ix2 (⟨0, Nat.one_pos⟩ : Fin 1) (j 0))).trans ?_
  show 0 * 128 + (j 0).val = (j 0).val; omega

/-- Where a row of the index buffer puts its elements. -/
theorem idxRow_emb (p : Fin 2) (j : S128.Idx) : (idxRow p).view.emb j = ix2 p (j 0) := by
  show (Rect.unit (s := S2x128) ![p.val, 0] S1x128.size (inbI p)).emb (Shape.reshapeEquiv _ j) = _
  rw [show (Shape.reshapeEquiv (s := S1x128) (s' := S128) squeezes_S1x128_S128.numel_eq j) = _ from reshape_128 _ j]
  funext x; apply Fin.ext
  fin_cases x
  · show p.val + 1 * 0 = p.val; omega
  · show 0 + 1 * (j 0).val = (j 0).val; omega

/-- Where a block's row of tokens lies in the array. -/
theorem tokRow_emb (b : Fin 1279) (j : S128.Idx) : (tokRow b).view.emb j = ix2 b (j 0) := by
  show (Rect.unit (s := S1279x128) ![b.val, 0] S1x128.size (inbT b)).emb (Shape.reshapeEquiv _ j) = _
  rw [show (Shape.reshapeEquiv (s := S1x128) (s' := S128) squeezes_S1x128_S128.numel_eq j) = _ from reshape_128 _ j]
  funext x; apply Fin.ext
  fin_cases x
  · show b.val + 1 * 0 = b.val; omega
  · show 0 + 1 * (j 0).val = (j 0).val; omega

/-- Where a token's row lies in the array. -/
theorem xRow_emb (v : Fin 16384) (j : S1x1024.Idx) : (xRow v).view.emb j = ix2 v (j 1) := by
  show (Rect.unit (s := S16384x1024) ![v.val, 0] S1x1024.size (inbX v)).emb j = _
  funext x; apply Fin.ext
  have ha : (j 0).val = 0 := by have : (j 0).val < 1 := (j 0).isLt; omega
  fin_cases x
  · show v.val + 1 * (j 0).val = v.val; omega
  · show 0 + 1 * (j 1).val = (j 1).val; omega

/-! ## Closed forms of the kernel's offsets and conditions -/

/-- The kernel's `w mod 2` on a word. -/
def pm (w : BitVec 32) : BitVec 32 :=
  let v5 := Scalar.select (Scalar.cmpi .eq 2#32 0#32) 1#32 2#32
  let v6 := Scalar.remsi w v5
  Scalar.select (Scalar.andi (Scalar.xori (Scalar.cmpi .slt v6 0#32) (Scalar.cmpi .slt v5 0#32)) (Scalar.cmpi .ne v6 0#32)) (Scalar.addi v6 v5) v6
/-- The slot computed from a number is its parity. -/
theorem pm_eq : ∀ n : Fin 1281, (pm (BitVec.ofNat 32 n.val)).toNat = n.val % 2 := by decide +kernel
/-- The slot computed from a number's successor is the successor's parity. -/
theorem pm_eq1 : ∀ n : Fin 1281, (pm (Scalar.addi (BitVec.ofNat 32 n.val) 1#32)).toNat = (n.val + 1) % 2 := by decide +kernel

/-- The grid point's number. -/
abbrev pt (i : grid0.Coords) : Fin 1279 := i 0
/-- The slot of the block at the grid point. -/
def par (n : ℕ) : Fin 2 := ⟨n % 2, Nat.mod_lt _ (by norm_num)⟩

/-- The first loop over rows has 128 rounds. -/
theorem trips1 : k0_t1_loop.trips = 128 := by decide
/-- The second loop over rows has 128 rounds. -/
theorem trips2 : k0_t2_loop.trips = 128 := by decide
/-- The third loop over rows has 128 rounds. -/
theorem trips3 : k0_t3_loop.trips = 128 := by decide

/-- The semaphore of the next point's slot. -/
theorem off9 (i : grid0.Coords) : k0_off9 i = ![(par ((pt i).val + 1)).val] := by
  have h := pm_eq1 ⟨(pt i).val, by have := (pt i).isLt; omega⟩
  funext a; fin_cases a; exact h
/-- The semaphore the next point's indices are waited for on. -/
theorem off5 (i : grid0.Coords) : k0_off5 i = ![(par ((pt i).val + 1)).val] := off9 i
/-- The index buffer's row of the next point's slot. -/
theorem off6 (i : grid0.Coords) : k0_off6 i = ![(par ((pt i).val + 1)).val, 0] := by
  have h := pm_eq1 ⟨(pt i).val, by have := (pt i).isLt; omega⟩
  funext a; fin_cases a
  · exact h
  · rfl
/-- The word of the row that a round of the second loop starts. -/
theorem off8 (i : grid0.Coords) (k : Fin k0_t2_loop.trips) (t : Fin 128) (hk : k.val = t.val) : k0_off8 i k = ![(par ((pt i).val + 1)).val, t.val] := by
  have h := pm_eq1 ⟨(pt i).val, by have := (pt i).isLt; omega⟩
  have h2 := congrFun (k0_off2_eq k) 1
  funext a; fin_cases a
  · exact h
  · exact h2.trans hk
/-- The buffer's row that a round of the second loop fills. -/
theorem off10 (i : grid0.Coords) (k : Fin k0_t2_loop.trips) (t : Fin 128) (hk : k.val = t.val) : k0_off10 i k = ![(par ((pt i).val + 1)).val, t.val, 0] := by
  have h := pm_eq1 ⟨(pt i).val, by have := (pt i).isLt; omega⟩
  have h2 := congrFun (k0_off3_eq k) 1
  funext a; fin_cases a
  · exact h
  · exact h2.trans hk
  · rfl
/-- The word of the row that a round of the third loop waits for. -/
theorem off12 (i : grid0.Coords) (k : Fin k0_t3_loop.trips) (t : Fin 128) (hk : k.val = t.val) : k0_off12 i k = ![(par (pt i).val).val, t.val] := by
  have h := pm_eq ⟨(pt i).val, by have := (pt i).isLt; omega⟩
  have h2 := congrFun (k0_off2_eq k) 1
  funext a; fin_cases a
  · exact h
  · exact h2.trans hk
/-- The semaphore of the current slot. -/
theorem off13 (i : grid0.Coords) : k0_off13 i = ![(par (pt i).val).val] := by
  have h := pm_eq ⟨(pt i).val, by have := (pt i).isLt; omega⟩
  funext a; fin_cases a; exact h
/-- The buffer's row that a round of the third loop waits for. -/
theorem off14 (i : grid0.Coords) (k : Fin k0_t3_loop.trips) (t : Fin 128) (hk : k.val = t.val) : k0_off14 i k = ![(par (pt i).val).val, t.val, 0] := by
  have h := pm_eq ⟨(pt i).val, by have := (pt i).isLt; omega⟩
  have h2 := congrFun (k0_off3_eq k) 1
  funext a; fin_cases a
  · exact h
  · exact h2.trans hk
  · rfl
/-- The semaphore the indices two points on are copied under. -/
theorem off16 (i : grid0.Coords) : k0_off16 i = ![(par (pt i).val).val] := off13 i
/-- The index buffer's row of the current slot. -/
theorem off17 (i : grid0.Coords) : k0_off17 i = ![(par (pt i).val).val, 0] := by
  have h := pm_eq ⟨(pt i).val, by have := (pt i).isLt; omega⟩
  funext a; fin_cases a
  · exact h
  · rfl
/-- The token buffer's current slot. -/
theorem off19 (i : grid0.Coords) : k0_off19 i = ![(par (pt i).val).val, 0, 0] := by
  have h := pm_eq ⟨(pt i).val, by have := (pt i).isLt; omega⟩
  funext a; fin_cases a
  · exact h
  · rfl
  · rfl

/-- The first branch is taken at the first point only. -/
theorem cond1_iff (i : grid0.Coords) : k0_cond1 i = 1#1 ↔ (pt i).val = 0 := by
  have H : ∀ n : Fin 1279, k0_cond1 (fun a => match a with | ⟨0, _⟩ => n) = 1#1 ↔ n.val = 0 := by decide +kernel
  exact H (pt i)
/-- The second branch is taken at every point but the last. -/
theorem cond2_iff (i : grid0.Coords) : k0_cond2 i = 1#1 ↔ (pt i).val + 1 < 1279 := by
  have H : ∀ n : Fin 1279, k0_cond2 (fun a => match a with | ⟨0, _⟩ => n) = 1#1 ↔ n.val + 1 < 1279 := by decide +kernel
  exact H (pt i)
/-- The third branch is taken at every point but the last two. -/
theorem cond3_iff (i : grid0.Coords) : k0_cond3 i = 1#1 ↔ (pt i).val + 2 < 1279 := by
  have H : ∀ n : Fin 1279, k0_cond3 (fun a => match a with | ⟨0, _⟩ => n) = 1#1 ↔ n.val + 2 < 1279 := by decide +kernel
  exact H (pt i)

end Cert.Experts.Hand

end
-- ==== Proof.ExpStep.lean ====
module

public import proofs.«01_k».proof.Proof.ExpDefs

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a row transfer's semaphore is credited. -/
def NB : ℕ := (bufRow 0 0).view.dmaCredit
/-- A copy of a row counts for something. -/
theorem NB_pos : 0 < NB := View.dmaCredit_pos _ (by decide)

section Issue

variable (T : S1279x128.Idx → Elt F .i32) (X : S16384x1024.Idx → Elt F .f32)
variable (c : Dev nD) {𝒱 : Variants} (bd : Option 𝒱.V)

/-- Row `t` of slot `p` owned, at contents `g`. -/
abbrev rowAt (p : Fin 2) (t : Fin 128) (g : S2x128x1024.Idx → Elt F .f32) : sProp (MT nD τ sig Unit (Elt F) ℕ (Pipeline.UD sig nD τ) ℕ) :=
  ((c : Thread nD τ).loc cc0_scratch1) ↦[rowSet p t]{fullShare} g
/-- Elements of the tokens' array held at a share. -/
abbrev xAt (S : Finset S16384x1024.Idx) (q : PosShare TreeShare) : sProp (MT nD τ sig Unit (Elt F) ℕ (Pipeline.UD sig nD τ) ℕ) :=
  ((c : Thread nD τ).loc main_arg0) ↦[S]{q} X
/-- Slot `p` of the index buffer holding block `b`'s words. -/
abbrev idxAt (p : Fin 2) (b : Fin 1279) : sProp (MT nD τ sig Unit (Elt F) ℕ (Pipeline.UD sig nD τ) ℕ) :=
  ((c : Thread nD τ).loc cc0_scratch0) ↦[idxSet p]{fullShare} (J T b)

/-- What the transfer of row `t` of block `b` into slot `p` delivers. -/
def D (hs : PosShare TreeShare) (p : Fin 2) (b : Fin 1279) (t : Fin 128) : sProp (MT nD τ sig Unit (Elt F) ℕ (Pipeline.UD sig nD τ) ℕ) :=
  iprop(rowAt c p t (G T X b) ∗ xAt X c (xSet (tokN T b t)) (Transfers.shareTokN hs t.val))

/-- The batch of block `b`'s row transfers into slot `p`. -/
abbrev batch (hs : PosShare TreeShare) (p : Fin 2) (b : Fin 1279) (k u : ℕ) : sProp (MT nD τ sig Unit (Elt F) ℕ (Pipeline.UD sig nD τ) ℕ) :=
  Transfers.Batch EC (c : Thread nD τ) (.dma (semB p)) () NB (D T X c hs p b) k u

/-- One trip of a row-issuing loop. -/
def issueBody (o8 : Fin 2 → ℕ) (h8 : ∀ a, o8 a + S1x1.size a ≤ S2x128.size a) (chk : BitVec 32 → Prop) (dec : ∀ v, Decidable (chk v))
    (o9 : Fin 1 → ℕ) (h9 : ∀ a, o9 a + S1.size a ≤ S2.size a) (o10 : Fin 3 → ℕ) (h10 : ∀ a, o10 a + S1x1x1024.size a ≤ S2x128x1024.size a)
    (o11 : BitVec 32 → Fin 2 → ℕ) (h11 : ∀ v, chk v → ∀ a, o11 v a + S1x1024.size a ≤ S16384x1024.size a) :
    Prog (TpuEff nD τ sig (Elt F) Λ₀ .tc) Unit :=
  smemLoadElt (Memref.whole cc0_scratch0) (Rect.unit (s := S2x128) o8 S1x1.size h8) (View.loads_smem_one rfl numel1_S1x1) (Shape.Idx.first (numel1_S1x1.symm ▸ Nat.one_pos)) fun v =>
  .op (TpuEff.assume (chk v) (dec v)) fun hw =>
  .op (.enqueueDma ((Memref.whole main_arg0).slice (Rect.unit (s := S16384x1024) (o11 v) S1x1024.size (h11 v hw.down)) (fun _ => rfl) : Memref sig .tc .hbm S1x1024 .f32)
    (.here (((Memref.whole cc0_scratch1).slice (Rect.unit (s := S2x128x1024) o10 S1x1x1024.size h10) (fun _ => rfl)).squeeze S1x1024 squeezes_S1x1x1024_S1x1024 : Memref sig .tc .vmem S1x1024 .f32))
    (.dma ((cc0_scratch3.slice (Rect.unit (s := S2) o9 S1.size h9)).squeeze S_ squeezes_S1_S_).sem) (View.wordExact_bits rfl) ((View.wordExact_bits rfl).reshape _ _) ⟨Or.inl rfl, trivial⟩) fun _ =>
  .ret ()

/-- The second loop's round as its steps. -/
theorem t2_eq (i : grid0.Coords) (arg1 harg1 arg2 harg2 arg3 harg3 harg4 arg5 harg5 arg6 harg6 arg7 harg7 arg8 harg8 harg9 harg10) (h2) (k : Fin k0_t2_loop.trips) :
    k0_t2_body (F := F) i arg1 harg1 arg2 harg2 arg3 harg3 (Memref.whole main_arg0) harg4 arg5 harg5 arg6 harg6 arg7 harg7 arg8 harg8 (Memref.whole cc0_scratch0) harg9 (Memref.whole cc0_scratch1) harg10 cc0_scratch2 cc0_scratch3 h2 k ()
      = issueBody (k0_off8 i k) (k0_off8_inb i k h2) (k0_chk2 i) (k0_chk2.dec i) (k0_off9 i) (k0_off9_inb i h2) (k0_off10 i k) (k0_off10_inb i k h2) k0_off11 (fun v hw => k0_off11_inb i v hw h2) := rfl
/-- The first loop's round as its steps. -/
theorem t1_eq (i : grid0.Coords) (arg1 harg1 arg2 harg2 arg3 harg3 harg4 arg5 harg5 arg6 harg6 arg7 harg7 arg8 harg8 harg9 harg10) (h1) (k : Fin k0_t1_loop.trips) :
    k0_t1_body (F := F) i arg1 harg1 arg2 harg2 arg3 harg3 (Memref.whole main_arg0) harg4 arg5 harg5 arg6 harg6 arg7 harg7 arg8 harg8 (Memref.whole cc0_scratch0) harg9 (Memref.whole cc0_scratch1) harg10 cc0_scratch2 cc0_scratch3 h1 k ()
      = issueBody (k0_off2 k) (k0_off2_inb i k h1) (k0_chk1 i) (k0_chk1.dec i) ![0] inb_S2_S1_0 (k0_off3 k) (k0_off3_inb i k h1) k0_off4 (fun v hw => k0_off4_inb i v hw h1) := rfl

/-- The word read at row `t` of slot `p` of the index buffer. -/
theorem word_read (p : Fin 2) (t : Fin 128) (b : Fin 1279) (h8 : ∀ a, (![p.val, t.val] : Fin 2 → ℕ) a + S1x1.size a ≤ S2x128.size a) (x : S1x1.Idx) :
    ((Memref.whole cc0_scratch0).access (Rect.unit (s := S2x128) ![p.val, t.val] S1x1.size h8)).read (Elt F) (J T b) x = tok T b t := by
  show T (ix2 b ((Rect.unit (s := S2x128) ![p.val, t.val] S1x1.size h8).emb x 1)) = T (ix2 b t)
  congr 2
  apply Fin.ext
  have : (x 1).val < 1 := (x 1).isLt
  show t.val + 1 * (x 1).val = t.val; omega

/-- A word's read stays inside its slot's words. -/
theorem word_sub (p : Fin 2) (t : Fin 128) (h8 : ∀ a, (![p.val, t.val] : Fin 2 → ℕ) a + S1x1.size a ≤ S2x128.size a) :
    ((Memref.whole cc0_scratch0).access (Rect.unit (s := S2x128) ![p.val, t.val] S1x1.size h8)).set ⊆ idxSet p := by
  intro y hy
  rw [View.set_slice_whole, Rect.mem_set_unit] at hy
  have h0 : p.val ≤ (y 0).val ∧ (y 0).val < p.val + 1 := hy 0
  exact (mem_idxSet _ _).mpr (by omega)

/-- Every row's copy counts the same. -/
theorem amount_row (p : Fin 2) (t : Fin 128) : (bufRow p t).view.amount (.dma (semB p)) = NB := by rfl

/-- What the transfer writes is the block's row. -/
theorem deliver (hs : PosShare TreeShare) (p : Fin 2) (b : Fin 1279) (t : Fin 128) (fd : S2x128x1024.Idx → Elt F .f32) :
    iprop(((bufRow p t).view.loc (c : Thread nD τ) ↦[(bufRow p t).view.set]{fullShare} (bufRow p t).view.write (Elt F) fd ((xRow (tokN T b t)).view.read (Elt F) X) Finset.univ)
      ∗ ((xRow (tokN T b t)).view.loc (c : Thread nD τ) ↦[(xRow (tokN T b t)).view.set]{Transfers.shareTokN hs t.val} X)) ⊢ (D T X c hs p b t : sProp (MT nD τ sig Unit (Elt F) ℕ (Pipeline.UD sig nD τ) ℕ)) := by
  unfold D
  rw [pointsTo_congr (g := G T X b), bufRow_set, xRow_set]
  · exact .rfl
  · intro y hy
    obtain ⟨j, -, rfl⟩ := Finset.mem_map.mp hy
    refine (View.write_emb_of_mem (v := (bufRow p t).view) _ _ (Finset.mem_univ _)).trans ?_
    rw [bufRow_emb]
    show (xRow (tokN T b t)).view.read (Elt F) X j = X (ix2 (tokN T b t) (j 1))
    show X ((xRow (tokN T b t)).view.emb j) = _
    rw [xRow_emb]; rfl

/-- The row transfer at the head of a program. -/
theorem enq_row (hs : PosShare TreeShare) (p : Fin 2) (b : Fin 1279) (t : Fin 128) {src : Memref sig .tc .hbm S1x1024 .f32} {dst : Memref sig .tc .vmem S1x1024 .f32} {sm : SemLoc sig}
    (es : src = xRow (tokN T b t)) (ed : dst = bufRow p t) (em : sm = .dma (semB p)) (hsrc hdst hsem) (g : S2x128x1024.Idx → Elt F .f32) (k : PUnit → Prog (TpuEff nD τ sig (Elt F) Λ₀ .tc) Unit) (Q : Unit → sProp (MT nD τ sig Unit (Elt F) ℕ (Pipeline.UD sig nD τ) ℕ)) :
    iprop(xAt X c (xSet (tokN T b t)) (Transfers.shareTokN hs t.val) ∗ rowAt c p t g ∗ batch T X c hs p b t.val 0)
      ⊢ iprop((batch T X c hs p b (t.val + 1) 0 -∗ wp frame (wpE defs₀ 𝒱 (c : Thread nD τ) bd) Set.univ (k ⟨⟩) Q)
        -∗ wp frame (wpE defs₀ 𝒱 (c : Thread nD τ) bd) Set.univ (.op (.enqueueDmaAs src (.here dst) .same sm hsrc hdst hsem) k) Q) := by
  subst es ed em
  have H := Transfers.wp_dmaBatch EC (defs := defs₀ (F := F)) 𝒱 (c : Thread nD τ) bd (src := xRow (tokN T b t)) (dst := bufRow p t) (via := ReadAs.same) (sm := .dma (semB p)) (hsrc := hsrc) (hdst := hdst) (hsem := hsem) (k := k) (Q := Q) (D := D T X c hs p b) (q := Transfers.shareTokN hs t.val) (fs := X) (fd := g) (Sd := (bufRow p t).view.set) () NB
    (amount_row p t) (Finset.Subset.refl _) t.isLt (Nat.zero_le _) (deliver T X c hs p b t g)
  rw [bufRow_set, xRow_set] at H
  exact H

set_option maxHeartbeats 1000000 in
/-- One trip of the issuing loop: row `t` of block `b` set off into slot `p`. -/
theorem issue_wp (hs : PosShare TreeShare) (p : Fin 2) (b : Fin 1279) (t : Fin 128)
    {o8 : Fin 2 → ℕ} {h8} {chk : BitVec 32 → Prop} {dec : ∀ v, Decidable (chk v)} {o9 : Fin 1 → ℕ} {h9} {o10 : Fin 3 → ℕ} {h10}
    {o11 : BitVec 32 → Fin 2 → ℕ} {h11}
    (e8 : o8 = ![p.val, t.val]) (e9 : o9 = ![p.val]) (e10 : o10 = ![p.val, t.val, 0]) (e11 : ∀ v, o11 v = ![v.toNat, 0])
    (hchk : chk (tok T b t)) (hr : (tok T b t).toNat < 16384) (Q : Unit → sProp (MT nD τ sig Unit (Elt F) ℕ (Pipeline.UD sig nD τ) ℕ)) :
    iprop(idxAt T c p b ∗ (∃ g, rowAt c p t g) ∗ xAt X c (xSet (tokN T b t)) (Transfers.shareTokN hs t.val) ∗ batch T X c hs p b t.val 0)
      ⊢ iprop((idxAt T c p b ∗ batch T X c hs p b (t.val + 1) 0 -∗ Q ())
        -∗ wp frame (wpE defs₀ 𝒱 (c : Thread nD τ) bd) Set.univ (issueBody (F := F) o8 h8 chk dec o9 h9 o10 h10 o11 h11) Q) := by
  obtain rfl : o11 = fun v => ![v.toNat, 0] := funext e11
  subst e8 e9 e10
  iintro ⟨HI, ⟨%g, HR⟩, HX, HB⟩ HQ
  unfold issueBody
  iapply (wp_smemLoadElt 𝒱 (c : Thread nD τ) bd Set.univ (m := Memref.whole cc0_scratch0) (r := Rect.unit (s := S2x128) ![p.val, t.val] S1x1.size h8) (S := idxSet p) (word_sub p t h8)) $$ HI
  iintro HI
  rw [word_read]
  iapply (wp_assume 𝒱 (c : Thread nD τ) bd Set.univ hchk)
  have ev : (Memref.whole main_arg0).slice (Rect.unit (s := S16384x1024) ![(tok T b t).toNat, 0] S1x1024.size (h11 _ hchk)) (fun _ => rfl) = xRow (tokN T b t) := by
    unfold xRow; congr 2; unfold tokN; rw [dif_pos hr]
  iapply (enq_row T X c bd hs p b t ev (by unfold bufRow; rfl) (by unfold semB; rfl) _ _ _ g _ Q) $$ [HX HR HB]
  · isplitl [HX]; · iexact HX
    isplitl [HR]; · iexact HR
    iexact HB
  · iintro HB
    sl_step
    iapply HQ
    isplitl [HI]; · iexact HI
    iexact HB

/-- What a row's copy delivers can be kept with its semaphore. -/
theorem D_storable (hs : PosShare TreeShare) (p : Fin 2) (b : Fin 1279) (t : Fin 128) : BI.Storable (upEmb : UEmb _ (MT nD τ sig Unit (Elt F) ℕ (Pipeline.UD sig nD τ) ℕ)) (D T X c hs p b t) := by
  unfold D; infer_instance

/-- The part of the tokens' share no transfer of block `b` borrows. -/
def xRest (hs : PosShare TreeShare) (b : Fin 1279) : sProp (MT nD τ sig Unit (Elt F) ℕ (Pipeline.UD sig nD τ) ℕ) :=
  iprop(bigSep Finset.univ (fun t : Fin 128 => xAt X c (Finset.univ \ xSet (tokN T b t)) (Transfers.shareTokN hs t.val)) ∗ xAt X c Finset.univ (Transfers.shareDrop hs 128))

/-- Slot `p` free: its rows, the share of the tokens its transfers borrow, and its semaphore at zero. -/
def SlotFree (hs : PosShare TreeShare) (p : Fin 2) : sProp (MT nD τ sig Unit (Elt F) ℕ (Pipeline.UD sig nD τ) ℕ) :=
  iprop((∃ g : S2x128x1024.Idx → Elt F .f32, ((c : Thread nD τ).loc cc0_scratch1) ↦[slotSet p]{fullShare} g) ∗ xAt X c Finset.univ hs ∗ semVal ((c : Thread nD τ), SemLoc.dma (semB p)) 0)

/-- Slot `p` with block `b`'s row transfers in flight. -/
def SlotFly (hs : PosShare TreeShare) (p : Fin 2) (b : Fin 1279) : sProp (MT nD τ sig Unit (Elt F) ℕ (Pipeline.UD sig nD τ) ℕ) :=
  iprop(batch T X c hs p b 128 0 ∗ xRest T X c hs b)

/-- Slot `p` holding block `b`'s rows. -/
def SlotHas (hs : PosShare TreeShare) (p : Fin 2) (b : Fin 1279) : sProp (MT nD τ sig Unit (Elt F) ℕ (Pipeline.UD sig nD τ) ℕ) :=
  iprop((((c : Thread nD τ).loc cc0_scratch1) ↦[slotSet p]{fullShare} G T X b) ∗ xAt X c Finset.univ hs ∗ semVal ((c : Thread nD τ), SemLoc.dma (semB p)) 0)

/-- A slot holding its rows can be freed. -/
theorem has_free (hs : PosShare TreeShare) (p : Fin 2) (b : Fin 1279) : (SlotHas T X c hs p b : sProp (MT nD τ sig Unit (Elt F) ℕ (Pipeline.UD sig nD τ) ℕ)) ⊢ SlotFree X c hs p := by
  unfold SlotHas SlotFree
  iintro ⟨H, HX, HS⟩
  isplitl [H]; · iexists _; iexact H
  isplitl [HX]; · iexact HX
  iexact HS

/-- The tokens' share as the shares the transfers of block `b` borrow and the rest. -/
theorem x_split (hs : PosShare TreeShare) (b : Fin 1279) :
    (xAt X c Finset.univ hs : sProp (MT nD τ sig Unit (Elt F) ℕ (Pipeline.UD sig nD τ) ℕ)) = iprop(bigSep Finset.univ (fun t : Fin 128 => xAt X c (xSet (tokN T b t)) (Transfers.shareTokN hs t.val)) ∗ xRest T X c hs b) := by
  have e1 := Transfers.pointsTo_toks_range (Ix := Unit) (Name := ℕ) (U := Pipeline.UD sig nD τ) (Lvl := ℕ) (ℓ := (c : Thread nD τ).loc main_arg0) (S := Finset.univ) (f := X) hs 128
  have e2 : (bigSep (Finset.range 128) (fun i => xAt X c Finset.univ (Transfers.shareTokN hs i)) : sProp (MT nD τ sig Unit (Elt F) ℕ (Pipeline.UD sig nD τ) ℕ))
      = iprop(bigSep Finset.univ (fun t : Fin 128 => xAt X c (xSet (tokN T b t)) (Transfers.shareTokN hs t.val)) ∗ bigSep Finset.univ (fun t : Fin 128 => xAt X c (Finset.univ \ xSet (tokN T b t)) (Transfers.shareTokN hs t.val))) := by
    rw [← Ring.bigSep_fin_eq_range 128 (fun t : Fin 128 => (xAt X c Finset.univ (Transfers.shareTokN hs t.val) : sProp (MT nD τ sig Unit (Elt F) ℕ (Pipeline.UD sig nD τ) ℕ))) _ (fun t h => rfl)]
    refine Eq.trans ?_ (BI.bigSep_sep _ _ _)
    congr 1; funext t
    exact Entails.antisymm (pointsTo_split_subset (Finset.subset_univ _)).1 (pointsTo_split_subset (Finset.subset_univ _)).2
  have r3 : ∀ A B C : sProp (MT nD τ sig Unit (Elt F) ℕ (Pipeline.UD sig nD τ) ℕ), (iprop(A ∗ B ∗ C) : sProp (MT nD τ sig Unit (Elt F) ℕ (Pipeline.UD sig nD τ) ℕ)) = iprop(B ∗ C ∗ A) := fun A B C => by
    have h1 : (iprop(A ∗ B ∗ C) : sProp (MT nD τ sig Unit (Elt F) ℕ (Pipeline.UD sig nD τ) ℕ)) ⊢ iprop(B ∗ C ∗ A) := by
      iintro ⟨Ha, Hb, Hc⟩; isplitl [Hb]; · iexact Hb
      isplitl [Hc]; · iexact Hc
      iexact Ha
    have h2 : (iprop(B ∗ C ∗ A) : sProp (MT nD τ sig Unit (Elt F) ℕ (Pipeline.UD sig nD τ) ℕ)) ⊢ iprop(A ∗ B ∗ C) := by
      iintro ⟨Hb, Hc, Ha⟩; isplitl [Ha]; · iexact Ha
      isplitl [Hb]; · iexact Hb
      iexact Hc
    exact Entails.antisymm h1 h2
  exact (Entails.antisymm e1.1 e1.2).trans ((congrArg (fun z => iprop(xAt X c Finset.univ (Transfers.shareDrop hs 128) ∗ z)) e2).trans (r3 _ _ _))

/-- A family, member by member. -/
theorem mono_fam {I : Type} (s : Finset I) (Φ Ψ : I → sProp (MT nD τ sig Unit (Elt F) ℕ (Pipeline.UD sig nD τ) ℕ)) (h : ∀ i, Φ i ⊢ Ψ i) : (bigSep s Φ : sProp (MT nD τ sig Unit (Elt F) ℕ (Pipeline.UD sig nD τ) ℕ)) ⊢ bigSep s Ψ :=
  BI.bigSep_mono (fun i _ => h i)

/-- A family of pairs as a pair of families. -/
theorem sep_fam {I : Type} (s : Finset I) (Φ Ψ : I → sProp (MT nD τ sig Unit (Elt F) ℕ (Pipeline.UD sig nD τ) ℕ)) : (bigSep s (fun i => iprop(Φ i ∗ Ψ i)) : sProp (MT nD τ sig Unit (Elt F) ℕ (Pipeline.UD sig nD τ) ℕ)) = iprop(bigSep s Φ ∗ bigSep s Ψ) :=
  BI.bigSep_sep s Φ Ψ

/-- Slot `p` row by row. -/
theorem slot_rows (p : Fin 2) (g : S2x128x1024.Idx → Elt F .f32) :
    (((c : Thread nD τ).loc cc0_scratch1) ↦[slotSet p]{fullShare} g : sProp (MT nD τ sig Unit (Elt F) ℕ (Pipeline.UD sig nD τ) ℕ)) = bigSep Finset.univ (fun t : Fin 128 => rowAt c p t g) := by
  rw [← rowSet_cover]
  exact pointsTo_biUnion _ _ (fun t _ t' _ h => rowSet_disjoint p t t' h)

/-- Before trip `k` of the issuing loop. -/
def issueInv (hs : PosShare TreeShare) (p : Fin 2) (b : Fin 1279) (k : ℕ) (_ : Unit) : sProp (MT nD τ sig Unit (Elt F) ℕ (Pipeline.UD sig nD τ) ℕ) :=
  iprop(idxAt T c p b ∗ batch T X c hs p b k 0
    ∗ bigSep (Transfers.pending (n := 128) k) (fun t => iprop((∃ g, rowAt c p t g) ∗ xAt X c (xSet (tokN T b t)) (Transfers.shareTokN hs t.val))))

/-- The whole issuing loop. -/
theorem issue_loop (hs : PosShare TreeShare) (p : Fin 2) (b : Fin 1279) (L : Scf.Loop 32) (ok : L.OK) (hL : L.trips = 128)
    (body : Fin L.trips → Unit → Prog (TpuEff nD τ sig (Elt F) Λ₀ .tc) Unit)
    (hbody : ∀ (k : Fin L.trips) (t : Fin 128), k.val = t.val → ∀ Q : Unit → sProp (MT nD τ sig Unit (Elt F) ℕ (Pipeline.UD sig nD τ) ℕ),
      iprop(idxAt T c p b ∗ (∃ g, rowAt c p t g) ∗ xAt X c (xSet (tokN T b t)) (Transfers.shareTokN hs t.val) ∗ batch T X c hs p b t.val 0)
      ⊢ iprop((idxAt T c p b ∗ batch T X c hs p b (t.val + 1) 0 -∗ Q ())
        -∗ wp frame (wpE defs₀ 𝒱 (c : Thread nD τ) bd) Set.univ (body k ()) Q))
    {β : Type} (kk : Unit → Prog (TpuEff nD τ sig (Elt F) Λ₀ .tc) β) (Q : β → sProp (MT nD τ sig Unit (Elt F) ℕ (Pipeline.UD sig nD τ) ℕ)) :
    iprop(idxAt T c p b ∗ SlotFree X c hs p)
      ⊢ iprop((idxAt T c p b ∗ SlotFly T X c hs p b -∗ wp frame (wpE defs₀ 𝒱 (c : Thread nD τ) bd) Set.univ (kk ()) Q)
        -∗ wp frame (wpE defs₀ 𝒱 (c : Thread nD τ) bd) Set.univ (Scf.Loop.for L ok () body >>= kk) Q) := by
  unfold SlotFree
  iintro ⟨HI, ⟨%g, Hg⟩, HX, HS⟩ HK
  haveI := D_storable T X c hs p b
  imod (Transfers.batch_alloc' (Lvl := ℕ) EC (c : Thread nD τ) () NB (D T X c hs p b) (sm := .dma (semB p)) (E := Set.univ)) $$ HS with HB
  ihave Hg := (Entails.of_eq (slot_rows c p g)) $$ Hg
  ihave HX := (Entails.of_eq (x_split T X c hs b)) $$ HX
  icases HX with ⟨Hx, Hr⟩
  iapply (Scf.wp_for_bind frame (wpE defs₀ 𝒱 (c : Thread nD τ) bd) Set.univ L.lb L.ub L.st ok () body (issueInv T X c hs p b) ?_) $$ [HI HB Hg Hx]
  · intro k acc
    have hk : k.val < 128 := hL ▸ k.isLt
    unfold issueInv
    rw [Transfers.bigSep_pending_step _ k.val hk]
    iintro ⟨HI, HB, ⟨Hg, Hx⟩, Hp⟩
    iapply (hbody k ⟨k.val, hk⟩ rfl _) $$ [HI HB Hg Hx]
    · isplitl [HI]; · iexact HI
      isplitl [Hg]; · iexact Hg
      isplitl [Hx]; · iexact Hx
      iexact HB
    · iintro ⟨HI, HB⟩
      isplitl [HI]; · iexact HI
      isplitl [HB]; · iexact HB
      iexact Hp
  · unfold issueInv
    rw [Transfers.pending_zero]
    isplitl [HI]; · iexact HI
    isplitl [HB]; · iexact HB
    iapply (Entails.of_eq (sep_fam Finset.univ (fun t : Fin 128 => (iprop(∃ g, rowAt c p t g) : sProp (MT nD τ sig Unit (Elt F) ℕ (Pipeline.UD sig nD τ) ℕ))) (fun t : Fin 128 => xAt X c (xSet (tokN T b t)) (Transfers.shareTokN hs t.val))).symm)
    isplitl [Hg]
    · iapply (mono_fam Finset.univ (fun t : Fin 128 => (rowAt c p t g : sProp (MT nD τ sig Unit (Elt F) ℕ (Pipeline.UD sig nD τ) ℕ))) (fun t => iprop(∃ g, rowAt c p t g)) (fun t => by iintro H; iexists g; iexact H)) $$ Hg
    iexact Hx
  · iintro %acc
    unfold issueInv
    rw [show Scf.trips L.lb L.ub L.st = 128 from hL]
    iintro ⟨HI, HB, -⟩
    iapply HK
    isplitl [HI]; · iexact HI
    unfold SlotFly
    isplitl [HB]; · iexact HB
    iexact Hr

/-- One trip of the draining loop. -/
def drainBody (o12 : Fin 2 → ℕ) (h12 : ∀ a, o12 a + S1x1.size a ≤ S2x128.size a) (chk : BitVec 32 → Prop) (dec : ∀ v, Decidable (chk v))
    (o13 : Fin 1 → ℕ) (h13 : ∀ a, o13 a + S1.size a ≤ S2.size a) (o14 : Fin 3 → ℕ) (h14 : ∀ a, o14 a + S1x1x1024.size a ≤ S2x128x1024.size a)
    (o15 : BitVec 32 → Fin 2 → ℕ) (h15 : ∀ v, chk v → ∀ a, o15 v a + S1x1024.size a ≤ S16384x1024.size a) :
    Prog (TpuEff nD τ sig (Elt F) Λ₀ .tc) Unit :=
  smemLoadElt (Memref.whole cc0_scratch0) (Rect.unit (s := S2x128) o12 S1x1.size h12) (View.loads_smem_one rfl numel1_S1x1) (Shape.Idx.first (numel1_S1x1.symm ▸ Nat.one_pos)) fun v =>
  .op (TpuEff.assume (chk v) (dec v)) fun hw =>
  .op (.waitDma2 ((cc0_scratch3.slice (Rect.unit (s := S2) o13 S1.size h13)).squeeze S_ squeezes_S1_S_).sem
    ((Memref.whole main_arg0).slice (Rect.unit (s := S16384x1024) (o15 v) S1x1024.size (h15 v hw.down)) (fun _ => rfl) : Memref sig .tc .hbm S1x1024 .f32)
    (((Memref.whole cc0_scratch1).slice (Rect.unit (s := S2x128x1024) o14 S1x1x1024.size h14) (fun _ => rfl)).squeeze S1x1024 squeezes_S1x1x1024_S1x1024 : Memref sig .tc .vmem S1x1024 .f32)
    (View.wordExact_bits rfl) ((View.wordExact_bits rfl).reshape _ _)) fun _ =>
  .ret ()

/-- The third loop's round as its steps. -/
theorem t3_eq (i : grid0.Coords) (arg1 harg1 arg2 harg2 arg3 harg3 harg4 arg5 harg5 arg6 harg6 arg7 harg7 arg8 harg8 harg9 harg10) (k : Fin k0_t3_loop.trips) :
    k0_t3_body (F := F) i arg1 harg1 arg2 harg2 arg3 harg3 (Memref.whole main_arg0) harg4 arg5 harg5 arg6 harg6 arg7 harg7 arg8 harg8 (Memref.whole cc0_scratch0) harg9 (Memref.whole cc0_scratch1) harg10 cc0_scratch2 cc0_scratch3 k ()
      = drainBody (k0_off12 i k) (k0_off12_inb i k) k0_chk3 k0_chk3.dec (k0_off13 i) (k0_off13_inb i) (k0_off14 i k) (k0_off14_inb i k) k0_off15 (fun v hw => k0_off15_inb v hw) := rfl

/-- What the core still owes: nothing, some waits recorded. -/
abbrev ow : sProp (MT nD τ sig Unit (Elt F) ℕ (Pipeline.UD sig nD τ) ℕ) := iprop(∃ W, owes (c : Thread nD τ) 0 W)

/-- The wait for a row transfer at the head of a program. -/
theorem wait_row (hs : PosShare TreeShare) (p : Fin 2) (b : Fin 1279) (t : Fin 128) {src : Memref sig .tc .hbm S1x1024 .f32} {dst : Memref sig .tc .vmem S1x1024 .f32} {sm : DmaSem sig}
    (ed : dst = bufRow p t) (em : sm = semB p) (hsrc hdst) (k : PUnit → Prog (TpuEff nD τ sig (Elt F) Λ₀ .tc) Unit) (Q : Unit → sProp (MT nD τ sig Unit (Elt F) ℕ (Pipeline.UD sig nD τ) ℕ)) :
    iprop(batch T X c hs p b 128 (t.val * NB) ∗ ow c)
      ⊢ iprop((batch T X c hs p b 128 ((t.val + 1) * NB) ∗ ow c -∗ wp frame (wpE defs₀ 𝒱 (c : Thread nD τ) bd) Set.univ (k ⟨⟩) Q)
        -∗ wp frame (wpE defs₀ 𝒱 (c : Thread nD τ) bd) Set.univ (.op (.waitDma2 sm src dst hsrc hdst) k) Q) := by
  subst ed em
  iintro ⟨HB, ⟨%W, HO⟩⟩ HK
  iapply (Transfers.wp_waitBatchMul EC (defs := defs₀ (F := F)) 𝒱 (c : Thread nD τ) bd (srcw := src) (dstw := bufRow p t) (D := D T X c hs p b) (j := 128) (u := t.val * NB) () (N := NB) 1
    (show (bufRow p t).view.dmaCredit = 1 * NB from (Nat.one_mul NB).symm) (by rw [Nat.mul_comm NB, Nat.one_mul, ← Nat.succ_mul]; exact Nat.mul_le_mul_right _ t.isLt)) $$ [HB HO]
  · isplitl [HB]; · iexact HB
    iexact HO
  · iintro ⟨HB, HO⟩
    iapply HK
    isplitl [HB]
    · rw [show (t.val + 1) * NB = t.val * NB + 1 * NB by rw [Nat.succ_mul, Nat.one_mul]]
      iexact HB
    iexists _; iexact HO

/-- One trip of the draining loop. -/
theorem drain_wp (hs : PosShare TreeShare) (p : Fin 2) (b : Fin 1279) (t : Fin 128)
    {o12 : Fin 2 → ℕ} {h12} {chk : BitVec 32 → Prop} {dec : ∀ v, Decidable (chk v)} {o13 : Fin 1 → ℕ} {h13} {o14 : Fin 3 → ℕ} {h14}
    {o15 : BitVec 32 → Fin 2 → ℕ} {h15}
    (e12 : o12 = ![p.val, t.val]) (e13 : o13 = ![p.val]) (e14 : o14 = ![p.val, t.val, 0])
    (hchk : chk (tok T b t)) (Q : Unit → sProp (MT nD τ sig Unit (Elt F) ℕ (Pipeline.UD sig nD τ) ℕ)) :
    iprop(idxAt T c p b ∗ batch T X c hs p b 128 (t.val * NB) ∗ ow c)
      ⊢ iprop((idxAt T c p b ∗ batch T X c hs p b 128 ((t.val + 1) * NB) ∗ ow c -∗ Q ())
        -∗ wp frame (wpE defs₀ 𝒱 (c : Thread nD τ) bd) Set.univ (drainBody (F := F) o12 h12 chk dec o13 h13 o14 h14 o15 h15) Q) := by
  subst e12 e13 e14
  iintro ⟨HI, HB, HO⟩ HQ
  unfold drainBody
  iapply (wp_smemLoadElt 𝒱 (c : Thread nD τ) bd Set.univ (m := Memref.whole cc0_scratch0) (r := Rect.unit (s := S2x128) ![p.val, t.val] S1x1.size h12) (S := idxSet p) (word_sub p t h12)) $$ HI
  iintro HI
  rw [word_read]
  iapply (wp_assume 𝒱 (c : Thread nD τ) bd Set.univ hchk)
  iapply (wait_row T X c bd hs p b t (by unfold bufRow; rfl) (by unfold semB; rfl) _ _ _ Q) $$ [HB HO]
  · isplitl [HB]; · iexact HB
    iexact HO
  · iintro ⟨HB, HO⟩
    sl_step
    iapply HQ
    isplitl [HI]; · iexact HI
    isplitl [HB]; · iexact HB
    iexact HO

/-- Before trip `k` of the draining loop. -/
def drainInv (hs : PosShare TreeShare) (p : Fin 2) (b : Fin 1279) (k : ℕ) (_ : Unit) : sProp (MT nD τ sig Unit (Elt F) ℕ (Pipeline.UD sig nD τ) ℕ) :=
  iprop(idxAt T c p b ∗ batch T X c hs p b 128 (k * NB) ∗ ow c)

/-- The deliveries of a batch put back together. -/
theorem collect (hs : PosShare TreeShare) (p : Fin 2) (b : Fin 1279) :
    (iprop(bigSep Finset.univ (D T X c hs p b) ∗ semVal ((c : Thread nD τ), SemLoc.dma (semB p)) 0 ∗ xRest T X c hs b) : sProp (MT nD τ sig Unit (Elt F) ℕ (Pipeline.UD sig nD τ) ℕ)) ⊢ SlotHas T X c hs p b := by
  unfold SlotHas
  iintro ⟨HD, HS, HR⟩
  ihave HD := (show bigSep Finset.univ (D T X c hs p b) ⊢ iprop(bigSep Finset.univ (fun t : Fin 128 => rowAt c p t (G T X b)) ∗ bigSep Finset.univ (fun t : Fin 128 => xAt X c (xSet (tokN T b t)) (Transfers.shareTokN hs t.val)))
    from Entails.of_eq (sep_fam Finset.univ (fun t : Fin 128 => rowAt c p t (G T X b)) (fun t : Fin 128 => xAt X c (xSet (tokN T b t)) (Transfers.shareTokN hs t.val)))) $$ HD
  icases HD with ⟨Hg, Hx⟩
  isplitl [Hg]
  · iapply (Entails.of_eq (slot_rows c p (G T X b)).symm) $$ Hg
  isplitl [Hx HR]
  · iapply (Entails.of_eq (x_split T X c hs b).symm)
    isplitl [Hx]; · iexact Hx
    iexact HR
  iexact HS

/-- The whole draining loop. -/
theorem drain_loop (hs : PosShare TreeShare) (p : Fin 2) (b : Fin 1279) (L : Scf.Loop 32) (ok : L.OK) (hL : L.trips = 128)
    (body : Fin L.trips → Unit → Prog (TpuEff nD τ sig (Elt F) Λ₀ .tc) Unit)
    (hbody : ∀ (k : Fin L.trips) (t : Fin 128), k.val = t.val → ∀ Q : Unit → sProp (MT nD τ sig Unit (Elt F) ℕ (Pipeline.UD sig nD τ) ℕ),
      iprop(idxAt T c p b ∗ batch T X c hs p b 128 (t.val * NB) ∗ ow c)
      ⊢ iprop((idxAt T c p b ∗ batch T X c hs p b 128 ((t.val + 1) * NB) ∗ ow c -∗ Q ())
        -∗ wp frame (wpE defs₀ 𝒱 (c : Thread nD τ) bd) Set.univ (body k ()) Q))
    {β : Type} (kk : Unit → Prog (TpuEff nD τ sig (Elt F) Λ₀ .tc) β) (Q : β → sProp (MT nD τ sig Unit (Elt F) ℕ (Pipeline.UD sig nD τ) ℕ)) :
    iprop(idxAt T c p b ∗ SlotFly T X c hs p b ∗ ow c)
      ⊢ iprop((idxAt T c p b ∗ SlotHas T X c hs p b ∗ ow c -∗ wp frame (wpE defs₀ 𝒱 (c : Thread nD τ) bd) Set.univ (kk ()) Q)
        -∗ wp frame (wpE defs₀ 𝒱 (c : Thread nD τ) bd) Set.univ (Scf.Loop.for L ok () body >>= kk) Q) := by
  unfold SlotFly
  iintro ⟨HI, ⟨HB, HR⟩, HO⟩ HK
  iapply (Scf.wp_for_bind frame (wpE defs₀ 𝒱 (c : Thread nD τ) bd) Set.univ L.lb L.ub L.st ok () body (drainInv T X c hs p b) ?_) $$ [HI HB HO]
  · intro k acc
    have hk : k.val < 128 := hL ▸ k.isLt
    unfold drainInv
    iintro ⟨HI, HB, HO⟩
    iapply (hbody k ⟨k.val, hk⟩ rfl _) $$ [HI HB HO]
    · isplitl [HI]; · iexact HI
      isplitl [HB]; · iexact HB
      iexact HO
    · iintro ⟨HI, HB, HO⟩
      isplitl [HI]; · iexact HI
      isplitl [HB]; · iexact HB
      iexact HO
  · unfold drainInv
    rw [Nat.zero_mul]
    isplitl [HI]; · iexact HI
    isplitl [HB]; · iexact HB
    iexact HO
  · iintro %acc
    unfold drainInv
    rw [show Scf.trips L.lb L.ub L.st = 128 from hL, Nat.mul_comm]
    iintro ⟨HI, HB, HO⟩
    imod (Transfers.batch_collect' (Lvl := ℕ) EC (c : Thread nD τ) (sm := .dma (semB p)) (ι := ()) NB_pos (D := D T X c hs p b)) $$ HB with ⟨HD, HS⟩
    iapply HK
    isplitl [HI]; · iexact HI
    isplitl [HD HS HR]
    · iapply (collect T X c hs p b)
      isplitl [HD]; · iexact HD
      isplitl [HS]; · iexact HS
      iexact HR
    iexact HO

end Issue

end Cert.Experts.Hand

end
-- ==== Proof.ExpPart.lean ====
module

public import proofs.«01_k».proof.Proof.ExpStep

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What an index transfer's semaphore is credited. -/
def NI : ℕ := (idxRow 0).view.dmaCredit
/-- A copy of indices counts for something. -/
theorem NI_pos : 0 < NI := View.dmaCredit_pos _ (by decide)

section Part

variable (T : S1279x128.Idx → Elt F .i32) (X : S16384x1024.Idx → Elt F .f32)
variable (c : Dev nD) {𝒱 : Variants} (bd : Option 𝒱.V)

/-- The token indices' array, on some elements. -/
abbrev tokAt (S : Finset S1279x128.Idx) : sProp (MT nD τ sig Unit (Elt F) ℕ (Pipeline.UD sig nD τ) ℕ) := ((c : Thread nD τ).loc main_arg1) ↦[S]{fullShare} T
/-- Slot `p` of the index buffer at some contents. -/
abbrev idxAny (p : Fin 2) : sProp (MT nD τ sig Unit (Elt F) ℕ (Pipeline.UD sig nD τ) ℕ) := iprop(∃ g : S2x128.Idx → Elt F .i32, ((c : Thread nD τ).loc cc0_scratch0) ↦[idxSet p]{fullShare} g)
/-- The index semaphore of slot `p` at zero. -/
abbrev semI0 (p : Fin 2) : sProp (MT nD τ sig Unit (Elt F) ℕ (Pipeline.UD sig nD τ) ℕ) := semVal ((c : Thread nD τ), SemLoc.dma (semI p)) 0

/-- Row `b` of the token indices on its way into slot `p`. -/
def TokFly (p : Fin 2) (b : Fin 1279) : sProp (MT nD τ sig Unit (Elt F) ℕ (Pipeline.UD sig nD τ) ℕ) :=
  iprop(Transfers.Flight EC (c : Thread nD τ) (.dma (semI p)) () NI iprop(idxAt T c p b ∗ tokAt T c (tokSet b)) ∗ tokAt T c (Finset.univ \ tokSet b))

/-- An index transfer at the head of a program. -/
def tokEnq {α : Type} (o16 : Fin 1 → ℕ) (h16 : ∀ a, o16 a + S1.size a ≤ S2.size a) (o17 : Fin 2 → ℕ) (h17 : ∀ a, o17 a + S1x128.size a ≤ S2x128.size a)
    (o18 : Fin 2 → ℕ) (h18 : ∀ a, o18 a + S1x128.size a ≤ S1279x128.size a) (k : PUnit → Prog (TpuEff nD τ sig (Elt F) Λ₀ .tc) α) : Prog (TpuEff nD τ sig (Elt F) Λ₀ .tc) α :=
  .op (.enqueueDma (((Memref.whole main_arg1).slice (Rect.unit (s := S1279x128) o18 S1x128.size h18) (fun _ => rfl)).squeeze S128 squeezes_S1x128_S128 : Memref sig .tc .hbm S128 .i32)
    (.here (((Memref.whole cc0_scratch0).slice (Rect.unit (s := S2x128) o17 S1x128.size h17) (fun _ => rfl)).squeeze S128 squeezes_S1x128_S128 : Memref sig .tc .smem S128 .i32))
    (.dma ((cc0_scratch2.slice (Rect.unit (s := S2) o16 S1.size h16)).squeeze S_ squeezes_S1_S_).sem) ((View.wordExact_bits rfl).reshape _ _) ((View.wordExact_bits rfl).reshape _ _) ⟨Or.inl rfl, trivial⟩) k

/-- The wait for one. -/
def tokWait {α : Type} (o16 : Fin 1 → ℕ) (h16 : ∀ a, o16 a + S1.size a ≤ S2.size a) (o17 : Fin 2 → ℕ) (h17 : ∀ a, o17 a + S1x128.size a ≤ S2x128.size a)
    (o18 : Fin 2 → ℕ) (h18 : ∀ a, o18 a + S1x128.size a ≤ S1279x128.size a) (k : PUnit → Prog (TpuEff nD τ sig (Elt F) Λ₀ .tc) α) : Prog (TpuEff nD τ sig (Elt F) Λ₀ .tc) α :=
  .op (.waitDma2 ((cc0_scratch2.slice (Rect.unit (s := S2) o16 S1.size h16)).squeeze S_ squeezes_S1_S_).sem
    (((Memref.whole main_arg1).slice (Rect.unit (s := S1279x128) o18 S1x128.size h18) (fun _ => rfl)).squeeze S128 squeezes_S1x128_S128 : Memref sig .tc .hbm S128 .i32)
    (((Memref.whole cc0_scratch0).slice (Rect.unit (s := S2x128) o17 S1x128.size h17) (fun _ => rfl)).squeeze S128 squeezes_S1x128_S128 : Memref sig .tc .smem S128 .i32)
    ((View.wordExact_bits rfl).reshape _ _) ((View.wordExact_bits rfl).reshape _ _)) k

/-- What an index transfer writes is the block's words. -/
theorem deliver_tok (p : Fin 2) (b : Fin 1279) (fd : S2x128.Idx → Elt F .i32) :
    (iprop(((idxRow p).view.loc (c : Thread nD τ) ↦[(idxRow p).view.set]{fullShare} (idxRow p).view.write (Elt F) fd ((tokRow b).view.read (Elt F) T) Finset.univ)
      ∗ ((tokRow b).view.loc (c : Thread nD τ) ↦[(tokRow b).view.set]{fullShare} T)) : sProp (MT nD τ sig Unit (Elt F) ℕ (Pipeline.UD sig nD τ) ℕ)) = iprop(idxAt T c p b ∗ tokAt T c (tokSet b)) := by
  rw [pointsTo_congr (g := J T b), idxRow_set, tokRow_set]
  · rfl
  · intro y hy
    obtain ⟨j, -, rfl⟩ := Finset.mem_map.mp hy
    refine (View.write_emb_of_mem (v := (idxRow p).view) _ _ (Finset.mem_univ _)).trans ?_
    rw [idxRow_emb]
    show T ((tokRow b).view.emb j) = _
    rw [tokRow_emb]; rfl

/-- The start of a copy of a block's indices. -/
theorem tokEnq_wp {α : Type} (p : Fin 2) (b : Fin 1279) {o16 : Fin 1 → ℕ} {h16} {o17 : Fin 2 → ℕ} {h17} {o18 : Fin 2 → ℕ} {h18}
    (e16 : o16 = ![p.val]) (e17 : o17 = ![p.val, 0]) (e18 : o18 = ![b.val, 0]) (k : PUnit → Prog (TpuEff nD τ sig (Elt F) Λ₀ .tc) α) (Q : α → sProp (MT nD τ sig Unit (Elt F) ℕ (Pipeline.UD sig nD τ) ℕ)) :
    iprop(idxAny c p ∗ tokAt T c Finset.univ ∗ semI0 c p)
      ⊢ iprop((TokFly T c p b -∗ wp frame (wpE defs₀ 𝒱 (c : Thread nD τ) bd) Set.univ (k ⟨⟩) Q)
        -∗ wp frame (wpE defs₀ 𝒱 (c : Thread nD τ) bd) Set.univ (tokEnq (F := F) o16 h16 o17 h17 o18 h18 k) Q) := by
  subst e16 e17 e18
  unfold tokEnq TokFly
  iintro ⟨⟨%g, Hg⟩, HT, HS⟩ HK
  ihave HT := ((pointsTo_split_subset (Finset.subset_univ (tokSet b))).1) $$ HT
  icases HT with ⟨Ht, Hr⟩
  have H := fun hsrc hdst hsem => Transfers.wp_dmaLocal EC (defs := defs₀ (F := F)) 𝒱 (c : Thread nD τ) bd (src := tokRow b) (dst := idxRow p) (via := ReadAs.same) (sm := .dma (semI p)) (hsrc := hsrc) (hdst := hdst) (hsem := hsem) (k := k) (Q := Q) (q := fullShare) (fs := T) (fd := g) (Sd := (idxRow p).view.set) () NI
    (show (idxRow p).view.dmaCredit = NI from rfl) NI_pos (Finset.Subset.refl _)
  have e := deliver_tok T c p b g
  iapply (H ((View.wordExact_bits rfl).reshape _ _) ((View.wordExact_bits rfl).reshape _ _) ⟨Or.inl rfl, trivial⟩) $$ [Hg Ht HS]
  · rw [idxRow_set, tokRow_set]
    isplitl [Ht]; · iexact Ht
    isplitl [Hg]; · iexact Hg
    iexact HS
  · iintro HF
    iapply HK
    isplitl [HF]
    · iapply (Entails.of_eq (congrArg (Transfers.Flight EC (c : Thread nD τ) (.dma (semI p)) () NI) e)) $$ HF
    iexact Hr

/-- The wait for a copy of a block's indices. -/
theorem tokWait_wp {α : Type} (p : Fin 2) (b : Fin 1279) {o16 : Fin 1 → ℕ} {h16} {o17 : Fin 2 → ℕ} {h17} {o18 : Fin 2 → ℕ} {h18}
    (e16 : o16 = ![p.val]) (e17 : o17 = ![p.val, 0]) (k : PUnit → Prog (TpuEff nD τ sig (Elt F) Λ₀ .tc) α) (Q : α → sProp (MT nD τ sig Unit (Elt F) ℕ (Pipeline.UD sig nD τ) ℕ)) :
    iprop(TokFly T c p b ∗ ow c)
      ⊢ iprop((idxAt T c p b ∗ tokAt T c Finset.univ ∗ semI0 c p ∗ ow c -∗ wp frame (wpE defs₀ 𝒱 (c : Thread nD τ) bd) Set.univ (k ⟨⟩) Q)
        -∗ wp frame (wpE defs₀ 𝒱 (c : Thread nD τ) bd) Set.univ (tokWait (F := F) o16 h16 o17 h17 o18 h18 k) Q) := by
  subst e16 e17
  unfold tokWait TokFly
  iintro ⟨⟨HF, Hr⟩, ⟨%W, HO⟩⟩ HK
  iapply (Transfers.wp_waitLocal EC (defs := defs₀ (F := F)) 𝒱 (c : Thread nD τ) bd (dstw := idxRow p) (sem := semI p) () (N := NI) (show (idxRow p).view.dmaCredit = NI from rfl)) $$ [HF HO]
  · isplitl [HF]; · iexact HF
    iexact HO
  · iintro ⟨⟨HI, HT⟩, HS, HO⟩
    iapply HK
    isplitl [HI]; · iexact HI
    isplitl [HT Hr]
    · iapply ((pointsTo_split_subset (Finset.subset_univ (tokSet b))).2)
      isplitl [HT]; · iexact HT
      iexact Hr
    isplitl [HS]; · iexact HS
    iexists _; iexact HO

/-! ## The states between the kernel's steps -/

/-- The half of the tokens' share that slot `p`'s transfers borrow from. -/
def hs (p : Fin 2) : PosShare TreeShare := if p = 0 then fullShare.left else fullShare.right
/-- Block number `n`. -/
def bk (n : ℕ) : Fin 1279 := ⟨n % 1279, Nat.mod_lt _ (by norm_num)⟩
/-- A number in range is its own block. -/
theorem bk_val {n : ℕ} (h : n < 1279) : (bk n).val = n := Nat.mod_eq_of_lt h

/-- Nothing in flight. -/
def Idle : sProp (MT nD τ sig Unit (Elt F) ℕ (Pipeline.UD sig nD τ) ℕ) :=
  iprop(SlotFree X c (hs 0) 0 ∗ SlotFree X c (hs 1) 1 ∗ idxAny c 0 ∗ idxAny c 1 ∗ tokAt T c Finset.univ ∗ semI0 c 0 ∗ semI0 c 1)

/-- Before point `n`, in the middle of the grid: block `n`'s rows in flight, and the words of block `n + 1`. -/
def Mid (n : ℕ) : sProp (MT nD τ sig Unit (Elt F) ℕ (Pipeline.UD sig nD τ) ℕ) :=
  iprop(idxAt T c (par n) (bk n) ∗ SlotFly T X c (hs (par n)) (par n) (bk n) ∗ SlotFree X c (hs (par (n + 1))) (par (n + 1)) ∗ semI0 c (par n)
    ∗ (if n + 1 < 1279 then TokFly T c (par (n + 1)) (bk (n + 1)) else iprop(tokAt T c Finset.univ ∗ semI0 c (par (n + 1)) ∗ idxAny c (par (n + 1)))))

/-- What is held for the next block once its rows are in flight. -/
def Next (n : ℕ) : sProp (MT nD τ sig Unit (Elt F) ℕ (Pipeline.UD sig nD τ) ℕ) :=
  if n + 1 < 1279 then iprop(idxAt T c (par (n + 1)) (bk (n + 1)) ∗ SlotFly T X c (hs (par (n + 1))) (par (n + 1)) (bk (n + 1)))
  else iprop(idxAny c (par (n + 1)) ∗ SlotFree X c (hs (par (n + 1))) (par (n + 1)))

/-- Once the next block's rows are in flight. -/
def MidB (n : ℕ) : sProp (MT nD τ sig Unit (Elt F) ℕ (Pipeline.UD sig nD τ) ℕ) :=
  iprop(idxAt T c (par n) (bk n) ∗ SlotFly T X c (hs (par n)) (par n) (bk n) ∗ semI0 c (par n) ∗ tokAt T c Finset.univ ∗ semI0 c (par (n + 1)) ∗ Next T X c n)

/-- Once block `n`'s rows have come. -/
def MidC (n : ℕ) : sProp (MT nD τ sig Unit (Elt F) ℕ (Pipeline.UD sig nD τ) ℕ) :=
  iprop(idxAt T c (par n) (bk n) ∗ SlotHas T X c (hs (par n)) (par n) (bk n) ∗ semI0 c (par n) ∗ tokAt T c Finset.univ ∗ semI0 c (par (n + 1)) ∗ Next T X c n)

/-- Once the words of block `n + 2` are asked for. -/
def Late (n : ℕ) : sProp (MT nD τ sig Unit (Elt F) ℕ (Pipeline.UD sig nD τ) ℕ) :=
  iprop(Next T X c n ∗ semI0 c (par (n + 1)) ∗ (if n + 2 < 1279 then TokFly T c (par n) (bk (n + 2)) else iprop(tokAt T c Finset.univ ∗ semI0 c (par n) ∗ idxAny c (par n))))

/-- Two points on, the slot is the same. -/
theorem par_add_two (n : ℕ) : par (n + 2) = par n := Fin.ext (by show (n + 2) % 2 = n % 2; omega)

/-- The state before point `n`. -/
def St (n : ℕ) : sProp (MT nD τ sig Unit (Elt F) ℕ (Pipeline.UD sig nD τ) ℕ) := if 0 < n ∧ n < 1279 then Mid T X c n else Idle T X c

/-- A free slot and what is still in flight make the state after a point. -/
theorem late_st (n : ℕ) (hn : n < 1279) : (iprop(SlotFree X c (hs (par n)) (par n) ∗ Late T X c n) : sProp (MT nD τ sig Unit (Elt F) ℕ (Pipeline.UD sig nD τ) ℕ)) ⊢ St T X c (n + 1) := by
  unfold Late Next St
  by_cases h1 : n + 1 < 1279
  · rw [if_pos h1, if_pos (show 0 < n + 1 ∧ n + 1 < 1279 from ⟨Nat.succ_pos n, h1⟩)]
    unfold Mid
    rw [show n + 1 + 1 = n + 2 from rfl, par_add_two]
    iintro ⟨HF, ⟨HI, HL⟩, HS, HT⟩
    isplitl [HI]; · iexact HI
    isplitl [HL]; · iexact HL
    isplitl [HF]; · iexact HF
    isplitl [HS]; · iexact HS
    iexact HT
  · rw [if_neg h1, if_neg (show ¬ (0 < n + 1 ∧ n + 1 < 1279) from fun h => h1 h.2), if_neg (show ¬ n + 2 < 1279 by omega)]
    obtain rfl : n = 1278 := by omega
    unfold Idle
    rw [show par 1278 = 0 from rfl, show par (1278 + 1) = 1 from rfl]
    iintro ⟨HF, ⟨HI, HL⟩, HS, HT, HS0, HI0⟩
    isplitl [HF]; · iexact HF
    isplitl [HL]; · iexact HL
    isplitl [HI0]; · iexact HI0
    isplitl [HI]; · iexact HI
    isplitl [HT]; · iexact HT
    isplitl [HS0]; · iexact HS0
    iexact HS

/-! ## The kernel's first part -/

section Prog

variable (i : grid0.Coords) (arg1 : Memref sig .tc .smem S1279 .i32) (harg1 : arg1.IsWhole) (arg2 : Memref sig .tc .smem S1 .i32) (harg2 : arg2.IsWhole)
  (harg3 : (Memref.whole main_arg1).IsWhole) (harg4 : (Memref.whole main_arg0).IsWhole)
  (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S128x1024 .f32) (harg8 : arg8.IsWhole)
  (harg9 : (Memref.whole cc0_scratch0).IsWhole) (harg10 : (Memref.whole cc0_scratch1).IsWhole)

/-- What the first part hands on. -/
def ret1 : Σ' (arg0 : BitVec 32) (v23 : BitVec 32), BitVec 32 :=
  ⟨BitVec.ofNat 32 (i 0).val, pm (BitVec.ofNat 32 (i 0).val), Scalar.extui (Scalar.cmpi .slt (Scalar.addi (BitVec.ofNat 32 (i 0).val) 2#32) 1279#32)⟩
/-- The draining loop and what follows. -/
def rest2 {α : Type} (r : α) : Prog (TpuEff nD τ sig (Elt F) Λ₀ .tc) α :=
  Scf.Loop.for k0_t3_loop k0_t3_ok ⟨⟩ (k0_t3_body (F := F) i arg1 harg1 arg2 harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3)
    >>= fun _ => .ret r
/-- The next block's issuing loop and what follows. -/
def rest1 {α : Type} (r : α) : Prog (TpuEff nD τ sig (Elt F) Λ₀ .tc) α :=
  if h2 : k0_cond2 i = 1#1 then
    tokWait (k0_off5 i) (k0_off5_inb i h2) (k0_off6 i) (k0_off6_inb i h2) (k0_off7 i) (k0_off7_inb i h2) fun _ =>
    Scf.Loop.for k0_t2_loop (k0_t2_ok i h2) ⟨⟩ (k0_t2_body (F := F) i arg1 harg1 arg2 harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3 h2)
      >>= fun _ => rest2 i arg1 harg1 arg2 harg2 harg3 harg4 arg5 harg5 arg6 harg6 arg7 harg7 arg8 harg8 harg9 harg10 r
  else rest2 i arg1 harg1 arg2 harg2 harg3 harg4 arg5 harg5 arg6 harg6 arg7 harg7 arg8 harg8 harg9 harg10 r
/-- The first point's prologue, before `k`. -/
def head1 {α : Type} (h1 : k0_cond1 i = 1#1) (k : Prog (TpuEff nD τ sig (Elt F) Λ₀ .tc) α) : Prog (TpuEff nD τ sig (Elt F) Λ₀ .tc) α :=
  tokEnq ![0] inb_S2_S1_0 ![0, 0] inb_S2x128_S1x128_0_0 ![0, 0] inb_S1279x128_S1x128_0_0 fun _ =>
  tokWait ![0] inb_S2_S1_0 ![0, 0] inb_S2x128_S1x128_0_0 ![0, 0] inb_S1279x128_S1x128_0_0 fun _ =>
  Scf.Loop.for k0_t1_loop (k0_t1_ok i h1) ⟨⟩ (k0_t1_body (F := F) i arg1 harg1 arg2 harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3 h1)
    >>= fun _ => tokEnq ![1] inb_S2_S1_1 ![1, 0] inb_S2x128_S1x128_1_0 ![1, 0] inb_S1279x128_S1x128_1_0 fun _ => k

/-- The first part of the body as its steps in sequence. -/
theorem part1_nf : ∃ r, k0_part1 (F := F) i arg1 harg1 arg2 harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3
    = (if h1 : k0_cond1 i = 1#1 then head1 i arg1 harg1 arg2 harg2 harg3 harg4 arg5 harg5 arg6 harg6 arg7 harg7 arg8 harg8 harg9 harg10 h1 (rest1 i arg1 harg1 arg2 harg2 harg3 harg4 arg5 harg5 arg6 harg6 arg7 harg7 arg8 harg8 harg9 harg10 r)
      else rest1 i arg1 harg1 arg2 harg2 harg3 harg4 arg5 harg5 arg6 harg6 arg7 harg7 arg8 harg8 harg9 harg10 r) := by
  refine ⟨ret1 i, ?_⟩
  rw [k0_part1_eq_skeleton]
  exact rfl

variable (H : ∀ b t, (tok T b t).toNat < 16384)
include H

/-- The row a word names lies in the array. -/
theorem inRow (b : Fin 1279) (t : Fin 128) : ∀ a, (![(tok T b t).toNat, 0] : Fin 2 → ℕ) a + S1x1024.size a ≤ S16384x1024.size a := inbX ⟨_, H b t⟩

/-- The last part of the copies: the indices two points on are started. -/
theorem rest2_wp {α : Type} (r : α) (Q : α → sProp (MT nD τ sig Unit (Elt F) ℕ (Pipeline.UD sig nD τ) ℕ)) :
    iprop(MidB T X c (pt i).val ∗ ow c)
      ⊢ iprop((MidC T X c (pt i).val ∗ ow c -∗ Q r)
        -∗ wp frame (wpE defs₀ 𝒱 (c : Thread nD τ) bd) Set.univ (rest2 (F := F) i arg1 harg1 arg2 harg2 harg3 harg4 arg5 harg5 arg6 harg6 arg7 harg7 arg8 harg8 harg9 harg10 r) Q) := by
  unfold rest2 MidB MidC
  iintro ⟨⟨HI, HF, HR⟩, HO⟩ HK
  iapply (drain_loop T X c bd (hs (par (pt i).val)) (par (pt i).val) (bk (pt i).val) k0_t3_loop k0_t3_ok trips3 _ ?_) $$ [HI HF HO]
  · intro k t hk Q
    rw [t3_eq]
    exact drain_wp T X c bd _ _ _ t (off12 i k t hk) (off13 i) (off14 i k t hk) (inRow T H _ _) Q
  · isplitl [HI]; · iexact HI
    isplitl [HF]; · iexact HF
    iexact HO
  · iintro ⟨HI, HF, HO⟩
    rw [wp_ret]
    imodintro
    iapply HK
    isplitr [HO]
    · isplitl [HI]; · iexact HI
      isplitl [HF]; · iexact HF
      iexact HR
    iexact HO

/-- The rest of the copies of a point: the next rows are started and the current ones waited for. -/
theorem rest1_wp {α : Type} (r : α) (Q : α → sProp (MT nD τ sig Unit (Elt F) ℕ (Pipeline.UD sig nD τ) ℕ)) :
    iprop(Mid T X c (pt i).val ∗ ow c)
      ⊢ iprop((MidC T X c (pt i).val ∗ ow c -∗ Q r)
        -∗ wp frame (wpE defs₀ 𝒱 (c : Thread nD τ) bd) Set.univ (rest1 (F := F) i arg1 harg1 arg2 harg2 harg3 harg4 arg5 harg5 arg6 harg6 arg7 harg7 arg8 harg8 harg9 harg10 r) Q) := by
  unfold rest1
  by_cases h1 : (pt i).val + 1 < 1279
  · rw [dif_pos ((cond2_iff i).mpr h1)]
    unfold Mid
    rw [if_pos h1]
    iintro ⟨⟨HI, HF, HL, HS, HT⟩, HO⟩ HK
    iapply (tokWait_wp T c bd (par ((pt i).val + 1)) (bk ((pt i).val + 1)) (off5 i) (off6 i)) $$ [HT HO]
    · isplitl [HT]; · iexact HT
      iexact HO
    iintro ⟨HJ, HT, HS', HO⟩
    iapply (issue_loop T X c bd (hs (par ((pt i).val + 1))) (par ((pt i).val + 1)) (bk ((pt i).val + 1)) k0_t2_loop (k0_t2_ok i ((cond2_iff i).mpr h1)) trips2 _ ?_) $$ [HJ HL]
    · intro k t hk Q
      rw [t2_eq]
      exact issue_wp T X c bd _ _ _ t (off8 i k t hk) (off9 i) (off10 i k t hk) (fun v => rfl) (fun _ => inRow T H _ _) (H _ _) Q
    · isplitl [HJ]; · iexact HJ
      iexact HL
    iintro ⟨HJ, HL⟩
    iapply (rest2_wp T X c bd i arg1 harg1 arg2 harg2 harg3 harg4 arg5 harg5 arg6 harg6 arg7 harg7 arg8 harg8 harg9 harg10 H r Q) $$ [HI HF HS HT HS' HJ HL HO]
    · isplitr [HO]
      · unfold MidB Next
        rw [if_pos h1]
        isplitl [HI]; · iexact HI
        isplitl [HF]; · iexact HF
        isplitl [HS]; · iexact HS
        isplitl [HT]; · iexact HT
        isplitl [HS']; · iexact HS'
        isplitl [HJ]; · iexact HJ
        iexact HL
      iexact HO
    · iexact HK
  · rw [dif_neg (fun h => h1 ((cond2_iff i).mp h))]
    unfold Mid
    rw [if_neg h1]
    iintro ⟨⟨HI, HF, HL, HS, HT, HS', HJ⟩, HO⟩ HK
    iapply (rest2_wp T X c bd i arg1 harg1 arg2 harg2 harg3 harg4 arg5 harg5 arg6 harg6 arg7 harg7 arg8 harg8 harg9 harg10 H r Q) $$ [HI HF HS HT HS' HJ HL HO]
    · isplitr [HO]
      · unfold MidB Next
        rw [if_neg h1]
        isplitl [HI]; · iexact HI
        isplitl [HF]; · iexact HF
        isplitl [HS]; · iexact HS
        isplitl [HT]; · iexact HT
        isplitl [HS']; · iexact HS'
        isplitl [HJ]; · iexact HJ
        iexact HL
      iexact HO
    · iexact HK

/-- The first point's own copies. -/
theorem head1_wp {α : Type} (h0 : (pt i).val = 0) (h1 : k0_cond1 i = 1#1) (k : Prog (TpuEff nD τ sig (Elt F) Λ₀ .tc) α) (Q : α → sProp (MT nD τ sig Unit (Elt F) ℕ (Pipeline.UD sig nD τ) ℕ)) :
    iprop(Idle T X c ∗ ow c)
      ⊢ iprop((Mid T X c 0 ∗ ow c -∗ wp frame (wpE defs₀ 𝒱 (c : Thread nD τ) bd) Set.univ k Q)
        -∗ wp frame (wpE defs₀ 𝒱 (c : Thread nD τ) bd) Set.univ (head1 (F := F) i arg1 harg1 arg2 harg2 harg3 harg4 arg5 harg5 arg6 harg6 arg7 harg7 arg8 harg8 harg9 harg10 h1 k) Q) := by
  unfold head1 Idle
  iintro ⟨⟨HL0, HL1, HI0, HI1, HT, HS0, HS1⟩, HO⟩ HK
  iapply (tokEnq_wp T c bd 0 (bk 0) (show (![0] : Fin 1 → ℕ) = ![(0 : Fin 2).val] from rfl) (show (![0, 0] : Fin 2 → ℕ) = ![(0 : Fin 2).val, 0] from rfl) (show (![0, 0] : Fin 2 → ℕ) = ![(bk 0).val, 0] from rfl)) $$ [HI0 HT HS0]
  · isplitl [HI0]; · iexact HI0
    isplitl [HT]; · iexact HT
    iexact HS0
  iintro HT
  iapply (tokWait_wp T c bd 0 (bk 0) (show (![0] : Fin 1 → ℕ) = ![(0 : Fin 2).val] from rfl) (show (![0, 0] : Fin 2 → ℕ) = ![(0 : Fin 2).val, 0] from rfl)) $$ [HT HO]
  · isplitl [HT]; · iexact HT
    iexact HO
  iintro ⟨HI0, HT, HS0, HO⟩
  iapply (issue_loop T X c bd (hs 0) 0 (bk 0) k0_t1_loop (k0_t1_ok i h1) trips1 _ ?_) $$ [HI0 HL0]
  · intro k t hk Q
    rw [t1_eq]
    exact issue_wp T X c bd _ _ _ t ((k0_off2_eq k).trans (by rw [hk]; rfl)) rfl ((k0_off3_eq k).trans (by rw [hk]; rfl)) (fun v => rfl) (fun _ => inRow T H _ _) (H _ _) Q
  · isplitl [HI0]; · iexact HI0
    iexact HL0
  iintro ⟨HI0, HL0⟩
  iapply (tokEnq_wp T c bd 1 (bk 1) (show (![1] : Fin 1 → ℕ) = ![(1 : Fin 2).val] from rfl) (show (![1, 0] : Fin 2 → ℕ) = ![(1 : Fin 2).val, 0] from rfl) (show (![1, 0] : Fin 2 → ℕ) = ![(bk 1).val, 0] from rfl)) $$ [HI1 HT HS1]
  · isplitl [HI1]; · iexact HI1
    isplitl [HT]; · iexact HT
    iexact HS1
  iintro HT
  iapply HK
  isplitr [HO]
  · unfold Mid
    rw [if_pos (show 0 + 1 < 1279 by norm_num), show par 0 = 0 from rfl, show par (0 + 1) = 1 from rfl]
    isplitl [HI0]; · iexact HI0
    isplitl [HL0]; · iexact HL0
    isplitl [HL1]; · iexact HL1
    isplitl [HS0]; · iexact HS0
    iexact HT
  iexact HO

/-- The kernel's first part, at any point: block `n`'s rows have come. -/
theorem part1_wp (Q : (Σ' (arg0 : BitVec 32) (v23 : BitVec 32), BitVec 32) → sProp (MT nD τ sig Unit (Elt F) ℕ (Pipeline.UD sig nD τ) ℕ)) :
    iprop(St T X c (pt i).val ∗ ow c)
      ⊢ iprop((∀ r, MidC T X c (pt i).val ∗ ow c -∗ Q r)
        -∗ wp frame (wpE defs₀ 𝒱 (c : Thread nD τ) bd) Set.univ (k0_part1 (F := F) i arg1 harg1 arg2 harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3) Q) := by
  obtain ⟨r, er⟩ := part1_nf (F := F) i arg1 harg1 arg2 harg2 harg3 harg4 arg5 harg5 arg6 harg6 arg7 harg7 arg8 harg8 harg9 harg10
  rw [er]
  have hi := (pt i).isLt
  unfold St
  by_cases h0 : (pt i).val = 0
  · rw [dif_pos ((cond1_iff i).mpr h0), if_neg (by omega)]
    iintro ⟨HM, HO⟩ HK
    iapply (head1_wp T X c bd i arg1 harg1 arg2 harg2 harg3 harg4 arg5 harg5 arg6 harg6 arg7 harg7 arg8 harg8 harg9 harg10 H h0) $$ [HM HO]
    · isplitl [HM]; · iexact HM
      iexact HO
    rw [show (0 : ℕ) = (pt i).val from h0.symm]
    iintro ⟨HM, HO⟩
    iapply (rest1_wp T X c bd i arg1 harg1 arg2 harg2 harg3 harg4 arg5 harg5 arg6 harg6 arg7 harg7 arg8 harg8 harg9 harg10 H r Q) $$ [HM HO]
    · isplitl [HM]; · iexact HM
      iexact HO
    iapply HK
  · rw [dif_neg (fun h => h0 ((cond1_iff i).mp h)), if_pos (by omega)]
    iintro ⟨HM, HO⟩ HK
    iapply (rest1_wp T X c bd i arg1 harg1 arg2 harg2 harg3 harg4 arg5 harg5 arg6 harg6 arg7 harg7 arg8 harg8 harg9 harg10 H r Q) $$ [HM HO]
    · isplitl [HM]; · iexact HM
      iexact HO
    iapply HK

end Prog

end Part

end Cert.Experts.Hand

end
-- ==== Proof.ExpBody.lean ====
module

public import proofs.«01_k».proof.Proof.ExpPart
public import Idealize.ShloMosaic.Lib.VecWindow
public import Idealize.ShloMosaic.Lib.Pipeline.TableIdle

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The two branches of the point exclude each other, and one is taken. -/
theorem cond5_iff (i : grid0.Coords) (v : BitVec 32) : k0_cond5 i v = 1#1 ↔ ¬ k0_cond4 i v = 1#1 := by
  show Scalar.cmpi .ne (Scalar.extui (Scalar.cmpi .sge (BitVec.ofNat 32 (i 0).val) v)) 0#32 = 1#1 ↔ ¬ Scalar.cmpi .ne (Scalar.extui (Scalar.cmpi .slt (BitVec.ofNat 32 (i 0).val) v)) 0#32 = 1#1
  generalize BitVec.ofNat 32 (i 0).val = a
  have hb : ∀ b : Bool, Iff (Scalar.cmpi .ne (Scalar.extui (BitVec.ofBool b) : BitVec 32) 0#32 = 1#1) (b = true) := by decide
  have e1 : Scalar.cmpi .sge a v = BitVec.ofBool (!(a.slt v)) := by
    show BitVec.ofBool (v.sle a) = _
    rw [BitVec.sle_eq_not_slt]
  have e2 : Scalar.cmpi .slt a v = BitVec.ofBool (a.slt v) := rfl
  rw [e1, e2, hb, hb]; cases a.slt v <;> decide

/-- The rows of a block as the kernel loads them. -/
def rows (T : S1279x128.Idx → Elt F .i32) (X : S16384x1024.Idx → Elt F .f32) (b : Fin 1279) : Vec F S1x128x1024 .f32 :=
  fun y => X (ix2 (tokN T b (y 1)) (y 2))

/-- What the kernel leaves in a block of the result. -/
def blockVal (T : S1279x128.Idx → Elt F .i32) (X : S16384x1024.Idx → Elt F .f32) (i : grid0.Coords) (nu : BitVec 32)
    (w0 w1 : Vec F S1x1024x256 .f32) (w2 : Vec F S1x256x1024 .f32) : S128x1024.Idx → Elt F .f32 :=
  if k0_cond4 i nu = 1#1 then k0_pay1 (rows T X (pt i)) w0 w1 w2 else k0_pay2 (F := F)

/-- A used block's value is the experts' product. -/
theorem blockVal_pos (T : S1279x128.Idx → Elt F .i32) (X : S16384x1024.Idx → Elt F .f32) (i : grid0.Coords) (nu : BitVec 32)
    (w0 w1 : Vec F S1x1024x256 .f32) (w2 : Vec F S1x256x1024 .f32) (h : k0_cond4 i nu = 1#1) :
    blockVal T X i nu w0 w1 w2 = k0_pay1 (rows T X (pt i)) w0 w1 w2 := if_pos h
/-- An unused block's value is zero. -/
theorem blockVal_neg (T : S1279x128.Idx → Elt F .i32) (X : S16384x1024.Idx → Elt F .f32) (i : grid0.Coords) (nu : BitVec 32)
    (w0 w1 : Vec F S1x1024x256 .f32) (w2 : Vec F S1x256x1024 .f32) (h : ¬ k0_cond4 i nu = 1#1) :
    blockVal T X i nu w0 w1 w2 = k0_pay2 (F := F) := if_neg h
/-- Equal operands give equal products. -/
theorem pay_congr {a a' : Vec F S1x128x1024 .f32} {b b' d d' : Vec F S1x1024x256 .f32} {e e' : Vec F S1x256x1024 .f32}
    (ha : a = a') (hb : b = b') (hd : d = d') (he : e = e') : k0_pay1 a b d e = k0_pay1 a' b' d' e' := by
  subst ha hb hd he; rfl

/-- A whole store of the result's block reads back. -/
theorem store_read (arg8 : Memref sig .tc .vmem S128x1024 .f32) (f : arg8.view.ty.Contents (Elt F)) (w : S128x1024.Idx → Elt F .f32) :
    arg8.view.read (Elt F) ((arg8.access (Rect.unit (s := S128x1024) ![0, 0] S128x1024.size inb_S128x1024_S128x1024_0_0)).write (Elt F) f w Finset.univ) = w :=
  View.read_writes_full arg8.view f inb_S128x1024_S128x1024_0_0 w []

section Body

variable (T : S1279x128.Idx → Elt F .i32) (X : S16384x1024.Idx → Elt F .f32) (Nu : S1.Idx → Elt F .i32)
variable (c : Dev nD) {𝒱 : Variants} (bd : Option 𝒱.V)
variable (i : grid0.Coords) (arg1 : Memref sig .tc .smem S1279 .i32) (harg1 : arg1.IsWhole) (harg2 : (Memref.whole main_arg3).IsWhole)
  (harg3 : (Memref.whole main_arg1).IsWhole) (harg4 : (Memref.whole main_arg0).IsWhole)
  (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S128x1024 .f32) (harg8 : arg8.IsWhole)
  (harg9 : (Memref.whole cc0_scratch0).IsWhole) (harg10 : (Memref.whole cc0_scratch1).IsWhole)

/-- The second branch: the block is past the last one used. -/
def rest5 : Prog (TpuEff nD τ sig (Elt F) Λ₀ .tc) PUnit :=
  smemLoadElt (Memref.whole main_arg3) (Rect.unit (s := S1) ![0] S1.size inb_S1_S1_0) (View.loads_smem_one rfl numel1_S1) (Shape.Idx.first (numel1_S1.symm ▸ Nat.one_pos)) fun v37 =>
  if k0_h5 : k0_cond5 i v37 = 1#1 then
    .op (.load arg8 (Rect.unit (s := S128x1024) ![0, 0] S128x1024.size inb_S128x1024_S128x1024_0_0).toLoadRect (View.loadsAt_vmem h_S128x1024)) fun _ =>
    .op (.store arg8 (Rect.unit (s := S128x1024) ![0, 0] S128x1024.size inb_S128x1024_S128x1024_0_0) (k0_pay2 (F := F)) Finset.univ (View.stores_vmem_bits_univ h_S128x1024 rfl) (.inl rfl)) fun _ =>
    .ret ⟨⟩
  else .ret ⟨⟩

/-- The computing branch and what follows. -/
def rest4 : Prog (TpuEff nD τ sig (Elt F) Λ₀ .tc) PUnit :=
  smemLoadElt (Memref.whole main_arg3) (Rect.unit (s := S1) ![0] S1.size inb_S1_S1_0) (View.loads_smem_one rfl numel1_S1) (Shape.Idx.first (numel1_S1.symm ▸ Nat.one_pos)) fun v33 =>
  if k0_h4 : k0_cond4 i v33 = 1#1 then
    .op (.load (Memref.whole cc0_scratch1) (Rect.unit (s := S2x128x1024) (k0_off19 i) S1x128x1024.size (k0_off19_inb i)).toLoadRect (View.loadsAt_vmem h_S1x128x1024)) fun v42 =>
    .op (.load arg5 (Rect.unit (s := S1x1024x256) ![0, 0, 0] S1x1024x256.size inb_S1x1024x256_S1x1024x256_0_0_0).toLoadRect (View.loadsAt_vmem h_S1x1024x256)) fun v45 =>
    .op (.load arg6 (Rect.unit (s := S1x1024x256) ![0, 0, 0] S1x1024x256.size inb_S1x1024x256_S1x1024x256_0_0_0).toLoadRect (View.loadsAt_vmem h_S1x1024x256)) fun v49 =>
    .op (.load arg7 (Rect.unit (s := S1x256x1024) ![0, 0, 0] S1x256x1024.size inb_S1x256x1024_S1x256x1024_0_0_0).toLoadRect (View.loadsAt_vmem h_S1x256x1024)) fun v63 =>
    .op (.load arg8 (Rect.unit (s := S128x1024) ![0, 0] S128x1024.size inb_S128x1024_S128x1024_0_0).toLoadRect (View.loadsAt_vmem h_S128x1024)) fun _ =>
    .op (.store arg8 (Rect.unit (s := S128x1024) ![0, 0] S128x1024.size inb_S128x1024_S128x1024_0_0) (k0_pay1 v42 v45 v49 v63) Finset.univ (View.stores_vmem_bits_univ h_S128x1024 rfl) (.inl rfl)) fun _ =>
    rest5 i arg8
  else rest5 i arg8

/-- The kernel's body as its parts in sequence. -/
theorem body_nf : cc0_moe_experts (F := F) i arg1 harg1 (Memref.whole main_arg3) harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3
    = (k0_part1 (F := F) i arg1 harg1 (Memref.whole main_arg3) harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3
      >>= fun _ => if k0_h3 : k0_cond3 i = 1#1 then
          tokEnq (k0_off16 i) (k0_off16_inb i k0_h3) (k0_off17 i) (k0_off17_inb i k0_h3) (k0_off18 i) (k0_off18_inb i k0_h3) fun _ => rest4 i arg5 arg6 arg7 arg8
        else rest4 i arg5 arg6 arg7 arg8) := by
  rw [cc0_moe_experts_eq_skeleton]
  exact rfl

/-- The table of the number of blocks used, on the body's half. -/
abbrev nuAt : sProp (MT nD τ sig Unit (Elt F) ℕ (Pipeline.UD sig nD τ) ℕ) := ((c : Thread nD τ).loc main_arg3) ↦[Finset.univ]{fullShare.right} Nu

/-- The whole read of the table of used blocks is the table. -/
theorem nu_read (x : S1.Idx) : ((Memref.whole main_arg3).access (Rect.unit (s := S1) ![0] S1.size inb_S1_S1_0)).read (Elt F) Nu x = Nu (ix1 (0 : Fin 1)) := by
  show Nu ((Rect.unit (s := S1) ![0] S1.size inb_S1_S1_0).emb x) = _
  congr 1; funext (a : Fin 1); obtain rfl : a = 0 := Subsingleton.elim _ _; exact Subsingleton.elim (α := Fin 1) _ _

/-- The branch for unused blocks is skipped at a used one. -/
theorem rest5_wp_skip (h : k0_cond4 i (Nu (ix1 (0 : Fin 1))) = 1#1) (Q : PUnit → sProp (MT nD τ sig Unit (Elt F) ℕ (Pipeline.UD sig nD τ) ℕ)) :
    (nuAt Nu c : sProp (MT nD τ sig Unit (Elt F) ℕ (Pipeline.UD sig nD τ) ℕ))
      ⊢ iprop((nuAt Nu c -∗ Q ⟨⟩) -∗ wp frame (wpE defs₀ 𝒱 (c : Thread nD τ) bd) Set.univ (rest5 (F := F) i arg8) Q) := by
  unfold rest5
  iintro HN HK
  iapply (wp_smemLoadElt 𝒱 (c : Thread nD τ) bd Set.univ (m := Memref.whole main_arg3) (r := Rect.unit (s := S1) ![0] S1.size inb_S1_S1_0) (S := Finset.univ) (q := fullShare.right) (f := Nu) (Finset.subset_univ _)) $$ HN
  iintro HN
  rw [nu_read, dif_neg (fun h' => (cond5_iff i _).mp h' h), wp_ret]
  imodintro
  iapply HK
  iexact HN

/-- At an unused block the result's block is set to zero. -/
theorem rest5_wp_zero (h : ¬ k0_cond4 i (Nu (ix1 (0 : Fin 1))) = 1#1) (f8) (Q : PUnit → sProp (MT nD τ sig Unit (Elt F) ℕ (Pipeline.UD sig nD τ) ℕ)) :
    (iprop(nuAt Nu c ∗ (arg8.view.loc (c : Thread nD τ) ↦[arg8.view.set]{fullShare} f8)) : sProp (MT nD τ sig Unit (Elt F) ℕ (Pipeline.UD sig nD τ) ℕ))
      ⊢ iprop((nuAt Nu c ∗ owns (c : Thread nD τ) arg8 fullShare (k0_pay2 (F := F)) -∗ Q ⟨⟩) -∗ wp frame (wpE defs₀ 𝒱 (c : Thread nD τ) bd) Set.univ (rest5 (F := F) i arg8) Q) := by
  unfold rest5
  iintro ⟨HN, H8⟩ HK
  iapply (wp_smemLoadElt 𝒱 (c : Thread nD τ) bd Set.univ (m := Memref.whole main_arg3) (r := Rect.unit (s := S1) ![0] S1.size inb_S1_S1_0) (S := Finset.univ) (q := fullShare.right) (f := Nu) (Finset.subset_univ _)) $$ HN
  iintro HN
  rw [nu_read, dif_pos ((cond5_iff i _).mpr h)]
  iapply (wp_load 𝒱 (c : Thread nD τ) bd Set.univ (S := arg8.view.set) (View.setOn_subset_set _ _)) $$ H8
  iintro H8
  iapply (wp_store 𝒱 (c : Thread nD τ) bd Set.univ (m := arg8) (r := Rect.unit (s := S128x1024) ![0, 0] S128x1024.size inb_S128x1024_S128x1024_0_0) (S := arg8.view.set) ((View.setOn_subset_set _ _).trans (View.set_slice_subset _ _))) $$ H8
  iintro H8
  rw [wp_ret]
  imodintro
  iapply HK
  isplitl [HN]; · iexact HN
  unfold owns
  iexists _
  isplitr; swap; · iexact H8
  ipureintro
  exact store_read arg8 _ _

/-- The read of the current slot of the token buffer. -/
theorem slot_read : ((Memref.whole cc0_scratch1).view).readAt (Elt F) (Rect.unit (s := S2x128x1024) (k0_off19 i) S1x128x1024.size (k0_off19_inb i)).toLoadRect (G T X (pt i)) = rows T X (pt i) := by
  have e := off19 i
  generalize k0_off19_inb i = hb
  revert hb
  rw [e]
  intro hb
  funext y
  show X (ix2 (tokN T (pt i) ((Rect.unit (s := S2x128x1024) ![(par (pt i).val).val, 0, 0] S1x128x1024.size hb).emb y 1)) ((Rect.unit (s := S2x128x1024) ![(par (pt i).val).val, 0, 0] S1x128x1024.size hb).emb y 2)) = X (ix2 (tokN T (pt i) (y 1)) (y 2))
  have e1 : (Rect.unit (s := S2x128x1024) ![(par (pt i).val).val, 0, 0] S1x128x1024.size hb).emb y 1 = y 1 := Fin.ext (by show 0 + 1 * (y 1).val = (y 1).val; omega)
  have e2 : (Rect.unit (s := S2x128x1024) ![(par (pt i).val).val, 0, 0] S1x128x1024.size hb).emb y 2 = y 2 := Fin.ext (by show 0 + 1 * (y 2).val = (y 2).val; omega)
  rw [e1, e2]

/-- That read stays inside the current slot. -/
theorem slot_sub : (Memref.whole cc0_scratch1).view.setOn (Rect.unit (s := S2x128x1024) (k0_off19 i) S1x128x1024.size (k0_off19_inb i)).toLoadRect.set ⊆ slotSet (par (pt i).val) := by
  have e := off19 i
  generalize k0_off19_inb i = hb
  revert hb
  rw [e]
  intro hb
  exact ((View.set_slice (Memref.whole cc0_scratch1).view (Rect.unit (s := S2x128x1024) ![(par (pt i).val).val, 0, 0] S1x128x1024.size hb)).symm.trans (View.set_slice_whole cc0_scratch1 _)).le

/-- The product and the branch for unused blocks: the result's block ends at its value. -/
theorem rest4_wp (x5 x6 : Vec F S1x1024x256 .f32) (x7 : Vec F S1x256x1024 .f32) (p : PosShare TreeShare) (Q : PUnit → sProp (MT nD τ sig Unit (Elt F) ℕ (Pipeline.UD sig nD τ) ℕ)) :
    (iprop(SlotHas T X c p (par (pt i).val) (pt i) ∗ nuAt Nu c
        ∗ owns (c : Thread nD τ) arg5 fullShare x5 ∗ owns (c : Thread nD τ) arg6 fullShare x6 ∗ owns (c : Thread nD τ) arg7 fullShare x7
        ∗ (∃ d, owns (c : Thread nD τ) arg8 fullShare d)) : sProp (MT nD τ sig Unit (Elt F) ℕ (Pipeline.UD sig nD τ) ℕ))
      ⊢ iprop((SlotFree X c p (par (pt i).val) ∗ nuAt Nu c
        ∗ owns (c : Thread nD τ) arg5 fullShare x5 ∗ owns (c : Thread nD τ) arg6 fullShare x6 ∗ owns (c : Thread nD τ) arg7 fullShare x7
        ∗ owns (c : Thread nD τ) arg8 fullShare (blockVal T X i (Nu (ix1 (0 : Fin 1))) x5 x6 x7) -∗ Q ⟨⟩)
        -∗ wp frame (wpE defs₀ 𝒱 (c : Thread nD τ) bd) Set.univ (rest4 (F := F) i arg5 arg6 arg7 arg8) Q) := by
  unfold rest4
  iintro ⟨HS, HN, H5, H6, H7, ⟨%d, H8⟩⟩ HK
  iapply (wp_smemLoadElt 𝒱 (c : Thread nD τ) bd Set.univ (m := Memref.whole main_arg3) (r := Rect.unit (s := S1) ![0] S1.size inb_S1_S1_0) (S := Finset.univ) (q := fullShare.right) (f := Nu) (Finset.subset_univ _)) $$ HN
  iintro HN
  rw [nu_read]
  by_cases h : k0_cond4 i (Nu (ix1 (0 : Fin 1))) = 1#1
  · rw [dif_pos h]
    ihave HS := (show (SlotHas T X c p (par (pt i).val) (pt i) : sProp (MT nD τ sig Unit (Elt F) ℕ (Pipeline.UD sig nD τ) ℕ)) ⊢ iprop((((c : Thread nD τ).loc cc0_scratch1) ↦[slotSet (par (pt i).val)]{fullShare} G T X (pt i)) ∗ xAt X c Finset.univ p ∗ semVal ((c : Thread nD τ), SemLoc.dma (semB (par (pt i).val))) 0) from .rfl) $$ HS
    icases HS with ⟨HB, HR⟩
    ihave H5 := (rep_of_owns (c : Thread nD τ) arg5 fullShare x5) $$ H5
    ihave H6 := (rep_of_owns (c : Thread nD τ) arg6 fullShare x6) $$ H6
    ihave H7 := (rep_of_owns (c : Thread nD τ) arg7 fullShare x7) $$ H7
    ihave H8 := (rep_of_owns (c : Thread nD τ) arg8 fullShare d) $$ H8
    iapply (wp_load 𝒱 (c : Thread nD τ) bd Set.univ (m := Memref.whole cc0_scratch1) (S := slotSet (par (pt i).val)) (slot_sub i)) $$ HB
    iintro HB
    iapply (wp_load 𝒱 (c : Thread nD τ) bd Set.univ (m := arg5) (S := arg5.view.set) (View.setOn_subset_set _ _)) $$ H5
    iintro H5
    iapply (wp_load 𝒱 (c : Thread nD τ) bd Set.univ (m := arg6) (S := arg6.view.set) (View.setOn_subset_set _ _)) $$ H6
    iintro H6
    iapply (wp_load 𝒱 (c : Thread nD τ) bd Set.univ (m := arg7) (S := arg7.view.set) (View.setOn_subset_set _ _)) $$ H7
    iintro H7
    iapply (wp_load 𝒱 (c : Thread nD τ) bd Set.univ (m := arg8) (S := arg8.view.set) (View.setOn_subset_set _ _)) $$ H8
    iintro H8
    iapply (wp_store 𝒱 (c : Thread nD τ) bd Set.univ (m := arg8) (r := Rect.unit (s := S128x1024) ![0, 0] S128x1024.size inb_S128x1024_S128x1024_0_0) (S := arg8.view.set) ((View.setOn_subset_set _ _).trans (View.set_slice_subset _ _))) $$ H8
    iintro H8
    iapply (rest5_wp_skip Nu c bd i arg8 h Q) $$ HN
    iintro HN
    iapply HK
    isplitl [HB HR]
    · iapply (has_free T X c p (par (pt i).val) (pt i))
      unfold SlotHas
      isplitl [HB]; · iexact HB
      iexact HR
    isplitl [HN]; · iexact HN
    isplitl [H5]; · iapply owns_of_rep; iexact H5
    isplitl [H6]; · iapply owns_of_rep; iexact H6
    isplitl [H7]; · iapply owns_of_rep; iexact H7
    unfold owns
    iexists _
    isplitr; swap; · iexact H8
    ipureintro
    refine (store_read arg8 _ _).trans ?_
    refine (pay_congr (slot_read T X i) (View.readAt_rep_full arg5.view x5 inb_S1x1024x256_S1x1024x256_0_0_0) (View.readAt_rep_full arg6.view x6 inb_S1x1024x256_S1x1024x256_0_0_0) (View.readAt_rep_full arg7.view x7 inb_S1x256x1024_S1x256x1024_0_0_0)).trans ?_
    exact (blockVal_pos T X i _ x5 x6 x7 h).symm
  · rw [dif_neg h]
    ihave H8 := (rep_of_owns (c : Thread nD τ) arg8 fullShare d) $$ H8
    iapply (rest5_wp_zero Nu c bd i arg8 h (arg8.view.rep d) Q) $$ [HN H8]
    · isplitl [HN]; · iexact HN
      iexact H8
    iintro ⟨HN, H8⟩
    iapply HK
    isplitl [HS]; · iapply (has_free T X c p (par (pt i).val) (pt i)) $$ HS
    isplitl [HN]; · iexact HN
    isplitl [H5]; · iexact H5
    isplitl [H6]; · iexact H6
    isplitl [H7]; · iexact H7
    rw [blockVal_neg T X i _ x5 x6 x7 h]
    iexact H8

variable (H : ∀ b t, (tok T b t).toNat < 16384)
include H

/-- The kernel's body at any point: from the state before it to the state after it, the block of the result written. -/
theorem body_wp (x5 x6 : Vec F S1x1024x256 .f32) (x7 : Vec F S1x256x1024 .f32) (Q : PUnit → sProp (MT nD τ sig Unit (Elt F) ℕ (Pipeline.UD sig nD τ) ℕ)) :
    (iprop(St T X c (pt i).val ∗ ow c ∗ nuAt Nu c
        ∗ owns (c : Thread nD τ) arg5 fullShare x5 ∗ owns (c : Thread nD τ) arg6 fullShare x6 ∗ owns (c : Thread nD τ) arg7 fullShare x7
        ∗ (∃ d, owns (c : Thread nD τ) arg8 fullShare d)) : sProp (MT nD τ sig Unit (Elt F) ℕ (Pipeline.UD sig nD τ) ℕ))
      ⊢ iprop((St T X c ((pt i).val + 1) ∗ ow c ∗ nuAt Nu c
        ∗ owns (c : Thread nD τ) arg5 fullShare x5 ∗ owns (c : Thread nD τ) arg6 fullShare x6 ∗ owns (c : Thread nD τ) arg7 fullShare x7
        ∗ owns (c : Thread nD τ) arg8 fullShare (blockVal T X i (Nu (ix1 (0 : Fin 1))) x5 x6 x7) -∗ Q ⟨⟩)
        -∗ wp frame (wpE defs₀ 𝒱 (c : Thread nD τ) bd) Set.univ
          (cc0_moe_experts (F := F) i arg1 harg1 (Memref.whole main_arg3) harg2 (Memref.whole main_arg1) harg3 (Memref.whole main_arg0) harg4 arg5 harg5 arg6 harg6 arg7 harg7 arg8 harg8 (Memref.whole cc0_scratch0) harg9 (Memref.whole cc0_scratch1) harg10 cc0_scratch2 cc0_scratch3) Q) := by
  rw [body_nf]
  have hi := (pt i).isLt
  have hb : bk (pt i).val = pt i := Fin.ext (bk_val hi)
  iintro ⟨HSt, HO, HN, H5, H6, H7, H8⟩ HK
  rw [wp_bind]
  iapply (part1_wp T X c bd i arg1 harg1 (Memref.whole main_arg3) harg2 harg3 harg4 arg5 harg5 arg6 harg6 arg7 harg7 arg8 harg8 harg9 harg10 H _) $$ [HSt HO]
  · isplitl [HSt]; · iexact HSt
    iexact HO
  iintro %r ⟨HC, HO⟩
  ihave HC := (show (MidC T X c (pt i).val : sProp (MT nD τ sig Unit (Elt F) ℕ (Pipeline.UD sig nD τ) ℕ)) ⊢ iprop(idxAt T c (par (pt i).val) (bk (pt i).val) ∗ SlotHas T X c (hs (par (pt i).val)) (par (pt i).val) (bk (pt i).val) ∗ semI0 c (par (pt i).val) ∗ tokAt T c Finset.univ ∗ semI0 c (par ((pt i).val + 1)) ∗ Next T X c (pt i).val) from .rfl) $$ HC
  icases HC with ⟨HI, HS, HJ, HT, HJ', HX⟩
  ihave HS := (Entails.of_eq (show (SlotHas T X c (hs (par (pt i).val)) (par (pt i).val) (bk (pt i).val) : sProp (MT nD τ sig Unit (Elt F) ℕ (Pipeline.UD sig nD τ) ℕ)) = SlotHas T X c (hs (par (pt i).val)) (par (pt i).val) (pt i) from by rw [hb])) $$ HS
  by_cases h3 : (pt i).val + 2 < 1279
  · rw [dif_pos ((cond3_iff i).mpr h3)]
    iapply (tokEnq_wp T c bd (par (pt i).val) (bk ((pt i).val + 2)) (off16 i) (off17 i) ((k0_off18_eq i).trans (by rw [bk_val h3]))) $$ [HI HT HJ]
    · isplitl [HI]; · iexists _; iexact HI
      isplitl [HT]; · iexact HT
      iexact HJ
    iintro HT
    iapply (rest4_wp T X Nu c bd i arg5 arg6 arg7 arg8 x5 x6 x7 (hs (par (pt i).val)) Q) $$ [HS HN H5 H6 H7 H8]
    · isplitl [HS]; · iexact HS
      isplitl [HN]; · iexact HN
      isplitl [H5]; · iexact H5
      isplitl [H6]; · iexact H6
      isplitl [H7]; · iexact H7
      iexact H8
    iintro ⟨HS, HR⟩
    iapply HK
    isplitl [HS HX HJ' HT]
    · iapply (late_st T X c (pt i).val hi)
      isplitl [HS]; · iexact HS
      unfold Late
      rw [if_pos h3]
      isplitl [HX]; · iexact HX
      isplitl [HJ']; · iexact HJ'
      iexact HT
    isplitl [HO]; · iexact HO
    iexact HR
  · rw [dif_neg (fun h => h3 ((cond3_iff i).mp h))]
    iapply (rest4_wp T X Nu c bd i arg5 arg6 arg7 arg8 x5 x6 x7 (hs (par (pt i).val)) Q) $$ [HS HN H5 H6 H7 H8]
    · isplitl [HS]; · iexact HS
      isplitl [HN]; · iexact HN
      isplitl [H5]; · iexact H5
      isplitl [H6]; · iexact H6
      isplitl [H7]; · iexact H7
      iexact H8
    iintro ⟨HS, HR⟩
    iapply HK
    isplitl [HS HX HJ' HT HJ HI]
    · iapply (late_st T X c (pt i).val hi)
      isplitl [HS]; · iexact HS
      unfold Late
      rw [if_neg h3]
      isplitl [HX]; · iexact HX
      isplitl [HJ']; · iexact HJ'
      isplitl [HT]; · iexact HT
      isplitl [HJ]; · iexact HJ
      iexists _; iexact HI
    isplitl [HO]; · iexact HO
    iexact HR

end Body

end Cert.Experts.Hand

end
-- ==== Proof.ExpLaunch.lean ====
/- The launch of the experts kernel: the tables it reads, the pipeline's data, the run, and the frame. -/
module

public import proofs.«01_k».proof.Proof.ExpBody
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Init

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The tables -/

/-- The two tables as the launch finds them. -/
def tabs : pre0.Contents (Elt F) := fun k => m (((0 : Dev nD) : Thread nD τ).loc (pre0.ref k))
/-- The tokens' numbers. -/
def toks (c : Dev nD) : S1279x128.Idx → Elt F .i32 := m ((c : Thread nD τ).loc main_arg1)
/-- The tokens' rows. -/
def xs (c : Dev nD) : S16384x1024.Idx → Elt F .f32 := m ((c : Thread nD τ).loc main_arg0)
/-- The blocks' experts. -/
def exps : S1279.Idx → BitVec 32 := tabs m 0
/-- The number of blocks in use. -/
def used : S1.Idx → BitVec 32 := tabs m 1

/-- Every token's number names a row and every block's expert is one of the 256. -/
def InRange : Prop := (∀ (c : Dev nD) b t, (tok (toks m c) b t).toNat < 16384) ∧ ∀ j, (exps m j).toNat < 256

variable (hr : InRange m)

include hr in
/-- In range, every block of the weights lies inside its array. -/
theorem tabs_ok : ok0 (F := F) (tabs m) := by
  refine ⟨fun i => ⟨?_, Or.inl rfl⟩, fun i => ⟨?_, Or.inl rfl⟩, fun i => ⟨?_, Or.inl rfl⟩⟩
  · intro a; fin_cases a
    · show (BitVec.toNat (exps m _) + 1) * 1 ≤ 256
      have := hr.2 ((Rect.unit (s := S1279) (k0_off1 i) S1.size (k0_off1_inb i)).emb (Shape.Idx.first (numel1_S1.symm ▸ Nat.one_pos)))
      exact (Nat.mul_one _).le.trans this
    · show (0 + 1) * 1024 ≤ 1024; omega
    · show (0 + 1) * 256 ≤ 256; omega
  · intro a; fin_cases a
    · show (BitVec.toNat (exps m _) + 1) * 1 ≤ 256
      have := hr.2 ((Rect.unit (s := S1279) (k0_off1 i) S1.size (k0_off1_inb i)).emb (Shape.Idx.first (numel1_S1.symm ▸ Nat.one_pos)))
      exact (Nat.mul_one _).le.trans this
    · show (0 + 1) * 1024 ≤ 1024; omega
    · show (0 + 1) * 256 ≤ 256; omega
  · intro a; fin_cases a
    · show (BitVec.toNat (exps m _) + 1) * 1 ≤ 256
      have := hr.2 ((Rect.unit (s := S1279) (k0_off1 i) S1.size (k0_off1_inb i)).emb (Shape.Idx.first (numel1_S1.symm ▸ Nat.one_pos)))
      exact (Nat.mul_one _).le.trans this
    · show (0 + 1) * 256 ≤ 256; omega
    · show (0 + 1) * 1024 ≤ 1024; omega

/-- The tables, admissible. -/
def adm : (pcfg0 (F := F)).Adm := ⟨tabs m, tabs_ok m hr⟩
/-- The pipeline at the tables. -/
abbrev cfgA : Pipeline.Cfg sig Λ₀ := cfg0 (F := F) (adm m hr)
/-- The program's pipelines at the tables. -/
abbrev pcs : Fin 1 → Pipeline.Cfg sig Λ₀ := Pipeline.pin (pcfgs (F := F)) fun _ => adm m hr

/-- A point's coordinates. -/
abbrev crd (t : Fin (cfgA m hr).N) : grid0.Coords := (cfgA m hr).grid.coords t

/-- A point's one coordinate is its number. -/
theorem pt_crd (t : Fin (cfgA m hr).N) : (pt (crd m hr t)).val = t.val := by
  have h := Pipeline.Grid.coords_val (G := grid0) t (0 : Fin 1) (S := 1) (B := 1279) (by decide) (by decide)
  have hN : (cfgA m hr).N = 1279 := N_0
  have := t.isLt
  exact h.trans (by rw [Nat.div_one]; exact Nat.mod_eq_of_lt (by omega))

/-- The result's window is stored at every point. -/
theorem idle3 (i : grid0.Coords) : (cfgA m hr).idle (3 : Fin 4) i = false := by
  show (!(k0_cond4 i (Pipeline.Prefetch.Contents.atD (tabs m) 1 ![0]) == 1#1) && !(k0_cond5 i (Pipeline.Prefetch.Contents.atD (tabs m) 1 ![0]) == 1#1)) = false
  generalize Pipeline.Prefetch.Contents.atD (tabs m) 1 ![0] = v
  by_cases h : k0_cond4 i v = 1#1
  · rw [h]; rfl
  · rw [(cond5_iff i v).mpr h]; simp

/-! ## The staging buffers and the blocks -/

/-- The staging buffer of the gate weights at a point. -/
abbrev ms0 (t : Fin (cfgA m hr).N) : Memref sig .tc .vmem S1x1024x256 .f32 := spec0_0.stage ((cfgA m hr).slots t (0 : Fin 4))
/-- It is a whole buffer. -/
abbrev hs0 (t : Fin (cfgA m hr).N) : (ms0 m hr t).IsWhole := hstage0_0 (((cfgA m hr).slots t (0 : Fin 4)).cast nbuf0_0)
/-- The staging buffer of the up weights at a point. -/
abbrev ms1 (t : Fin (cfgA m hr).N) : Memref sig .tc .vmem S1x1024x256 .f32 := spec0_1.stage ((cfgA m hr).slots t (1 : Fin 4))
/-- It is a whole buffer. -/
abbrev hs1 (t : Fin (cfgA m hr).N) : (ms1 m hr t).IsWhole := hstage0_1 (((cfgA m hr).slots t (1 : Fin 4)).cast nbuf0_1)
/-- The staging buffer of the down weights at a point. -/
abbrev ms2 (t : Fin (cfgA m hr).N) : Memref sig .tc .vmem S1x256x1024 .f32 := spec0_2.stage ((cfgA m hr).slots t (2 : Fin 4))
/-- It is a whole buffer. -/
abbrev hs2 (t : Fin (cfgA m hr).N) : (ms2 m hr t).IsWhole := hstage0_2 (((cfgA m hr).slots t (2 : Fin 4)).cast nbuf0_2)
/-- The staging buffer of the result at a point. -/
abbrev ms3 (t : Fin (cfgA m hr).N) : Memref sig .tc .vmem S128x1024 .f32 := spec0_3.stage ((cfgA m hr).slots t (3 : Fin 4))
/-- It is a whole buffer. -/
abbrev hs3 (t : Fin (cfgA m hr).N) : (ms3 m hr t).IsWhole := hstage0_3 (((cfgA m hr).slots t (3 : Fin 4)).cast nbuf0_3)

/-- A window's block at a point, read off its array at launch. -/
def iblk (c : Dev nD) (w : Fin (cfgA m hr).W) (t : Fin (cfgA m hr).N) : (((cfgA m hr).win w).xblock ((cfgA m hr).grid.coords t)).Idx → Elt F ((cfgA m hr).win w).elt :=
  (((cfgA m hr).win w).blk t).view.read (Elt F) ((s₀ m ρ).mem (((cfgA m hr).win w).arr.view.loc (c : Thread nD τ)))

/-- What a point leaves in the result's block. -/
def oblk (c : Dev nD) (t : Fin (cfgA m hr).N) : S128x1024.Idx → Elt F .f32 :=
  blockVal (toks m c) (xs m c) (crd m hr t) (used m (ix1 (0 : Fin 1))) (iblk m ρ hr c (0 : Fin 4) t) (iblk m ρ hr c (1 : Fin 4) t) (iblk m ρ hr c (2 : Fin 4) t)

/-- What holds before a point: the transfers' state and the tables. -/
def Phi (c : Dev nD) (n : ℕ) : sProp (MT nD τ sig Unit (Elt F) ℕ (Pipeline.UD sig nD τ) ℕ) :=
  iprop(St (toks m c) (xs m c) c n ∗ nuAt (used m) c ∗ (((c : Thread nD τ).loc main_arg2) ↦{fullShare.right} exps m))

/-- The pipeline's data on a core. -/
def dats (_ : Fin 1) (c : Dev nD) : Dat τ (Elt F) Unit ℕ (Pipeline.UD sig nD τ) ℕ (cfgA m hr) c where
  A w := (s₀ m ρ).mem (((cfgA m hr).win w).arr.view.loc (c : Thread nD τ))
  after w t := match w with
    | ⟨0, _⟩ => iblk m ρ hr c (0 : Fin 4) t
    | ⟨1, _⟩ => iblk m ρ hr c (1 : Fin 4) t
    | ⟨2, _⟩ => iblk m ρ hr c (2 : Fin 4) t
    | ⟨3, _⟩ => oblk m ρ hr c t
  Φ t := Phi m c t.val
  q _ := fullShare
  owed _ := 0

/-- The gate weights stay as fetched. -/
theorem after_0 (c : Dev nD) (t : Fin (cfgA m hr).N) : (dats m ρ hr 0 c).after (0 : Fin 4) t = iblk m ρ hr c (0 : Fin 4) t := rfl
/-- The up weights stay as fetched. -/
theorem after_1 (c : Dev nD) (t : Fin (cfgA m hr).N) : (dats m ρ hr 0 c).after (1 : Fin 4) t = iblk m ρ hr c (1 : Fin 4) t := rfl
/-- The down weights stay as fetched. -/
theorem after_2 (c : Dev nD) (t : Fin (cfgA m hr).N) : (dats m ρ hr 0 c).after (2 : Fin 4) t = iblk m ρ hr c (2 : Fin 4) t := rfl
/-- The result's block after a point is its value. -/
theorem after_3 (c : Dev nD) (t : Fin (cfgA m hr).N) : (dats m ρ hr 0 c).after (3 : Fin 4) t = oblk m ρ hr c t := rfl

/-- The gate weights a point finds. -/
theorem before_0 (c : Dev nD) (t : Fin (cfgA m hr).N) (d) : (dats m ρ hr 0 c).before (0 : Fin 4) t d = iblk m ρ hr c (0 : Fin 4) t :=
  ((dats m ρ hr 0 c).before_in_eq_fetched (0 : Fin 4) rfl (fun _ => rfl) (fun _ _ _ => rfl) (fun t => by rw [after_0]; unfold Dat.blockOf iblk; rfl) t d).trans
    (by unfold Dat.fetched Dat.blockOf iblk; rfl)
/-- The up weights a point finds. -/
theorem before_1 (c : Dev nD) (t : Fin (cfgA m hr).N) (d) : (dats m ρ hr 0 c).before (1 : Fin 4) t d = iblk m ρ hr c (1 : Fin 4) t :=
  ((dats m ρ hr 0 c).before_in_eq_fetched (1 : Fin 4) rfl (fun _ => rfl) (fun _ _ _ => rfl) (fun t => by rw [after_1]; unfold Dat.blockOf iblk; rfl) t d).trans
    (by unfold Dat.fetched Dat.blockOf iblk; rfl)
/-- The down weights a point finds. -/
theorem before_2 (c : Dev nD) (t : Fin (cfgA m hr).N) (d) : (dats m ρ hr 0 c).before (2 : Fin 4) t d = iblk m ρ hr c (2 : Fin 4) t :=
  ((dats m ρ hr 0 c).before_in_eq_fetched (2 : Fin 4) rfl (fun _ => rfl) (fun _ _ _ => rfl) (fun t => by rw [after_2]; unfold Dat.blockOf iblk; rfl) t d).trans
    (by unfold Dat.fetched Dat.blockOf iblk; rfl)

/-! ## The body at a point -/

/-- The kernel at a point on its staging buffers. -/
abbrev bodyAt (t : Fin (cfgA m hr).N) : Prog (TpuEff nD τ sig (Elt F) Λ₀ .tc) PUnit :=
  cc0_moe_experts (crd m hr t) (Memref.whole main_arg2) (Memref.isWhole_whole _) (Memref.whole main_arg3) (Memref.isWhole_whole _) (Memref.whole main_arg1) (Memref.isWhole_whole _) (Memref.whole main_arg0) (Memref.isWhole_whole _)
    (ms0 m hr t) (hs0 m hr t) (ms1 m hr t) (hs1 m hr t) (ms2 m hr t) (hs2 m hr t) (ms3 m hr t) (hs3 m hr t) (Memref.whole cc0_scratch0) (Memref.isWhole_whole _) (Memref.whole cc0_scratch1) (Memref.isWhole_whole _) cc0_scratch2 cc0_scratch3

set_option maxHeartbeats 4000000 in
/-- The kernel at a point, from the windows' blocks to the result's block. -/
theorem sound_body (c : Dev nD) (t : Fin (cfgA m hr).N) :
    iprop((dats m ρ hr 0 c).Φ t.castSucc ∗ (dats m ρ hr 0 c).owesAt () t.castSucc
        ∗ (∃ d, owns (c : Thread nD τ) (ms0 m hr t) fullShare ((dats m ρ hr 0 c).before (0 : Fin 4) t d))
        ∗ (∃ d, owns (c : Thread nD τ) (ms1 m hr t) fullShare ((dats m ρ hr 0 c).before (1 : Fin 4) t d))
        ∗ (∃ d, owns (c : Thread nD τ) (ms2 m hr t) fullShare ((dats m ρ hr 0 c).before (2 : Fin 4) t d))
        ∗ (∃ d, owns (c : Thread nD τ) (ms3 m hr t) fullShare ((dats m ρ hr 0 c).before (3 : Fin 4) t d)))
      ⊢ wp frame (wpE (defs₀ (F := F)) Variants.none c none) Set.univ (bodyAt m hr t) fun _ =>
          iprop((dats m ρ hr 0 c).Φ t.succ ∗ (dats m ρ hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m ρ hr 0 c).before w t d))
                  | true => owns (c : Thread nD τ) (((cfgA m hr).win w).stage ((cfgA m hr).slots t w)) fullShare ((dats m ρ hr 0 c).after w t)
                | false => owns (c : Thread nD τ) (((cfgA m hr).win w).stage ((cfgA m hr).slots t w)) fullShare ((dats m ρ hr 0 c).after w t)) := by
  rw [bigSep_W0]
  rewrite [idle3 m hr]
  simp only [before_0, before_1, before_2, after_0, after_1, after_2, after_3]
  rewrite [show (dats m ρ hr 0 c).Φ t.succ = Phi m c (t.val + 1) from rfl, show (dats m ρ hr 0 c).Φ t.castSucc = Phi m c t.val from rfl]
  unfold Dat.owesAt Pipeline.owesWithin Phi
  rw [show (dats m ρ hr 0 c).owed t.castSucc = 0 from rfl, show (dats m ρ hr 0 c).owed t.succ = 0 from rfl, ← pt_crd m hr t]
  iintro ⟨⟨HS, HN, HT⟩, ⟨%W, -, HW⟩, ⟨%d0, H0⟩, ⟨%d1, H1⟩, ⟨%d2, H2⟩, ⟨%d3, H3⟩⟩
  iapply (body_wp (toks m c) (xs m c) (used m) c none (crd m hr t) (Memref.whole main_arg2) (Memref.isWhole_whole _) (Memref.isWhole_whole _) (Memref.isWhole_whole _) (Memref.isWhole_whole _)
    (ms0 m hr t) (hs0 m hr t) (ms1 m hr t) (hs1 m hr t) (ms2 m hr t) (hs2 m hr t) (ms3 m hr t) (hs3 m hr t) (Memref.isWhole_whole _) (Memref.isWhole_whole _) (hr.1 c)
    (iblk m ρ hr c (0 : Fin 4) t) (iblk m ρ hr c (1 : Fin 4) t) (iblk m ρ hr c (2 : Fin 4) t) _) $$ [HS HW HN H0 H1 H2 H3]
  · isplitl [HS]; · iexact HS
    isplitl [HW]; · iexists W; iexact HW
    isplitl [HN]; · iexact HN
    isplitl [H0]; · iexact H0
    isplitl [H1]; · iexact H1
    isplitl [H2]; · iexact H2
    iexists _; iexact H3
  iintro ⟨HS, ⟨%W', HW'⟩, HN, H0, H1, H2, H3⟩
  isplitl [HS HN HT]
  · isplitl [HS]; · iexact HS
    isplitl [HN]; · iexact HN
    iexact HT
  isplitl [HW']
  · iexists W'; isplitr; · ipureintro; exact fun _ _ => Or.inl trivial
    iexact HW'
  isplitl [H0]; · iexact H0
  isplitl [H1]; · iexact H1
  isplitl [H2]; · iexact H2
  iexact H3

/-- The pipeline's obligation, at every point. -/
theorem body_obligation (c : Dev nD) : BodyObligation (dats m ρ hr 0 c) (defs₀ (F := F)) Variants.none () Set.univ := fun t => by
  rw [bigSep_W0]
  exact sound_body m ρ hr c t

end Cert.Experts.Hand

end
-- ==== Proof.ExpRun.lean ====
/- The experts kernel run from launch to its end: every array's final contents, and the arguments unchanged. -/
module

public import proofs.«01_k».proof.Proof.ExpLaunch

@[expose] public section

set_option maxRecDepth 16384

noncomputable section

namespace Cert.Experts.Hand

open Cert.Experts Cert.Experts.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg) (hr : InRange m)

/-- The kernel's own four transfer semaphores. -/
abbrev osem0 : Fin 4 → SemLoc sig := fun j => (![SemLoc.dma 8, SemLoc.dma 9, SemLoc.dma 10, SemLoc.dma 11] : Fin 4 → SemLoc sig) j
/-- The kernel's own semaphores are none of the pipeline's. -/
theorem ownSemFacts0 : Pipeline.OwnSemFacts spec0 osem0 := by decide
/-- The kernel's own semaphores at zero, one by one. -/
theorem ownSems0_split (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem0 [0, 1, 2, 3] (by decide) (by decide)]; rfl

/-- The tables one by one. -/
theorem prefHeld_split (c : Dev nD) (q : Fin 2 → PosShare TreeShare) (v : pre0.Contents (Elt F)) :
    (Pipeline.prefHeld (Ix := Unit) (Name := ℕ) (U := Pipeline.UD sig nD τ) (Lvl := ℕ) pre0 c q v : sProp (MT nD τ sig Unit (Elt F) ℕ (Pipeline.UD sig nD τ) ℕ))
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The row buffer, slot by slot. -/
theorem slots_split (c : Dev nD) (f : S2x128x1024.Idx → Elt F .f32) :
    (((c : Thread nD τ).loc cc0_scratch1) ↦[Finset.univ]{fullShare} f : sProp (MT nD τ sig Unit (Elt F) ℕ (Pipeline.UD sig nD τ) ℕ))
      = iprop((((c : Thread nD τ).loc cc0_scratch1) ↦[slotSet 0]{fullShare} f) ∗ (((c : Thread nD τ).loc cc0_scratch1) ↦[slotSet 1]{fullShare} f)) := by
  have h : (((c : Thread nD τ).loc cc0_scratch1) ↦[Finset.univ.biUnion slotSet]{fullShare} f : sProp (MT nD τ sig Unit (Elt F) ℕ (Pipeline.UD sig nD τ) ℕ))
      = bigSep Finset.univ fun p => (((c : Thread nD τ).loc cc0_scratch1) ↦[slotSet p]{fullShare} f : sProp (MT nD τ sig Unit (Elt F) ℕ (Pipeline.UD sig nD τ) ℕ)) :=
    pointsTo_biUnion _ _ (fun t _ t' _ h => slotSet_disjoint t t' h)
  rw [slotSet_cover] at h
  exact h.trans (Ring.bigSep_fin2 _)
/-- The slots joined. -/
theorem slots_join (c : Dev nD) :
    (iprop((∃ f : S2x128x1024.Idx → Elt F .f32, ((c : Thread nD τ).loc cc0_scratch1) ↦[slotSet 0]{fullShare} f) ∗ (∃ f : S2x128x1024.Idx → Elt F .f32, ((c : Thread nD τ).loc cc0_scratch1) ↦[slotSet 1]{fullShare} f)) : sProp (MT nD τ sig Unit (Elt F) ℕ (Pipeline.UD sig nD τ) ℕ))
      ⊢ iprop(∃ f : S2x128x1024.Idx → Elt F .f32, ((c : Thread nD τ).loc cc0_scratch1) ↦[Finset.univ]{fullShare} f) := by
  iintro ⟨⟨%f, H0⟩, ⟨%g, H1⟩⟩
  have e : slotSet 0 ∪ slotSet 1 = (Finset.univ : Finset S2x128x1024.Idx) := by
    rw [← slotSet_cover]; ext y; simp [Finset.mem_biUnion, Fin.exists_fin_two]
  ihave H := (pointsTo_join (ℓ := ((c : Thread nD τ).loc cc0_scratch1)) (q := fullShare) (f := f) (g := g) (slotSet_disjoint 0 1 (by decide))) $$ [H0 H1]
  · isplitl [H0]; · iexact H0
    iexact H1
  ihave H' := (Entails.of_eq (by rw [e])) $$ H
  iexists _; iexact H'

/-- The word buffer, slot by slot. -/
theorem idx_split (c : Dev nD) (f : S2x128.Idx → Elt F .i32) :
    (((c : Thread nD τ).loc cc0_scratch0) ↦[Finset.univ]{fullShare} f : sProp (MT nD τ sig Unit (Elt F) ℕ (Pipeline.UD sig nD τ) ℕ))
      = iprop((((c : Thread nD τ).loc cc0_scratch0) ↦[idxSet 0]{fullShare} f) ∗ (((c : Thread nD τ).loc cc0_scratch0) ↦[idxSet 1]{fullShare} f)) := by
  have h : (((c : Thread nD τ).loc cc0_scratch0) ↦[Finset.univ.biUnion idxSet]{fullShare} f : sProp (MT nD τ sig Unit (Elt F) ℕ (Pipeline.UD sig nD τ) ℕ))
      = bigSep Finset.univ fun p => (((c : Thread nD τ).loc cc0_scratch0) ↦[idxSet p]{fullShare} f : sProp (MT nD τ sig Unit (Elt F) ℕ (Pipeline.UD sig nD τ) ℕ)) :=
    pointsTo_biUnion _ _ (fun t _ t' _ h => idxSet_disjoint t t' h)
  rw [idxSet_cover] at h
  exact h.trans (Ring.bigSep_fin2 _)
/-- The slots of words joined. -/
theorem idx_join (c : Dev nD) :
    (iprop((∃ f : S2x128.Idx → Elt F .i32, ((c : Thread nD τ).loc cc0_scratch0) ↦[idxSet 0]{fullShare} f) ∗ (∃ f : S2x128.Idx → Elt F .i32, ((c : Thread nD τ).loc cc0_scratch0) ↦[idxSet 1]{fullShare} f)) : sProp (MT nD τ sig Unit (Elt F) ℕ (Pipeline.UD sig nD τ) ℕ))
      ⊢ iprop(∃ f : S2x128.Idx → Elt F .i32, ((c : Thread nD τ).loc cc0_scratch0) ↦[Finset.univ]{fullShare} f) := by
  iintro ⟨⟨%f, H0⟩, ⟨%g, H1⟩⟩
  have e : idxSet 0 ∪ idxSet 1 = (Finset.univ : Finset S2x128.Idx) := by
    rw [← idxSet_cover]; ext y; simp [Finset.mem_biUnion, Fin.exists_fin_two]
  ihave H := (pointsTo_join (ℓ := ((c : Thread nD τ).loc cc0_scratch0)) (q := fullShare) (f := f) (g := g) (idxSet_disjoint 0 1 (by decide))) $$ [H0 H1]
  · isplitl [H0]; · iexact H0
    iexact H1
  ihave H' := (Entails.of_eq (by rw [e])) $$ H
  iexists _; iexact H'

/-- What the launch gives the pipeline. -/
def Given (c : Dev nD) : sProp (MT nD τ sig Unit (Elt F) ℕ (Pipeline.UD sig nD τ) ℕ) :=
  iprop(((((c : Thread nD τ).loc main_arg0) ↦[Finset.univ]{fullShare} xs m c) ∗ (((c : Thread nD τ).loc main_arg1) ↦[Finset.univ]{fullShare} toks m c))
    ∗ (semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0))

/-- The state before the first point. -/
theorem phi0_intro (c : Dev nD) :
    iprop(Given m c ∗ Pipeline.prefHeld pre0 c (fun _ => fullShare.right) (adm m hr).1 ∗ Pipeline.scopedRest spec0 c) ⊢ (dats m ρ hr 0 c).Φ 0 := by
  rw [prefHeld_split, scopedRest0_eq, show (dats m ρ hr 0 c).Φ 0 = Phi m c 0 from rfl]
  unfold Phi St Given
  rw [if_neg (show ¬(0 < 0 ∧ 0 < 1279) from by omega)]
  unfold Idle SlotFree
  unfold semI0
  rw [semI_0, semI_1, semB_0, semB_1, show hs 0 = fullShare.left from rfl, show hs 1 = fullShare.right from rfl]
  iintro ⟨⟨⟨HX, HT⟩, H8, H9, H10, H11⟩, ⟨HA, HN⟩, ⟨%f, HB⟩, ⟨%g, HI⟩⟩
  ihave HX' := ((pointsTo_share (PosShare.mem_left_op_right fullShare)).1) $$ HX
  icases HX' with ⟨HXl, HXr⟩
  ihave HB' := (Entails.of_eq (slots_split c f)) $$ HB
  icases HB' with ⟨HB0, HB1⟩
  ihave HI' := (Entails.of_eq (idx_split c g)) $$ HI
  icases HI' with ⟨HI0, HI1⟩
  isplitl [HXl HXr HB0 HB1 HI0 HI1 HT H8 H9 H10 H11]
  · isplitl [HXl HB0 H10]
    · isplitl [HB0]; · iexists f; iexact HB0
      isplitl [HXl]; · iexact HXl
      iexact H10
    isplitl [HXr HB1 H11]
    · isplitl [HB1]; · iexists f; iexact HB1
      isplitl [HXr]; · iexact HXr
      iexact H11
    isplitl [HI0]; · iexists g; iexact HI0
    isplitl [HI1]; · iexists g; iexact HI1
    isplitl [HT]; · iexact HT
    isplitl [H8]; · iexact H8
    iexact H9
  isplitl [HN]; · iexact HN
  iexact HA

/-- What is kept of the arguments the kernel itself reads. -/
def Kept (c : Dev nD) : sProp (MT nD τ sig Unit (Elt F) ℕ (Pipeline.UD sig nD τ) ℕ) :=
  iprop((((c : Thread nD τ).loc main_arg0) ↦[Finset.univ]{fullShare} xs m c) ∗ (((c : Thread nD τ).loc main_arg1) ↦[Finset.univ]{fullShare} toks m c))

/-- The state after the last point gives everything back. -/
theorem phiN_exit (c : Dev nD) : (dats m ρ hr 0 c).Φ (Fin.last (cfgA m hr).N) ⊢ iprop(Kept m c ∗ Pipeline.ownSems0 osem0 c ∗ Pipeline.scopedRest spec0 c) := by
  rw [scopedRest0_eq, ownSems0_split, show (dats m ρ hr 0 c).Φ (Fin.last (cfgA m hr).N) = Phi m c (cfgA m hr).N from rfl, show (cfgA m hr).N = 1279 from N_0]
  unfold Phi St Kept
  rw [if_neg (show ¬(0 < 1279 ∧ 1279 < 1279) from by omega)]
  unfold Idle SlotFree
  unfold semI0
  rw [semI_0, semI_1, semB_0, semB_1, show hs 0 = fullShare.left from rfl, show hs 1 = fullShare.right from rfl]
  iintro ⟨⟨⟨HB0, HXl, H10⟩, ⟨HB1, HXr, H11⟩, HI0, HI1, HT, H8, H9⟩, -, -⟩
  ihave HX := ((pointsTo_share (PosShare.mem_left_op_right fullShare)).2) $$ [HXl HXr]
  · isplitl [HXl]; · iexact HXl
    iexact HXr
  ihave HB := (slots_join c) $$ [HB0 HB1]
  · isplitl [HB0]; · iexact HB0
    iexact HB1
  ihave HI := (idx_join c) $$ [HI0 HI1]
  · isplitl [HI0]; · iexact HI0
    iexact HI1
  isplitl [HX HT]
  · isplitl [HX]; · iexact HX
    iexact HT
  isplitl [H8 H9 H10 H11]
  · isplitl [H8]; · iexact H8
    isplitl [H9]; · iexact H9
    isplitl [H10]; · iexact H10
    iexact H11
  isplitl [HB]; · iexact HB
  iexact HI

/-- The resources at launch. -/
def u₀ : Pipeline.UD sig nD τ :=
  (initOf (Pipeline.cells (pcs m hr) ((launch0 (F := F)).cellOf_inj fun _ => adm m hr))
    (Pipeline.launchToks (pcs m hr) ((launch0 (F := F)).cellOf_inj fun _ => adm m hr)), 1)

/-- Every window's array is held whole. -/
theorem share_eq (c : Dev nD) (w : Fin (cfgA m hr).W) : (dats m ρ hr 0 c).share w = fullShare := by unfold Dat.share; split <;> rfl

/-- The tables are as the arguments were. -/
theorem V_pre (c : Dev nD) (j : Fin 2) : m ((c : Thread nD τ).loc (pre0.ref j)) = (adm m hr).1 j := by
  obtain rfl : c = 0 := Subsingleton.elim _ _
  rfl

/-- Every array at its final contents, every table and the arguments the kernel reads itself as they were. -/
def QC : PUnit × MemSt nD τ sig (Elt F) → Prop := fun r =>
  ∀ c : Dev nD, (∀ w : Fin (cfgA m hr).W, r.2.mem (((cfgA m hr).win w).arr.view.loc (c : Thread nD τ)) = (dats m ρ hr 0 c).arrAt w (cfgA m hr).N)
    ∧ (∀ j, r.2.mem ((c : Thread nD τ).loc (pre0.ref j)) = (adm m hr).1 j)
    ∧ (r.2.mem ((c : Thread nD τ).loc main_arg0) = m ((c : Thread nD τ).loc main_arg0) ∧ r.2.mem ((c : Thread nD τ).loc main_arg1) = m ((c : Thread nD τ).loc main_arg1))

set_option backward.isDefEq.respectTransparency.types false in
set_option maxHeartbeats 4000000 in
/-- The kernel runs, faults nowhere, and ends with every semaphore at zero. -/
theorem run_main : θ_run (defs (F := F)) (onTc (τ := τ) (main (F := F))) (s₀ m ρ) (fun r => QC m ρ hr r ∧ r.2.sem = fun _ => 0) :=
  Pipeline.θ_run_region_pf_quiescent pcfgs (fun _ => adm m hr) (dats m ρ hr) () ((launch0 (F := F)).cellOf_inj fun _ => adm m hr) (0 : Fin 1)
    (launch0 (F := F)).win.to₀ ownSemFacts0 (launch0 (F := F)).pre embL defs₀ Variants.none m ρ main
    (hbody := fun c => (body_obligation m ρ hr c).loose) (hne := (launch0 (F := F)).block_pos)
    (harr := (launch0 (F := F)).arr_whole) (hstage := (launch0 (F := F)).stage_whole) (howed := fun _ _ => rfl)
    (G := fun _ => iprop(emp)) (u₀ := u₀ m hr)
    (hu₀ := by
      iintro Hu
      ihave H' := (ownU_pair _ _) $$ Hu
      icases H' with ⟨HP, -⟩
      imodintro
      isplitl [HP]; · iexact HP
      iapply (show (BI.emp : sProp (MT nD τ sig Unit (Elt F) ℕ (Pipeline.UD sig nD τ) ℕ)) ⊢ bigSep Finset.univ (fun _ : Dev nD => (BI.emp : sProp (MT nD τ sig Unit (Elt F) ℕ (Pipeline.UD sig nD τ) ℕ))) from by rw [BI.bigSep_emp_const])
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m ρ hr) 0 (launch0 (F := F)).win.arr_inj c (launch0 (F := F)).arr_whole
      (share_eq m ρ hr c) _ _ fun _ => rfl)
    (hpf := V_pre m hr)
    (X := Given m) (Y := Kept m) (Z := fun _ => iprop(emp))
    (hX := fun c => by
      rw [unscopedRestP0_eq, ownSems0_split]; unfold Given
      iintro ⟨HU, Ho, -⟩; imodintro
      isplitl [HU Ho]
      · isplitl [HU]; · iexact HU
        iexact Ho
      iempintro)
    (hin := phi0_intro m ρ hr)
    (hout := phiN_exit m ρ hr)
    (QY := fun c s => s.mem ((c : Thread nD τ).loc main_arg0) = m ((c : Thread nD τ).loc main_arg0) ∧ s.mem ((c : Thread nD τ).loc main_arg1) = m ((c : Thread nD τ).loc main_arg1))
    (hY := fun c s' => by
      unfold Kept
      iintro ⟨⟨HX, HT⟩, -, HSI⟩
      icombine HSI HX gives %h0
      icombine HSI HT gives %h1
      imodintro
      isplitr
      · ipureintro; exact ⟨funext fun i => h0 i (Finset.mem_univ i), funext fun i => h1 i (Finset.mem_univ i)⟩
      iexact HSI)
    (hQ := fun _ h hz => ⟨fun c => ⟨(h c).1, (h c).2.1, (h c).2.2⟩, hz⟩)

include hr in
/-- The kernel runs and leaves its arguments as they were. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2.2.1, (h.1 c).2.2.2, ((h.1 c).2.1 0).trans (V_pre m hr c 0).symm, ((h.1 c).2.1 1).trans (V_pre m hr c 1).symm,
    ((h.1 c).1 (0 : Fin 4)).trans ((dats m ρ hr 0 c).arrAt_in (0 : Fin 4) rfl _), ((h.1 c).1 (1 : Fin 4)).trans ((dats m ρ hr 0 c).arrAt_in (1 : Fin 4) rfl _),
    ((h.1 c).1 (2 : Fin 4)).trans ((dats m ρ hr 0 c).arrAt_in (2 : Fin 4) rfl _)⟩, h.2⟩) (run_main m ρ hr)

end Cert.Experts.Hand

end
-- ==== Proof.ExpiRun.lean ====
/- The idealized experts kernel's run: it is the same program, so the run is the kernel's over the extended reals. -/
module

public import proofs.«01_k».proof.Proof.ExpRun
public import proofs.«01_k».proof.Proof.Gen.ExpertsIdeal

@[expose] public section

set_option maxRecDepth 65536

noncomputable section

namespace Cert.Proof.Exp

open Idealize.ShloMosaic Idealize.ShloMosaic.TcCoe Idealize.SL.Sem

variable {F : FTy → Type} [FloatOps F]

/-- The two programs' bodies are the same. -/
theorem body_same : (Cert.ExpertsIdeal.defs₀ (F := F)) = (Cert.Experts.defs₀ (F := F)) := by
  unfold Cert.ExpertsIdeal.defs₀ Cert.Experts.defs₀
  refine congrArg Defs.onTc (funext fun l => funext fun a => ?_)
  match l, a with
  | 0, (t, s) => rfl
  | ⟨_ + 1, h⟩, _ => exact absurd h (Nat.not_lt.2 (Nat.le_add_left _ _))

/-- The two programs are the same. -/
theorem defs_same : (Cert.ExpertsIdeal.defs (F := F)) = (Cert.Experts.defs (F := F)) := by
  unfold Cert.ExpertsIdeal.defs Cert.Experts.defs
  exact congrArg (Pipeline.defs _) body_same

end Cert.Proof.Exp

end
-- ==== Proof.ExpBlock.lean ====
/- The experts kernel's block read at an index: one row of tokens through the gate, the up and the down weights. -/
module

public import proofs.«01_k».proof.Proof.ExpRun
public import Idealize.ShloMosaic.Lib.Pointwise
public import Idealize.ShloMosaic.Lib.Pipeline.ValueKit

@[expose] public section

set_option maxRecDepth 16384

noncomputable section

namespace Cert.Proof.Exp

open Idealize.ShloMosaic Idealize.ShloMosaic.TcCoe

/-- The gate's activation: a number times its logistic. -/
def silu (g : EReal) : EReal :=
  g * Ideal.div 1 (1 + Ideal.exp (-g))

/-- One lane of an expert's answer to a row: the activated gate times the up product, summed against the down weights. -/
def expert (x : Fin 1024 → EReal) (wg wu : Fin 1024 → Fin 256 → EReal) (wd : Fin 256 → Fin 1024 → EReal) (n : Fin 1024) : EReal :=
  ∑ f : Fin 256, silu (∑ d, x d * wg d f) * (∑ d, x d * wu d f) * wd f n

section Kernel
open Cert.Experts Cert.Experts.Gen

/-- What a used block's body stores, at an index. -/
theorem pay1_apply (x : FVec Ideal S1x128x1024 .f32) (wg wu : FVec Ideal S1x1024x256 .f32) (wd : FVec Ideal S1x256x1024 .f32) (t : Fin 128) (n : Fin 1024) :
    k0_pay1 (F := Ideal) x wg wu wd (ix2 t n)
      = expert (fun d => x (ix3 0 t d)) (fun d f => wg (ix3 0 d f)) (fun d f => wu (ix3 0 d f)) (fun f y => wd (ix3 0 f y)) n := by
  pointwise [k0_pay1]
  simp only [expert, silu, zero_sub]

/-- What an unused block's body stores. -/
theorem pay2_apply (t : Fin 128) (n : Fin 1024) : k0_pay2 (F := Ideal) (ix2 t n) = (0 : EReal) := by
  pointwise [k0_pay2]

end Kernel

end Cert.Proof.Exp

end
-- ==== Proof.ExpArr.lean ====
/- The result array of the experts kernel read at an index: its row's block, and the block's weights and tokens. -/
module

public import proofs.«01_k».proof.Proof.ExpBlock

@[expose] public section

set_option maxRecDepth 16384

noncomputable section

namespace Cert.Proof.Exp

open Idealize.ShloMosaic Idealize.ShloMosaic.TcCoe
open Cert.Experts Cert.Experts.Gen Cert.Experts.Hand

variable (m : (ℓ : Loc nD τ sig) → Buf (Elt Ideal) ℓ) (ρ : Dev nD → PrngReg) (hr : InRange m) (c : Dev nD)

/-- The table's entry a point's weights are found by. -/
theorem entry_eq (i : grid0.Coords) :
    (Rect.unit (s := S1279) (k0_off1 i) S1.size (k0_off1_inb i)).emb (Shape.Idx.first (numel1_S1.symm ▸ Nat.one_pos)) = ix1 (pt i) := by
  have hi : (i 0).val < 1279 := (i 0).isLt
  funext a; refine Fin.ext ?_
  match a with
  | ⟨0, _⟩ =>
    show (BitVec.ofNat 32 (i 0).val).toNat + 1 * 0 = (i 0).val
    rw [BitVec.toNat_ofNat, Nat.mod_eq_of_lt (by omega)]
    omega

/-- A point's gate weights are those of its block's expert. -/
theorem iblk0_apply (t : Fin (cfgA m hr).N) (d : Fin 1024) (f : Fin 256) :
    iblk m ρ hr c (0 : Fin 4) t (ix3 0 d f) = m ((c : Thread nD τ).loc main_arg4) (ix3 ⟨(exps m (ix1 (pt (crd m hr t)))).toNat, hr.2 _⟩ d f) := by
  show m ((c : Thread nD τ).loc main_arg4) ((((cfgA m hr).win (0 : Fin 4)).blk t).view.emb (ix3 0 d f)) = _
  congr 1
  funext a; refine Fin.ext ?_
  match a with
  | ⟨0, _⟩ =>
    show (exps m ((Rect.unit (s := S1279) (k0_off1 (crd m hr t)) S1.size (k0_off1_inb (crd m hr t))).emb (Shape.Idx.first (numel1_S1.symm ▸ Nat.one_pos)))).toNat * 1 + 1 * 0 = _
    rw [entry_eq]
    show _ * 1 + 1 * 0 = (exps m (ix1 (pt (crd m hr t)))).toNat
    omega
  | ⟨1, _⟩ => show 0 * 1024 + 1 * d.val = d.val; omega
  | ⟨2, _⟩ => show 0 * 256 + 1 * f.val = f.val; omega

/-- A point's up weights are those of its block's expert. -/
theorem iblk1_apply (t : Fin (cfgA m hr).N) (d : Fin 1024) (f : Fin 256) :
    iblk m ρ hr c (1 : Fin 4) t (ix3 0 d f) = m ((c : Thread nD τ).loc main_arg5) (ix3 ⟨(exps m (ix1 (pt (crd m hr t)))).toNat, hr.2 _⟩ d f) := by
  show m ((c : Thread nD τ).loc main_arg5) ((((cfgA m hr).win (1 : Fin 4)).blk t).view.emb (ix3 0 d f)) = _
  congr 1
  funext a; refine Fin.ext ?_
  match a with
  | ⟨0, _⟩ =>
    show (exps m ((Rect.unit (s := S1279) (k0_off1 (crd m hr t)) S1.size (k0_off1_inb (crd m hr t))).emb (Shape.Idx.first (numel1_S1.symm ▸ Nat.one_pos)))).toNat * 1 + 1 * 0 = _
    rw [entry_eq]
    show _ * 1 + 1 * 0 = (exps m (ix1 (pt (crd m hr t)))).toNat
    omega
  | ⟨1, _⟩ => show 0 * 1024 + 1 * d.val = d.val; omega
  | ⟨2, _⟩ => show 0 * 256 + 1 * f.val = f.val; omega

/-- A point's down weights are those of its block's expert. -/
theorem iblk2_apply (t : Fin (cfgA m hr).N) (f : Fin 256) (d : Fin 1024) :
    iblk m ρ hr c (2 : Fin 4) t (ix3 0 f d) = m ((c : Thread nD τ).loc main_arg6) (ix3 ⟨(exps m (ix1 (pt (crd m hr t)))).toNat, hr.2 _⟩ f d) := by
  show m ((c : Thread nD τ).loc main_arg6) ((((cfgA m hr).win (2 : Fin 4)).blk t).view.emb (ix3 0 f d)) = _
  congr 1
  funext a; refine Fin.ext ?_
  match a with
  | ⟨0, _⟩ =>
    show (exps m ((Rect.unit (s := S1279) (k0_off1 (crd m hr t)) S1.size (k0_off1_inb (crd m hr t))).emb (Shape.Idx.first (numel1_S1.symm ▸ Nat.one_pos)))).toNat * 1 + 1 * 0 = _
    rw [entry_eq]
    show _ * 1 + 1 * 0 = (exps m (ix1 (pt (crd m hr t)))).toNat
    omega
  | ⟨1, _⟩ => show 0 * 256 + 1 * f.val = f.val; omega
  | ⟨2, _⟩ => show 0 * 1024 + 1 * d.val = d.val; omega

/-- The result's block at a point is the point's number. -/
theorem index3 (t : Fin (cfgA m hr).N) : ((cfgA m hr).win (3 : Fin 4)).index t (0 : Fin 2) = t.val := by
  show (BitVec.ofNat 32 (pt (crd m hr t)).val).toNat = t.val
  rw [pt_crd, BitVec.toNat_ofNat]
  have := t.isLt; have hN : (cfgA m hr).N = 1279 := N_0
  exact Nat.mod_eq_of_lt (by omega)

/-- Every point writes its block of the result back. -/
theorem flush3 (t : Fin (cfgA m hr).N) : ((cfgA m hr).win (3 : Fin 4)).flush t = true := by
  have hout : ((cfgA m hr).win (3 : Fin 4)).isOut = true := rfl
  unfold Pipeline.Window.flush
  rw [hout, Bool.true_and, Bool.or_eq_true]
  by_cases h : t.val + 1 = (cfgA m hr).grid.N
  · exact Or.inl (decide_eq_true h)
  · refine Or.inr (decide_eq_true ⟨lt_of_le_of_ne (Nat.succ_le_of_lt t.isLt) h, fun e => ?_⟩)
    have e0 := congrFun e (0 : Fin 2)
    have h1 := index3 m hr ⟨t.val + 1, lt_of_le_of_ne (Nat.succ_le_of_lt t.isLt) h⟩
    have h2 := index3 m hr t
    have h3 : t.val + 1 = t.val := h1.symm.trans (e0.trans h2)
    omega

/-- Two points' blocks of the result share no index. -/
theorem disjoint3 : ∀ t t' : Fin (cfgA m hr).N, ((cfgA m hr).win (3 : Fin 4)).flush t = true → ((cfgA m hr).win (3 : Fin 4)).flush t' = true → t ≠ t' →
    Disjoint (((cfgA m hr).win (3 : Fin 4)).blk t).view.set (((cfgA m hr).win (3 : Fin 4)).blk t').view.set :=
  fun t t' _ _ hne => ((cfgA m hr).win (3 : Fin 4)).disjoint_blk fun h => hne (Fin.ext ((index3 m hr t).symm.trans ((congrFun h (0 : Fin 2)).trans (index3 m hr t'))))

/-- Where a point's block lies in the result. -/
theorem emb3 (t : Fin (cfgA m hr).N) (r : Fin 128) (n : Fin 1024) (i : Fin 163712) (hi : i.val = 128 * t.val + r.val) :
    (((cfgA m hr).win (3 : Fin 4)).blk t).view.emb (ix2 r n) = ix2 i n := by
  have h := index3 m hr t
  funext a; refine Fin.ext ?_
  match a with
  | ⟨0, _⟩ => show ((cfgA m hr).win (3 : Fin 4)).index t (0 : Fin 2) * 128 + 1 * r.val = i.val; omega
  | ⟨1, _⟩ => show 0 * 1024 + 1 * n.val = n.val; omega

/-- The result array at an index is its block's value there. -/
theorem arr_block (t : Fin (cfgA m hr).N) (r : Fin 128) (n : Fin 1024) (i : Fin 163712) (hi : i.val = 128 * t.val + r.val) :
    (dats m ρ hr 0 c).arrAt (3 : Fin 4) (cfgA m hr).N (ix2 i n) = oblk m ρ hr c t (ix2 r n) := by
  have b := (dats m ρ hr 0 c).arrAt_emb_eq_flushed (3 : Fin 4) (disjoint3 m hr) t (flush3 m hr t) (ix2 r n)
  rw [emb3 m hr t r n i hi] at b
  exact b

/-- The kernel's test of a block being in use is the comparison itself. -/
theorem cond4_iff (i : grid0.Coords) (v : BitVec 32) : k0_cond4 i v = 1#1 ↔ IntOp.cmpi .slt (BitVec.ofNat 32 (i 0).val) v = 1#1 := by
  have key : ∀ b : BitVec 1, Scalar.cmpi .ne (Scalar.extui b) (0#32 : BitVec 32) = 1#1 ↔ b = 1#1 := by decide
  exact key _

/-- The row of tokens the kernel multiplies by, where the token's number is in range. -/
theorem rows_at (T : S1279x128.Idx → BitVec 32) (X : S16384x1024.Idx → EReal) (b : Fin 1279) (r : Fin 128) (d : Fin 1024) (h : (T (ix2 b r)).toNat < 16384) :
    rows (F := Ideal) T X b (ix3 0 r d) = X (ix2 ⟨(T (ix2 b r)).toNat, h⟩ d) := by
  have e : tokN (F := Ideal) T b r = ⟨(T (ix2 b r)).toNat, h⟩ := dif_pos h
  exact congrArg (fun z => X (ix2 z d)) e

/-- The result array at an index. -/
theorem arr_apply (x0 : FVec Ideal S16384x1024 .f32) (x1 : IVec S1279x128 32) (x2 : IVec S1279 32) (x3 : IVec S1 32) (x4 x5 : FVec Ideal S256x1024x256 .f32) (x6 : FVec Ideal S256x256x1024 .f32)
    (e0 : xs m c = x0) (e1 : toks m c = x1) (e2 : exps m = x2) (e3 : used m = x3) (e4 : m ((c : Thread nD τ).loc main_arg4) = x4) (e5 : m ((c : Thread nD τ).loc main_arg5) = x5) (e6 : m ((c : Thread nD τ).loc main_arg6) = x6)
    (hx1 : ∀ b t, (x1 (ix2 b t)).toNat < 16384) (hx2 : ∀ b, (x2 (ix1 b)).toNat < 256)
    (b : Fin 1279) (r : Fin 128) (n : Fin 1024) (i : Fin 163712) (hi : i.val = 128 * b.val + r.val) :
    (dats m ρ hr 0 c).arrAt (3 : Fin 4) (cfgA m hr).N (ix2 i n)
      = Scalar.select (IntOp.cmpi .slt (BitVec.ofNat 32 b.val) (x3 (ix1 0)))
          (expert (fun d => x0 (ix2 ⟨(x1 (ix2 b r)).toNat, hx1 b r⟩ d)) (fun d f => x4 (ix3 ⟨(x2 (ix1 b)).toNat, hx2 b⟩ d f)) (fun d f => x5 (ix3 ⟨(x2 (ix1 b)).toNat, hx2 b⟩ d f))
          (fun f y => x6 (ix3 ⟨(x2 (ix1 b)).toNat, hx2 b⟩ f y)) n) (0 : EReal) := by
  subst e0 e1 e2 e3 e4 e5 e6
  obtain ⟨t, ht⟩ : ∃ t : Fin (cfgA m hr).N, t.val = b.val := ⟨⟨b.val, lt_of_lt_of_eq b.isLt N_0.symm⟩, rfl⟩
  obtain rfl : pt (crd m hr t) = b := Fin.ext ((pt_crd m hr t).trans ht)
  rw [arr_block m ρ hr c t r n i (by rw [hi, pt_crd])]
  by_cases h : k0_cond4 (crd m hr t) (used m (ix1 (0 : Fin 1))) = 1#1
  · have ob : oblk m ρ hr c t = k0_pay1 (F := Ideal) (rows (toks m c) (xs m c) (pt (crd m hr t))) (iblk m ρ hr c (0 : Fin 4) t) (iblk m ρ hr c (1 : Fin 4) t) (iblk m ρ hr c (2 : Fin 4) t) :=
      blockVal_pos _ _ _ _ _ _ _ h
    rw [ob, pay1_apply]
    have h' := (cond4_iff _ _).1 h
    have hs : ∀ u v : EReal, Scalar.select (IntOp.cmpi .slt (BitVec.ofNat 32 (pt (crd m hr t)).val) (used m (ix1 0))) u v = u := fun u v => by
      rw [h']; rfl
    rw [hs]
    have g0 := fun d => rows_at (toks m c) (xs m c) (pt (crd m hr t)) r d (hx1 _ r)
    have g1 := fun d f => iblk0_apply m ρ hr c t d f
    have g2 := fun d f => iblk1_apply m ρ hr c t d f
    have g3 := fun d f => iblk2_apply m ρ hr c t d f
    simp only [g0, g1, g2, g3]
  · have ob : oblk m ρ hr c t = k0_pay2 (F := Ideal) := blockVal_neg _ _ _ _ _ _ _ h
    rw [ob, pay2_apply]
    have h' := fun e => h ((cond4_iff _ _).2 e)
    exact (if_neg h').symm

end Cert.Proof.Exp

end
-- ==== Proof.ExpRef.lean ====
/- The experts' reference read at an index: the token's row through the weights of the block's expert, or zero past the used blocks. -/
module

public import proofs.«01_k».proof.Proof.ExpBlock
public import proofs.«01_k».proof.Proof.Gen.ExpertsRefIdeal.Run
public import proofs.«01_k».proof.Proof.Gen.ExpertsRefIdeal.Read

@[expose] public section

set_option maxRecDepth 16384

noncomputable section

namespace Cert.Proof.Exp

open Idealize.ShloMosaic Idealize.ShloMosaic.TcCoe

/-- A word naming a number below a positive bound is not negative, so it is kept where negatives are wrapped, and it is the number clamped. -/
theorem keep_word (v k : BitVec 32) (h : v.toNat < 2 ^ 31) : Scalar.select (IntOp.cmpi .slt v 0#32) (IntOp.addi v k) v = v := by
  have e : IntOp.cmpi .slt v 0#32 = 0#1 := by
    unfold IntOp.cmpi
    simp only [BitVec.slt, BitVec.toInt_eq_toNat_of_lt (show 2 * v.toNat < 2 ^ 32 by omega)]
    simp
    rfl
  rw [e]; rfl

/-- A word naming a number below a bound, clamped below it, is that number. -/
theorem clamp_word (v : BitVec 32) (n : ℕ) (hn : n ≤ 2 ^ 31) (h : v.toNat < n) : min v.toInt.toNat (n - 1) = v.toNat := by
  rw [BitVec.toInt_eq_toNat_of_lt (show 2 * v.toNat < 2 ^ 32 by omega)]
  have : ((v.toNat : ℤ)).toNat = v.toNat := Int.toNat_natCast _
  rw [this]; omega

section Reference
open Cert.ExpertsRefIdeal Cert.ExpertsRefIdeal.Gen

/-- The gathered rows: a result's row is the operand's row that its word names. -/
theorem rows_apply (x : FVec Ideal S16384x1024 .f32) (idx : IVec S1279x128x1 32) (b : Fin 1279) (t : Fin 128) (n : Fin 1024) (h : (idx (ix3 b t 0)).toNat < 16384) :
    Host.gather gather_S16384x1024_S1279x128x1_S1279x128x1024_2_0_n_n_0_2_11024 x idx (ix3 b t n) = x (ix2 ⟨(idx (ix3 b t 0)).toNat, h⟩ n) := by
  unfold Host.gather
  congr 1
  funext a
  refine Fin.ext ?_
  show GatherDims.start _ _ idx a + GatherDims.batchCoord _ _ a + GatherDims.offCoord _ _ a = _
  match a with
  | ⟨0, _⟩ =>
    rw [GatherDims.batchCoord_eq_zero _ _ _ (fun h => by simp [gather_S16384x1024_S1279x128x1_S1279x128x1024_2_0_n_n_0_2_11024] at h),
      GatherDims.offCoord_eq_zero _ _ _ (fun h => ((GatherDims.mem_sKept _ _).mp h).1 (List.mem_singleton.mpr rfl))]
    simp only [Nat.add_zero]
    have hsi : ∀ c, GatherDims.siIdx gather_S16384x1024_S1279x128x1_S1279x128x1024_2_0_n_n_0_2_11024 (ix3 b t n) c = ix3 b t 0 := by
      intro c
      funext e; refine Fin.ext ?_
      match e with
      | ⟨0, _⟩ => rfl
      | ⟨1, _⟩ => rfl
      | ⟨2, _⟩ => show c.val = 0; have := c.isLt; exact Nat.lt_one_iff.1 this
    refine Eq.trans ?_ (clamp_word (idx (ix3 b t 0)) 16384 (by norm_num) h)
    show GatherDims.start gather_S16384x1024_S1279x128x1_S1279x128x1024_2_0_n_n_0_2_11024 (ix3 b t n) idx (0 : Fin 2) = _
    unfold GatherDims.start
    rw [dif_pos (by decide), hsi]
    rfl
  | ⟨1, _⟩ =>
    rw [GatherDims.batchCoord_eq_zero _ _ _ (fun h => by simp [gather_S16384x1024_S1279x128x1_S1279x128x1024_2_0_n_n_0_2_11024] at h)]
    have h0 : GatherDims.start gather_S16384x1024_S1279x128x1_S1279x128x1024_2_0_n_n_0_2_11024 (ix3 b t n) idx (1 : Fin 2) = 0 := by
      unfold GatherDims.start; rw [dif_neg (by decide)]
    have h1 : GatherDims.offCoord gather_S16384x1024_S1279x128x1_S1279x128x1024_2_0_n_n_0_2_11024 (ix3 b t n) (1 : Fin 2) = n.val := by
      unfold GatherDims.offCoord; rw [dif_pos (by decide)]; rfl
    refine (congrArg₂ (fun p q => p + 0 + q) h0 h1).trans ?_
    show 0 + 0 + n.val = n.val
    omega

/-- The gathered gate or up weights: a block's weights are those of the expert its word names. -/
theorem wide_apply (x : FVec Ideal S256x1024x256 .f32) (idx : IVec S1279x1 32) (b : Fin 1279) (d : Fin 1024) (f : Fin 256) (h : (idx (ix2 b 0)).toNat < 256) :
    Host.gather gather_S256x1024x256_S1279x1_S1279x1024x256_12_0_n_n_0_1_11024256 x idx (ix3 b d f) = x (ix3 ⟨(idx (ix2 b 0)).toNat, h⟩ d f) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S256x1024x256_S1279x1_S1279x1024x256_12_0_n_n_0_1_11024256] at h)]
  match a with
  | ⟨0, _⟩ =>
    rw [GatherDims.offCoord_eq_zero _ _ _ (fun h => ((GatherDims.mem_sKept _ _).mp h).1 (List.mem_singleton.mpr rfl))]
    simp only [Nat.add_zero]
    have hsi : ∀ c, GatherDims.siIdx gather_S256x1024x256_S1279x1_S1279x1024x256_12_0_n_n_0_1_11024256 (ix3 b d f) c = ix2 b 0 := by
      intro c
      funext e; refine Fin.ext ?_
      match e with
      | ⟨0, _⟩ => rfl
      | ⟨1, _⟩ => show c.val = 0; have := c.isLt; exact Nat.lt_one_iff.1 this
    refine Eq.trans ?_ (clamp_word (idx (ix2 b 0)) 256 (by norm_num) h)
    show GatherDims.start gather_S256x1024x256_S1279x1_S1279x1024x256_12_0_n_n_0_1_11024256 (ix3 b d f) idx (0 : Fin 3) = _
    unfold GatherDims.start
    rw [dif_pos (by decide), hsi]
    rfl
  | ⟨1, _⟩ =>
    have h0 : GatherDims.start gather_S256x1024x256_S1279x1_S1279x1024x256_12_0_n_n_0_1_11024256 (ix3 b d f) idx (1 : Fin 3) = 0 := by
      unfold GatherDims.start; rw [dif_neg (by decide)]
    have h1 : GatherDims.offCoord gather_S256x1024x256_S1279x1_S1279x1024x256_12_0_n_n_0_1_11024256 (ix3 b d f) (1 : Fin 3) = d.val := by
      unfold GatherDims.offCoord; rw [dif_pos (by decide)]; rfl
    refine (congrArg₂ (fun p q => p + 0 + q) h0 h1).trans ?_
    show 0 + 0 + d.val = d.val
    omega
  | ⟨2, _⟩ =>
    have h0 : GatherDims.start gather_S256x1024x256_S1279x1_S1279x1024x256_12_0_n_n_0_1_11024256 (ix3 b d f) idx (2 : Fin 3) = 0 := by
      unfold GatherDims.start; rw [dif_neg (by decide)]
    have h1 : GatherDims.offCoord gather_S256x1024x256_S1279x1_S1279x1024x256_12_0_n_n_0_1_11024256 (ix3 b d f) (2 : Fin 3) = f.val := by
      unfold GatherDims.offCoord; rw [dif_pos (by decide)]; rfl
    refine (congrArg₂ (fun p q => p + 0 + q) h0 h1).trans ?_
    show 0 + 0 + f.val = f.val
    omega

/-- The gathered down weights: a block's weights are those of the expert its word names. -/
theorem tall_apply (x : FVec Ideal S256x256x1024 .f32) (idx : IVec S1279x1 32) (b : Fin 1279) (f : Fin 256) (d : Fin 1024) (h : (idx (ix2 b 0)).toNat < 256) :
    Host.gather gather_S256x256x1024_S1279x1_S1279x256x1024_12_0_n_n_0_1_12561024 x idx (ix3 b f d) = x (ix3 ⟨(idx (ix2 b 0)).toNat, h⟩ f d) := by
  unfold Host.gather
  congr 1
  funext a
  refine Fin.ext ?_
  show GatherDims.start _ _ idx a + GatherDims.batchCoord _ _ a + GatherDims.offCoord _ _ a = _
  rw [GatherDims.batchCoord_eq_zero _ _ _ (fun h => by simp [gather_S256x256x1024_S1279x1_S1279x256x1024_12_0_n_n_0_1_12561024] at h)]
  match a with
  | ⟨0, _⟩ =>
    rw [GatherDims.offCoord_eq_zero _ _ _ (fun h => ((GatherDims.mem_sKept _ _).mp h).1 (List.mem_singleton.mpr rfl))]
    simp only [Nat.add_zero]
    have hsi : ∀ c, GatherDims.siIdx gather_S256x256x1024_S1279x1_S1279x256x1024_12_0_n_n_0_1_12561024 (ix3 b f d) c = ix2 b 0 := by
      intro c
      funext e; refine Fin.ext ?_
      match e with
      | ⟨0, _⟩ => rfl
      | ⟨1, _⟩ => show c.val = 0; have := c.isLt; exact Nat.lt_one_iff.1 this
    refine Eq.trans ?_ (clamp_word (idx (ix2 b 0)) 256 (by norm_num) h)
    show GatherDims.start gather_S256x256x1024_S1279x1_S1279x256x1024_12_0_n_n_0_1_12561024 (ix3 b f d) idx (0 : Fin 3) = _
    unfold GatherDims.start
    rw [dif_pos (by decide), hsi]
    rfl
  | ⟨1, _⟩ =>
    have h0 : GatherDims.start gather_S256x256x1024_S1279x1_S1279x256x1024_12_0_n_n_0_1_12561024 (ix3 b f d) idx (1 : Fin 3) = 0 := by
      unfold GatherDims.start; rw [dif_neg (by decide)]
    have h1 : GatherDims.offCoord gather_S256x256x1024_S1279x1_S1279x256x1024_12_0_n_n_0_1_12561024 (ix3 b f d) (1 : Fin 3) = f.val := by
      unfold GatherDims.offCoord; rw [dif_pos (by decide)]; rfl
    refine (congrArg₂ (fun p q => p + 0 + q) h0 h1).trans ?_
    show 0 + 0 + f.val = f.val
    omega
  | ⟨2, _⟩ =>
    have h0 : GatherDims.start gather_S256x256x1024_S1279x1_S1279x256x1024_12_0_n_n_0_1_12561024 (ix3 b f d) idx (2 : Fin 3) = 0 := by
      unfold GatherDims.start; rw [dif_neg (by decide)]
    have h1 : GatherDims.offCoord gather_S256x256x1024_S1279x1_S1279x256x1024_12_0_n_n_0_1_12561024 (ix3 b f d) (2 : Fin 3) = d.val := by
      unfold GatherDims.offCoord; rw [dif_pos (by decide)]; rfl
    refine (congrArg₂ (fun p q => p + 0 + q) h0 h1).trans ?_
    show 0 + 0 + d.val = d.val
    omega

variable (x0 : FVec Ideal S16384x1024 .f32) (x1 : IVec S1279x128 32) (x2 : IVec S1279 32) (x3 : IVec S1 32) (x4 x5 : FVec Ideal S256x1024x256 .f32) (x6 : FVec Ideal S256x256x1024 .f32)
variable (hx1 : ∀ b t, (x1 (ix2 b t)).toNat < 16384) (hx2 : ∀ b, (x2 (ix1 b)).toNat < 256)

/-- The words the rows are gathered at are the argument's. -/
theorem v5_apply (b : Fin 1279) (t : Fin 128) (h : (x1 (ix2 b t)).toNat < 16384) : Read.val_main_v5 (F := Ideal) x1 (ix3 b t 0) = x1 (ix2 b t) := by
  refine Eq.trans ?_ (keep_word (x1 (ix2 b t)) 16384#32 (by omega))
  pointwise [Read.val_main_v5, Read.val_main_v4, Read.val_main_v3, Read.val_main_v2, Read.val_main_v1, Read.val_main_v0, Read.val_main_c, Read.val_main_c_0]

/-- The words the gate weights are gathered at are the argument's. -/
theorem v13_apply (b : Fin 1279) (h : (x2 (ix1 b)).toNat < 256) : Read.val_main_v13 (F := Ideal) x2 (ix2 b 0) = x2 (ix1 b) := by
  refine Eq.trans ?_ (keep_word (x2 (ix1 b)) 256#32 (by omega))
  pointwise [Read.val_main_v13, Read.val_main_v12, Read.val_main_v11, Read.val_main_v10, Read.val_main_v9, Read.val_main_v8, Read.val_main_c_1, Read.val_main_c_2]

/-- The words the up weights are gathered at are the argument's. -/
theorem v22_apply (b : Fin 1279) (h : (x2 (ix1 b)).toNat < 256) : Read.val_main_v22 (F := Ideal) x2 (ix2 b 0) = x2 (ix1 b) := by
  refine Eq.trans ?_ (keep_word (x2 (ix1 b)) 256#32 (by omega))
  pointwise [Read.val_main_v22, Read.val_main_v21, Read.val_main_v20, Read.val_main_v19, Read.val_main_v18, Read.val_main_v17, Read.val_main_c_3, Read.val_main_c_4]

/-- The words the down weights are gathered at are the argument's. -/
theorem v34_apply (b : Fin 1279) (h : (x2 (ix1 b)).toNat < 256) : Read.val_main_v34 (F := Ideal) x2 (ix2 b 0) = x2 (ix1 b) := by
  refine Eq.trans ?_ (keep_word (x2 (ix1 b)) 256#32 (by omega))
  pointwise [Read.val_main_v34, Read.val_main_v33, Read.val_main_v32, Read.val_main_v31, Read.val_main_v30, Read.val_main_v29, Read.val_main_c_5, Read.val_main_c_6]

/-- The rows the reference multiplies. -/
theorem v6_apply (b : Fin 1279) (t : Fin 128) (n : Fin 1024) :
    Read.val_main_v6 (F := Ideal) x0 x1 (ix3 b t n) = x0 (ix2 ⟨(x1 (ix2 b t)).toNat, hx1 b t⟩ n) := by
  have e := v5_apply x1 b t (hx1 b t)
  refine (rows_apply x0 (Read.val_main_v5 (F := Ideal) x1) b t n (by rw [e]; exact hx1 b t)).trans ?_
  congr 2; exact Fin.ext (congrArg BitVec.toNat e)

/-- The gate weights the reference multiplies by. -/
theorem v14_apply (b : Fin 1279) (d : Fin 1024) (f : Fin 256) :
    Read.val_main_v14 (F := Ideal) x2 x4 (ix3 b d f) = x4 (ix3 ⟨(x2 (ix1 b)).toNat, hx2 b⟩ d f) := by
  have e := v13_apply x2 b (hx2 b)
  refine (wide_apply x4 (Read.val_main_v13 (F := Ideal) x2) b d f (by rw [e]; exact hx2 b)).trans ?_
  congr 2; exact Fin.ext (congrArg BitVec.toNat e)

/-- The up weights the reference multiplies by. -/
theorem v23_apply (b : Fin 1279) (d : Fin 1024) (f : Fin 256) :
    Read.val_main_v23 (F := Ideal) x2 x5 (ix3 b d f) = x5 (ix3 ⟨(x2 (ix1 b)).toNat, hx2 b⟩ d f) := by
  have e := v22_apply x2 b (hx2 b)
  refine (wide_apply x5 (Read.val_main_v22 (F := Ideal) x2) b d f (by rw [e]; exact hx2 b)).trans ?_
  congr 2; exact Fin.ext (congrArg BitVec.toNat e)

/-- The down weights the reference multiplies by. -/
theorem v35_apply (b : Fin 1279) (f : Fin 256) (d : Fin 1024) :
    Read.val_main_v35 (F := Ideal) x2 x6 (ix3 b f d) = x6 (ix3 ⟨(x2 (ix1 b)).toNat, hx2 b⟩ f d) := by
  have e := v34_apply x2 b (hx2 b)
  refine (tall_apply x6 (Read.val_main_v34 (F := Ideal) x2) b f d (by rw [e]; exact hx2 b)).trans ?_
  congr 2; exact Fin.ext (congrArg BitVec.toNat e)

/-- The reference's product before the unused blocks are cleared. -/
theorem v37_apply (b : Fin 1279) (t : Fin 128) (n : Fin 1024) :
    Read.val_main_v37 (F := Ideal) x0 x1 x2 x4 x5 x6 (ix3 b t n)
      = expert (fun d => x0 (ix2 ⟨(x1 (ix2 b t)).toNat, hx1 b t⟩ d)) (fun d f => x4 (ix3 ⟨(x2 (ix1 b)).toNat, hx2 b⟩ d f)) (fun d f => x5 (ix3 ⟨(x2 (ix1 b)).toNat, hx2 b⟩ d f))
          (fun f y => x6 (ix3 ⟨(x2 (ix1 b)).toNat, hx2 b⟩ f y)) n := by
  pointwise [Read.val_main_v37, Read.val_main_v36, Read.val_main_v28, Read.val_main_v27, Read.val_main_v26, Read.val_main_call0_v5, Read.val_main_call0_v4, Read.val_main_call0_v3, Read.val_main_call0_v2, Read.val_main_call0_v1, Read.val_main_call0_v0,
    Read.val_main_call0_cst, Read.val_main_call0_cst_0, Read.val_main_v25, Read.val_main_v24, Read.val_main_v16, Read.val_main_v15, Read.val_main_v7]
  simp only [v6_apply x0 x1 hx1, v14_apply x2 x4 hx2, v23_apply x2 x5 hx2, v35_apply x2 x6 hx2]
  rfl

/-- The reference's result at an index. -/
theorem v44_apply (b : Fin 1279) (t : Fin 128) (n : Fin 1024) (i : Fin 163712) (hi : i.val = 128 * b.val + t.val) :
    Read.val_main_v44 (F := Ideal) x0 x1 x2 x3 x4 x5 x6 (ix2 i n)
      = Scalar.select (IntOp.cmpi .slt (BitVec.ofNat 32 b.val) (x3 (ix1 0)))
          (expert (fun d => x0 (ix2 ⟨(x1 (ix2 b t)).toNat, hx1 b t⟩ d)) (fun d f => x4 (ix3 ⟨(x2 (ix1 b)).toNat, hx2 b⟩ d f)) (fun d f => x5 (ix3 ⟨(x2 (ix1 b)).toNat, hx2 b⟩ d f))
          (fun f y => x6 (ix3 ⟨(x2 (ix1 b)).toNat, hx2 b⟩ f y)) n) (0 : EReal) := by
  rw [Read.val_main_v44_apply]
  have hix : Read.idx_main_v44 (ix2 i n) = ix3 b t n := by
    have hn := n.isLt; have ht := t.isLt; have hb := b.isLt
    funext a; refine Fin.ext ?_
    match a with
    | ⟨0, _⟩ => show (i.val * 1024 + n.val) / 131072 = b.val; omega
    | ⟨1, _⟩ => show (i.val * 1024 + n.val) / 1024 % 128 = t.val; omega
    | ⟨2, _⟩ => show (i.val * 1024 + n.val) % 1024 = n.val; omega
  rw [hix, ← v37_apply x0 x1 x2 x4 x5 x6 hx1 hx2 b t n]
  pointwise [Read.val_main_v43, Read.val_main_call1_v2, Read.val_main_call1_v1, Read.val_main_call1_v0, Read.val_main_v42, Read.val_main_v41, Read.val_main_v40, Read.val_main_v39, Read.val_main_v38, Read.val_main_cst]
  exact congrArg (Scalar.select _ _) (show constant (F := Ideal) S_ FTy.f32 0#32 ix0 = (0 : EReal) by pointwise)

end Reference

end Cert.Proof.Exp

end
-- ==== Proof.ExpClaims.lean ====
/- The claims about the routed experts: their runs, and that the kernel computes its reference over the extended reals. -/
module

public import proofs.«01_k».proof.Defs
public import proofs.«01_k».proof.Proof.ExpRun
public import proofs.«01_k».proof.Proof.ExpiRun
public import proofs.«01_k».proof.Proof.ExpArr
public import proofs.«01_k».proof.Proof.ExpRef
public import proofs.«01_k».proof.Proof.Gen.ExpertsRef.Run
public import proofs.«01_k».proof.Proof.Gen.ExpertsRefIdeal.Run
public import proofs.«01_k».proof.Proof.Gen.Pre_experts_in_range
public import Idealize.ShloMosaic.Lib.ReduceAll
public import Idealize.ShloMosaic.Lib.Claim

@[expose] public section

set_option maxRecDepth 16384

noncomputable section

namespace Cert.Proof.Exp

open Idealize.ShloMosaic Idealize.SL.Sem Idealize.ShloMosaic.TcCoe

/-- A word found at least zero and below a bound names a number below the bound. -/
theorem word_range (v k : BitVec 32) (hk : k.toNat < 2 ^ 31) (h : IntOp.andi (IntOp.cmpi .sge v 0#32) (IntOp.cmpi .slt v k) = 1#1) : v.toNat < k.toNat := by
  obtain ⟨h0, h1⟩ := IntOp.andi_eq_one.1 h
  have bit : ∀ b : Bool, BitVec.ofBool b = 1#1 → b = true := by decide
  have g0 : BitVec.sle 0#32 v = true := bit _ h0
  have g1 : BitVec.slt v k = true := bit _ h1
  have g0' : (0 : ℤ) ≤ v.toInt := by
    have := of_decide_eq_true g0
    simpa using this
  have g1' : v.toInt < k.toInt := of_decide_eq_true g1
  rw [BitVec.toInt_eq_toNat_of_lt (show 2 * k.toNat < 2 ^ 32 by omega)] at g1'
  have hv : 2 * v.toNat < 2 ^ 32 := by
    by_contra hc
    have : v.toInt = (v.toNat : ℤ) - 2 ^ 32 := by rw [BitVec.toInt_eq_toNat_cond, if_neg hc]; rfl
    have := v.isLt
    omega
  rw [BitVec.toInt_eq_toNat_of_lt hv] at g1'
  omega

/-- The precondition says that every token's number names a row and every block's expert is one of the 256. -/
theorem in_range {F : FTy → Type} [FloatOps F] (x0 : FVec F Cert.Pre_experts_in_range.S16384x1024 .f32) (x1 : IVec Cert.Pre_experts_in_range.S1279x128 32) (x2 : IVec Cert.Pre_experts_in_range.S1279 32) (x3 : IVec Cert.Pre_experts_in_range.S1 32)
    (x4 x5 : FVec F Cert.Pre_experts_in_range.S256x1024x256 .f32) (x6 : FVec F Cert.Pre_experts_in_range.S256x256x1024 .f32)
    (h : Cert.Pre_experts_in_range.fn (F := F) x0 x1 x2 x3 x4 x5 x6 = fun _ => 1#1) : (∀ i, (x1 i).toNat < 16384) ∧ (∀ i, (x2 i).toNat < 256) := by
  have e := congrFun h ix0
  have e' : IntOp.andi _ _ = 1#1 := e
  obtain ⟨e0, e1⟩ := IntOp.andi_eq_one.1 e'
  haveI : Subsingleton Cert.Pre_experts_in_range.S_.Idx := ⟨fun a b => funext fun k => k.elim0⟩
  exact ⟨fun i => word_range (x1 i) 16384#32 (by decide) (Host.reduce_andi_all _ _ _ _ _ e0 i),
    fun i => word_range (x2 i) 256#32 (by decide) (Host.reduce_andi_all _ _ _ _ _ e1 i)⟩

/-- The kernel's words are in range. -/
theorem range_p (m : (ℓ : Loc Cert.Experts.nD Cert.Experts.τ Cert.Experts.sig) → Buf (Elt Bits) ℓ) (h : Cert.Pre_Experts m) : Cert.Experts.Hand.InRange m :=
  ⟨fun c b t => (in_range _ _ _ _ _ _ _ (h c)).1 (ix2 b t), fun j => (in_range _ _ _ _ _ _ _ (h 0)).2 j⟩

/-- The idealized kernel's words are in range. -/
theorem range_pi (m : (ℓ : Loc Cert.ExpertsIdeal.nD Cert.ExpertsIdeal.τ Cert.ExpertsIdeal.sig) → Buf (Elt Ideal) ℓ) (h : Cert.Pre_ExpertsIdeal m) : Cert.Experts.Hand.InRange (F := Ideal) m :=
  ⟨fun c b t => (in_range _ _ _ _ _ _ _ (h c)).1 (ix2 b t), fun j => (in_range _ _ _ _ _ _ _ (h 0)).2 j⟩

/-- The kernel runs and leaves its arguments as they were. -/
theorem frame_p : Cert.quiescent_Experts := fun m ρ h => Cert.Experts.Hand.frame m ρ (range_p m h)
/-- The idealized kernel runs and leaves its arguments as they were. -/
theorem frame_pi : Cert.quiescent_ExpertsIdeal := fun m ρ h => by
  have r := Cert.Experts.Hand.frame (F := Ideal) m ρ (range_pi m h)
  rw [← defs_same] at r
  exact r
/-- The idealized reference runs and leaves its arguments as they were. -/
theorem frame_ri : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)
/-- The idealized reference runs under the precondition too. -/
theorem frame_ri_pre : Cert.quiescent_ExpertsRefIdeal_pre_experts_in_range := fun m ρ _ => frame_ri m ρ trivial
/-- The reference runs and leaves its arguments as they were. -/
theorem frame_r : Cert.quiescent_ExpertsRef := fun m ρ _ =>
  (θ_run Cert.ExpertsRef.defs _ _).mono (fun r h => ⟨fun c => (h c).2, sem_eq_zero_of_no_sems (by decide) r.2⟩)
    (Cert.ExpertsRef.Value.run (F := Bits) m ρ)

/-- The reference's result is its last operation's value at the arguments. -/
theorem run_reference (m : (ℓ : Loc Cert.ExpertsRefIdeal.nD Cert.ExpertsRefIdeal.τ Cert.ExpertsRefIdeal.sig) → Buf (Elt Ideal) ℓ) (c : Dev Cert.ExpertsRefIdeal.nD) :
    Cert.ExpertsRefIdeal.Value.res_out0 m c = Cert.ExpertsRefIdeal.Read.val_main_v44 (F := Ideal) (m (c, Cert.ExpertsRefIdeal.main_arg0)) (m (c, Cert.ExpertsRefIdeal.main_arg1)) (m (c, Cert.ExpertsRefIdeal.main_arg2))
      (m (c, Cert.ExpertsRefIdeal.main_arg3)) (m (c, Cert.ExpertsRefIdeal.main_arg4)) (m (c, Cert.ExpertsRefIdeal.main_arg5)) (m (c, Cert.ExpertsRefIdeal.main_arg6)) := by
  unfold Cert.ExpertsRefIdeal.Value.res_out0
  rw [Cert.ExpertsRefIdeal.Read.val_main_v44_eq]

section Kernel
open Cert.Experts Cert.Experts.Gen Cert.Experts.Hand

/-- The kernel's run leaves the result's array at its blocks' values and its arguments as they were. -/
theorem run_blocks (m : (ℓ : Loc nD τ sig) → Buf (Elt Ideal) ℓ) (ρ : Dev nD → PrngReg) (hr : InRange m) :
    θ_run (defs (F := Ideal)) (onTc (τ := τ) (main (F := Ideal))) ⟨m, fun _ => 0, ρ⟩ (fun r => ∀ c : Dev nD,
      r.2.mem ((c.tc : Thread nD τ).loc main_v0) = (dats m ρ hr 0 c).arrAt (3 : Fin 4) (cfgA m hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).1 (3 : Fin 4), (h.1 c).2.2.1, (h.1 c).2.2.2, ((h.1 c).2.1 0).trans (V_pre m hr c 0).symm, ((h.1 c).2.1 1).trans (V_pre m hr c 1).symm,
    ((h.1 c).1 (0 : Fin 4)).trans ((dats m ρ hr 0 c).arrAt_in (0 : Fin 4) rfl _), ((h.1 c).1 (1 : Fin 4)).trans ((dats m ρ hr 0 c).arrAt_in (1 : Fin 4) rfl _),
    ((h.1 c).1 (2 : Fin 4)).trans ((dats m ρ hr 0 c).arrAt_in (2 : Fin 4) rfl _)⟩) (run_main m ρ hr)

end Kernel

/-- The kernel and its reference leave the same array, whatever the arguments in range. -/
theorem algebraic : Cert.algebraic_ExpertsIdeal_ExpertsRefIdeal := by
  intro m ρ m' ρ' hpre hagree
  have hr := range_pi m hpre
  have h := run_blocks m ρ hr
  rw [← defs_same] at h
  refine ⟨_, h, ?_⟩
  refine (θ_run Cert.ExpertsRefIdeal.defs _ _).mono (fun r h c => ⟨(h c).1.trans ?_, (h c).2⟩) (Cert.ExpertsRefIdeal.Value.run (F := Ideal) m' ρ')
  obtain ⟨a0, a1, a2, a3, a4, a5, a6⟩ := hagree c
  obtain ⟨r1, r2⟩ := in_range _ _ _ _ _ _ _ (hpre c)
  refine (run_reference m' c).trans ?_
  have b0 : m' (c, Cert.ExpertsRefIdeal.main_arg0) = m (c, Cert.ExpertsIdeal.main_arg0) := a0
  have b1 : m' (c, Cert.ExpertsRefIdeal.main_arg1) = m (c, Cert.ExpertsIdeal.main_arg1) := a1
  have b2 : m' (c, Cert.ExpertsRefIdeal.main_arg2) = m (c, Cert.ExpertsIdeal.main_arg2) := a2
  have b3 : m' (c, Cert.ExpertsRefIdeal.main_arg3) = m (c, Cert.ExpertsIdeal.main_arg3) := a3
  have b4 : m' (c, Cert.ExpertsRefIdeal.main_arg4) = m (c, Cert.ExpertsIdeal.main_arg4) := a4
  have b5 : m' (c, Cert.ExpertsRefIdeal.main_arg5) = m (c, Cert.ExpertsIdeal.main_arg5) := a5
  have b6 : m' (c, Cert.ExpertsRefIdeal.main_arg6) = m (c, Cert.ExpertsIdeal.main_arg6) := a6
  rw [b0, b1, b2, b3, b4, b5, b6]
  obtain rfl : (0 : Dev Cert.ExpertsIdeal.nD) = c := Subsingleton.elim (α := Fin 1) _ _
  have key : ∀ (b : Fin 1279) (t : Fin 128) (n : Fin 1024) (i : Fin 163712), i.val = 128 * b.val + t.val →
      Cert.ExpertsRefIdeal.Read.val_main_v44 (F := Ideal) (m (0, Cert.ExpertsIdeal.main_arg0)) (m (0, Cert.ExpertsIdeal.main_arg1)) (m (0, Cert.ExpertsIdeal.main_arg2))
      (m (0, Cert.ExpertsIdeal.main_arg3)) (m (0, Cert.ExpertsIdeal.main_arg4)) (m (0, Cert.ExpertsIdeal.main_arg5)) (m (0, Cert.ExpertsIdeal.main_arg6)) (ix2 i n)
        = (Cert.Experts.Hand.dats (F := Ideal) m ρ hr 0 0).arrAt (3 : Fin 4) (Cert.Experts.Hand.cfgA (F := Ideal) m hr).N (ix2 i n) := fun b t n i hi =>
    (v44_apply _ _ _ _ _ _ _ (fun b t => r1 (ix2 b t)) (fun b => r2 (ix1 b)) b t n i hi).trans
      (arr_apply m ρ hr 0 _ _ _ _ _ _ _ rfl rfl rfl rfl rfl rfl rfl (fun b t => r1 (ix2 b t)) (fun b => r2 (ix1 b)) b t n i hi).symm
  funext y
  obtain ⟨i, x, rfl⟩ : ∃ (i : Fin 163712) (x : Fin 1024), y = ix2 i x := ⟨y 0, y 1, by funext a; match a with | ⟨0, _⟩ => rfl | ⟨1, _⟩ => rfl⟩
  exact key ⟨i.val / 128, by have := i.isLt; omega⟩ ⟨i.val % 128, by omega⟩ x i (by show i.val = 128 * (i.val / 128) + i.val % 128; omega)

end Cert.Proof.Exp

end
-- ==== Proof.CmbDefs.lean ====
module

public import proofs.«01_k».proof.Proof.Gen.Combine.Skeleton
public import proofs.«01_k».proof.Proof.Gen.Combine.Launch
public import Idealize.ShloMosaic.Lib.Batch
public import Idealize.ShloMosaic.Lib.Ring
public import Idealize.ShloMosaic.Lib.Pipeline.Frame
public import Idealize.ShloMosaic.Lib.Exec
public import Idealize.ShloMosaic.Lib.Tactic
public import Idealize.ShloMosaic.Lib.ValueIdxCore
public import Idealize.ShloMosaic.Lib.ValueLayout

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The counters of the transfers in flight, inside the proof's resource algebra. -/
abbrev EC : UEmb Counters (MT nD τ sig Unit (Elt F) ℕ (Pipeline.UD sig nD τ) ℕ) := countersEmb (U := Pipeline.UD sig nD τ)

/-! ## The places the kernel's transfers read and write -/

/-- A row of the token buffer lies in the buffer. -/
theorem inbB (p : Fin 2) (t : Fin 512) : ∀ a, (![p.val, t.val, 0] : Fin 3 → Nat) a + S1x1x1024.size a ≤ S2x512x1024.size a := by
  have := p.isLt; have := t.isLt
  intro a; fin_cases a
  · show p.val + 1 ≤ 2; omega
  · show t.val + 1 ≤ 512; omega
  · show 0 + 1024 ≤ 1024; omega
/-- A row of the index buffer lies in the buffer. -/
theorem inbI (p : Fin 2) : ∀ a, (![p.val, 0] : Fin 2 → Nat) a + S1x512.size a ≤ S2x512.size a := by
  have := p.isLt
  intro a; fin_cases a
  · show p.val + 1 ≤ 2; omega
  · show 0 + 512 ≤ 512; omega
/-- A block's row of tokens lies in the array. -/
theorem inbT (b : Fin 256) : ∀ a, (![b.val, 0] : Fin 2 → Nat) a + S1x512.size a ≤ S256x512.size a := by
  have := b.isLt
  intro a; fin_cases a
  · show b.val + 1 ≤ 256; omega
  · show 0 + 512 ≤ 512; omega
/-- A token's row lies in the array. -/
theorem inbX (v : Fin 163712) : ∀ a, (![v.val, 0] : Fin 2 → Nat) a + S1x1024.size a ≤ S163712x1024.size a := by
  have := v.isLt
  intro a; fin_cases a
  · show v.val + 1 ≤ 163712; omega
  · show 0 + 1024 ≤ 1024; omega
/-- A slot's semaphore lies in its array. -/
theorem inbS (p : Fin 2) : ∀ a, (![p.val] : Fin 1 → Nat) a + S1.size a ≤ S2.size a := by
  have := p.isLt
  intro a; fin_cases a
  show p.val + 1 ≤ 2; omega
/-- A word of the index buffer lies in the buffer. -/
theorem inbW (p : Fin 2) (t : Fin 512) : ∀ a, (![p.val, t.val] : Fin 2 → Nat) a + S1x1.size a ≤ S2x512.size a := by
  have := p.isLt; have := t.isLt
  intro a; fin_cases a
  · show p.val + 1 ≤ 2; omega
  · show t.val + 1 ≤ 512; omega
/-- A slot of the token buffer lies in the buffer. -/
theorem inbL (p : Fin 2) : ∀ a, (![p.val, 0, 0] : Fin 3 → Nat) a + ![1, 512, 1024] a ≤ S2x512x1024.size a := by
  have := p.isLt
  intro a; fin_cases a
  · show p.val + 1 ≤ 2; omega
  · show 0 + 512 ≤ 512; omega
  · show 0 + 1024 ≤ 1024; omega

/-- Row `t` of slot `p` of the token buffer. -/
def bufRow (p : Fin 2) (t : Fin 512) : Memref sig .tc .vmem S1x1024 .f32 :=
  ((Memref.whole cc0_scratch1).slice (Rect.unit (s := S2x512x1024) ![p.val, t.val, 0] S1x1x1024.size (inbB p t)) (fun _ => rfl)).squeeze S1x1024 squeezes_S1x1x1024_S1x1024
/-- Slot `p` of the index buffer. -/
def idxRow (p : Fin 2) : Memref sig .tc .smem S512 .i32 :=
  ((Memref.whole cc0_scratch0).slice (Rect.unit (s := S2x512) ![p.val, 0] S1x512.size (inbI p)) (fun _ => rfl)).squeeze S512 squeezes_S1x512_S512
/-- Row `b` of the token indices. -/
def tokRow (b : Fin 256) : Memref sig .tc .hbm S512 .i32 :=
  ((Memref.whole main_arg1).slice (Rect.unit (s := S256x512) ![b.val, 0] S1x512.size (inbT b)) (fun _ => rfl)).squeeze S512 squeezes_S1x512_S512
/-- Row `v` of the tokens. -/
def xRow (v : Fin 163712) : Memref sig .tc .hbm S1x1024 .f32 :=
  (Memref.whole main_arg0).slice (Rect.unit (s := S163712x1024) ![v.val, 0] S1x1024.size (inbX v)) (fun _ => rfl)
/-- The semaphore of the index transfers into slot `p`. -/
def semI (p : Fin 2) : DmaSem sig := ((cc0_scratch2.slice (Rect.unit (s := S2) ![p.val] S1.size (inbS p))).squeeze S_ squeezes_S1_S_).sem
/-- The semaphore of the row transfers into slot `p`. -/
def semB (p : Fin 2) : DmaSem sig := ((cc0_scratch3.slice (Rect.unit (s := S2) ![p.val] S1.size (inbS p))).squeeze S_ squeezes_S1_S_).sem

/-- The first slot's semaphore for the indices. -/
theorem semI_0 : semI 0 = 11 := by decide
/-- The second slot's semaphore for the indices. -/
theorem semI_1 : semI 1 = 12 := by decide
/-- The first slot's semaphore for the rows. -/
theorem semB_0 : semB 0 = 13 := by decide
/-- The second slot's semaphore for the rows. -/
theorem semB_1 : semB 1 = 14 := by decide

/-- The elements of slot `p` of the token buffer. -/
abbrev slotSet (p : Fin 2) : Finset S2x512x1024.Idx := (Rect.unit (s := S2x512x1024) ![p.val, 0, 0] ![1, 512, 1024] (inbL p)).set
/-- The elements of slot `p` of the index buffer. -/
abbrev idxSet (p : Fin 2) : Finset S2x512.Idx := (Rect.unit (s := S2x512) ![p.val, 0] S1x512.size (inbI p)).set
/-- The elements of row `t` of slot `p`. -/
abbrev rowSet (p : Fin 2) (t : Fin 512) : Finset S2x512x1024.Idx := (Rect.unit (s := S2x512x1024) ![p.val, t.val, 0] S1x1x1024.size (inbB p t)).set
/-- The elements of row `b` of the indices. -/
abbrev tokSet (b : Fin 256) : Finset S256x512.Idx := (Rect.unit (s := S256x512) ![b.val, 0] S1x512.size (inbT b)).set
/-- The elements of row `v` of the tokens. -/
abbrev xSet (v : Fin 163712) : Finset S163712x1024.Idx := (Rect.unit (s := S163712x1024) ![v.val, 0] S1x1024.size (inbX v)).set

/-- The indices a row of the token buffer covers. -/
theorem bufRow_set (p : Fin 2) (t : Fin 512) : (bufRow p t).view.set = rowSet p t := by
  unfold bufRow; exact (View.set_reshape _ _).trans (View.set_slice_whole _ _)
/-- The indices a row of the index buffer covers. -/
theorem idxRow_set (p : Fin 2) : (idxRow p).view.set = idxSet p := by
  unfold idxRow; exact (View.set_reshape _ _).trans (View.set_slice_whole _ _)
/-- The indices a block's row of tokens covers. -/
theorem tokRow_set (b : Fin 256) : (tokRow b).view.set = tokSet b := by
  unfold tokRow; exact (View.set_reshape _ _).trans (View.set_slice_whole _ _)
/-- The indices a token's row covers. -/
theorem xRow_set (v : Fin 163712) : (xRow v).view.set = xSet v := by
  unfold xRow; exact View.set_slice_whole _ _

/-- An index is in a slot when its first coordinate is the slot. -/
theorem mem_slotSet (p : Fin 2) (y : S2x512x1024.Idx) : y ∈ slotSet p ↔ (y 0).val = p.val := by
  rw [Rect.mem_set_unit]
  have h1 : (y 1).val < 512 := (y 1).isLt
  have h2 : (y 2).val < 1024 := (y 2).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 512; omega
    · show 0 ≤ (y 2).val ∧ (y 2).val < 0 + 1024; omega
/-- An index is in a row when its first two coordinates are the slot and the row. -/
theorem mem_rowSet (p : Fin 2) (t : Fin 512) (y : S2x512x1024.Idx) : y ∈ rowSet p t ↔ (y 0).val = p.val ∧ (y 1).val = t.val := by
  rw [Rect.mem_set_unit]
  have h2 : (y 2).val < 1024 := (y 2).isLt
  constructor
  · intro H
    have a0 : p.val ≤ (y 0).val ∧ (y 0).val < p.val + 1 := H 0
    have a1 : t.val ≤ (y 1).val ∧ (y 1).val < t.val + 1 := H 1
    omega
  · intro H a; fin_cases a
    · show p.val ≤ (y 0).val ∧ (y 0).val < p.val + 1; omega
    · show t.val ≤ (y 1).val ∧ (y 1).val < t.val + 1; omega
    · show 0 ≤ (y 2).val ∧ (y 2).val < 0 + 1024; omega
/-- An index is in a slot's words when its first coordinate is the slot. -/
theorem mem_idxSet (p : Fin 2) (y : S2x512.Idx) : y ∈ idxSet p ↔ (y 0).val = p.val := by
  rw [Rect.mem_set_unit]
  have h1 : (y 1).val < 512 := (y 1).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 512; omega

/-- Two rows of a slot share no index. -/
theorem rowSet_disjoint (p : Fin 2) : ∀ t t' : Fin 512, t ≠ t' → Disjoint (rowSet p t) (rowSet p t') := fun t t' hne => by
  rw [Finset.disjoint_left]; intro y hy hy'; rw [mem_rowSet] at hy hy'; exact hne (Fin.ext (by omega))
/-- The rows of a slot make up the slot. -/
theorem rowSet_cover (p : Fin 2) : Finset.univ.biUnion (rowSet p) = slotSet p := by
  ext y; simp only [Finset.mem_biUnion, Finset.mem_univ, true_and]; rw [mem_slotSet]
  constructor
  · rintro ⟨t, ht⟩; rw [mem_rowSet] at ht; exact ht.1
  · intro h; exact ⟨⟨(y 1).val, (y 1).isLt⟩, (mem_rowSet _ _ _).mpr ⟨h, rfl⟩⟩
/-- The two slots share no index. -/
theorem slotSet_disjoint : ∀ p p' : Fin 2, p ≠ p' → Disjoint (slotSet p) (slotSet p') := fun p p' hne => by
  rw [Finset.disjoint_left]; intro y hy hy'; rw [mem_slotSet] at hy hy'; exact hne (Fin.ext (by omega))
/-- The two slots make up the token buffer. -/
theorem slotSet_cover : Finset.univ.biUnion slotSet = Finset.univ := by
  ext y; simp only [Finset.mem_biUnion, Finset.mem_univ, true_and, iff_true]; exact ⟨⟨(y 0).val, (y 0).isLt⟩, (mem_slotSet _ _).mpr rfl⟩
/-- The two slots' words share no index. -/
theorem idxSet_disjoint : ∀ p p' : Fin 2, p ≠ p' → Disjoint (idxSet p) (idxSet p') := fun p p' hne => by
  rw [Finset.disjoint_left]; intro y hy hy'; rw [mem_idxSet] at hy hy'; exact hne (Fin.ext (by omega))
/-- The two slots' words make up the index buffer. -/
theorem idxSet_cover : Finset.univ.biUnion idxSet = Finset.univ := by
  ext y; simp only [Finset.mem_biUnion, Finset.mem_univ, true_and, iff_true]; exact ⟨⟨(y 0).val, (y 0).isLt⟩, (mem_idxSet _ _).mpr rfl⟩

/-! ## What the buffers hold -/

section Contents

variable (T : S256x512.Idx → Elt F .i32) (X : S163712x1024.Idx → Elt F .f32)

/-- The token word of row `r` of block `b`. -/
def tok (b : Fin 256) (r : Fin 512) : BitVec 32 := T (ix2 b r)
/-- The token's number (token 0 where the word names none). -/
def tokN (b : Fin 256) (r : Fin 512) : Fin 163712 :=
  if h : (tok T b r).toNat < 163712 then ⟨(tok T b r).toNat, h⟩ else 0
/-- The index buffer holding block `b`'s words. -/
def J (b : Fin 256) : S2x512.Idx → Elt F .i32 := fun y => T (ix2 b (y 1))
/-- The token buffer holding block `b`'s rows. -/
def G (b : Fin 256) : S2x512x1024.Idx → Elt F .f32 := fun y => X (ix2 (tokN T b (y 1)) (y 2))

end Contents

/-! ## Where the views place their elements -/

/-- Where a row of the token buffer puts its elements. -/
theorem bufRow_emb (p : Fin 2) (t : Fin 512) (j : S1x1024.Idx) : (bufRow p t).view.emb j = ix3 p t (j 1) := by
  obtain ⟨a, d, rfl⟩ : ∃ a d, j = ix2 a d := ⟨j 0, j 1, eq_ix2 j⟩
  show (Rect.unit (s := S2x512x1024) ![p.val, t.val, 0] S1x1x1024.size (inbB p t)).emb (Shape.reshapeEquiv _ (ix2 a d)) = _
  rw [show (Shape.reshapeEquiv (s := S1x1x1024) (s' := S1x1024) squeezes_S1x1x1024_S1x1024.numel_eq (ix2 a d)) = ix3 (⟨0, Nat.one_pos⟩ : Fin 1) a d from reshapeEquiv_ix2_1ab _ _ _]
  funext x; apply Fin.ext
  have ha : a.val = 0 := by have := a.isLt; omega
  fin_cases x
  · show p.val + 1 * 0 = p.val; omega
  · show t.val + 1 * a.val = t.val; omega
  · show 0 + 1 * d.val = d.val; omega

/-- Dropping the leading axis of length one keeps the position. -/
theorem reshape_512 (h) (j : S512.Idx) : Shape.reshapeEquiv (s := S1x512) (s' := S512) h j = ix2 (⟨0, Nat.one_pos⟩ : Fin 1) (j 0) := by
  apply S1x512.rowMajor.injective; apply Fin.ext
  refine (Shape.rowMajor_reshapeEquiv _ _).trans ((Shape.rowMajor_val_one _).trans (Eq.symm ?_))
  refine (Shape.rowMajor_val_two (d := ![1, 512]) (ix2 (⟨0, Nat.one_pos⟩ : Fin 1) (j 0))).trans ?_
  show 0 * 512 + (j 0).val = (j 0).val; omega

/-- Where a row of the index buffer puts its elements. -/
theorem idxRow_emb (p : Fin 2) (j : S512.Idx) : (idxRow p).view.emb j = ix2 p (j 0) := by
  show (Rect.unit (s := S2x512) ![p.val, 0] S1x512.size (inbI p)).emb (Shape.reshapeEquiv _ j) = _
  rw [show (Shape.reshapeEquiv (s := S1x512) (s' := S512) squeezes_S1x512_S512.numel_eq j) = _ from reshape_512 _ j]
  funext x; apply Fin.ext
  fin_cases x
  · show p.val + 1 * 0 = p.val; omega
  · show 0 + 1 * (j 0).val = (j 0).val; omega

/-- Where a block's row of tokens lies in the array. -/
theorem tokRow_emb (b : Fin 256) (j : S512.Idx) : (tokRow b).view.emb j = ix2 b (j 0) := by
  show (Rect.unit (s := S256x512) ![b.val, 0] S1x512.size (inbT b)).emb (Shape.reshapeEquiv _ j) = _
  rw [show (Shape.reshapeEquiv (s := S1x512) (s' := S512) squeezes_S1x512_S512.numel_eq j) = _ from reshape_512 _ j]
  funext x; apply Fin.ext
  fin_cases x
  · show b.val + 1 * 0 = b.val; omega
  · show 0 + 1 * (j 0).val = (j 0).val; omega

/-- Where a token's row lies in the array. -/
theorem xRow_emb (v : Fin 163712) (j : S1x1024.Idx) : (xRow v).view.emb j = ix2 v (j 1) := by
  show (Rect.unit (s := S163712x1024) ![v.val, 0] S1x1024.size (inbX v)).emb j = _
  funext x; apply Fin.ext
  have ha : (j 0).val = 0 := by have : (j 0).val < 1 := (j 0).isLt; omega
  fin_cases x
  · show v.val + 1 * (j 0).val = v.val; omega
  · show 0 + 1 * (j 1).val = (j 1).val; omega

/-! ## Closed forms of the kernel's offsets and conditions -/

/-- The kernel's `w mod 2` on a word. -/
def pm (w : BitVec 32) : BitVec 32 :=
  let v5 := Scalar.select (Scalar.cmpi .eq 2#32 0#32) 1#32 2#32
  let v6 := Scalar.remsi w v5
  Scalar.select (Scalar.andi (Scalar.xori (Scalar.cmpi .slt v6 0#32) (Scalar.cmpi .slt v5 0#32)) (Scalar.cmpi .ne v6 0#32)) (Scalar.addi v6 v5) v6
/-- The slot computed from a number is its parity. -/
theorem pm_eq : ∀ n : Fin 258, (pm (BitVec.ofNat 32 n.val)).toNat = n.val % 2 := by decide +kernel
/-- The slot computed from a number's successor is the successor's parity. -/
theorem pm_eq1 : ∀ n : Fin 258, (pm (Scalar.addi (BitVec.ofNat 32 n.val) 1#32)).toNat = (n.val + 1) % 2 := by decide +kernel

/-- The grid point's number. -/
abbrev pt (i : grid0.Coords) : Fin 256 := i 0
/-- The slot of the block at the grid point. -/
def par (n : ℕ) : Fin 2 := ⟨n % 2, Nat.mod_lt _ (by norm_num)⟩

/-- The first loop over rows has 512 rounds. -/
theorem trips1 : k0_t1_loop.trips = 512 := by decide
/-- The second loop over rows has 512 rounds. -/
theorem trips2 : k0_t2_loop.trips = 512 := by decide
/-- The third loop over rows has 512 rounds. -/
theorem trips3 : k0_t3_loop.trips = 512 := by decide

/-- The semaphore of the next point's slot. -/
theorem off8 (i : grid0.Coords) : k0_off8 i = ![(par ((pt i).val + 1)).val] := by
  have h := pm_eq1 ⟨(pt i).val, by have := (pt i).isLt; omega⟩
  funext a; fin_cases a; exact h
/-- The semaphore the next point's indices are waited for on. -/
theorem off4 (i : grid0.Coords) : k0_off4 i = ![(par ((pt i).val + 1)).val] := off8 i
/-- The index buffer's row of the next point's slot. -/
theorem off5 (i : grid0.Coords) : k0_off5 i = ![(par ((pt i).val + 1)).val, 0] := by
  have h := pm_eq1 ⟨(pt i).val, by have := (pt i).isLt; omega⟩
  funext a; fin_cases a
  · exact h
  · rfl
/-- The word of the row that a round of the second loop starts. -/
theorem off7 (i : grid0.Coords) (k : Fin k0_t2_loop.trips) (t : Fin 512) (hk : k.val = t.val) : k0_off7 i k = ![(par ((pt i).val + 1)).val, t.val] := by
  have h := pm_eq1 ⟨(pt i).val, by have := (pt i).isLt; omega⟩
  have h2 := congrFun (k0_off1_eq k) 1
  funext a; fin_cases a
  · exact h
  · exact h2.trans hk
/-- The buffer's row that a round of the second loop fills. -/
theorem off9 (i : grid0.Coords) (k : Fin k0_t2_loop.trips) (t : Fin 512) (hk : k.val = t.val) : k0_off9 i k = ![(par ((pt i).val + 1)).val, t.val, 0] := by
  have h := pm_eq1 ⟨(pt i).val, by have := (pt i).isLt; omega⟩
  have h2 := congrFun (k0_off2_eq k) 1
  funext a; fin_cases a
  · exact h
  · exact h2.trans hk
  · rfl
/-- The word of the row that a round of the third loop waits for. -/
theorem off11 (i : grid0.Coords) (k : Fin k0_t3_loop.trips) (t : Fin 512) (hk : k.val = t.val) : k0_off11 i k = ![(par (pt i).val).val, t.val] := by
  have h := pm_eq ⟨(pt i).val, by have := (pt i).isLt; omega⟩
  have h2 := congrFun (k0_off1_eq k) 1
  funext a; fin_cases a
  · exact h
  · exact h2.trans hk
/-- The semaphore of the current slot. -/
theorem off12 (i : grid0.Coords) : k0_off12 i = ![(par (pt i).val).val] := by
  have h := pm_eq ⟨(pt i).val, by have := (pt i).isLt; omega⟩
  funext a; fin_cases a; exact h
/-- The buffer's row that a round of the third loop waits for. -/
theorem off13 (i : grid0.Coords) (k : Fin k0_t3_loop.trips) (t : Fin 512) (hk : k.val = t.val) : k0_off13 i k = ![(par (pt i).val).val, t.val, 0] := by
  have h := pm_eq ⟨(pt i).val, by have := (pt i).isLt; omega⟩
  have h2 := congrFun (k0_off2_eq k) 1
  funext a; fin_cases a
  · exact h
  · exact h2.trans hk
  · rfl
/-- The semaphore the indices two points on are copied under. -/
theorem off15 (i : grid0.Coords) : k0_off15 i = ![(par (pt i).val).val] := off12 i
/-- The index buffer's row of the current slot. -/
theorem off16 (i : grid0.Coords) : k0_off16 i = ![(par (pt i).val).val, 0] := by
  have h := pm_eq ⟨(pt i).val, by have := (pt i).isLt; omega⟩
  funext a; fin_cases a
  · exact h
  · rfl
/-- The token buffer's current slot. -/
theorem off18 (i : grid0.Coords) : k0_off18 i = ![(par (pt i).val).val, 0, 0] := by
  have h := pm_eq ⟨(pt i).val, by have := (pt i).isLt; omega⟩
  funext a; fin_cases a
  · exact h
  · rfl
  · rfl

/-- The first branch is taken at the first point only. -/
theorem cond1_iff (i : grid0.Coords) : k0_cond1 i = 1#1 ↔ (pt i).val = 0 := by
  have H : ∀ n : Fin 256, k0_cond1 (fun a => match a with | ⟨0, _⟩ => n) = 1#1 ↔ n.val = 0 := by decide +kernel
  exact H (pt i)
/-- The second branch is taken at every point but the last. -/
theorem cond2_iff (i : grid0.Coords) : k0_cond2 i = 1#1 ↔ (pt i).val + 1 < 256 := by
  have H : ∀ n : Fin 256, k0_cond2 (fun a => match a with | ⟨0, _⟩ => n) = 1#1 ↔ n.val + 1 < 256 := by decide +kernel
  exact H (pt i)
/-- The third branch is taken at every point but the last two. -/
theorem cond3_iff (i : grid0.Coords) : k0_cond3 i = 1#1 ↔ (pt i).val + 2 < 256 := by
  have H : ∀ n : Fin 256, k0_cond3 (fun a => match a with | ⟨0, _⟩ => n) = 1#1 ↔ n.val + 2 < 256 := by decide +kernel
  exact H (pt i)

end Cert.Combine.Hand

end
-- ==== Proof.CmbStep.lean ====
module

public import proofs.«01_k».proof.Proof.CmbDefs

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a row transfer's semaphore is credited. -/
def NB : ℕ := (bufRow 0 0).view.dmaCredit
/-- A copy of a row counts for something. -/
theorem NB_pos : 0 < NB := View.dmaCredit_pos _ (by decide)

section Issue

variable (T : S256x512.Idx → Elt F .i32) (X : S163712x1024.Idx → Elt F .f32)
variable (c : Dev nD) {𝒱 : Variants} (bd : Option 𝒱.V)

/-- Row `t` of slot `p` owned, at contents `g`. -/
abbrev rowAt (p : Fin 2) (t : Fin 512) (g : S2x512x1024.Idx → Elt F .f32) : sProp (MT nD τ sig Unit (Elt F) ℕ (Pipeline.UD sig nD τ) ℕ) :=
  ((c : Thread nD τ).loc cc0_scratch1) ↦[rowSet p t]{fullShare} g
/-- Elements of the tokens' array held at a share. -/
abbrev xAt (S : Finset S163712x1024.Idx) (q : PosShare TreeShare) : sProp (MT nD τ sig Unit (Elt F) ℕ (Pipeline.UD sig nD τ) ℕ) :=
  ((c : Thread nD τ).loc main_arg0) ↦[S]{q} X
/-- Slot `p` of the index buffer holding block `b`'s words. -/
abbrev idxAt (p : Fin 2) (b : Fin 256) : sProp (MT nD τ sig Unit (Elt F) ℕ (Pipeline.UD sig nD τ) ℕ) :=
  ((c : Thread nD τ).loc cc0_scratch0) ↦[idxSet p]{fullShare} (J T b)

/-- What the transfer of row `t` of block `b` into slot `p` delivers. -/
def D (hs : PosShare TreeShare) (p : Fin 2) (b : Fin 256) (t : Fin 512) : sProp (MT nD τ sig Unit (Elt F) ℕ (Pipeline.UD sig nD τ) ℕ) :=
  iprop(rowAt c p t (G T X b) ∗ xAt X c (xSet (tokN T b t)) (Transfers.shareTokN hs t.val))

/-- The batch of block `b`'s row transfers into slot `p`. -/
abbrev batch (hs : PosShare TreeShare) (p : Fin 2) (b : Fin 256) (k u : ℕ) : sProp (MT nD τ sig Unit (Elt F) ℕ (Pipeline.UD sig nD τ) ℕ) :=
  Transfers.Batch EC (c : Thread nD τ) (.dma (semB p)) () NB (D T X c hs p b) k u

/-- One trip of a row-issuing loop. -/
def issueBody (o8 : Fin 2 → ℕ) (h8 : ∀ a, o8 a + S1x1.size a ≤ S2x512.size a) (chk : BitVec 32 → Prop) (dec : ∀ v, Decidable (chk v))
    (o9 : Fin 1 → ℕ) (h9 : ∀ a, o9 a + S1.size a ≤ S2.size a) (o10 : Fin 3 → ℕ) (h10 : ∀ a, o10 a + S1x1x1024.size a ≤ S2x512x1024.size a)
    (o11 : BitVec 32 → Fin 2 → ℕ) (h11 : ∀ v, chk v → ∀ a, o11 v a + S1x1024.size a ≤ S163712x1024.size a) :
    Prog (TpuEff nD τ sig (Elt F) Λ₀ .tc) Unit :=
  smemLoadElt (Memref.whole cc0_scratch0) (Rect.unit (s := S2x512) o8 S1x1.size h8) (View.loads_smem_one rfl numel1_S1x1) (Shape.Idx.first (numel1_S1x1.symm ▸ Nat.one_pos)) fun v =>
  .op (TpuEff.assume (chk v) (dec v)) fun hw =>
  .op (.enqueueDma ((Memref.whole main_arg0).slice (Rect.unit (s := S163712x1024) (o11 v) S1x1024.size (h11 v hw.down)) (fun _ => rfl) : Memref sig .tc .hbm S1x1024 .f32)
    (.here (((Memref.whole cc0_scratch1).slice (Rect.unit (s := S2x512x1024) o10 S1x1x1024.size h10) (fun _ => rfl)).squeeze S1x1024 squeezes_S1x1x1024_S1x1024 : Memref sig .tc .vmem S1x1024 .f32))
    (.dma ((cc0_scratch3.slice (Rect.unit (s := S2) o9 S1.size h9)).squeeze S_ squeezes_S1_S_).sem) (View.wordExact_bits rfl) ((View.wordExact_bits rfl).reshape _ _) ⟨Or.inl rfl, trivial⟩) fun _ =>
  .ret ()

/-- The second loop's round as its steps. -/
theorem t2_eq (i : grid0.Coords) (arg1 harg1 harg2 arg3 harg3 arg4 harg4 arg5 harg5 arg6 harg6 arg7 harg7 arg8 harg8 arg9 harg9 arg10 harg10 harg11 harg12) (h2) (k : Fin k0_t2_loop.trips) :
    k0_t2_body (F := F) i arg1 harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3 h2 k ()
      = issueBody (k0_off7 i k) (k0_off7_inb i k h2) (k0_chk2 i) (k0_chk2.dec i) (k0_off8 i) (k0_off8_inb i h2) (k0_off9 i k) (k0_off9_inb i k h2) k0_off10 (fun v hw => k0_off10_inb i v hw h2) := rfl
/-- The first loop's round as its steps. -/
theorem t1_eq (i : grid0.Coords) (arg1 harg1 harg2 arg3 harg3 arg4 harg4 arg5 harg5 arg6 harg6 arg7 harg7 arg8 harg8 arg9 harg9 arg10 harg10 harg11 harg12) (h1) (k : Fin k0_t1_loop.trips) :
    k0_t1_body (F := F) i arg1 harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3 h1 k ()
      = issueBody (k0_off1 k) (k0_off1_inb i k h1) (k0_chk1 i) (k0_chk1.dec i) ![0] inb_S2_S1_0 (k0_off2 k) (k0_off2_inb i k h1) k0_off3 (fun v hw => k0_off3_inb i v hw h1) := rfl

/-- The word read at row `t` of slot `p` of the index buffer. -/
theorem word_read (p : Fin 2) (t : Fin 512) (b : Fin 256) (h8 : ∀ a, (![p.val, t.val] : Fin 2 → ℕ) a + S1x1.size a ≤ S2x512.size a) (x : S1x1.Idx) :
    ((Memref.whole cc0_scratch0).access (Rect.unit (s := S2x512) ![p.val, t.val] S1x1.size h8)).read (Elt F) (J T b) x = tok T b t := by
  show T (ix2 b ((Rect.unit (s := S2x512) ![p.val, t.val] S1x1.size h8).emb x 1)) = T (ix2 b t)
  congr 2
  apply Fin.ext
  have : (x 1).val < 1 := (x 1).isLt
  show t.val + 1 * (x 1).val = t.val; omega

/-- A word's read stays inside its slot's words. -/
theorem word_sub (p : Fin 2) (t : Fin 512) (h8 : ∀ a, (![p.val, t.val] : Fin 2 → ℕ) a + S1x1.size a ≤ S2x512.size a) :
    ((Memref.whole cc0_scratch0).access (Rect.unit (s := S2x512) ![p.val, t.val] S1x1.size h8)).set ⊆ idxSet p := by
  intro y hy
  rw [View.set_slice_whole, Rect.mem_set_unit] at hy
  have h0 : p.val ≤ (y 0).val ∧ (y 0).val < p.val + 1 := hy 0
  exact (mem_idxSet _ _).mpr (by omega)

/-- Every row's copy counts the same. -/
theorem amount_row (p : Fin 2) (t : Fin 512) : (bufRow p t).view.amount (.dma (semB p)) = NB := by rfl

/-- What the transfer writes is the block's row. -/
theorem deliver (hs : PosShare TreeShare) (p : Fin 2) (b : Fin 256) (t : Fin 512) (fd : S2x512x1024.Idx → Elt F .f32) :
    iprop(((bufRow p t).view.loc (c : Thread nD τ) ↦[(bufRow p t).view.set]{fullShare} (bufRow p t).view.write (Elt F) fd ((xRow (tokN T b t)).view.read (Elt F) X) Finset.univ)
      ∗ ((xRow (tokN T b t)).view.loc (c : Thread nD τ) ↦[(xRow (tokN T b t)).view.set]{Transfers.shareTokN hs t.val} X)) ⊢ (D T X c hs p b t : sProp (MT nD τ sig Unit (Elt F) ℕ (Pipeline.UD sig nD τ) ℕ)) := by
  unfold D
  rw [pointsTo_congr (g := G T X b), bufRow_set, xRow_set]
  · exact .rfl
  · intro y hy
    obtain ⟨j, -, rfl⟩ := Finset.mem_map.mp hy
    refine (View.write_emb_of_mem (v := (bufRow p t).view) _ _ (Finset.mem_univ _)).trans ?_
    rw [bufRow_emb]
    show (xRow (tokN T b t)).view.read (Elt F) X j = X (ix2 (tokN T b t) (j 1))
    show X ((xRow (tokN T b t)).view.emb j) = _
    rw [xRow_emb]; rfl

/-- The row transfer at the head of a program. -/
theorem enq_row (hs : PosShare TreeShare) (p : Fin 2) (b : Fin 256) (t : Fin 512) {src : Memref sig .tc .hbm S1x1024 .f32} {dst : Memref sig .tc .vmem S1x1024 .f32} {sm : SemLoc sig}
    (es : src = xRow (tokN T b t)) (ed : dst = bufRow p t) (em : sm = .dma (semB p)) (hsrc hdst hsem) (g : S2x512x1024.Idx → Elt F .f32) (k : PUnit → Prog (TpuEff nD τ sig (Elt F) Λ₀ .tc) Unit) (Q : Unit → sProp (MT nD τ sig Unit (Elt F) ℕ (Pipeline.UD sig nD τ) ℕ)) :
    iprop(xAt X c (xSet (tokN T b t)) (Transfers.shareTokN hs t.val) ∗ rowAt c p t g ∗ batch T X c hs p b t.val 0)
      ⊢ iprop((batch T X c hs p b (t.val + 1) 0 -∗ wp frame (wpE defs₀ 𝒱 (c : Thread nD τ) bd) Set.univ (k ⟨⟩) Q)
        -∗ wp frame (wpE defs₀ 𝒱 (c : Thread nD τ) bd) Set.univ (.op (.enqueueDmaAs src (.here dst) .same sm hsrc hdst hsem) k) Q) := by
  subst es ed em
  have H := Transfers.wp_dmaBatch EC (defs := defs₀ (F := F)) 𝒱 (c : Thread nD τ) bd (src := xRow (tokN T b t)) (dst := bufRow p t) (via := ReadAs.same) (sm := .dma (semB p)) (hsrc := hsrc) (hdst := hdst) (hsem := hsem) (k := k) (Q := Q) (D := D T X c hs p b) (q := Transfers.shareTokN hs t.val) (fs := X) (fd := g) (Sd := (bufRow p t).view.set) () NB
    (amount_row p t) (Finset.Subset.refl _) t.isLt (Nat.zero_le _) (deliver T X c hs p b t g)
  rw [bufRow_set, xRow_set] at H
  exact H

set_option maxHeartbeats 1000000 in
/-- One trip of the issuing loop: row `t` of block `b` set off into slot `p`. -/
theorem issue_wp (hs : PosShare TreeShare) (p : Fin 2) (b : Fin 256) (t : Fin 512)
    {o8 : Fin 2 → ℕ} {h8} {chk : BitVec 32 → Prop} {dec : ∀ v, Decidable (chk v)} {o9 : Fin 1 → ℕ} {h9} {o10 : Fin 3 → ℕ} {h10}
    {o11 : BitVec 32 → Fin 2 → ℕ} {h11}
    (e8 : o8 = ![p.val, t.val]) (e9 : o9 = ![p.val]) (e10 : o10 = ![p.val, t.val, 0]) (e11 : ∀ v, o11 v = ![v.toNat, 0])
    (hchk : chk (tok T b t)) (hr : (tok T b t).toNat < 163712) (Q : Unit → sProp (MT nD τ sig Unit (Elt F) ℕ (Pipeline.UD sig nD τ) ℕ)) :
    iprop(idxAt T c p b ∗ (∃ g, rowAt c p t g) ∗ xAt X c (xSet (tokN T b t)) (Transfers.shareTokN hs t.val) ∗ batch T X c hs p b t.val 0)
      ⊢ iprop((idxAt T c p b ∗ batch T X c hs p b (t.val + 1) 0 -∗ Q ())
        -∗ wp frame (wpE defs₀ 𝒱 (c : Thread nD τ) bd) Set.univ (issueBody (F := F) o8 h8 chk dec o9 h9 o10 h10 o11 h11) Q) := by
  obtain rfl : o11 = fun v => ![v.toNat, 0] := funext e11
  subst e8 e9 e10
  iintro ⟨HI, ⟨%g, HR⟩, HX, HB⟩ HQ
  unfold issueBody
  iapply (wp_smemLoadElt 𝒱 (c : Thread nD τ) bd Set.univ (m := Memref.whole cc0_scratch0) (r := Rect.unit (s := S2x512) ![p.val, t.val] S1x1.size h8) (S := idxSet p) (word_sub p t h8)) $$ HI
  iintro HI
  rw [word_read]
  iapply (wp_assume 𝒱 (c : Thread nD τ) bd Set.univ hchk)
  have ev : (Memref.whole main_arg0).slice (Rect.unit (s := S163712x1024) ![(tok T b t).toNat, 0] S1x1024.size (h11 _ hchk)) (fun _ => rfl) = xRow (tokN T b t) := by
    unfold xRow; congr 2; unfold tokN; rw [dif_pos hr]
  iapply (enq_row T X c bd hs p b t ev (by unfold bufRow; rfl) (by unfold semB; rfl) _ _ _ g _ Q) $$ [HX HR HB]
  · isplitl [HX]; · iexact HX
    isplitl [HR]; · iexact HR
    iexact HB
  · iintro HB
    sl_step
    iapply HQ
    isplitl [HI]; · iexact HI
    iexact HB

/-- What a row's copy delivers can be kept with its semaphore. -/
theorem D_storable (hs : PosShare TreeShare) (p : Fin 2) (b : Fin 256) (t : Fin 512) : BI.Storable (upEmb : UEmb _ (MT nD τ sig Unit (Elt F) ℕ (Pipeline.UD sig nD τ) ℕ)) (D T X c hs p b t) := by
  unfold D; infer_instance

/-- The part of the tokens' share no transfer of block `b` borrows. -/
def xRest (hs : PosShare TreeShare) (b : Fin 256) : sProp (MT nD τ sig Unit (Elt F) ℕ (Pipeline.UD sig nD τ) ℕ) :=
  iprop(bigSep Finset.univ (fun t : Fin 512 => xAt X c (Finset.univ \ xSet (tokN T b t)) (Transfers.shareTokN hs t.val)) ∗ xAt X c Finset.univ (Transfers.shareDrop hs 512))

/-- Slot `p` free: its rows, the share of the tokens its transfers borrow, and its semaphore at zero. -/
def SlotFree (hs : PosShare TreeShare) (p : Fin 2) : sProp (MT nD τ sig Unit (Elt F) ℕ (Pipeline.UD sig nD τ) ℕ) :=
  iprop((∃ g : S2x512x1024.Idx → Elt F .f32, ((c : Thread nD τ).loc cc0_scratch1) ↦[slotSet p]{fullShare} g) ∗ xAt X c Finset.univ hs ∗ semVal ((c : Thread nD τ), SemLoc.dma (semB p)) 0)

/-- Slot `p` with block `b`'s row transfers in flight. -/
def SlotFly (hs : PosShare TreeShare) (p : Fin 2) (b : Fin 256) : sProp (MT nD τ sig Unit (Elt F) ℕ (Pipeline.UD sig nD τ) ℕ) :=
  iprop(batch T X c hs p b 512 0 ∗ xRest T X c hs b)

/-- Slot `p` holding block `b`'s rows. -/
def SlotHas (hs : PosShare TreeShare) (p : Fin 2) (b : Fin 256) : sProp (MT nD τ sig Unit (Elt F) ℕ (Pipeline.UD sig nD τ) ℕ) :=
  iprop((((c : Thread nD τ).loc cc0_scratch1) ↦[slotSet p]{fullShare} G T X b) ∗ xAt X c Finset.univ hs ∗ semVal ((c : Thread nD τ), SemLoc.dma (semB p)) 0)

/-- A slot holding its rows can be freed. -/
theorem has_free (hs : PosShare TreeShare) (p : Fin 2) (b : Fin 256) : (SlotHas T X c hs p b : sProp (MT nD τ sig Unit (Elt F) ℕ (Pipeline.UD sig nD τ) ℕ)) ⊢ SlotFree X c hs p := by
  unfold SlotHas SlotFree
  iintro ⟨H, HX, HS⟩
  isplitl [H]; · iexists _; iexact H
  isplitl [HX]; · iexact HX
  iexact HS

/-- The tokens' share as the shares the transfers of block `b` borrow and the rest. -/
theorem x_split (hs : PosShare TreeShare) (b : Fin 256) :
    (xAt X c Finset.univ hs : sProp (MT nD τ sig Unit (Elt F) ℕ (Pipeline.UD sig nD τ) ℕ)) = iprop(bigSep Finset.univ (fun t : Fin 512 => xAt X c (xSet (tokN T b t)) (Transfers.shareTokN hs t.val)) ∗ xRest T X c hs b) := by
  have e1 := Transfers.pointsTo_toks_range (Ix := Unit) (Name := ℕ) (U := Pipeline.UD sig nD τ) (Lvl := ℕ) (ℓ := (c : Thread nD τ).loc main_arg0) (S := Finset.univ) (f := X) hs 512
  have e2 : (bigSep (Finset.range 512) (fun i => xAt X c Finset.univ (Transfers.shareTokN hs i)) : sProp (MT nD τ sig Unit (Elt F) ℕ (Pipeline.UD sig nD τ) ℕ))
      = iprop(bigSep Finset.univ (fun t : Fin 512 => xAt X c (xSet (tokN T b t)) (Transfers.shareTokN hs t.val)) ∗ bigSep Finset.univ (fun t : Fin 512 => xAt X c (Finset.univ \ xSet (tokN T b t)) (Transfers.shareTokN hs t.val))) := by
    rw [← Ring.bigSep_fin_eq_range 512 (fun t : Fin 512 => (xAt X c Finset.univ (Transfers.shareTokN hs t.val) : sProp (MT nD τ sig Unit (Elt F) ℕ (Pipeline.UD sig nD τ) ℕ))) _ (fun t h => rfl)]
    refine Eq.trans ?_ (BI.bigSep_sep _ _ _)
    congr 1; funext t
    exact Entails.antisymm (pointsTo_split_subset (Finset.subset_univ _)).1 (pointsTo_split_subset (Finset.subset_univ _)).2
  have r3 : ∀ A B C : sProp (MT nD τ sig Unit (Elt F) ℕ (Pipeline.UD sig nD τ) ℕ), (iprop(A ∗ B ∗ C) : sProp (MT nD τ sig Unit (Elt F) ℕ (Pipeline.UD sig nD τ) ℕ)) = iprop(B ∗ C ∗ A) := fun A B C => by
    have h1 : (iprop(A ∗ B ∗ C) : sProp (MT nD τ sig Unit (Elt F) ℕ (Pipeline.UD sig nD τ) ℕ)) ⊢ iprop(B ∗ C ∗ A) := by
      iintro ⟨Ha, Hb, Hc⟩; isplitl [Hb]; · iexact Hb
      isplitl [Hc]; · iexact Hc
      iexact Ha
    have h2 : (iprop(B ∗ C ∗ A) : sProp (MT nD τ sig Unit (Elt F) ℕ (Pipeline.UD sig nD τ) ℕ)) ⊢ iprop(A ∗ B ∗ C) := by
      iintro ⟨Hb, Hc, Ha⟩; isplitl [Ha]; · iexact Ha
      isplitl [Hb]; · iexact Hb
      iexact Hc
    exact Entails.antisymm h1 h2
  exact (Entails.antisymm e1.1 e1.2).trans ((congrArg (fun z => iprop(xAt X c Finset.univ (Transfers.shareDrop hs 512) ∗ z)) e2).trans (r3 _ _ _))

/-- A family, member by member. -/
theorem mono_fam {I : Type} (s : Finset I) (Φ Ψ : I → sProp (MT nD τ sig Unit (Elt F) ℕ (Pipeline.UD sig nD τ) ℕ)) (h : ∀ i, Φ i ⊢ Ψ i) : (bigSep s Φ : sProp (MT nD τ sig Unit (Elt F) ℕ (Pipeline.UD sig nD τ) ℕ)) ⊢ bigSep s Ψ :=
  BI.bigSep_mono (fun i _ => h i)

/-- A family of pairs as a pair of families. -/
theorem sep_fam {I : Type} (s : Finset I) (Φ Ψ : I → sProp (MT nD τ sig Unit (Elt F) ℕ (Pipeline.UD sig nD τ) ℕ)) : (bigSep s (fun i => iprop(Φ i ∗ Ψ i)) : sProp (MT nD τ sig Unit (Elt F) ℕ (Pipeline.UD sig nD τ) ℕ)) = iprop(bigSep s Φ ∗ bigSep s Ψ) :=
  BI.bigSep_sep s Φ Ψ

/-- Slot `p` row by row. -/
theorem slot_rows (p : Fin 2) (g : S2x512x1024.Idx → Elt F .f32) :
    (((c : Thread nD τ).loc cc0_scratch1) ↦[slotSet p]{fullShare} g : sProp (MT nD τ sig Unit (Elt F) ℕ (Pipeline.UD sig nD τ) ℕ)) = bigSep Finset.univ (fun t : Fin 512 => rowAt c p t g) := by
  rw [← rowSet_cover]
  exact pointsTo_biUnion _ _ (fun t _ t' _ h => rowSet_disjoint p t t' h)

/-- Before trip `k` of the issuing loop. -/
def issueInv (hs : PosShare TreeShare) (p : Fin 2) (b : Fin 256) (k : ℕ) (_ : Unit) : sProp (MT nD τ sig Unit (Elt F) ℕ (Pipeline.UD sig nD τ) ℕ) :=
  iprop(idxAt T c p b ∗ batch T X c hs p b k 0
    ∗ bigSep (Transfers.pending (n := 512) k) (fun t => iprop((∃ g, rowAt c p t g) ∗ xAt X c (xSet (tokN T b t)) (Transfers.shareTokN hs t.val))))

/-- The whole issuing loop. -/
theorem issue_loop (hs : PosShare TreeShare) (p : Fin 2) (b : Fin 256) (L : Scf.Loop 32) (ok : L.OK) (hL : L.trips = 512)
    (body : Fin L.trips → Unit → Prog (TpuEff nD τ sig (Elt F) Λ₀ .tc) Unit)
    (hbody : ∀ (k : Fin L.trips) (t : Fin 512), k.val = t.val → ∀ Q : Unit → sProp (MT nD τ sig Unit (Elt F) ℕ (Pipeline.UD sig nD τ) ℕ),
      iprop(idxAt T c p b ∗ (∃ g, rowAt c p t g) ∗ xAt X c (xSet (tokN T b t)) (Transfers.shareTokN hs t.val) ∗ batch T X c hs p b t.val 0)
      ⊢ iprop((idxAt T c p b ∗ batch T X c hs p b (t.val + 1) 0 -∗ Q ())
        -∗ wp frame (wpE defs₀ 𝒱 (c : Thread nD τ) bd) Set.univ (body k ()) Q))
    {β : Type} (kk : Unit → Prog (TpuEff nD τ sig (Elt F) Λ₀ .tc) β) (Q : β → sProp (MT nD τ sig Unit (Elt F) ℕ (Pipeline.UD sig nD τ) ℕ)) :
    iprop(idxAt T c p b ∗ SlotFree X c hs p)
      ⊢ iprop((idxAt T c p b ∗ SlotFly T X c hs p b -∗ wp frame (wpE defs₀ 𝒱 (c : Thread nD τ) bd) Set.univ (kk ()) Q)
        -∗ wp frame (wpE defs₀ 𝒱 (c : Thread nD τ) bd) Set.univ (Scf.Loop.for L ok () body >>= kk) Q) := by
  unfold SlotFree
  iintro ⟨HI, ⟨%g, Hg⟩, HX, HS⟩ HK
  haveI := D_storable T X c hs p b
  imod (Transfers.batch_alloc' (Lvl := ℕ) EC (c : Thread nD τ) () NB (D T X c hs p b) (sm := .dma (semB p)) (E := Set.univ)) $$ HS with HB
  ihave Hg := (Entails.of_eq (slot_rows c p g)) $$ Hg
  ihave HX := (Entails.of_eq (x_split T X c hs b)) $$ HX
  icases HX with ⟨Hx, Hr⟩
  iapply (Scf.wp_for_bind frame (wpE defs₀ 𝒱 (c : Thread nD τ) bd) Set.univ L.lb L.ub L.st ok () body (issueInv T X c hs p b) ?_) $$ [HI HB Hg Hx]
  · intro k acc
    have hk : k.val < 512 := hL ▸ k.isLt
    unfold issueInv
    rw [Transfers.bigSep_pending_step _ k.val hk]
    iintro ⟨HI, HB, ⟨Hg, Hx⟩, Hp⟩
    iapply (hbody k ⟨k.val, hk⟩ rfl _) $$ [HI HB Hg Hx]
    · isplitl [HI]; · iexact HI
      isplitl [Hg]; · iexact Hg
      isplitl [Hx]; · iexact Hx
      iexact HB
    · iintro ⟨HI, HB⟩
      isplitl [HI]; · iexact HI
      isplitl [HB]; · iexact HB
      iexact Hp
  · unfold issueInv
    rw [Transfers.pending_zero]
    isplitl [HI]; · iexact HI
    isplitl [HB]; · iexact HB
    iapply (Entails.of_eq (sep_fam Finset.univ (fun t : Fin 512 => (iprop(∃ g, rowAt c p t g) : sProp (MT nD τ sig Unit (Elt F) ℕ (Pipeline.UD sig nD τ) ℕ))) (fun t : Fin 512 => xAt X c (xSet (tokN T b t)) (Transfers.shareTokN hs t.val))).symm)
    isplitl [Hg]
    · iapply (mono_fam Finset.univ (fun t : Fin 512 => (rowAt c p t g : sProp (MT nD τ sig Unit (Elt F) ℕ (Pipeline.UD sig nD τ) ℕ))) (fun t => iprop(∃ g, rowAt c p t g)) (fun t => by iintro H; iexists g; iexact H)) $$ Hg
    iexact Hx
  · iintro %acc
    unfold issueInv
    rw [show Scf.trips L.lb L.ub L.st = 512 from hL]
    iintro ⟨HI, HB, -⟩
    iapply HK
    isplitl [HI]; · iexact HI
    unfold SlotFly
    isplitl [HB]; · iexact HB
    iexact Hr

/-- One trip of the draining loop. -/
def drainBody (o12 : Fin 2 → ℕ) (h12 : ∀ a, o12 a + S1x1.size a ≤ S2x512.size a) (chk : BitVec 32 → Prop) (dec : ∀ v, Decidable (chk v))
    (o13 : Fin 1 → ℕ) (h13 : ∀ a, o13 a + S1.size a ≤ S2.size a) (o14 : Fin 3 → ℕ) (h14 : ∀ a, o14 a + S1x1x1024.size a ≤ S2x512x1024.size a)
    (o15 : BitVec 32 → Fin 2 → ℕ) (h15 : ∀ v, chk v → ∀ a, o15 v a + S1x1024.size a ≤ S163712x1024.size a) :
    Prog (TpuEff nD τ sig (Elt F) Λ₀ .tc) Unit :=
  smemLoadElt (Memref.whole cc0_scratch0) (Rect.unit (s := S2x512) o12 S1x1.size h12) (View.loads_smem_one rfl numel1_S1x1) (Shape.Idx.first (numel1_S1x1.symm ▸ Nat.one_pos)) fun v =>
  .op (TpuEff.assume (chk v) (dec v)) fun hw =>
  .op (.waitDma2 ((cc0_scratch3.slice (Rect.unit (s := S2) o13 S1.size h13)).squeeze S_ squeezes_S1_S_).sem
    ((Memref.whole main_arg0).slice (Rect.unit (s := S163712x1024) (o15 v) S1x1024.size (h15 v hw.down)) (fun _ => rfl) : Memref sig .tc .hbm S1x1024 .f32)
    (((Memref.whole cc0_scratch1).slice (Rect.unit (s := S2x512x1024) o14 S1x1x1024.size h14) (fun _ => rfl)).squeeze S1x1024 squeezes_S1x1x1024_S1x1024 : Memref sig .tc .vmem S1x1024 .f32)
    (View.wordExact_bits rfl) ((View.wordExact_bits rfl).reshape _ _)) fun _ =>
  .ret ()

/-- The third loop's round as its steps. -/
theorem t3_eq (i : grid0.Coords) (arg1 harg1 harg2 arg3 harg3 arg4 harg4 arg5 harg5 arg6 harg6 arg7 harg7 arg8 harg8 arg9 harg9 arg10 harg10 harg11 harg12) (k : Fin k0_t3_loop.trips) :
    k0_t3_body (F := F) i arg1 harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3 k ()
      = drainBody (k0_off11 i k) (k0_off11_inb i k) k0_chk3 k0_chk3.dec (k0_off12 i) (k0_off12_inb i) (k0_off13 i k) (k0_off13_inb i k) k0_off14 (fun v hw => k0_off14_inb v hw) := rfl

/-- What the core still owes: nothing, some waits recorded. -/
abbrev ow : sProp (MT nD τ sig Unit (Elt F) ℕ (Pipeline.UD sig nD τ) ℕ) := iprop(∃ W, owes (c : Thread nD τ) 0 W)

/-- The wait for a row transfer at the head of a program. -/
theorem wait_row (hs : PosShare TreeShare) (p : Fin 2) (b : Fin 256) (t : Fin 512) {src : Memref sig .tc .hbm S1x1024 .f32} {dst : Memref sig .tc .vmem S1x1024 .f32} {sm : DmaSem sig}
    (ed : dst = bufRow p t) (em : sm = semB p) (hsrc hdst) (k : PUnit → Prog (TpuEff nD τ sig (Elt F) Λ₀ .tc) Unit) (Q : Unit → sProp (MT nD τ sig Unit (Elt F) ℕ (Pipeline.UD sig nD τ) ℕ)) :
    iprop(batch T X c hs p b 512 (t.val * NB) ∗ ow c)
      ⊢ iprop((batch T X c hs p b 512 ((t.val + 1) * NB) ∗ ow c -∗ wp frame (wpE defs₀ 𝒱 (c : Thread nD τ) bd) Set.univ (k ⟨⟩) Q)
        -∗ wp frame (wpE defs₀ 𝒱 (c : Thread nD τ) bd) Set.univ (.op (.waitDma2 sm src dst hsrc hdst) k) Q) := by
  subst ed em
  iintro ⟨HB, ⟨%W, HO⟩⟩ HK
  iapply (Transfers.wp_waitBatchMul EC (defs := defs₀ (F := F)) 𝒱 (c : Thread nD τ) bd (srcw := src) (dstw := bufRow p t) (D := D T X c hs p b) (j := 512) (u := t.val * NB) () (N := NB) 1
    (show (bufRow p t).view.dmaCredit = 1 * NB from (Nat.one_mul NB).symm) (by rw [Nat.mul_comm NB, Nat.one_mul, ← Nat.succ_mul]; exact Nat.mul_le_mul_right _ t.isLt)) $$ [HB HO]
  · isplitl [HB]; · iexact HB
    iexact HO
  · iintro ⟨HB, HO⟩
    iapply HK
    isplitl [HB]
    · rw [show (t.val + 1) * NB = t.val * NB + 1 * NB by rw [Nat.succ_mul, Nat.one_mul]]
      iexact HB
    iexists _; iexact HO

/-- One trip of the draining loop. -/
theorem drain_wp (hs : PosShare TreeShare) (p : Fin 2) (b : Fin 256) (t : Fin 512)
    {o12 : Fin 2 → ℕ} {h12} {chk : BitVec 32 → Prop} {dec : ∀ v, Decidable (chk v)} {o13 : Fin 1 → ℕ} {h13} {o14 : Fin 3 → ℕ} {h14}
    {o15 : BitVec 32 → Fin 2 → ℕ} {h15}
    (e12 : o12 = ![p.val, t.val]) (e13 : o13 = ![p.val]) (e14 : o14 = ![p.val, t.val, 0])
    (hchk : chk (tok T b t)) (Q : Unit → sProp (MT nD τ sig Unit (Elt F) ℕ (Pipeline.UD sig nD τ) ℕ)) :
    iprop(idxAt T c p b ∗ batch T X c hs p b 512 (t.val * NB) ∗ ow c)
      ⊢ iprop((idxAt T c p b ∗ batch T X c hs p b 512 ((t.val + 1) * NB) ∗ ow c -∗ Q ())
        -∗ wp frame (wpE defs₀ 𝒱 (c : Thread nD τ) bd) Set.univ (drainBody (F := F) o12 h12 chk dec o13 h13 o14 h14 o15 h15) Q) := by
  subst e12 e13 e14
  iintro ⟨HI, HB, HO⟩ HQ
  unfold drainBody
  iapply (wp_smemLoadElt 𝒱 (c : Thread nD τ) bd Set.univ (m := Memref.whole cc0_scratch0) (r := Rect.unit (s := S2x512) ![p.val, t.val] S1x1.size h12) (S := idxSet p) (word_sub p t h12)) $$ HI
  iintro HI
  rw [word_read]
  iapply (wp_assume 𝒱 (c : Thread nD τ) bd Set.univ hchk)
  iapply (wait_row T X c bd hs p b t (by unfold bufRow; rfl) (by unfold semB; rfl) _ _ _ Q) $$ [HB HO]
  · isplitl [HB]; · iexact HB
    iexact HO
  · iintro ⟨HB, HO⟩
    sl_step
    iapply HQ
    isplitl [HI]; · iexact HI
    isplitl [HB]; · iexact HB
    iexact HO

/-- Before trip `k` of the draining loop. -/
def drainInv (hs : PosShare TreeShare) (p : Fin 2) (b : Fin 256) (k : ℕ) (_ : Unit) : sProp (MT nD τ sig Unit (Elt F) ℕ (Pipeline.UD sig nD τ) ℕ) :=
  iprop(idxAt T c p b ∗ batch T X c hs p b 512 (k * NB) ∗ ow c)

/-- The deliveries of a batch put back together. -/
theorem collect (hs : PosShare TreeShare) (p : Fin 2) (b : Fin 256) :
    (iprop(bigSep Finset.univ (D T X c hs p b) ∗ semVal ((c : Thread nD τ), SemLoc.dma (semB p)) 0 ∗ xRest T X c hs b) : sProp (MT nD τ sig Unit (Elt F) ℕ (Pipeline.UD sig nD τ) ℕ)) ⊢ SlotHas T X c hs p b := by
  unfold SlotHas
  iintro ⟨HD, HS, HR⟩
  ihave HD := (show bigSep Finset.univ (D T X c hs p b) ⊢ iprop(bigSep Finset.univ (fun t : Fin 512 => rowAt c p t (G T X b)) ∗ bigSep Finset.univ (fun t : Fin 512 => xAt X c (xSet (tokN T b t)) (Transfers.shareTokN hs t.val)))
    from Entails.of_eq (sep_fam Finset.univ (fun t : Fin 512 => rowAt c p t (G T X b)) (fun t : Fin 512 => xAt X c (xSet (tokN T b t)) (Transfers.shareTokN hs t.val)))) $$ HD
  icases HD with ⟨Hg, Hx⟩
  isplitl [Hg]
  · iapply (Entails.of_eq (slot_rows c p (G T X b)).symm) $$ Hg
  isplitl [Hx HR]
  · iapply (Entails.of_eq (x_split T X c hs b).symm)
    isplitl [Hx]; · iexact Hx
    iexact HR
  iexact HS

/-- The whole draining loop. -/
theorem drain_loop (hs : PosShare TreeShare) (p : Fin 2) (b : Fin 256) (L : Scf.Loop 32) (ok : L.OK) (hL : L.trips = 512)
    (body : Fin L.trips → Unit → Prog (TpuEff nD τ sig (Elt F) Λ₀ .tc) Unit)
    (hbody : ∀ (k : Fin L.trips) (t : Fin 512), k.val = t.val → ∀ Q : Unit → sProp (MT nD τ sig Unit (Elt F) ℕ (Pipeline.UD sig nD τ) ℕ),
      iprop(idxAt T c p b ∗ batch T X c hs p b 512 (t.val * NB) ∗ ow c)
      ⊢ iprop((idxAt T c p b ∗ batch T X c hs p b 512 ((t.val + 1) * NB) ∗ ow c -∗ Q ())
        -∗ wp frame (wpE defs₀ 𝒱 (c : Thread nD τ) bd) Set.univ (body k ()) Q))
    {β : Type} (kk : Unit → Prog (TpuEff nD τ sig (Elt F) Λ₀ .tc) β) (Q : β → sProp (MT nD τ sig Unit (Elt F) ℕ (Pipeline.UD sig nD τ) ℕ)) :
    iprop(idxAt T c p b ∗ SlotFly T X c hs p b ∗ ow c)
      ⊢ iprop((idxAt T c p b ∗ SlotHas T X c hs p b ∗ ow c -∗ wp frame (wpE defs₀ 𝒱 (c : Thread nD τ) bd) Set.univ (kk ()) Q)
        -∗ wp frame (wpE defs₀ 𝒱 (c : Thread nD τ) bd) Set.univ (Scf.Loop.for L ok () body >>= kk) Q) := by
  unfold SlotFly
  iintro ⟨HI, ⟨HB, HR⟩, HO⟩ HK
  iapply (Scf.wp_for_bind frame (wpE defs₀ 𝒱 (c : Thread nD τ) bd) Set.univ L.lb L.ub L.st ok () body (drainInv T X c hs p b) ?_) $$ [HI HB HO]
  · intro k acc
    have hk : k.val < 512 := hL ▸ k.isLt
    unfold drainInv
    iintro ⟨HI, HB, HO⟩
    iapply (hbody k ⟨k.val, hk⟩ rfl _) $$ [HI HB HO]
    · isplitl [HI]; · iexact HI
      isplitl [HB]; · iexact HB
      iexact HO
    · iintro ⟨HI, HB, HO⟩
      isplitl [HI]; · iexact HI
      isplitl [HB]; · iexact HB
      iexact HO
  · unfold drainInv
    rw [Nat.zero_mul]
    isplitl [HI]; · iexact HI
    isplitl [HB]; · iexact HB
    iexact HO
  · iintro %acc
    unfold drainInv
    rw [show Scf.trips L.lb L.ub L.st = 512 from hL, Nat.mul_comm]
    iintro ⟨HI, HB, HO⟩
    imod (Transfers.batch_collect' (Lvl := ℕ) EC (c : Thread nD τ) (sm := .dma (semB p)) (ι := ()) NB_pos (D := D T X c hs p b)) $$ HB with ⟨HD, HS⟩
    iapply HK
    isplitl [HI]; · iexact HI
    isplitl [HD HS HR]
    · iapply (collect T X c hs p b)
      isplitl [HD]; · iexact HD
      isplitl [HS]; · iexact HS
      iexact HR
    iexact HO

end Issue

end Cert.Combine.Hand

end
-- ==== Proof.CmbPart.lean ====
module

public import proofs.«01_k».proof.Proof.CmbStep

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What an index transfer's semaphore is credited. -/
def NI : ℕ := (idxRow 0).view.dmaCredit
/-- A copy of indices counts for something. -/
theorem NI_pos : 0 < NI := View.dmaCredit_pos _ (by decide)

section Part

variable (T : S256x512.Idx → Elt F .i32) (X : S163712x1024.Idx → Elt F .f32)
variable (c : Dev nD) {𝒱 : Variants} (bd : Option 𝒱.V)

/-- The token indices' array, on some elements. -/
abbrev tokAt (S : Finset S256x512.Idx) : sProp (MT nD τ sig Unit (Elt F) ℕ (Pipeline.UD sig nD τ) ℕ) := ((c : Thread nD τ).loc main_arg1) ↦[S]{fullShare} T
/-- Slot `p` of the index buffer at some contents. -/
abbrev idxAny (p : Fin 2) : sProp (MT nD τ sig Unit (Elt F) ℕ (Pipeline.UD sig nD τ) ℕ) := iprop(∃ g : S2x512.Idx → Elt F .i32, ((c : Thread nD τ).loc cc0_scratch0) ↦[idxSet p]{fullShare} g)
/-- The index semaphore of slot `p` at zero. -/
abbrev semI0 (p : Fin 2) : sProp (MT nD τ sig Unit (Elt F) ℕ (Pipeline.UD sig nD τ) ℕ) := semVal ((c : Thread nD τ), SemLoc.dma (semI p)) 0

/-- Row `b` of the token indices on its way into slot `p`. -/
def TokFly (p : Fin 2) (b : Fin 256) : sProp (MT nD τ sig Unit (Elt F) ℕ (Pipeline.UD sig nD τ) ℕ) :=
  iprop(Transfers.Flight EC (c : Thread nD τ) (.dma (semI p)) () NI iprop(idxAt T c p b ∗ tokAt T c (tokSet b)) ∗ tokAt T c (Finset.univ \ tokSet b))

/-- An index transfer at the head of a program. -/
def tokEnq {α : Type} (o16 : Fin 1 → ℕ) (h16 : ∀ a, o16 a + S1.size a ≤ S2.size a) (o17 : Fin 2 → ℕ) (h17 : ∀ a, o17 a + S1x512.size a ≤ S2x512.size a)
    (o18 : Fin 2 → ℕ) (h18 : ∀ a, o18 a + S1x512.size a ≤ S256x512.size a) (k : PUnit → Prog (TpuEff nD τ sig (Elt F) Λ₀ .tc) α) : Prog (TpuEff nD τ sig (Elt F) Λ₀ .tc) α :=
  .op (.enqueueDma (((Memref.whole main_arg1).slice (Rect.unit (s := S256x512) o18 S1x512.size h18) (fun _ => rfl)).squeeze S512 squeezes_S1x512_S512 : Memref sig .tc .hbm S512 .i32)
    (.here (((Memref.whole cc0_scratch0).slice (Rect.unit (s := S2x512) o17 S1x512.size h17) (fun _ => rfl)).squeeze S512 squeezes_S1x512_S512 : Memref sig .tc .smem S512 .i32))
    (.dma ((cc0_scratch2.slice (Rect.unit (s := S2) o16 S1.size h16)).squeeze S_ squeezes_S1_S_).sem) ((View.wordExact_bits rfl).reshape _ _) ((View.wordExact_bits rfl).reshape _ _) ⟨Or.inl rfl, trivial⟩) k

/-- The wait for one. -/
def tokWait {α : Type} (o16 : Fin 1 → ℕ) (h16 : ∀ a, o16 a + S1.size a ≤ S2.size a) (o17 : Fin 2 → ℕ) (h17 : ∀ a, o17 a + S1x512.size a ≤ S2x512.size a)
    (o18 : Fin 2 → ℕ) (h18 : ∀ a, o18 a + S1x512.size a ≤ S256x512.size a) (k : PUnit → Prog (TpuEff nD τ sig (Elt F) Λ₀ .tc) α) : Prog (TpuEff nD τ sig (Elt F) Λ₀ .tc) α :=
  .op (.waitDma2 ((cc0_scratch2.slice (Rect.unit (s := S2) o16 S1.size h16)).squeeze S_ squeezes_S1_S_).sem
    (((Memref.whole main_arg1).slice (Rect.unit (s := S256x512) o18 S1x512.size h18) (fun _ => rfl)).squeeze S512 squeezes_S1x512_S512 : Memref sig .tc .hbm S512 .i32)
    (((Memref.whole cc0_scratch0).slice (Rect.unit (s := S2x512) o17 S1x512.size h17) (fun _ => rfl)).squeeze S512 squeezes_S1x512_S512 : Memref sig .tc .smem S512 .i32)
    ((View.wordExact_bits rfl).reshape _ _) ((View.wordExact_bits rfl).reshape _ _)) k

/-- What an index transfer writes is the block's words. -/
theorem deliver_tok (p : Fin 2) (b : Fin 256) (fd : S2x512.Idx → Elt F .i32) :
    (iprop(((idxRow p).view.loc (c : Thread nD τ) ↦[(idxRow p).view.set]{fullShare} (idxRow p).view.write (Elt F) fd ((tokRow b).view.read (Elt F) T) Finset.univ)
      ∗ ((tokRow b).view.loc (c : Thread nD τ) ↦[(tokRow b).view.set]{fullShare} T)) : sProp (MT nD τ sig Unit (Elt F) ℕ (Pipeline.UD sig nD τ) ℕ)) = iprop(idxAt T c p b ∗ tokAt T c (tokSet b)) := by
  rw [pointsTo_congr (g := J T b), idxRow_set, tokRow_set]
  · rfl
  · intro y hy
    obtain ⟨j, -, rfl⟩ := Finset.mem_map.mp hy
    refine (View.write_emb_of_mem (v := (idxRow p).view) _ _ (Finset.mem_univ _)).trans ?_
    rw [idxRow_emb]
    show T ((tokRow b).view.emb j) = _
    rw [tokRow_emb]; rfl

/-- The start of a copy of a block's indices. -/
theorem tokEnq_wp {α : Type} (p : Fin 2) (b : Fin 256) {o16 : Fin 1 → ℕ} {h16} {o17 : Fin 2 → ℕ} {h17} {o18 : Fin 2 → ℕ} {h18}
    (e16 : o16 = ![p.val]) (e17 : o17 = ![p.val, 0]) (e18 : o18 = ![b.val, 0]) (k : PUnit → Prog (TpuEff nD τ sig (Elt F) Λ₀ .tc) α) (Q : α → sProp (MT nD τ sig Unit (Elt F) ℕ (Pipeline.UD sig nD τ) ℕ)) :
    iprop(idxAny c p ∗ tokAt T c Finset.univ ∗ semI0 c p)
      ⊢ iprop((TokFly T c p b -∗ wp frame (wpE defs₀ 𝒱 (c : Thread nD τ) bd) Set.univ (k ⟨⟩) Q)
        -∗ wp frame (wpE defs₀ 𝒱 (c : Thread nD τ) bd) Set.univ (tokEnq (F := F) o16 h16 o17 h17 o18 h18 k) Q) := by
  subst e16 e17 e18
  unfold tokEnq TokFly
  iintro ⟨⟨%g, Hg⟩, HT, HS⟩ HK
  ihave HT := ((pointsTo_split_subset (Finset.subset_univ (tokSet b))).1) $$ HT
  icases HT with ⟨Ht, Hr⟩
  have H := fun hsrc hdst hsem => Transfers.wp_dmaLocal EC (defs := defs₀ (F := F)) 𝒱 (c : Thread nD τ) bd (src := tokRow b) (dst := idxRow p) (via := ReadAs.same) (sm := .dma (semI p)) (hsrc := hsrc) (hdst := hdst) (hsem := hsem) (k := k) (Q := Q) (q := fullShare) (fs := T) (fd := g) (Sd := (idxRow p).view.set) () NI
    (show (idxRow p).view.dmaCredit = NI from rfl) NI_pos (Finset.Subset.refl _)
  have e := deliver_tok T c p b g
  iapply (H ((View.wordExact_bits rfl).reshape _ _) ((View.wordExact_bits rfl).reshape _ _) ⟨Or.inl rfl, trivial⟩) $$ [Hg Ht HS]
  · rw [idxRow_set, tokRow_set]
    isplitl [Ht]; · iexact Ht
    isplitl [Hg]; · iexact Hg
    iexact HS
  · iintro HF
    iapply HK
    isplitl [HF]
    · iapply (Entails.of_eq (congrArg (Transfers.Flight EC (c : Thread nD τ) (.dma (semI p)) () NI) e)) $$ HF
    iexact Hr

/-- The wait for a copy of a block's indices. -/
theorem tokWait_wp {α : Type} (p : Fin 2) (b : Fin 256) {o16 : Fin 1 → ℕ} {h16} {o17 : Fin 2 → ℕ} {h17} {o18 : Fin 2 → ℕ} {h18}
    (e16 : o16 = ![p.val]) (e17 : o17 = ![p.val, 0]) (k : PUnit → Prog (TpuEff nD τ sig (Elt F) Λ₀ .tc) α) (Q : α → sProp (MT nD τ sig Unit (Elt F) ℕ (Pipeline.UD sig nD τ) ℕ)) :
    iprop(TokFly T c p b ∗ ow c)
      ⊢ iprop((idxAt T c p b ∗ tokAt T c Finset.univ ∗ semI0 c p ∗ ow c -∗ wp frame (wpE defs₀ 𝒱 (c : Thread nD τ) bd) Set.univ (k ⟨⟩) Q)
        -∗ wp frame (wpE defs₀ 𝒱 (c : Thread nD τ) bd) Set.univ (tokWait (F := F) o16 h16 o17 h17 o18 h18 k) Q) := by
  subst e16 e17
  unfold tokWait TokFly
  iintro ⟨⟨HF, Hr⟩, ⟨%W, HO⟩⟩ HK
  iapply (Transfers.wp_waitLocal EC (defs := defs₀ (F := F)) 𝒱 (c : Thread nD τ) bd (dstw := idxRow p) (sem := semI p) () (N := NI) (show (idxRow p).view.dmaCredit = NI from rfl)) $$ [HF HO]
  · isplitl [HF]; · iexact HF
    iexact HO
  · iintro ⟨⟨HI, HT⟩, HS, HO⟩
    iapply HK
    isplitl [HI]; · iexact HI
    isplitl [HT Hr]
    · iapply ((pointsTo_split_subset (Finset.subset_univ (tokSet b))).2)
      isplitl [HT]; · iexact HT
      iexact Hr
    isplitl [HS]; · iexact HS
    iexists _; iexact HO

/-! ## The states between the kernel's steps -/

/-- The half of the tokens' share that slot `p`'s transfers borrow from. -/
def hs (p : Fin 2) : PosShare TreeShare := if p = 0 then fullShare.left else fullShare.right
/-- Block number `n`. -/
def bk (n : ℕ) : Fin 256 := ⟨n % 256, Nat.mod_lt _ (by norm_num)⟩
/-- A number in range is its own block. -/
theorem bk_val {n : ℕ} (h : n < 256) : (bk n).val = n := Nat.mod_eq_of_lt h

/-- Nothing in flight. -/
def Idle : sProp (MT nD τ sig Unit (Elt F) ℕ (Pipeline.UD sig nD τ) ℕ) :=
  iprop(SlotFree X c (hs 0) 0 ∗ SlotFree X c (hs 1) 1 ∗ idxAny c 0 ∗ idxAny c 1 ∗ tokAt T c Finset.univ ∗ semI0 c 0 ∗ semI0 c 1)

/-- Before point `n`, in the middle of the grid: block `n`'s rows in flight, and the words of block `n + 1`. -/
def Mid (n : ℕ) : sProp (MT nD τ sig Unit (Elt F) ℕ (Pipeline.UD sig nD τ) ℕ) :=
  iprop(idxAt T c (par n) (bk n) ∗ SlotFly T X c (hs (par n)) (par n) (bk n) ∗ SlotFree X c (hs (par (n + 1))) (par (n + 1)) ∗ semI0 c (par n)
    ∗ (if n + 1 < 256 then TokFly T c (par (n + 1)) (bk (n + 1)) else iprop(tokAt T c Finset.univ ∗ semI0 c (par (n + 1)) ∗ idxAny c (par (n + 1)))))

/-- What is held for the next block once its rows are in flight. -/
def Next (n : ℕ) : sProp (MT nD τ sig Unit (Elt F) ℕ (Pipeline.UD sig nD τ) ℕ) :=
  if n + 1 < 256 then iprop(idxAt T c (par (n + 1)) (bk (n + 1)) ∗ SlotFly T X c (hs (par (n + 1))) (par (n + 1)) (bk (n + 1)))
  else iprop(idxAny c (par (n + 1)) ∗ SlotFree X c (hs (par (n + 1))) (par (n + 1)))

/-- Once the next block's rows are in flight. -/
def MidB (n : ℕ) : sProp (MT nD τ sig Unit (Elt F) ℕ (Pipeline.UD sig nD τ) ℕ) :=
  iprop(idxAt T c (par n) (bk n) ∗ SlotFly T X c (hs (par n)) (par n) (bk n) ∗ semI0 c (par n) ∗ tokAt T c Finset.univ ∗ semI0 c (par (n + 1)) ∗ Next T X c n)

/-- Once block `n`'s rows have come. -/
def MidC (n : ℕ) : sProp (MT nD τ sig Unit (Elt F) ℕ (Pipeline.UD sig nD τ) ℕ) :=
  iprop(idxAt T c (par n) (bk n) ∗ SlotHas T X c (hs (par n)) (par n) (bk n) ∗ semI0 c (par n) ∗ tokAt T c Finset.univ ∗ semI0 c (par (n + 1)) ∗ Next T X c n)

/-- Once the words of block `n + 2` are asked for. -/
def Late (n : ℕ) : sProp (MT nD τ sig Unit (Elt F) ℕ (Pipeline.UD sig nD τ) ℕ) :=
  iprop(Next T X c n ∗ semI0 c (par (n + 1)) ∗ (if n + 2 < 256 then TokFly T c (par n) (bk (n + 2)) else iprop(tokAt T c Finset.univ ∗ semI0 c (par n) ∗ idxAny c (par n))))

/-- Two points on, the slot is the same. -/
theorem par_add_two (n : ℕ) : par (n + 2) = par n := Fin.ext (by show (n + 2) % 2 = n % 2; omega)

/-- The state before point `n`. -/
def St (n : ℕ) : sProp (MT nD τ sig Unit (Elt F) ℕ (Pipeline.UD sig nD τ) ℕ) := if 0 < n ∧ n < 256 then Mid T X c n else Idle T X c

/-- A free slot and what is still in flight make the state after a point. -/
theorem late_st (n : ℕ) (hn : n < 256) : (iprop(SlotFree X c (hs (par n)) (par n) ∗ Late T X c n) : sProp (MT nD τ sig Unit (Elt F) ℕ (Pipeline.UD sig nD τ) ℕ)) ⊢ St T X c (n + 1) := by
  unfold Late Next St
  by_cases h1 : n + 1 < 256
  · rw [if_pos h1, if_pos (show 0 < n + 1 ∧ n + 1 < 256 from ⟨Nat.succ_pos n, h1⟩)]
    unfold Mid
    rw [show n + 1 + 1 = n + 2 from rfl, par_add_two]
    iintro ⟨HF, ⟨HI, HL⟩, HS, HT⟩
    isplitl [HI]; · iexact HI
    isplitl [HL]; · iexact HL
    isplitl [HF]; · iexact HF
    isplitl [HS]; · iexact HS
    iexact HT
  · rw [if_neg h1, if_neg (show ¬ (0 < n + 1 ∧ n + 1 < 256) from fun h => h1 h.2), if_neg (show ¬ n + 2 < 256 by omega)]
    obtain rfl : n = 255 := by omega
    unfold Idle
    rw [show par 255 = 1 from rfl, show par (255 + 1) = 0 from rfl]
    iintro ⟨HF, ⟨HI, HL⟩, HS, HT, HS0, HI0⟩
    isplitl [HL]; · iexact HL
    isplitl [HF]; · iexact HF
    isplitl [HI]; · iexact HI
    isplitl [HI0]; · iexact HI0
    isplitl [HT]; · iexact HT
    isplitl [HS]; · iexact HS
    iexact HS0

/-! ## The kernel's first part -/

section Prog

variable (i : grid0.Coords) (harg1 : (Memref.whole main_arg1).IsWhole) (harg2 : (Memref.whole main_arg0).IsWhole)
  (arg3 : Memref sig .tc .vmem S64x1024 .f32) (harg3 : arg3.IsWhole) (arg4 : Memref sig .tc .vmem S64x128 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x1024 .f32) (harg10 : arg10.IsWhole)
  (harg11 : (Memref.whole cc0_scratch0).IsWhole) (harg12 : (Memref.whole cc0_scratch1).IsWhole)

/-- What the first part hands on. -/
def ret1 : Σ' (arg0 : BitVec 32) (v23 : BitVec 32), BitVec 32 :=
  ⟨BitVec.ofNat 32 (i 0).val, pm (BitVec.ofNat 32 (i 0).val), Scalar.extui (Scalar.cmpi .slt (Scalar.addi (BitVec.ofNat 32 (i 0).val) 2#32) 256#32)⟩
/-- The draining loop and what follows. -/
def rest2 {α : Type} (r : α) : Prog (TpuEff nD τ sig (Elt F) Λ₀ .tc) α :=
  Scf.Loop.for k0_t3_loop k0_t3_ok ⟨⟩ (k0_t3_body (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3)
    >>= fun _ => .ret r
/-- The next block's issuing loop and what follows. -/
def rest1 {α : Type} (r : α) : Prog (TpuEff nD τ sig (Elt F) Λ₀ .tc) α :=
  if h2 : k0_cond2 i = 1#1 then
    tokWait (k0_off4 i) (k0_off4_inb i h2) (k0_off5 i) (k0_off5_inb i h2) (k0_off6 i) (k0_off6_inb i h2) fun _ =>
    Scf.Loop.for k0_t2_loop (k0_t2_ok i h2) ⟨⟩ (k0_t2_body (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3 h2)
      >>= fun _ => rest2 i harg1 harg2 arg3 harg3 arg4 harg4 arg5 harg5 arg6 harg6 arg7 harg7 arg8 harg8 arg9 harg9 arg10 harg10 harg11 harg12 r
  else rest2 i harg1 harg2 arg3 harg3 arg4 harg4 arg5 harg5 arg6 harg6 arg7 harg7 arg8 harg8 arg9 harg9 arg10 harg10 harg11 harg12 r
/-- The first point's prologue, before `k`. -/
def head1 {α : Type} (h1 : k0_cond1 i = 1#1) (k : Prog (TpuEff nD τ sig (Elt F) Λ₀ .tc) α) : Prog (TpuEff nD τ sig (Elt F) Λ₀ .tc) α :=
  tokEnq ![0] inb_S2_S1_0 ![0, 0] inb_S2x512_S1x512_0_0 ![0, 0] inb_S256x512_S1x512_0_0 fun _ =>
  tokWait ![0] inb_S2_S1_0 ![0, 0] inb_S2x512_S1x512_0_0 ![0, 0] inb_S256x512_S1x512_0_0 fun _ =>
  Scf.Loop.for k0_t1_loop (k0_t1_ok i h1) ⟨⟩ (k0_t1_body (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3 h1)
    >>= fun _ => tokEnq ![1] inb_S2_S1_1 ![1, 0] inb_S2x512_S1x512_1_0 ![1, 0] inb_S256x512_S1x512_1_0 fun _ => k

/-- The first part of the body as its steps in sequence. -/
theorem part1_nf : ∃ r, k0_part1 (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3
    = (if h1 : k0_cond1 i = 1#1 then head1 i harg1 harg2 arg3 harg3 arg4 harg4 arg5 harg5 arg6 harg6 arg7 harg7 arg8 harg8 arg9 harg9 arg10 harg10 harg11 harg12 h1 (rest1 i harg1 harg2 arg3 harg3 arg4 harg4 arg5 harg5 arg6 harg6 arg7 harg7 arg8 harg8 arg9 harg9 arg10 harg10 harg11 harg12 r)
      else rest1 i harg1 harg2 arg3 harg3 arg4 harg4 arg5 harg5 arg6 harg6 arg7 harg7 arg8 harg8 arg9 harg9 arg10 harg10 harg11 harg12 r) := by
  refine ⟨ret1 i, ?_⟩
  rw [k0_part1_eq_skeleton]
  exact rfl

variable (H : ∀ b t, (tok T b t).toNat < 163712)
include H

/-- The row a word names lies in the array. -/
theorem inRow (b : Fin 256) (t : Fin 512) : ∀ a, (![(tok T b t).toNat, 0] : Fin 2 → ℕ) a + S1x1024.size a ≤ S163712x1024.size a := inbX ⟨_, H b t⟩

/-- The last part of the copies: the indices two points on are started. -/
theorem rest2_wp {α : Type} (r : α) (Q : α → sProp (MT nD τ sig Unit (Elt F) ℕ (Pipeline.UD sig nD τ) ℕ)) :
    iprop(MidB T X c (pt i).val ∗ ow c)
      ⊢ iprop((MidC T X c (pt i).val ∗ ow c -∗ Q r)
        -∗ wp frame (wpE defs₀ 𝒱 (c : Thread nD τ) bd) Set.univ (rest2 (F := F) i harg1 harg2 arg3 harg3 arg4 harg4 arg5 harg5 arg6 harg6 arg7 harg7 arg8 harg8 arg9 harg9 arg10 harg10 harg11 harg12 r) Q) := by
  unfold rest2 MidB MidC
  iintro ⟨⟨HI, HF, HR⟩, HO⟩ HK
  iapply (drain_loop T X c bd (hs (par (pt i).val)) (par (pt i).val) (bk (pt i).val) k0_t3_loop k0_t3_ok trips3 _ ?_) $$ [HI HF HO]
  · intro k t hk Q
    rw [t3_eq]
    exact drain_wp T X c bd _ _ _ t (off11 i k t hk) (off12 i) (off13 i k t hk) (inRow T H _ _) Q
  · isplitl [HI]; · iexact HI
    isplitl [HF]; · iexact HF
    iexact HO
  · iintro ⟨HI, HF, HO⟩
    rw [wp_ret]
    imodintro
    iapply HK
    isplitr [HO]
    · isplitl [HI]; · iexact HI
      isplitl [HF]; · iexact HF
      iexact HR
    iexact HO

/-- The rest of the copies of a point: the next rows are started and the current ones waited for. -/
theorem rest1_wp {α : Type} (r : α) (Q : α → sProp (MT nD τ sig Unit (Elt F) ℕ (Pipeline.UD sig nD τ) ℕ)) :
    iprop(Mid T X c (pt i).val ∗ ow c)
      ⊢ iprop((MidC T X c (pt i).val ∗ ow c -∗ Q r)
        -∗ wp frame (wpE defs₀ 𝒱 (c : Thread nD τ) bd) Set.univ (rest1 (F := F) i harg1 harg2 arg3 harg3 arg4 harg4 arg5 harg5 arg6 harg6 arg7 harg7 arg8 harg8 arg9 harg9 arg10 harg10 harg11 harg12 r) Q) := by
  unfold rest1
  by_cases h1 : (pt i).val + 1 < 256
  · rw [dif_pos ((cond2_iff i).mpr h1)]
    unfold Mid
    rw [if_pos h1]
    iintro ⟨⟨HI, HF, HL, HS, HT⟩, HO⟩ HK
    iapply (tokWait_wp T c bd (par ((pt i).val + 1)) (bk ((pt i).val + 1)) (off4 i) (off5 i)) $$ [HT HO]
    · isplitl [HT]; · iexact HT
      iexact HO
    iintro ⟨HJ, HT, HS', HO⟩
    iapply (issue_loop T X c bd (hs (par ((pt i).val + 1))) (par ((pt i).val + 1)) (bk ((pt i).val + 1)) k0_t2_loop (k0_t2_ok i ((cond2_iff i).mpr h1)) trips2 _ ?_) $$ [HJ HL]
    · intro k t hk Q
      rw [t2_eq]
      exact issue_wp T X c bd _ _ _ t (off7 i k t hk) (off8 i) (off9 i k t hk) (fun v => rfl) (fun _ => inRow T H _ _) (H _ _) Q
    · isplitl [HJ]; · iexact HJ
      iexact HL
    iintro ⟨HJ, HL⟩
    iapply (rest2_wp T X c bd i harg1 harg2 arg3 harg3 arg4 harg4 arg5 harg5 arg6 harg6 arg7 harg7 arg8 harg8 arg9 harg9 arg10 harg10 harg11 harg12 H r Q) $$ [HI HF HS HT HS' HJ HL HO]
    · isplitr [HO]
      · unfold MidB Next
        rw [if_pos h1]
        isplitl [HI]; · iexact HI
        isplitl [HF]; · iexact HF
        isplitl [HS]; · iexact HS
        isplitl [HT]; · iexact HT
        isplitl [HS']; · iexact HS'
        isplitl [HJ]; · iexact HJ
        iexact HL
      iexact HO
    · iexact HK
  · rw [dif_neg (fun h => h1 ((cond2_iff i).mp h))]
    unfold Mid
    rw [if_neg h1]
    iintro ⟨⟨HI, HF, HL, HS, HT, HS', HJ⟩, HO⟩ HK
    iapply (rest2_wp T X c bd i harg1 harg2 arg3 harg3 arg4 harg4 arg5 harg5 arg6 harg6 arg7 harg7 arg8 harg8 arg9 harg9 arg10 harg10 harg11 harg12 H r Q) $$ [HI HF HS HT HS' HJ HL HO]
    · isplitr [HO]
      · unfold MidB Next
        rw [if_neg h1]
        isplitl [HI]; · iexact HI
        isplitl [HF]; · iexact HF
        isplitl [HS]; · iexact HS
        isplitl [HT]; · iexact HT
        isplitl [HS']; · iexact HS'
        isplitl [HJ]; · iexact HJ
        iexact HL
      iexact HO
    · iexact HK

/-- The first point's own copies. -/
theorem head1_wp {α : Type} (h0 : (pt i).val = 0) (h1 : k0_cond1 i = 1#1) (k : Prog (TpuEff nD τ sig (Elt F) Λ₀ .tc) α) (Q : α → sProp (MT nD τ sig Unit (Elt F) ℕ (Pipeline.UD sig nD τ) ℕ)) :
    iprop(Idle T X c ∗ ow c)
      ⊢ iprop((Mid T X c 0 ∗ ow c -∗ wp frame (wpE defs₀ 𝒱 (c : Thread nD τ) bd) Set.univ k Q)
        -∗ wp frame (wpE defs₀ 𝒱 (c : Thread nD τ) bd) Set.univ (head1 (F := F) i harg1 harg2 arg3 harg3 arg4 harg4 arg5 harg5 arg6 harg6 arg7 harg7 arg8 harg8 arg9 harg9 arg10 harg10 harg11 harg12 h1 k) Q) := by
  unfold head1 Idle
  iintro ⟨⟨HL0, HL1, HI0, HI1, HT, HS0, HS1⟩, HO⟩ HK
  iapply (tokEnq_wp T c bd 0 (bk 0) (show (![0] : Fin 1 → ℕ) = ![(0 : Fin 2).val] from rfl) (show (![0, 0] : Fin 2 → ℕ) = ![(0 : Fin 2).val, 0] from rfl) (show (![0, 0] : Fin 2 → ℕ) = ![(bk 0).val, 0] from rfl)) $$ [HI0 HT HS0]
  · isplitl [HI0]; · iexact HI0
    isplitl [HT]; · iexact HT
    iexact HS0
  iintro HT
  iapply (tokWait_wp T c bd 0 (bk 0) (show (![0] : Fin 1 → ℕ) = ![(0 : Fin 2).val] from rfl) (show (![0, 0] : Fin 2 → ℕ) = ![(0 : Fin 2).val, 0] from rfl)) $$ [HT HO]
  · isplitl [HT]; · iexact HT
    iexact HO
  iintro ⟨HI0, HT, HS0, HO⟩
  iapply (issue_loop T X c bd (hs 0) 0 (bk 0) k0_t1_loop (k0_t1_ok i h1) trips1 _ ?_) $$ [HI0 HL0]
  · intro k t hk Q
    rw [t1_eq]
    exact issue_wp T X c bd _ _ _ t ((k0_off1_eq k).trans (by rw [hk]; rfl)) rfl ((k0_off2_eq k).trans (by rw [hk]; rfl)) (fun v => rfl) (fun _ => inRow T H _ _) (H _ _) Q
  · isplitl [HI0]; · iexact HI0
    iexact HL0
  iintro ⟨HI0, HL0⟩
  iapply (tokEnq_wp T c bd 1 (bk 1) (show (![1] : Fin 1 → ℕ) = ![(1 : Fin 2).val] from rfl) (show (![1, 0] : Fin 2 → ℕ) = ![(1 : Fin 2).val, 0] from rfl) (show (![1, 0] : Fin 2 → ℕ) = ![(bk 1).val, 0] from rfl)) $$ [HI1 HT HS1]
  · isplitl [HI1]; · iexact HI1
    isplitl [HT]; · iexact HT
    iexact HS1
  iintro HT
  iapply HK
  isplitr [HO]
  · unfold Mid
    rw [if_pos (show 0 + 1 < 256 by norm_num), show par 0 = 0 from rfl, show par (0 + 1) = 1 from rfl]
    isplitl [HI0]; · iexact HI0
    isplitl [HL0]; · iexact HL0
    isplitl [HL1]; · iexact HL1
    isplitl [HS0]; · iexact HS0
    iexact HT
  iexact HO

/-- The kernel's first part, at any point: block `n`'s rows have come. -/
theorem part1_wp (Q : (Σ' (arg0 : BitVec 32) (v23 : BitVec 32), BitVec 32) → sProp (MT nD τ sig Unit (Elt F) ℕ (Pipeline.UD sig nD τ) ℕ)) :
    iprop(St T X c (pt i).val ∗ ow c)
      ⊢ iprop((∀ r, MidC T X c (pt i).val ∗ ow c -∗ Q r)
        -∗ wp frame (wpE defs₀ 𝒱 (c : Thread nD τ) bd) Set.univ (k0_part1 (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3) Q) := by
  obtain ⟨r, er⟩ := part1_nf (F := F) i harg1 harg2 arg3 harg3 arg4 harg4 arg5 harg5 arg6 harg6 arg7 harg7 arg8 harg8 arg9 harg9 arg10 harg10 harg11 harg12
  rw [er]
  have hi := (pt i).isLt
  unfold St
  by_cases h0 : (pt i).val = 0
  · rw [dif_pos ((cond1_iff i).mpr h0), if_neg (by omega)]
    iintro ⟨HM, HO⟩ HK
    iapply (head1_wp T X c bd i harg1 harg2 arg3 harg3 arg4 harg4 arg5 harg5 arg6 harg6 arg7 harg7 arg8 harg8 arg9 harg9 arg10 harg10 harg11 harg12 H h0) $$ [HM HO]
    · isplitl [HM]; · iexact HM
      iexact HO
    rw [show (0 : ℕ) = (pt i).val from h0.symm]
    iintro ⟨HM, HO⟩
    iapply (rest1_wp T X c bd i harg1 harg2 arg3 harg3 arg4 harg4 arg5 harg5 arg6 harg6 arg7 harg7 arg8 harg8 arg9 harg9 arg10 harg10 harg11 harg12 H r Q) $$ [HM HO]
    · isplitl [HM]; · iexact HM
      iexact HO
    iapply HK
  · rw [dif_neg (fun h => h0 ((cond1_iff i).mp h)), if_pos (by omega)]
    iintro ⟨HM, HO⟩ HK
    iapply (rest1_wp T X c bd i harg1 harg2 arg3 harg3 arg4 harg4 arg5 harg5 arg6 harg6 arg7 harg7 arg8 harg8 arg9 harg9 arg10 harg10 harg11 harg12 H r Q) $$ [HM HO]
    · isplitl [HM]; · iexact HM
      iexact HO
    iapply HK

end Prog

end Part

end Cert.Combine.Hand

end
-- ==== Proof.CmbBody.lean ====
module

public import proofs.«01_k».proof.Proof.CmbPart
public import Idealize.ShloMosaic.Lib.VecWindow
public import Idealize.ShloMosaic.Lib.Pipeline.TableIdle

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's read number 1 of a slot starts at its row 64. -/
theorem off19 (i : grid0.Coords) : k0_off19 i = ![(par (pt i).val).val, 64, 0] := by
  have h := pm_eq ⟨(pt i).val, by have := (pt i).isLt; omega⟩
  funext a; fin_cases a
  · exact h
  · rfl
  · rfl
/-- The kernel's read number 2 of a slot starts at its row 128. -/
theorem off20 (i : grid0.Coords) : k0_off20 i = ![(par (pt i).val).val, 128, 0] := by
  have h := pm_eq ⟨(pt i).val, by have := (pt i).isLt; omega⟩
  funext a; fin_cases a
  · exact h
  · rfl
  · rfl
/-- The kernel's read number 3 of a slot starts at its row 192. -/
theorem off21 (i : grid0.Coords) : k0_off21 i = ![(par (pt i).val).val, 192, 0] := by
  have h := pm_eq ⟨(pt i).val, by have := (pt i).isLt; omega⟩
  funext a; fin_cases a
  · exact h
  · rfl
  · rfl
/-- The kernel's read number 4 of a slot starts at its row 256. -/
theorem off22 (i : grid0.Coords) : k0_off22 i = ![(par (pt i).val).val, 256, 0] := by
  have h := pm_eq ⟨(pt i).val, by have := (pt i).isLt; omega⟩
  funext a; fin_cases a
  · exact h
  · rfl
  · rfl
/-- The kernel's read number 5 of a slot starts at its row 320. -/
theorem off23 (i : grid0.Coords) : k0_off23 i = ![(par (pt i).val).val, 320, 0] := by
  have h := pm_eq ⟨(pt i).val, by have := (pt i).isLt; omega⟩
  funext a; fin_cases a
  · exact h
  · rfl
  · rfl
/-- The kernel's read number 6 of a slot starts at its row 384. -/
theorem off24 (i : grid0.Coords) : k0_off24 i = ![(par (pt i).val).val, 384, 0] := by
  have h := pm_eq ⟨(pt i).val, by have := (pt i).isLt; omega⟩
  funext a; fin_cases a
  · exact h
  · rfl
  · rfl
/-- The kernel's read number 7 of a slot starts at its row 448. -/
theorem off25 (i : grid0.Coords) : k0_off25 i = ![(par (pt i).val).val, 448, 0] := by
  have h := pm_eq ⟨(pt i).val, by have := (pt i).isLt; omega⟩
  funext a; fin_cases a
  · exact h
  · rfl
  · rfl

/-- The rows of one eighth of a block as the kernel loads them. -/
def rows (T : S256x512.Idx → Elt F .i32) (X : S163712x1024.Idx → Elt F .f32) (b : Fin 256) (k : Fin 8) : Vec F S1x64x1024 .f32 :=
  fun y => X (ix2 (tokN T b ⟨64 * k.val + (y 1).val, by have h : (y 1).val < 64 := (y 1).isLt; have := k.isLt; omega⟩) (y 2))

/-- What the shared expert and the first two routed rows make of a block. -/
def part2 (T : S256x512.Idx → Elt F .i32) (X : S163712x1024.Idx → Elt F .f32) (b : Fin 256)
    (x3 : Vec F S64x1024 .f32) (x4 : Vec F S64x128 .f32) (x5 x6 : Vec F S1024x256 .bf16) (x7 : Vec F S256x1024 .bf16) : FVec F S64x1024 .f32 :=
  k0_pay2 x3 x5 x6 x7 x4 (rows T X b 0) (rows T X b 1)
/-- What all the routed rows make of a block. -/
def part3 (T : S256x512.Idx → Elt F .i32) (X : S163712x1024.Idx → Elt F .f32) (b : Fin 256)
    (x4 : Vec F S64x128 .f32) (v : FVec F S64x1024 .f32) : FVec F S64x1024 .f32 :=
  k0_pay3 x4 v (rows T X b 2) (rows T X b 3) (rows T X b 4) (rows T X b 5) (rows T X b 6) (rows T X b 7)
/-- What the kernel leaves in a block of the result. -/
def blockVal (T : S256x512.Idx → Elt F .i32) (X : S163712x1024.Idx → Elt F .f32) (b : Fin 256)
    (x3 : Vec F S64x1024 .f32) (x4 : Vec F S64x128 .f32) (x5 x6 : Vec F S1024x256 .bf16) (x7 : Vec F S256x1024 .bf16) (x8 x9 : Vec F S1x1024 .f32) : S64x1024.Idx → Elt F .f32 :=
  k0_pay1 (part3 T X b x4 (part2 T X b x3 x4 x5 x6 x7)) x8 x9

/-- A whole store of the result's block reads back. -/
theorem store_read (arg10 : Memref sig .tc .vmem S64x1024 .f32) (f : arg10.view.ty.Contents (Elt F)) (w : S64x1024.Idx → Elt F .f32) :
    arg10.view.read (Elt F) ((arg10.access (Rect.unit (s := S64x1024) ![0, 0] S64x1024.size inb_S64x1024_S64x1024_0_0)).write (Elt F) f w Finset.univ) = w :=
  View.read_writes_full arg10.view f inb_S64x1024_S64x1024_0_0 w []

section Body

variable (T : S256x512.Idx → Elt F .i32) (X : S163712x1024.Idx → Elt F .f32)
variable (c : Dev nD) {𝒱 : Variants} (bd : Option 𝒱.V)
variable (i : grid0.Coords) (harg1 : (Memref.whole main_arg1).IsWhole) (harg2 : (Memref.whole main_arg0).IsWhole)
  (arg3 : Memref sig .tc .vmem S64x1024 .f32) (harg3 : arg3.IsWhole) (arg4 : Memref sig .tc .vmem S64x128 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S64x1024 .f32) (harg10 : arg10.IsWhole)
  (harg11 : (Memref.whole cc0_scratch0).IsWhole) (harg12 : (Memref.whole cc0_scratch1).IsWhole)

/-- The reads of the shared expert's operands and of the first two eighths of the rows. -/
def loads2 : Prog (TpuEff nD τ sig (Elt F) Λ₀ .tc) (Σ' (v54 : Vec F S64x128 .f32), FVec F S64x1024 .f32) :=
    .op (.load arg3 (Rect.unit (s := S64x1024) ![0, 0] S64x1024.size inb_S64x1024_S64x1024_0_0).toLoadRect (View.loadsAt_vmem h_S64x1024)) fun v33 =>
    .op (.load arg5 (Rect.unit (s := S1024x256) ![0, 0] S1024x256.size inb_S1024x256_S1024x256_0_0).toLoadRect (View.loadsAt_vmem h_S1024x256)) fun v35 =>
    .op (.load arg6 (Rect.unit (s := S1024x256) ![0, 0] S1024x256.size inb_S1024x256_S1024x256_0_0).toLoadRect (View.loadsAt_vmem h_S1024x256)) fun v37 =>
    .op (.load arg7 (Rect.unit (s := S256x1024) ![0, 0] S256x1024.size inb_S256x1024_S256x1024_0_0).toLoadRect (View.loadsAt_vmem h_S256x1024)) fun v51 =>
    .op (.load arg4 (Rect.unit (s := S64x128) ![0, 0] S64x128.size inb_S64x128_S64x128_0_0).toLoadRect (View.loadsAt_vmem h_S64x128)) fun v54 =>
    .op (.load (Memref.whole cc0_scratch1) (Rect.unit (s := S2x512x1024) (k0_off18 i) S1x64x1024.size (k0_off18_inb i)).toLoadRect (View.loadsAt_vmem h_S1x64x1024)) fun v56 =>
    .op (.load (Memref.whole cc0_scratch1) (Rect.unit (s := S2x512x1024) (k0_off19 i) S1x64x1024.size (k0_off19_inb i)).toLoadRect (View.loadsAt_vmem h_S1x64x1024)) fun v63 =>
    .ret ⟨v54, k0_pay2 v33 v35 v37 v51 v54 v56 v63⟩

/-- The reads of the other eighths of the rows and of the norm's operands. -/
def loads3 (v54 : Vec F S64x128 .f32) (v68 : FVec F S64x1024 .f32) : Prog (TpuEff nD τ sig (Elt F) Λ₀ .tc) (Σ' (v110 : FVec F S64x1024 .f32) (v111 : Vec F S1x1024 .f32), Vec F S1x1024 .f32) :=
    .op (.load (Memref.whole cc0_scratch1) (Rect.unit (s := S2x512x1024) (k0_off20 i) S1x64x1024.size (k0_off20_inb i)).toLoadRect (View.loadsAt_vmem h_S1x64x1024)) fun v70 =>
    .op (.load (Memref.whole cc0_scratch1) (Rect.unit (s := S2x512x1024) (k0_off21 i) S1x64x1024.size (k0_off21_inb i)).toLoadRect (View.loadsAt_vmem h_S1x64x1024)) fun v77 =>
    .op (.load (Memref.whole cc0_scratch1) (Rect.unit (s := S2x512x1024) (k0_off22 i) S1x64x1024.size (k0_off22_inb i)).toLoadRect (View.loadsAt_vmem h_S1x64x1024)) fun v84 =>
    .op (.load (Memref.whole cc0_scratch1) (Rect.unit (s := S2x512x1024) (k0_off23 i) S1x64x1024.size (k0_off23_inb i)).toLoadRect (View.loadsAt_vmem h_S1x64x1024)) fun v91 =>
    .op (.load (Memref.whole cc0_scratch1) (Rect.unit (s := S2x512x1024) (k0_off24 i) S1x64x1024.size (k0_off24_inb i)).toLoadRect (View.loadsAt_vmem h_S1x64x1024)) fun v98 =>
    .op (.load (Memref.whole cc0_scratch1) (Rect.unit (s := S2x512x1024) (k0_off25 i) S1x64x1024.size (k0_off25_inb i)).toLoadRect (View.loadsAt_vmem h_S1x64x1024)) fun v105 =>
    .op (.load arg8 (Rect.unit (s := S1x1024) ![0, 0] S1x1024.size inb_S1x1024_S1x1024_0_0).toLoadRect (View.loadsAt_vmem h_S1x1024)) fun v111 =>
    .op (.load arg9 (Rect.unit (s := S1x1024) ![0, 0] S1x1024.size inb_S1x1024_S1x1024_0_0).toLoadRect (View.loadsAt_vmem h_S1x1024)) fun v112 =>
    .ret ⟨k0_pay3 v54 v68 v70 v77 v84 v91 v98 v105, v111, v112⟩

/-- The store of the result's block. -/
def stores (v110 : FVec F S64x1024 .f32) (v111 v112 : Vec F S1x1024 .f32) : Prog (TpuEff nD τ sig (Elt F) Λ₀ .tc) PUnit :=
    .op (.load arg10 (Rect.unit (s := S64x1024) ![0, 0] S64x1024.size inb_S64x1024_S64x1024_0_0).toLoadRect (View.loadsAt_vmem h_S64x1024)) fun _ =>
    .op (.store arg10 (Rect.unit (s := S64x1024) ![0, 0] S64x1024.size inb_S64x1024_S64x1024_0_0) (k0_pay1 v110 v111 v112) Finset.univ (View.stores_vmem_bits_univ h_S64x1024 rfl) (.inl rfl)) fun _ =>
    .ret ⟨⟩

/-- The kernel's second part: the indices two points on are asked for, then the reads. -/
def second : Prog (TpuEff nD τ sig (Elt F) Λ₀ .tc) (Σ' (v54 : Vec F S64x128 .f32), FVec F S64x1024 .f32) :=
  if k0_h3 : k0_cond3 i = 1#1 then
    tokEnq (k0_off15 i) (k0_off15_inb i k0_h3) (k0_off16 i) (k0_off16_inb i k0_h3) (k0_off17 i) (k0_off17_inb i k0_h3) fun _ => loads2 i arg3 arg4 arg5 arg6 arg7
  else loads2 i arg3 arg4 arg5 arg6 arg7

/-- The kernel at a point, on its operands. -/
abbrev kern : Prog (TpuEff nD τ sig (Elt F) Λ₀ .tc) PUnit :=
  cc0_moe_combine_ln (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3

/-- The kernel's body as its parts in sequence. -/
theorem body_nf : kern i harg1 harg2 arg3 harg3 arg4 harg4 arg5 harg5 arg6 harg6 arg7 harg7 arg8 harg8 arg9 harg9 arg10 harg10 harg11 harg12
    = (k0_part1 (F := F) i (Memref.whole main_arg1) harg1 (Memref.whole main_arg0) harg2 arg3 harg3 arg4 harg4 arg5 harg5 arg6 harg6 arg7 harg7 arg8 harg8 arg9 harg9 arg10 harg10 (Memref.whole cc0_scratch0) harg11 (Memref.whole cc0_scratch1) harg12 cc0_scratch2 cc0_scratch3
      >>= fun _ => second i arg3 arg4 arg5 arg6 arg7 >>= fun r => loads3 i arg8 arg9 r.1 r.2 >>= fun q => stores arg10 q.1 q.2.1 q.2.2) := by
  unfold kern
  rw [cc0_moe_combine_ln_eq_skeleton]
  exact rfl

/-- A read of an eighth of the current slot of the row buffer. -/
theorem slot_read (k : Fin 8) {o : Fin 3 → ℕ} {hb : ∀ a, o a + S1x64x1024.size a ≤ S2x512x1024.size a} (e : o = ![(par (pt i).val).val, 64 * k.val, 0]) :
    ((Memref.whole cc0_scratch1).view).readAt (Elt F) (Rect.unit (s := S2x512x1024) o S1x64x1024.size hb).toLoadRect (G T X (pt i)) = rows T X (pt i) k := by
  subst e
  funext y
  show X (ix2 (tokN T (pt i) ((Rect.unit (s := S2x512x1024) ![(par (pt i).val).val, 64 * k.val, 0] S1x64x1024.size hb).emb y 1)) ((Rect.unit (s := S2x512x1024) ![(par (pt i).val).val, 64 * k.val, 0] S1x64x1024.size hb).emb y 2)) = X (ix2 (tokN T (pt i) _) (y 2))
  have h : (y 1).val < 64 := (y 1).isLt
  have e1 : (Rect.unit (s := S2x512x1024) ![(par (pt i).val).val, 64 * k.val, 0] S1x64x1024.size hb).emb y 1 = (⟨64 * k.val + (y 1).val, by have := k.isLt; omega⟩ : Fin 512) := Fin.ext (by show 64 * k.val + 1 * (y 1).val = 64 * k.val + (y 1).val; omega)
  have e2 : (Rect.unit (s := S2x512x1024) ![(par (pt i).val).val, 64 * k.val, 0] S1x64x1024.size hb).emb y 2 = y 2 := Fin.ext (by show 0 + 1 * (y 2).val = (y 2).val; omega)
  rw [e1, e2]

/-- That read stays inside the current slot. -/
theorem slot_sub (k : Fin 8) {o : Fin 3 → ℕ} {hb : ∀ a, o a + S1x64x1024.size a ≤ S2x512x1024.size a} (e : o = ![(par (pt i).val).val, 64 * k.val, 0]) :
    (Memref.whole cc0_scratch1).view.setOn (Rect.unit (s := S2x512x1024) o S1x64x1024.size hb).toLoadRect.set ⊆ slotSet (par (pt i).val) := by
  subst e
  refine ((View.set_slice (Memref.whole cc0_scratch1).view (Rect.unit (s := S2x512x1024) ![(par (pt i).val).val, 64 * k.val, 0] S1x64x1024.size hb)).symm.trans (View.set_slice_whole cc0_scratch1 _)).le.trans ?_
  intro y hy
  have h0 : (par (pt i).val).val ≤ (y 0).val ∧ (y 0).val < (par (pt i).val).val + 1 := (Rect.mem_set_unit.mp hy) 0
  exact (mem_slotSet _ y).mpr (by omega)

variable (x3 : Vec F S64x1024 .f32) (x4 : Vec F S64x128 .f32) (x5 x6 : Vec F S1024x256 .bf16) (x7 : Vec F S256x1024 .bf16) (x8 x9 : Vec F S1x1024 .f32)

/-- The first reads find the operands and the first two eighths of the rows. -/
theorem loads2_wp (Q : (Σ' (v54 : Vec F S64x128 .f32), FVec F S64x1024 .f32) → sProp (MT nD τ sig Unit (Elt F) ℕ (Pipeline.UD sig nD τ) ℕ)) :
    (iprop((((c : Thread nD τ).loc cc0_scratch1) ↦[slotSet (par (pt i).val)]{fullShare} G T X (pt i)) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7)) : sProp (MT nD τ sig Unit (Elt F) ℕ (Pipeline.UD sig nD τ) ℕ))
      ⊢ iprop(((((c : Thread nD τ).loc cc0_scratch1) ↦[slotSet (par (pt i).val)]{fullShare} G T X (pt i)) ∗ (arg3.view.loc (c : Thread nD τ) ↦[arg3.view.set]{fullShare} arg3.view.rep x3) ∗ (arg4.view.loc (c : Thread nD τ) ↦[arg4.view.set]{fullShare} arg4.view.rep x4) ∗ (arg5.view.loc (c : Thread nD τ) ↦[arg5.view.set]{fullShare} arg5.view.rep x5) ∗ (arg6.view.loc (c : Thread nD τ) ↦[arg6.view.set]{fullShare} arg6.view.rep x6) ∗ (arg7.view.loc (c : Thread nD τ) ↦[arg7.view.set]{fullShare} arg7.view.rep x7) -∗ Q ⟨x4, part2 T X (pt i) x3 x4 x5 x6 x7⟩)
        -∗ wp frame (wpE defs₀ 𝒱 (c : Thread nD τ) bd) Set.univ (loads2 (F := F) i arg3 arg4 arg5 arg6 arg7) Q) := by
  unfold loads2 part2
  iintro ⟨HB, H3, H4, H5, H6, H7⟩ HK
  iapply (wp_load 𝒱 (c : Thread nD τ) bd Set.univ (m := arg3) (S := arg3.view.set) (View.setOn_subset_set _ _)) $$ H3
  iintro H3
  iapply (wp_load 𝒱 (c : Thread nD τ) bd Set.univ (m := arg5) (S := arg5.view.set) (View.setOn_subset_set _ _)) $$ H5
  iintro H5
  iapply (wp_load 𝒱 (c : Thread nD τ) bd Set.univ (m := arg6) (S := arg6.view.set) (View.setOn_subset_set _ _)) $$ H6
  iintro H6
  iapply (wp_load 𝒱 (c : Thread nD τ) bd Set.univ (m := arg7) (S := arg7.view.set) (View.setOn_subset_set _ _)) $$ H7
  iintro H7
  iapply (wp_load 𝒱 (c : Thread nD τ) bd Set.univ (m := arg4) (S := arg4.view.set) (View.setOn_subset_set _ _)) $$ H4
  iintro H4
  iapply (wp_load 𝒱 (c : Thread nD τ) bd Set.univ (m := Memref.whole cc0_scratch1) (S := slotSet (par (pt i).val)) (slot_sub i 0 (off18 i))) $$ HB
  iintro HB
  iapply (wp_load 𝒱 (c : Thread nD τ) bd Set.univ (m := Memref.whole cc0_scratch1) (S := slotSet (par (pt i).val)) (slot_sub i 1 (off19 i))) $$ HB
  iintro HB
  rw [wp_ret, View.readAt_rep_full arg3.view x3 inb_S64x1024_S64x1024_0_0, View.readAt_rep_full arg5.view x5 inb_S1024x256_S1024x256_0_0, View.readAt_rep_full arg6.view x6 inb_S1024x256_S1024x256_0_0, View.readAt_rep_full arg7.view x7 inb_S256x1024_S256x1024_0_0, View.readAt_rep_full arg4.view x4 inb_S64x128_S64x128_0_0, slot_read T X i 0 (off18 i), slot_read T X i 1 (off19 i)]
  imodintro
  iapply HK
  isplitl [HB]; · iexact HB
  isplitl [H3]; · iexact H3
  isplitl [H4]; · iexact H4
  isplitl [H5]; · iexact H5
  isplitl [H6]; · iexact H6
  iexact H7

/-- The other reads find the other eighths of the rows and the norm's operands. -/
theorem loads3_wp (v : FVec F S64x1024 .f32) (Q : (Σ' (v110 : FVec F S64x1024 .f32) (v111 : Vec F S1x1024 .f32), Vec F S1x1024 .f32) → sProp (MT nD τ sig Unit (Elt F) ℕ (Pipeline.UD sig nD τ) ℕ)) :
    (iprop((((c : Thread nD τ).loc cc0_scratch1) ↦[slotSet (par (pt i).val)]{fullShare} G T X (pt i)) ∗ (arg8.view.loc (c : Thread nD τ) ↦[arg8.view.set]{fullShare} arg8.view.rep x8) ∗ (arg9.view.loc (c : Thread nD τ) ↦[arg9.view.set]{fullShare} arg9.view.rep x9)) : sProp (MT nD τ sig Unit (Elt F) ℕ (Pipeline.UD sig nD τ) ℕ))
      ⊢ iprop(((((c : Thread nD τ).loc cc0_scratch1) ↦[slotSet (par (pt i).val)]{fullShare} G T X (pt i)) ∗ (arg8.view.loc (c : Thread nD τ) ↦[arg8.view.set]{fullShare} arg8.view.rep x8) ∗ (arg9.view.loc (c : Thread nD τ) ↦[arg9.view.set]{fullShare} arg9.view.rep x9) -∗ Q ⟨part3 T X (pt i) x4 v, x8, x9⟩)
        -∗ wp frame (wpE defs₀ 𝒱 (c : Thread nD τ) bd) Set.univ (loads3 (F := F) i arg8 arg9 x4 v) Q) := by
  unfold loads3 part3
  iintro ⟨HB, H8, H9⟩ HK
  iapply (wp_load 𝒱 (c : Thread nD τ) bd Set.univ (m := Memref.whole cc0_scratch1) (S := slotSet (par (pt i).val)) (slot_sub i 2 (off20 i))) $$ HB
  iintro HB
  iapply (wp_load 𝒱 (c : Thread nD τ) bd Set.univ (m := Memref.whole cc0_scratch1) (S := slotSet (par (pt i).val)) (slot_sub i 3 (off21 i))) $$ HB
  iintro HB
  iapply (wp_load 𝒱 (c : Thread nD τ) bd Set.univ (m := Memref.whole cc0_scratch1) (S := slotSet (par (pt i).val)) (slot_sub i 4 (off22 i))) $$ HB
  iintro HB
  iapply (wp_load 𝒱 (c : Thread nD τ) bd Set.univ (m := Memref.whole cc0_scratch1) (S := slotSet (par (pt i).val)) (slot_sub i 5 (off23 i))) $$ HB
  iintro HB
  iapply (wp_load 𝒱 (c : Thread nD τ) bd Set.univ (m := Memref.whole cc0_scratch1) (S := slotSet (par (pt i).val)) (slot_sub i 6 (off24 i))) $$ HB
  iintro HB
  iapply (wp_load 𝒱 (c : Thread nD τ) bd Set.univ (m := Memref.whole cc0_scratch1) (S := slotSet (par (pt i).val)) (slot_sub i 7 (off25 i))) $$ HB
  iintro HB
  iapply (wp_load 𝒱 (c : Thread nD τ) bd Set.univ (m := arg8) (S := arg8.view.set) (View.setOn_subset_set _ _)) $$ H8
  iintro H8
  iapply (wp_load 𝒱 (c : Thread nD τ) bd Set.univ (m := arg9) (S := arg9.view.set) (View.setOn_subset_set _ _)) $$ H9
  iintro H9
  rw [wp_ret, View.readAt_rep_full arg8.view x8 inb_S1x1024_S1x1024_0_0, View.readAt_rep_full arg9.view x9 inb_S1x1024_S1x1024_0_0, slot_read T X i 2 (off20 i), slot_read T X i 3 (off21 i), slot_read T X i 4 (off22 i), slot_read T X i 5 (off23 i), slot_read T X i 6 (off24 i), slot_read T X i 7 (off25 i)]
  imodintro
  iapply HK
  isplitl [HB]; · iexact HB
  isplitl [H8]; · iexact H8
  iexact H9

/-- The store leaves the value in the result's block. -/
theorem stores_wp (v : FVec F S64x1024 .f32) (Q : PUnit → sProp (MT nD τ sig Unit (Elt F) ℕ (Pipeline.UD sig nD τ) ℕ)) :
    (iprop(∃ d, owns (c : Thread nD τ) arg10 fullShare d) : sProp (MT nD τ sig Unit (Elt F) ℕ (Pipeline.UD sig nD τ) ℕ))
      ⊢ iprop((owns (c : Thread nD τ) arg10 fullShare (k0_pay1 v x8 x9) -∗ Q ⟨⟩)
        -∗ wp frame (wpE defs₀ 𝒱 (c : Thread nD τ) bd) Set.univ (stores (F := F) arg10 v x8 x9) Q) := by
  unfold stores
  iintro ⟨%d, H10⟩ HK
  ihave H10 := (rep_of_owns (c : Thread nD τ) arg10 fullShare d) $$ H10
  iapply (wp_load 𝒱 (c : Thread nD τ) bd Set.univ (m := arg10) (S := arg10.view.set) (View.setOn_subset_set _ _)) $$ H10
  iintro H10
  iapply (wp_store 𝒱 (c : Thread nD τ) bd Set.univ (m := arg10) (r := Rect.unit (s := S64x1024) ![0, 0] S64x1024.size inb_S64x1024_S64x1024_0_0) (S := arg10.view.set) ((View.setOn_subset_set _ _).trans (View.set_slice_subset _ _))) $$ H10
  iintro H10
  rw [wp_ret]
  imodintro
  iapply HK
  unfold owns
  iexists _
  isplitr; swap; · iexact H10
  ipureintro
  exact store_read arg10 _ _

/-- The reads and the store: the result's block ends at its value. -/
theorem tail_wp (p : PosShare TreeShare) (Q : PUnit → sProp (MT nD τ sig Unit (Elt F) ℕ (Pipeline.UD sig nD τ) ℕ)) :
    (iprop(SlotHas T X c p (par (pt i).val) (pt i) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)) : sProp (MT nD τ sig Unit (Elt F) ℕ (Pipeline.UD sig nD τ) ℕ))
      ⊢ iprop((SlotFree X c p (par (pt i).val) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg10 fullShare (blockVal T X (pt i) x3 x4 x5 x6 x7 x8 x9) -∗ Q ⟨⟩)
        -∗ wp frame (wpE defs₀ 𝒱 (c : Thread nD τ) bd) Set.univ (loads2 (F := F) i arg3 arg4 arg5 arg6 arg7) fun r =>
          wp frame (wpE defs₀ 𝒱 (c : Thread nD τ) bd) Set.univ (loads3 (F := F) i arg8 arg9 r.1 r.2 >>= fun q => stores arg10 q.1 q.2.1 q.2.2) Q) := by
  iintro ⟨HS, H3, H4, H5, H6, H7, H8, H9, H10⟩ HK
  ihave HS := (show (SlotHas T X c p (par (pt i).val) (pt i) : sProp (MT nD τ sig Unit (Elt F) ℕ (Pipeline.UD sig nD τ) ℕ)) ⊢ iprop((((c : Thread nD τ).loc cc0_scratch1) ↦[slotSet (par (pt i).val)]{fullShare} G T X (pt i)) ∗ xAt X c Finset.univ p ∗ semVal ((c : Thread nD τ), SemLoc.dma (semB (par (pt i).val))) 0) from .rfl) $$ HS
  icases HS with ⟨HB, HR⟩
  ihave H3 := (rep_of_owns (c : Thread nD τ) arg3 fullShare x3) $$ H3
  ihave H4 := (rep_of_owns (c : Thread nD τ) arg4 fullShare x4) $$ H4
  ihave H5 := (rep_of_owns (c : Thread nD τ) arg5 fullShare x5) $$ H5
  ihave H6 := (rep_of_owns (c : Thread nD τ) arg6 fullShare x6) $$ H6
  ihave H7 := (rep_of_owns (c : Thread nD τ) arg7 fullShare x7) $$ H7
  ihave H8 := (rep_of_owns (c : Thread nD τ) arg8 fullShare x8) $$ H8
  ihave H9 := (rep_of_owns (c : Thread nD τ) arg9 fullShare x9) $$ H9
  iapply (loads2_wp T X c bd i arg3 arg4 arg5 arg6 arg7 x3 x4 x5 x6 x7 _) $$ [HB H3 H4 H5 H6 H7]
  · isplitl [HB]; · iexact HB
    isplitl [H3]; · iexact H3
    isplitl [H4]; · iexact H4
    isplitl [H5]; · iexact H5
    isplitl [H6]; · iexact H6
    iexact H7
  iintro ⟨HB, H3, H4, H5, H6, H7⟩
  rw [wp_bind]
  iapply (loads3_wp T X c bd i arg8 arg9 x4 x8 x9 (part2 T X (pt i) x3 x4 x5 x6 x7) _) $$ [HB H8 H9]
  · isplitl [HB]; · iexact HB
    isplitl [H8]; · iexact H8
    iexact H9
  iintro ⟨HB, H8, H9⟩
  iapply (stores_wp c bd arg10 x8 x9 (part3 T X (pt i) x4 (part2 T X (pt i) x3 x4 x5 x6 x7)) Q) $$ H10
  iintro H10
  iapply HK
  isplitl [HB HR]
  · iapply (has_free T X c p (par (pt i).val) (pt i))
    unfold SlotHas
    isplitl [HB]; · iexact HB
    iexact HR
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  iexact H10

variable (H : ∀ b t, (tok T b t).toNat < 163712)
include H

/-- The kernel's body at any point: from the state before it to the state after it, the block of the result written. -/
theorem body_wp (Q : PUnit → sProp (MT nD τ sig Unit (Elt F) ℕ (Pipeline.UD sig nD τ) ℕ)) :
    (iprop(St T X c (pt i).val ∗ ow c ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d)) : sProp (MT nD τ sig Unit (Elt F) ℕ (Pipeline.UD sig nD τ) ℕ))
      ⊢ iprop((St T X c ((pt i).val + 1) ∗ ow c ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ owns (c : Thread nD τ) arg10 fullShare (blockVal T X (pt i) x3 x4 x5 x6 x7 x8 x9) -∗ Q ⟨⟩)
        -∗ wp frame (wpE defs₀ 𝒱 (c : Thread nD τ) bd) Set.univ (kern (F := F) i harg1 harg2 arg3 harg3 arg4 harg4 arg5 harg5 arg6 harg6 arg7 harg7 arg8 harg8 arg9 harg9 arg10 harg10 harg11 harg12) Q) := by
  rw [body_nf]
  have hi := (pt i).isLt
  have hb : bk (pt i).val = pt i := Fin.ext (bk_val hi)
  iintro ⟨HSt, HO, HW⟩ HK
  rw [wp_bind]
  iapply (part1_wp T X c bd i harg1 harg2 arg3 harg3 arg4 harg4 arg5 harg5 arg6 harg6 arg7 harg7 arg8 harg8 arg9 harg9 arg10 harg10 harg11 harg12 H _) $$ [HSt HO]
  · isplitl [HSt]; · iexact HSt
    iexact HO
  iintro %r ⟨HC, HO⟩
  ihave HC := (show (MidC T X c (pt i).val : sProp (MT nD τ sig Unit (Elt F) ℕ (Pipeline.UD sig nD τ) ℕ)) ⊢ iprop(idxAt T c (par (pt i).val) (bk (pt i).val) ∗ SlotHas T X c (hs (par (pt i).val)) (par (pt i).val) (bk (pt i).val) ∗ semI0 c (par (pt i).val) ∗ tokAt T c Finset.univ ∗ semI0 c (par ((pt i).val + 1)) ∗ Next T X c (pt i).val) from .rfl) $$ HC
  icases HC with ⟨HI, HS, HJ, HT, HJ', HX⟩
  ihave HS := (Entails.of_eq (show (SlotHas T X c (hs (par (pt i).val)) (par (pt i).val) (bk (pt i).val) : sProp (MT nD τ sig Unit (Elt F) ℕ (Pipeline.UD sig nD τ) ℕ)) = SlotHas T X c (hs (par (pt i).val)) (par (pt i).val) (pt i) from by rw [hb])) $$ HS
  rw [wp_bind]
  unfold second
  by_cases h3 : (pt i).val + 2 < 256
  · rw [dif_pos ((cond3_iff i).mpr h3)]
    iapply (tokEnq_wp T c bd (par (pt i).val) (bk ((pt i).val + 2)) (off15 i) (off16 i) ((k0_off17_eq i).trans (by rw [bk_val h3]))) $$ [HI HT HJ]
    · isplitl [HI]; · iexists _; iexact HI
      isplitl [HT]; · iexact HT
      iexact HJ
    iintro HT
    iapply (tail_wp T X c bd i arg3 arg4 arg5 arg6 arg7 arg8 arg9 arg10 x3 x4 x5 x6 x7 x8 x9 (hs (par (pt i).val)) Q) $$ [HS HW]
    · isplitl [HS]; · iexact HS
      iexact HW
    iintro ⟨HS, HR⟩
    iapply HK
    isplitl [HS HX HJ' HT]
    · iapply (late_st T X c (pt i).val hi)
      isplitl [HS]; · iexact HS
      unfold Late
      rw [if_pos h3]
      isplitl [HX]; · iexact HX
      isplitl [HJ']; · iexact HJ'
      iexact HT
    isplitl [HO]; · iexact HO
    iexact HR
  · rw [dif_neg (fun h => h3 ((cond3_iff i).mp h))]
    iapply (tail_wp T X c bd i arg3 arg4 arg5 arg6 arg7 arg8 arg9 arg10 x3 x4 x5 x6 x7 x8 x9 (hs (par (pt i).val)) Q) $$ [HS HW]
    · isplitl [HS]; · iexact HS
      iexact HW
    iintro ⟨HS, HR⟩
    iapply HK
    isplitl [HS HX HJ' HT HJ HI]
    · iapply (late_st T X c (pt i).val hi)
      isplitl [HS]; · iexact HS
      unfold Late
      rw [if_neg h3]
      isplitl [HX]; · iexact HX
      isplitl [HJ']; · iexact HJ'
      isplitl [HT]; · iexact HT
      isplitl [HJ]; · iexact HJ
      iexists _; iexact HI
    isplitl [HO]; · iexact HO
    iexact HR

end Body

end Cert.Combine.Hand

end
-- ==== Proof.CmbLaunch.lean ====
/- The launch of the combining kernel: the pipeline's data, the run, and the frame. -/
module

public import proofs.«01_k».proof.Proof.CmbBody
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Claim
public import Idealize.ShloMosaic.Init

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The rows' numbers. -/
def toks (c : Dev nD) : S256x512.Idx → Elt F .i32 := m ((c : Thread nD τ).loc main_arg1)
/-- The experts' rows. -/
def xs (c : Dev nD) : S163712x1024.Idx → Elt F .f32 := m ((c : Thread nD τ).loc main_arg0)

/-- Every row's number names a row. -/
def InRange : Prop := ∀ (c : Dev nD) b t, (tok (toks m c) b t).toNat < 163712

/-- A point's coordinates. -/
abbrev crd (t : Fin cfg0.N) : grid0.Coords := cfg0.grid.coords t

/-- A point's one coordinate is its number. -/
theorem pt_crd (t : Fin cfg0.N) : (pt (crd t)).val = t.val := by
  have h := Pipeline.Grid.coords_val (G := grid0) t (0 : Fin 1) (S := 1) (B := 256) (by decide) (by decide)
  have hN : cfg0.N = 256 := N_0
  have := t.isLt
  exact h.trans (by rw [Nat.div_one]; exact Nat.mod_eq_of_lt (by omega))

/-! ## The staging buffers and the blocks -/

/-- The staging buffer of the residual rows at a point. -/
abbrev ms0 (t : Fin cfg0.N) : Memref sig .tc .vmem S64x1024 .f32 := win0_0.stage (cfg0.slots t ((0 : Fin 8)))
/-- It is a whole buffer. -/
abbrev hs0 (t : Fin cfg0.N) : (ms0 t).IsWhole := hstage0_0 ((cfg0.slots t (0 : Fin 8)).cast nbuf0_0)
/-- The staging buffer of the gates at a point. -/
abbrev ms1 (t : Fin cfg0.N) : Memref sig .tc .vmem S64x128 .f32 := win0_1.stage (cfg0.slots t ((1 : Fin 8)))
/-- It is a whole buffer. -/
abbrev hs1 (t : Fin cfg0.N) : (ms1 t).IsWhole := hstage0_1 ((cfg0.slots t (1 : Fin 8)).cast nbuf0_1)
/-- The staging buffer of the shared gate weights at a point. -/
abbrev ms2 (t : Fin cfg0.N) : Memref sig .tc .vmem S1024x256 .bf16 := win0_2.stage (cfg0.slots t ((2 : Fin 8)))
/-- It is a whole buffer. -/
abbrev hs2 (t : Fin cfg0.N) : (ms2 t).IsWhole := hstage0_2 ((cfg0.slots t (2 : Fin 8)).cast nbuf0_2)
/-- The staging buffer of the shared up weights at a point. -/
abbrev ms3 (t : Fin cfg0.N) : Memref sig .tc .vmem S1024x256 .bf16 := win0_3.stage (cfg0.slots t ((3 : Fin 8)))
/-- It is a whole buffer. -/
abbrev hs3 (t : Fin cfg0.N) : (ms3 t).IsWhole := hstage0_3 ((cfg0.slots t (3 : Fin 8)).cast nbuf0_3)
/-- The staging buffer of the shared down weights at a point. -/
abbrev ms4 (t : Fin cfg0.N) : Memref sig .tc .vmem S256x1024 .bf16 := win0_4.stage (cfg0.slots t ((4 : Fin 8)))
/-- It is a whole buffer. -/
abbrev hs4 (t : Fin cfg0.N) : (ms4 t).IsWhole := hstage0_4 ((cfg0.slots t (4 : Fin 8)).cast nbuf0_4)
/-- The staging buffer of the gains at a point. -/
abbrev ms5 (t : Fin cfg0.N) : Memref sig .tc .vmem S1x1024 .f32 := win0_5.stage (cfg0.slots t ((5 : Fin 8)))
/-- It is a whole buffer. -/
abbrev hs5 (t : Fin cfg0.N) : (ms5 t).IsWhole := hstage0_5 ((cfg0.slots t (5 : Fin 8)).cast nbuf0_5)
/-- The staging buffer of the offsets at a point. -/
abbrev ms6 (t : Fin cfg0.N) : Memref sig .tc .vmem S1x1024 .f32 := win0_6.stage (cfg0.slots t ((6 : Fin 8)))
/-- It is a whole buffer. -/
abbrev hs6 (t : Fin cfg0.N) : (ms6 t).IsWhole := hstage0_6 ((cfg0.slots t (6 : Fin 8)).cast nbuf0_6)
/-- The staging buffer of the result at a point. -/
abbrev ms7 (t : Fin cfg0.N) : Memref sig .tc .vmem S64x1024 .f32 := win0_7.stage (cfg0.slots t ((7 : Fin 8)))
/-- It is a whole buffer. -/
abbrev hs7 (t : Fin cfg0.N) : (ms7 t).IsWhole := hstage0_7 ((cfg0.slots t (7 : Fin 8)).cast nbuf0_7)

/-- A window's block at a point, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- What a point leaves in the result's block. -/
def oblk (c : Dev nD) (t : Fin cfg0.N) : S64x1024.Idx → Elt F .f32 :=
  blockVal (toks m c) (xs m c) (pt (crd t)) (iblk m c (0 : Fin 8) t) (iblk m c (1 : Fin 8) t) (iblk m c (2 : Fin 8) t) (iblk m c (3 : Fin 8) t) (iblk m c (4 : Fin 8) t) (iblk m c (5 : Fin 8) t) (iblk m c (6 : Fin 8) t)

/-- The pipeline's data on a core. -/
def dats (_ : Fin 1) (c : Dev nD) : Dat τ (Elt F) Unit ℕ (Pipeline.UD sig nD τ) ℕ cfg0 c where
  A w := m ((c : Thread nD τ).loc (Pipeline.arrRef spec0 w))
  after w t := match w with
    | ⟨0, _⟩ => iblk m c (0 : Fin 8) t
    | ⟨1, _⟩ => iblk m c (1 : Fin 8) t
    | ⟨2, _⟩ => iblk m c (2 : Fin 8) t
    | ⟨3, _⟩ => iblk m c (3 : Fin 8) t
    | ⟨4, _⟩ => iblk m c (4 : Fin 8) t
    | ⟨5, _⟩ => iblk m c (5 : Fin 8) t
    | ⟨6, _⟩ => iblk m c (6 : Fin 8) t
    | ⟨7, _⟩ => oblk m c t
  Φ t := St (toks m c) (xs m c) c t.val
  q _ := fullShare
  owed _ := 0

/-- What a point leaves of the residual rows. -/
theorem after_0 (c : Dev nD) (t : Fin cfg0.N) : (dats m 0 c).after (0 : Fin 8) t = iblk m c (0 : Fin 8) t := by dsimp only [dats]
/-- What a point leaves of the gates. -/
theorem after_1 (c : Dev nD) (t : Fin cfg0.N) : (dats m 0 c).after (1 : Fin 8) t = iblk m c (1 : Fin 8) t := by dsimp only [dats]
/-- What a point leaves of the shared gate weights. -/
theorem after_2 (c : Dev nD) (t : Fin cfg0.N) : (dats m 0 c).after (2 : Fin 8) t = iblk m c (2 : Fin 8) t := by dsimp only [dats]
/-- What a point leaves of the shared up weights. -/
theorem after_3 (c : Dev nD) (t : Fin cfg0.N) : (dats m 0 c).after (3 : Fin 8) t = iblk m c (3 : Fin 8) t := by dsimp only [dats]
/-- What a point leaves of the shared down weights. -/
theorem after_4 (c : Dev nD) (t : Fin cfg0.N) : (dats m 0 c).after (4 : Fin 8) t = iblk m c (4 : Fin 8) t := by dsimp only [dats]
/-- What a point leaves of the gains. -/
theorem after_5 (c : Dev nD) (t : Fin cfg0.N) : (dats m 0 c).after (5 : Fin 8) t = iblk m c (5 : Fin 8) t := by dsimp only [dats]
/-- What a point leaves of the offsets. -/
theorem after_6 (c : Dev nD) (t : Fin cfg0.N) : (dats m 0 c).after (6 : Fin 8) t = iblk m c (6 : Fin 8) t := by dsimp only [dats]
/-- What a point leaves of the result. -/
theorem after_7 (c : Dev nD) (t : Fin cfg0.N) : (dats m 0 c).after (7 : Fin 8) t = oblk m c t := by dsimp only [dats]
/-- The residual rows a point finds. -/
theorem before_0 (c : Dev nD) (t : Fin cfg0.N) (d) : (dats m 0 c).before (0 : Fin 8) t d = iblk m c (0 : Fin 8) t :=
  ((dats m 0 c).before_in_eq_fetched (0 : Fin 8) rfl (fun _ => rfl) (fun _ _ _ => rfl) (fun t => by rw [after_0]; unfold Dat.blockOf iblk; rfl) t d).trans
    (by unfold Dat.fetched Dat.blockOf iblk; rfl)
/-- The gates a point finds. -/
theorem before_1 (c : Dev nD) (t : Fin cfg0.N) (d) : (dats m 0 c).before (1 : Fin 8) t d = iblk m c (1 : Fin 8) t :=
  ((dats m 0 c).before_in_eq_fetched (1 : Fin 8) rfl (fun _ => rfl) (fun _ _ _ => rfl) (fun t => by rw [after_1]; unfold Dat.blockOf iblk; rfl) t d).trans
    (by unfold Dat.fetched Dat.blockOf iblk; rfl)
/-- The shared gate weights a point finds. -/
theorem before_2 (c : Dev nD) (t : Fin cfg0.N) (d) : (dats m 0 c).before (2 : Fin 8) t d = iblk m c (2 : Fin 8) t :=
  ((dats m 0 c).before_in_eq_fetched (2 : Fin 8) rfl (fun _ => rfl) (fun _ _ _ => rfl) (fun t => by rw [after_2]; unfold Dat.blockOf iblk; rfl) t d).trans
    (by unfold Dat.fetched Dat.blockOf iblk; rfl)
/-- The shared up weights a point finds. -/
theorem before_3 (c : Dev nD) (t : Fin cfg0.N) (d) : (dats m 0 c).before (3 : Fin 8) t d = iblk m c (3 : Fin 8) t :=
  ((dats m 0 c).before_in_eq_fetched (3 : Fin 8) rfl (fun _ => rfl) (fun _ _ _ => rfl) (fun t => by rw [after_3]; unfold Dat.blockOf iblk; rfl) t d).trans
    (by unfold Dat.fetched Dat.blockOf iblk; rfl)
/-- The shared down weights a point finds. -/
theorem before_4 (c : Dev nD) (t : Fin cfg0.N) (d) : (dats m 0 c).before (4 : Fin 8) t d = iblk m c (4 : Fin 8) t :=
  ((dats m 0 c).before_in_eq_fetched (4 : Fin 8) rfl (fun _ => rfl) (fun _ _ _ => rfl) (fun t => by rw [after_4]; unfold Dat.blockOf iblk; rfl) t d).trans
    (by unfold Dat.fetched Dat.blockOf iblk; rfl)
/-- The gains a point finds. -/
theorem before_5 (c : Dev nD) (t : Fin cfg0.N) (d) : (dats m 0 c).before (5 : Fin 8) t d = iblk m c (5 : Fin 8) t :=
  ((dats m 0 c).before_in_eq_fetched (5 : Fin 8) rfl (fun _ => rfl) (fun _ _ _ => rfl) (fun t => by rw [after_5]; unfold Dat.blockOf iblk; rfl) t d).trans
    (by unfold Dat.fetched Dat.blockOf iblk; rfl)
/-- The offsets a point finds. -/
theorem before_6 (c : Dev nD) (t : Fin cfg0.N) (d) : (dats m 0 c).before (6 : Fin 8) t d = iblk m c (6 : Fin 8) t :=
  ((dats m 0 c).before_in_eq_fetched (6 : Fin 8) rfl (fun _ => rfl) (fun _ _ _ => rfl) (fun t => by rw [after_6]; unfold Dat.blockOf iblk; rfl) t d).trans
    (by unfold Dat.fetched Dat.blockOf iblk; rfl)

/-! ## The body at a point -/

/-- The kernel at a point on its staging buffers. -/
abbrev bodyAt (t : Fin cfg0.N) : Prog (TpuEff nD τ sig (Elt F) Λ₀ .tc) PUnit :=
  kern (crd t) (Memref.isWhole_whole _) (Memref.isWhole_whole _)
    (ms0 t) (hs0 t) (ms1 t) (hs1 t) (ms2 t) (hs2 t) (ms3 t) (hs3 t) (ms4 t) (hs4 t) (ms5 t) (hs5 t) (ms6 t) (hs6 t) (ms7 t) (hs7 t) (Memref.isWhole_whole _) (Memref.isWhole_whole _)

/-- What a point is entered with. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0 t) fullShare ((dats m 0 c).before (0 : Fin 8) t d)) ∗ (∃ d, owns (c : Thread nD τ) (ms1 t) fullShare ((dats m 0 c).before (1 : Fin 8) t d)) ∗ (∃ d, owns (c : Thread nD τ) (ms2 t) fullShare ((dats m 0 c).before (2 : Fin 8) t d)) ∗ (∃ d, owns (c : Thread nD τ) (ms3 t) fullShare ((dats m 0 c).before (3 : Fin 8) t d)) ∗ (∃ d, owns (c : Thread nD τ) (ms4 t) fullShare ((dats m 0 c).before (4 : Fin 8) t d)) ∗ (∃ d, owns (c : Thread nD τ) (ms5 t) fullShare ((dats m 0 c).before (5 : Fin 8) t d)) ∗ (∃ d, owns (c : Thread nD τ) (ms6 t) fullShare ((dats m 0 c).before (6 : Fin 8) t d)) ∗ (∃ d, owns (c : Thread nD τ) (ms7 t) fullShare ((dats m 0 c).before (7 : Fin 8) t d)))
/-- What a point is left with. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0 t) fullShare ((dats m 0 c).after (0 : Fin 8) t) ∗ owns (c : Thread nD τ) (ms1 t) fullShare ((dats m 0 c).after (1 : Fin 8) t) ∗ owns (c : Thread nD τ) (ms2 t) fullShare ((dats m 0 c).after (2 : Fin 8) t) ∗ owns (c : Thread nD τ) (ms3 t) fullShare ((dats m 0 c).after (3 : Fin 8) t) ∗ owns (c : Thread nD τ) (ms4 t) fullShare ((dats m 0 c).after (4 : Fin 8) t) ∗ owns (c : Thread nD τ) (ms5 t) fullShare ((dats m 0 c).after (5 : Fin 8) t) ∗ owns (c : Thread nD τ) (ms6 t) fullShare ((dats m 0 c).after (6 : Fin 8) t) ∗ owns (c : Thread nD τ) (ms7 t) fullShare ((dats m 0 c).after (7 : Fin 8) t))

variable (hr : InRange m)
include hr

set_option maxHeartbeats 4000000 in
/-- The kernel at a point, from the windows' blocks to the result's block. -/
theorem sound_body (c : Dev nD) (t : Fin cfg0.N) :
    bodyPre m c t ⊢ wp frame (wpE (defs₀ (F := F)) Variants.none c none) Set.univ (bodyAt t) fun _ => bodyPost m c t := by
  unfold bodyPre bodyPost
  simp only [before_0, before_1, before_2, before_3, before_4, before_5, before_6, after_0, after_1, after_2, after_3, after_4, after_5, after_6, after_7]
  rewrite [show (dats m 0 c).Φ t.succ = St (toks m c) (xs m c) c (t.val + 1) from rfl, show (dats m 0 c).Φ t.castSucc = St (toks m c) (xs m c) c t.val from rfl]
  unfold Dat.owesAt Pipeline.owesWithin
  rw [show (dats m 0 c).owed t.castSucc = 0 from rfl, show (dats m 0 c).owed t.succ = 0 from rfl, ← pt_crd t]
  iintro ⟨HS, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_wp (toks m c) (xs m c) c none (crd t) (Memref.isWhole_whole _) (Memref.isWhole_whole _)
    (ms0 t) (hs0 t) (ms1 t) (hs1 t) (ms2 t) (hs2 t) (ms3 t) (hs3 t) (ms4 t) (hs4 t) (ms5 t) (hs5 t) (ms6 t) (hs6 t) (ms7 t) (hs7 t) (Memref.isWhole_whole _) (Memref.isWhole_whole _)
    (iblk m c (0 : Fin 8) t) (iblk m c (1 : Fin 8) t) (iblk m c (2 : Fin 8) t) (iblk m c (3 : Fin 8) t) (iblk m c (4 : Fin 8) t) (iblk m c (5 : Fin 8) t) (iblk m c (6 : Fin 8) t) (hr c) _) $$ [HS HW H0 H1 H2 H3 H4 H5 H6 H7]
  · isplitl [HS]; · iexact HS
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  iintro ⟨HS, ⟨%W', HW'⟩, H0, H1, H2, H3, H4, H5, H6, H7⟩
  isplitl [HS]; · iexact HS
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

omit hr in
/-- The program's body at a point is the kernel there. -/
theorem defs₀_row (t : Fin cfg0.N) : defs₀ (F := F) .tc cfg0.body (cfg0.bodyArgs t (cfg0.slots t)) = bodyAt t := by
  unfold defs₀; rw [Defs.onTc_tc]

/-- The pipeline's obligation, at every point. -/
theorem body_obligation (c : Dev nD) : BodyObligation (dats m 0 c) (defs₀ (F := F)) Variants.none () Set.univ := fun t => by
  rw [bigSep_W0, bigSep_W0, defs₀_row]
  exact triple_restated (sound_body m hr c t) rfl .rfl fun _ => .rfl

end Cert.Combine.Hand

end
-- ==== Proof.CmbRun.lean ====
/- The combining kernel run from launch to its end: every array's final contents, and the arguments unchanged. -/
module

public import proofs.«01_k».proof.Proof.CmbLaunch
public import Idealize.ShloMosaic.Lib.Pipeline.KitQuiescent

@[expose] public section

set_option maxRecDepth 16384

noncomputable section

namespace Cert.Combine.Hand

open Cert.Combine Cert.Combine.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg) (hr : InRange m)

/-- The kernel's own four transfer semaphores. -/
abbrev osem0 : Fin 4 → SemLoc sig := fun j => (![SemLoc.dma 11, SemLoc.dma 12, SemLoc.dma 13, SemLoc.dma 14] : Fin 4 → SemLoc sig) j
/-- The kernel's own semaphores are none of the pipeline's. -/
theorem ownSemFacts0 : Pipeline.OwnSemFacts spec0 osem0 := by decide
/-- The kernel's own semaphores at zero, one by one. -/
theorem ownSems0_split (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0) := by
  rw [Pipeline.ownSems0_eq_of_list c osem0 [0, 1, 2, 3] (by decide) (by decide)]; rfl

/-- The row buffer, slot by slot. -/
theorem slots_split (c : Dev nD) (f : S2x512x1024.Idx → Elt F .f32) :
    (((c : Thread nD τ).loc cc0_scratch1) ↦[Finset.univ]{fullShare} f : sProp (MT nD τ sig Unit (Elt F) ℕ (Pipeline.UD sig nD τ) ℕ))
      = iprop((((c : Thread nD τ).loc cc0_scratch1) ↦[slotSet 0]{fullShare} f) ∗ (((c : Thread nD τ).loc cc0_scratch1) ↦[slotSet 1]{fullShare} f)) := by
  have h : (((c : Thread nD τ).loc cc0_scratch1) ↦[Finset.univ.biUnion slotSet]{fullShare} f : sProp (MT nD τ sig Unit (Elt F) ℕ (Pipeline.UD sig nD τ) ℕ))
      = bigSep Finset.univ fun p => (((c : Thread nD τ).loc cc0_scratch1) ↦[slotSet p]{fullShare} f : sProp (MT nD τ sig Unit (Elt F) ℕ (Pipeline.UD sig nD τ) ℕ)) :=
    pointsTo_biUnion _ _ (fun t _ t' _ h => slotSet_disjoint t t' h)
  rw [slotSet_cover] at h
  exact h.trans (Ring.bigSep_fin2 _)
/-- The slots joined. -/
theorem slots_join (c : Dev nD) :
    (iprop((∃ f : S2x512x1024.Idx → Elt F .f32, ((c : Thread nD τ).loc cc0_scratch1) ↦[slotSet 0]{fullShare} f) ∗ (∃ f : S2x512x1024.Idx → Elt F .f32, ((c : Thread nD τ).loc cc0_scratch1) ↦[slotSet 1]{fullShare} f)) : sProp (MT nD τ sig Unit (Elt F) ℕ (Pipeline.UD sig nD τ) ℕ))
      ⊢ iprop(∃ f : S2x512x1024.Idx → Elt F .f32, ((c : Thread nD τ).loc cc0_scratch1) ↦[Finset.univ]{fullShare} f) := by
  iintro ⟨⟨%f, H0⟩, ⟨%g, H1⟩⟩
  have e : slotSet 0 ∪ slotSet 1 = (Finset.univ : Finset S2x512x1024.Idx) := by
    rw [← slotSet_cover]; ext y; simp [Finset.mem_biUnion, Fin.exists_fin_two]
  ihave H := (pointsTo_join (ℓ := ((c : Thread nD τ).loc cc0_scratch1)) (q := fullShare) (f := f) (g := g) (slotSet_disjoint 0 1 (by decide))) $$ [H0 H1]
  · isplitl [H0]; · iexact H0
    iexact H1
  ihave H' := (Entails.of_eq (by rw [e])) $$ H
  iexists _; iexact H'

/-- The word buffer, slot by slot. -/
theorem idx_split (c : Dev nD) (f : S2x512.Idx → Elt F .i32) :
    (((c : Thread nD τ).loc cc0_scratch0) ↦[Finset.univ]{fullShare} f : sProp (MT nD τ sig Unit (Elt F) ℕ (Pipeline.UD sig nD τ) ℕ))
      = iprop((((c : Thread nD τ).loc cc0_scratch0) ↦[idxSet 0]{fullShare} f) ∗ (((c : Thread nD τ).loc cc0_scratch0) ↦[idxSet 1]{fullShare} f)) := by
  have h : (((c : Thread nD τ).loc cc0_scratch0) ↦[Finset.univ.biUnion idxSet]{fullShare} f : sProp (MT nD τ sig Unit (Elt F) ℕ (Pipeline.UD sig nD τ) ℕ))
      = bigSep Finset.univ fun p => (((c : Thread nD τ).loc cc0_scratch0) ↦[idxSet p]{fullShare} f : sProp (MT nD τ sig Unit (Elt F) ℕ (Pipeline.UD sig nD τ) ℕ)) :=
    pointsTo_biUnion _ _ (fun t _ t' _ h => idxSet_disjoint t t' h)
  rw [idxSet_cover] at h
  exact h.trans (Ring.bigSep_fin2 _)
/-- The slots of words joined. -/
theorem idx_join (c : Dev nD) :
    (iprop((∃ f : S2x512.Idx → Elt F .i32, ((c : Thread nD τ).loc cc0_scratch0) ↦[idxSet 0]{fullShare} f) ∗ (∃ f : S2x512.Idx → Elt F .i32, ((c : Thread nD τ).loc cc0_scratch0) ↦[idxSet 1]{fullShare} f)) : sProp (MT nD τ sig Unit (Elt F) ℕ (Pipeline.UD sig nD τ) ℕ))
      ⊢ iprop(∃ f : S2x512.Idx → Elt F .i32, ((c : Thread nD τ).loc cc0_scratch0) ↦[Finset.univ]{fullShare} f) := by
  iintro ⟨⟨%f, H0⟩, ⟨%g, H1⟩⟩
  have e : idxSet 0 ∪ idxSet 1 = (Finset.univ : Finset S2x512.Idx) := by
    rw [← idxSet_cover]; ext y; simp [Finset.mem_biUnion, Fin.exists_fin_two]
  ihave H := (pointsTo_join (ℓ := ((c : Thread nD τ).loc cc0_scratch0)) (q := fullShare) (f := f) (g := g) (idxSet_disjoint 0 1 (by decide))) $$ [H0 H1]
  · isplitl [H0]; · iexact H0
    iexact H1
  ihave H' := (Entails.of_eq (by rw [e])) $$ H
  iexists _; iexact H'

/-- What the launch gives the pipeline. -/
def Given (c : Dev nD) : sProp (MT nD τ sig Unit (Elt F) ℕ (Pipeline.UD sig nD τ) ℕ) :=
  iprop(((((c : Thread nD τ).loc main_arg0) ↦[Finset.univ]{fullShare} xs m c) ∗ (((c : Thread nD τ).loc main_arg1) ↦[Finset.univ]{fullShare} toks m c))
    ∗ (semVal ((c : Thread nD τ), SemLoc.dma 11) 0 ∗ semVal ((c : Thread nD τ), SemLoc.dma 12) 0
          ∗ semVal ((c : Thread nD τ), SemLoc.dma 13) 0 ∗ semVal ((c : Thread nD τ), SemLoc.dma 14) 0))

/-- The state before the first point. -/
theorem phi0_intro (c : Dev nD) :
    iprop(Given m c ∗ Pipeline.scopedRest spec0 c) ⊢ (dats m 0 c).Φ 0 := by
  rw [scopedRest0_eq, show (dats m 0 c).Φ 0 = St (toks m c) (xs m c) c 0 from rfl]
  unfold St Given
  rw [if_neg (show ¬(0 < 0 ∧ 0 < 256) from by omega)]
  unfold Idle SlotFree
  unfold semI0
  rw [semI_0, semI_1, semB_0, semB_1, show hs 0 = fullShare.left from rfl, show hs 1 = fullShare.right from rfl]
  iintro ⟨⟨⟨HX, HT⟩, H8, H9, H10, H11⟩, ⟨%f, HB⟩, ⟨%g, HI⟩⟩
  ihave HX' := ((pointsTo_share (PosShare.mem_left_op_right fullShare)).1) $$ HX
  icases HX' with ⟨HXl, HXr⟩
  ihave HB' := (Entails.of_eq (slots_split c f)) $$ HB
  icases HB' with ⟨HB0, HB1⟩
  ihave HI' := (Entails.of_eq (idx_split c g)) $$ HI
  icases HI' with ⟨HI0, HI1⟩
  isplitl [HXl HB0 H10]
  · isplitl [HB0]; · iexists f; iexact HB0
    isplitl [HXl]; · iexact HXl
    iexact H10
  isplitl [HXr HB1 H11]
  · isplitl [HB1]; · iexists f; iexact HB1
    isplitl [HXr]; · iexact HXr
    iexact H11
  isplitl [HI0]; · iexists g; iexact HI0
  isplitl [HI1]; · iexists g; iexact HI1
  isplitl [HT]; · iexact HT
  isplitl [H8]; · iexact H8
  iexact H9

/-- What is kept of the arguments the kernel itself reads. -/
def Kept (c : Dev nD) : sProp (MT nD τ sig Unit (Elt F) ℕ (Pipeline.UD sig nD τ) ℕ) :=
  iprop((((c : Thread nD τ).loc main_arg0) ↦[Finset.univ]{fullShare} xs m c) ∗ (((c : Thread nD τ).loc main_arg1) ↦[Finset.univ]{fullShare} toks m c))

/-- The state after the last point gives everything back. -/
theorem phiN_exit (c : Dev nD) : (dats m 0 c).Φ (Fin.last cfg0.N) ⊢ iprop(Kept m c ∗ Pipeline.ownSems0 osem0 c ∗ Pipeline.scopedRest spec0 c) := by
  rw [scopedRest0_eq, ownSems0_split, show (dats m 0 c).Φ (Fin.last cfg0.N) = St (toks m c) (xs m c) c cfg0.N from rfl, show cfg0.N = 256 from N_0]
  unfold St Kept
  rw [if_neg (show ¬(0 < 256 ∧ 256 < 256) from by omega)]
  unfold Idle SlotFree
  unfold semI0
  rw [semI_0, semI_1, semB_0, semB_1, show hs 0 = fullShare.left from rfl, show hs 1 = fullShare.right from rfl]
  iintro ⟨⟨HB0, HXl, H10⟩, ⟨HB1, HXr, H11⟩, HI0, HI1, HT, H8, H9⟩
  ihave HX := ((pointsTo_share (PosShare.mem_left_op_right fullShare)).2) $$ [HXl HXr]
  · isplitl [HXl]; · iexact HXl
    iexact HXr
  ihave HB := (slots_join c) $$ [HB0 HB1]
  · isplitl [HB0]; · iexact HB0
    iexact HB1
  ihave HI := (idx_join c) $$ [HI0 HI1]
  · isplitl [HI0]; · iexact HI0
    iexact HI1
  isplitl [HX HT]
  · isplitl [HX]; · iexact HX
    iexact HT
  isplitl [H8 H9 H10 H11]
  · isplitl [H8]; · iexact H8
    isplitl [H9]; · iexact H9
    isplitl [H10]; · iexact H10
    iexact H11
  isplitl [HB]; · iexact HB
  iexact HI

/-- The resources at launch. -/
def u₀ : Pipeline.UD sig nD τ :=
  (initOf (Pipeline.cells cfgs launch0.cellOf_inj) (Pipeline.launchToks cfgs launch0.cellOf_inj), 1)

/-- Every window's array is held whole. -/
theorem share_eq (c : Dev nD) (w : Fin cfg0.W) : (dats m 0 c).share w = fullShare := by unfold Dat.share; split <;> rfl

/-- Every array at its final contents, and the arguments the kernel reads itself as they were. -/
def QC : PUnit × MemSt nD τ sig (Elt F) → Prop := fun r =>
  ∀ c : Dev nD, (∀ w : Fin cfg0.W, r.2.mem (((cfg0).win w).arr.view.loc (c : Thread nD τ)) = (dats m 0 c).arrAt w cfg0.N)
    ∧ (r.2.mem ((c : Thread nD τ).loc main_arg0) = m ((c : Thread nD τ).loc main_arg0) ∧ r.2.mem ((c : Thread nD τ).loc main_arg1) = m ((c : Thread nD τ).loc main_arg1))

include hr in
set_option backward.isDefEq.respectTransparency.types false in
set_option maxHeartbeats 4000000 in
/-- The kernel runs, faults nowhere, and ends with every semaphore at zero. -/
theorem run_main : θ_run (defs (F := F)) (onTc (τ := τ) (main (F := F))) ⟨m, fun _ => 0, ρ⟩ (fun r => QC m r ∧ r.2.sem = fun _ => 0) :=
  Pipeline.θ_run_region_kit_quiescent cfgs (dats m) () (0 : Fin 1) launch0 ownSemFacts0 embL defs₀ Variants.none m ρ main
    (hbody := fun c => (body_obligation m hr c).loose) (hshare := share_eq m) (howed := fun _ _ => rfl)
    (G := fun _ => iprop(emp)) (u₀ := u₀)
    (hu₀ := by
      iintro Hu
      ihave H' := (ownU_pair _ _) $$ Hu
      icases H' with ⟨HP, -⟩
      imodintro
      isplitl [HP]; · iexact HP
      iapply (show (BI.emp : sProp (MT nD τ sig Unit (Elt F) ℕ (Pipeline.UD sig nD τ) ℕ)) ⊢ bigSep Finset.univ (fun _ : Dev nD => (BI.emp : sProp (MT nD τ sig Unit (Elt F) ℕ (Pipeline.UD sig nD τ) ℕ))) from by rw [BI.bigSep_emp_const])
      iempintro)
    (V := fun c b => m ((c : Thread nD τ).loc b))
    (hmain := fun c Q => by
      delta main; simp only [Prog.bind_lift, Prog.pure_eq_ret]
      iintro ⟨Hk, Hb⟩; iapply Hk; iexact Hb)
    (hA := fun _ _ => by dsimp only [dats])
    (X := Given m) (Y := Kept m) (Z := fun _ => iprop(emp))
    (hX := fun c => by
      rw [unscopedRest0_eq, ownSems0_split]; unfold Given
      iintro ⟨HU, Ho, -⟩; imodintro
      isplitl [HU Ho]
      · isplitl [HU]; · iexact HU
        iexact Ho
      iempintro)
    (hin := phi0_intro m)
    (hout := phiN_exit m)
    (QY := fun c s => s.mem ((c : Thread nD τ).loc main_arg0) = m ((c : Thread nD τ).loc main_arg0) ∧ s.mem ((c : Thread nD τ).loc main_arg1) = m ((c : Thread nD τ).loc main_arg1))
    (hY := fun c s' => by
      unfold Kept
      iintro ⟨⟨HX, HT⟩, -, HSI⟩
      icombine HSI HX gives %h0
      icombine HSI HT gives %h1
      imodintro
      isplitr
      · ipureintro; exact ⟨funext fun i => h0 i (Finset.mem_univ i), funext fun i => h1 i (Finset.mem_univ i)⟩
      iexact HSI)
    (hQ := fun _ h hz => ⟨fun c => ⟨(h c).1, (h c).2⟩, hz⟩)

/-- What a run leaves: the result at its final contents, every argument as it was. -/
def Left : PUnit × MemSt nD τ sig (Elt F) → Prop := fun r => ∀ c : Dev nD,
  r.2.mem ((c : Thread nD τ).loc main_v0) = (dats m 0 c).arrAt (7 : Fin 8) cfg0.N
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8)

include hr in
/-- The kernel runs, leaves its result at its final contents and its arguments as they were, every semaphore at zero. -/
theorem run_left : θ_run (defs (F := F)) (onTc (τ := τ) (main (F := F))) ⟨m, fun _ => 0, ρ⟩ (fun r => Left m r ∧ r.2.sem = fun _ => 0) :=
  (θ_run defs _ _).mono (fun _ h => ⟨fun c => ⟨(h.1 c).1 (7 : Fin 8), (h.1 c).2.1, (h.1 c).2.2,
    ((h.1 c).1 (0 : Fin 8)).trans ((dats m 0 c).arrAt_in (0 : Fin 8) rfl _), ((h.1 c).1 (1 : Fin 8)).trans ((dats m 0 c).arrAt_in (1 : Fin 8) rfl _), ((h.1 c).1 (2 : Fin 8)).trans ((dats m 0 c).arrAt_in (2 : Fin 8) rfl _), ((h.1 c).1 (3 : Fin 8)).trans ((dats m 0 c).arrAt_in (3 : Fin 8) rfl _), ((h.1 c).1 (4 : Fin 8)).trans ((dats m 0 c).arrAt_in (4 : Fin 8) rfl _), ((h.1 c).1 (5 : Fin 8)).trans ((dats m 0 c).arrAt_in (5 : Fin 8) rfl _), ((h.1 c).1 (6 : Fin 8)).trans ((dats m 0 c).arrAt_in (6 : Fin 8) rfl _)⟩, h.2⟩) (run_main m ρ hr)

end Cert.Combine.Hand

end
-- ==== Proof.CmbiRun.lean ====
/- The idealized combining kernel's run: it is the same program, so the run is the kernel's over the extended reals. -/
module

public import proofs.«01_k».proof.Proof.CmbRun
public import proofs.«01_k».proof.Proof.Gen.CombineIdeal

@[expose] public section

set_option maxRecDepth 65536

noncomputable section

namespace Cert.Proof.Cmb

open Idealize.ShloMosaic Idealize.ShloMosaic.TcCoe Idealize.SL.Sem

variable {F : FTy → Type} [FloatOps F]

/-- The two programs' bodies are the same. -/
theorem body_same : (Cert.CombineIdeal.defs₀ (F := F)) = (Cert.Combine.defs₀ (F := F)) := by
  unfold Cert.CombineIdeal.defs₀ Cert.Combine.defs₀
  refine congrArg Defs.onTc (funext fun l => funext fun a => ?_)
  match l, a with
  | 0, (t, s) => rfl
  | ⟨_ + 1, h⟩, _ => exact absurd h (Nat.not_lt.2 (Nat.le_add_left _ _))

/-- The two programs are the same. -/
theorem defs_same : (Cert.CombineIdeal.defs (F := F)) = (Cert.Combine.defs (F := F)) := by
  unfold Cert.CombineIdeal.defs Cert.Combine.defs
  exact congrArg (Pipeline.defs _) body_same

end Cert.Proof.Cmb

end
-- ==== Proof.CmbBlock.lean ====
/- The combining kernel's block read at an index, and the result array's index in its block. -/
module

public import proofs.«01_k».proof.Proof.CmbRun
public import proofs.«01_k».proof.Proof.ExpBlock
public import proofs.«01_k».proof.Proof.OutBlock
public import Idealize.ShloMosaic.Lib.Pointwise
public import Idealize.ShloMosaic.Lib.Pipeline.ValueKit

@[expose] public section

set_option maxRecDepth 16384

noncomputable section

namespace Cert.Proof.Cmb

open Idealize.ShloMosaic Idealize.ShloMosaic.TcCoe
open Cert.Proof.Exp (expert silu)
open Cert.Proof.Out (layer mean)

/-- One lane before the norm: the scaled residual plus the eight weighted rows and the shared expert. -/
def mixed (h s : EReal) (y g : Fin 8 → EReal) : EReal :=
  Ideal.ofBits .f32 0x3FB504F3#32 * h + ((∑ k : Fin 8, y k * g k) + s)

/-- The kernel's order of adding is the same sum. -/
theorem mixed_left (h s : EReal) (y g : Fin 8 → EReal) :
    Ideal.ofBits .f32 0x3FB504F3#32 * h + s + y 0 * g 0 + y 1 * g 1 + y 2 * g 2 + y 3 * g 3 + y 4 * g 4 + y 5 * g 5 + y 6 * g 6 + y 7 * g 7 = mixed h s y g := by
  unfold mixed
  rw [Fin.sum_univ_eight]
  generalize Ideal.ofBits .f32 0x3FB504F3#32 * h = a
  abel

section Kernel
open Cert.Combine Cert.Combine.Gen Cert.Combine.Hand

/-- The shared expert, the residual and the first two rows, at an index. -/
theorem pay2_apply (x : FVec Ideal S64x1024 .f32) (wg wu : FVec Ideal S1024x256 .bf16) (wd : FVec Ideal S256x1024 .bf16) (g : FVec Ideal S64x128 .f32) (y0 y1 : FVec Ideal S1x64x1024 .f32) (r : Fin 64) (n : Fin 1024) :
    k0_pay2 (F := Ideal) x wg wu wd g y0 y1 (ix2 r n)
      = Ideal.ofBits .f32 0x3FB504F3#32 * x (ix2 r n) + expert (fun d => x (ix2 r d)) (fun d f => wg (ix2 d f)) (fun d f => wu (ix2 d f)) (fun f y => wd (ix2 f y)) n
        + (y0 (ix3 0 r n) : EReal) * g (ix2 r 0) + (y1 (ix3 0 r n) : EReal) * g (ix2 r 1) := by
  pointwise [k0_pay2]
  simp only [expert, silu, zero_sub]
  try rfl

/-- The six rows after the first two, at an index. -/
theorem pay3_apply (g : FVec Ideal S64x128 .f32) (v : FVec Ideal S64x1024 .f32) (y2 y3 y4 y5 y6 y7 : FVec Ideal S1x64x1024 .f32) (r : Fin 64) (n : Fin 1024) :
    k0_pay3 (F := Ideal) g v y2 y3 y4 y5 y6 y7 (ix2 r n)
      = (v (ix2 r n) : EReal) + (y2 (ix3 0 r n) : EReal) * g (ix2 r 2) + (y3 (ix3 0 r n) : EReal) * g (ix2 r 3) + (y4 (ix3 0 r n) : EReal) * g (ix2 r 4)
        + (y5 (ix3 0 r n) : EReal) * g (ix2 r 5) + (y6 (ix3 0 r n) : EReal) * g (ix2 r 6) + (y7 (ix3 0 r n) : EReal) * g (ix2 r 7) := by
  pointwise [k0_pay3]
  try rfl

/-- The norm over a row, at an index. -/
theorem pay1_apply (v : FVec Ideal S64x1024 .f32) (g b : FVec Ideal S1x1024 .f32) (r : Fin 64) (n : Fin 1024) :
    k0_pay1 (F := Ideal) v g b (ix2 r n) = layer (fun y => v (ix2 r y)) (g (ix2 0 n)) (b (ix2 0 n)) n := by
  pointwise [k0_pay1]
  rfl

/-- What a point leaves in the result's block, at an index. -/
theorem block_apply (T : S256x512.Idx → BitVec 32) (X : S163712x1024.Idx → EReal) (b : Fin 256) (x3 : FVec Ideal S64x1024 .f32) (x4 : FVec Ideal S64x128 .f32) (x5 x6 : FVec Ideal S1024x256 .bf16) (x7 : FVec Ideal S256x1024 .bf16) (x8 x9 : FVec Ideal S1x1024 .f32) (r : Fin 64) (n : Fin 1024) :
    blockVal (F := Ideal) T X b x3 x4 x5 x6 x7 x8 x9 (ix2 r n)
      = layer (fun y => mixed (x3 (ix2 r y)) (expert (fun d => x3 (ix2 r d)) (fun d f => x5 (ix2 d f)) (fun d f => x6 (ix2 d f)) (fun f y => x7 (ix2 f y)) y)
          (fun k => rows (F := Ideal) T X b k (ix3 0 r y)) (fun k => x4 (ix2 r ⟨k.val, by omega⟩))) (x8 (ix2 0 n)) (x9 (ix2 0 n)) n := by
  unfold blockVal
  rw [pay1_apply]
  refine congrArg (fun A => layer A (x8 (ix2 0 n)) (x9 (ix2 0 n)) n) (funext fun y => ?_)
  unfold part3
  rw [pay3_apply]
  unfold part2
  rw [pay2_apply]
  exact mixed_left _ _ (fun k => rows (F := Ideal) T X b k (ix3 0 r y)) (fun k => x4 (ix2 r ⟨k.val, by omega⟩))

/-- A row the kernel weighs, where its number is in range. -/
theorem rows_at (T : S256x512.Idx → BitVec 32) (X : S163712x1024.Idx → EReal) (b : Fin 256) (k : Fin 8) (r : Fin 64) (d : Fin 1024) (h : (T (ix2 b ⟨64 * k.val + r.val, by omega⟩)).toNat < 163712) :
    rows (F := Ideal) T X b k (ix3 0 r d) = X (ix2 ⟨(T (ix2 b ⟨64 * k.val + r.val, by omega⟩)).toNat, h⟩ d) := by
  have e : tokN (F := Ideal) T b ⟨64 * k.val + r.val, by omega⟩ = ⟨(T (ix2 b ⟨64 * k.val + r.val, by omega⟩)).toNat, h⟩ := dif_pos h
  exact congrArg (fun z => X (ix2 z d)) e

variable (m : (ℓ : Loc nD τ sig) → Buf (Elt Ideal) ℓ) (c : Dev nD)

/-- A point's number as its coordinate is read. -/
theorem crd_nat (t : Fin cfg0.N) : (BitVec.ofNat 32 (crd t (0 : Fin 1)).val).toNat = t.val := by
  have e : (crd t (0 : Fin 1)).val = t.val := pt_crd t
  rw [e, BitVec.toNat_ofNat]
  have := t.isLt; have hN : cfg0.N = 256 := N_0
  exact Nat.mod_eq_of_lt (by omega)

/-- A point's residual rows. -/
theorem iblk0_apply (t : Fin cfg0.N) (r : Fin 64) (n : Fin 1024) (i : Fin 16384) (hi : i.val = 64 * t.val + r.val) :
    iblk m c (0 : Fin 8) t (ix2 r n) = m ((c : Thread nD τ).loc main_arg2) (ix2 i n) := by
  show m ((c : Thread nD τ).loc main_arg2) (((cfg0.win (0 : Fin 8)).blk t).view.emb (ix2 r n)) = _
  congr 1
  funext a; refine Fin.ext ?_
  match a with
  | ⟨0, _⟩ => show (BitVec.ofNat 32 (crd t (0 : Fin 1)).val).toNat * 64 + 1 * r.val = i.val; rw [crd_nat]; omega
  | ⟨1, _⟩ => show 0 * 1024 + 1 * n.val = n.val; omega

/-- A point's gates. -/
theorem iblk1_apply (t : Fin cfg0.N) (r : Fin 64) (n : Fin 128) (i : Fin 16384) (hi : i.val = 64 * t.val + r.val) :
    iblk m c (1 : Fin 8) t (ix2 r n) = m ((c : Thread nD τ).loc main_arg3) (ix2 i n) := by
  show m ((c : Thread nD τ).loc main_arg3) (((cfg0.win (1 : Fin 8)).blk t).view.emb (ix2 r n)) = _
  congr 1
  funext a; refine Fin.ext ?_
  match a with
  | ⟨0, _⟩ => show (BitVec.ofNat 32 (crd t (0 : Fin 1)).val).toNat * 64 + 1 * r.val = i.val; rw [crd_nat]; omega
  | ⟨1, _⟩ => show 0 * 128 + 1 * n.val = n.val; omega

/-- Every point's shared gate weights are the argument's. -/
theorem iblk2_apply (t : Fin cfg0.N) (d : Fin 1024) (f : Fin 256) : iblk m c (2 : Fin 8) t (ix2 d f) = m ((c : Thread nD τ).loc main_arg4) (ix2 d f) := by
  show m ((c : Thread nD τ).loc main_arg4) (((cfg0.win (2 : Fin 8)).blk t).view.emb (ix2 d f)) = _
  congr 1
  funext a; refine Fin.ext ?_
  match a with
  | ⟨0, _⟩ => show 0 * 1024 + 1 * d.val = d.val; omega
  | ⟨1, _⟩ => show 0 * 256 + 1 * f.val = f.val; omega

/-- Every point's shared up weights are the argument's. -/
theorem iblk3_apply (t : Fin cfg0.N) (d : Fin 1024) (f : Fin 256) : iblk m c (3 : Fin 8) t (ix2 d f) = m ((c : Thread nD τ).loc main_arg5) (ix2 d f) := by
  show m ((c : Thread nD τ).loc main_arg5) (((cfg0.win (3 : Fin 8)).blk t).view.emb (ix2 d f)) = _
  congr 1
  funext a; refine Fin.ext ?_
  match a with
  | ⟨0, _⟩ => show 0 * 1024 + 1 * d.val = d.val; omega
  | ⟨1, _⟩ => show 0 * 256 + 1 * f.val = f.val; omega

/-- Every point's shared down weights are the argument's. -/
theorem iblk4_apply (t : Fin cfg0.N) (f : Fin 256) (d : Fin 1024) : iblk m c (4 : Fin 8) t (ix2 f d) = m ((c : Thread nD τ).loc main_arg6) (ix2 f d) := by
  show m ((c : Thread nD τ).loc main_arg6) (((cfg0.win (4 : Fin 8)).blk t).view.emb (ix2 f d)) = _
  congr 1
  funext a; refine Fin.ext ?_
  match a with
  | ⟨0, _⟩ => show 0 * 256 + 1 * f.val = f.val; omega
  | ⟨1, _⟩ => show 0 * 1024 + 1 * d.val = d.val; omega

/-- Every point's gains are the argument's. -/
theorem iblk5_apply (t : Fin cfg0.N) (n : Fin 1024) : iblk m c (5 : Fin 8) t (ix2 0 n) = m ((c : Thread nD τ).loc main_arg7) (ix2 0 n) := by
  show m ((c : Thread nD τ).loc main_arg7) (((cfg0.win (5 : Fin 8)).blk t).view.emb (ix2 0 n)) = _
  congr 1
  funext a; refine Fin.ext ?_
  match a with
  | ⟨0, _⟩ => rfl
  | ⟨1, _⟩ => show 0 * 1024 + 1 * n.val = n.val; omega

/-- Every point's offsets are the argument's. -/
theorem iblk6_apply (t : Fin cfg0.N) (n : Fin 1024) : iblk m c (6 : Fin 8) t (ix2 0 n) = m ((c : Thread nD τ).loc main_arg8) (ix2 0 n) := by
  show m ((c : Thread nD τ).loc main_arg8) (((cfg0.win (6 : Fin 8)).blk t).view.emb (ix2 0 n)) = _
  congr 1
  funext a; refine Fin.ext ?_
  match a with
  | ⟨0, _⟩ => rfl
  | ⟨1, _⟩ => show 0 * 1024 + 1 * n.val = n.val; omega

/-- The result's block at a point is the point's number. -/
theorem index7 (t : Fin cfg0.N) : (cfg0.win (7 : Fin 8)).index t (0 : Fin 2) = t.val := crd_nat t

/-- Every point writes its block of the result back. -/
theorem flush7 (t : Fin cfg0.N) : (cfg0.win (7 : Fin 8)).flush t = true := by
  have hout : (cfg0.win (7 : Fin 8)).isOut = true := rfl
  unfold Pipeline.Window.flush
  rw [hout, Bool.true_and, Bool.or_eq_true]
  by_cases h : t.val + 1 = cfg0.grid.N
  · exact Or.inl (decide_eq_true h)
  · refine Or.inr (decide_eq_true ⟨lt_of_le_of_ne (Nat.succ_le_of_lt t.isLt) h, fun e => ?_⟩)
    have e0 := congrFun e (0 : Fin 2)
    have h1 := index7 ⟨t.val + 1, lt_of_le_of_ne (Nat.succ_le_of_lt t.isLt) h⟩
    have h2 := index7 t
    have h3 : t.val + 1 = t.val := h1.symm.trans (e0.trans h2)
    omega

/-- Two points' blocks of the result share no index. -/
theorem disjoint7 : ∀ t t' : Fin cfg0.N, (cfg0.win (7 : Fin 8)).flush t = true → (cfg0.win (7 : Fin 8)).flush t' = true → t ≠ t' →
    Disjoint ((cfg0.win (7 : Fin 8)).blk t).view.set ((cfg0.win (7 : Fin 8)).blk t').view.set :=
  fun t t' _ _ hne => (cfg0.win (7 : Fin 8)).disjoint_blk fun h => hne (Fin.ext ((index7 t).symm.trans ((congrFun h (0 : Fin 2)).trans (index7 t'))))

/-- Where a point's block lies in the result. -/
theorem emb7 (t : Fin cfg0.N) (r : Fin 64) (n : Fin 1024) (i : Fin 16384) (hi : i.val = 64 * t.val + r.val) :
    ((cfg0.win (7 : Fin 8)).blk t).view.emb (ix2 r n) = ix2 i n := by
  have h := index7 t
  funext a; refine Fin.ext ?_
  match a with
  | ⟨0, _⟩ => show (cfg0.win (7 : Fin 8)).index t (0 : Fin 2) * 64 + 1 * r.val = i.val; omega
  | ⟨1, _⟩ => show 0 * 1024 + 1 * n.val = n.val; omega

/-- The result array at an index is its block's value there. -/
theorem arr_block (t : Fin cfg0.N) (r : Fin 64) (n : Fin 1024) (i : Fin 16384) (hi : i.val = 64 * t.val + r.val) :
    (dats m 0 c).arrAt (7 : Fin 8) cfg0.N (ix2 i n) = oblk m c t (ix2 r n) := by
  have b := (dats m 0 c).arrAt_emb_eq_flushed (7 : Fin 8) disjoint7 t (flush7 t) (ix2 r n)
  rw [emb7 t r n i hi] at b
  exact b

/-- The result array at an index. -/
theorem arr_apply (x0 : FVec Ideal S163712x1024 .f32) (x1 : IVec S256x512 32) (x2 : FVec Ideal S16384x1024 .f32) (x3 : FVec Ideal S16384x128 .f32) (x4 x5 : FVec Ideal S1024x256 .bf16) (x6 : FVec Ideal S256x1024 .bf16) (x7 x8 : FVec Ideal S1x1024 .f32)
    (e0 : xs m c = x0) (e1 : toks m c = x1) (e2 : m ((c : Thread nD τ).loc main_arg2) = x2) (e3 : m ((c : Thread nD τ).loc main_arg3) = x3) (e4 : m ((c : Thread nD τ).loc main_arg4) = x4) (e5 : m ((c : Thread nD τ).loc main_arg5) = x5)
    (e6 : m ((c : Thread nD τ).loc main_arg6) = x6) (e7 : m ((c : Thread nD τ).loc main_arg7) = x7) (e8 : m ((c : Thread nD τ).loc main_arg8) = x8)
    (hx1 : ∀ b t, (x1 (ix2 b t)).toNat < 163712)
    (b : Fin 256) (r : Fin 64) (n : Fin 1024) (i : Fin 16384) (hi : i.val = 64 * b.val + r.val) :
    (dats m 0 c).arrAt (7 : Fin 8) cfg0.N (ix2 i n)
      = layer (fun y => mixed (x2 (ix2 i y)) (expert (fun d => x2 (ix2 i d)) (fun d f => x4 (ix2 d f)) (fun d f => x5 (ix2 d f)) (fun f y => x6 (ix2 f y)) y)
          (fun k => x0 (ix2 ⟨(x1 (ix2 b ⟨64 * k.val + r.val, by omega⟩)).toNat, hx1 b _⟩ y)) (fun k => x3 (ix2 i ⟨k.val, by omega⟩))) (x7 (ix2 0 n)) (x8 (ix2 0 n)) n := by
  subst e0 e1 e2 e3 e4 e5 e6 e7 e8
  obtain ⟨t, ht⟩ : ∃ t : Fin cfg0.N, t.val = b.val := ⟨⟨b.val, lt_of_lt_of_eq b.isLt N_0.symm⟩, rfl⟩
  obtain rfl : pt (crd t) = b := Fin.ext ((pt_crd t).trans ht)
  have hi' : i.val = 64 * t.val + r.val := by rw [hi, pt_crd]
  rw [arr_block m c t r n i hi']
  unfold oblk
  rw [block_apply]
  have g0 := fun d => iblk0_apply m c t r d i hi'
  have g1 := fun d => iblk1_apply m c t r d i hi'
  have g2 := fun d f => iblk2_apply m c t d f
  have g3 := fun d f => iblk3_apply m c t d f
  have g4 := fun d f => iblk4_apply m c t d f
  have g5 := iblk5_apply m c t n
  have g6 := iblk6_apply m c t n
  have g7 := fun k d => rows_at (toks m c) (xs m c) (pt (crd t)) k r d (hx1 _ _)
  simp only [g0, g1, g2, g3, g4, g7]
  exact congrArg₂ (fun p q => layer _ p q n) g5 g6

end Kernel

end Cert.Proof.Cmb

end
-- ==== Proof.CmbRef.lean ====
/- The combination's reference read at an index: the gathered rows weighed and summed, the shared expert and the residual added, normed over the row. -/
module

public import proofs.«01_k».proof.Proof.CmbBlock
public import proofs.«01_k».proof.Proof.ExpRef
public import proofs.«01_k».proof.Proof.Gen.CombineRefIdeal.Run
public import proofs.«01_k».proof.Proof.Gen.CombineRefIdeal.Read

@[expose] public section

set_option maxRecDepth 16384

noncomputable section

namespace Cert.Proof.Cmb

open Idealize.ShloMosaic Idealize.ShloMosaic.TcCoe
open Cert.Proof.Exp (expert silu)
open Cert.Proof.Out (layer mean)
open Cert.CombineRefIdeal Cert.CombineRefIdeal.Gen

/-- The gathered rows: a result's row is the operand's row that its word names. -/
theorem rows_apply (x : FVec Ideal S163712x1024 .f32) (idx : IVec S256x512x1 32) (b : Fin 256) (t : Fin 512) (n : Fin 1024) (h : (idx (ix3 b t 0)).toNat < 163712) :
    Host.gather gather_S163712x1024_S256x512x1_S256x512x1024_2_0_n_n_0_2_11024 x idx (ix3 b t n) = x (ix2 ⟨(idx (ix3 b t 0)).toNat, h⟩ n) := by
  unfold Host.gather
  congr 1
  funext a
  refine Fin.ext ?_
  show GatherDims.start _ _ idx a + GatherDims.batchCoord _ _ a + GatherDims.offCoord _ _ a = _
  match a with
  | ⟨0, _⟩ =>
    rw [GatherDims.batchCoord_eq_zero _ _ _ (fun h => by simp [gather_S163712x1024_S256x512x1_S256x512x1024_2_0_n_n_0_2_11024] at h),
      GatherDims.offCoord_eq_zero _ _ _ (fun h => ((GatherDims.mem_sKept _ _).mp h).1 (List.mem_singleton.mpr rfl))]
    simp only [Nat.add_zero]
    have hsi : ∀ c, GatherDims.siIdx gather_S163712x1024_S256x512x1_S256x512x1024_2_0_n_n_0_2_11024 (ix3 b t n) c = ix3 b t 0 := by
      intro c
      funext e; refine Fin.ext ?_
      match e with
      | ⟨0, _⟩ => rfl
      | ⟨1, _⟩ => rfl
      | ⟨2, _⟩ => show c.val = 0; have := c.isLt; exact Nat.lt_one_iff.1 this
    refine Eq.trans ?_ (Exp.clamp_word (idx (ix3 b t 0)) 163712 (by norm_num) h)
    show GatherDims.start gather_S163712x1024_S256x512x1_S256x512x1024_2_0_n_n_0_2_11024 (ix3 b t n) idx (0 : Fin 2) = _
    unfold GatherDims.start
    rw [dif_pos (by decide), hsi]
    rfl
  | ⟨1, _⟩ =>
    rw [GatherDims.batchCoord_eq_zero _ _ _ (fun h => by simp [gather_S163712x1024_S256x512x1_S256x512x1024_2_0_n_n_0_2_11024] at h)]
    have h0 : GatherDims.start gather_S163712x1024_S256x512x1_S256x512x1024_2_0_n_n_0_2_11024 (ix3 b t n) idx (1 : Fin 2) = 0 := by
      unfold GatherDims.start; rw [dif_neg (by decide)]
    have h1 : GatherDims.offCoord gather_S163712x1024_S256x512x1_S256x512x1024_2_0_n_n_0_2_11024 (ix3 b t n) (1 : Fin 2) = n.val := by
      unfold GatherDims.offCoord; rw [dif_pos (by decide)]; rfl
    refine (congrArg₂ (fun p q => p + 0 + q) h0 h1).trans ?_
    show 0 + 0 + n.val = n.val
    omega

variable (x0 : FVec Ideal S163712x1024 .f32) (x1 : IVec S256x512 32) (x2 : FVec Ideal S16384x1024 .f32) (x3 : FVec Ideal S16384x128 .f32) (x4 x5 : FVec Ideal S1024x256 .bf16) (x6 : FVec Ideal S256x1024 .bf16) (x7 x8 : FVec Ideal S1x1024 .f32)
variable (hx1 : ∀ b t, (x1 (ix2 b t)).toNat < 163712)

/-- The words the rows are gathered at are the argument's. -/
theorem v5_apply (b : Fin 256) (t : Fin 512) (h : (x1 (ix2 b t)).toNat < 163712) : Read.val_main_v5 (F := Ideal) x1 (ix3 b t 0) = x1 (ix2 b t) := by
  refine Eq.trans ?_ (Exp.keep_word (x1 (ix2 b t)) 163712#32 (by omega))
  pointwise [Read.val_main_v5, Read.val_main_v4, Read.val_main_v3, Read.val_main_v2, Read.val_main_v1, Read.val_main_v0, Read.val_main_c, Read.val_main_c_0]

/-- The rows the reference weighs. -/
theorem v6_apply (b : Fin 256) (t : Fin 512) (n : Fin 1024) :
    Read.val_main_v6 (F := Ideal) x0 x1 (ix3 b t n) = x0 (ix2 ⟨(x1 (ix2 b t)).toNat, hx1 b t⟩ n) := by
  have e := v5_apply x1 b t (hx1 b t)
  refine (rows_apply x0 (Read.val_main_v5 (F := Ideal) x1) b t n (by rw [e]; exact hx1 b t)).trans ?_
  congr 2; exact Fin.ext (congrArg BitVec.toNat e)

/-- The rows regrouped by the expert's rank. -/
theorem v7_apply (b : Fin 256) (k : Fin 8) (r : Fin 64) (n : Fin 1024) :
    Read.val_main_v7 (F := Ideal) x0 x1 (ix4 b k r n) = x0 (ix2 ⟨(x1 (ix2 b ⟨64 * k.val + r.val, by omega⟩)).toNat, hx1 b _⟩ n) := by
  rw [Read.val_main_v7_apply]
  have hix : Read.idx_main_v7 (ix4 b k r n) = ix3 b ⟨64 * k.val + r.val, by omega⟩ n := by
    have hn := n.isLt; have hr := r.isLt; have hk := k.isLt; have hb := b.isLt
    funext a; refine Fin.ext ?_
    match a with
    | ⟨0, _⟩ => show (((b.val * 8 + k.val) * 64 + r.val) * 1024 + n.val) / 524288 = b.val; omega
    | ⟨1, _⟩ => show (((b.val * 8 + k.val) * 64 + r.val) * 1024 + n.val) / 1024 % 512 = 64 * k.val + r.val; omega
    | ⟨2, _⟩ => show (((b.val * 8 + k.val) * 64 + r.val) * 1024 + n.val) % 1024 = n.val; omega
  rw [hix]
  exact v6_apply x0 x1 hx1 b _ n

/-- The gates regrouped the same way. -/
theorem v9_apply (b : Fin 256) (k : Fin 8) (r : Fin 64) (i : Fin 16384) (hi : i.val = 64 * b.val + r.val) :
    Read.val_main_v9 (F := Ideal) x3 (ix3 b r k) = x3 (ix2 i ⟨k.val, by omega⟩) := by
  rw [Read.val_main_v9_apply, Read.val_main_v8_apply]
  congr 1
  have hr := r.isLt; have hk := k.isLt; have hb := b.isLt
  funext a; refine Fin.ext ?_
  match a with
  | ⟨0, _⟩ => show ((b.val * 64 + r.val) * 8 + k.val) / 8 = i.val; omega
  | ⟨1, _⟩ => show ((b.val * 64 + r.val) * 8 + k.val) % 8 = k.val; omega

/-- The gates spread over the lanes. -/
theorem v12_apply (b : Fin 256) (k : Fin 8) (r : Fin 64) (n : Fin 1024) (i : Fin 16384) (hi : i.val = 64 * b.val + r.val) :
    Read.val_main_v12 (F := Ideal) x3 (ix4 b k r n) = x3 (ix2 i ⟨k.val, by omega⟩) := by
  refine Eq.trans ?_ (v9_apply x3 b k r i hi)
  pointwise [Read.val_main_v12, Read.val_main_v11, Read.val_main_v10]

/-- The reference's weighed rows summed. -/
theorem v15_apply (b : Fin 256) (r : Fin 64) (n : Fin 1024) (i : Fin 16384) (hi : i.val = 64 * b.val + r.val) :
    Read.val_main_v15 (F := Ideal) x0 x1 x3 (ix2 i n)
      = ∑ k : Fin 8, (x0 (ix2 ⟨(x1 (ix2 b ⟨64 * k.val + r.val, by omega⟩)).toNat, hx1 b _⟩ n) : EReal) * x3 (ix2 i ⟨k.val, by omega⟩) := by
  rw [Read.val_main_v15_apply]
  have hix : Read.idx_main_v15 (ix2 i n) = ix3 b r n := by
    have hn := n.isLt; have hr := r.isLt; have hb := b.isLt
    funext a; refine Fin.ext ?_
    match a with
    | ⟨0, _⟩ => show (i.val * 1024 + n.val) / 65536 = b.val; omega
    | ⟨1, _⟩ => show (i.val * 1024 + n.val) / 1024 % 64 = r.val; omega
    | ⟨2, _⟩ => show (i.val * 1024 + n.val) % 1024 = n.val; omega
  rw [hix]
  pointwise [Read.val_main_v14, Read.val_main_v13, Read.val_main_cst]
  exact Finset.sum_congr rfl fun k _ => congrArg₂ (fun p q : EReal => p * q) (v7_apply x0 x1 hx1 b k r n) (v12_apply x3 b k r n i hi)

/-- The reference's shared expert. -/
theorem v22_apply (i : Fin 16384) (n : Fin 1024) :
    Read.val_main_v22 (F := Ideal) x2 x4 x5 x6 (ix2 i n) = expert (fun d => x2 (ix2 i d)) (fun d f => x4 (ix2 d f)) (fun d f => x5 (ix2 d f)) (fun f y => x6 (ix2 f y)) n := by
  pointwise [Read.val_main_v22, Read.val_main_v21, Read.val_main_v20, Read.val_main_v19, Read.val_main_call0_v5, Read.val_main_call0_v4, Read.val_main_call0_v3, Read.val_main_call0_v2, Read.val_main_call0_v1, Read.val_main_call0_v0, Read.val_main_call0_cst, Read.val_main_call0_cst_0, Read.val_main_v18, Read.val_main_v17, Read.val_main_v16]
  rfl

/-- The reference's sum before the norm. -/
theorem v26_apply (b : Fin 256) (r : Fin 64) (n : Fin 1024) (i : Fin 16384) (hi : i.val = 64 * b.val + r.val) :
    Read.val_main_v26 (F := Ideal) x0 x1 x2 x3 x4 x5 x6 (ix2 i n)
      = mixed (x2 (ix2 i n)) (expert (fun d => x2 (ix2 i d)) (fun d f => x4 (ix2 d f)) (fun d f => x5 (ix2 d f)) (fun f y => x6 (ix2 f y)) n)
          (fun k => x0 (ix2 ⟨(x1 (ix2 b ⟨64 * k.val + r.val, by omega⟩)).toNat, hx1 b _⟩ n)) (fun k => x3 (ix2 i ⟨k.val, by omega⟩)) := by
  pointwise [Read.val_main_v26, Read.val_main_v25, Read.val_main_v24, Read.val_main_v23, Read.val_main_cst_1]
  rw [v15_apply x0 x1 x3 hx1 b r n i hi, v22_apply]
  rfl

/-- The reference's mean. -/
theorem v30_apply (i : Fin 16384) :
    Read.val_main_v30 (F := Ideal) x0 x1 x2 x3 x4 x5 x6 (ix2 i 0) = mean (fun y => Read.val_main_v26 (F := Ideal) x0 x1 x2 x3 x4 x5 x6 (ix2 i y)) := by
  pointwise [Read.val_main_v30, Read.val_main_v29, Read.val_main_v28, Read.val_main_v27, Read.val_main_cst_2, Read.val_main_cst_3]
  rfl

/-- The reference's deviations. -/
theorem v32_apply (i : Fin 16384) (y : Fin 1024) :
    Read.val_main_v32 (F := Ideal) x0 x1 x2 x3 x4 x5 x6 (ix2 i y) = (Read.val_main_v26 (F := Ideal) x0 x1 x2 x3 x4 x5 x6 (ix2 i y) : EReal) - mean (fun y => Read.val_main_v26 (F := Ideal) x0 x1 x2 x3 x4 x5 x6 (ix2 i y)) := by
  pointwise [Read.val_main_v32, Read.val_main_v31]
  rw [v30_apply]

/-- The reference's variance. -/
theorem v37_apply (i : Fin 16384) :
    Read.val_main_v37 (F := Ideal) x0 x1 x2 x3 x4 x5 x6 (ix2 i 0)
      = mean (fun y => (Read.val_main_v32 (F := Ideal) x0 x1 x2 x3 x4 x5 x6 (ix2 i y) : EReal) * Read.val_main_v32 (F := Ideal) x0 x1 x2 x3 x4 x5 x6 (ix2 i y)) := by
  pointwise [Read.val_main_v37, Read.val_main_v36, Read.val_main_v35, Read.val_main_v34, Read.val_main_v33, Read.val_main_cst_4, Read.val_main_cst_5]
  rfl

/-- The reference's result at an index. -/
theorem v48_apply (b : Fin 256) (r : Fin 64) (n : Fin 1024) (i : Fin 16384) (hi : i.val = 64 * b.val + r.val) :
    Read.val_main_v48 (F := Ideal) x0 x1 x2 x3 x4 x5 x6 x7 x8 (ix2 i n)
      = layer (fun y => mixed (x2 (ix2 i y)) (expert (fun d => x2 (ix2 i d)) (fun d f => x4 (ix2 d f)) (fun d f => x5 (ix2 d f)) (fun f y => x6 (ix2 f y)) y)
          (fun k => x0 (ix2 ⟨(x1 (ix2 b ⟨64 * k.val + r.val, by omega⟩)).toNat, hx1 b _⟩ y)) (fun k => x3 (ix2 i ⟨k.val, by omega⟩))) (x7 (ix2 0 n)) (x8 (ix2 0 n)) n := by
  pointwise [Read.val_main_v48, Read.val_main_v47, Read.val_main_v46, Read.val_main_v45, Read.val_main_v44, Read.val_main_v43, Read.val_main_v42, Read.val_main_v41, Read.val_main_v40, Read.val_main_cst_6, Read.val_main_v39, Read.val_main_v38]
  rw [v37_apply, v30_apply]
  simp only [v32_apply, v26_apply x0 x1 x2 x3 x4 x5 x6 hx1 b r _ i hi]
  rfl

end Cert.Proof.Cmb

end
-- ==== Proof.CmbClaims.lean ====
/- The claims about the combination: its runs, and that the kernel computes its reference over the extended reals. -/
module

public import proofs.«01_k».proof.Defs
public import proofs.«01_k».proof.Proof.CmbiRun
public import proofs.«01_k».proof.Proof.CmbBlock
public import proofs.«01_k».proof.Proof.CmbRef
public import proofs.«01_k».proof.Proof.ExpClaims
public import proofs.«01_k».proof.Proof.Gen.CombineRef.Run
public import proofs.«01_k».proof.Proof.Gen.CombineRefIdeal.Run
public import proofs.«01_k».proof.Proof.Gen.Pre_combine_in_range
public import Idealize.ShloMosaic.Lib.ReduceAll
public import Idealize.ShloMosaic.Lib.Claim

@[expose] public section

set_option maxRecDepth 16384

noncomputable section

namespace Cert.Proof.Cmb

open Idealize.ShloMosaic Idealize.SL.Sem Idealize.ShloMosaic.TcCoe

/-- The precondition says that every row's number names a row. -/
theorem in_range {F : FTy → Type} [FloatOps F] (x0 : FVec F Cert.Pre_combine_in_range.S163712x1024 .f32) (x1 : IVec Cert.Pre_combine_in_range.S256x512 32) (x2 : FVec F Cert.Pre_combine_in_range.S16384x1024 .f32) (x3 : FVec F Cert.Pre_combine_in_range.S16384x128 .f32)
    (x4 x5 : FVec F Cert.Pre_combine_in_range.S1024x256 .bf16) (x6 : FVec F Cert.Pre_combine_in_range.S256x1024 .bf16) (x7 x8 : FVec F Cert.Pre_combine_in_range.S1x1024 .f32)
    (h : Cert.Pre_combine_in_range.fn (F := F) x0 x1 x2 x3 x4 x5 x6 x7 x8 = fun _ => 1#1) : ∀ i, (x1 i).toNat < 163712 := by
  have e := congrFun h ix0
  haveI : Subsingleton Cert.Pre_combine_in_range.S_.Idx := ⟨fun a b => funext fun k => k.elim0⟩
  exact fun i => Exp.word_range (x1 i) 163712#32 (by decide) (Host.reduce_andi_all _ _ _ _ _ e i)

/-- The kernel's words are in range. -/
theorem range_p (m : (ℓ : Loc Cert.Combine.nD Cert.Combine.τ Cert.Combine.sig) → Buf (Elt Bits) ℓ) (h : Cert.Pre_Combine m) : Cert.Combine.Hand.InRange m :=
  fun c b t => in_range _ _ _ _ _ _ _ _ _ (h c) (ix2 b t)

/-- The idealized kernel's words are in range. -/
theorem range_pi (m : (ℓ : Loc Cert.CombineIdeal.nD Cert.CombineIdeal.τ Cert.CombineIdeal.sig) → Buf (Elt Ideal) ℓ) (h : Cert.Pre_CombineIdeal m) : Cert.Combine.Hand.InRange (F := Ideal) m :=
  fun c b t => in_range _ _ _ _ _ _ _ _ _ (h c) (ix2 b t)

/-- The kernel runs and leaves its arguments as they were. -/
theorem frame_p : Cert.quiescent_Combine := fun m ρ h =>
  (θ_run Cert.Combine.defs _ _).mono (fun _ h => ⟨fun c => (h.1 c).2, h.2⟩) (Cert.Combine.Hand.run_left m ρ (range_p m h))

/-- The idealized kernel's run, in its own names. -/
theorem run_ideal (m : (ℓ : Loc Cert.CombineIdeal.nD Cert.CombineIdeal.τ Cert.CombineIdeal.sig) → Buf (Elt Ideal) ℓ) (ρ : Dev Cert.CombineIdeal.nD → PrngReg) (hr : Cert.Combine.Hand.InRange (F := Ideal) m) :
    θ_run (Cert.CombineIdeal.defs (F := Ideal)) (onTc (τ := Cert.CombineIdeal.τ) (Cert.CombineIdeal.main (F := Ideal))) ⟨m, fun _ => 0, ρ⟩
      (fun r => (∀ c : Dev Cert.CombineIdeal.nD, r.2.mem ((c.tc : Thread Cert.CombineIdeal.nD Cert.CombineIdeal.τ).loc Cert.CombineIdeal.main_v0) = (Cert.Combine.Hand.dats (F := Ideal) m 0 c).arrAt (7 : Fin 8) Cert.Combine.cfg0.N
      ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8)) ∧ r.2.sem = fun _ => 0) := by
  have h := Cert.Combine.Hand.run_left (F := Ideal) m ρ hr
  rw [← defs_same] at h
  exact h

/-- The idealized kernel runs and leaves its arguments as they were. -/
theorem frame_pi : Cert.quiescent_CombineIdeal := fun m ρ h =>
  (θ_run Cert.CombineIdeal.defs _ _).mono (fun _ h => ⟨fun c => (h.1 c).2, h.2⟩) (run_ideal m ρ (range_pi m h))

/-- The idealized reference runs and leaves its arguments as they were. -/
theorem frame_ri : Cert.quiescent_CombineRefIdeal := fun m ρ _ =>
  (θ_run Cert.CombineRefIdeal.defs _ _).mono (fun r h => ⟨fun c => (h c).2, sem_eq_zero_of_no_sems (by decide) r.2⟩)
    (Cert.CombineRefIdeal.Value.run (F := Ideal) m ρ)
/-- The idealized reference runs under the precondition too. -/
theorem frame_ri_pre : Cert.quiescent_CombineRefIdeal_pre_combine_in_range := fun m ρ _ => frame_ri m ρ trivial
/-- The reference runs and leaves its arguments as they were. -/
theorem frame_r : Cert.quiescent_CombineRef := fun m ρ _ =>
  (θ_run Cert.CombineRef.defs _ _).mono (fun r h => ⟨fun c => (h c).2, sem_eq_zero_of_no_sems (by decide) r.2⟩)
    (Cert.CombineRef.Value.run (F := Bits) m ρ)

/-- The kernel and its reference leave the same array, whatever the arguments in range. -/
theorem algebraic : Cert.algebraic_CombineIdeal_CombineRefIdeal := by
  intro m ρ m' ρ' hpre hagree
  have hr := range_pi m hpre
  refine ⟨_, (θ_run Cert.CombineIdeal.defs _ _).mono (fun _ h => h.1) (run_ideal m ρ hr), ?_⟩
  refine (θ_run Cert.CombineRefIdeal.defs _ _).mono (fun r h c => ⟨(h c).1.trans ?_, (h c).2⟩) (Cert.CombineRefIdeal.Value.run (F := Ideal) m' ρ')
  obtain ⟨a0, a1, a2, a3, a4, a5, a6, a7, a8⟩ := hagree c
  have r1 := in_range _ _ _ _ _ _ _ _ _ (hpre c)
  refine (Cert.CombineRefIdeal.Read.val_main_v48_eq m' c).trans ?_
  have b0 : m' ((c.tc : Thread Cert.CombineRefIdeal.nD Cert.CombineRefIdeal.τ).loc Cert.CombineRefIdeal.main_arg0) = m (c, Cert.CombineIdeal.main_arg0) := a0
  have b1 : m' ((c.tc : Thread Cert.CombineRefIdeal.nD Cert.CombineRefIdeal.τ).loc Cert.CombineRefIdeal.main_arg1) = m (c, Cert.CombineIdeal.main_arg1) := a1
  have b2 : m' ((c.tc : Thread Cert.CombineRefIdeal.nD Cert.CombineRefIdeal.τ).loc Cert.CombineRefIdeal.main_arg2) = m (c, Cert.CombineIdeal.main_arg2) := a2
  have b3 : m' ((c.tc : Thread Cert.CombineRefIdeal.nD Cert.CombineRefIdeal.τ).loc Cert.CombineRefIdeal.main_arg3) = m (c, Cert.CombineIdeal.main_arg3) := a3
  have b4 : m' ((c.tc : Thread Cert.CombineRefIdeal.nD Cert.CombineRefIdeal.τ).loc Cert.CombineRefIdeal.main_arg4) = m (c, Cert.CombineIdeal.main_arg4) := a4
  have b5 : m' ((c.tc : Thread Cert.CombineRefIdeal.nD Cert.CombineRefIdeal.τ).loc Cert.CombineRefIdeal.main_arg5) = m (c, Cert.CombineIdeal.main_arg5) := a5
  have b6 : m' ((c.tc : Thread Cert.CombineRefIdeal.nD Cert.CombineRefIdeal.τ).loc Cert.CombineRefIdeal.main_arg6) = m (c, Cert.CombineIdeal.main_arg6) := a6
  have b7 : m' ((c.tc : Thread Cert.CombineRefIdeal.nD Cert.CombineRefIdeal.τ).loc Cert.CombineRefIdeal.main_arg7) = m (c, Cert.CombineIdeal.main_arg7) := a7
  have b8 : m' ((c.tc : Thread Cert.CombineRefIdeal.nD Cert.CombineRefIdeal.τ).loc Cert.CombineRefIdeal.main_arg8) = m (c, Cert.CombineIdeal.main_arg8) := a8
  rw [b0, b1, b2, b3, b4, b5, b6, b7, b8]
  obtain rfl : (0 : Dev Cert.CombineIdeal.nD) = c := Subsingleton.elim (α := Fin 1) _ _
  have key : ∀ (b : Fin 256) (t : Fin 64) (n : Fin 1024) (i : Fin 16384), i.val = 64 * b.val + t.val →
      Cert.CombineRefIdeal.Read.val_main_v48 (F := Ideal) (m (0, Cert.CombineIdeal.main_arg0)) (m (0, Cert.CombineIdeal.main_arg1)) (m (0, Cert.CombineIdeal.main_arg2)) (m (0, Cert.CombineIdeal.main_arg3)) (m (0, Cert.CombineIdeal.main_arg4)) (m (0, Cert.CombineIdeal.main_arg5)) (m (0, Cert.CombineIdeal.main_arg6)) (m (0, Cert.CombineIdeal.main_arg7)) (m (0, Cert.CombineIdeal.main_arg8)) (ix2 i n)
        = (Cert.Combine.Hand.dats (F := Ideal) m 0 0).arrAt (7 : Fin 8) Cert.Combine.cfg0.N (ix2 i n) := fun b t n i hi =>
    (v48_apply _ _ _ _ _ _ _ _ _ (fun b t => r1 (ix2 b t)) b t n i hi).trans
      (arr_apply m 0 _ _ _ _ _ _ _ _ _ rfl rfl rfl rfl rfl rfl rfl rfl rfl (fun b t => r1 (ix2 b t)) b t n i hi).symm
  funext y
  obtain ⟨i, x, rfl⟩ : ∃ (i : Fin 16384) (x : Fin 1024), y = ix2 i x := ⟨y 0, y 1, by funext a; match a with | ⟨0, _⟩ => rfl | ⟨1, _⟩ => rfl⟩
  exact key ⟨i.val / 64, by have := i.isLt; omega⟩ ⟨i.val % 64, by omega⟩ x i (by show i.val = 64 * (i.val / 64) + i.val % 64; omega)

end Cert.Proof.Cmb

end
-- ==== Proof.WinReal.lean ====
/- The windowed attention over the reals: its span of keys, its mask and its softmax with a sink. -/
module

public import proofs.«01_k».proof.Proof.AttnReal
public import Idealize.ShloMosaic.Lib.WordCmp

@[expose] public section

noncomputable section

namespace Cert.Proof.Win

open Idealize.ShloMosaic Cert.Proof.Attn

/-- The first key of the span a query's tile of 256 sees. -/
def first (q : ℕ) : ℕ := min 1536 (256 * (q / 256) - 128)

/-- A query and a key at most 128 places apart. -/
def Near (q j : ℕ) : Prop := q - j ≤ 128 ∧ j - q ≤ 128

instance (q j : ℕ) : Decidable (Near q j) := inferInstanceAs (Decidable (_ ∧ _))

/-- A score, replaced by `N` where query and key are not near. -/
def masked (N : ℝ) (q : ℕ) (s : ℕ → ℝ) (j : ℕ) : ℝ := if Near q j then s j else N

/-- The attention of one query: the values of its span weighted by the base-two softmax of the masked scores and the sink. -/
def watt (N t : ℝ) (q : ℕ) (s w : ℕ → ℝ) : ℝ :=
  ∑ j : Fin 512, ((2 : ℝ) ^ masked N q s (first q + j.val) / (∑ l : Fin 512, (2 : ℝ) ^ masked N q s (first q + l.val) + (2 : ℝ) ^ t)) * w (first q + j.val)

/-- The divisor is positive. -/
theorem den_pos {n : ℕ} (s : Fin n → ℝ) (t : ℝ) : 0 < ∑ l, (2 : ℝ) ^ s l + (2 : ℝ) ^ t :=
  add_pos_of_nonneg_of_pos (Finset.sum_nonneg fun _ _ => (Real.rpow_pos_of_pos two_pos _).le) (Real.rpow_pos_of_pos two_pos _)

/-- The weights do not depend on the number subtracted from every score and from the sink. -/
theorem shift_sink {n : ℕ} (s : Fin n → ℝ) (t M a : ℝ) :
    (2 : ℝ) ^ (a - M) / (∑ l, (2 : ℝ) ^ (s l - M) + (2 : ℝ) ^ (t - M)) = (2 : ℝ) ^ a / (∑ l, (2 : ℝ) ^ s l + (2 : ℝ) ^ t) := by
  have h : ∀ x : ℝ, (2 : ℝ) ^ (x - M) = (2 : ℝ) ^ x * ((2 : ℝ) ^ M)⁻¹ := fun x => by
    rw [Real.rpow_sub two_pos, div_eq_mul_inv]
  have hM : ((2 : ℝ) ^ M)⁻¹ ≠ 0 := (inv_pos.mpr (Real.rpow_pos_of_pos two_pos M)).ne'
  simp only [h]
  rw [← Finset.sum_mul, ← add_mul, mul_div_mul_right _ _ hM]

/-- The sum weighted by the exponentials, times the reciprocal of the divisor, as the kernel computes it from real scores. -/
theorem kernel_watt {n : ℕ} (s w : Fin (n + 1) → ℝ) (t : ℝ) :
    (∑ j, Ideal.exp2 (((s j : ℝ) : EReal) - max (Finset.univ.fold max (⊥ : EReal) (fun l => ((s l : ℝ) : EReal))) (t : EReal)) * ((w j : ℝ) : EReal))
      * Ideal.div 1 (∑ j, Ideal.exp2 (((s j : ℝ) : EReal) - max (Finset.univ.fold max (⊥ : EReal) (fun l => ((s l : ℝ) : EReal))) (t : EReal))
          + Ideal.exp2 ((t : EReal) - max (Finset.univ.fold max (⊥ : EReal) (fun l => ((s l : ℝ) : EReal))) (t : EReal)))
      = ((∑ j, ((2 : ℝ) ^ s j / (∑ l, (2 : ℝ) ^ s l + (2 : ℝ) ^ t)) * w j : ℝ) : EReal) := by
  obtain ⟨M0, hM⟩ := fold_max_coe s
  obtain ⟨M, hM'⟩ : ∃ M : ℝ, max (M0 : EReal) (t : EReal) = (M : EReal) := ⟨max M0 t, (EReal.coe_strictMono.monotone.map_max).symm⟩
  rw [hM, hM']
  have he : ∀ x : ℝ, Ideal.exp2 ((x : EReal) - (M : EReal)) = (((2 : ℝ) ^ (x - M) : ℝ) : EReal) := fun x => by
    rw [← EReal.coe_sub, Ideal.exp2_coe]; rfl
  simp only [he, ← EReal.coe_mul]
  rw [coe_sum, coe_sum, ← EReal.coe_add, show (1 : EReal) = ((1 : ℝ) : EReal) from rfl,
    div_real _ (den_pos (fun l => s l - M) (t - M)).ne', ← EReal.coe_mul, Finset.sum_mul]
  congr 1
  refine Finset.sum_congr rfl fun j _ => ?_
  rw [← shift_sink s t M (s j)]; ring

/-- A sum over `n` that keeps the `k` terms from `a` on is the sum of those. -/
theorem sum_span {n : ℕ} (a k : ℕ) (h : a + k ≤ n) (f : ℕ → ℝ) :
    (∑ x : Fin n, if a ≤ x.val ∧ x.val < a + k then f x.val else 0) = ∑ y : Fin k, f (a + y.val) := by
  rw [← Finset.sum_filter]
  refine (Finset.sum_bij (fun (y : Fin k) _ => (⟨a + y.val, by omega⟩ : Fin n)) ?_ ?_ ?_ ?_).symm
  · intro y _; simp
  · intro a _ b _ h; apply Fin.ext; have := congrArg Fin.val h; simp at this; omega
  · intro x hx
    simp only [Finset.mem_filter, Finset.mem_univ, true_and] at hx
    exact ⟨⟨x.val - a, by omega⟩, Finset.mem_univ _, by apply Fin.ext; simp; omega⟩
  · intro y _; rfl

/-- The word's test of a query and a key being near. -/
theorem near_bit {a b : ℕ} (ha : a < 2 ^ 20) (hb : b < 2 ^ 20) :
    IntOp.cmpi .sle (IntOp.absi (IntOp.subi (BitVec.ofNat 32 a) (BitVec.ofNat 32 b))) 128#32 = if Near a b then 1#1 else 0#1 := by
  have key : IntOp.absi (IntOp.subi (BitVec.ofNat 32 a) (BitVec.ofNat 32 b)) = BitVec.ofNat 32 ((a - b) + (b - a)) := by
    unfold IntOp.absi IntOp.subi
    by_cases h : b ≤ a
    · have e : BitVec.ofNat 32 a - BitVec.ofNat 32 b = BitVec.ofNat 32 (a - b) := by
        apply BitVec.eq_of_toNat_eq; simp only [BitVec.toNat_sub, BitVec.toNat_ofNat]; omega
      have m : (BitVec.ofNat 32 (a - b)).msb = false := by
        rw [BitVec.msb_eq_false_iff_two_mul_lt, BitVec.toNat_ofNat]; omega
      rw [e, m, show (a - b) + (b - a) = a - b by omega]; rfl
    · have e : BitVec.ofNat 32 a - BitVec.ofNat 32 b = -BitVec.ofNat 32 (b - a) := by
        apply BitVec.eq_of_toNat_eq; simp only [BitVec.toNat_sub, BitVec.toNat_neg, BitVec.toNat_ofNat]; omega
      have m : (-BitVec.ofNat 32 (b - a)).msb = true := by
        rw [BitVec.msb_eq_true_iff_two_mul_ge, BitVec.toNat_neg, BitVec.toNat_ofNat]; omega
      rw [e, m, show (a - b) + (b - a) = b - a by omega]; simp
  rw [key, show (128#32 : BitVec 32) = BitVec.ofNat 32 128 from rfl, WordCmp.cmpi_sle_ofNat (by omega) (by omega), WordCmp.ofBool_decide_eq_ite]
  unfold Near
  congr 1
  exact propext ⟨fun h => by omega, fun h => by omega⟩

/-- The score of a masked pair is a real. -/
theorem ofBits_neg : ∃ e : ℝ, Ideal.ofBits .f32 0xF149F2CA#32 = (e : EReal) :=
  ⟨_, by simp [Ideal.ofBits, Ideal.ieee]; rfl⟩
/-- The logarithm of e to the base two, as the kernel writes it, is a real. -/
theorem ofBits_log2e : ∃ e : ℝ, Ideal.ofBits .f32 0x3FB8AA3B#32 = (e : EReal) :=
  ⟨_, by simp [Ideal.ofBits, Ideal.ieee]; rfl⟩

/-- The result at a row and a lane: the row's head reads the projected queries, keys and values of its sequence. -/
def result (X : ℕ → ℕ → ℝ) (N : ℝ) (T : ℕ → ℝ) (i c : ℕ) : ℝ :=
  watt N (T (c / 64)) (i % 2048)
    (fun j => ∑ y : Fin 64, X i (2304 + (64 * (c / 64) + y.val)) * X (2048 * (i / 2048) + j) (2560 + (64 * (c / 128) + y.val)))
    (fun j => X (2048 * (i / 2048) + j) (2688 + (64 * (c / 128) + c % 64)))

end Cert.Proof.Win

end
-- ==== Proof.WinComp.lean ====
/- One head of the windowed attention as the kernel computes it, read at an index over real inputs. -/
module

public import proofs.«01_k».proof.Proof.Gen.WinIdeal.Value
public import Idealize.ShloMosaic.Lib.Pointwise
public import Idealize.ShloMosaic.Lib.WordCmp
public import Idealize.ShloMosaic.Lib.Writes
public import proofs.«01_k».proof.Proof.WinReal

@[expose] public section

set_option maxRecDepth 16384

noncomputable section

namespace Cert.Proof.Win

open Cert.WinIdeal Cert.WinIdeal.Gen Idealize.ShloMosaic Idealize.ShloMosaic.TcCoe Cert.Proof.Attn

/-- The lanes `[lo, hi)` kept, the others replaced by zero. -/
def keep (lo hi : BitVec 32) (q : FVec Ideal S256x128 .f32) : FVec Ideal S256x128 .f32 :=
  select (andi (cmpi .sge (iota .tc S256x128 32 [1] iota_S256x128_d1_w32) (broadcast S256x128 lo))
      (cmpi .slt (iota .tc S256x128 32 [1] iota_S256x128_d1_w32) (broadcast S256x128 hi))) q
    (broadcast S256x128 (Scalar.ofBits (F := Ideal) .f32 0x00000000#32))

/-- The lanes turned by half their number. -/
def turn (q : FVec Ideal S256x128 .f32) : FVec Ideal S256x128 .f32 := dynamicRotate 1 64#32 none q rotates_S256x128_d1

/-- The masked scores of a head's queries against the span's keys. -/
def scores (i : grid0.Coords) (q : FVec Ideal S256x128 .f32) (k : FVec Ideal S512x128 .bf16) : FVec Ideal S256x512 .f32 :=
  select (k0_pay3 i) (matmul dot_S256x128_S512x128_S256x512_1_1_0_0_n_n none (truncf .bf16 q bitsLt_bf16_f32) k (constant S256x512 .f32 0x00000000#32))
    (broadcast S256x512 (Scalar.ofBits (F := Ideal) .f32 0xF149F2CA#32))

/-- The number subtracted from a row's scores: the greatest of them and the sink. -/
def top (s : FVec Ideal S256x512 .f32) (t : Ideal .f32) : FVec Ideal S256x1 .f32 :=
  maximumf (shapeCast S256x1 (multiReduction .maximumf [1] S256 s 0xFF800000#32 reduces_S256x512_S256 (.inl rfl) rfl) shapeCasts_S256_S256x1) (broadcast S256x1 t)

/-- The exponentials of the scores less that number. -/
def expo (s : FVec Ideal S256x512 .f32) (t : Ideal .f32) : FVec Ideal S256x512 .f32 :=
  exp2 (subf s (broadcastTo S256x512 (top s t) broadcasts_S256x1_S256x512))

/-- The weighted sum of the values, by exponentials and the reciprocal of their sum and the sink's. -/
def wsum (s : FVec Ideal S256x512 .f32) (t : Ideal .f32) (v : FVec Ideal S512x128 .bf16) : FVec Ideal S256x128 .f32 :=
  mulf (matmul dot_S256x512_S512x128_S256x128_1_0_0_1_n_n none (truncf .bf16 (expo s t) bitsLt_bf16_f32) v (constant S256x128 .f32 0x00000000#32))
    (broadcastTo S256x128 (divf (broadcast S256x1 (Scalar.ofBits (F := Ideal) .f32 0x3F800000#32))
      (addf (shapeCast S256x1 (multiReduction .add [1] S256 (expo s t) 0x00000000#32 reduces_S256x512_S256 (.inl rfl) rfl) shapeCasts_S256_S256x1)
        (exp2 (subf (broadcast S256x1 t) (top s t))))) broadcasts_S256x1_S256x128)

/-- One head: its lanes of the queries kept, attended, its lanes of the answer kept. -/
def head (i : grid0.Coords) (lo hi : BitVec 32) (q : FVec Ideal S256x128 .f32) (k v : FVec Ideal S512x128 .bf16) (t : Ideal .f32) : FVec Ideal S256x128 .f32 :=
  keep lo hi (wsum (scores i (keep lo hi q) k) t v)

/-- The kept lanes at an index. -/
theorem keep_apply (lo hi : ℕ) (hlo : lo < 2 ^ 31) (hhi : hi < 2 ^ 31) (q : FVec Ideal S256x128 .f32) (r : Fin 256) (x : Fin 128) :
    keep (BitVec.ofNat 32 lo) (BitVec.ofNat 32 hi) q (ix2 r x) = if lo ≤ x.val ∧ x.val < hi then q (ix2 r x) else (0 : EReal) := by
  have hx : x.val < 2 ^ 31 := lt_trans x.isLt (by norm_num)
  pointwise [keep]
  rw [WordCmp.cmpi_sge_ofNat hx hlo, WordCmp.cmpi_slt_ofNat hx hhi]
  simp only [hlo_ix]

/-- The turned lanes at an index. -/
theorem turn_apply (q : FVec Ideal S256x128 .f32) (r : Fin 256) (x : Fin 128) :
    turn q (ix2 r x) = q (ix2 r ⟨(x.val + 64) % 128, by omega⟩) := by
  unfold turn dynamicRotate
  refine congrArg q ?_
  funext a; apply Fin.ext
  match a with
  | ⟨0, _⟩ => rfl
  | ⟨1, _⟩ => show (x.val + 128 - 64 % 128) % 128 = (x.val + 64) % 128; omega

/-- The point's first key, as the kernel's word. -/
theorem word_first (a : Fin 8) : Scalar.minsi 1536#32 (Scalar.maxsi 0#32 (Scalar.subi (Scalar.muli (BitVec.ofNat 32 a.val) 256#32) 128#32))
    = BitVec.ofNat 32 (first (256 * a.val)) := by
  revert a; decide +kernel

/-- The first key of a tile's queries is the tile's. -/
theorem first_tile (a : ℕ) (r : Fin 256) : first (256 * a + r.val) = first (256 * a) := by
  unfold first
  rw [show (256 * a + r.val) / 256 = a by omega, show 256 * a / 256 = a by omega]

/-- The mask at an index. -/
theorem mask_apply (i : grid0.Coords) (a : Fin 8) (hi : (i 1).val = a.val) (r : Fin 256) (j : Fin 512) :
    k0_pay3 i (ix2 r j) = if Near (256 * a.val + r.val) (first (256 * a.val) + j.val) then 1#1 else 0#1 := by
  have hf : first (256 * a.val) ≤ 1536 := min_le_left _ _
  rw [← near_bit (by omega) (by omega)]
  pointwise [k0_pay3]
  rw [hi, word_first, Nat.mul_comm 256 a.val]
  show IntOp.cmpi .sle (IntOp.absi (IntOp.subi (IntOp.addi (IntOp.muli (BitVec.ofNat 32 a.val) (BitVec.ofNat 32 256)) (BitVec.ofNat 32 r.val)) (IntOp.addi _ (BitVec.ofNat 32 j.val)))) 128#32 = _
  rw [WordCmp.muli_ofNat, WordCmp.addi_ofNat, WordCmp.addi_ofNat]

/-- The scores at an index. -/
theorem scores_apply (i : grid0.Coords) (q : FVec Ideal S256x128 .f32) (k : FVec Ideal S512x128 .bf16) (r : Fin 256) (j : Fin 512) :
    scores i q k (ix2 r j) = Scalar.select (k0_pay3 i (ix2 r j)) (∑ x : Fin 128, (q (ix2 r x) * k (ix2 j x) : EReal)) (Ideal.ofBits .f32 0xF149F2CA#32) := by
  pointwise [scores]

/-- The number subtracted, at a row. -/
theorem top_apply (s : FVec Ideal S256x512 .f32) (t : Ideal .f32) (r : Fin 256) :
    top s t (ix2 r 0) = max (Finset.univ.fold max (⊥ : EReal) (fun l : Fin 512 => s (ix2 r l))) t := by
  pointwise [top]
  rw [ofBits_bot]

/-- The exponentials at an index. -/
theorem expo_apply (s : FVec Ideal S256x512 .f32) (t : Ideal .f32) (r : Fin 256) (j : Fin 512) :
    expo s t (ix2 r j) = Ideal.exp2 ((s (ix2 r j) : EReal) - top s t (ix2 r 0)) := by
  pointwise [expo]
  rfl

/-- The weighted sum at an index. -/
theorem wsum_apply (s : FVec Ideal S256x512 .f32) (t : Ideal .f32) (v : FVec Ideal S512x128 .bf16) (r : Fin 256) (c : Fin 128) :
    wsum s t v (ix2 r c) = (∑ j : Fin 512, (expo s t (ix2 r j) * v (ix2 j c) : EReal))
      * Ideal.div 1 (∑ j : Fin 512, (expo s t (ix2 r j) : EReal) + Ideal.exp2 ((t : EReal) - top s t (ix2 r 0))) := by
  pointwise [wsum]
  rfl

/-- One head's attention at an index, over real inputs. -/
theorem head_coe (i : grid0.Coords) (a : Fin 8) (hi : (i 1).val = a.val) (lo : ℕ) (hlo : lo + 64 ≤ 128) (q : FVec Ideal S256x128 .f32) (k v : FVec Ideal S512x128 .bf16) (N t : ℝ)
    (hN : Ideal.ofBits .f32 0xF149F2CA#32 = (N : EReal)) (Q K V : ℕ → ℕ → ℝ)
    (hq : ∀ (r : Fin 256) (y : Fin 64), q (ix2 r ⟨lo + y.val, by omega⟩) = ((Q r.val y.val : ℝ) : EReal))
    (hk : ∀ (j : Fin 512) (x : Fin 128), k (ix2 j x) = ((K (first (256 * a.val) + j.val) x.val : ℝ) : EReal))
    (hv : ∀ (j : Fin 512) (x : Fin 128), v (ix2 j x) = ((V (first (256 * a.val) + j.val) x.val : ℝ) : EReal))
    (r : Fin 256) (c : Fin 128) :
    head i (BitVec.ofNat 32 lo) (BitVec.ofNat 32 (lo + 64)) q k v (t : EReal) (ix2 r c)
      = if lo ≤ c.val ∧ c.val < lo + 64 then
          ((watt N t (256 * a.val + r.val) (fun j => ∑ y : Fin 64, Q r.val y.val * K j (lo + y.val)) (fun j => V j c.val) : ℝ) : EReal)
        else 0 := by
  have hs : ∀ j : Fin 512, scores i (keep (BitVec.ofNat 32 lo) (BitVec.ofNat 32 (lo + 64)) q) k (ix2 r j)
      = ((masked N (256 * a.val + r.val) (fun j => ∑ y : Fin 64, Q r.val y.val * K j (lo + y.val)) (first (256 * a.val + r.val) + j.val) : ℝ) : EReal) := by
    intro j
    have e : (∑ x : Fin 128, (keep (BitVec.ofNat 32 lo) (BitVec.ofNat 32 (lo + 64)) q (ix2 r x) * k (ix2 j x) : EReal))
        = ((∑ y : Fin 64, Q r.val y.val * K (first (256 * a.val) + j.val) (lo + y.val) : ℝ) : EReal) := by
      have h1 := sum_span (n := 128) lo 64 hlo (fun x => (Q r.val (x - lo)) * K (first (256 * a.val) + j.val) x)
      simp only [Nat.add_sub_cancel_left] at h1
      rw [← h1, ← coe_sum]
      refine Finset.sum_congr rfl fun x _ => ?_
      rw [keep_apply lo (lo + 64) (by omega) (by omega), hk]
      split
      · rename_i h
        have := hq r ⟨x.val - lo, by omega⟩
        rw [show (⟨lo + (x.val - lo), by omega⟩ : Fin 128) = x from Fin.ext (by show lo + (x.val - lo) = x.val; omega)] at this
        rw [this, EReal.coe_mul]
      · simp
    rw [scores_apply, e, hN, mask_apply i a hi, first_tile]
    unfold masked
    split
    · rfl
    · rfl
  unfold head
  rw [keep_apply lo (lo + 64) (by omega) (by omega)]
  split
  · rw [wsum_apply]
    simp only [expo_apply, top_apply, hs, hv]
    refine (kernel_watt (n := 511) _ _ t).trans ?_
    unfold watt
    rw [first_tile]
  · rfl

end Cert.Proof.Win

end
-- ==== Proof.WinOut.lean ====
/- What the windowed attention's body stores, as terms of its input blocks, and those read at an index over real inputs. -/
module

public import proofs.«01_k».proof.Proof.WinComp
public import Idealize.ShloMosaic.Lib.WritesUnit

@[expose] public section

set_option maxRecDepth 16384

noncomputable section

namespace Cert.Proof.Win

open Cert.WinIdeal Cert.WinIdeal.Gen Idealize.ShloMosaic Idealize.ShloMosaic.TcCoe Cert.Proof.Attn

/-- The span of a sequence's keys or values that a point's tile uses. -/
def span (i : grid0.Coords) (x : FVec Ideal S2048x128 .bf16) : FVec Ideal S512x128 .bf16 :=
  fun y => x ((Rect.unit (s := S2048x128) (k0_off1 i) S512x128.size (k0_off1_inb i)).emb y)

/-- The sink in the kernel's scale. -/
def scaled (t : EReal) : Ideal .f32 := Scalar.mulf (show Ideal .f32 from t) (Scalar.ofBits (F := Ideal) .f32 0x3FB8AA3B#32)

/-- The tile's first 128 lanes of queries. -/
def q0 (q : FVec Ideal S256x256 .bf16) : FVec Ideal S256x128 .f32 := extractStridedSlice S256x128 ![0, 0] (extf .f32 q bitsLt_bf16_f32) slices_S256x256_o0_0_S256x128

/-- The tile's last 128 lanes of queries. -/
def q1 (q : FVec Ideal S256x256 .bf16) : FVec Ideal S256x128 .f32 := extractStridedSlice S256x128 ![0, 128] (extf .f32 q bitsLt_bf16_f32) slices_S256x256_o0_128_S256x128

/-- The first two heads' answers, side by side. -/
def half0 (i : grid0.Coords) (q : FVec Ideal S256x256 .bf16) (k v : FVec Ideal S512x128 .bf16) (s0 s1 : EReal) : FVec Ideal S256x128 .bf16 :=
  truncf .bf16 (addf (addf (broadcast S256x128 (Scalar.ofBits (F := Ideal) .f32 0x00000000#32)) (head i 0#32 64#32 (q0 q) k v (scaled s0)))
    (turn (head i 0#32 64#32 (turn (q0 q)) k v (scaled s1)))) bitsLt_bf16_f32

/-- The last two heads' answers, side by side. -/
def half1 (i : grid0.Coords) (q : FVec Ideal S256x256 .bf16) (k v : FVec Ideal S512x128 .bf16) (s2 s3 : EReal) : FVec Ideal S256x128 .bf16 :=
  truncf .bf16 (addf (addf (broadcast S256x128 (Scalar.ofBits (F := Ideal) .f32 0x00000000#32)) (turn (head i 64#32 128#32 (turn (q1 q)) k v (scaled s2))))
    (head i 64#32 128#32 (q1 q) k v (scaled s3))) bitsLt_bf16_f32

/-- What the body stores: the two halves' answers side by side. -/
theorem out_eq (c : Dev nD) (i : grid0.Coords) (arg2 : Memref sig .tc .smem S4 .f32) (harg2 : arg2.IsWhole) (arg3 : Memref sig .tc .vmem S256x256 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S256x256 .bf16) (harg6 : arg6.IsWhole)
    (x0 : Vec Ideal S4 .f32) (x1 : Vec Ideal S256x256 .bf16) (x2 : Vec Ideal S2048x128 .bf16) (x3 : Vec Ideal S2048x128 .bf16) :
    out0_A_4 c i arg2 harg2 arg3 harg3 arg4 harg4 arg5 harg5 arg6 harg6 x0 x1 x2 x3
      = VO0_4.read (Elt Ideal) (VO0_4.writes (Elt Ideal) VO0_4.junk
      [⟨Rect.unit (s := S256x256) ![0, 128] S256x128.size inb_S256x256_S256x128_0_128, half1 i x1 (span i x2) (span i x3) (x0 (ix1 2)) (x0 (ix1 3))⟩,
       ⟨Rect.unit (s := S256x256) ![0, 0] S256x128.size inb_S256x256_S256x128_0_0, half0 i x1 (span i x2) (span i x3) (x0 (ix1 0)) (x0 (ix1 1))⟩]) := by
  have h0 : ∀ (h : Fin 4) (inb : ∀ a, (![h.val] : Fin 1 → ℕ) a + S1.size a ≤ S4.size a), arg2.view.readAt (Elt Ideal) (Rect.unit (s := S4) ![h.val] S1.size inb).toLoadRect (harg2.unread x0)
      (Shape.Idx.first (numel1_S1.symm ▸ Nat.one_pos)) = x0 (ix1 h) := by
    intro h inb
    rw [View.readAt_apply, harg2.read_unread]; congr 1; funext (a : Fin 1); obtain rfl : a = 0 := Subsingleton.elim _ _
    apply Fin.ext
    show h.val + 1 * (Shape.Idx.first (s := S1) (numel1_S1.symm ▸ Nat.one_pos) 0).val = h.val
    have : (Shape.Idx.first (s := S1) (numel1_S1.symm ▸ Nat.one_pos) 0).val < 1 := Fin.isLt _
    omega
  have h1 : arg3.view.readAt (Elt Ideal) (Rect.unit (s := S256x256) ![0, 0] S256x256.size inb_S256x256_S256x256_0_0).toLoadRect (harg3.unread x1) = x1 := by
    funext y; rw [View.readAt_apply, harg3.read_unread]; congr 1; funext a; apply Fin.ext
    match a with
    | ⟨0, _⟩ => show 0 + 1 * (y 0).val = (y 0).val; omega
    | ⟨1, _⟩ => show 0 + 1 * (y 1).val = (y 1).val; omega
  have h2 : arg4.view.readAt (Elt Ideal) (Rect.unit (s := S2048x128) (k0_off1 i) S512x128.size (k0_off1_inb i)).toLoadRect (harg4.unread x2) = span i x2 := by
    funext y; rw [View.readAt_apply, harg4.read_unread]; rfl
  have h3 : arg5.view.readAt (Elt Ideal) (Rect.unit (s := S2048x128) (k0_off1 i) S512x128.size (k0_off1_inb i)).toLoadRect (harg5.unread x3) = span i x3 := by
    funext y; rw [View.readAt_apply, harg5.read_unread]; rfl
  have e0 : arg2.view.readAt (Elt Ideal) (Rect.unit (s := S4) ![0] S1.size inb_S4_S1_0).toLoadRect (harg2.unread x0)
      (Shape.Idx.first (numel1_S1.symm ▸ Nat.one_pos)) = x0 (ix1 0) := h0 0 inb_S4_S1_0
  have e1 : arg2.view.readAt (Elt Ideal) (Rect.unit (s := S4) ![1] S1.size inb_S4_S1_1).toLoadRect (harg2.unread x0)
      (Shape.Idx.first (numel1_S1.symm ▸ Nat.one_pos)) = x0 (ix1 1) := h0 1 inb_S4_S1_1
  have e2 : arg2.view.readAt (Elt Ideal) (Rect.unit (s := S4) ![2] S1.size inb_S4_S1_2).toLoadRect (harg2.unread x0)
      (Shape.Idx.first (numel1_S1.symm ▸ Nat.one_pos)) = x0 (ix1 2) := h0 2 inb_S4_S1_2
  have e3 : arg2.view.readAt (Elt Ideal) (Rect.unit (s := S4) ![3] S1.size inb_S4_S1_3).toLoadRect (harg2.unread x0)
      (Shape.Idx.first (numel1_S1.symm ▸ Nat.one_pos)) = x0 (ix1 3) := h0 3 inb_S4_S1_3
  unfold out0_A_4 kernelRun0_A
  dsimp only
  simp only [kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v21]
  simp only [e0, e1, e2, e3, h1, h2, h3]
  clear h0 h1 h2 h3 e0 e1 e2 e3
  generalize span i x2 = k
  generalize span i x3 = v
  generalize (x0 (ix1 0) : Elt Ideal .f32) = s0
  generalize (x0 (ix1 1) : Elt Ideal .f32) = s1
  generalize (x0 (ix1 2) : Elt Ideal .f32) = s2
  generalize (x0 (ix1 3) : Elt Ideal .f32) = s3
  congr 2

/-- Where a point's span of keys begins. -/
theorem off_eq (i : grid0.Coords) (a : Fin 8) (hi : (i 1).val = a.val) : k0_off1 i 0 = first (256 * a.val) ∧ k0_off1 i 1 = 0 := by
  refine ⟨?_, rfl⟩
  have e : k0_off1 i 0 = (Scalar.minsi 1536#32 (Scalar.maxsi 0#32 (Scalar.subi (Scalar.muli (BitVec.ofNat 32 (i 1).val) 256#32) 128#32))).toNat := rfl
  rw [e, hi, word_first, BitVec.toNat_ofNat]
  exact Nat.mod_eq_of_lt (lt_of_le_of_lt (min_le_left _ _) (by norm_num))

/-- The span at an index. -/
theorem span_apply (i : grid0.Coords) (a : Fin 8) (hi : (i 1).val = a.val) (x : FVec Ideal S2048x128 .bf16) (K : ℕ → ℕ → ℝ)
    (h : ∀ (j : Fin 2048) (y : Fin 128), x (ix2 j y) = ((K j.val y.val : ℝ) : EReal)) (j : Fin 512) (y : Fin 128) :
    span i x (ix2 j y) = ((K (first (256 * a.val) + j.val) y.val : ℝ) : EReal) := by
  obtain ⟨e0, e1⟩ := off_eq i a hi
  have hf : first (256 * a.val) ≤ 1536 := min_le_left _ _
  rw [← h ⟨first (256 * a.val) + j.val, by omega⟩ y]
  unfold span
  congr 1
  funext b; apply Fin.ext
  match b with
  | ⟨0, _⟩ => show k0_off1 i 0 + 1 * j.val = first (256 * a.val) + j.val; omega
  | ⟨1, _⟩ => show k0_off1 i 1 + 1 * y.val = y.val; omega

/-- The first lanes at an index. -/
theorem q0_apply (q : FVec Ideal S256x256 .bf16) (r : Fin 256) (x : Fin 128) : q0 q (ix2 r x) = q (ix2 r ⟨x.val, by omega⟩) := by
  unfold q0 extractStridedSlice
  show q _ = q _
  congr 1
  funext b; apply Fin.ext
  match b with
  | ⟨0, _⟩ => show 0 + r.val = r.val; omega
  | ⟨1, _⟩ => show 0 + x.val = x.val; omega

/-- The last lanes at an index. -/
theorem q1_apply (q : FVec Ideal S256x256 .bf16) (r : Fin 256) (x : Fin 128) : q1 q (ix2 r x) = q (ix2 r ⟨128 + x.val, by omega⟩) := by
  unfold q1 extractStridedSlice
  show q _ = q _
  congr 1
  funext b; apply Fin.ext
  match b with
  | ⟨0, _⟩ => show 0 + r.val = r.val; omega
  | ⟨1, _⟩ => show 128 + x.val = 128 + x.val; omega

/-- The first half at an index. -/
theorem half0_apply (i : grid0.Coords) (q : FVec Ideal S256x256 .bf16) (k v : FVec Ideal S512x128 .bf16) (s0 s1 : EReal) (r : Fin 256) (x : Fin 128) :
    half0 i q k v s0 s1 (ix2 r x) = (0 + head i 0#32 64#32 (q0 q) k v (scaled s0) (ix2 r x) : EReal) + turn (head i 0#32 64#32 (turn (q0 q)) k v (scaled s1)) (ix2 r x) := by
  pointwise [half0]

/-- The second half at an index. -/
theorem half1_apply (i : grid0.Coords) (q : FVec Ideal S256x256 .bf16) (k v : FVec Ideal S512x128 .bf16) (s2 s3 : EReal) (r : Fin 256) (x : Fin 128) :
    half1 i q k v s2 s3 (ix2 r x) = (0 + turn (head i 64#32 128#32 (turn (q1 q)) k v (scaled s2)) (ix2 r x) : EReal) + head i 64#32 128#32 (q1 q) k v (scaled s3) (ix2 r x) := by
  pointwise [half1]

/-- The scaled sink of a real one. -/
theorem scaled_coe (t L : ℝ) (hL : Ideal.ofBits .f32 0x3FB8AA3B#32 = (L : EReal)) : scaled (t : EReal) = ((t * L : ℝ) : EReal) := by
  show (t : EReal) * Ideal.ofBits .f32 0x3FB8AA3B#32 = _
  rw [hL, EReal.coe_mul]

/-- The first half over real inputs. -/
theorem half0_coe (i : grid0.Coords) (a : Fin 8) (hi : (i 1).val = a.val) (q : FVec Ideal S256x256 .bf16) (k v : FVec Ideal S512x128 .bf16) (N L s0 s1 : ℝ)
    (hN : Ideal.ofBits .f32 0xF149F2CA#32 = (N : EReal)) (hL : Ideal.ofBits .f32 0x3FB8AA3B#32 = (L : EReal)) (Q K V : ℕ → ℕ → ℝ) (S : ℕ → ℝ) (h0 : s0 = S 0) (h1 : s1 = S 1)
    (hq : ∀ (r x : Fin 256), q (ix2 r x) = ((Q r.val x.val : ℝ) : EReal))
    (hk : ∀ (j : Fin 512) (x : Fin 128), k (ix2 j x) = ((K (first (256 * a.val) + j.val) x.val : ℝ) : EReal))
    (hv : ∀ (j : Fin 512) (x : Fin 128), v (ix2 j x) = ((V (first (256 * a.val) + j.val) x.val : ℝ) : EReal))
    (r : Fin 256) (x : Fin 128) :
    half0 i q k v s0 s1 (ix2 r x) = ((watt N (S (x.val / 64) * L) (256 * a.val + r.val) (fun j => ∑ y : Fin 64, Q r.val (64 * (x.val / 64) + y.val) * K j y.val) (fun j => V j (x.val % 64)) : ℝ) : EReal) := by
  have A := fun c => head_coe i a hi 0 (by omega) (q0 q) k v N (s0 * L) hN (fun r y => Q r y) K V
    (fun r y => by rw [q0_apply, hq]; simp only [Nat.zero_add]) hk hv r c
  have B := fun c => head_coe i a hi 0 (by omega) (turn (q0 q)) k v N (s1 * L) hN (fun r y => Q r (64 + y)) K V
    (fun r y => by rw [turn_apply, q0_apply, hq]; simp only; rw [show (0 + y.val + 64) % 128 = 64 + y.val by omega]) hk hv r c
  rw [half0_apply, turn_apply, scaled_coe s0 L hL, scaled_coe s1 L hL]
  refine (congrArg₂ (fun p q : EReal => 0 + p + q) (A x) (B _)).trans ?_
  simp only [Nat.zero_add]
  by_cases hx : x.val < 64
  · rw [if_pos ⟨Nat.zero_le _, hx⟩, if_neg (by omega), zero_add, add_zero, h0, show x.val / 64 = 0 by omega, show x.val % 64 = x.val by omega]
    simp only [Nat.mul_zero, Nat.zero_add]
  · rw [if_neg (by omega), if_pos (by omega), zero_add, zero_add, h1, show x.val / 64 = 1 by omega, show (x.val + 64) % 128 = x.val % 64 by omega]

/-- The second half over real inputs. -/
theorem half1_coe (i : grid0.Coords) (a : Fin 8) (hi : (i 1).val = a.val) (q : FVec Ideal S256x256 .bf16) (k v : FVec Ideal S512x128 .bf16) (N L s2 s3 : ℝ)
    (hN : Ideal.ofBits .f32 0xF149F2CA#32 = (N : EReal)) (hL : Ideal.ofBits .f32 0x3FB8AA3B#32 = (L : EReal)) (Q K V : ℕ → ℕ → ℝ) (S : ℕ → ℝ) (h2 : s2 = S 2) (h3 : s3 = S 3)
    (hq : ∀ (r x : Fin 256), q (ix2 r x) = ((Q r.val x.val : ℝ) : EReal))
    (hk : ∀ (j : Fin 512) (x : Fin 128), k (ix2 j x) = ((K (first (256 * a.val) + j.val) x.val : ℝ) : EReal))
    (hv : ∀ (j : Fin 512) (x : Fin 128), v (ix2 j x) = ((V (first (256 * a.val) + j.val) x.val : ℝ) : EReal))
    (r : Fin 256) (x : Fin 128) :
    half1 i q k v s2 s3 (ix2 r x) = ((watt N (S (2 + x.val / 64) * L) (256 * a.val + r.val) (fun j => ∑ y : Fin 64, Q r.val (64 * (2 + x.val / 64) + y.val) * K j (64 + y.val)) (fun j => V j (64 + x.val % 64)) : ℝ) : EReal) := by
  have A := fun c => head_coe i a hi 64 (by omega) (turn (q1 q)) k v N (s2 * L) hN (fun r y => Q r (128 + y)) K V
    (fun r y => by rw [turn_apply, q1_apply, hq]; simp only; rw [show 128 + (64 + y.val + 64) % 128 = 128 + y.val by omega]) hk hv r c
  have B := fun c => head_coe i a hi 64 (by omega) (q1 q) k v N (s3 * L) hN (fun r y => Q r (192 + y)) K V
    (fun r y => by rw [q1_apply, hq]; simp only; rw [show 128 + (64 + y.val) = 192 + y.val by omega]) hk hv r c
  rw [half1_apply, turn_apply, scaled_coe s2 L hL, scaled_coe s3 L hL]
  refine (congrArg₂ (fun p q : EReal => 0 + p + q) (A _) (B x)).trans ?_
  simp only
  by_cases hx : x.val < 64
  · rw [if_pos (by omega), if_neg (by omega), zero_add, add_zero, h2, show x.val / 64 = 0 by omega, show (x.val + 64) % 128 = 64 + x.val % 64 by omega]
  · rw [if_neg (by omega), if_pos (by omega), zero_add, zero_add, h3, show x.val / 64 = 1 by omega, show 64 + x.val % 64 = x.val by omega]

/-- What the body stores, at an index, over real inputs. -/
theorem out_coe (c : Dev nD) (i : grid0.Coords) (a : Fin 8) (hi : (i 1).val = a.val) (arg2 : Memref sig .tc .smem S4 .f32) (harg2 : arg2.IsWhole) (arg3 : Memref sig .tc .vmem S256x256 .bf16) (harg3 : arg3.IsWhole)
    (arg4 : Memref sig .tc .vmem S2048x128 .bf16) (harg4 : arg4.IsWhole) (arg5 : Memref sig .tc .vmem S2048x128 .bf16) (harg5 : arg5.IsWhole)
    (arg6 : Memref sig .tc .vmem S256x256 .bf16) (harg6 : arg6.IsWhole)
    (x0 : Vec Ideal S4 .f32) (x1 : Vec Ideal S256x256 .bf16) (x2 : Vec Ideal S2048x128 .bf16) (x3 : Vec Ideal S2048x128 .bf16)
    (N L : ℝ) (hN : Ideal.ofBits .f32 0xF149F2CA#32 = (N : EReal)) (hL : Ideal.ofBits .f32 0x3FB8AA3B#32 = (L : EReal)) (S : ℕ → ℝ) (Q K V : ℕ → ℕ → ℝ)
    (hs : ∀ h : Fin 4, x0 (ix1 h) = ((S h.val : ℝ) : EReal))
    (hq : ∀ (r x : Fin 256), x1 (ix2 r x) = ((Q r.val x.val : ℝ) : EReal))
    (hk : ∀ (j : Fin 2048) (x : Fin 128), x2 (ix2 j x) = ((K j.val x.val : ℝ) : EReal))
    (hv : ∀ (j : Fin 2048) (x : Fin 128), x3 (ix2 j x) = ((V j.val x.val : ℝ) : EReal)) (r x : Fin 256) :
    out0_A_4 c i arg2 harg2 arg3 harg3 arg4 harg4 arg5 harg5 arg6 harg6 x0 x1 x2 x3 (ix2 r x)
      = ((watt N (S (x.val / 64) * L) (256 * a.val + r.val) (fun j => ∑ y : Fin 64, Q r.val (64 * (x.val / 64) + y.val) * K j (64 * (x.val / 128) + y.val))
          (fun j => V j (64 * (x.val / 128) + x.val % 64)) : ℝ) : EReal) := by
  have hk' := span_apply i a hi x2 K hk
  have hv' := span_apply i a hi x3 V hv
  rw [out_eq, hs 0, hs 1, hs 2, hs 3]
  by_cases hx : x.val < 128
  · rw [View.read_writes_cons_unit_of_not_mem _ _ _ _ _ _ rfl (1 : Fin 2) (Or.inl hx)]
    rw [View.read_writes_cons_unit_of_mem (s := S256x256) _ _ (off := ![0, 0]) (size := S256x128.size) inb_S256x256_S256x128_0_0 _ _ (ix2 r x) (ix2 r (⟨x.val, hx⟩ : Fin 128)) rfl (fun b => by
      match b with
      | ⟨0, _⟩ => show r.val = 0 + r.val; omega
      | ⟨1, _⟩ => show x.val = 0 + x.val; omega)]
    refine (half0_coe i a hi x1 _ _ N L (S 0) (S 1) hN hL Q K V S rfl rfl hq hk' hv' r ⟨x.val, hx⟩).trans ?_
    rw [show x.val / 128 = 0 by omega]
    simp only [Nat.mul_zero, Nat.zero_add]
  · rw [View.read_writes_cons_unit_of_mem (s := S256x256) _ _ (off := ![0, 128]) (size := S256x128.size) inb_S256x256_S256x128_0_128 _ _ (ix2 r x) (ix2 r (⟨x.val - 128, by omega⟩ : Fin 128)) rfl (fun b => by
      match b with
      | ⟨0, _⟩ => show r.val = 0 + r.val; omega
      | ⟨1, _⟩ => show x.val = 128 + (x.val - 128); omega)]
    refine (half1_coe i a hi x1 _ _ N L (S 2) (S 3) hN hL Q K V S rfl rfl hq hk' hv' r ⟨x.val - 128, by omega⟩).trans ?_
    simp only
    rw [show 2 + (x.val - 128) / 64 = x.val / 64 by omega, show (x.val - 128) % 64 = x.val % 64 by omega, show x.val / 128 = 1 by omega]

end Cert.Proof.Win

end
-- ==== Proof.WinArr.lean ====
/- The windowed attention's result array, at an index, over real arguments. -/
module

public import proofs.«01_k».proof.Proof.WinOut

@[expose] public section

set_option maxRecDepth 16384

noncomputable section

namespace Cert.Proof.Win

open Cert.WinIdeal Cert.WinIdeal.Gen Idealize.ShloMosaic Idealize.ShloMosaic.TcCoe Cert.Proof.Attn

variable (m : (ℓ : Loc nD τ sig) → Buf (Elt Ideal) ℓ) (c : Dev nD)

/-- Where each window's block lies at a point. -/
theorem idx_facts : ∀ t : Fin cfg0.N, win0_0.index t (0 : Fin 1) = 0 ∧ win0_1.index t (0 : Fin 2) = t.val ∧ win0_1.index t (1 : Fin 2) = 9
    ∧ win0_2.index t (0 : Fin 2) = t.val / 8 ∧ win0_2.index t (1 : Fin 2) = 20
    ∧ win0_3.index t (0 : Fin 2) = t.val / 8 ∧ win0_3.index t (1 : Fin 2) = 21
    ∧ win0_4.index t (0 : Fin 2) = t.val ∧ win0_4.index t (1 : Fin 2) = 0 ∧ (grid0.coords t 1).val = t.val % 8 :=
  (by decide +kernel : ∀ t : Fin grid0.N, _)

/-- The sinks a point reads. -/
theorem iblk0_apply (t : Fin cfg0.N) (h : Fin 4) : iblk m c 0 t (ix1 h) = m ((c : Thread nD τ).loc main_arg1) (ix1 h) := by
  show V m c main_arg1 (((cfg0.win 0).blk t).view.emb (ix1 h)) = _
  rw [V_main_arg1]
  obtain ⟨e0, _⟩ := idx_facts t
  congr 1
  funext (a : Fin 1)
  obtain rfl : a = 0 := Subsingleton.elim _ _
  apply Fin.ext
  show win0_0.index t (0 : Fin 1) * 4 + 1 * h.val = h.val
  omega

/-- The queries a point reads. -/
theorem iblk1_apply (t : Fin cfg0.N) (r x : Fin 256) (i : Fin 16384) (x' : Fin 2816) (hi : i.val = 256 * t.val + r.val) (hx : x'.val = 2304 + x.val) :
    iblk m c 1 t (ix2 r x) = m ((c : Thread nD τ).loc main_arg0) (ix2 i x') := by
  show V m c main_arg0 (((cfg0.win 1).blk t).view.emb (ix2 r x)) = _
  rw [V_main_arg0]
  obtain ⟨_, e0, e1, _⟩ := idx_facts t
  congr 1
  funext a; apply Fin.ext
  match a with
  | ⟨0, _⟩ => show win0_1.index t (0 : Fin 2) * 256 + 1 * r.val = i.val; omega
  | ⟨1, _⟩ => show win0_1.index t (1 : Fin 2) * 256 + 1 * x.val = x'.val; omega

/-- The keys a point reads. -/
theorem iblk2_apply (t : Fin cfg0.N) (j : Fin 2048) (x : Fin 128) (i : Fin 16384) (x' : Fin 2816) (hi : i.val = 2048 * (t.val / 8) + j.val) (hx : x'.val = 2560 + x.val) :
    iblk m c 2 t (ix2 j x) = m ((c : Thread nD τ).loc main_arg0) (ix2 i x') := by
  show V m c main_arg0 (((cfg0.win 2).blk t).view.emb (ix2 j x)) = _
  rw [V_main_arg0]
  obtain ⟨_, _, _, e0, e1, _⟩ := idx_facts t
  congr 1
  funext a; apply Fin.ext
  match a with
  | ⟨0, _⟩ => show win0_2.index t (0 : Fin 2) * 2048 + 1 * j.val = i.val; omega
  | ⟨1, _⟩ => show win0_2.index t (1 : Fin 2) * 128 + 1 * x.val = x'.val; omega

/-- The values a point reads. -/
theorem iblk3_apply (t : Fin cfg0.N) (j : Fin 2048) (x : Fin 128) (i : Fin 16384) (x' : Fin 2816) (hi : i.val = 2048 * (t.val / 8) + j.val) (hx : x'.val = 2688 + x.val) :
    iblk m c 3 t (ix2 j x) = m ((c : Thread nD τ).loc main_arg0) (ix2 i x') := by
  show V m c main_arg0 (((cfg0.win 3).blk t).view.emb (ix2 j x)) = _
  rw [V_main_arg0]
  obtain ⟨_, _, _, _, _, e0, e1, _⟩ := idx_facts t
  congr 1
  funext a; apply Fin.ext
  match a with
  | ⟨0, _⟩ => show win0_3.index t (0 : Fin 2) * 2048 + 1 * j.val = i.val; omega
  | ⟨1, _⟩ => show win0_3.index t (1 : Fin 2) * 128 + 1 * x.val = x'.val; omega

/-- Where the result's block lies in the result. -/
theorem emb4 (t : Fin cfg0.N) (r x : Fin 256) (i : Fin 16384) (hi : i.val = 256 * t.val + r.val) :
    ((cfg0.win 4).blk t).view.emb (ix2 r x) = ix2 i x := by
  obtain ⟨_, _, _, _, _, _, _, e0, e1, _⟩ := idx_facts t
  funext a; apply Fin.ext
  match a with
  | ⟨0, _⟩ => show win0_4.index t (0 : Fin 2) * 256 + 1 * r.val = i.val; omega
  | ⟨1, _⟩ => show win0_4.index t (1 : Fin 2) * 256 + 1 * x.val = x.val; omega

/-- Every point writes its block back. -/
theorem flush4 : ∀ t : Fin cfg0.N, (cfg0.win 4).flush t = true :=
  (by decide +kernel : ∀ t : Fin grid0.N, win0_4.flush t = true)

/-- The result array at an index, over real arguments. -/
theorem arr_apply (X : ℕ → ℕ → ℝ) (S : ℕ → ℝ) (N L : ℝ)
    (hN : Ideal.ofBits .f32 0xF149F2CA#32 = (N : EReal)) (hL : Ideal.ofBits .f32 0x3FB8AA3B#32 = (L : EReal))
    (h0 : ∀ (i : Fin 16384) (x : Fin 2816), (m (c, main_arg0) : FVec Ideal S16384x2816 .bf16) (ix2 i x) = ((X i.val x.val : ℝ) : EReal))
    (h1 : ∀ i : Fin 4, (m (c, main_arg1) : FVec Ideal S4 .f32) (ix1 i) = ((S i.val : ℝ) : EReal)) (i : Fin 16384) (x : Fin 256) :
    (dats m 0 c).arrAt 4 cfg0.N (ix2 i x) = ((result X N (fun h => S h * L) i.val x.val : ℝ) : EReal) := by
  obtain ⟨t, ht⟩ : ∃ t : Fin cfg0.N, t.val = i.val / 256 := ⟨⟨i.val / 256, by show _ < 64; omega⟩, rfl⟩
  obtain ⟨r, hr⟩ : ∃ r : Fin 256, r.val = i.val % 256 := ⟨⟨i.val % 256, by omega⟩, rfl⟩
  have hN' : t.val < 64 := t.isLt
  have hi : i.val = 256 * t.val + r.val := by omega
  have hc : (grid0.coords t 1).val = t.val % 8 := (idx_facts t).2.2.2.2.2.2.2.2.2
  have b := congrFun (Cert.WinIdeal.Value.blocks4 m c t (flush4 t)) (ix2 r x)
  rw [Cert.WinIdeal.Value.flushed4_A] at b
  have b' : (dats m 0 c).arrAt 4 cfg0.N (((cfg0.win 4).blk t).view.emb (ix2 r x)) = out0_A_4 c (grid0.coords t) _ _ _ _ _ _ _ _ _ _ (iblk m c 0 t) (iblk m c 1 t) (iblk m c 2 t) (iblk m c 3 t) (ix2 r x) := b
  have hs : ∀ h : Fin 4, iblk m c 0 t (ix1 h) = ((S h.val : ℝ) : EReal) := fun h => (iblk0_apply m c t h).trans (h1 h)
  have hq : ∀ (r' x' : Fin 256), iblk m c 1 t (ix2 r' x') = ((X (256 * t.val + r'.val) (2304 + x'.val) : ℝ) : EReal) := fun r' x' => by
    rw [iblk1_apply m c t r' x' ⟨256 * t.val + r'.val, by omega⟩ ⟨2304 + x'.val, by omega⟩ rfl rfl]; exact h0 _ _
  have hk : ∀ (j : Fin 2048) (x' : Fin 128), iblk m c 2 t (ix2 j x') = ((X (2048 * (t.val / 8) + j.val) (2560 + x'.val) : ℝ) : EReal) := fun j x' => by
    rw [iblk2_apply m c t j x' ⟨2048 * (t.val / 8) + j.val, by omega⟩ ⟨2560 + x'.val, by omega⟩ rfl rfl]; exact h0 _ _
  have hv : ∀ (j : Fin 2048) (x' : Fin 128), iblk m c 3 t (ix2 j x') = ((X (2048 * (t.val / 8) + j.val) (2688 + x'.val) : ℝ) : EReal) := fun j x' => by
    rw [iblk3_apply m c t j x' ⟨2048 * (t.val / 8) + j.val, by omega⟩ ⟨2688 + x'.val, by omega⟩ rfl rfl]; exact h0 _ _
  rw [emb4 t r x i hi] at b'
  rw [b']
  refine (out_coe c (grid0.coords t) ⟨t.val % 8, by omega⟩ hc _ _ _ _ _ _ _ _ _ _ (iblk m c 0 t) (iblk m c 1 t) (iblk m c 2 t) (iblk m c 3 t) N L hN hL S
    (fun r' x' => X (256 * t.val + r') (2304 + x')) (fun j x' => X (2048 * (t.val / 8) + j) (2560 + x')) (fun j x' => X (2048 * (t.val / 8) + j) (2688 + x')) hs hq hk hv r x).trans ?_
  unfold result
  simp only
  rw [← hi, show t.val / 8 = i.val / 2048 by omega, show 256 * (t.val % 8) + r.val = i.val % 2048 by omega]

end Cert.Proof.Win

end
-- ==== Proof.WinRef.lean ====
/- The windowed attention's reference at an index, over real arguments. -/
module

public import proofs.«01_k».proof.Proof.WinReal
public import proofs.«01_k».proof.Proof.Gen.WinRefIdeal.Run
public import proofs.«01_k».proof.Proof.Gen.WinRefIdeal.Read
public import Idealize.ShloMosaic.Lib.Pointwise
public import Idealize.ShloMosaic.Lib.WordCmp

@[expose] public section

set_option maxRecDepth 16384

noncomputable section

namespace Cert.Proof.Win

open Cert.WinRefIdeal Idealize.ShloMosaic Idealize.ShloMosaic.TcCoe Cert.Proof.Attn

/-- The sign of a word. -/
def wsign (x : BitVec 32) : BitVec 32 := if x = 0 then 0 else if x.msb then -1 else 1

/-- A tile's first key, as the reference's word of its own operations. -/
theorem word_ref (q : Fin 2048) : IntOp.minsi 1536#32 (IntOp.maxsi 0#32 (IntOp.subi (IntOp.muli (Scalar.select
      (IntOp.andi (IntOp.cmpi .ne (wsign (BitVec.ofNat 32 q.val)) (wsign 256#32)) (IntOp.cmpi .ne (IntOp.remsi .host (BitVec.ofNat 32 q.val) 256#32) 0#32))
      (IntOp.subi (IntOp.divsi .host (BitVec.ofNat 32 q.val) 256#32) 1#32) (IntOp.divsi .host (BitVec.ofNat 32 q.val) 256#32)) 256#32) 128#32)) = BitVec.ofNat 32 (first q.val) := by
  revert q; decide +kernel

/-- The reference's first key of a query. -/
theorem v17_apply (q : Fin 2048) : Read.val_main_v17 (F := Ideal) (ix1 q) = BitVec.ofNat 32 (first q.val) := by
  rw [← word_ref q]
  pointwise [Read.val_main_v17, Read.val_main_call1_v4, Read.val_main_call1_v3, Read.val_main_c_3, Read.val_main_call1_v2, Read.val_main_call1_v1, Read.val_main_call1_v0, Read.val_main_c_2,
    Read.val_main_v16, Read.val_main_v15, Read.val_main_c_1, Read.val_main_v14, Read.val_main_v13, Read.val_main_c_0, Read.val_main_v12, Read.val_main_call0_v11, Read.val_main_call0_v10,
    Read.val_main_call0_v9, Read.val_main_call0_c, Read.val_main_call0_v8, Read.val_main_call0_v7, Read.val_main_call0_v6, Read.val_main_call0_v5, Read.val_main_call0_v4, Read.val_main_call0_v3,
    Read.val_main_call0_v13, Read.val_main_call0_v12, Read.val_main_call0_c_0, Read.val_main_call0_v2, Read.val_main_call0_v1, Read.val_main_call0_v0, Read.val_main_c, Read.val_main_v11]
  rfl

/-- Whether a key lies in the query's span. -/
theorem v29_apply (q k : Fin 2048) : Read.val_main_v29 (F := Ideal) (ix2 q k) = if first q.val ≤ k.val ∧ k.val < first q.val + 512 then 1#1 else 0#1 := by
  have hf : first q.val ≤ 1536 := min_le_left _ _
  pointwise [Read.val_main_v29, Read.val_main_v28, Read.val_main_v27, Read.val_main_v26, Read.val_main_v25, Read.val_main_v24, Read.val_main_c_4, Read.val_main_v23, Read.val_main_v22, Read.val_main_v21, Read.val_main_v20, Read.val_main_v19, Read.val_main_v18, Read.val_main_v11]
  rw [v17_apply, show (512#32 : BitVec 32) = BitVec.ofNat 32 512 from rfl, WordCmp.addi_ofNat,
    WordCmp.cmpi_sge_ofNat (lt_trans k.isLt (by norm_num)) (by omega), WordCmp.cmpi_slt_ofNat (lt_trans k.isLt (by norm_num)) (by omega)]
  by_cases h1 : first q.val ≤ k.val <;> by_cases h2 : k.val < first q.val + 512 <;> simp [h1, h2, IntOp.andi]

/-- Whether query and key are near. -/
theorem v37_apply (q k : Fin 2048) : Read.val_main_v37 (F := Ideal) (ix2 q k) = if Near q.val k.val then 1#1 else 0#1 := by
  rw [← near_bit (lt_trans q.isLt (by norm_num)) (lt_trans k.isLt (by norm_num))]
  pointwise [Read.val_main_v37, Read.val_main_v36, Read.val_main_c_5, Read.val_main_v35, Read.val_main_v34, Read.val_main_v33, Read.val_main_v32, Read.val_main_v31, Read.val_main_v30, Read.val_main_v11]

variable (X : ℕ → ℕ → ℝ) (x0 : FVec Ideal S16384x2816 .bf16)

variable (h0 : ∀ (i : Fin 16384) (x : Fin 2816), x0 (ix2 i x) = ((X i.val x.val : ℝ) : EReal))
variable (x1 : FVec Ideal S4 .f32) (S : ℕ → ℝ) (h1 : ∀ h : Fin 4, x1 (ix1 h) = ((S h.val : ℝ) : EReal))
variable (N L : ℝ) (hN : Ideal.ofBits .f32 0xF149F2CA#32 = (N : EReal)) (hL : Ideal.ofBits .f32 0x3FB8AA3B#32 = (L : EReal))

include h0 in
/-- The reference's queries. -/
theorem v2_apply (b : Fin 8) (q : Fin 2048) (h : Fin 4) (y : Fin 64) :
    Read.val_main_v2 (F := Ideal) x0 (ix4 b q h y) = ((X (2048 * b.val + q.val) (2304 + (64 * h.val + y.val)) : ℝ) : EReal) := by
  pointwise [Read.val_main_v2, Read.val_main_v1, Read.val_main_v0]
  rw [h0]
  simp only [Nat.mul_comm]

include h0 in
/-- The reference's keys: two query heads share one. -/
theorem v8_apply (b : Fin 8) (k : Fin 2048) (h : Fin 4) (y : Fin 64) :
    Read.val_main_v8 (F := Ideal) x0 (ix4 b k h y) = ((X (2048 * b.val + k.val) (2560 + (64 * (h.val / 2) + y.val)) : ℝ) : EReal) := by
  pointwise [Read.val_main_v8, Read.val_main_v7, Read.val_main_v4, Read.val_main_v3, Read.val_main_v0]
  rw [h0]
  simp only [Nat.mul_comm]

include h0 in
/-- The reference's values: two query heads share one. -/
theorem v10_apply (b : Fin 8) (k : Fin 2048) (h : Fin 4) (y : Fin 64) :
    Read.val_main_v10 (F := Ideal) x0 (ix4 b k h y) = ((X (2048 * b.val + k.val) (2688 + (64 * (h.val / 2) + y.val)) : ℝ) : EReal) := by
  pointwise [Read.val_main_v10, Read.val_main_v9, Read.val_main_v6, Read.val_main_v5, Read.val_main_v0]
  rw [h0]
  simp only [Nat.mul_comm]

/-- A head's scores along the sequence. -/
def sc (b h q : ℕ) (k : ℕ) : ℝ := ∑ y : Fin 64, X (2048 * b + q) (2304 + (64 * h + y.val)) * X (2048 * b + k) (2560 + (64 * (h / 2) + y.val))

include h0 hN in
/-- The reference's masked scores. -/
theorem v39_apply (b : Fin 8) (h : Fin 4) (q k : Fin 2048) :
    Read.val_main_v39 (F := Ideal) x0 (ix4 b h q k) = ((masked N q.val (sc X b.val h.val q.val) k.val : ℝ) : EReal) := by
  have e38 : Read.val_main_v38 (F := Ideal) x0 (ix4 b h q k) = ((sc X b.val h.val q.val k.val : ℝ) : EReal) := by
    pointwise [Read.val_main_v38]
    simp only [v2_apply X x0 h0, v8_apply X x0 h0, ← EReal.coe_mul, coe_sum]
    rfl
  pointwise [Read.val_main_v39, Read.val_main_call2_v1, Read.val_main_call2_v2, Read.val_main_call2_v0, Read.val_main_cst]
  show Scalar.select _ _ (Ideal.ofBits .f32 0xF149F2CA#32) = _
  rw [e38, v37_apply, hN]
  unfold masked
  split <;> rfl

include h1 hL in
/-- The sink in the scores' scale. -/
theorem v41_apply (h : Fin 4) : Read.val_main_v41 (F := Ideal) x1 (ix1 h) = ((S h.val * L : ℝ) : EReal) := by
  pointwise [Read.val_main_v41, Read.val_main_v40, Read.val_main_cst_6]
  rw [h1, hL, EReal.coe_mul]

include h0 hN in
/-- The greatest of the reference's masked scores is a real. -/
theorem v43_apply (b : Fin 8) (h : Fin 4) (q : Fin 2048) : ∃ M : ℝ, Read.val_main_v43 (F := Ideal) x0 (ix3 b h q) = (M : EReal) := by
  obtain ⟨M, hM⟩ := fold_max_coe (n := 2047) (fun k => masked N q.val (sc X b.val h.val q.val) k.val)
  refine ⟨M, ?_⟩
  pointwise [Read.val_main_v43]
  simp only [v39_apply X x0 h0 N hN]
  pointwise [Read.val_main_cst_7]
  rw [ofBits_bot]
  exact hM

/-- The greater of two reals, as an extended real. -/
theorem max_coe (a b : ℝ) : FloatOps.maximumf (F := Ideal) (φ := .f32) (a : EReal) (b : EReal) = ((max a b : ℝ) : EReal) :=
  (EReal.coe_strictMono.monotone.map_max).symm

include h1 hL in
/-- The sink at every query. -/
theorem v45_apply (b : Fin 8) (h : Fin 4) (q : Fin 2048) : Read.val_main_v45 (F := Ideal) x1 (ix3 b h q) = ((S h.val * L : ℝ) : EReal) := by
  pointwise [Read.val_main_v45, Read.val_main_v44, Read.val_main_v42]
  exact v41_apply x1 S h1 L hL h

include h0 h1 hN hL in
/-- The number the reference subtracts is a real. -/
theorem v46_apply (b : Fin 8) (h : Fin 4) (q : Fin 2048) : ∃ M : ℝ, Read.val_main_v46 (F := Ideal) x0 x1 (ix3 b h q) = (M : EReal) := by
  obtain ⟨M0, hM⟩ := v43_apply X x0 h0 N hN b h q
  refine ⟨max M0 (S h.val * L), ?_⟩
  rw [Read.val_main_v46_apply, hM, v45_apply x1 S h1 L hL, max_coe]

include h0 h1 hN hL in
/-- The reference's weights: the base-two softmax over the span and the sink. -/
theorem v62_apply (b : Fin 8) (h : Fin 4) (q k : Fin 2048) :
    Read.val_main_v62 (F := Ideal) x0 x1 (ix4 b h q k) = (((if first q.val ≤ k.val ∧ k.val < first q.val + 512 then
      (2 : ℝ) ^ masked N q.val (sc X b.val h.val q.val) k.val / (∑ l : Fin 512, (2 : ℝ) ^ masked N q.val (sc X b.val h.val q.val) (first q.val + l.val) + (2 : ℝ) ^ (S h.val * L)) else 0 : ℝ)) : EReal) := by
  obtain ⟨M, hM⟩ := v46_apply X x0 h0 x1 S h1 N L hN hL b h q
  have hf : first q.val ≤ 1536 := min_le_left _ _
  have e52 : ∀ k : Fin 2048, Read.val_main_v52 (F := Ideal) x0 x1 (ix4 b h q k) = (((if first q.val ≤ k.val ∧ k.val < first q.val + 512 then
      (2 : ℝ) ^ (masked N q.val (sc X b.val h.val q.val) k.val - M) else 0 : ℝ)) : EReal) := fun k => by
    pointwise [Read.val_main_v52, Read.val_main_call3_v1, Read.val_main_call3_v2, Read.val_main_call3_v0, Read.val_main_cst_9, Read.val_main_v51, Read.val_main_v50, Read.val_main_cst_8, Read.val_main_v49, Read.val_main_v48, Read.val_main_v47]
    rw [v29_apply, v39_apply X x0 h0 N hN, hM, ofBits_2, ← EReal.coe_sub]
    show Scalar.select _ _ (Ideal.ofBits .f32 0x00000000#32) = _
    split
    · rfl
    · exact (show Ideal.ofBits .f32 0x00000000#32 = ((0 : ℝ) : EReal) from Ideal.ofBits_zero_f32)
  have e59 : Read.val_main_v59 (F := Ideal) x0 x1 (ix3 b h q) = ((∑ l : Fin 512, (2 : ℝ) ^ (masked N q.val (sc X b.val h.val q.val) (first q.val + l.val) - M) + (2 : ℝ) ^ (S h.val * L - M) : ℝ) : EReal) := by
    pointwise [Read.val_main_v59, Read.val_main_v58, Read.val_main_v57, Read.val_main_cst_11, Read.val_main_v56, Read.val_main_v55, Read.val_main_v54, Read.val_main_v42, Read.val_main_v53, Read.val_main_cst_10]
    simp only [e52, coe_sum]
    rw [v41_apply x1 S h1 L hL, hM, ofBits_2, ← EReal.coe_sub, sum_span (n := 2048) (first q.val) 512 (by omega) (fun k => (2 : ℝ) ^ (masked N q.val (sc X b.val h.val q.val) k - M))]
    rfl
  pointwise [Read.val_main_v62, Read.val_main_v61, Read.val_main_v60]
  rw [e52, e59, div_real _ (den_pos (fun l : Fin 512 => masked N q.val (sc X b.val h.val q.val) (first q.val + l.val) - M) _).ne']
  refine congrArg Real.toEReal ?_
  split
  · exact shift_sink (fun l : Fin 512 => masked N q.val (sc X b.val h.val q.val) (first q.val + l.val)) _ M _
  · exact zero_div _

include h0 h1 hN hL in
/-- The reference's result at an index. -/
theorem v66_apply (i : Fin 16384) (c : Fin 256) :
    Read.val_main_v66 (F := Ideal) x0 x1 (ix2 i c) = ((result X N (fun h => S h * L) i.val c.val : ℝ) : EReal) := by
  have e63 : ∀ (b : Fin 8) (h : Fin 4) (d : Fin 64) (q : Fin 2048), Read.val_main_v63 (F := Ideal) x0 x1 (ix4 b h d q)
      = ((watt N (S h.val * L) q.val (sc X b.val h.val q.val) (fun j => X (2048 * b.val + j) (2688 + (64 * (h.val / 2) + d.val))) : ℝ) : EReal) := fun b h d q => by
    have hf : first q.val ≤ 1536 := min_le_left _ _
    pointwise [Read.val_main_v63]
    simp only [v10_apply X x0 h0, v62_apply X x0 h0 x1 S h1 N L hN hL, ← EReal.coe_mul, coe_sum]
    congr 1
    unfold watt
    rw [← sum_span (n := 2048) (first q.val) 512 (by omega) (fun k => ((2 : ℝ) ^ masked N q.val (sc X b.val h.val q.val) k / (∑ l : Fin 512, (2 : ℝ) ^ masked N q.val (sc X b.val h.val q.val) (first q.val + l.val) + (2 : ℝ) ^ (S h.val * L)))
      * X (2048 * b.val + k) (2688 + (64 * (h.val / 2) + d.val)))]
    refine Finset.sum_congr rfl fun k _ => ?_
    split
    · exact mul_comm _ _
    · exact mul_zero _
  pointwise [Read.val_main_v66, Read.val_main_v65, Read.val_main_v64]
  rw [e63]
  unfold result sc
  simp only [Nat.div_add_mod]
  rw [show c.val / 64 / 2 = c.val / 128 by omega]

end Cert.Proof.Win

end
-- ==== Proof.WinClaims.lean ====
/- The claims about the windowed attention: its runs, and that it computes its reference over the reals. -/
module

public import proofs.«01_k».proof.Defs
public import proofs.«01_k».proof.Proof.WinArr
public import proofs.«01_k».proof.Proof.WinRef
public import proofs.«01_k».proof.Proof.AttnClaims
public import proofs.«01_k».proof.Proof.Gen.Win.Frame
public import proofs.«01_k».proof.Proof.Gen.WinRef.Run
public import proofs.«01_k».proof.Proof.Gen.Pre_win_finite
public import Idealize.ShloMosaic.Lib.ReduceAll
public import Idealize.ShloMosaic.Lib.Claim

@[expose] public section

set_option maxRecDepth 16384

noncomputable section

namespace Cert.Proof.Win

open Idealize.ShloMosaic Idealize.SL.Sem Idealize.ShloMosaic.TcCoe Cert.Proof.Attn

/-- The precondition's content: every argument's elements are reals. -/
theorem finite_args (x0 : FVec Ideal Cert.Pre_win_finite.S16384x2816 .bf16) (x1 : FVec Ideal Cert.Pre_win_finite.S4 .f32)
    (h : Cert.Pre_win_finite.fn (F := Ideal) x0 x1 = fun _ => 1#1) :
    (∀ i, x0 i = ((EReal.toReal (x0 i) : ℝ) : EReal)) ∧ (∀ i, x1 i = ((EReal.toReal (x1 i) : ℝ) : EReal)) := by
  have e := congrFun h ix0
  have e' : IntOp.andi _ _ = 1#1 := e
  obtain ⟨e0, e1⟩ := IntOp.andi_eq_one.1 e'
  haveI : Subsingleton Cert.Pre_win_finite.S_.Idx := ⟨fun a b => funext fun k => k.elim0⟩
  exact ⟨fun i => real_of_abs_lt _ (Host.reduce_andi_all _ _ _ _ _ e0 i), fun i => real_of_abs_lt _ (Host.reduce_andi_all _ _ _ _ _ e1 i)⟩

/-- The reference's result is its last operation's value at the arguments. -/
theorem run_reference (m : (ℓ : Loc Cert.WinRefIdeal.nD Cert.WinRefIdeal.τ Cert.WinRefIdeal.sig) → Buf (Elt Ideal) ℓ) (c : Dev Cert.WinRefIdeal.nD) :
    Cert.WinRefIdeal.Value.res_out0 m c = Cert.WinRefIdeal.Read.val_main_v66 (F := Ideal) (m (c, Cert.WinRefIdeal.main_arg0)) (m (c, Cert.WinRefIdeal.main_arg1)) := by
  unfold Cert.WinRefIdeal.Value.res_out0
  rw [Cert.WinRefIdeal.Read.val_main_v66_eq]

/-- The kernel runs and leaves its arguments as they were. -/
theorem frame_p : Cert.quiescent_Win := fun m ρ _ => Cert.Win.Gen.frame m ρ
/-- The idealized kernel runs and leaves its arguments as they were. -/
theorem frame_pi : Cert.quiescent_WinIdeal := fun m ρ _ => Cert.WinIdeal.Gen.frame m ρ
/-- The same under the precondition. -/
theorem frame_pi_pre : Cert.quiescent_WinIdeal_pre_win_finite := fun m ρ _ => Cert.WinIdeal.Gen.frame m ρ
/-- The idealized reference runs and leaves its arguments as they were. -/
theorem frame_ri : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)
/-- The same under the precondition. -/
theorem frame_ri_pre : Cert.quiescent_WinRefIdeal_pre_win_finite := fun m ρ _ =>
  (θ_run Cert.WinRefIdeal.defs _ _).mono (fun r h => ⟨fun c => (h c).2, sem_eq_zero_of_no_sems (by decide) r.2⟩)
    (Cert.WinRefIdeal.Value.run (F := Ideal) m ρ)
/-- The reference runs and leaves its arguments as they were. -/
theorem frame_r : Cert.quiescent_WinRef := fun m ρ _ =>
  (θ_run Cert.WinRef.defs _ _).mono (fun r h => ⟨fun c => (h c).2, sem_eq_zero_of_no_sems (by decide) r.2⟩)
    (Cert.WinRef.Value.run (F := Bits) m ρ)

/-- Over finite arguments the kernel and its reference leave the same array. -/
theorem algebraic : Cert.algebraic_WinIdeal_WinRefIdeal_pre_win_finite := by
  intro m ρ m' ρ' hpre hagree
  refine ⟨_, Cert.WinIdeal.Value.run_blocks (F := Ideal) m ρ, ?_⟩
  refine (θ_run Cert.WinRefIdeal.defs _ _).mono (fun r h c => ⟨(h c).1.trans ?_, (h c).2⟩) (Cert.WinRefIdeal.Value.run (F := Ideal) m' ρ')
  obtain ⟨f0, f1⟩ := finite_args _ _ (hpre c)
  obtain ⟨a0, a1⟩ := hagree c
  obtain ⟨N, hN⟩ := ofBits_neg
  obtain ⟨L, hL⟩ := ofBits_log2e
  refine (run_reference m' c).trans ?_
  have b0 : m' (c, Cert.WinRefIdeal.main_arg0) = m (c, Cert.WinIdeal.main_arg0) := a0
  have b1 : m' (c, Cert.WinRefIdeal.main_arg1) = m (c, Cert.WinIdeal.main_arg1) := a1
  rw [b0, b1]
  have h0 : ∀ (i : Fin 16384) (x : Fin 2816), (m (c, Cert.WinIdeal.main_arg0) : FVec Ideal Cert.WinIdeal.S16384x2816 .bf16) (ix2 i x)
      = ((table (fun i x => (m (c, Cert.WinIdeal.main_arg0) : FVec Ideal Cert.WinIdeal.S16384x2816 .bf16) (ix2 i x)) i.val x.val : ℝ) : EReal) :=
    fun i x => by rw [table_val]; exact f0 _
  have h1 : ∀ i : Fin 4, (m (c, Cert.WinIdeal.main_arg1) : FVec Ideal Cert.WinIdeal.S4 .f32) (ix1 i)
      = ((reals (fun i => (m (c, Cert.WinIdeal.main_arg1) : FVec Ideal Cert.WinIdeal.S4 .f32) (ix1 i)) i.val : ℝ) : EReal) := fun i => by rw [reals_val]; exact f1 _
  have key : ∀ (i : Fin 16384) (x : Fin 256), Cert.WinRefIdeal.Read.val_main_v66 (F := Ideal) (m (c, Cert.WinIdeal.main_arg0)) (m (c, Cert.WinIdeal.main_arg1)) (ix2 i x)
      = (Cert.WinIdeal.Gen.dats m 0 c).arrAt 4 Cert.WinIdeal.cfg0.N (ix2 i x) := fun i x =>
    (v66_apply _ _ h0 _ _ h1 N L hN hL i x).trans (arr_apply m c _ _ N L hN hL h0 h1 i x).symm
  funext y
  obtain ⟨i, x, rfl⟩ : ∃ (i : Fin 16384) (x : Fin 256), y = ix2 i x := ⟨y 0, y 1, by funext a; match a with | ⟨0, _⟩ => rfl | ⟨1, _⟩ => rfl⟩
  exact key i x

end Cert.Proof.Win

end
-- ==== Proof.ConvComp.lean ====
/- What the short convolution's body stores, read at an index of its input blocks. -/
module

public import proofs.«01_k».proof.Proof.Gen.ConvIdeal.Value
public import Idealize.ShloMosaic.Lib.Pointwise
public import Idealize.ShloMosaic.Lib.WordCmp
public import Idealize.ShloMosaic.Lib.Writes
public import Idealize.ShloMosaic.Lib.WritesUnit

@[expose] public section

set_option maxRecDepth 16384

noncomputable section

namespace Cert.Proof.Conv

open Cert.ConvIdeal Cert.ConvIdeal.Gen Idealize.ShloMosaic Idealize.ShloMosaic.TcCoe

/-- One block of 512 rows convolved: the row before and the row after come from the block, turned by one, or at its ends from the rows given. -/
def step (w0 w1 w2 b : FVec Ideal S1x768 .f32) (x : FVec Ideal S512x768 .f32) (p n : FVec Ideal S1x768 .f32) : FVec Ideal S512x768 .f32 :=
  addf (addf (addf (broadcastTo S512x768 b broadcasts_S1x768_S512x768)
      (mulf (select (cmpi .eq (iota .tc S512x768 32 [0] iota_S512x768_d0_w32) (broadcast S512x768 0#32))
        (broadcastTo S512x768 (shapeCast S1x768 p shapeCasts_S1x768_S1x768) broadcasts_S1x768_S512x768) (dynamicRotate 0 1#32 none x rotates_S512x768_d0))
        (broadcastTo S512x768 w0 broadcasts_S1x768_S512x768)))
      (mulf x (broadcastTo S512x768 w1 broadcasts_S1x768_S512x768)))
    (mulf (select (cmpi .eq (iota .tc S512x768 32 [0] iota_S512x768_d0_w32) (broadcast S512x768 511#32))
        (broadcastTo S512x768 (shapeCast S1x768 n shapeCasts_S1x768_S1x768) broadcasts_S1x768_S512x768) (dynamicRotate 0 511#32 none x rotates_S512x768_d0))
        (broadcastTo S512x768 w2 broadcasts_S1x768_S512x768))

/-- A row's number compared with a word. -/
theorem row_eq (r : Fin 512) (k : ℕ) (hk : k < 512) : IntOp.cmpi .eq (BitVec.ofNat 32 r.val) (BitVec.ofNat 32 k) = if r.val = k then 1#1 else 0#1 := by
  show BitVec.ofBool (BitVec.ofNat 32 r.val == BitVec.ofNat 32 k) = _
  have : (BitVec.ofNat 32 r.val == BitVec.ofNat 32 k) = decide (r.val = k) := by
    rw [Bool.eq_iff_iff, beq_iff_eq, decide_eq_true_iff]
    constructor
    · intro h; have h := congrArg BitVec.toNat h; rw [BitVec.toNat_ofNat, BitVec.toNat_ofNat] at h; omega
    · intro h; rw [h]
  rw [this]
  by_cases h : r.val = k <;> simp [h]

/-- One block convolved, at an index. -/
theorem step_apply (w0 w1 w2 b : FVec Ideal S1x768 .f32) (x : FVec Ideal S512x768 .f32) (p n : FVec Ideal S1x768 .f32) (r : Fin 512) (l : Fin 768) :
    step w0 w1 w2 b x p n (ix2 r l)
      = ((b (ix2 0 l) + (if r.val = 0 then p (ix2 0 l) else x (ix2 ⟨(r.val + 511) % 512, by omega⟩ l)) * w0 (ix2 0 l) : EReal)
        + x (ix2 r l) * w1 (ix2 0 l))
        + (if r.val = 511 then n (ix2 0 l) else x (ix2 ⟨(r.val + 1) % 512, by omega⟩ l)) * w2 (ix2 0 l) := by
  pointwise [step]
  show (b (ix2 0 l) + Scalar.select (IntOp.cmpi .eq (BitVec.ofNat 32 r.val) (BitVec.ofNat 32 0)) (p (ix2 0 l)) (x (ix2 ⟨(r.val + 511) % 512, by omega⟩ l)) * w0 (ix2 0 l) : EReal)
    + x (ix2 r l) * w1 (ix2 0 l)
    + Scalar.select (IntOp.cmpi .eq (BitVec.ofNat 32 r.val) (BitVec.ofNat 32 511)) (n (ix2 0 l)) (x (ix2 ⟨(r.val + 512 - 511) % 512, by omega⟩ l)) * w2 (ix2 0 l) = _
  rw [row_eq r 0 (by omega), row_eq r 511 (by omega)]
  have e : (⟨(r.val + 512 - 511) % 512, by omega⟩ : Fin 512) = ⟨(r.val + 1) % 512, by omega⟩ := Fin.ext (by show (r.val + 512 - 511) % 512 = (r.val + 1) % 512; omega)
  rw [e]
  by_cases h0 : r.val = 0 <;> by_cases h1 : r.val = 511 <;> simp only [h0, h1, if_true, if_false] <;> rfl

/-- The gated product of the block's last two thirds. -/
def gated (y : FVec Ideal S512x768 .f32) : FVec Ideal S512x256 .bf16 :=
  truncf .bf16 (mulf (extractStridedSlice S512x256 ![0, 512] y slices_S512x768_o0_512_S512x256) (extractStridedSlice S512x256 ![0, 256] y slices_S512x768_o0_256_S512x256)) bitsLt_bf16_f32

/-- The block's first third. -/
def gate (y : FVec Ideal S512x768 .f32) : FVec Ideal S512x256 .bf16 :=
  truncf .bf16 (extractStridedSlice S512x256 ![0, 0] y slices_S512x768_o0_0_S512x256) bitsLt_bf16_f32

/-- The gated product at an index. -/
theorem gated_apply (y : FVec Ideal S512x768 .f32) (r : Fin 512) (l : Fin 256) :
    gated y (ix2 r l) = (y (ix2 r ⟨512 + l.val, by omega⟩) * y (ix2 r ⟨256 + l.val, by omega⟩) : EReal) := by
  pointwise [gated]

/-- The first third at an index. -/
theorem gate_apply (y : FVec Ideal S512x768 .f32) (r : Fin 512) (l : Fin 256) :
    gate y (ix2 r l) = y (ix2 r ⟨l.val, by omega⟩) := by
  pointwise [gate]

/-- 512 rows of the sequence. -/
def rows (x : FVec Ideal S2048x768 .bf16) (k : ℕ) (h : ∀ a, (![k, 0] : Fin 2 → ℕ) a + S512x768.size a ≤ S2048x768.size a) : FVec Ideal S512x768 .f32 :=
  fun y => x ((Rect.unit (s := S2048x768) ![k, 0] S512x768.size h).emb y)

/-- Row `j` of the eight rows from `k` on. -/
def rowOf (x : FVec Ideal S2048x768 .bf16) (k j : ℕ) (h : ∀ a, (![k, 0] : Fin 2 → ℕ) a + S8x768.size a ≤ S2048x768.size a) (hj : S8x768.Slices ![j, 0] S1x768) : FVec Ideal S1x768 .f32 :=
  extractStridedSlice (s := S8x768) S1x768 ![j, 0] (fun y : S8x768.Idx => x ((Rect.unit (s := S2048x768) ![k, 0] S8x768.size h).emb y)) hj

/-- A row of weights. -/
def wrow (x : FVec Ideal S3x768 .f32) (k : ℕ) (h : ∀ a, (![k, 0] : Fin 2 → ℕ) a + S1x768.size a ≤ S3x768.size a) : FVec Ideal S1x768 .f32 :=
  fun y => x ((Rect.unit (s := S3x768) ![k, 0] S1x768.size h).emb y)

/-- The row of zeros. -/
def zrow : FVec Ideal S1x768 .f32 := broadcast S1x768 (Scalar.ofBits (F := Ideal) .f32 0x00000000#32)

/-- The four blocks convolved, each with its neighbours' rows. -/
def yBlk (x : FVec Ideal S2048x768 .bf16) (w : FVec Ideal S3x768 .f32) (b : FVec Ideal S1x768 .f32) : Fin 4 → FVec Ideal S512x768 .f32
  | 0 => step (wrow w 0 inb_S3x768_S1x768_0_0) (wrow w 1 inb_S3x768_S1x768_1_0) (wrow w 2 inb_S3x768_S1x768_2_0) b (rows x 0 inb_S2048x768_S512x768_0_0)
      zrow (rowOf x 512 0 inb_S2048x768_S8x768_512_0 slices_S8x768_o0_0_S1x768)
  | 1 => step (wrow w 0 inb_S3x768_S1x768_0_0) (wrow w 1 inb_S3x768_S1x768_1_0) (wrow w 2 inb_S3x768_S1x768_2_0) b (rows x 512 inb_S2048x768_S512x768_512_0)
      (rowOf x 504 7 inb_S2048x768_S8x768_504_0 slices_S8x768_o7_0_S1x768) (rowOf x 1024 0 inb_S2048x768_S8x768_1024_0 slices_S8x768_o0_0_S1x768)
  | 2 => step (wrow w 0 inb_S3x768_S1x768_0_0) (wrow w 1 inb_S3x768_S1x768_1_0) (wrow w 2 inb_S3x768_S1x768_2_0) b (rows x 1024 inb_S2048x768_S512x768_1024_0)
      (rowOf x 1016 7 inb_S2048x768_S8x768_1016_0 slices_S8x768_o7_0_S1x768) (rowOf x 1536 0 inb_S2048x768_S8x768_1536_0 slices_S8x768_o0_0_S1x768)
  | 3 => step (wrow w 0 inb_S3x768_S1x768_0_0) (wrow w 1 inb_S3x768_S1x768_1_0) (wrow w 2 inb_S3x768_S1x768_2_0) b (rows x 1536 inb_S2048x768_S512x768_1536_0)
      (rowOf x 1528 7 inb_S2048x768_S8x768_1528_0 slices_S8x768_o7_0_S1x768) zrow

/-- A row and column of the sequence, zero outside of it. -/
def at0 (x : FVec Ideal S2048x768 .bf16) (r : ℕ) (l : Fin 768) : EReal := if h : r < 2048 then x (ix2 ⟨r, h⟩ l) else 0

/-- The convolution of a sequence at row `R`: the row before (none before the first), the row and the row after. -/
def conv (x : FVec Ideal S2048x768 .bf16) (w : FVec Ideal S3x768 .f32) (b : FVec Ideal S1x768 .f32) (R : ℕ) (l : Fin 768) : EReal :=
  ((b (ix2 0 l) + (if R = 0 then 0 else at0 x (R - 1) l) * w (ix2 0 l)) + at0 x R l * w (ix2 1 l)) + at0 x (R + 1) l * w (ix2 2 l)

/-- A block of rows at an index. -/
theorem rows_apply (x : FVec Ideal S2048x768 .bf16) (k : ℕ) (h : ∀ a, (![k, 0] : Fin 2 → ℕ) a + S512x768.size a ≤ S2048x768.size a) (r : Fin 512) (l : Fin 768) :
    rows x k h (ix2 r l) = at0 x (k + r.val) l := by
  have hk : k + 512 ≤ 2048 := h 0
  rw [at0, dif_pos (by omega)]
  refine congrArg x ?_
  funext a; apply Fin.ext
  match a with
  | ⟨0, _⟩ => show k + 1 * r.val = k + r.val; omega
  | ⟨1, _⟩ => show 0 + 1 * l.val = l.val; omega

/-- One row of eight at an index. -/
theorem rowOf_apply (x : FVec Ideal S2048x768 .bf16) (k j : ℕ) (h : ∀ a, (![k, 0] : Fin 2 → ℕ) a + S8x768.size a ≤ S2048x768.size a) (hj : S8x768.Slices ![j, 0] S1x768) (hj8 : j < 8) (l : Fin 768) :
    rowOf x k j h hj (ix2 0 l) = at0 x (k + j) l := by
  have hk : k + 8 ≤ 2048 := h 0
  rw [at0, dif_pos (by omega)]
  refine congrArg x ?_
  funext a; apply Fin.ext
  match a with
  | ⟨0, _⟩ => show k + 1 * (j + 0) = k + j; omega
  | ⟨1, _⟩ => show 0 + 1 * (0 + l.val) = l.val; omega

/-- A row of weights at an index. -/
theorem wrow_apply (x : FVec Ideal S3x768 .f32) (k : Fin 3) (h : ∀ a, (![k.val, 0] : Fin 2 → ℕ) a + S1x768.size a ≤ S3x768.size a) (l : Fin 768) :
    wrow x k.val h (ix2 0 l) = x (ix2 k l) := by
  refine congrArg x ?_
  funext a; apply Fin.ext
  match a with
  | ⟨0, _⟩ => show k.val + 1 * 0 = k.val; omega
  | ⟨1, _⟩ => show 0 + 1 * l.val = l.val; omega

/-- The row of zeros at an index. -/
theorem zrow_apply (l : Fin 768) : zrow (ix2 0 l) = (0 : EReal) := by
  pointwise [zrow]

/-- One block of a sequence convolved is the sequence's convolution at its rows. -/
theorem step_conv (x : FVec Ideal S2048x768 .bf16) (w : FVec Ideal S3x768 .f32) (b : FVec Ideal S1x768 .f32) (k : ℕ)
    (h : ∀ a, (![k, 0] : Fin 2 → ℕ) a + S512x768.size a ≤ S2048x768.size a) (p n : FVec Ideal S1x768 .f32) (r : Fin 512) (l : Fin 768)
    (hp : p (ix2 0 l) = if k = 0 then (0 : EReal) else at0 x (k - 1) l) (hn : n (ix2 0 l) = at0 x (k + 512) l) :
    step (wrow w 0 inb_S3x768_S1x768_0_0) (wrow w 1 inb_S3x768_S1x768_1_0) (wrow w 2 inb_S3x768_S1x768_2_0) b (rows x k h) p n (ix2 r l)
      = conv x w b (k + r.val) l := by
  rw [step_apply, rows_apply, rows_apply, rows_apply, hp, hn, show wrow w 0 inb_S3x768_S1x768_0_0 (ix2 0 l) = w (ix2 0 l) from wrow_apply w 0 _ l, show wrow w 1 inb_S3x768_S1x768_1_0 (ix2 0 l) = w (ix2 1 l) from wrow_apply w 1 _ l,
    show wrow w 2 inb_S3x768_S1x768_2_0 (ix2 0 l) = w (ix2 2 l) from wrow_apply w 2 _ l, conv]
  refine congrArg₂ (· + ·) (congrArg₂ (· + ·) (congrArg₂ (· + ·) rfl (congrArg₂ (· * ·) ?_ rfl)) rfl) (congrArg₂ (· * ·) ?_ rfl)
  · by_cases hr : r.val = 0
    · rw [if_pos hr, hr]; rfl
    · rw [if_neg hr, if_neg (by omega)]
      exact congrArg (fun q => at0 x q l) (by show k + (r.val + 511) % 512 = k + r.val - 1; omega)
  · by_cases hr : r.val = 511
    · rw [if_pos hr, hr]
    · rw [if_neg hr]
      exact congrArg (fun q => at0 x q l) (by show k + (r.val + 1) % 512 = k + r.val + 1; omega)

/-- Each of the four blocks is the sequence's convolution at its rows. -/
theorem yBlk_apply (x : FVec Ideal S2048x768 .bf16) (w : FVec Ideal S3x768 .f32) (b : FVec Ideal S1x768 .f32) (q : Fin 4) (r : Fin 512) (l : Fin 768) :
    yBlk x w b q (ix2 r l) = conv x w b (512 * q.val + r.val) l := by
  match q with
  | 0 => exact step_conv x w b 0 _ _ _ r l (zrow_apply l) (rowOf_apply x 512 0 _ _ (by omega) l)
  | 1 => exact step_conv x w b 512 _ _ _ r l (rowOf_apply x 504 7 _ _ (by omega) l) (rowOf_apply x 1024 0 _ _ (by omega) l)
  | 2 => exact step_conv x w b 1024 _ _ _ r l (rowOf_apply x 1016 7 _ _ (by omega) l) (rowOf_apply x 1536 0 _ _ (by omega) l)
  | 3 => exact step_conv x w b 1536 _ _ _ r l (rowOf_apply x 1528 7 _ _ (by omega) l) ((zrow_apply l).trans (by rw [at0, dif_neg (by omega)]))

end Cert.Proof.Conv

end
-- ==== Proof.ConvOut.lean ====
/- What the short convolution's body leaves in its two result blocks, at an index. -/
module

public import proofs.«01_k».proof.Proof.ConvComp

@[expose] public section

set_option maxRecDepth 16384

noncomputable section

namespace Cert.Proof.Conv

open Cert.ConvIdeal Cert.ConvIdeal.Gen Idealize.ShloMosaic Idealize.ShloMosaic.TcCoe

/-- What the body stores for the gated product: its four blocks of rows. -/
theorem out3_eq (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) :
    out0_A_3 c i arg1 harg1 arg2 harg2 arg3 harg3 arg4 harg4 arg5 harg5 x0 x1 x2
      = VO0_3.read (Elt Ideal) (VO0_3.writes (Elt Ideal) VO0_3.junk
      [⟨Rect.unit (s := S2048x256) ![1536, 0] S512x256.size inb_S2048x256_S512x256_1536_0, gated (yBlk x0 x1 x2 3)⟩,
       ⟨Rect.unit (s := S2048x256) ![1024, 0] S512x256.size inb_S2048x256_S512x256_1024_0, gated (yBlk x0 x1 x2 2)⟩,
       ⟨Rect.unit (s := S2048x256) ![512, 0] S512x256.size inb_S2048x256_S512x256_512_0, gated (yBlk x0 x1 x2 1)⟩,
       ⟨Rect.unit (s := S2048x256) ![0, 0] S512x256.size inb_S2048x256_S512x256_0_0, gated (yBlk x0 x1 x2 0)⟩]) := by
  have hx : ∀ (k : ℕ) (h : ∀ a, (![k, 0] : Fin 2 → ℕ) a + S512x768.size a ≤ S2048x768.size a), arg1.view.readAt (Elt Ideal) (Rect.unit (s := S2048x768) ![k, 0] S512x768.size h).toLoadRect (harg1.unread x0)
      = rows x0 k h := fun k h => by
    funext y; rw [View.readAt_apply, harg1.read_unread]; rfl
  have h8 : ∀ (k : ℕ) (h : ∀ a, (![k, 0] : Fin 2 → ℕ) a + S8x768.size a ≤ S2048x768.size a), arg1.view.readAt (Elt Ideal) (Rect.unit (s := S2048x768) ![k, 0] S8x768.size h).toLoadRect (harg1.unread x0)
      = fun y : S8x768.Idx => x0 ((Rect.unit (s := S2048x768) ![k, 0] S8x768.size h).emb y) := fun k h => by
    funext y; rw [View.readAt_apply, harg1.read_unread]; rfl
  have hw : ∀ (k : ℕ) (h : ∀ a, (![k, 0] : Fin 2 → ℕ) a + S1x768.size a ≤ S3x768.size a), arg2.view.readAt (Elt Ideal) (Rect.unit (s := S3x768) ![k, 0] S1x768.size h).toLoadRect (harg2.unread x1)
      = wrow x1 k h := fun k h => by
    funext y; rw [View.readAt_apply, harg2.read_unread]; rfl
  have hb : arg3.view.readAt (Elt Ideal) (Rect.unit (s := S1x768) ![0, 0] S1x768.size inb_S1x768_S1x768_0_0).toLoadRect (harg3.unread x2) = x2 := by
    funext y; rw [View.readAt_apply, harg3.read_unread]; congr 1; funext a; apply Fin.ext
    match a with
    | ⟨0, _⟩ => show 0 + 1 * (y 0).val = (y 0).val; omega
    | ⟨1, _⟩ => show 0 + 1 * (y 1).val = (y 1).val; omega
  unfold out0_A_3 kernelRun0_A
  dsimp only
  simp only [kernelRun0_A.sl.r_6, kernelRun0_A.sl.r_5, kernelRun0_A.sl.r_4, kernelRun0_A.sl.r_3, kernelRun0_A.sl.r_2, kernelRun0_A.sl.r_1, kernelRun0_A.sl.r]
  simp only [hx, h8, hw, hb]
  rfl

/-- The same at row `512 q + r`. -/
theorem out3_apply (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) (q : Fin 4) (r : Fin 512) (l : Fin 256) (R : Fin 2048) (hR : R.val = 512 * q.val + r.val) :
    out0_A_3 c i arg1 harg1 arg2 harg2 arg3 harg3 arg4 harg4 arg5 harg5 x0 x1 x2 (ix2 R l) = gated (yBlk x0 x1 x2 q) (ix2 r l) := by
  rw [out3_eq]
  match q with
  | 0 =>
    have hR' : R.val = 0 + r.val := hR
    exact (View.read_writes_cons_unit_of_not_mem _ _ _ _ _ _ rfl (0 : Fin 2) (Or.inl (show R.val < 1536 by omega))).trans <|
      (View.read_writes_cons_unit_of_not_mem _ _ _ _ _ _ rfl (0 : Fin 2) (Or.inl (show R.val < 1024 by omega))).trans <|
      (View.read_writes_cons_unit_of_not_mem _ _ _ _ _ _ rfl (0 : Fin 2) (Or.inl (show R.val < 512 by omega))).trans <|
      View.read_writes_cons_unit_of_mem (s := S2048x256) _ _ _ _ _ (ix2 R l) (ix2 r l) rfl (fun a => by
      match a with
      | ⟨0, _⟩ => show R.val = 0 + r.val; omega
      | ⟨1, _⟩ => show l.val = 0 + l.val; omega)
  | 1 =>
    have hR' : R.val = 512 + r.val := hR
    exact (View.read_writes_cons_unit_of_not_mem _ _ _ _ _ _ rfl (0 : Fin 2) (Or.inl (show R.val < 1536 by omega))).trans <|
      (View.read_writes_cons_unit_of_not_mem _ _ _ _ _ _ rfl (0 : Fin 2) (Or.inl (show R.val < 1024 by omega))).trans <|
      View.read_writes_cons_unit_of_mem (s := S2048x256) _ _ _ _ _ (ix2 R l) (ix2 r l) rfl (fun a => by
      match a with
      | ⟨0, _⟩ => show R.val = 512 + r.val; omega
      | ⟨1, _⟩ => show l.val = 0 + l.val; omega)
  | 2 =>
    have hR' : R.val = 1024 + r.val := hR
    exact (View.read_writes_cons_unit_of_not_mem _ _ _ _ _ _ rfl (0 : Fin 2) (Or.inl (show R.val < 1536 by omega))).trans <|
      View.read_writes_cons_unit_of_mem (s := S2048x256) _ _ _ _ _ (ix2 R l) (ix2 r l) rfl (fun a => by
      match a with
      | ⟨0, _⟩ => show R.val = 1024 + r.val; omega
      | ⟨1, _⟩ => show l.val = 0 + l.val; omega)
  | 3 =>
    have hR' : R.val = 1536 + r.val := hR
    exact View.read_writes_cons_unit_of_mem (s := S2048x256) _ _ _ _ _ (ix2 R l) (ix2 r l) rfl (fun a => by
      match a with
      | ⟨0, _⟩ => show R.val = 1536 + r.val; omega
      | ⟨1, _⟩ => show l.val = 0 + l.val; omega)

/-- What the body stores for the gate: its four blocks of rows. -/
theorem out4_eq (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) :
    out0_A_4 c i arg1 harg1 arg2 harg2 arg3 harg3 arg4 harg4 arg5 harg5 x0 x1 x2
      = VO0_4.read (Elt Ideal) (VO0_4.writes (Elt Ideal) VO0_4.junk
      [⟨Rect.unit (s := S2048x256) ![1536, 0] S512x256.size inb_S2048x256_S512x256_1536_0, gate (yBlk x0 x1 x2 3)⟩,
       ⟨Rect.unit (s := S2048x256) ![1024, 0] S512x256.size inb_S2048x256_S512x256_1024_0, gate (yBlk x0 x1 x2 2)⟩,
       ⟨Rect.unit (s := S2048x256) ![512, 0] S512x256.size inb_S2048x256_S512x256_512_0, gate (yBlk x0 x1 x2 1)⟩,
       ⟨Rect.unit (s := S2048x256) ![0, 0] S512x256.size inb_S2048x256_S512x256_0_0, gate (yBlk x0 x1 x2 0)⟩]) := by
  have hx : ∀ (k : ℕ) (h : ∀ a, (![k, 0] : Fin 2 → ℕ) a + S512x768.size a ≤ S2048x768.size a), arg1.view.readAt (Elt Ideal) (Rect.unit (s := S2048x768) ![k, 0] S512x768.size h).toLoadRect (harg1.unread x0)
      = rows x0 k h := fun k h => by
    funext y; rw [View.readAt_apply, harg1.read_unread]; rfl
  have h8 : ∀ (k : ℕ) (h : ∀ a, (![k, 0] : Fin 2 → ℕ) a + S8x768.size a ≤ S2048x768.size a), arg1.view.readAt (Elt Ideal) (Rect.unit (s := S2048x768) ![k, 0] S8x768.size h).toLoadRect (harg1.unread x0)
      = fun y : S8x768.Idx => x0 ((Rect.unit (s := S2048x768) ![k, 0] S8x768.size h).emb y) := fun k h => by
    funext y; rw [View.readAt_apply, harg1.read_unread]; rfl
  have hw : ∀ (k : ℕ) (h : ∀ a, (![k, 0] : Fin 2 → ℕ) a + S1x768.size a ≤ S3x768.size a), arg2.view.readAt (Elt Ideal) (Rect.unit (s := S3x768) ![k, 0] S1x768.size h).toLoadRect (harg2.unread x1)
      = wrow x1 k h := fun k h => by
    funext y; rw [View.readAt_apply, harg2.read_unread]; rfl
  have hb : arg3.view.readAt (Elt Ideal) (Rect.unit (s := S1x768) ![0, 0] S1x768.size inb_S1x768_S1x768_0_0).toLoadRect (harg3.unread x2) = x2 := by
    funext y; rw [View.readAt_apply, harg3.read_unread]; congr 1; funext a; apply Fin.ext
    match a with
    | ⟨0, _⟩ => show 0 + 1 * (y 0).val = (y 0).val; omega
    | ⟨1, _⟩ => show 0 + 1 * (y 1).val = (y 1).val; omega
  unfold out0_A_4 kernelRun0_A
  dsimp only
  simp only [kernelRun0_A.sl.r_6, kernelRun0_A.sl.r_5, kernelRun0_A.sl.r_4, kernelRun0_A.sl.r_3, kernelRun0_A.sl.r_2, kernelRun0_A.sl.r_1, kernelRun0_A.sl.r]
  simp only [hx, h8, hw, hb]
  rfl

/-- The same at row `512 q + r`. -/
theorem out4_apply (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) (q : Fin 4) (r : Fin 512) (l : Fin 256) (R : Fin 2048) (hR : R.val = 512 * q.val + r.val) :
    out0_A_4 c i arg1 harg1 arg2 harg2 arg3 harg3 arg4 harg4 arg5 harg5 x0 x1 x2 (ix2 R l) = gate (yBlk x0 x1 x2 q) (ix2 r l) := by
  rw [out4_eq]
  match q with
  | 0 =>
    have hR' : R.val = 0 + r.val := hR
    exact (View.read_writes_cons_unit_of_not_mem _ _ _ _ _ _ rfl (0 : Fin 2) (Or.inl (show R.val < 1536 by omega))).trans <|
      (View.read_writes_cons_unit_of_not_mem _ _ _ _ _ _ rfl (0 : Fin 2) (Or.inl (show R.val < 1024 by omega))).trans <|
      (View.read_writes_cons_unit_of_not_mem _ _ _ _ _ _ rfl (0 : Fin 2) (Or.inl (show R.val < 512 by omega))).trans <|
      View.read_writes_cons_unit_of_mem (s := S2048x256) _ _ _ _ _ (ix2 R l) (ix2 r l) rfl (fun a => by
      match a with
      | ⟨0, _⟩ => show R.val = 0 + r.val; omega
      | ⟨1, _⟩ => show l.val = 0 + l.val; omega)
  | 1 =>
    have hR' : R.val = 512 + r.val := hR
    exact (View.read_writes_cons_unit_of_not_mem _ _ _ _ _ _ rfl (0 : Fin 2) (Or.inl (show R.val < 1536 by omega))).trans <|
      (View.read_writes_cons_unit_of_not_mem _ _ _ _ _ _ rfl (0 : Fin 2) (Or.inl (show R.val < 1024 by omega))).trans <|
      View.read_writes_cons_unit_of_mem (s := S2048x256) _ _ _ _ _ (ix2 R l) (ix2 r l) rfl (fun a => by
      match a with
      | ⟨0, _⟩ => show R.val = 512 + r.val; omega
      | ⟨1, _⟩ => show l.val = 0 + l.val; omega)
  | 2 =>
    have hR' : R.val = 1024 + r.val := hR
    exact (View.read_writes_cons_unit_of_not_mem _ _ _ _ _ _ rfl (0 : Fin 2) (Or.inl (show R.val < 1536 by omega))).trans <|
      View.read_writes_cons_unit_of_mem (s := S2048x256) _ _ _ _ _ (ix2 R l) (ix2 r l) rfl (fun a => by
      match a with
      | ⟨0, _⟩ => show R.val = 1024 + r.val; omega
      | ⟨1, _⟩ => show l.val = 0 + l.val; omega)
  | 3 =>
    have hR' : R.val = 1536 + r.val := hR
    exact View.read_writes_cons_unit_of_mem (s := S2048x256) _ _ _ _ _ (ix2 R l) (ix2 r l) rfl (fun a => by
      match a with
      | ⟨0, _⟩ => show R.val = 1536 + r.val; omega
      | ⟨1, _⟩ => show l.val = 0 + l.val; omega)

/-- The gated product's block at an index: two channels' convolutions multiplied. -/
theorem out3_conv (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) (R : Fin 2048) (l : Fin 256) :
    out0_A_3 c i arg1 harg1 arg2 harg2 arg3 harg3 arg4 harg4 arg5 harg5 x0 x1 x2 (ix2 R l) = (conv x0 x1 x2 R.val ⟨512 + l.val, by omega⟩ * conv x0 x1 x2 R.val ⟨256 + l.val, by omega⟩ : EReal) := by
  have h := out3_apply c i arg1 harg1 arg2 harg2 arg3 harg3 arg4 harg4 arg5 harg5 x0 x1 x2 ⟨R.val / 512, by omega⟩ ⟨R.val % 512, by omega⟩ l R (by show R.val = 512 * (R.val / 512) + R.val % 512; omega)
  rw [h, gated_apply, yBlk_apply, yBlk_apply]
  have e : 512 * (R.val / 512) + R.val % 512 = R.val := by omega
  simp only [e]

/-- The gate's block at an index: a channel's convolution. -/
theorem out4_conv (c : Dev nD) (i : grid0.Coords) (arg1 : Memref sig .tc .vmem S2048x768 .bf16) (harg1 : arg1.IsWhole) (arg2 : Memref sig .tc .vmem S3x768 .f32) (harg2 : arg2.IsWhole)
    (arg3 : Memref sig .tc .vmem S1x768 .f32) (harg3 : arg3.IsWhole) (arg4 : Memref sig .tc .vmem S2048x256 .bf16) (harg4 : arg4.IsWhole) (arg5 : Memref sig .tc .vmem S2048x256 .bf16) (harg5 : arg5.IsWhole)
    (x0 : Vec Ideal S2048x768 .bf16) (x1 : Vec Ideal S3x768 .f32) (x2 : Vec Ideal S1x768 .f32) (R : Fin 2048) (l : Fin 256) :
    out0_A_4 c i arg1 harg1 arg2 harg2 arg3 harg3 arg4 harg4 arg5 harg5 x0 x1 x2 (ix2 R l) = conv x0 x1 x2 R.val ⟨l.val, by omega⟩ := by
  have h := out4_apply c i arg1 harg1 arg2 harg2 arg3 harg3 arg4 harg4 arg5 harg5 x0 x1 x2 ⟨R.val / 512, by omega⟩ ⟨R.val % 512, by omega⟩ l R (by show R.val = 512 * (R.val / 512) + R.val % 512; omega)
  rw [h, gate_apply, yBlk_apply]
  have e : 512 * (R.val / 512) + R.val % 512 = R.val := by omega
  simp only [e]

end Cert.Proof.Conv

end
-- ==== Proof.ConvArr.lean ====
/- The short convolution's two result arrays, at an index. -/
module

public import proofs.«01_k».proof.Proof.ConvOut

@[expose] public section

set_option maxRecDepth 16384

noncomputable section

namespace Cert.Proof.Conv

open Cert.ConvIdeal Cert.ConvIdeal.Gen Idealize.ShloMosaic Idealize.ShloMosaic.TcCoe

/-- A sequence's rows and the convolved columns of the projections. -/
def seqOf (X : FVec Ideal S16384x2816 .bf16) (s : Fin 8) : FVec Ideal S2048x768 .bf16 :=
  fun y => X (ix2 ⟨2048 * s.val + (y 0).val, by have : (y 0).val < 2048 := (y 0).isLt; omega⟩ ⟨768 + (y 1).val, by have : (y 1).val < 768 := (y 1).isLt; omega⟩)

variable (m : (ℓ : Loc nD τ sig) → Buf (Elt Ideal) ℓ) (c : Dev nD)

/-- Where each window's block lies at a point. -/
theorem idx_facts : ∀ t : Fin cfg0.N, win0_0.index t (0 : Fin 2) = t.val ∧ win0_0.index t (1 : Fin 2) = 1
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

/-- The projections a point reads. -/
theorem x_eq (t : Fin cfg0.N) (s : Fin 8) (hs : s.val = t.val) : X0_0 m c t = seqOf (m ((c : Thread nD τ).loc main_arg0)) s := by
  obtain ⟨e0, e1, _⟩ := idx_facts t
  funext y
  unfold X0_0 Pipeline.Window.fill
  rw [dif_pos (moved0_0 t y)]
  show V m c main_arg0 (((cfg0.win 0).blk t).view.emb _) = _
  rw [V_main_arg0]
  unfold seqOf
  congr 1
  funext a; apply Fin.ext
  match a with
  | ⟨0, _⟩ => show win0_0.index t (0 : Fin 2) * 2048 + 1 * (y 0).val = 2048 * s.val + (y 0).val; omega
  | ⟨1, _⟩ => show win0_0.index t (1 : Fin 2) * 768 + 1 * (y 1).val = 768 + (y 1).val; omega

/-- The weights a point reads. -/
theorem w_eq (t : Fin cfg0.N) : iblk m c 1 t = m ((c : Thread nD τ).loc main_arg1) := by
  obtain ⟨_, _, e0, e1, _⟩ := idx_facts t
  funext y
  show V m c main_arg1 (((cfg0.win 1).blk t).view.emb y) = _
  rw [V_main_arg1]
  congr 1
  funext a; apply Fin.ext
  match a with
  | ⟨0, _⟩ => show win0_1.index t (0 : Fin 2) * 3 + 1 * (y 0).val = (y 0).val; omega
  | ⟨1, _⟩ => show win0_1.index t (1 : Fin 2) * 768 + 1 * (y 1).val = (y 1).val; omega

/-- The bias a point reads. -/
theorem b_eq (t : Fin cfg0.N) : iblk m c 2 t = m ((c : Thread nD τ).loc main_arg2) := by
  obtain ⟨_, _, _, _, e0, e1, _⟩ := idx_facts t
  funext y
  show V m c main_arg2 (((cfg0.win 2).blk t).view.emb y) = _
  rw [V_main_arg2]
  congr 1
  funext a; apply Fin.ext
  match a with
  | ⟨0, _⟩ => show win0_2.index t (0 : Fin 2) * 1 + 1 * (y 0).val = (y 0).val; omega
  | ⟨1, _⟩ => show win0_2.index t (1 : Fin 2) * 768 + 1 * (y 1).val = (y 1).val; omega

/-- Where the gated product's block lies in its array. -/
theorem emb3 (t : Fin cfg0.N) (r : Fin 2048) (x : Fin 256) (i : Fin 16384) (hi : i.val = 2048 * t.val + r.val) :
    ((cfg0.win 3).blk t).view.emb (ix2 r x) = ix2 i x := by
  obtain ⟨_, _, _, _, _, _, e0, e1, _⟩ := idx_facts t
  funext a; apply Fin.ext
  match a with
  | ⟨0, _⟩ => show win0_3.index t (0 : Fin 2) * 2048 + 1 * r.val = i.val; omega
  | ⟨1, _⟩ => show win0_3.index t (1 : Fin 2) * 256 + 1 * x.val = x.val; omega

/-- Where the gate's block lies in its array. -/
theorem emb4 (t : Fin cfg0.N) (r : Fin 2048) (x : Fin 256) (i : Fin 16384) (hi : i.val = 2048 * t.val + r.val) :
    ((cfg0.win 4).blk t).view.emb (ix2 r x) = ix2 i x := by
  obtain ⟨_, _, _, _, _, _, _, _, e0, e1⟩ := idx_facts t
  funext a; apply Fin.ext
  match a with
  | ⟨0, _⟩ => show win0_4.index t (0 : Fin 2) * 2048 + 1 * r.val = i.val; omega
  | ⟨1, _⟩ => show win0_4.index t (1 : Fin 2) * 256 + 1 * x.val = x.val; omega

/-- Every point writes its block of the gated product back. -/
theorem flush3 : ∀ t : Fin cfg0.N, (cfg0.win 3).flush t = true :=
  (by decide +kernel : ∀ t : Fin grid0.N, win0_3.flush t = true)

/-- Every point writes its block of the gate back. -/
theorem flush4 : ∀ t : Fin cfg0.N, (cfg0.win 4).flush t = true :=
  (by decide +kernel : ∀ t : Fin grid0.N, win0_4.flush t = true)

/-- The gated product's array at an index. -/
theorem arr3_apply (s : Fin 8) (r : Fin 2048) (l : Fin 256) (i : Fin 16384) (hi : i.val = 2048 * s.val + r.val) :
    (dats m 0 c).arrAt 3 cfg0.N (ix2 i l)
      = (conv (seqOf (m ((c : Thread nD τ).loc main_arg0)) s) (m ((c : Thread nD τ).loc main_arg1)) (m ((c : Thread nD τ).loc main_arg2)) r.val ⟨512 + l.val, by omega⟩
        * conv (seqOf (m ((c : Thread nD τ).loc main_arg0)) s) (m ((c : Thread nD τ).loc main_arg1)) (m ((c : Thread nD τ).loc main_arg2)) r.val ⟨256 + l.val, by omega⟩ : EReal) := by
  obtain ⟨t, ht⟩ : ∃ t : Fin cfg0.N, s.val = t.val := ⟨⟨s.val, s.isLt⟩, rfl⟩
  have b := congrFun (Cert.ConvIdeal.Value.blocks3 m c t (flush3 t)) (ix2 r l)
  rw [Cert.ConvIdeal.Value.flushed3_A] at b
  have b' : (dats m 0 c).arrAt 3 cfg0.N (((cfg0.win 3).blk t).view.emb (ix2 r l)) = out0_A_3 c (grid0.coords t) _ _ _ _ _ _ _ _ _ _ (X0_0 m c t) (iblk m c 1 t) (iblk m c 2 t) (ix2 r l) := b
  rw [emb3 t r l i (by omega), x_eq m c t s ht, w_eq, b_eq] at b'
  exact b'.trans (out3_conv c _ _ _ _ _ _ _ _ _ _ _ _ _ _ r l)

/-- The gate's array at an index. -/
theorem arr4_apply (s : Fin 8) (r : Fin 2048) (l : Fin 256) (i : Fin 16384) (hi : i.val = 2048 * s.val + r.val) :
    (dats m 0 c).arrAt 4 cfg0.N (ix2 i l)
      = conv (seqOf (m ((c : Thread nD τ).loc main_arg0)) s) (m ((c : Thread nD τ).loc main_arg1)) (m ((c : Thread nD τ).loc main_arg2)) r.val ⟨l.val, by omega⟩ := by
  obtain ⟨t, ht⟩ : ∃ t : Fin cfg0.N, s.val = t.val := ⟨⟨s.val, s.isLt⟩, rfl⟩
  have b := congrFun (Cert.ConvIdeal.Value.blocks4 m c t (flush4 t)) (ix2 r l)
  rw [Cert.ConvIdeal.Value.flushed4_A] at b
  have b' : (dats m 0 c).arrAt 4 cfg0.N (((cfg0.win 4).blk t).view.emb (ix2 r l)) = out0_A_4 c (grid0.coords t) _ _ _ _ _ _ _ _ _ _ (X0_0 m c t) (iblk m c 1 t) (iblk m c 2 t) (ix2 r l) := b
  rw [emb4 t r l i (by omega), x_eq m c t s ht, w_eq, b_eq] at b'
  exact b'.trans (out4_conv c _ _ _ _ _ _ _ _ _ _ _ _ _ _ r l)

end Cert.Proof.Conv

end
-- ==== Proof.ConvRef.lean ====
/- The short convolution's reference, at an index. -/
module

public import proofs.«01_k».proof.Proof.ConvArr
public import proofs.«01_k».proof.Proof.Gen.ConvRefIdeal.Run
public import proofs.«01_k».proof.Proof.Gen.ConvRefIdeal.Read
public import Idealize.ShloMosaic.Lib.KernelVsHost

@[expose] public section

set_option maxRecDepth 16384

noncomputable section

namespace Cert.Proof.Conv

open Cert.ConvRefIdeal Cert.ConvRefIdeal.Gen Cert.ConvRefIdeal.Read Idealize.ShloMosaic Idealize.ShloMosaic.TcCoe

variable (x0 : FVec Ideal S16384x2816 .bf16) (x1 : FVec Ideal S3x768 .f32) (x2 : FVec Ideal S1x768 .f32)

/-- A sequence's row and column in the reference's reshaped projections. -/
theorem v2_apply (s : Fin 8) (r : Fin 2048) (l : Fin 768) : val_main_v2 (F := Ideal) x0 (ix3 s r l) = at0 (seqOf x0 s) r.val l := by
  rw [val_main_v2_apply, val_main_v1_apply, val_main_v0_apply, at0, dif_pos r.isLt]
  show x0 _ = x0 _
  congr 1
  funext a; apply Fin.ext
  match a with
  | ⟨0, _⟩ => show ((s.val * 2048 + r.val) * 768 + l.val) / 768 = 2048 * s.val + r.val; omega
  | ⟨1, _⟩ => show 768 + ((s.val * 2048 + r.val) * 768 + l.val) % 768 = 768 + l.val; omega

/-- The padded sequence inside its padding. -/
theorem v3_inside (s : Fin 8) (p : Fin 2050) (r : Fin 2048) (l : Fin 768) (h : p.val = 1 + r.val) :
    val_main_v3 (F := Ideal) x0 (ix3 s p l) = at0 (seqOf x0 s) r.val l := by
  unfold val_main_v3
  refine (pad_apply_of_inside _ _ _ _ _ _ _ (ix3 s p l) (ix3 s r l) (fun a => ?_)).trans (v2_apply x0 s r l)
  match a with
  | ⟨0, _⟩ => show s.val = 0 + s.val * (0 + 1); omega
  | ⟨1, _⟩ => show p.val = 1 + r.val * (0 + 1); omega
  | ⟨2, _⟩ => show l.val = 0 + l.val * (0 + 1); omega

/-- The padding is zero. -/
theorem v3_outside (s : Fin 8) (p : Fin 2050) (l : Fin 768) (h : p.val = 0 ∨ p.val = 2049) :
    val_main_v3 (F := Ideal) x0 (ix3 s p l) = (0 : EReal) := by
  unfold val_main_v3
  refine (pad_apply_of_not_inside _ _ _ _ _ _ _ (ix3 s p l) (1 : Fin 3) (fun q => ?_)).trans ?_
  · have q1 : 1 ≤ p.val := q.1
    have q2 : (p.val - 1) / (0 + 1) < 2048 := q.2.2
    omega
  · show ((((0#32 : BitVec 32).toInt : ℝ)) : EReal) = 0
    simp

/-- The reference's convolution of a sequence at an index. -/
theorem v27_apply (s : Fin 8) (r : Fin 2048) (l : Fin 768) : val_main_v27 (F := Ideal) x0 x1 x2 (ix3 s r l) = conv (seqOf x0 s) x1 x2 r.val l := by
  have eb : val_main_v12 (F := Ideal) x2 (ix3 s r l) = x2 (ix2 0 l) := by
    rw [val_main_v12_apply, val_main_v11_apply, val_main_v4_apply]
    congr 1; funext a; apply Fin.ext
    match a with
    | ⟨0, _⟩ => rfl
    | ⟨1, _⟩ => show l.val % 768 = l.val; omega
  have e0 : val_main_v9 (F := Ideal) x1 (ix3 s r l) = x1 (ix2 0 l) := by
    rw [val_main_v9_apply, val_main_v8_apply, val_main_v7_apply, val_main_v6_apply]
    congr 1; funext a; apply Fin.ext
    match a with
    | ⟨0, _⟩ => rfl
    | ⟨1, _⟩ => show l.val % 768 = l.val; omega
  have e1 : val_main_v18 (F := Ideal) x1 (ix3 s r l) = x1 (ix2 1 l) := by
    rw [val_main_v18_apply, val_main_v17_apply, val_main_v16_apply, val_main_v15_apply]
    congr 1; funext a; apply Fin.ext
    match a with
    | ⟨0, _⟩ => rfl
    | ⟨1, _⟩ => show l.val % 768 = l.val; omega
  have e2 : val_main_v25 (F := Ideal) x1 (ix3 s r l) = x1 (ix2 2 l) := by
    rw [val_main_v25_apply, val_main_v24_apply, val_main_v23_apply, val_main_v22_apply]
    congr 1; funext a; apply Fin.ext
    match a with
    | ⟨0, _⟩ => rfl
    | ⟨1, _⟩ => show l.val % 768 = l.val; omega
  have p0 : val_main_v5 (F := Ideal) x0 (ix3 s r l) = if r.val = 0 then (0 : EReal) else at0 (seqOf x0 s) (r.val - 1) l := by
    rw [val_main_v5_apply]
    have e : idx_main_v5 (ix3 s r l) = ix3 s ⟨r.val, by omega⟩ l := by
      funext a; match a with | ⟨0, _⟩ => rfl | ⟨1, _⟩ => rfl | ⟨2, _⟩ => rfl
    rw [e]
    by_cases h : r.val = 0
    · rw [if_pos h]; exact v3_outside x0 s _ l (Or.inl h)
    · rw [if_neg h]; exact v3_inside x0 s _ ⟨r.val - 1, by omega⟩ l (by show r.val = 1 + (r.val - 1); omega)
  have p1 : val_main_v14 (F := Ideal) x0 (ix3 s r l) = at0 (seqOf x0 s) r.val l := by
    rw [val_main_v14_apply]
    have e : idx_main_v14 (ix3 s r l) = ix3 s ⟨1 + r.val, by omega⟩ l := by
      funext a; match a with | ⟨0, _⟩ => rfl | ⟨1, _⟩ => rfl | ⟨2, _⟩ => rfl
    rw [e]
    exact v3_inside x0 s _ r l rfl
  have p2 : val_main_v21 (F := Ideal) x0 (ix3 s r l) = at0 (seqOf x0 s) (r.val + 1) l := by
    rw [val_main_v21_apply]
    have e : idx_main_v21 (ix3 s r l) = ix3 s ⟨2 + r.val, by omega⟩ l := by
      funext a; match a with | ⟨0, _⟩ => rfl | ⟨1, _⟩ => rfl | ⟨2, _⟩ => rfl
    rw [e]
    by_cases h : r.val = 2047
    · rw [at0, dif_neg (by omega)]; exact v3_outside x0 s _ l (Or.inr (by show 2 + r.val = 2049; omega))
    · exact v3_inside x0 s _ ⟨r.val + 1, by omega⟩ l (by show 2 + r.val = 1 + (r.val + 1); omega)
  rw [val_main_v27_apply, val_main_v20_apply, val_main_v13_apply, val_main_v10_apply, val_main_v19_apply, val_main_v26_apply, eb, e0, e1, e2, p0, p1, p2]
  rfl

/-- The reference's gated product at an index. -/
theorem v33_apply (s : Fin 8) (r : Fin 2048) (l : Fin 256) (i : Fin 16384) (hi : i.val = 2048 * s.val + r.val) :
    val_main_v33 (F := Ideal) x0 x1 x2 (ix2 i l)
      = (conv (seqOf x0 s) x1 x2 r.val ⟨512 + l.val, by omega⟩ * conv (seqOf x0 s) x1 x2 r.val ⟨256 + l.val, by omega⟩ : EReal) := by
  rw [val_main_v33_apply, val_main_v32_apply]
  have e : idx_main_v32 (ix2 i l) = ix3 s r l := by
    funext a; apply Fin.ext
    match a with
    | ⟨0, _⟩ => show (i.val * 256 + l.val) / 524288 = s.val; omega
    | ⟨1, _⟩ => show (i.val * 256 + l.val) / 256 % 2048 = r.val; omega
    | ⟨2, _⟩ => show (i.val * 256 + l.val) % 256 = l.val; omega
  rw [e, val_main_v31_apply, val_main_v30_apply, val_main_v29_apply]
  have e1 : idx_main_v30 (ix3 s r l) = ix3 s r ⟨512 + l.val, by omega⟩ := by
    funext a; match a with | ⟨0, _⟩ => rfl | ⟨1, _⟩ => rfl | ⟨2, _⟩ => rfl
  have e2 : idx_main_v29 (ix3 s r l) = ix3 s r ⟨256 + l.val, by omega⟩ := by
    funext a; match a with | ⟨0, _⟩ => rfl | ⟨1, _⟩ => rfl | ⟨2, _⟩ => rfl
  rw [e1, e2, v27_apply, v27_apply]
  rfl

/-- The reference's gate at an index. -/
theorem v35_apply (s : Fin 8) (r : Fin 2048) (l : Fin 256) (i : Fin 16384) (hi : i.val = 2048 * s.val + r.val) :
    val_main_v35 (F := Ideal) x0 x1 x2 (ix2 i l) = conv (seqOf x0 s) x1 x2 r.val ⟨l.val, by omega⟩ := by
  rw [val_main_v35_apply, val_main_v34_apply]
  have e : idx_main_v34 (ix2 i l) = ix3 s r l := by
    funext a; apply Fin.ext
    match a with
    | ⟨0, _⟩ => show (i.val * 256 + l.val) / 524288 = s.val; omega
    | ⟨1, _⟩ => show (i.val * 256 + l.val) / 256 % 2048 = r.val; omega
    | ⟨2, _⟩ => show (i.val * 256 + l.val) % 256 = l.val; omega
  rw [e, val_main_v28_apply]
  have e1 : idx_main_v28 (ix3 s r l) = ix3 s r ⟨l.val, by omega⟩ := by
    funext a; match a with | ⟨0, _⟩ => rfl | ⟨1, _⟩ => rfl | ⟨2, _⟩ => rfl
  rw [e1, v27_apply]
  rfl

end Cert.Proof.Conv

end
-- ==== Proof.ConvClaims.lean ====
/- The claims about the short convolution: its runs, and that it computes its reference over the extended reals. -/
module

public import proofs.«01_k».proof.Defs
public import proofs.«01_k».proof.Proof.ConvArr
public import proofs.«01_k».proof.Proof.ConvRef
public import proofs.«01_k».proof.Proof.Gen.Conv.Frame
public import proofs.«01_k».proof.Proof.Gen.ConvRef.Run
public import Idealize.ShloMosaic.Lib.Claim

@[expose] public section

set_option maxRecDepth 16384

noncomputable section

namespace Cert.Proof.Conv

open Idealize.ShloMosaic Idealize.SL.Sem Idealize.ShloMosaic.TcCoe

/-- The kernel runs and leaves its arguments as they were. -/
theorem frame_p : Cert.quiescent_Conv := fun m ρ _ => Cert.Conv.Gen.frame m ρ
/-- The idealized kernel runs and leaves its arguments as they were. -/
theorem frame_pi : Cert.quiescent_ConvIdeal := fun m ρ _ => Cert.ConvIdeal.Gen.frame m ρ
/-- The idealized reference runs and leaves its arguments as they were. -/
theorem frame_ri : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)
/-- The reference runs and leaves its arguments as they were. -/
theorem frame_r : Cert.quiescent_ConvRef := fun m ρ _ =>
  (θ_run Cert.ConvRef.defs _ _).mono (fun r h => ⟨fun c => (h c).2.2, sem_eq_zero_of_no_sems (by decide) r.2⟩)
    (Cert.ConvRef.Value.run (F := Bits) m ρ)

/-- The reference's first result is its gated product at the arguments. -/
theorem run_u (m : (ℓ : Loc Cert.ConvRefIdeal.nD Cert.ConvRefIdeal.τ Cert.ConvRefIdeal.sig) → Buf (Elt Ideal) ℓ) (c : Dev Cert.ConvRefIdeal.nD) :
    Cert.ConvRefIdeal.Value.res_out0 m c = Cert.ConvRefIdeal.Read.val_main_v33 (F := Ideal) (m (c, Cert.ConvRefIdeal.main_arg0)) (m (c, Cert.ConvRefIdeal.main_arg1)) (m (c, Cert.ConvRefIdeal.main_arg2)) :=
  Cert.ConvRefIdeal.Read.val_main_v33_eq m c

/-- An index of a result is a sequence's row and a column. -/
theorem split (y : Cert.ConvIdeal.S16384x256.Idx) :
    ∃ (s : Fin 8) (r : Fin 2048) (l : Fin 256) (i : Fin 16384), y = ix2 i l ∧ i.val = 2048 * s.val + r.val := by
  have h : (y 0).val < 16384 := (y 0).isLt
  exact ⟨⟨(y 0).val / 2048, by omega⟩, ⟨(y 0).val % 2048, by omega⟩, y 1, y 0, by funext a; match a with | ⟨0, _⟩ => rfl | ⟨1, _⟩ => rfl,
    by show (y 0).val = 2048 * ((y 0).val / 2048) + (y 0).val % 2048; omega⟩

/-- The kernel and its reference leave the same two arrays, over all arguments. -/
theorem algebraic : Cert.algebraic_ConvIdeal_ConvRefIdeal := by
  intro m ρ m' ρ' _ hagree
  refine ⟨_, _, Cert.ConvIdeal.Value.run_blocks (F := Ideal) m ρ, ?_⟩
  refine (θ_run Cert.ConvRefIdeal.defs _ _).mono (fun r h c => ⟨(h c).1.trans ?_, (h c).2.1.trans ?_, (h c).2.2⟩) (Cert.ConvRefIdeal.Value.run (F := Ideal) m' ρ')
  · obtain ⟨a0, a1, a2⟩ := hagree c
    have b0 : m' (c, Cert.ConvRefIdeal.main_arg0) = m (c, Cert.ConvIdeal.main_arg0) := a0
    have b1 : m' (c, Cert.ConvRefIdeal.main_arg1) = m (c, Cert.ConvIdeal.main_arg1) := a1
    have b2 : m' (c, Cert.ConvRefIdeal.main_arg2) = m (c, Cert.ConvIdeal.main_arg2) := a2
    refine (run_u m' c).trans ?_
    rw [b0, b1, b2]
    funext y
    obtain ⟨s, r, l, i, rfl, hi⟩ := split y
    exact (v33_apply _ _ _ s r l i hi).trans (arr3_apply m c s r l i hi).symm
  · obtain ⟨a0, a1, a2⟩ := hagree c
    have b0 : m' (c, Cert.ConvRefIdeal.main_arg0) = m (c, Cert.ConvIdeal.main_arg0) := a0
    have b1 : m' (c, Cert.ConvRefIdeal.main_arg1) = m (c, Cert.ConvIdeal.main_arg1) := a1
    have b2 : m' (c, Cert.ConvRefIdeal.main_arg2) = m (c, Cert.ConvIdeal.main_arg2) := a2
    refine (Cert.ConvRefIdeal.Read.val_main_v35_eq (F := Ideal) (m' (c, Cert.ConvRefIdeal.main_arg0)) (m' (c, Cert.ConvRefIdeal.main_arg1)) (m' (c, Cert.ConvRefIdeal.main_arg2))).trans ?_
    rw [b0, b1, b2]
    funext y
    obtain ⟨s, r, l, i, rfl, hi⟩ := split y
    exact (v35_apply _ _ _ s r l i hi).trans (arr4_apply m c s r l i hi).symm

end Cert.Proof.Conv

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRef
public import proofs.«01_k».proof.Proof.Gen.Pre_attn_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.AttnRef.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.InProjRef
public import proofs.«01_k».proof.Proof.Gen.InProjRef.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.OutProjRef
public import proofs.«01_k».proof.Proof.Gen.OutProjRef.Run
public import proofs.«01_k».proof.Proof.Gen.Experts
public import proofs.«01_k».proof.Proof.Gen.Experts.Skeleton
public import proofs.«01_k».proof.Proof.Gen.Experts.Loops
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.ExpertsRef
public import proofs.«01_k».proof.Proof.Gen.ExpertsRef.Run
public import proofs.«01_k».proof.Proof.Gen.Pre_experts_in_range
public import proofs.«01_k».proof.Proof.Gen.Combine
public import proofs.«01_k».proof.Proof.Gen.Combine.Skeleton
public import proofs.«01_k».proof.Proof.Gen.Combine.Loops
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Loops
public import proofs.«01_k».proof.Proof.Gen.CombineIdeal.Launch
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.CombineRef
public import proofs.«01_k».proof.Proof.Gen.CombineRef.Run
public import proofs.«01_k».proof.Proof.Gen.Pre_combine_in_range
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRef
public import proofs.«01_k».proof.Proof.Gen.ConvIdeal.Value
public import proofs.«01_k».proof.Proof.Gen.ConvRef.Run
public import proofs.«01_k».proof.Proof.Gen.ConvRefIdeal.Run
public import proofs.«01_k».proof.Proof.Gen.ConvRefIdeal.Read
public import proofs.«01_k».proof.Proof.AttnClaims
public import proofs.«01_k».proof.Proof.InClaims
public import proofs.«01_k».proof.Proof.OutClaims
public import proofs.«01_k».proof.Proof.ExpClaims
public import proofs.«01_k».proof.Proof.CmbClaims
public import proofs.«01_k».proof.Proof.WinClaims
public import proofs.«01_k».proof.Proof.ConvClaims
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Attn.Gen.facts, Cert.AttnIdeal.Gen.facts, Cert.AttnRefIdeal.Gen.facts, Cert.AttnRef.Gen.facts,
  Cert.InProj.Gen.facts, Cert.InProjIdeal.Gen.facts, Cert.InProjRefIdeal.Gen.facts, Cert.InProjRef.Gen.facts,
  Cert.OutProj.Gen.facts, Cert.OutProjIdeal.Gen.facts, Cert.OutProjRefIdeal.Gen.facts, Cert.OutProjRef.Gen.facts,
  Cert.Experts.Gen.facts, Cert.ExpertsIdeal.Gen.facts, Cert.ExpertsRefIdeal.Gen.facts, Cert.ExpertsRef.Gen.facts,
  Cert.Combine.Gen.facts, Cert.CombineIdeal.Gen.facts, Cert.CombineRefIdeal.Gen.facts, Cert.CombineRef.Gen.facts,
  Cert.Win.Gen.facts, Cert.WinIdeal.Gen.facts, Cert.WinRefIdeal.Gen.facts, Cert.WinRef.Gen.facts,
  Cert.Conv.Gen.facts, Cert.ConvIdeal.Gen.facts, Cert.ConvRefIdeal.Gen.facts, Cert.ConvRef.Gen.facts,
  Cert.Pre_attn_finite.Gen.facts, Cert.Pre_experts_in_range.Gen.facts, Cert.Pre_combine_in_range.Gen.facts, Cert.Pre_win_finite.Gen.facts,
  Attn.frame_p, Attn.frame_pi, Attn.frame_pi_pre, Attn.frame_ri, Attn.frame_ri_pre, Attn.frame_r,
  In.frame_p, In.frame_pi, In.frame_ri, In.frame_r,
  Out.frame_p, Out.frame_pi, Out.frame_ri, Out.frame_r,
  Exp.frame_p, Exp.frame_pi, Exp.frame_ri, Exp.frame_ri_pre, Exp.frame_r,
  Cmb.frame_p, Cmb.frame_pi, Cmb.frame_ri, Cmb.frame_ri_pre, Cmb.frame_r,
  Win.frame_p, Win.frame_pi, Win.frame_pi_pre, Win.frame_ri, Win.frame_ri_pre, Win.frame_r,
  Conv.frame_p, Conv.frame_pi, Conv.frame_ri, Conv.frame_r,
  trivial, trivial, Attn.algebraic, trivial, trivial, In.algebraic, trivial, trivial, Out.algebraic,
  trivial, trivial, Exp.algebraic,
  trivial, trivial, Cmb.algebraic,
  trivial, trivial, Win.algebraic,
  trivial, trivial, Conv.algebraic⟩

end Cert.Proof

end
